-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_SConv (m : (ℓ : Loc Cert.SConv.nD Cert.SConv.τ Cert.SConv.sig) → Buf (Elt Bits) ℓ) : Prop :=
  True

def Pre_SConvIdeal (m : (ℓ : Loc Cert.SConvIdeal.nD Cert.SConvIdeal.τ Cert.SConvIdeal.sig) → Buf (Elt Ideal) ℓ) : Prop :=
  True

def Pre_SConvRefIdeal (m : (ℓ : Loc Cert.SConvRefIdeal.nD Cert.SConvRefIdeal.τ Cert.SConvRefIdeal.sig) → Buf (Elt Ideal) ℓ) : Prop :=
  True

def Pre_FoxBwd (m : (ℓ : Loc Cert.FoxBwd.nD Cert.FoxBwd.τ Cert.FoxBwd.sig) → Buf (Elt Bits) ℓ) : Prop :=
  True

def Pre_FoxBwdIdeal (m : (ℓ : Loc Cert.FoxBwdIdeal.nD Cert.FoxBwdIdeal.τ Cert.FoxBwdIdeal.sig) → Buf (Elt Ideal) ℓ) : Prop :=
  True

def Pre_FoxBwdIdeal_finite_fox [hPre_finite_fox : Cert.Pre_finite_fox.Facts] (m : (ℓ : Loc Cert.FoxBwdIdeal.nD Cert.FoxBwdIdeal.τ Cert.FoxBwdIdeal.sig) → Buf (Elt Ideal) ℓ) : Prop :=
  ∀ c : Dev Cert.FoxBwdIdeal.nD,
    (Cert.Pre_finite_fox.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4)) (m ((c.tc : Thread Cert.FoxBwdIdeal.nD Cert.FoxBwdIdeal.τ).loc Cert.FoxBwdIdeal.main_arg5))).1 = (fun _ => 1#1)
    ∧ (Cert.Pre_finite_fox.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4)) (m ((c.tc : Thread Cert.FoxBwdIdeal.nD Cert.FoxBwdIdeal.τ).loc Cert.FoxBwdIdeal.main_arg5))).2.1 = (fun _ => 1#1)
    ∧ (Cert.Pre_finite_fox.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4)) (m ((c.tc : Thread Cert.FoxBwdIdeal.nD Cert.FoxBwdIdeal.τ).loc Cert.FoxBwdIdeal.main_arg5))).2.2.1 = (fun _ => 1#1)
    ∧ (Cert.Pre_finite_fox.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4)) (m ((c.tc : Thread Cert.FoxBwdIdeal.nD Cert.FoxBwdIdeal.τ).loc Cert.FoxBwdIdeal.main_arg5))).2.2.2.1 = (fun _ => 1#1)
    ∧ (Cert.Pre_finite_fox.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4)) (m ((c.tc : Thread Cert.FoxBwdIdeal.nD Cert.FoxBwdIdeal.τ).loc Cert.FoxBwdIdeal.main_arg5))).2.2.2.2.1 = (fun _ => 1#1)
    ∧ (Cert.Pre_finite_fox.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4)) (m ((c.tc : Thread Cert.FoxBwdIdeal.nD Cert.FoxBwdIdeal.τ).loc Cert.FoxBwdIdeal.main_arg5))).2.2.2.2.2 = (fun _ => 1#1)

def Pre_FoxBwdRefIdeal (m : (ℓ : Loc Cert.FoxBwdRefIdeal.nD Cert.FoxBwdRefIdeal.τ Cert.FoxBwdRefIdeal.sig) → Buf (Elt Ideal) ℓ) : Prop :=
  True

def Pre_FoxBwdRefIdeal_finite_fox [hPre_finite_fox : Cert.Pre_finite_fox.Facts] (m : (ℓ : Loc Cert.FoxBwdRefIdeal.nD Cert.FoxBwdRefIdeal.τ Cert.FoxBwdRefIdeal.sig) → Buf (Elt Ideal) ℓ) : Prop :=
  ∀ c : Dev Cert.FoxBwdRefIdeal.nD,
    (Cert.Pre_finite_fox.fn (F := Ideal) (m ((c.tc : Thread Cert.FoxBwdRefIdeal.nD Cert.FoxBwdRefIdeal.τ).loc Cert.FoxBwdRefIdeal.main_arg0)) (m ((c.tc : Thread Cert.FoxBwdRefIdeal.nD Cert.FoxBwdRefIdeal.τ).loc Cert.FoxBwdRefIdeal.main_arg1)) (m ((c.tc : Thread Cert.FoxBwdRefIdeal.nD Cert.FoxBwdRefIdeal.τ).loc Cert.FoxBwdRefIdeal.main_arg2)) (m ((c.tc : Thread Cert.FoxBwdRefIdeal.nD Cert.FoxBwdRefIdeal.τ).loc Cert.FoxBwdRefIdeal.main_arg3)) (m ((c.tc : Thread Cert.FoxBwdRefIdeal.nD Cert.FoxBwdRefIdeal.τ).loc Cert.FoxBwdRefIdeal.main_arg4)) (m ((c.tc : Thread Cert.FoxBwdRefIdeal.nD Cert.FoxBwdRefIdeal.τ).loc Cert.FoxBwdRefIdeal.main_arg5))).1 = (fun _ => 1#1)
    ∧ (Cert.Pre_finite_fox.fn (F := Ideal) (m ((c.tc : Thread Cert.FoxBwdRefIdeal.nD Cert.FoxBwdRefIdeal.τ).loc Cert.FoxBwdRefIdeal.main_arg0)) (m ((c.tc : Thread Cert.FoxBwdRefIdeal.nD Cert.FoxBwdRefIdeal.τ).loc Cert.FoxBwdRefIdeal.main_arg1)) (m ((c.tc : Thread Cert.FoxBwdRefIdeal.nD Cert.FoxBwdRefIdeal.τ).loc Cert.FoxBwdRefIdeal.main_arg2)) (m ((c.tc : Thread Cert.FoxBwdRefIdeal.nD Cert.FoxBwdRefIdeal.τ).loc Cert.FoxBwdRefIdeal.main_arg3)) (m ((c.tc : Thread Cert.FoxBwdRefIdeal.nD Cert.FoxBwdRefIdeal.τ).loc Cert.FoxBwdRefIdeal.main_arg4)) (m ((c.tc : Thread Cert.FoxBwdRefIdeal.nD Cert.FoxBwdRefIdeal.τ).loc Cert.FoxBwdRefIdeal.main_arg5))).2.1 = (fun _ => 1#1)
    ∧ (Cert.Pre_finite_fox.fn (F := Ideal) (m ((c.tc : Thread Cert.FoxBwdRefIdeal.nD Cert.FoxBwdRefIdeal.τ).loc Cert.FoxBwdRefIdeal.main_arg0)) (m ((c.tc : Thread Cert.FoxBwdRefIdeal.nD Cert.FoxBwdRefIdeal.τ).loc Cert.FoxBwdRefIdeal.main_arg1)) (m ((c.tc : Thread Cert.FoxBwdRefIdeal.nD Cert.FoxBwdRefIdeal.τ).loc Cert.FoxBwdRefIdeal.main_arg2)) (m ((c.tc : Thread Cert.FoxBwdRefIdeal.nD Cert.FoxBwdRefIdeal.τ).loc Cert.FoxBwdRefIdeal.main_arg3)) (m ((c.tc : Thread Cert.FoxBwdRefIdeal.nD Cert.FoxBwdRefIdeal.τ).loc Cert.FoxBwdRefIdeal.main_arg4)) (m ((c.tc : Thread Cert.FoxBwdRefIdeal.nD Cert.FoxBwdRefIdeal.τ).loc Cert.FoxBwdRefIdeal.main_arg5))).2.2.1 = (fun _ => 1#1)
    ∧ (Cert.Pre_finite_fox.fn (F := Ideal) (m ((c.tc : Thread Cert.FoxBwdRefIdeal.nD Cert.FoxBwdRefIdeal.τ).loc Cert.FoxBwdRefIdeal.main_arg0)) (m ((c.tc : Thread Cert.FoxBwdRefIdeal.nD Cert.FoxBwdRefIdeal.τ).loc Cert.FoxBwdRefIdeal.main_arg1)) (m ((c.tc : Thread Cert.FoxBwdRefIdeal.nD Cert.FoxBwdRefIdeal.τ).loc Cert.FoxBwdRefIdeal.main_arg2)) (m ((c.tc : Thread Cert.FoxBwdRefIdeal.nD Cert.FoxBwdRefIdeal.τ).loc Cert.FoxBwdRefIdeal.main_arg3)) (m ((c.tc : Thread Cert.FoxBwdRefIdeal.nD Cert.FoxBwdRefIdeal.τ).loc Cert.FoxBwdRefIdeal.main_arg4)) (m ((c.tc : Thread Cert.FoxBwdRefIdeal.nD Cert.FoxBwdRefIdeal.τ).loc Cert.FoxBwdRefIdeal.main_arg5))).2.2.2.1 = (fun _ => 1#1)
    ∧ (Cert.Pre_finite_fox.fn (F := Ideal) (m ((c.tc : Thread Cert.FoxBwdRefIdeal.nD Cert.FoxBwdRefIdeal.τ).loc Cert.FoxBwdRefIdeal.main_arg0)) (m ((c.tc : Thread Cert.FoxBwdRefIdeal.nD Cert.FoxBwdRefIdeal.τ).loc Cert.FoxBwdRefIdeal.main_arg1)) (m ((c.tc : Thread Cert.FoxBwdRefIdeal.nD Cert.FoxBwdRefIdeal.τ).loc Cert.FoxBwdRefIdeal.main_arg2)) (m ((c.tc : Thread Cert.FoxBwdRefIdeal.nD Cert.FoxBwdRefIdeal.τ).loc Cert.FoxBwdRefIdeal.main_arg3)) (m ((c.tc : Thread Cert.FoxBwdRefIdeal.nD Cert.FoxBwdRefIdeal.τ).loc Cert.FoxBwdRefIdeal.main_arg4)) (m ((c.tc : Thread Cert.FoxBwdRefIdeal.nD Cert.FoxBwdRefIdeal.τ).loc Cert.FoxBwdRefIdeal.main_arg5))).2.2.2.2.1 = (fun _ => 1#1)
    ∧ (Cert.Pre_finite_fox.fn (F := Ideal) (m ((c.tc : Thread Cert.FoxBwdRefIdeal.nD Cert.FoxBwdRefIdeal.τ).loc Cert.FoxBwdRefIdeal.main_arg0)) (m ((c.tc : Thread Cert.FoxBwdRefIdeal.nD Cert.FoxBwdRefIdeal.τ).loc Cert.FoxBwdRefIdeal.main_arg1)) (m ((c.tc : Thread Cert.FoxBwdRefIdeal.nD Cert.FoxBwdRefIdeal.τ).loc Cert.FoxBwdRefIdeal.main_arg2)) (m ((c.tc : Thread Cert.FoxBwdRefIdeal.nD Cert.FoxBwdRefIdeal.τ).loc Cert.FoxBwdRefIdeal.main_arg3)) (m ((c.tc : Thread Cert.FoxBwdRefIdeal.nD Cert.FoxBwdRefIdeal.τ).loc Cert.FoxBwdRefIdeal.main_arg4)) (m ((c.tc : Thread Cert.FoxBwdRefIdeal.nD Cert.FoxBwdRefIdeal.τ).loc Cert.FoxBwdRefIdeal.main_arg5))).2.2.2.2.2 = (fun _ => 1#1)

def Pre_FoxPost (m : (ℓ : Loc Cert.FoxPost.nD Cert.FoxPost.τ Cert.FoxPost.sig) → Buf (Elt Bits) ℓ) : Prop :=
  True

def Pre_FoxPostIdeal (m : (ℓ : Loc Cert.FoxPostIdeal.nD Cert.FoxPostIdeal.τ Cert.FoxPostIdeal.sig) → Buf (Elt Ideal) ℓ) : Prop :=
  True

def Pre_FoxPostIdeal_finite_foxpost [hPre_finite_foxpost : Cert.Pre_finite_foxpost.Facts] (m : (ℓ : Loc Cert.FoxPostIdeal.nD Cert.FoxPostIdeal.τ Cert.FoxPostIdeal.sig) → Buf (Elt Ideal) ℓ) : Prop :=
  ∀ c : Dev Cert.FoxPostIdeal.nD,
    (Cert.Pre_finite_foxpost.fn (F := Ideal) (m ((c.tc : Thread Cert.FoxPostIdeal.nD Cert.FoxPostIdeal.τ).loc Cert.FoxPostIdeal.main_arg0)) (m ((c.tc : Thread Cert.FoxPostIdeal.nD Cert.FoxPostIdeal.τ).loc Cert.FoxPostIdeal.main_arg1)) (m ((c.tc : Thread Cert.FoxPostIdeal.nD Cert.FoxPostIdeal.τ).loc Cert.FoxPostIdeal.main_arg2)) (m ((c.tc : Thread Cert.FoxPostIdeal.nD Cert.FoxPostIdeal.τ).loc Cert.FoxPostIdeal.main_arg3))).1 = (fun _ => 1#1)
    ∧ (Cert.Pre_finite_foxpost.fn (F := Ideal) (m ((c.tc : Thread Cert.FoxPostIdeal.nD Cert.FoxPostIdeal.τ).loc Cert.FoxPostIdeal.main_arg0)) (m ((c.tc : Thread Cert.FoxPostIdeal.nD Cert.FoxPostIdeal.τ).loc Cert.FoxPostIdeal.main_arg1)) (m ((c.tc : Thread Cert.FoxPostIdeal.nD Cert.FoxPostIdeal.τ).loc Cert.FoxPostIdeal.main_arg2)) (m ((c.tc : Thread Cert.FoxPostIdeal.nD Cert.FoxPostIdeal.τ).loc Cert.FoxPostIdeal.main_arg3))).2 = (fun _ => 1#1)

def Pre_FoxPostRefIdeal (m : (ℓ : Loc Cert.FoxPostRefIdeal.nD Cert.FoxPostRefIdeal.τ Cert.FoxPostRefIdeal.sig) → Buf (Elt Ideal) ℓ) : Prop :=
  True

def Pre_FoxPostRefIdeal_finite_foxpost [hPre_finite_foxpost : Cert.Pre_finite_foxpost.Facts] (m : (ℓ : Loc Cert.FoxPostRefIdeal.nD Cert.FoxPostRefIdeal.τ Cert.FoxPostRefIdeal.sig) → Buf (Elt Ideal) ℓ) : Prop :=
  ∀ c : Dev Cert.FoxPostRefIdeal.nD,
    (Cert.Pre_finite_foxpost.fn (F := Ideal) (m ((c.tc : Thread Cert.FoxPostRefIdeal.nD Cert.FoxPostRefIdeal.τ).loc Cert.FoxPostRefIdeal.main_arg0)) (m ((c.tc : Thread Cert.FoxPostRefIdeal.nD Cert.FoxPostRefIdeal.τ).loc Cert.FoxPostRefIdeal.main_arg1)) (m ((c.tc : Thread Cert.FoxPostRefIdeal.nD Cert.FoxPostRefIdeal.τ).loc Cert.FoxPostRefIdeal.main_arg2)) (m ((c.tc : Thread Cert.FoxPostRefIdeal.nD Cert.FoxPostRefIdeal.τ).loc Cert.FoxPostRefIdeal.main_arg3))).1 = (fun _ => 1#1)
    ∧ (Cert.Pre_finite_foxpost.fn (F := Ideal) (m ((c.tc : Thread Cert.FoxPostRefIdeal.nD Cert.FoxPostRefIdeal.τ).loc Cert.FoxPostRefIdeal.main_arg0)) (m ((c.tc : Thread Cert.FoxPostRefIdeal.nD Cert.FoxPostRefIdeal.τ).loc Cert.FoxPostRefIdeal.main_arg1)) (m ((c.tc : Thread Cert.FoxPostRefIdeal.nD Cert.FoxPostRefIdeal.τ).loc Cert.FoxPostRefIdeal.main_arg2)) (m ((c.tc : Thread Cert.FoxPostRefIdeal.nD Cert.FoxPostRefIdeal.τ).loc Cert.FoxPostRefIdeal.main_arg3))).2 = (fun _ => 1#1)

def Pre_MlpB (m : (ℓ : Loc Cert.MlpB.nD Cert.MlpB.τ Cert.MlpB.sig) → Buf (Elt Bits) ℓ) : Prop :=
  True

def Pre_MlpBIdeal (m : (ℓ : Loc Cert.MlpBIdeal.nD Cert.MlpBIdeal.τ Cert.MlpBIdeal.sig) → Buf (Elt Ideal) ℓ) : Prop :=
  True

def Pre_MlpBIdeal_finite_mlpb [hPre_finite_mlpb : Cert.Pre_finite_mlpb.Facts] (m : (ℓ : Loc Cert.MlpBIdeal.nD Cert.MlpBIdeal.τ Cert.MlpBIdeal.sig) → Buf (Elt Ideal) ℓ) : Prop :=
  ∀ c : Dev Cert.MlpBIdeal.nD,
    (Cert.Pre_finite_mlpb.fn (F := Ideal) (m ((c.tc : Thread Cert.MlpBIdeal.nD Cert.MlpBIdeal.τ).loc Cert.MlpBIdeal.main_arg0)) (m ((c.tc : Thread Cert.MlpBIdeal.nD Cert.MlpBIdeal.τ).loc Cert.MlpBIdeal.main_arg1)) (m ((c.tc : Thread Cert.MlpBIdeal.nD Cert.MlpBIdeal.τ).loc Cert.MlpBIdeal.main_arg2)) (m ((c.tc : Thread Cert.MlpBIdeal.nD Cert.MlpBIdeal.τ).loc Cert.MlpBIdeal.main_arg3)) (m ((c.tc : Thread Cert.MlpBIdeal.nD Cert.MlpBIdeal.τ).loc Cert.MlpBIdeal.main_arg4))).1 = (fun _ => 1#1)
    ∧ (Cert.Pre_finite_mlpb.fn (F := Ideal) (m ((c.tc : Thread Cert.MlpBIdeal.nD Cert.MlpBIdeal.τ).loc Cert.MlpBIdeal.main_arg0)) (m ((c.tc : Thread Cert.MlpBIdeal.nD Cert.MlpBIdeal.τ).loc Cert.MlpBIdeal.main_arg1)) (m ((c.tc : Thread Cert.MlpBIdeal.nD Cert.MlpBIdeal.τ).loc Cert.MlpBIdeal.main_arg2)) (m ((c.tc : Thread Cert.MlpBIdeal.nD Cert.MlpBIdeal.τ).loc Cert.MlpBIdeal.main_arg3)) (m ((c.tc : Thread Cert.MlpBIdeal.nD Cert.MlpBIdeal.τ).loc Cert.MlpBIdeal.main_arg4))).2.1 = (fun _ => 1#1)
    ∧ (Cert.Pre_finite_mlpb.fn (F := Ideal) (m ((c.tc : Thread Cert.MlpBIdeal.nD Cert.MlpBIdeal.τ).loc Cert.MlpBIdeal.main_arg0)) (m ((c.tc : Thread Cert.MlpBIdeal.nD Cert.MlpBIdeal.τ).loc Cert.MlpBIdeal.main_arg1)) (m ((c.tc : Thread Cert.MlpBIdeal.nD Cert.MlpBIdeal.τ).loc Cert.MlpBIdeal.main_arg2)) (m ((c.tc : Thread Cert.MlpBIdeal.nD Cert.MlpBIdeal.τ).loc Cert.MlpBIdeal.main_arg3)) (m ((c.tc : Thread Cert.MlpBIdeal.nD Cert.MlpBIdeal.τ).loc Cert.MlpBIdeal.main_arg4))).2.2.1 = (fun _ => 1#1)
    ∧ (Cert.Pre_finite_mlpb.fn (F := Ideal) (m ((c.tc : Thread Cert.MlpBIdeal.nD Cert.MlpBIdeal.τ).loc Cert.MlpBIdeal.main_arg0)) (m ((c.tc : Thread Cert.MlpBIdeal.nD Cert.MlpBIdeal.τ).loc Cert.MlpBIdeal.main_arg1)) (m ((c.tc : Thread Cert.MlpBIdeal.nD Cert.MlpBIdeal.τ).loc Cert.MlpBIdeal.main_arg2)) (m ((c.tc : Thread Cert.MlpBIdeal.nD Cert.MlpBIdeal.τ).loc Cert.MlpBIdeal.main_arg3)) (m ((c.tc : Thread Cert.MlpBIdeal.nD Cert.MlpBIdeal.τ).loc Cert.MlpBIdeal.main_arg4))).2.2.2 = (fun _ => 1#1)

def Pre_MlpBRefIdeal (m : (ℓ : Loc Cert.MlpBRefIdeal.nD Cert.MlpBRefIdeal.τ Cert.MlpBRefIdeal.sig) → Buf (Elt Ideal) ℓ) : Prop :=
  True

def Pre_MlpBRefIdeal_finite_mlpb [hPre_finite_mlpb : Cert.Pre_finite_mlpb.Facts] (m : (ℓ : Loc Cert.MlpBRefIdeal.nD Cert.MlpBRefIdeal.τ Cert.MlpBRefIdeal.sig) → Buf (Elt Ideal) ℓ) : Prop :=
  ∀ c : Dev Cert.MlpBRefIdeal.nD,
    (Cert.Pre_finite_mlpb.fn (F := Ideal) (m ((c.tc : Thread Cert.MlpBRefIdeal.nD Cert.MlpBRefIdeal.τ).loc Cert.MlpBRefIdeal.main_arg0)) (m ((c.tc : Thread Cert.MlpBRefIdeal.nD Cert.MlpBRefIdeal.τ).loc Cert.MlpBRefIdeal.main_arg1)) (m ((c.tc : Thread Cert.MlpBRefIdeal.nD Cert.MlpBRefIdeal.τ).loc Cert.MlpBRefIdeal.main_arg2)) (m ((c.tc : Thread Cert.MlpBRefIdeal.nD Cert.MlpBRefIdeal.τ).loc Cert.MlpBRefIdeal.main_arg3)) (m ((c.tc : Thread Cert.MlpBRefIdeal.nD Cert.MlpBRefIdeal.τ).loc Cert.MlpBRefIdeal.main_arg4))).1 = (fun _ => 1#1)
    ∧ (Cert.Pre_finite_mlpb.fn (F := Ideal) (m ((c.tc : Thread Cert.MlpBRefIdeal.nD Cert.MlpBRefIdeal.τ).loc Cert.MlpBRefIdeal.main_arg0)) (m ((c.tc : Thread Cert.MlpBRefIdeal.nD Cert.MlpBRefIdeal.τ).loc Cert.MlpBRefIdeal.main_arg1)) (m ((c.tc : Thread Cert.MlpBRefIdeal.nD Cert.MlpBRefIdeal.τ).loc Cert.MlpBRefIdeal.main_arg2)) (m ((c.tc : Thread Cert.MlpBRefIdeal.nD Cert.MlpBRefIdeal.τ).loc Cert.MlpBRefIdeal.main_arg3)) (m ((c.tc : Thread Cert.MlpBRefIdeal.nD Cert.MlpBRefIdeal.τ).loc Cert.MlpBRefIdeal.main_arg4))).2.1 = (fun _ => 1#1)
    ∧ (Cert.Pre_finite_mlpb.fn (F := Ideal) (m ((c.tc : Thread Cert.MlpBRefIdeal.nD Cert.MlpBRefIdeal.τ).loc Cert.MlpBRefIdeal.main_arg0)) (m ((c.tc : Thread Cert.MlpBRefIdeal.nD Cert.MlpBRefIdeal.τ).loc Cert.MlpBRefIdeal.main_arg1)) (m ((c.tc : Thread Cert.MlpBRefIdeal.nD Cert.MlpBRefIdeal.τ).loc Cert.MlpBRefIdeal.main_arg2)) (m ((c.tc : Thread Cert.MlpBRefIdeal.nD Cert.MlpBRefIdeal.τ).loc Cert.MlpBRefIdeal.main_arg3)) (m ((c.tc : Thread Cert.MlpBRefIdeal.nD Cert.MlpBRefIdeal.τ).loc Cert.MlpBRefIdeal.main_arg4))).2.2.1 = (fun _ => 1#1)
    ∧ (Cert.Pre_finite_mlpb.fn (F := Ideal) (m ((c.tc : Thread Cert.MlpBRefIdeal.nD Cert.MlpBRefIdeal.τ).loc Cert.MlpBRefIdeal.main_arg0)) (m ((c.tc : Thread Cert.MlpBRefIdeal.nD Cert.MlpBRefIdeal.τ).loc Cert.MlpBRefIdeal.main_arg1)) (m ((c.tc : Thread Cert.MlpBRefIdeal.nD Cert.MlpBRefIdeal.τ).loc Cert.MlpBRefIdeal.main_arg2)) (m ((c.tc : Thread Cert.MlpBRefIdeal.nD Cert.MlpBRefIdeal.τ).loc Cert.MlpBRefIdeal.main_arg3)) (m ((c.tc : Thread Cert.MlpBRefIdeal.nD Cert.MlpBRefIdeal.τ).loc Cert.MlpBRefIdeal.main_arg4))).2.2.2 = (fun _ => 1#1)

def Pre_MlpA (m : (ℓ : Loc Cert.MlpA.nD Cert.MlpA.τ Cert.MlpA.sig) → Buf (Elt Bits) ℓ) : Prop :=
  True

def Pre_MlpAIdeal (m : (ℓ : Loc Cert.MlpAIdeal.nD Cert.MlpAIdeal.τ Cert.MlpAIdeal.sig) → Buf (Elt Ideal) ℓ) : Prop :=
  True

def Pre_MlpAIdeal_finite_mlpa [hPre_finite_mlpa : Cert.Pre_finite_mlpa.Facts] (m : (ℓ : Loc Cert.MlpAIdeal.nD Cert.MlpAIdeal.τ Cert.MlpAIdeal.sig) → Buf (Elt Ideal) ℓ) : Prop :=
  ∀ c : Dev Cert.MlpAIdeal.nD,
    (Cert.Pre_finite_mlpa.fn (F := Ideal) (m ((c.tc : Thread Cert.MlpAIdeal.nD Cert.MlpAIdeal.τ).loc Cert.MlpAIdeal.main_arg0)) (m ((c.tc : Thread Cert.MlpAIdeal.nD Cert.MlpAIdeal.τ).loc Cert.MlpAIdeal.main_arg1)) (m ((c.tc : Thread Cert.MlpAIdeal.nD Cert.MlpAIdeal.τ).loc Cert.MlpAIdeal.main_arg2)) (m ((c.tc : Thread Cert.MlpAIdeal.nD Cert.MlpAIdeal.τ).loc Cert.MlpAIdeal.main_arg3))).1 = (fun _ => 1#1)
    ∧ (Cert.Pre_finite_mlpa.fn (F := Ideal) (m ((c.tc : Thread Cert.MlpAIdeal.nD Cert.MlpAIdeal.τ).loc Cert.MlpAIdeal.main_arg0)) (m ((c.tc : Thread Cert.MlpAIdeal.nD Cert.MlpAIdeal.τ).loc Cert.MlpAIdeal.main_arg1)) (m ((c.tc : Thread Cert.MlpAIdeal.nD Cert.MlpAIdeal.τ).loc Cert.MlpAIdeal.main_arg2)) (m ((c.tc : Thread Cert.MlpAIdeal.nD Cert.MlpAIdeal.τ).loc Cert.MlpAIdeal.main_arg3))).2.1 = (fun _ => 1#1)
    ∧ (Cert.Pre_finite_mlpa.fn (F := Ideal) (m ((c.tc : Thread Cert.MlpAIdeal.nD Cert.MlpAIdeal.τ).loc Cert.MlpAIdeal.main_arg0)) (m ((c.tc : Thread Cert.MlpAIdeal.nD Cert.MlpAIdeal.τ).loc Cert.MlpAIdeal.main_arg1)) (m ((c.tc : Thread Cert.MlpAIdeal.nD Cert.MlpAIdeal.τ).loc Cert.MlpAIdeal.main_arg2)) (m ((c.tc : Thread Cert.MlpAIdeal.nD Cert.MlpAIdeal.τ).loc Cert.MlpAIdeal.main_arg3))).2.2.1 = (fun _ => 1#1)
    ∧ (Cert.Pre_finite_mlpa.fn (F := Ideal) (m ((c.tc : Thread Cert.MlpAIdeal.nD Cert.MlpAIdeal.τ).loc Cert.MlpAIdeal.main_arg0)) (m ((c.tc : Thread Cert.MlpAIdeal.nD Cert.MlpAIdeal.τ).loc Cert.MlpAIdeal.main_arg1)) (m ((c.tc : Thread Cert.MlpAIdeal.nD Cert.MlpAIdeal.τ).loc Cert.MlpAIdeal.main_arg2)) (m ((c.tc : Thread Cert.MlpAIdeal.nD Cert.MlpAIdeal.τ).loc Cert.MlpAIdeal.main_arg3))).2.2.2 = (fun _ => 1#1)

def Pre_MlpARefIdeal (m : (ℓ : Loc Cert.MlpARefIdeal.nD Cert.MlpARefIdeal.τ Cert.MlpARefIdeal.sig) → Buf (Elt Ideal) ℓ) : Prop :=
  True

def Pre_MlpARefIdeal_finite_mlpa [hPre_finite_mlpa : Cert.Pre_finite_mlpa.Facts] (m : (ℓ : Loc Cert.MlpARefIdeal.nD Cert.MlpARefIdeal.τ Cert.MlpARefIdeal.sig) → Buf (Elt Ideal) ℓ) : Prop :=
  ∀ c : Dev Cert.MlpARefIdeal.nD,
    (Cert.Pre_finite_mlpa.fn (F := Ideal) (m ((c.tc : Thread Cert.MlpARefIdeal.nD Cert.MlpARefIdeal.τ).loc Cert.MlpARefIdeal.main_arg0)) (m ((c.tc : Thread Cert.MlpARefIdeal.nD Cert.MlpARefIdeal.τ).loc Cert.MlpARefIdeal.main_arg1)) (m ((c.tc : Thread Cert.MlpARefIdeal.nD Cert.MlpARefIdeal.τ).loc Cert.MlpARefIdeal.main_arg2)) (m ((c.tc : Thread Cert.MlpARefIdeal.nD Cert.MlpARefIdeal.τ).loc Cert.MlpARefIdeal.main_arg3))).1 = (fun _ => 1#1)
    ∧ (Cert.Pre_finite_mlpa.fn (F := Ideal) (m ((c.tc : Thread Cert.MlpARefIdeal.nD Cert.MlpARefIdeal.τ).loc Cert.MlpARefIdeal.main_arg0)) (m ((c.tc : Thread Cert.MlpARefIdeal.nD Cert.MlpARefIdeal.τ).loc Cert.MlpARefIdeal.main_arg1)) (m ((c.tc : Thread Cert.MlpARefIdeal.nD Cert.MlpARefIdeal.τ).loc Cert.MlpARefIdeal.main_arg2)) (m ((c.tc : Thread Cert.MlpARefIdeal.nD Cert.MlpARefIdeal.τ).loc Cert.MlpARefIdeal.main_arg3))).2.1 = (fun _ => 1#1)
    ∧ (Cert.Pre_finite_mlpa.fn (F := Ideal) (m ((c.tc : Thread Cert.MlpARefIdeal.nD Cert.MlpARefIdeal.τ).loc Cert.MlpARefIdeal.main_arg0)) (m ((c.tc : Thread Cert.MlpARefIdeal.nD Cert.MlpARefIdeal.τ).loc Cert.MlpARefIdeal.main_arg1)) (m ((c.tc : Thread Cert.MlpARefIdeal.nD Cert.MlpARefIdeal.τ).loc Cert.MlpARefIdeal.main_arg2)) (m ((c.tc : Thread Cert.MlpARefIdeal.nD Cert.MlpARefIdeal.τ).loc Cert.MlpARefIdeal.main_arg3))).2.2.1 = (fun _ => 1#1)
    ∧ (Cert.Pre_finite_mlpa.fn (F := Ideal) (m ((c.tc : Thread Cert.MlpARefIdeal.nD Cert.MlpARefIdeal.τ).loc Cert.MlpARefIdeal.main_arg0)) (m ((c.tc : Thread Cert.MlpARefIdeal.nD Cert.MlpARefIdeal.τ).loc Cert.MlpARefIdeal.main_arg1)) (m ((c.tc : Thread Cert.MlpARefIdeal.nD Cert.MlpARefIdeal.τ).loc Cert.MlpARefIdeal.main_arg2)) (m ((c.tc : Thread Cert.MlpARefIdeal.nD Cert.MlpARefIdeal.τ).loc Cert.MlpARefIdeal.main_arg3))).2.2.2 = (fun _ => 1#1)

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutIdeal_finite_mixout [hPre_finite_mixout : Cert.Pre_finite_mixout.Facts] (m : (ℓ : Loc Cert.MixOutIdeal.nD Cert.MixOutIdeal.τ Cert.MixOutIdeal.sig) → Buf (Elt Ideal) ℓ) : Prop :=
  ∀ c : Dev Cert.MixOutIdeal.nD,
    (Cert.Pre_finite_mixout.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6)) (m ((c.tc : Thread Cert.MixOutIdeal.nD Cert.MixOutIdeal.τ).loc Cert.MixOutIdeal.main_arg7))).1 = (fun _ => 1#1)
    ∧ (Cert.Pre_finite_mixout.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6)) (m ((c.tc : Thread Cert.MixOutIdeal.nD Cert.MixOutIdeal.τ).loc Cert.MixOutIdeal.main_arg7))).2.1 = (fun _ => 1#1)
    ∧ (Cert.Pre_finite_mixout.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6)) (m ((c.tc : Thread Cert.MixOutIdeal.nD Cert.MixOutIdeal.τ).loc Cert.MixOutIdeal.main_arg7))).2.2.1 = (fun _ => 1#1)
    ∧ (Cert.Pre_finite_mixout.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6)) (m ((c.tc : Thread Cert.MixOutIdeal.nD Cert.MixOutIdeal.τ).loc Cert.MixOutIdeal.main_arg7))).2.2.2.1 = (fun _ => 1#1)
    ∧ (Cert.Pre_finite_mixout.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6)) (m ((c.tc : Thread Cert.MixOutIdeal.nD Cert.MixOutIdeal.τ).loc Cert.MixOutIdeal.main_arg7))).2.2.2.2.1 = (fun _ => 1#1)
    ∧ (Cert.Pre_finite_mixout.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6)) (m ((c.tc : Thread Cert.MixOutIdeal.nD Cert.MixOutIdeal.τ).loc Cert.MixOutIdeal.main_arg7))).2.2.2.2.2.1 = (fun _ => 1#1)
    ∧ (Cert.Pre_finite_mixout.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6)) (m ((c.tc : Thread Cert.MixOutIdeal.nD Cert.MixOutIdeal.τ).loc Cert.MixOutIdeal.main_arg7))).2.2.2.2.2.2 = (fun _ => 1#1)

def Pre_MixOutRefIdeal (m : (ℓ : Loc Cert.MixOutRefIdeal.nD Cert.MixOutRefIdeal.τ Cert.MixOutRefIdeal.sig) → Buf (Elt Ideal) ℓ) : Prop :=
  True

def Pre_MixOutRefIdeal_finite_mixout [hPre_finite_mixout : Cert.Pre_finite_mixout.Facts] (m : (ℓ : Loc Cert.MixOutRefIdeal.nD Cert.MixOutRefIdeal.τ Cert.MixOutRefIdeal.sig) → Buf (Elt Ideal) ℓ) : Prop :=
  ∀ c : Dev Cert.MixOutRefIdeal.nD,
    (Cert.Pre_finite_mixout.fn (F := Ideal) (m ((c.tc : Thread Cert.MixOutRefIdeal.nD Cert.MixOutRefIdeal.τ).loc Cert.MixOutRefIdeal.main_arg0)) (m ((c.tc : Thread Cert.MixOutRefIdeal.nD Cert.MixOutRefIdeal.τ).loc Cert.MixOutRefIdeal.main_arg1)) (m ((c.tc : Thread Cert.MixOutRefIdeal.nD Cert.MixOutRefIdeal.τ).loc Cert.MixOutRefIdeal.main_arg2)) (m ((c.tc : Thread Cert.MixOutRefIdeal.nD Cert.MixOutRefIdeal.τ).loc Cert.MixOutRefIdeal.main_arg3)) (m ((c.tc : Thread Cert.MixOutRefIdeal.nD Cert.MixOutRefIdeal.τ).loc Cert.MixOutRefIdeal.main_arg4)) (m ((c.tc : Thread Cert.MixOutRefIdeal.nD Cert.MixOutRefIdeal.τ).loc Cert.MixOutRefIdeal.main_arg5)) (m ((c.tc : Thread Cert.MixOutRefIdeal.nD Cert.MixOutRefIdeal.τ).loc Cert.MixOutRefIdeal.main_arg6)) (m ((c.tc : Thread Cert.MixOutRefIdeal.nD Cert.MixOutRefIdeal.τ).loc Cert.MixOutRefIdeal.main_arg7))).1 = (fun _ => 1#1)
    ∧ (Cert.Pre_finite_mixout.fn (F := Ideal) (m ((c.tc : Thread Cert.MixOutRefIdeal.nD Cert.MixOutRefIdeal.τ).loc Cert.MixOutRefIdeal.main_arg0)) (m ((c.tc : Thread Cert.MixOutRefIdeal.nD Cert.MixOutRefIdeal.τ).loc Cert.MixOutRefIdeal.main_arg1)) (m ((c.tc : Thread Cert.MixOutRefIdeal.nD Cert.MixOutRefIdeal.τ).loc Cert.MixOutRefIdeal.main_arg2)) (m ((c.tc : Thread Cert.MixOutRefIdeal.nD Cert.MixOutRefIdeal.τ).loc Cert.MixOutRefIdeal.main_arg3)) (m ((c.tc : Thread Cert.MixOutRefIdeal.nD Cert.MixOutRefIdeal.τ).loc Cert.MixOutRefIdeal.main_arg4)) (m ((c.tc : Thread Cert.MixOutRefIdeal.nD Cert.MixOutRefIdeal.τ).loc Cert.MixOutRefIdeal.main_arg5)) (m ((c.tc : Thread Cert.MixOutRefIdeal.nD Cert.MixOutRefIdeal.τ).loc Cert.MixOutRefIdeal.main_arg6)) (m ((c.tc : Thread Cert.MixOutRefIdeal.nD Cert.MixOutRefIdeal.τ).loc Cert.MixOutRefIdeal.main_arg7))).2.1 = (fun _ => 1#1)
    ∧ (Cert.Pre_finite_mixout.fn (F := Ideal) (m ((c.tc : Thread Cert.MixOutRefIdeal.nD Cert.MixOutRefIdeal.τ).loc Cert.MixOutRefIdeal.main_arg0)) (m ((c.tc : Thread Cert.MixOutRefIdeal.nD Cert.MixOutRefIdeal.τ).loc Cert.MixOutRefIdeal.main_arg1)) (m ((c.tc : Thread Cert.MixOutRefIdeal.nD Cert.MixOutRefIdeal.τ).loc Cert.MixOutRefIdeal.main_arg2)) (m ((c.tc : Thread Cert.MixOutRefIdeal.nD Cert.MixOutRefIdeal.τ).loc Cert.MixOutRefIdeal.main_arg3)) (m ((c.tc : Thread Cert.MixOutRefIdeal.nD Cert.MixOutRefIdeal.τ).loc Cert.MixOutRefIdeal.main_arg4)) (m ((c.tc : Thread Cert.MixOutRefIdeal.nD Cert.MixOutRefIdeal.τ).loc Cert.MixOutRefIdeal.main_arg5)) (m ((c.tc : Thread Cert.MixOutRefIdeal.nD Cert.MixOutRefIdeal.τ).loc Cert.MixOutRefIdeal.main_arg6)) (m ((c.tc : Thread Cert.MixOutRefIdeal.nD Cert.MixOutRefIdeal.τ).loc Cert.MixOutRefIdeal.main_arg7))).2.2.1 = (fun _ => 1#1)
    ∧ (Cert.Pre_finite_mixout.fn (F := Ideal) (m ((c.tc : Thread Cert.MixOutRefIdeal.nD Cert.MixOutRefIdeal.τ).loc Cert.MixOutRefIdeal.main_arg0)) (m ((c.tc : Thread Cert.MixOutRefIdeal.nD Cert.MixOutRefIdeal.τ).loc Cert.MixOutRefIdeal.main_arg1)) (m ((c.tc : Thread Cert.MixOutRefIdeal.nD Cert.MixOutRefIdeal.τ).loc Cert.MixOutRefIdeal.main_arg2)) (m ((c.tc : Thread Cert.MixOutRefIdeal.nD Cert.MixOutRefIdeal.τ).loc Cert.MixOutRefIdeal.main_arg3)) (m ((c.tc : Thread Cert.MixOutRefIdeal.nD Cert.MixOutRefIdeal.τ).loc Cert.MixOutRefIdeal.main_arg4)) (m ((c.tc : Thread Cert.MixOutRefIdeal.nD Cert.MixOutRefIdeal.τ).loc Cert.MixOutRefIdeal.main_arg5)) (m ((c.tc : Thread Cert.MixOutRefIdeal.nD Cert.MixOutRefIdeal.τ).loc Cert.MixOutRefIdeal.main_arg6)) (m ((c.tc : Thread Cert.MixOutRefIdeal.nD Cert.MixOutRefIdeal.τ).loc Cert.MixOutRefIdeal.main_arg7))).2.2.2.1 = (fun _ => 1#1)
    ∧ (Cert.Pre_finite_mixout.fn (F := Ideal) (m ((c.tc : Thread Cert.MixOutRefIdeal.nD Cert.MixOutRefIdeal.τ).loc Cert.MixOutRefIdeal.main_arg0)) (m ((c.tc : Thread Cert.MixOutRefIdeal.nD Cert.MixOutRefIdeal.τ).loc Cert.MixOutRefIdeal.main_arg1)) (m ((c.tc : Thread Cert.MixOutRefIdeal.nD Cert.MixOutRefIdeal.τ).loc Cert.MixOutRefIdeal.main_arg2)) (m ((c.tc : Thread Cert.MixOutRefIdeal.nD Cert.MixOutRefIdeal.τ).loc Cert.MixOutRefIdeal.main_arg3)) (m ((c.tc : Thread Cert.MixOutRefIdeal.nD Cert.MixOutRefIdeal.τ).loc Cert.MixOutRefIdeal.main_arg4)) (m ((c.tc : Thread Cert.MixOutRefIdeal.nD Cert.MixOutRefIdeal.τ).loc Cert.MixOutRefIdeal.main_arg5)) (m ((c.tc : Thread Cert.MixOutRefIdeal.nD Cert.MixOutRefIdeal.τ).loc Cert.MixOutRefIdeal.main_arg6)) (m ((c.tc : Thread Cert.MixOutRefIdeal.nD Cert.MixOutRefIdeal.τ).loc Cert.MixOutRefIdeal.main_arg7))).2.2.2.2.1 = (fun _ => 1#1)
    ∧ (Cert.Pre_finite_mixout.fn (F := Ideal) (m ((c.tc : Thread Cert.MixOutRefIdeal.nD Cert.MixOutRefIdeal.τ).loc Cert.MixOutRefIdeal.main_arg0)) (m ((c.tc : Thread Cert.MixOutRefIdeal.nD Cert.MixOutRefIdeal.τ).loc Cert.MixOutRefIdeal.main_arg1)) (m ((c.tc : Thread Cert.MixOutRefIdeal.nD Cert.MixOutRefIdeal.τ).loc Cert.MixOutRefIdeal.main_arg2)) (m ((c.tc : Thread Cert.MixOutRefIdeal.nD Cert.MixOutRefIdeal.τ).loc Cert.MixOutRefIdeal.main_arg3)) (m ((c.tc : Thread Cert.MixOutRefIdeal.nD Cert.MixOutRefIdeal.τ).loc Cert.MixOutRefIdeal.main_arg4)) (m ((c.tc : Thread Cert.MixOutRefIdeal.nD Cert.MixOutRefIdeal.τ).loc Cert.MixOutRefIdeal.main_arg5)) (m ((c.tc : Thread Cert.MixOutRefIdeal.nD Cert.MixOutRefIdeal.τ).loc Cert.MixOutRefIdeal.main_arg6)) (m ((c.tc : Thread Cert.MixOutRefIdeal.nD Cert.MixOutRefIdeal.τ).loc Cert.MixOutRefIdeal.main_arg7))).2.2.2.2.2.1 = (fun _ => 1#1)
    ∧ (Cert.Pre_finite_mixout.fn (F := Ideal) (m ((c.tc : Thread Cert.MixOutRefIdeal.nD Cert.MixOutRefIdeal.τ).loc Cert.MixOutRefIdeal.main_arg0)) (m ((c.tc : Thread Cert.MixOutRefIdeal.nD Cert.MixOutRefIdeal.τ).loc Cert.MixOutRefIdeal.main_arg1)) (m ((c.tc : Thread Cert.MixOutRefIdeal.nD Cert.MixOutRefIdeal.τ).loc Cert.MixOutRefIdeal.main_arg2)) (m ((c.tc : Thread Cert.MixOutRefIdeal.nD Cert.MixOutRefIdeal.τ).loc Cert.MixOutRefIdeal.main_arg3)) (m ((c.tc : Thread Cert.MixOutRefIdeal.nD Cert.MixOutRefIdeal.τ).loc Cert.MixOutRefIdeal.main_arg4)) (m ((c.tc : Thread Cert.MixOutRefIdeal.nD Cert.MixOutRefIdeal.τ).loc Cert.MixOutRefIdeal.main_arg5)) (m ((c.tc : Thread Cert.MixOutRefIdeal.nD Cert.MixOutRefIdeal.τ).loc Cert.MixOutRefIdeal.main_arg6)) (m ((c.tc : Thread Cert.MixOutRefIdeal.nD Cert.MixOutRefIdeal.τ).loc Cert.MixOutRefIdeal.main_arg7))).2.2.2.2.2.2 = (fun _ => 1#1)

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInIdeal_finite_mixin [hPre_finite_mixin : Cert.Pre_finite_mixin.Facts] (m : (ℓ : Loc Cert.MixInIdeal.nD Cert.MixInIdeal.τ Cert.MixInIdeal.sig) → Buf (Elt Ideal) ℓ) : Prop :=
  ∀ c : Dev Cert.MixInIdeal.nD,
    (Cert.Pre_finite_mixin.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)) (m ((c.tc : Thread Cert.MixInIdeal.nD Cert.MixInIdeal.τ).loc Cert.MixInIdeal.main_arg5)) (m ((c.tc : Thread Cert.MixInIdeal.nD Cert.MixInIdeal.τ).loc Cert.MixInIdeal.main_arg6)) (m ((c.tc : Thread Cert.MixInIdeal.nD Cert.MixInIdeal.τ).loc Cert.MixInIdeal.main_arg7)) (m ((c.tc : Thread Cert.MixInIdeal.nD Cert.MixInIdeal.τ).loc Cert.MixInIdeal.main_arg8)) (m ((c.tc : Thread Cert.MixInIdeal.nD Cert.MixInIdeal.τ).loc Cert.MixInIdeal.main_arg9)) (m ((c.tc : Thread Cert.MixInIdeal.nD Cert.MixInIdeal.τ).loc Cert.MixInIdeal.main_arg10))).1 = (fun _ => 1#1)
    ∧ (Cert.Pre_finite_mixin.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)) (m ((c.tc : Thread Cert.MixInIdeal.nD Cert.MixInIdeal.τ).loc Cert.MixInIdeal.main_arg5)) (m ((c.tc : Thread Cert.MixInIdeal.nD Cert.MixInIdeal.τ).loc Cert.MixInIdeal.main_arg6)) (m ((c.tc : Thread Cert.MixInIdeal.nD Cert.MixInIdeal.τ).loc Cert.MixInIdeal.main_arg7)) (m ((c.tc : Thread Cert.MixInIdeal.nD Cert.MixInIdeal.τ).loc Cert.MixInIdeal.main_arg8)) (m ((c.tc : Thread Cert.MixInIdeal.nD Cert.MixInIdeal.τ).loc Cert.MixInIdeal.main_arg9)) (m ((c.tc : Thread Cert.MixInIdeal.nD Cert.MixInIdeal.τ).loc Cert.MixInIdeal.main_arg10))).2.1 = (fun _ => 1#1)
    ∧ (Cert.Pre_finite_mixin.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)) (m ((c.tc : Thread Cert.MixInIdeal.nD Cert.MixInIdeal.τ).loc Cert.MixInIdeal.main_arg5)) (m ((c.tc : Thread Cert.MixInIdeal.nD Cert.MixInIdeal.τ).loc Cert.MixInIdeal.main_arg6)) (m ((c.tc : Thread Cert.MixInIdeal.nD Cert.MixInIdeal.τ).loc Cert.MixInIdeal.main_arg7)) (m ((c.tc : Thread Cert.MixInIdeal.nD Cert.MixInIdeal.τ).loc Cert.MixInIdeal.main_arg8)) (m ((c.tc : Thread Cert.MixInIdeal.nD Cert.MixInIdeal.τ).loc Cert.MixInIdeal.main_arg9)) (m ((c.tc : Thread Cert.MixInIdeal.nD Cert.MixInIdeal.τ).loc Cert.MixInIdeal.main_arg10))).2.2.1 = (fun _ => 1#1)
    ∧ (Cert.Pre_finite_mixin.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)) (m ((c.tc : Thread Cert.MixInIdeal.nD Cert.MixInIdeal.τ).loc Cert.MixInIdeal.main_arg5)) (m ((c.tc : Thread Cert.MixInIdeal.nD Cert.MixInIdeal.τ).loc Cert.MixInIdeal.main_arg6)) (m ((c.tc : Thread Cert.MixInIdeal.nD Cert.MixInIdeal.τ).loc Cert.MixInIdeal.main_arg7)) (m ((c.tc : Thread Cert.MixInIdeal.nD Cert.MixInIdeal.τ).loc Cert.MixInIdeal.main_arg8)) (m ((c.tc : Thread Cert.MixInIdeal.nD Cert.MixInIdeal.τ).loc Cert.MixInIdeal.main_arg9)) (m ((c.tc : Thread Cert.MixInIdeal.nD Cert.MixInIdeal.τ).loc Cert.MixInIdeal.main_arg10))).2.2.2.1 = (fun _ => 1#1)
    ∧ (Cert.Pre_finite_mixin.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)) (m ((c.tc : Thread Cert.MixInIdeal.nD Cert.MixInIdeal.τ).loc Cert.MixInIdeal.main_arg5)) (m ((c.tc : Thread Cert.MixInIdeal.nD Cert.MixInIdeal.τ).loc Cert.MixInIdeal.main_arg6)) (m ((c.tc : Thread Cert.MixInIdeal.nD Cert.MixInIdeal.τ).loc Cert.MixInIdeal.main_arg7)) (m ((c.tc : Thread Cert.MixInIdeal.nD Cert.MixInIdeal.τ).loc Cert.MixInIdeal.main_arg8)) (m ((c.tc : Thread Cert.MixInIdeal.nD Cert.MixInIdeal.τ).loc Cert.MixInIdeal.main_arg9)) (m ((c.tc : Thread Cert.MixInIdeal.nD Cert.MixInIdeal.τ).loc Cert.MixInIdeal.main_arg10))).2.2.2.2.1 = (fun _ => 1#1)
    ∧ (Cert.Pre_finite_mixin.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)) (m ((c.tc : Thread Cert.MixInIdeal.nD Cert.MixInIdeal.τ).loc Cert.MixInIdeal.main_arg5)) (m ((c.tc : Thread Cert.MixInIdeal.nD Cert.MixInIdeal.τ).loc Cert.MixInIdeal.main_arg6)) (m ((c.tc : Thread Cert.MixInIdeal.nD Cert.MixInIdeal.τ).loc Cert.MixInIdeal.main_arg7)) (m ((c.tc : Thread Cert.MixInIdeal.nD Cert.MixInIdeal.τ).loc Cert.MixInIdeal.main_arg8)) (m ((c.tc : Thread Cert.MixInIdeal.nD Cert.MixInIdeal.τ).loc Cert.MixInIdeal.main_arg9)) (m ((c.tc : Thread Cert.MixInIdeal.nD Cert.MixInIdeal.τ).loc Cert.MixInIdeal.main_arg10))).2.2.2.2.2.1 = (fun _ => 1#1)
    ∧ (Cert.Pre_finite_mixin.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)) (m ((c.tc : Thread Cert.MixInIdeal.nD Cert.MixInIdeal.τ).loc Cert.MixInIdeal.main_arg5)) (m ((c.tc : Thread Cert.MixInIdeal.nD Cert.MixInIdeal.τ).loc Cert.MixInIdeal.main_arg6)) (m ((c.tc : Thread Cert.MixInIdeal.nD Cert.MixInIdeal.τ).loc Cert.MixInIdeal.main_arg7)) (m ((c.tc : Thread Cert.MixInIdeal.nD Cert.MixInIdeal.τ).loc Cert.MixInIdeal.main_arg8)) (m ((c.tc : Thread Cert.MixInIdeal.nD Cert.MixInIdeal.τ).loc Cert.MixInIdeal.main_arg9)) (m ((c.tc : Thread Cert.MixInIdeal.nD Cert.MixInIdeal.τ).loc Cert.MixInIdeal.main_arg10))).2.2.2.2.2.2.1 = (fun _ => 1#1)
    ∧ (Cert.Pre_finite_mixin.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)) (m ((c.tc : Thread Cert.MixInIdeal.nD Cert.MixInIdeal.τ).loc Cert.MixInIdeal.main_arg5)) (m ((c.tc : Thread Cert.MixInIdeal.nD Cert.MixInIdeal.τ).loc Cert.MixInIdeal.main_arg6)) (m ((c.tc : Thread Cert.MixInIdeal.nD Cert.MixInIdeal.τ).loc Cert.MixInIdeal.main_arg7)) (m ((c.tc : Thread Cert.MixInIdeal.nD Cert.MixInIdeal.τ).loc Cert.MixInIdeal.main_arg8)) (m ((c.tc : Thread Cert.MixInIdeal.nD Cert.MixInIdeal.τ).loc Cert.MixInIdeal.main_arg9)) (m ((c.tc : Thread Cert.MixInIdeal.nD Cert.MixInIdeal.τ).loc Cert.MixInIdeal.main_arg10))).2.2.2.2.2.2.2.1 = (fun _ => 1#1)
    ∧ (Cert.Pre_finite_mixin.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)) (m ((c.tc : Thread Cert.MixInIdeal.nD Cert.MixInIdeal.τ).loc Cert.MixInIdeal.main_arg5)) (m ((c.tc : Thread Cert.MixInIdeal.nD Cert.MixInIdeal.τ).loc Cert.MixInIdeal.main_arg6)) (m ((c.tc : Thread Cert.MixInIdeal.nD Cert.MixInIdeal.τ).loc Cert.MixInIdeal.main_arg7)) (m ((c.tc : Thread Cert.MixInIdeal.nD Cert.MixInIdeal.τ).loc Cert.MixInIdeal.main_arg8)) (m ((c.tc : Thread Cert.MixInIdeal.nD Cert.MixInIdeal.τ).loc Cert.MixInIdeal.main_arg9)) (m ((c.tc : Thread Cert.MixInIdeal.nD Cert.MixInIdeal.τ).loc Cert.MixInIdeal.main_arg10))).2.2.2.2.2.2.2.2.1 = (fun _ => 1#1)
    ∧ (Cert.Pre_finite_mixin.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)) (m ((c.tc : Thread Cert.MixInIdeal.nD Cert.MixInIdeal.τ).loc Cert.MixInIdeal.main_arg5)) (m ((c.tc : Thread Cert.MixInIdeal.nD Cert.MixInIdeal.τ).loc Cert.MixInIdeal.main_arg6)) (m ((c.tc : Thread Cert.MixInIdeal.nD Cert.MixInIdeal.τ).loc Cert.MixInIdeal.main_arg7)) (m ((c.tc : Thread Cert.MixInIdeal.nD Cert.MixInIdeal.τ).loc Cert.MixInIdeal.main_arg8)) (m ((c.tc : Thread Cert.MixInIdeal.nD Cert.MixInIdeal.τ).loc Cert.MixInIdeal.main_arg9)) (m ((c.tc : Thread Cert.MixInIdeal.nD Cert.MixInIdeal.τ).loc Cert.MixInIdeal.main_arg10))).2.2.2.2.2.2.2.2.2 = (fun _ => 1#1)

def Pre_MixInRefIdeal (m : (ℓ : Loc Cert.MixInRefIdeal.nD Cert.MixInRefIdeal.τ Cert.MixInRefIdeal.sig) → Buf (Elt Ideal) ℓ) : Prop :=
  True

def Pre_MixInRefIdeal_finite_mixin [hPre_finite_mixin : Cert.Pre_finite_mixin.Facts] (m : (ℓ : Loc Cert.MixInRefIdeal.nD Cert.MixInRefIdeal.τ Cert.MixInRefIdeal.sig) → Buf (Elt Ideal) ℓ) : Prop :=
  ∀ c : Dev Cert.MixInRefIdeal.nD,
    (Cert.Pre_finite_mixin.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4)) (m ((c.tc : Thread Cert.MixInRefIdeal.nD Cert.MixInRefIdeal.τ).loc Cert.MixInRefIdeal.main_arg5)) (m ((c.tc : Thread Cert.MixInRefIdeal.nD Cert.MixInRefIdeal.τ).loc Cert.MixInRefIdeal.main_arg6)) (m ((c.tc : Thread Cert.MixInRefIdeal.nD Cert.MixInRefIdeal.τ).loc Cert.MixInRefIdeal.main_arg7)) (m ((c.tc : Thread Cert.MixInRefIdeal.nD Cert.MixInRefIdeal.τ).loc Cert.MixInRefIdeal.main_arg8)) (m ((c.tc : Thread Cert.MixInRefIdeal.nD Cert.MixInRefIdeal.τ).loc Cert.MixInRefIdeal.main_arg9)) (m ((c.tc : Thread Cert.MixInRefIdeal.nD Cert.MixInRefIdeal.τ).loc Cert.MixInRefIdeal.main_arg10))).1 = (fun _ => 1#1)
    ∧ (Cert.Pre_finite_mixin.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4)) (m ((c.tc : Thread Cert.MixInRefIdeal.nD Cert.MixInRefIdeal.τ).loc Cert.MixInRefIdeal.main_arg5)) (m ((c.tc : Thread Cert.MixInRefIdeal.nD Cert.MixInRefIdeal.τ).loc Cert.MixInRefIdeal.main_arg6)) (m ((c.tc : Thread Cert.MixInRefIdeal.nD Cert.MixInRefIdeal.τ).loc Cert.MixInRefIdeal.main_arg7)) (m ((c.tc : Thread Cert.MixInRefIdeal.nD Cert.MixInRefIdeal.τ).loc Cert.MixInRefIdeal.main_arg8)) (m ((c.tc : Thread Cert.MixInRefIdeal.nD Cert.MixInRefIdeal.τ).loc Cert.MixInRefIdeal.main_arg9)) (m ((c.tc : Thread Cert.MixInRefIdeal.nD Cert.MixInRefIdeal.τ).loc Cert.MixInRefIdeal.main_arg10))).2.1 = (fun _ => 1#1)
    ∧ (Cert.Pre_finite_mixin.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4)) (m ((c.tc : Thread Cert.MixInRefIdeal.nD Cert.MixInRefIdeal.τ).loc Cert.MixInRefIdeal.main_arg5)) (m ((c.tc : Thread Cert.MixInRefIdeal.nD Cert.MixInRefIdeal.τ).loc Cert.MixInRefIdeal.main_arg6)) (m ((c.tc : Thread Cert.MixInRefIdeal.nD Cert.MixInRefIdeal.τ).loc Cert.MixInRefIdeal.main_arg7)) (m ((c.tc : Thread Cert.MixInRefIdeal.nD Cert.MixInRefIdeal.τ).loc Cert.MixInRefIdeal.main_arg8)) (m ((c.tc : Thread Cert.MixInRefIdeal.nD Cert.MixInRefIdeal.τ).loc Cert.MixInRefIdeal.main_arg9)) (m ((c.tc : Thread Cert.MixInRefIdeal.nD Cert.MixInRefIdeal.τ).loc Cert.MixInRefIdeal.main_arg10))).2.2.1 = (fun _ => 1#1)
    ∧ (Cert.Pre_finite_mixin.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4)) (m ((c.tc : Thread Cert.MixInRefIdeal.nD Cert.MixInRefIdeal.τ).loc Cert.MixInRefIdeal.main_arg5)) (m ((c.tc : Thread Cert.MixInRefIdeal.nD Cert.MixInRefIdeal.τ).loc Cert.MixInRefIdeal.main_arg6)) (m ((c.tc : Thread Cert.MixInRefIdeal.nD Cert.MixInRefIdeal.τ).loc Cert.MixInRefIdeal.main_arg7)) (m ((c.tc : Thread Cert.MixInRefIdeal.nD Cert.MixInRefIdeal.τ).loc Cert.MixInRefIdeal.main_arg8)) (m ((c.tc : Thread Cert.MixInRefIdeal.nD Cert.MixInRefIdeal.τ).loc Cert.MixInRefIdeal.main_arg9)) (m ((c.tc : Thread Cert.MixInRefIdeal.nD Cert.MixInRefIdeal.τ).loc Cert.MixInRefIdeal.main_arg10))).2.2.2.1 = (fun _ => 1#1)
    ∧ (Cert.Pre_finite_mixin.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4)) (m ((c.tc : Thread Cert.MixInRefIdeal.nD Cert.MixInRefIdeal.τ).loc Cert.MixInRefIdeal.main_arg5)) (m ((c.tc : Thread Cert.MixInRefIdeal.nD Cert.MixInRefIdeal.τ).loc Cert.MixInRefIdeal.main_arg6)) (m ((c.tc : Thread Cert.MixInRefIdeal.nD Cert.MixInRefIdeal.τ).loc Cert.MixInRefIdeal.main_arg7)) (m ((c.tc : Thread Cert.MixInRefIdeal.nD Cert.MixInRefIdeal.τ).loc Cert.MixInRefIdeal.main_arg8)) (m ((c.tc : Thread Cert.MixInRefIdeal.nD Cert.MixInRefIdeal.τ).loc Cert.MixInRefIdeal.main_arg9)) (m ((c.tc : Thread Cert.MixInRefIdeal.nD Cert.MixInRefIdeal.τ).loc Cert.MixInRefIdeal.main_arg10))).2.2.2.2.1 = (fun _ => 1#1)
    ∧ (Cert.Pre_finite_mixin.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4)) (m ((c.tc : Thread Cert.MixInRefIdeal.nD Cert.MixInRefIdeal.τ).loc Cert.MixInRefIdeal.main_arg5)) (m ((c.tc : Thread Cert.MixInRefIdeal.nD Cert.MixInRefIdeal.τ).loc Cert.MixInRefIdeal.main_arg6)) (m ((c.tc : Thread Cert.MixInRefIdeal.nD Cert.MixInRefIdeal.τ).loc Cert.MixInRefIdeal.main_arg7)) (m ((c.tc : Thread Cert.MixInRefIdeal.nD Cert.MixInRefIdeal.τ).loc Cert.MixInRefIdeal.main_arg8)) (m ((c.tc : Thread Cert.MixInRefIdeal.nD Cert.MixInRefIdeal.τ).loc Cert.MixInRefIdeal.main_arg9)) (m ((c.tc : Thread Cert.MixInRefIdeal.nD Cert.MixInRefIdeal.τ).loc Cert.MixInRefIdeal.main_arg10))).2.2.2.2.2.1 = (fun _ => 1#1)
    ∧ (Cert.Pre_finite_mixin.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4)) (m ((c.tc : Thread Cert.MixInRefIdeal.nD Cert.MixInRefIdeal.τ).loc Cert.MixInRefIdeal.main_arg5)) (m ((c.tc : Thread Cert.MixInRefIdeal.nD Cert.MixInRefIdeal.τ).loc Cert.MixInRefIdeal.main_arg6)) (m ((c.tc : Thread Cert.MixInRefIdeal.nD Cert.MixInRefIdeal.τ).loc Cert.MixInRefIdeal.main_arg7)) (m ((c.tc : Thread Cert.MixInRefIdeal.nD Cert.MixInRefIdeal.τ).loc Cert.MixInRefIdeal.main_arg8)) (m ((c.tc : Thread Cert.MixInRefIdeal.nD Cert.MixInRefIdeal.τ).loc Cert.MixInRefIdeal.main_arg9)) (m ((c.tc : Thread Cert.MixInRefIdeal.nD Cert.MixInRefIdeal.τ).loc Cert.MixInRefIdeal.main_arg10))).2.2.2.2.2.2.1 = (fun _ => 1#1)
    ∧ (Cert.Pre_finite_mixin.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4)) (m ((c.tc : Thread Cert.MixInRefIdeal.nD Cert.MixInRefIdeal.τ).loc Cert.MixInRefIdeal.main_arg5)) (m ((c.tc : Thread Cert.MixInRefIdeal.nD Cert.MixInRefIdeal.τ).loc Cert.MixInRefIdeal.main_arg6)) (m ((c.tc : Thread Cert.MixInRefIdeal.nD Cert.MixInRefIdeal.τ).loc Cert.MixInRefIdeal.main_arg7)) (m ((c.tc : Thread Cert.MixInRefIdeal.nD Cert.MixInRefIdeal.τ).loc Cert.MixInRefIdeal.main_arg8)) (m ((c.tc : Thread Cert.MixInRefIdeal.nD Cert.MixInRefIdeal.τ).loc Cert.MixInRefIdeal.main_arg9)) (m ((c.tc : Thread Cert.MixInRefIdeal.nD Cert.MixInRefIdeal.τ).loc Cert.MixInRefIdeal.main_arg10))).2.2.2.2.2.2.2.1 = (fun _ => 1#1)
    ∧ (Cert.Pre_finite_mixin.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4)) (m ((c.tc : Thread Cert.MixInRefIdeal.nD Cert.MixInRefIdeal.τ).loc Cert.MixInRefIdeal.main_arg5)) (m ((c.tc : Thread Cert.MixInRefIdeal.nD Cert.MixInRefIdeal.τ).loc Cert.MixInRefIdeal.main_arg6)) (m ((c.tc : Thread Cert.MixInRefIdeal.nD Cert.MixInRefIdeal.τ).loc Cert.MixInRefIdeal.main_arg7)) (m ((c.tc : Thread Cert.MixInRefIdeal.nD Cert.MixInRefIdeal.τ).loc Cert.MixInRefIdeal.main_arg8)) (m ((c.tc : Thread Cert.MixInRefIdeal.nD Cert.MixInRefIdeal.τ).loc Cert.MixInRefIdeal.main_arg9)) (m ((c.tc : Thread Cert.MixInRefIdeal.nD Cert.MixInRefIdeal.τ).loc Cert.MixInRefIdeal.main_arg10))).2.2.2.2.2.2.2.2.1 = (fun _ => 1#1)
    ∧ (Cert.Pre_finite_mixin.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4)) (m ((c.tc : Thread Cert.MixInRefIdeal.nD Cert.MixInRefIdeal.τ).loc Cert.MixInRefIdeal.main_arg5)) (m ((c.tc : Thread Cert.MixInRefIdeal.nD Cert.MixInRefIdeal.τ).loc Cert.MixInRefIdeal.main_arg6)) (m ((c.tc : Thread Cert.MixInRefIdeal.nD Cert.MixInRefIdeal.τ).loc Cert.MixInRefIdeal.main_arg7)) (m ((c.tc : Thread Cert.MixInRefIdeal.nD Cert.MixInRefIdeal.τ).loc Cert.MixInRefIdeal.main_arg8)) (m ((c.tc : Thread Cert.MixInRefIdeal.nD Cert.MixInRefIdeal.τ).loc Cert.MixInRefIdeal.main_arg9)) (m ((c.tc : Thread Cert.MixInRefIdeal.nD Cert.MixInRefIdeal.τ).loc Cert.MixInRefIdeal.main_arg10))).2.2.2.2.2.2.2.2.2 = (fun _ => 1#1)

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleIdeal_finite_ple [hPre_finite_ple : Cert.Pre_finite_ple.Facts] (m : (ℓ : Loc Cert.PleIdeal.nD Cert.PleIdeal.τ Cert.PleIdeal.sig) → Buf (Elt Ideal) ℓ) : Prop :=
  ∀ c : Dev Cert.PleIdeal.nD,
    (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).1 = (fun _ => 1#1)
    ∧ (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).2.1 = (fun _ => 1#1)
    ∧ (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).2.2.1 = (fun _ => 1#1)
    ∧ (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).2.2.2.1 = (fun _ => 1#1)
    ∧ (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).2.2.2.2.1 = (fun _ => 1#1)
    ∧ (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).2.2.2.2.2.1 = (fun _ => 1#1)
    ∧ (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).2.2.2.2.2.2 = (fun _ => 1#1)

def Pre_PleRefIdeal (m : (ℓ : Loc Cert.PleRefIdeal.nD Cert.PleRefIdeal.τ Cert.PleRefIdeal.sig) → Buf (Elt Ideal) ℓ) : Prop :=
  True

def Pre_PleRefIdeal_finite_ple [hPre_finite_ple : Cert.Pre_finite_ple.Facts] (m : (ℓ : Loc Cert.PleRefIdeal.nD Cert.PleRefIdeal.τ Cert.PleRefIdeal.sig) → Buf (Elt Ideal) ℓ) : Prop :=
  ∀ c : Dev Cert.PleRefIdeal.nD,
    (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6))).1 = (fun _ => 1#1)
    ∧ (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6))).2.1 = (fun _ => 1#1)
    ∧ (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6))).2.2.1 = (fun _ => 1#1)
    ∧ (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6))).2.2.2.1 = (fun _ => 1#1)
    ∧ (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6))).2.2.2.2.1 = (fun _ => 1#1)
    ∧ (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6))).2.2.2.2.2.1 = (fun _ => 1#1)
    ∧ (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6))).2.2.2.2.2.2 = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_finite_pool [hPre_finite_pool : Cert.Pre_finite_pool.Facts] (m : (ℓ : Loc Cert.PoolIdeal.nD Cert.PoolIdeal.τ Cert.PoolIdeal.sig) → Buf (Elt Ideal) ℓ) : Prop :=
  ∀ c : Dev Cert.PoolIdeal.nD,
    (Cert.Pre_finite_pool.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).1 = (fun _ => 1#1)
    ∧ (Cert.Pre_finite_pool.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.1 = (fun _ => 1#1)
    ∧ (Cert.Pre_finite_pool.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.2.1 = (fun _ => 1#1)
    ∧ (Cert.Pre_finite_pool.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.2.2 = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_finite_pool [hPre_finite_pool : Cert.Pre_finite_pool.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_finite_pool.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).1 = (fun _ => 1#1)
    ∧ (Cert.Pre_finite_pool.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).2.1 = (fun _ => 1#1)
    ∧ (Cert.Pre_finite_pool.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).2.2.1 = (fun _ => 1#1)
    ∧ (Cert.Pre_finite_pool.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).2.2.2 = (fun _ => 1#1)

def Pre_Conf (m : (ℓ : Loc Cert.Conf.nD Cert.Conf.τ Cert.Conf.sig) → Buf (Elt Bits) ℓ) : Prop :=
  True

def Pre_ConfIdeal (m : (ℓ : Loc Cert.ConfIdeal.nD Cert.ConfIdeal.τ Cert.ConfIdeal.sig) → Buf (Elt Ideal) ℓ) : Prop :=
  True

def Pre_ConfIdeal_finite_conf [hPre_finite_conf : Cert.Pre_finite_conf.Facts] (m : (ℓ : Loc Cert.ConfIdeal.nD Cert.ConfIdeal.τ Cert.ConfIdeal.sig) → Buf (Elt Ideal) ℓ) : Prop :=
  ∀ c : Dev Cert.ConfIdeal.nD,
    (Cert.Pre_finite_conf.fn (F := Ideal) (m ((c.tc : Thread Cert.ConfIdeal.nD Cert.ConfIdeal.τ).loc Cert.ConfIdeal.main_arg0)) (m ((c.tc : Thread Cert.ConfIdeal.nD Cert.ConfIdeal.τ).loc Cert.ConfIdeal.main_arg1)) (m ((c.tc : Thread Cert.ConfIdeal.nD Cert.ConfIdeal.τ).loc Cert.ConfIdeal.main_arg2)) (m ((c.tc : Thread Cert.ConfIdeal.nD Cert.ConfIdeal.τ).loc Cert.ConfIdeal.main_arg3)) (m ((c.tc : Thread Cert.ConfIdeal.nD Cert.ConfIdeal.τ).loc Cert.ConfIdeal.main_arg4)) (m ((c.tc : Thread Cert.ConfIdeal.nD Cert.ConfIdeal.τ).loc Cert.ConfIdeal.main_arg5))).1 = (fun _ => 1#1)
    ∧ (Cert.Pre_finite_conf.fn (F := Ideal) (m ((c.tc : Thread Cert.ConfIdeal.nD Cert.ConfIdeal.τ).loc Cert.ConfIdeal.main_arg0)) (m ((c.tc : Thread Cert.ConfIdeal.nD Cert.ConfIdeal.τ).loc Cert.ConfIdeal.main_arg1)) (m ((c.tc : Thread Cert.ConfIdeal.nD Cert.ConfIdeal.τ).loc Cert.ConfIdeal.main_arg2)) (m ((c.tc : Thread Cert.ConfIdeal.nD Cert.ConfIdeal.τ).loc Cert.ConfIdeal.main_arg3)) (m ((c.tc : Thread Cert.ConfIdeal.nD Cert.ConfIdeal.τ).loc Cert.ConfIdeal.main_arg4)) (m ((c.tc : Thread Cert.ConfIdeal.nD Cert.ConfIdeal.τ).loc Cert.ConfIdeal.main_arg5))).2.1 = (fun _ => 1#1)
    ∧ (Cert.Pre_finite_conf.fn (F := Ideal) (m ((c.tc : Thread Cert.ConfIdeal.nD Cert.ConfIdeal.τ).loc Cert.ConfIdeal.main_arg0)) (m ((c.tc : Thread Cert.ConfIdeal.nD Cert.ConfIdeal.τ).loc Cert.ConfIdeal.main_arg1)) (m ((c.tc : Thread Cert.ConfIdeal.nD Cert.ConfIdeal.τ).loc Cert.ConfIdeal.main_arg2)) (m ((c.tc : Thread Cert.ConfIdeal.nD Cert.ConfIdeal.τ).loc Cert.ConfIdeal.main_arg3)) (m ((c.tc : Thread Cert.ConfIdeal.nD Cert.ConfIdeal.τ).loc Cert.ConfIdeal.main_arg4)) (m ((c.tc : Thread Cert.ConfIdeal.nD Cert.ConfIdeal.τ).loc Cert.ConfIdeal.main_arg5))).2.2.1 = (fun _ => 1#1)
    ∧ (Cert.Pre_finite_conf.fn (F := Ideal) (m ((c.tc : Thread Cert.ConfIdeal.nD Cert.ConfIdeal.τ).loc Cert.ConfIdeal.main_arg0)) (m ((c.tc : Thread Cert.ConfIdeal.nD Cert.ConfIdeal.τ).loc Cert.ConfIdeal.main_arg1)) (m ((c.tc : Thread Cert.ConfIdeal.nD Cert.ConfIdeal.τ).loc Cert.ConfIdeal.main_arg2)) (m ((c.tc : Thread Cert.ConfIdeal.nD Cert.ConfIdeal.τ).loc Cert.ConfIdeal.main_arg3)) (m ((c.tc : Thread Cert.ConfIdeal.nD Cert.ConfIdeal.τ).loc Cert.ConfIdeal.main_arg4)) (m ((c.tc : Thread Cert.ConfIdeal.nD Cert.ConfIdeal.τ).loc Cert.ConfIdeal.main_arg5))).2.2.2.1 = (fun _ => 1#1)
    ∧ (Cert.Pre_finite_conf.fn (F := Ideal) (m ((c.tc : Thread Cert.ConfIdeal.nD Cert.ConfIdeal.τ).loc Cert.ConfIdeal.main_arg0)) (m ((c.tc : Thread Cert.ConfIdeal.nD Cert.ConfIdeal.τ).loc Cert.ConfIdeal.main_arg1)) (m ((c.tc : Thread Cert.ConfIdeal.nD Cert.ConfIdeal.τ).loc Cert.ConfIdeal.main_arg2)) (m ((c.tc : Thread Cert.ConfIdeal.nD Cert.ConfIdeal.τ).loc Cert.ConfIdeal.main_arg3)) (m ((c.tc : Thread Cert.ConfIdeal.nD Cert.ConfIdeal.τ).loc Cert.ConfIdeal.main_arg4)) (m ((c.tc : Thread Cert.ConfIdeal.nD Cert.ConfIdeal.τ).loc Cert.ConfIdeal.main_arg5))).2.2.2.2.1 = (fun _ => 1#1)
    ∧ (Cert.Pre_finite_conf.fn (F := Ideal) (m ((c.tc : Thread Cert.ConfIdeal.nD Cert.ConfIdeal.τ).loc Cert.ConfIdeal.main_arg0)) (m ((c.tc : Thread Cert.ConfIdeal.nD Cert.ConfIdeal.τ).loc Cert.ConfIdeal.main_arg1)) (m ((c.tc : Thread Cert.ConfIdeal.nD Cert.ConfIdeal.τ).loc Cert.ConfIdeal.main_arg2)) (m ((c.tc : Thread Cert.ConfIdeal.nD Cert.ConfIdeal.τ).loc Cert.ConfIdeal.main_arg3)) (m ((c.tc : Thread Cert.ConfIdeal.nD Cert.ConfIdeal.τ).loc Cert.ConfIdeal.main_arg4)) (m ((c.tc : Thread Cert.ConfIdeal.nD Cert.ConfIdeal.τ).loc Cert.ConfIdeal.main_arg5))).2.2.2.2.2 = (fun _ => 1#1)

def Pre_ConfRefIdeal (m : (ℓ : Loc Cert.ConfRefIdeal.nD Cert.ConfRefIdeal.τ Cert.ConfRefIdeal.sig) → Buf (Elt Ideal) ℓ) : Prop :=
  True

def Pre_ConfRefIdeal_finite_conf [hPre_finite_conf : Cert.Pre_finite_conf.Facts] (m : (ℓ : Loc Cert.ConfRefIdeal.nD Cert.ConfRefIdeal.τ Cert.ConfRefIdeal.sig) → Buf (Elt Ideal) ℓ) : Prop :=
  ∀ c : Dev Cert.ConfRefIdeal.nD,
    (Cert.Pre_finite_conf.fn (F := Ideal) (m ((c.tc : Thread Cert.ConfRefIdeal.nD Cert.ConfRefIdeal.τ).loc Cert.ConfRefIdeal.main_arg0)) (m ((c.tc : Thread Cert.ConfRefIdeal.nD Cert.ConfRefIdeal.τ).loc Cert.ConfRefIdeal.main_arg1)) (m ((c.tc : Thread Cert.ConfRefIdeal.nD Cert.ConfRefIdeal.τ).loc Cert.ConfRefIdeal.main_arg2)) (m ((c.tc : Thread Cert.ConfRefIdeal.nD Cert.ConfRefIdeal.τ).loc Cert.ConfRefIdeal.main_arg3)) (m ((c.tc : Thread Cert.ConfRefIdeal.nD Cert.ConfRefIdeal.τ).loc Cert.ConfRefIdeal.main_arg4)) (m ((c.tc : Thread Cert.ConfRefIdeal.nD Cert.ConfRefIdeal.τ).loc Cert.ConfRefIdeal.main_arg5))).1 = (fun _ => 1#1)
    ∧ (Cert.Pre_finite_conf.fn (F := Ideal) (m ((c.tc : Thread Cert.ConfRefIdeal.nD Cert.ConfRefIdeal.τ).loc Cert.ConfRefIdeal.main_arg0)) (m ((c.tc : Thread Cert.ConfRefIdeal.nD Cert.ConfRefIdeal.τ).loc Cert.ConfRefIdeal.main_arg1)) (m ((c.tc : Thread Cert.ConfRefIdeal.nD Cert.ConfRefIdeal.τ).loc Cert.ConfRefIdeal.main_arg2)) (m ((c.tc : Thread Cert.ConfRefIdeal.nD Cert.ConfRefIdeal.τ).loc Cert.ConfRefIdeal.main_arg3)) (m ((c.tc : Thread Cert.ConfRefIdeal.nD Cert.ConfRefIdeal.τ).loc Cert.ConfRefIdeal.main_arg4)) (m ((c.tc : Thread Cert.ConfRefIdeal.nD Cert.ConfRefIdeal.τ).loc Cert.ConfRefIdeal.main_arg5))).2.1 = (fun _ => 1#1)
    ∧ (Cert.Pre_finite_conf.fn (F := Ideal) (m ((c.tc : Thread Cert.ConfRefIdeal.nD Cert.ConfRefIdeal.τ).loc Cert.ConfRefIdeal.main_arg0)) (m ((c.tc : Thread Cert.ConfRefIdeal.nD Cert.ConfRefIdeal.τ).loc Cert.ConfRefIdeal.main_arg1)) (m ((c.tc : Thread Cert.ConfRefIdeal.nD Cert.ConfRefIdeal.τ).loc Cert.ConfRefIdeal.main_arg2)) (m ((c.tc : Thread Cert.ConfRefIdeal.nD Cert.ConfRefIdeal.τ).loc Cert.ConfRefIdeal.main_arg3)) (m ((c.tc : Thread Cert.ConfRefIdeal.nD Cert.ConfRefIdeal.τ).loc Cert.ConfRefIdeal.main_arg4)) (m ((c.tc : Thread Cert.ConfRefIdeal.nD Cert.ConfRefIdeal.τ).loc Cert.ConfRefIdeal.main_arg5))).2.2.1 = (fun _ => 1#1)
    ∧ (Cert.Pre_finite_conf.fn (F := Ideal) (m ((c.tc : Thread Cert.ConfRefIdeal.nD Cert.ConfRefIdeal.τ).loc Cert.ConfRefIdeal.main_arg0)) (m ((c.tc : Thread Cert.ConfRefIdeal.nD Cert.ConfRefIdeal.τ).loc Cert.ConfRefIdeal.main_arg1)) (m ((c.tc : Thread Cert.ConfRefIdeal.nD Cert.ConfRefIdeal.τ).loc Cert.ConfRefIdeal.main_arg2)) (m ((c.tc : Thread Cert.ConfRefIdeal.nD Cert.ConfRefIdeal.τ).loc Cert.ConfRefIdeal.main_arg3)) (m ((c.tc : Thread Cert.ConfRefIdeal.nD Cert.ConfRefIdeal.τ).loc Cert.ConfRefIdeal.main_arg4)) (m ((c.tc : Thread Cert.ConfRefIdeal.nD Cert.ConfRefIdeal.τ).loc Cert.ConfRefIdeal.main_arg5))).2.2.2.1 = (fun _ => 1#1)
    ∧ (Cert.Pre_finite_conf.fn (F := Ideal) (m ((c.tc : Thread Cert.ConfRefIdeal.nD Cert.ConfRefIdeal.τ).loc Cert.ConfRefIdeal.main_arg0)) (m ((c.tc : Thread Cert.ConfRefIdeal.nD Cert.ConfRefIdeal.τ).loc Cert.ConfRefIdeal.main_arg1)) (m ((c.tc : Thread Cert.ConfRefIdeal.nD Cert.ConfRefIdeal.τ).loc Cert.ConfRefIdeal.main_arg2)) (m ((c.tc : Thread Cert.ConfRefIdeal.nD Cert.ConfRefIdeal.τ).loc Cert.ConfRefIdeal.main_arg3)) (m ((c.tc : Thread Cert.ConfRefIdeal.nD Cert.ConfRefIdeal.τ).loc Cert.ConfRefIdeal.main_arg4)) (m ((c.tc : Thread Cert.ConfRefIdeal.nD Cert.ConfRefIdeal.τ).loc Cert.ConfRefIdeal.main_arg5))).2.2.2.2.1 = (fun _ => 1#1)
    ∧ (Cert.Pre_finite_conf.fn (F := Ideal) (m ((c.tc : Thread Cert.ConfRefIdeal.nD Cert.ConfRefIdeal.τ).loc Cert.ConfRefIdeal.main_arg0)) (m ((c.tc : Thread Cert.ConfRefIdeal.nD Cert.ConfRefIdeal.τ).loc Cert.ConfRefIdeal.main_arg1)) (m ((c.tc : Thread Cert.ConfRefIdeal.nD Cert.ConfRefIdeal.τ).loc Cert.ConfRefIdeal.main_arg2)) (m ((c.tc : Thread Cert.ConfRefIdeal.nD Cert.ConfRefIdeal.τ).loc Cert.ConfRefIdeal.main_arg3)) (m ((c.tc : Thread Cert.ConfRefIdeal.nD Cert.ConfRefIdeal.τ).loc Cert.ConfRefIdeal.main_arg4)) (m ((c.tc : Thread Cert.ConfRefIdeal.nD Cert.ConfRefIdeal.τ).loc Cert.ConfRefIdeal.main_arg5))).2.2.2.2.2 = (fun _ => 1#1)

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_PleFwd (m : (ℓ : Loc Cert.PleFwd.nD Cert.PleFwd.τ Cert.PleFwd.sig) → Buf (Elt Bits) ℓ) : Prop :=
  True

def Pre_PleFwdIdeal (m : (ℓ : Loc Cert.PleFwdIdeal.nD Cert.PleFwdIdeal.τ Cert.PleFwdIdeal.sig) → Buf (Elt Ideal) ℓ) : Prop :=
  True

def Pre_PleFwdRefIdeal (m : (ℓ : Loc Cert.PleFwdRefIdeal.nD Cert.PleFwdRefIdeal.τ Cert.PleFwdRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_SConv [hSConv : Cert.SConv.Facts] : Prop :=
  ∀ (m : (ℓ : Loc Cert.SConv.nD Cert.SConv.τ Cert.SConv.sig) → Buf (Elt Bits) ℓ) (g : Dev Cert.SConv.nD → PrngReg), Pre_SConv m →
    θ_run (Cert.SConv.defs (F := Bits)) (onTc (τ := Cert.SConv.τ) (Cert.SConv.main (F := Bits))) ⟨m, fun _ => 0, g⟩ (fun r => (∀ c : Dev Cert.SConv.nD,
      r.2.mem ((c.tc : Thread Cert.SConv.nD Cert.SConv.τ).loc Cert.SConv.main_arg0) = m ((c.tc : Thread Cert.SConv.nD Cert.SConv.τ).loc Cert.SConv.main_arg0)
      ∧ r.2.mem ((c.tc : Thread Cert.SConv.nD Cert.SConv.τ).loc Cert.SConv.main_arg1) = m ((c.tc : Thread Cert.SConv.nD Cert.SConv.τ).loc Cert.SConv.main_arg1)
      ∧ r.2.mem ((c.tc : Thread Cert.SConv.nD Cert.SConv.τ).loc Cert.SConv.main_arg2) = m ((c.tc : Thread Cert.SConv.nD Cert.SConv.τ).loc Cert.SConv.main_arg2))
      ∧ r.2.sem = fun _ => 0)

def quiescent_SConvIdeal [hSConvIdeal : Cert.SConvIdeal.Facts] : Prop :=
  ∀ (m : (ℓ : Loc Cert.SConvIdeal.nD Cert.SConvIdeal.τ Cert.SConvIdeal.sig) → Buf (Elt Ideal) ℓ) (g : Dev Cert.SConvIdeal.nD → PrngReg), Pre_SConvIdeal m →
    θ_run (Cert.SConvIdeal.defs (F := Ideal)) (onTc (τ := Cert.SConvIdeal.τ) (Cert.SConvIdeal.main (F := Ideal))) ⟨m, fun _ => 0, g⟩ (fun r => (∀ c : Dev Cert.SConvIdeal.nD,
      r.2.mem ((c.tc : Thread Cert.SConvIdeal.nD Cert.SConvIdeal.τ).loc Cert.SConvIdeal.main_arg0) = m ((c.tc : Thread Cert.SConvIdeal.nD Cert.SConvIdeal.τ).loc Cert.SConvIdeal.main_arg0)
      ∧ r.2.mem ((c.tc : Thread Cert.SConvIdeal.nD Cert.SConvIdeal.τ).loc Cert.SConvIdeal.main_arg1) = m ((c.tc : Thread Cert.SConvIdeal.nD Cert.SConvIdeal.τ).loc Cert.SConvIdeal.main_arg1)
      ∧ r.2.mem ((c.tc : Thread Cert.SConvIdeal.nD Cert.SConvIdeal.τ).loc Cert.SConvIdeal.main_arg2) = m ((c.tc : Thread Cert.SConvIdeal.nD Cert.SConvIdeal.τ).loc Cert.SConvIdeal.main_arg2))
      ∧ r.2.sem = fun _ => 0)

def quiescent_SConvRefIdeal [hSConvRefIdeal : Cert.SConvRefIdeal.Facts] : Prop :=
  ∀ (m : (ℓ : Loc Cert.SConvRefIdeal.nD Cert.SConvRefIdeal.τ Cert.SConvRefIdeal.sig) → Buf (Elt Ideal) ℓ) (g : Dev Cert.SConvRefIdeal.nD → PrngReg), Pre_SConvRefIdeal m →
    θ_run (Cert.SConvRefIdeal.defs (F := Ideal)) (onTc (τ := Cert.SConvRefIdeal.τ) (Cert.SConvRefIdeal.main (F := Ideal))) ⟨m, fun _ => 0, g⟩ (fun r => (∀ c : Dev Cert.SConvRefIdeal.nD,
      r.2.mem ((c.tc : Thread Cert.SConvRefIdeal.nD Cert.SConvRefIdeal.τ).loc Cert.SConvRefIdeal.main_arg0) = m ((c.tc : Thread Cert.SConvRefIdeal.nD Cert.SConvRefIdeal.τ).loc Cert.SConvRefIdeal.main_arg0)
      ∧ r.2.mem ((c.tc : Thread Cert.SConvRefIdeal.nD Cert.SConvRefIdeal.τ).loc Cert.SConvRefIdeal.main_arg1) = m ((c.tc : Thread Cert.SConvRefIdeal.nD Cert.SConvRefIdeal.τ).loc Cert.SConvRefIdeal.main_arg1)
      ∧ r.2.mem ((c.tc : Thread Cert.SConvRefIdeal.nD Cert.SConvRefIdeal.τ).loc Cert.SConvRefIdeal.main_arg2) = m ((c.tc : Thread Cert.SConvRefIdeal.nD Cert.SConvRefIdeal.τ).loc Cert.SConvRefIdeal.main_arg2))
      ∧ r.2.sem = fun _ => 0)

def quiescent_FoxBwd [hFoxBwd : Cert.FoxBwd.Facts] : Prop :=
  ∀ (m : (ℓ : Loc Cert.FoxBwd.nD Cert.FoxBwd.τ Cert.FoxBwd.sig) → Buf (Elt Bits) ℓ) (g : Dev Cert.FoxBwd.nD → PrngReg), Pre_FoxBwd m →
    θ_run (Cert.FoxBwd.defs (F := Bits)) (onTc (τ := Cert.FoxBwd.τ) (Cert.FoxBwd.main (F := Bits))) ⟨m, fun _ => 0, g⟩ (fun r => (∀ c : Dev Cert.FoxBwd.nD,
      r.2.mem ((c.tc : Thread Cert.FoxBwd.nD Cert.FoxBwd.τ).loc Cert.FoxBwd.main_arg0) = m ((c.tc : Thread Cert.FoxBwd.nD Cert.FoxBwd.τ).loc Cert.FoxBwd.main_arg0)
      ∧ r.2.mem ((c.tc : Thread Cert.FoxBwd.nD Cert.FoxBwd.τ).loc Cert.FoxBwd.main_arg1) = m ((c.tc : Thread Cert.FoxBwd.nD Cert.FoxBwd.τ).loc Cert.FoxBwd.main_arg1)
      ∧ r.2.mem ((c.tc : Thread Cert.FoxBwd.nD Cert.FoxBwd.τ).loc Cert.FoxBwd.main_arg2) = m ((c.tc : Thread Cert.FoxBwd.nD Cert.FoxBwd.τ).loc Cert.FoxBwd.main_arg2)
      ∧ r.2.mem ((c.tc : Thread Cert.FoxBwd.nD Cert.FoxBwd.τ).loc Cert.FoxBwd.main_arg3) = m ((c.tc : Thread Cert.FoxBwd.nD Cert.FoxBwd.τ).loc Cert.FoxBwd.main_arg3)
      ∧ r.2.mem ((c.tc : Thread Cert.FoxBwd.nD Cert.FoxBwd.τ).loc Cert.FoxBwd.main_arg4) = m ((c.tc : Thread Cert.FoxBwd.nD Cert.FoxBwd.τ).loc Cert.FoxBwd.main_arg4)
      ∧ r.2.mem ((c.tc : Thread Cert.FoxBwd.nD Cert.FoxBwd.τ).loc Cert.FoxBwd.main_arg5) = m ((c.tc : Thread Cert.FoxBwd.nD Cert.FoxBwd.τ).loc Cert.FoxBwd.main_arg5))
      ∧ r.2.sem = fun _ => 0)

def quiescent_FoxBwdIdeal [hFoxBwdIdeal : Cert.FoxBwdIdeal.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg), Pre_FoxBwdIdeal m →
    θ_run (Cert.FoxBwdIdeal.defs (F := Ideal)) (onTc (τ := Cert.FoxBwdIdeal.τ) (Cert.FoxBwdIdeal.main (F := Ideal))) ⟨m, fun _ => 0, g⟩ (fun r => (∀ c : Dev Cert.FoxBwdIdeal.nD,
      r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
      ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
      ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
      ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3)
      ∧ r.2.mem ((c.tc : Thread Cert.FoxBwdIdeal.nD Cert.FoxBwdIdeal.τ).loc Cert.FoxBwdIdeal.main_arg4) = m ((c.tc : Thread Cert.FoxBwdIdeal.nD Cert.FoxBwdIdeal.τ).loc Cert.FoxBwdIdeal.main_arg4)
      ∧ r.2.mem ((c.tc : Thread Cert.FoxBwdIdeal.nD Cert.FoxBwdIdeal.τ).loc Cert.FoxBwdIdeal.main_arg5) = m ((c.tc : Thread Cert.FoxBwdIdeal.nD Cert.FoxBwdIdeal.τ).loc Cert.FoxBwdIdeal.main_arg5))
      ∧ r.2.sem = fun _ => 0)

def quiescent_FoxBwdIdeal_pre_finite_fox [hFoxBwdIdeal : Cert.FoxBwdIdeal.Facts] [hPre_finite_fox : Cert.Pre_finite_fox.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg), Pre_FoxBwdIdeal_finite_fox m →
    θ_run (Cert.FoxBwdIdeal.defs (F := Ideal)) (onTc (τ := Cert.FoxBwdIdeal.τ) (Cert.FoxBwdIdeal.main (F := Ideal))) ⟨m, fun _ => 0, g⟩ (fun r => (∀ c : Dev Cert.FoxBwdIdeal.nD,
      r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
      ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
      ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
      ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3)
      ∧ r.2.mem ((c.tc : Thread Cert.FoxBwdIdeal.nD Cert.FoxBwdIdeal.τ).loc Cert.FoxBwdIdeal.main_arg4) = m ((c.tc : Thread Cert.FoxBwdIdeal.nD Cert.FoxBwdIdeal.τ).loc Cert.FoxBwdIdeal.main_arg4)
      ∧ r.2.mem ((c.tc : Thread Cert.FoxBwdIdeal.nD Cert.FoxBwdIdeal.τ).loc Cert.FoxBwdIdeal.main_arg5) = m ((c.tc : Thread Cert.FoxBwdIdeal.nD Cert.FoxBwdIdeal.τ).loc Cert.FoxBwdIdeal.main_arg5))
      ∧ r.2.sem = fun _ => 0)

def quiescent_FoxBwdRefIdeal [hFoxBwdRefIdeal : Cert.FoxBwdRefIdeal.Facts] : Prop :=
  ∀ (m : (ℓ : Loc Cert.FoxBwdRefIdeal.nD Cert.FoxBwdRefIdeal.τ Cert.FoxBwdRefIdeal.sig) → Buf (Elt Ideal) ℓ) (g : Dev Cert.FoxBwdRefIdeal.nD → PrngReg), Pre_FoxBwdRefIdeal m →
    θ_run (Cert.FoxBwdRefIdeal.defs (F := Ideal)) (onTc (τ := Cert.FoxBwdRefIdeal.τ) (Cert.FoxBwdRefIdeal.main (F := Ideal))) ⟨m, fun _ => 0, g⟩ (fun r => (∀ c : Dev Cert.FoxBwdRefIdeal.nD,
      r.2.mem ((c.tc : Thread Cert.FoxBwdRefIdeal.nD Cert.FoxBwdRefIdeal.τ).loc Cert.FoxBwdRefIdeal.main_arg0) = m ((c.tc : Thread Cert.FoxBwdRefIdeal.nD Cert.FoxBwdRefIdeal.τ).loc Cert.FoxBwdRefIdeal.main_arg0)
      ∧ r.2.mem ((c.tc : Thread Cert.FoxBwdRefIdeal.nD Cert.FoxBwdRefIdeal.τ).loc Cert.FoxBwdRefIdeal.main_arg1) = m ((c.tc : Thread Cert.FoxBwdRefIdeal.nD Cert.FoxBwdRefIdeal.τ).loc Cert.FoxBwdRefIdeal.main_arg1)
      ∧ r.2.mem ((c.tc : Thread Cert.FoxBwdRefIdeal.nD Cert.FoxBwdRefIdeal.τ).loc Cert.FoxBwdRefIdeal.main_arg2) = m ((c.tc : Thread Cert.FoxBwdRefIdeal.nD Cert.FoxBwdRefIdeal.τ).loc Cert.FoxBwdRefIdeal.main_arg2)
      ∧ r.2.mem ((c.tc : Thread Cert.FoxBwdRefIdeal.nD Cert.FoxBwdRefIdeal.τ).loc Cert.FoxBwdRefIdeal.main_arg3) = m ((c.tc : Thread Cert.FoxBwdRefIdeal.nD Cert.FoxBwdRefIdeal.τ).loc Cert.FoxBwdRefIdeal.main_arg3)
      ∧ r.2.mem ((c.tc : Thread Cert.FoxBwdRefIdeal.nD Cert.FoxBwdRefIdeal.τ).loc Cert.FoxBwdRefIdeal.main_arg4) = m ((c.tc : Thread Cert.FoxBwdRefIdeal.nD Cert.FoxBwdRefIdeal.τ).loc Cert.FoxBwdRefIdeal.main_arg4)
      ∧ r.2.mem ((c.tc : Thread Cert.FoxBwdRefIdeal.nD Cert.FoxBwdRefIdeal.τ).loc Cert.FoxBwdRefIdeal.main_arg5) = m ((c.tc : Thread Cert.FoxBwdRefIdeal.nD Cert.FoxBwdRefIdeal.τ).loc Cert.FoxBwdRefIdeal.main_arg5))
      ∧ r.2.sem = fun _ => 0)

def quiescent_FoxBwdRefIdeal_pre_finite_fox [hFoxBwdRefIdeal : Cert.FoxBwdRefIdeal.Facts] [hPre_finite_fox : Cert.Pre_finite_fox.Facts] : Prop :=
  ∀ (m : (ℓ : Loc Cert.FoxBwdRefIdeal.nD Cert.FoxBwdRefIdeal.τ Cert.FoxBwdRefIdeal.sig) → Buf (Elt Ideal) ℓ) (g : Dev Cert.FoxBwdRefIdeal.nD → PrngReg), Pre_FoxBwdRefIdeal_finite_fox m →
    θ_run (Cert.FoxBwdRefIdeal.defs (F := Ideal)) (onTc (τ := Cert.FoxBwdRefIdeal.τ) (Cert.FoxBwdRefIdeal.main (F := Ideal))) ⟨m, fun _ => 0, g⟩ (fun r => (∀ c : Dev Cert.FoxBwdRefIdeal.nD,
      r.2.mem ((c.tc : Thread Cert.FoxBwdRefIdeal.nD Cert.FoxBwdRefIdeal.τ).loc Cert.FoxBwdRefIdeal.main_arg0) = m ((c.tc : Thread Cert.FoxBwdRefIdeal.nD Cert.FoxBwdRefIdeal.τ).loc Cert.FoxBwdRefIdeal.main_arg0)
      ∧ r.2.mem ((c.tc : Thread Cert.FoxBwdRefIdeal.nD Cert.FoxBwdRefIdeal.τ).loc Cert.FoxBwdRefIdeal.main_arg1) = m ((c.tc : Thread Cert.FoxBwdRefIdeal.nD Cert.FoxBwdRefIdeal.τ).loc Cert.FoxBwdRefIdeal.main_arg1)
      ∧ r.2.mem ((c.tc : Thread Cert.FoxBwdRefIdeal.nD Cert.FoxBwdRefIdeal.τ).loc Cert.FoxBwdRefIdeal.main_arg2) = m ((c.tc : Thread Cert.FoxBwdRefIdeal.nD Cert.FoxBwdRefIdeal.τ).loc Cert.FoxBwdRefIdeal.main_arg2)
      ∧ r.2.mem ((c.tc : Thread Cert.FoxBwdRefIdeal.nD Cert.FoxBwdRefIdeal.τ).loc Cert.FoxBwdRefIdeal.main_arg3) = m ((c.tc : Thread Cert.FoxBwdRefIdeal.nD Cert.FoxBwdRefIdeal.τ).loc Cert.FoxBwdRefIdeal.main_arg3)
      ∧ r.2.mem ((c.tc : Thread Cert.FoxBwdRefIdeal.nD Cert.FoxBwdRefIdeal.τ).loc Cert.FoxBwdRefIdeal.main_arg4) = m ((c.tc : Thread Cert.FoxBwdRefIdeal.nD Cert.FoxBwdRefIdeal.τ).loc Cert.FoxBwdRefIdeal.main_arg4)
      ∧ r.2.mem ((c.tc : Thread Cert.FoxBwdRefIdeal.nD Cert.FoxBwdRefIdeal.τ).loc Cert.FoxBwdRefIdeal.main_arg5) = m ((c.tc : Thread Cert.FoxBwdRefIdeal.nD Cert.FoxBwdRefIdeal.τ).loc Cert.FoxBwdRefIdeal.main_arg5))
      ∧ r.2.sem = fun _ => 0)

def quiescent_FoxPost [hFoxPost : Cert.FoxPost.Facts] : Prop :=
  ∀ (m : (ℓ : Loc Cert.FoxPost.nD Cert.FoxPost.τ Cert.FoxPost.sig) → Buf (Elt Bits) ℓ) (g : Dev Cert.FoxPost.nD → PrngReg), Pre_FoxPost m →
    θ_run (Cert.FoxPost.defs (F := Bits)) (onTc (τ := Cert.FoxPost.τ) (Cert.FoxPost.main (F := Bits))) ⟨m, fun _ => 0, g⟩ (fun r => (∀ c : Dev Cert.FoxPost.nD,
      r.2.mem ((c.tc : Thread Cert.FoxPost.nD Cert.FoxPost.τ).loc Cert.FoxPost.main_arg0) = m ((c.tc : Thread Cert.FoxPost.nD Cert.FoxPost.τ).loc Cert.FoxPost.main_arg0)
      ∧ r.2.mem ((c.tc : Thread Cert.FoxPost.nD Cert.FoxPost.τ).loc Cert.FoxPost.main_arg1) = m ((c.tc : Thread Cert.FoxPost.nD Cert.FoxPost.τ).loc Cert.FoxPost.main_arg1)
      ∧ r.2.mem ((c.tc : Thread Cert.FoxPost.nD Cert.FoxPost.τ).loc Cert.FoxPost.main_arg2) = m ((c.tc : Thread Cert.FoxPost.nD Cert.FoxPost.τ).loc Cert.FoxPost.main_arg2)
      ∧ r.2.mem ((c.tc : Thread Cert.FoxPost.nD Cert.FoxPost.τ).loc Cert.FoxPost.main_arg3) = m ((c.tc : Thread Cert.FoxPost.nD Cert.FoxPost.τ).loc Cert.FoxPost.main_arg3))
      ∧ r.2.sem = fun _ => 0)

def quiescent_FoxPostIdeal [hFoxPostIdeal : Cert.FoxPostIdeal.Facts] : Prop :=
  ∀ (m : (ℓ : Loc Cert.FoxPostIdeal.nD Cert.FoxPostIdeal.τ Cert.FoxPostIdeal.sig) → Buf (Elt Ideal) ℓ) (g : Dev Cert.FoxPostIdeal.nD → PrngReg), Pre_FoxPostIdeal m →
    θ_run (Cert.FoxPostIdeal.defs (F := Ideal)) (onTc (τ := Cert.FoxPostIdeal.τ) (Cert.FoxPostIdeal.main (F := Ideal))) ⟨m, fun _ => 0, g⟩ (fun r => (∀ c : Dev Cert.FoxPostIdeal.nD,
      r.2.mem ((c.tc : Thread Cert.FoxPostIdeal.nD Cert.FoxPostIdeal.τ).loc Cert.FoxPostIdeal.main_arg0) = m ((c.tc : Thread Cert.FoxPostIdeal.nD Cert.FoxPostIdeal.τ).loc Cert.FoxPostIdeal.main_arg0)
      ∧ r.2.mem ((c.tc : Thread Cert.FoxPostIdeal.nD Cert.FoxPostIdeal.τ).loc Cert.FoxPostIdeal.main_arg1) = m ((c.tc : Thread Cert.FoxPostIdeal.nD Cert.FoxPostIdeal.τ).loc Cert.FoxPostIdeal.main_arg1)
      ∧ r.2.mem ((c.tc : Thread Cert.FoxPostIdeal.nD Cert.FoxPostIdeal.τ).loc Cert.FoxPostIdeal.main_arg2) = m ((c.tc : Thread Cert.FoxPostIdeal.nD Cert.FoxPostIdeal.τ).loc Cert.FoxPostIdeal.main_arg2)
      ∧ r.2.mem ((c.tc : Thread Cert.FoxPostIdeal.nD Cert.FoxPostIdeal.τ).loc Cert.FoxPostIdeal.main_arg3) = m ((c.tc : Thread Cert.FoxPostIdeal.nD Cert.FoxPostIdeal.τ).loc Cert.FoxPostIdeal.main_arg3))
      ∧ r.2.sem = fun _ => 0)

def quiescent_FoxPostIdeal_pre_finite_foxpost [hFoxPostIdeal : Cert.FoxPostIdeal.Facts] [hPre_finite_foxpost : Cert.Pre_finite_foxpost.Facts] : Prop :=
  ∀ (m : (ℓ : Loc Cert.FoxPostIdeal.nD Cert.FoxPostIdeal.τ Cert.FoxPostIdeal.sig) → Buf (Elt Ideal) ℓ) (g : Dev Cert.FoxPostIdeal.nD → PrngReg), Pre_FoxPostIdeal_finite_foxpost m →
    θ_run (Cert.FoxPostIdeal.defs (F := Ideal)) (onTc (τ := Cert.FoxPostIdeal.τ) (Cert.FoxPostIdeal.main (F := Ideal))) ⟨m, fun _ => 0, g⟩ (fun r => (∀ c : Dev Cert.FoxPostIdeal.nD,
      r.2.mem ((c.tc : Thread Cert.FoxPostIdeal.nD Cert.FoxPostIdeal.τ).loc Cert.FoxPostIdeal.main_arg0) = m ((c.tc : Thread Cert.FoxPostIdeal.nD Cert.FoxPostIdeal.τ).loc Cert.FoxPostIdeal.main_arg0)
      ∧ r.2.mem ((c.tc : Thread Cert.FoxPostIdeal.nD Cert.FoxPostIdeal.τ).loc Cert.FoxPostIdeal.main_arg1) = m ((c.tc : Thread Cert.FoxPostIdeal.nD Cert.FoxPostIdeal.τ).loc Cert.FoxPostIdeal.main_arg1)
      ∧ r.2.mem ((c.tc : Thread Cert.FoxPostIdeal.nD Cert.FoxPostIdeal.τ).loc Cert.FoxPostIdeal.main_arg2) = m ((c.tc : Thread Cert.FoxPostIdeal.nD Cert.FoxPostIdeal.τ).loc Cert.FoxPostIdeal.main_arg2)
      ∧ r.2.mem ((c.tc : Thread Cert.FoxPostIdeal.nD Cert.FoxPostIdeal.τ).loc Cert.FoxPostIdeal.main_arg3) = m ((c.tc : Thread Cert.FoxPostIdeal.nD Cert.FoxPostIdeal.τ).loc Cert.FoxPostIdeal.main_arg3))
      ∧ r.2.sem = fun _ => 0)

def quiescent_FoxPostRefIdeal [hFoxPostRefIdeal : Cert.FoxPostRefIdeal.Facts] : Prop :=
  ∀ (m : (ℓ : Loc Cert.FoxPostRefIdeal.nD Cert.FoxPostRefIdeal.τ Cert.FoxPostRefIdeal.sig) → Buf (Elt Ideal) ℓ) (g : Dev Cert.FoxPostRefIdeal.nD → PrngReg), Pre_FoxPostRefIdeal m →
    θ_run (Cert.FoxPostRefIdeal.defs (F := Ideal)) (onTc (τ := Cert.FoxPostRefIdeal.τ) (Cert.FoxPostRefIdeal.main (F := Ideal))) ⟨m, fun _ => 0, g⟩ (fun r => (∀ c : Dev Cert.FoxPostRefIdeal.nD,
      r.2.mem ((c.tc : Thread Cert.FoxPostRefIdeal.nD Cert.FoxPostRefIdeal.τ).loc Cert.FoxPostRefIdeal.main_arg0) = m ((c.tc : Thread Cert.FoxPostRefIdeal.nD Cert.FoxPostRefIdeal.τ).loc Cert.FoxPostRefIdeal.main_arg0)
      ∧ r.2.mem ((c.tc : Thread Cert.FoxPostRefIdeal.nD Cert.FoxPostRefIdeal.τ).loc Cert.FoxPostRefIdeal.main_arg1) = m ((c.tc : Thread Cert.FoxPostRefIdeal.nD Cert.FoxPostRefIdeal.τ).loc Cert.FoxPostRefIdeal.main_arg1)
      ∧ r.2.mem ((c.tc : Thread Cert.FoxPostRefIdeal.nD Cert.FoxPostRefIdeal.τ).loc Cert.FoxPostRefIdeal.main_arg2) = m ((c.tc : Thread Cert.FoxPostRefIdeal.nD Cert.FoxPostRefIdeal.τ).loc Cert.FoxPostRefIdeal.main_arg2)
      ∧ r.2.mem ((c.tc : Thread Cert.FoxPostRefIdeal.nD Cert.FoxPostRefIdeal.τ).loc Cert.FoxPostRefIdeal.main_arg3) = m ((c.tc : Thread Cert.FoxPostRefIdeal.nD Cert.FoxPostRefIdeal.τ).loc Cert.FoxPostRefIdeal.main_arg3))
      ∧ r.2.sem = fun _ => 0)

def quiescent_FoxPostRefIdeal_pre_finite_foxpost [hFoxPostRefIdeal : Cert.FoxPostRefIdeal.Facts] [hPre_finite_foxpost : Cert.Pre_finite_foxpost.Facts] : Prop :=
  ∀ (m : (ℓ : Loc Cert.FoxPostRefIdeal.nD Cert.FoxPostRefIdeal.τ Cert.FoxPostRefIdeal.sig) → Buf (Elt Ideal) ℓ) (g : Dev Cert.FoxPostRefIdeal.nD → PrngReg), Pre_FoxPostRefIdeal_finite_foxpost m →
    θ_run (Cert.FoxPostRefIdeal.defs (F := Ideal)) (onTc (τ := Cert.FoxPostRefIdeal.τ) (Cert.FoxPostRefIdeal.main (F := Ideal))) ⟨m, fun _ => 0, g⟩ (fun r => (∀ c : Dev Cert.FoxPostRefIdeal.nD,
      r.2.mem ((c.tc : Thread Cert.FoxPostRefIdeal.nD Cert.FoxPostRefIdeal.τ).loc Cert.FoxPostRefIdeal.main_arg0) = m ((c.tc : Thread Cert.FoxPostRefIdeal.nD Cert.FoxPostRefIdeal.τ).loc Cert.FoxPostRefIdeal.main_arg0)
      ∧ r.2.mem ((c.tc : Thread Cert.FoxPostRefIdeal.nD Cert.FoxPostRefIdeal.τ).loc Cert.FoxPostRefIdeal.main_arg1) = m ((c.tc : Thread Cert.FoxPostRefIdeal.nD Cert.FoxPostRefIdeal.τ).loc Cert.FoxPostRefIdeal.main_arg1)
      ∧ r.2.mem ((c.tc : Thread Cert.FoxPostRefIdeal.nD Cert.FoxPostRefIdeal.τ).loc Cert.FoxPostRefIdeal.main_arg2) = m ((c.tc : Thread Cert.FoxPostRefIdeal.nD Cert.FoxPostRefIdeal.τ).loc Cert.FoxPostRefIdeal.main_arg2)
      ∧ r.2.mem ((c.tc : Thread Cert.FoxPostRefIdeal.nD Cert.FoxPostRefIdeal.τ).loc Cert.FoxPostRefIdeal.main_arg3) = m ((c.tc : Thread Cert.FoxPostRefIdeal.nD Cert.FoxPostRefIdeal.τ).loc Cert.FoxPostRefIdeal.main_arg3))
      ∧ r.2.sem = fun _ => 0)

def quiescent_MlpB [hMlpB : Cert.MlpB.Facts] : Prop :=
  ∀ (m : (ℓ : Loc Cert.MlpB.nD Cert.MlpB.τ Cert.MlpB.sig) → Buf (Elt Bits) ℓ) (g : Dev Cert.MlpB.nD → PrngReg), Pre_MlpB m →
    θ_run (Cert.MlpB.defs (F := Bits)) (onTc (τ := Cert.MlpB.τ) (Cert.MlpB.main (F := Bits))) ⟨m, fun _ => 0, g⟩ (fun r => (∀ c : Dev Cert.MlpB.nD,
      r.2.mem ((c.tc : Thread Cert.MlpB.nD Cert.MlpB.τ).loc Cert.MlpB.main_arg0) = m ((c.tc : Thread Cert.MlpB.nD Cert.MlpB.τ).loc Cert.MlpB.main_arg0)
      ∧ r.2.mem ((c.tc : Thread Cert.MlpB.nD Cert.MlpB.τ).loc Cert.MlpB.main_arg1) = m ((c.tc : Thread Cert.MlpB.nD Cert.MlpB.τ).loc Cert.MlpB.main_arg1)
      ∧ r.2.mem ((c.tc : Thread Cert.MlpB.nD Cert.MlpB.τ).loc Cert.MlpB.main_arg2) = m ((c.tc : Thread Cert.MlpB.nD Cert.MlpB.τ).loc Cert.MlpB.main_arg2)
      ∧ r.2.mem ((c.tc : Thread Cert.MlpB.nD Cert.MlpB.τ).loc Cert.MlpB.main_arg3) = m ((c.tc : Thread Cert.MlpB.nD Cert.MlpB.τ).loc Cert.MlpB.main_arg3)
      ∧ r.2.mem ((c.tc : Thread Cert.MlpB.nD Cert.MlpB.τ).loc Cert.MlpB.main_arg4) = m ((c.tc : Thread Cert.MlpB.nD Cert.MlpB.τ).loc Cert.MlpB.main_arg4))
      ∧ r.2.sem = fun _ => 0)

def quiescent_MlpBIdeal [hMlpBIdeal : Cert.MlpBIdeal.Facts] : Prop :=
  ∀ (m : (ℓ : Loc Cert.MlpBIdeal.nD Cert.MlpBIdeal.τ Cert.MlpBIdeal.sig) → Buf (Elt Ideal) ℓ) (g : Dev Cert.MlpBIdeal.nD → PrngReg), Pre_MlpBIdeal m →
    θ_run (Cert.MlpBIdeal.defs (F := Ideal)) (onTc (τ := Cert.MlpBIdeal.τ) (Cert.MlpBIdeal.main (F := Ideal))) ⟨m, fun _ => 0, g⟩ (fun r => (∀ c : Dev Cert.MlpBIdeal.nD,
      r.2.mem ((c.tc : Thread Cert.MlpBIdeal.nD Cert.MlpBIdeal.τ).loc Cert.MlpBIdeal.main_arg0) = m ((c.tc : Thread Cert.MlpBIdeal.nD Cert.MlpBIdeal.τ).loc Cert.MlpBIdeal.main_arg0)
      ∧ r.2.mem ((c.tc : Thread Cert.MlpBIdeal.nD Cert.MlpBIdeal.τ).loc Cert.MlpBIdeal.main_arg1) = m ((c.tc : Thread Cert.MlpBIdeal.nD Cert.MlpBIdeal.τ).loc Cert.MlpBIdeal.main_arg1)
      ∧ r.2.mem ((c.tc : Thread Cert.MlpBIdeal.nD Cert.MlpBIdeal.τ).loc Cert.MlpBIdeal.main_arg2) = m ((c.tc : Thread Cert.MlpBIdeal.nD Cert.MlpBIdeal.τ).loc Cert.MlpBIdeal.main_arg2)
      ∧ r.2.mem ((c.tc : Thread Cert.MlpBIdeal.nD Cert.MlpBIdeal.τ).loc Cert.MlpBIdeal.main_arg3) = m ((c.tc : Thread Cert.MlpBIdeal.nD Cert.MlpBIdeal.τ).loc Cert.MlpBIdeal.main_arg3)
      ∧ r.2.mem ((c.tc : Thread Cert.MlpBIdeal.nD Cert.MlpBIdeal.τ).loc Cert.MlpBIdeal.main_arg4) = m ((c.tc : Thread Cert.MlpBIdeal.nD Cert.MlpBIdeal.τ).loc Cert.MlpBIdeal.main_arg4))
      ∧ r.2.sem = fun _ => 0)

def quiescent_MlpBIdeal_pre_finite_mlpb [hMlpBIdeal : Cert.MlpBIdeal.Facts] [hPre_finite_mlpb : Cert.Pre_finite_mlpb.Facts] : Prop :=
  ∀ (m : (ℓ : Loc Cert.MlpBIdeal.nD Cert.MlpBIdeal.τ Cert.MlpBIdeal.sig) → Buf (Elt Ideal) ℓ) (g : Dev Cert.MlpBIdeal.nD → PrngReg), Pre_MlpBIdeal_finite_mlpb m →
    θ_run (Cert.MlpBIdeal.defs (F := Ideal)) (onTc (τ := Cert.MlpBIdeal.τ) (Cert.MlpBIdeal.main (F := Ideal))) ⟨m, fun _ => 0, g⟩ (fun r => (∀ c : Dev Cert.MlpBIdeal.nD,
      r.2.mem ((c.tc : Thread Cert.MlpBIdeal.nD Cert.MlpBIdeal.τ).loc Cert.MlpBIdeal.main_arg0) = m ((c.tc : Thread Cert.MlpBIdeal.nD Cert.MlpBIdeal.τ).loc Cert.MlpBIdeal.main_arg0)
      ∧ r.2.mem ((c.tc : Thread Cert.MlpBIdeal.nD Cert.MlpBIdeal.τ).loc Cert.MlpBIdeal.main_arg1) = m ((c.tc : Thread Cert.MlpBIdeal.nD Cert.MlpBIdeal.τ).loc Cert.MlpBIdeal.main_arg1)
      ∧ r.2.mem ((c.tc : Thread Cert.MlpBIdeal.nD Cert.MlpBIdeal.τ).loc Cert.MlpBIdeal.main_arg2) = m ((c.tc : Thread Cert.MlpBIdeal.nD Cert.MlpBIdeal.τ).loc Cert.MlpBIdeal.main_arg2)
      ∧ r.2.mem ((c.tc : Thread Cert.MlpBIdeal.nD Cert.MlpBIdeal.τ).loc Cert.MlpBIdeal.main_arg3) = m ((c.tc : Thread Cert.MlpBIdeal.nD Cert.MlpBIdeal.τ).loc Cert.MlpBIdeal.main_arg3)
      ∧ r.2.mem ((c.tc : Thread Cert.MlpBIdeal.nD Cert.MlpBIdeal.τ).loc Cert.MlpBIdeal.main_arg4) = m ((c.tc : Thread Cert.MlpBIdeal.nD Cert.MlpBIdeal.τ).loc Cert.MlpBIdeal.main_arg4))
      ∧ r.2.sem = fun _ => 0)

def quiescent_MlpBRefIdeal [hMlpBRefIdeal : Cert.MlpBRefIdeal.Facts] : Prop :=
  ∀ (m : (ℓ : Loc Cert.MlpBRefIdeal.nD Cert.MlpBRefIdeal.τ Cert.MlpBRefIdeal.sig) → Buf (Elt Ideal) ℓ) (g : Dev Cert.MlpBRefIdeal.nD → PrngReg), Pre_MlpBRefIdeal m →
    θ_run (Cert.MlpBRefIdeal.defs (F := Ideal)) (onTc (τ := Cert.MlpBRefIdeal.τ) (Cert.MlpBRefIdeal.main (F := Ideal))) ⟨m, fun _ => 0, g⟩ (fun r => (∀ c : Dev Cert.MlpBRefIdeal.nD,
      r.2.mem ((c.tc : Thread Cert.MlpBRefIdeal.nD Cert.MlpBRefIdeal.τ).loc Cert.MlpBRefIdeal.main_arg0) = m ((c.tc : Thread Cert.MlpBRefIdeal.nD Cert.MlpBRefIdeal.τ).loc Cert.MlpBRefIdeal.main_arg0)
      ∧ r.2.mem ((c.tc : Thread Cert.MlpBRefIdeal.nD Cert.MlpBRefIdeal.τ).loc Cert.MlpBRefIdeal.main_arg1) = m ((c.tc : Thread Cert.MlpBRefIdeal.nD Cert.MlpBRefIdeal.τ).loc Cert.MlpBRefIdeal.main_arg1)
      ∧ r.2.mem ((c.tc : Thread Cert.MlpBRefIdeal.nD Cert.MlpBRefIdeal.τ).loc Cert.MlpBRefIdeal.main_arg2) = m ((c.tc : Thread Cert.MlpBRefIdeal.nD Cert.MlpBRefIdeal.τ).loc Cert.MlpBRefIdeal.main_arg2)
      ∧ r.2.mem ((c.tc : Thread Cert.MlpBRefIdeal.nD Cert.MlpBRefIdeal.τ).loc Cert.MlpBRefIdeal.main_arg3) = m ((c.tc : Thread Cert.MlpBRefIdeal.nD Cert.MlpBRefIdeal.τ).loc Cert.MlpBRefIdeal.main_arg3)
      ∧ r.2.mem ((c.tc : Thread Cert.MlpBRefIdeal.nD Cert.MlpBRefIdeal.τ).loc Cert.MlpBRefIdeal.main_arg4) = m ((c.tc : Thread Cert.MlpBRefIdeal.nD Cert.MlpBRefIdeal.τ).loc Cert.MlpBRefIdeal.main_arg4))
      ∧ r.2.sem = fun _ => 0)

def quiescent_MlpBRefIdeal_pre_finite_mlpb [hMlpBRefIdeal : Cert.MlpBRefIdeal.Facts] [hPre_finite_mlpb : Cert.Pre_finite_mlpb.Facts] : Prop :=
  ∀ (m : (ℓ : Loc Cert.MlpBRefIdeal.nD Cert.MlpBRefIdeal.τ Cert.MlpBRefIdeal.sig) → Buf (Elt Ideal) ℓ) (g : Dev Cert.MlpBRefIdeal.nD → PrngReg), Pre_MlpBRefIdeal_finite_mlpb m →
    θ_run (Cert.MlpBRefIdeal.defs (F := Ideal)) (onTc (τ := Cert.MlpBRefIdeal.τ) (Cert.MlpBRefIdeal.main (F := Ideal))) ⟨m, fun _ => 0, g⟩ (fun r => (∀ c : Dev Cert.MlpBRefIdeal.nD,
      r.2.mem ((c.tc : Thread Cert.MlpBRefIdeal.nD Cert.MlpBRefIdeal.τ).loc Cert.MlpBRefIdeal.main_arg0) = m ((c.tc : Thread Cert.MlpBRefIdeal.nD Cert.MlpBRefIdeal.τ).loc Cert.MlpBRefIdeal.main_arg0)
      ∧ r.2.mem ((c.tc : Thread Cert.MlpBRefIdeal.nD Cert.MlpBRefIdeal.τ).loc Cert.MlpBRefIdeal.main_arg1) = m ((c.tc : Thread Cert.MlpBRefIdeal.nD Cert.MlpBRefIdeal.τ).loc Cert.MlpBRefIdeal.main_arg1)
      ∧ r.2.mem ((c.tc : Thread Cert.MlpBRefIdeal.nD Cert.MlpBRefIdeal.τ).loc Cert.MlpBRefIdeal.main_arg2) = m ((c.tc : Thread Cert.MlpBRefIdeal.nD Cert.MlpBRefIdeal.τ).loc Cert.MlpBRefIdeal.main_arg2)
      ∧ r.2.mem ((c.tc : Thread Cert.MlpBRefIdeal.nD Cert.MlpBRefIdeal.τ).loc Cert.MlpBRefIdeal.main_arg3) = m ((c.tc : Thread Cert.MlpBRefIdeal.nD Cert.MlpBRefIdeal.τ).loc Cert.MlpBRefIdeal.main_arg3)
      ∧ r.2.mem ((c.tc : Thread Cert.MlpBRefIdeal.nD Cert.MlpBRefIdeal.τ).loc Cert.MlpBRefIdeal.main_arg4) = m ((c.tc : Thread Cert.MlpBRefIdeal.nD Cert.MlpBRefIdeal.τ).loc Cert.MlpBRefIdeal.main_arg4))
      ∧ r.2.sem = fun _ => 0)

def quiescent_MlpA [hMlpA : Cert.MlpA.Facts] : Prop :=
  ∀ (m : (ℓ : Loc Cert.MlpA.nD Cert.MlpA.τ Cert.MlpA.sig) → Buf (Elt Bits) ℓ) (g : Dev Cert.MlpA.nD → PrngReg), Pre_MlpA m →
    θ_run (Cert.MlpA.defs (F := Bits)) (onTc (τ := Cert.MlpA.τ) (Cert.MlpA.main (F := Bits))) ⟨m, fun _ => 0, g⟩ (fun r => (∀ c : Dev Cert.MlpA.nD,
      r.2.mem ((c.tc : Thread Cert.MlpA.nD Cert.MlpA.τ).loc Cert.MlpA.main_arg0) = m ((c.tc : Thread Cert.MlpA.nD Cert.MlpA.τ).loc Cert.MlpA.main_arg0)
      ∧ r.2.mem ((c.tc : Thread Cert.MlpA.nD Cert.MlpA.τ).loc Cert.MlpA.main_arg1) = m ((c.tc : Thread Cert.MlpA.nD Cert.MlpA.τ).loc Cert.MlpA.main_arg1)
      ∧ r.2.mem ((c.tc : Thread Cert.MlpA.nD Cert.MlpA.τ).loc Cert.MlpA.main_arg2) = m ((c.tc : Thread Cert.MlpA.nD Cert.MlpA.τ).loc Cert.MlpA.main_arg2)
      ∧ r.2.mem ((c.tc : Thread Cert.MlpA.nD Cert.MlpA.τ).loc Cert.MlpA.main_arg3) = m ((c.tc : Thread Cert.MlpA.nD Cert.MlpA.τ).loc Cert.MlpA.main_arg3))
      ∧ r.2.sem = fun _ => 0)

def quiescent_MlpAIdeal [hMlpAIdeal : Cert.MlpAIdeal.Facts] : Prop :=
  ∀ (m : (ℓ : Loc Cert.MlpAIdeal.nD Cert.MlpAIdeal.τ Cert.MlpAIdeal.sig) → Buf (Elt Ideal) ℓ) (g : Dev Cert.MlpAIdeal.nD → PrngReg), Pre_MlpAIdeal m →
    θ_run (Cert.MlpAIdeal.defs (F := Ideal)) (onTc (τ := Cert.MlpAIdeal.τ) (Cert.MlpAIdeal.main (F := Ideal))) ⟨m, fun _ => 0, g⟩ (fun r => (∀ c : Dev Cert.MlpAIdeal.nD,
      r.2.mem ((c.tc : Thread Cert.MlpAIdeal.nD Cert.MlpAIdeal.τ).loc Cert.MlpAIdeal.main_arg0) = m ((c.tc : Thread Cert.MlpAIdeal.nD Cert.MlpAIdeal.τ).loc Cert.MlpAIdeal.main_arg0)
      ∧ r.2.mem ((c.tc : Thread Cert.MlpAIdeal.nD Cert.MlpAIdeal.τ).loc Cert.MlpAIdeal.main_arg1) = m ((c.tc : Thread Cert.MlpAIdeal.nD Cert.MlpAIdeal.τ).loc Cert.MlpAIdeal.main_arg1)
      ∧ r.2.mem ((c.tc : Thread Cert.MlpAIdeal.nD Cert.MlpAIdeal.τ).loc Cert.MlpAIdeal.main_arg2) = m ((c.tc : Thread Cert.MlpAIdeal.nD Cert.MlpAIdeal.τ).loc Cert.MlpAIdeal.main_arg2)
      ∧ r.2.mem ((c.tc : Thread Cert.MlpAIdeal.nD Cert.MlpAIdeal.τ).loc Cert.MlpAIdeal.main_arg3) = m ((c.tc : Thread Cert.MlpAIdeal.nD Cert.MlpAIdeal.τ).loc Cert.MlpAIdeal.main_arg3))
      ∧ r.2.sem = fun _ => 0)

def quiescent_MlpAIdeal_pre_finite_mlpa [hMlpAIdeal : Cert.MlpAIdeal.Facts] [hPre_finite_mlpa : Cert.Pre_finite_mlpa.Facts] : Prop :=
  ∀ (m : (ℓ : Loc Cert.MlpAIdeal.nD Cert.MlpAIdeal.τ Cert.MlpAIdeal.sig) → Buf (Elt Ideal) ℓ) (g : Dev Cert.MlpAIdeal.nD → PrngReg), Pre_MlpAIdeal_finite_mlpa m →
    θ_run (Cert.MlpAIdeal.defs (F := Ideal)) (onTc (τ := Cert.MlpAIdeal.τ) (Cert.MlpAIdeal.main (F := Ideal))) ⟨m, fun _ => 0, g⟩ (fun r => (∀ c : Dev Cert.MlpAIdeal.nD,
      r.2.mem ((c.tc : Thread Cert.MlpAIdeal.nD Cert.MlpAIdeal.τ).loc Cert.MlpAIdeal.main_arg0) = m ((c.tc : Thread Cert.MlpAIdeal.nD Cert.MlpAIdeal.τ).loc Cert.MlpAIdeal.main_arg0)
      ∧ r.2.mem ((c.tc : Thread Cert.MlpAIdeal.nD Cert.MlpAIdeal.τ).loc Cert.MlpAIdeal.main_arg1) = m ((c.tc : Thread Cert.MlpAIdeal.nD Cert.MlpAIdeal.τ).loc Cert.MlpAIdeal.main_arg1)
      ∧ r.2.mem ((c.tc : Thread Cert.MlpAIdeal.nD Cert.MlpAIdeal.τ).loc Cert.MlpAIdeal.main_arg2) = m ((c.tc : Thread Cert.MlpAIdeal.nD Cert.MlpAIdeal.τ).loc Cert.MlpAIdeal.main_arg2)
      ∧ r.2.mem ((c.tc : Thread Cert.MlpAIdeal.nD Cert.MlpAIdeal.τ).loc Cert.MlpAIdeal.main_arg3) = m ((c.tc : Thread Cert.MlpAIdeal.nD Cert.MlpAIdeal.τ).loc Cert.MlpAIdeal.main_arg3))
      ∧ r.2.sem = fun _ => 0)

def quiescent_MlpARefIdeal [hMlpARefIdeal : Cert.MlpARefIdeal.Facts] : Prop :=
  ∀ (m : (ℓ : Loc Cert.MlpARefIdeal.nD Cert.MlpARefIdeal.τ Cert.MlpARefIdeal.sig) → Buf (Elt Ideal) ℓ) (g : Dev Cert.MlpARefIdeal.nD → PrngReg), Pre_MlpARefIdeal m →
    θ_run (Cert.MlpARefIdeal.defs (F := Ideal)) (onTc (τ := Cert.MlpARefIdeal.τ) (Cert.MlpARefIdeal.main (F := Ideal))) ⟨m, fun _ => 0, g⟩ (fun r => (∀ c : Dev Cert.MlpARefIdeal.nD,
      r.2.mem ((c.tc : Thread Cert.MlpARefIdeal.nD Cert.MlpARefIdeal.τ).loc Cert.MlpARefIdeal.main_arg0) = m ((c.tc : Thread Cert.MlpARefIdeal.nD Cert.MlpARefIdeal.τ).loc Cert.MlpARefIdeal.main_arg0)
      ∧ r.2.mem ((c.tc : Thread Cert.MlpARefIdeal.nD Cert.MlpARefIdeal.τ).loc Cert.MlpARefIdeal.main_arg1) = m ((c.tc : Thread Cert.MlpARefIdeal.nD Cert.MlpARefIdeal.τ).loc Cert.MlpARefIdeal.main_arg1)
      ∧ r.2.mem ((c.tc : Thread Cert.MlpARefIdeal.nD Cert.MlpARefIdeal.τ).loc Cert.MlpARefIdeal.main_arg2) = m ((c.tc : Thread Cert.MlpARefIdeal.nD Cert.MlpARefIdeal.τ).loc Cert.MlpARefIdeal.main_arg2)
      ∧ r.2.mem ((c.tc : Thread Cert.MlpARefIdeal.nD Cert.MlpARefIdeal.τ).loc Cert.MlpARefIdeal.main_arg3) = m ((c.tc : Thread Cert.MlpARefIdeal.nD Cert.MlpARefIdeal.τ).loc Cert.MlpARefIdeal.main_arg3))
      ∧ r.2.sem = fun _ => 0)

def quiescent_MlpARefIdeal_pre_finite_mlpa [hMlpARefIdeal : Cert.MlpARefIdeal.Facts] [hPre_finite_mlpa : Cert.Pre_finite_mlpa.Facts] : Prop :=
  ∀ (m : (ℓ : Loc Cert.MlpARefIdeal.nD Cert.MlpARefIdeal.τ Cert.MlpARefIdeal.sig) → Buf (Elt Ideal) ℓ) (g : Dev Cert.MlpARefIdeal.nD → PrngReg), Pre_MlpARefIdeal_finite_mlpa m →
    θ_run (Cert.MlpARefIdeal.defs (F := Ideal)) (onTc (τ := Cert.MlpARefIdeal.τ) (Cert.MlpARefIdeal.main (F := Ideal))) ⟨m, fun _ => 0, g⟩ (fun r => (∀ c : Dev Cert.MlpARefIdeal.nD,
      r.2.mem ((c.tc : Thread Cert.MlpARefIdeal.nD Cert.MlpARefIdeal.τ).loc Cert.MlpARefIdeal.main_arg0) = m ((c.tc : Thread Cert.MlpARefIdeal.nD Cert.MlpARefIdeal.τ).loc Cert.MlpARefIdeal.main_arg0)
      ∧ r.2.mem ((c.tc : Thread Cert.MlpARefIdeal.nD Cert.MlpARefIdeal.τ).loc Cert.MlpARefIdeal.main_arg1) = m ((c.tc : Thread Cert.MlpARefIdeal.nD Cert.MlpARefIdeal.τ).loc Cert.MlpARefIdeal.main_arg1)
      ∧ r.2.mem ((c.tc : Thread Cert.MlpARefIdeal.nD Cert.MlpARefIdeal.τ).loc Cert.MlpARefIdeal.main_arg2) = m ((c.tc : Thread Cert.MlpARefIdeal.nD Cert.MlpARefIdeal.τ).loc Cert.MlpARefIdeal.main_arg2)
      ∧ r.2.mem ((c.tc : Thread Cert.MlpARefIdeal.nD Cert.MlpARefIdeal.τ).loc Cert.MlpARefIdeal.main_arg3) = m ((c.tc : Thread Cert.MlpARefIdeal.nD Cert.MlpARefIdeal.τ).loc Cert.MlpARefIdeal.main_arg3))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7))
      ∧ r.2.sem = fun _ => 0)

def quiescent_MixOutIdeal_pre_finite_mixout [hMixOutIdeal : Cert.MixOutIdeal.Facts] [hPre_finite_mixout : Cert.Pre_finite_mixout.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal_finite_mixout m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7))
      ∧ r.2.sem = fun _ => 0)

def quiescent_MixOutRefIdeal_pre_finite_mixout [hMixOutRefIdeal : Cert.MixOutRefIdeal.Facts] [hPre_finite_mixout : Cert.Pre_finite_mixout.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal_finite_mixout m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4)
      ∧ r.2.mem ((c.tc : Thread Cert.MixIn.nD Cert.MixIn.τ).loc Cert.MixIn.main_arg5) = m ((c.tc : Thread Cert.MixIn.nD Cert.MixIn.τ).loc Cert.MixIn.main_arg5)
      ∧ r.2.mem ((c.tc : Thread Cert.MixIn.nD Cert.MixIn.τ).loc Cert.MixIn.main_arg6) = m ((c.tc : Thread Cert.MixIn.nD Cert.MixIn.τ).loc Cert.MixIn.main_arg6)
      ∧ r.2.mem ((c.tc : Thread Cert.MixIn.nD Cert.MixIn.τ).loc Cert.MixIn.main_arg7) = m ((c.tc : Thread Cert.MixIn.nD Cert.MixIn.τ).loc Cert.MixIn.main_arg7)
      ∧ r.2.mem ((c.tc : Thread Cert.MixIn.nD Cert.MixIn.τ).loc Cert.MixIn.main_arg8) = m ((c.tc : Thread Cert.MixIn.nD Cert.MixIn.τ).loc Cert.MixIn.main_arg8)
      ∧ r.2.mem ((c.tc : Thread Cert.MixIn.nD Cert.MixIn.τ).loc Cert.MixIn.main_arg9) = m ((c.tc : Thread Cert.MixIn.nD Cert.MixIn.τ).loc Cert.MixIn.main_arg9)
      ∧ r.2.mem ((c.tc : Thread Cert.MixIn.nD Cert.MixIn.τ).loc Cert.MixIn.main_arg10) = m ((c.tc : Thread Cert.MixIn.nD Cert.MixIn.τ).loc Cert.MixIn.main_arg10))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
      ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
      ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6)
      ∧ r.2.mem ((c.tc : Thread Cert.MixInIdeal.nD Cert.MixInIdeal.τ).loc Cert.MixInIdeal.main_arg7) = m ((c.tc : Thread Cert.MixInIdeal.nD Cert.MixInIdeal.τ).loc Cert.MixInIdeal.main_arg7)
      ∧ r.2.mem ((c.tc : Thread Cert.MixInIdeal.nD Cert.MixInIdeal.τ).loc Cert.MixInIdeal.main_arg8) = m ((c.tc : Thread Cert.MixInIdeal.nD Cert.MixInIdeal.τ).loc Cert.MixInIdeal.main_arg8)
      ∧ r.2.mem ((c.tc : Thread Cert.MixInIdeal.nD Cert.MixInIdeal.τ).loc Cert.MixInIdeal.main_arg9) = m ((c.tc : Thread Cert.MixInIdeal.nD Cert.MixInIdeal.τ).loc Cert.MixInIdeal.main_arg9)
      ∧ r.2.mem ((c.tc : Thread Cert.MixInIdeal.nD Cert.MixInIdeal.τ).loc Cert.MixInIdeal.main_arg10) = m ((c.tc : Thread Cert.MixInIdeal.nD Cert.MixInIdeal.τ).loc Cert.MixInIdeal.main_arg10))
      ∧ r.2.sem = fun _ => 0)

def quiescent_MixInIdeal_pre_finite_mixin [hMixInIdeal : Cert.MixInIdeal.Facts] [hPre_finite_mixin : Cert.Pre_finite_mixin.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal_finite_mixin m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
      ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
      ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6)
      ∧ r.2.mem ((c.tc : Thread Cert.MixInIdeal.nD Cert.MixInIdeal.τ).loc Cert.MixInIdeal.main_arg7) = m ((c.tc : Thread Cert.MixInIdeal.nD Cert.MixInIdeal.τ).loc Cert.MixInIdeal.main_arg7)
      ∧ r.2.mem ((c.tc : Thread Cert.MixInIdeal.nD Cert.MixInIdeal.τ).loc Cert.MixInIdeal.main_arg8) = m ((c.tc : Thread Cert.MixInIdeal.nD Cert.MixInIdeal.τ).loc Cert.MixInIdeal.main_arg8)
      ∧ r.2.mem ((c.tc : Thread Cert.MixInIdeal.nD Cert.MixInIdeal.τ).loc Cert.MixInIdeal.main_arg9) = m ((c.tc : Thread Cert.MixInIdeal.nD Cert.MixInIdeal.τ).loc Cert.MixInIdeal.main_arg9)
      ∧ r.2.mem ((c.tc : Thread Cert.MixInIdeal.nD Cert.MixInIdeal.τ).loc Cert.MixInIdeal.main_arg10) = m ((c.tc : Thread Cert.MixInIdeal.nD Cert.MixInIdeal.τ).loc Cert.MixInIdeal.main_arg10))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4)
      ∧ r.2.mem ((c.tc : Thread Cert.MixInRefIdeal.nD Cert.MixInRefIdeal.τ).loc Cert.MixInRefIdeal.main_arg5) = m ((c.tc : Thread Cert.MixInRefIdeal.nD Cert.MixInRefIdeal.τ).loc Cert.MixInRefIdeal.main_arg5)
      ∧ r.2.mem ((c.tc : Thread Cert.MixInRefIdeal.nD Cert.MixInRefIdeal.τ).loc Cert.MixInRefIdeal.main_arg6) = m ((c.tc : Thread Cert.MixInRefIdeal.nD Cert.MixInRefIdeal.τ).loc Cert.MixInRefIdeal.main_arg6)
      ∧ r.2.mem ((c.tc : Thread Cert.MixInRefIdeal.nD Cert.MixInRefIdeal.τ).loc Cert.MixInRefIdeal.main_arg7) = m ((c.tc : Thread Cert.MixInRefIdeal.nD Cert.MixInRefIdeal.τ).loc Cert.MixInRefIdeal.main_arg7)
      ∧ r.2.mem ((c.tc : Thread Cert.MixInRefIdeal.nD Cert.MixInRefIdeal.τ).loc Cert.MixInRefIdeal.main_arg8) = m ((c.tc : Thread Cert.MixInRefIdeal.nD Cert.MixInRefIdeal.τ).loc Cert.MixInRefIdeal.main_arg8)
      ∧ r.2.mem ((c.tc : Thread Cert.MixInRefIdeal.nD Cert.MixInRefIdeal.τ).loc Cert.MixInRefIdeal.main_arg9) = m ((c.tc : Thread Cert.MixInRefIdeal.nD Cert.MixInRefIdeal.τ).loc Cert.MixInRefIdeal.main_arg9)
      ∧ r.2.mem ((c.tc : Thread Cert.MixInRefIdeal.nD Cert.MixInRefIdeal.τ).loc Cert.MixInRefIdeal.main_arg10) = m ((c.tc : Thread Cert.MixInRefIdeal.nD Cert.MixInRefIdeal.τ).loc Cert.MixInRefIdeal.main_arg10))
      ∧ r.2.sem = fun _ => 0)

def quiescent_MixInRefIdeal_pre_finite_mixin [hMixInRefIdeal : Cert.MixInRefIdeal.Facts] [hPre_finite_mixin : Cert.Pre_finite_mixin.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal_finite_mixin m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4)
      ∧ r.2.mem ((c.tc : Thread Cert.MixInRefIdeal.nD Cert.MixInRefIdeal.τ).loc Cert.MixInRefIdeal.main_arg5) = m ((c.tc : Thread Cert.MixInRefIdeal.nD Cert.MixInRefIdeal.τ).loc Cert.MixInRefIdeal.main_arg5)
      ∧ r.2.mem ((c.tc : Thread Cert.MixInRefIdeal.nD Cert.MixInRefIdeal.τ).loc Cert.MixInRefIdeal.main_arg6) = m ((c.tc : Thread Cert.MixInRefIdeal.nD Cert.MixInRefIdeal.τ).loc Cert.MixInRefIdeal.main_arg6)
      ∧ r.2.mem ((c.tc : Thread Cert.MixInRefIdeal.nD Cert.MixInRefIdeal.τ).loc Cert.MixInRefIdeal.main_arg7) = m ((c.tc : Thread Cert.MixInRefIdeal.nD Cert.MixInRefIdeal.τ).loc Cert.MixInRefIdeal.main_arg7)
      ∧ r.2.mem ((c.tc : Thread Cert.MixInRefIdeal.nD Cert.MixInRefIdeal.τ).loc Cert.MixInRefIdeal.main_arg8) = m ((c.tc : Thread Cert.MixInRefIdeal.nD Cert.MixInRefIdeal.τ).loc Cert.MixInRefIdeal.main_arg8)
      ∧ r.2.mem ((c.tc : Thread Cert.MixInRefIdeal.nD Cert.MixInRefIdeal.τ).loc Cert.MixInRefIdeal.main_arg9) = m ((c.tc : Thread Cert.MixInRefIdeal.nD Cert.MixInRefIdeal.τ).loc Cert.MixInRefIdeal.main_arg9)
      ∧ r.2.mem ((c.tc : Thread Cert.MixInRefIdeal.nD Cert.MixInRefIdeal.τ).loc Cert.MixInRefIdeal.main_arg10) = m ((c.tc : Thread Cert.MixInRefIdeal.nD Cert.MixInRefIdeal.τ).loc Cert.MixInRefIdeal.main_arg10))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ r.2.sem = fun _ => 0)

def quiescent_PleIdeal_pre_finite_ple [hPleIdeal : Cert.PleIdeal.Facts] [hPre_finite_ple : Cert.Pre_finite_ple.Facts] : Prop :=
  ∀ (m : (ℓ : Loc Cert.PleIdeal.nD Cert.PleIdeal.τ Cert.PleIdeal.sig) → Buf (Elt Ideal) ℓ) (g : Dev Cert.PleIdeal.nD → PrngReg), Pre_PleIdeal_finite_ple m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6))
      ∧ r.2.sem = fun _ => 0)

def quiescent_PleRefIdeal_pre_finite_ple [hPleRefIdeal : Cert.PleRefIdeal.Facts] [hPre_finite_ple : Cert.Pre_finite_ple.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal_finite_ple m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolIdeal_pre_finite_pool [hPoolIdeal : Cert.PoolIdeal.Facts] [hPre_finite_pool : Cert.Pre_finite_pool.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_finite_pool m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_PoolRefIdeal_pre_finite_pool [hPoolRefIdeal : Cert.PoolRefIdeal.Facts] [hPre_finite_pool : Cert.Pre_finite_pool.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_finite_pool m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_Conf [hConf : Cert.Conf.Facts] : Prop :=
  ∀ (m : (ℓ : Loc Cert.Conf.nD Cert.Conf.τ Cert.Conf.sig) → Buf (Elt Bits) ℓ) (g : Dev Cert.Conf.nD → PrngReg), Pre_Conf m →
    θ_run (Cert.Conf.defs (F := Bits)) (onTc (τ := Cert.Conf.τ) (Cert.Conf.main (F := Bits))) ⟨m, fun _ => 0, g⟩ (fun r => (∀ c : Dev Cert.Conf.nD,
      r.2.mem ((c.tc : Thread Cert.Conf.nD Cert.Conf.τ).loc Cert.Conf.main_arg0) = m ((c.tc : Thread Cert.Conf.nD Cert.Conf.τ).loc Cert.Conf.main_arg0)
      ∧ r.2.mem ((c.tc : Thread Cert.Conf.nD Cert.Conf.τ).loc Cert.Conf.main_arg1) = m ((c.tc : Thread Cert.Conf.nD Cert.Conf.τ).loc Cert.Conf.main_arg1)
      ∧ r.2.mem ((c.tc : Thread Cert.Conf.nD Cert.Conf.τ).loc Cert.Conf.main_arg2) = m ((c.tc : Thread Cert.Conf.nD Cert.Conf.τ).loc Cert.Conf.main_arg2)
      ∧ r.2.mem ((c.tc : Thread Cert.Conf.nD Cert.Conf.τ).loc Cert.Conf.main_arg3) = m ((c.tc : Thread Cert.Conf.nD Cert.Conf.τ).loc Cert.Conf.main_arg3)
      ∧ r.2.mem ((c.tc : Thread Cert.Conf.nD Cert.Conf.τ).loc Cert.Conf.main_arg4) = m ((c.tc : Thread Cert.Conf.nD Cert.Conf.τ).loc Cert.Conf.main_arg4)
      ∧ r.2.mem ((c.tc : Thread Cert.Conf.nD Cert.Conf.τ).loc Cert.Conf.main_arg5) = m ((c.tc : Thread Cert.Conf.nD Cert.Conf.τ).loc Cert.Conf.main_arg5))
      ∧ r.2.sem = fun _ => 0)

def quiescent_ConfIdeal [hConfIdeal : Cert.ConfIdeal.Facts] : Prop :=
  ∀ (m : (ℓ : Loc Cert.ConfIdeal.nD Cert.ConfIdeal.τ Cert.ConfIdeal.sig) → Buf (Elt Ideal) ℓ) (g : Dev Cert.ConfIdeal.nD → PrngReg), Pre_ConfIdeal m →
    θ_run (Cert.ConfIdeal.defs (F := Ideal)) (onTc (τ := Cert.ConfIdeal.τ) (Cert.ConfIdeal.main (F := Ideal))) ⟨m, fun _ => 0, g⟩ (fun r => (∀ c : Dev Cert.ConfIdeal.nD,
      r.2.mem ((c.tc : Thread Cert.ConfIdeal.nD Cert.ConfIdeal.τ).loc Cert.ConfIdeal.main_arg0) = m ((c.tc : Thread Cert.ConfIdeal.nD Cert.ConfIdeal.τ).loc Cert.ConfIdeal.main_arg0)
      ∧ r.2.mem ((c.tc : Thread Cert.ConfIdeal.nD Cert.ConfIdeal.τ).loc Cert.ConfIdeal.main_arg1) = m ((c.tc : Thread Cert.ConfIdeal.nD Cert.ConfIdeal.τ).loc Cert.ConfIdeal.main_arg1)
      ∧ r.2.mem ((c.tc : Thread Cert.ConfIdeal.nD Cert.ConfIdeal.τ).loc Cert.ConfIdeal.main_arg2) = m ((c.tc : Thread Cert.ConfIdeal.nD Cert.ConfIdeal.τ).loc Cert.ConfIdeal.main_arg2)
      ∧ r.2.mem ((c.tc : Thread Cert.ConfIdeal.nD Cert.ConfIdeal.τ).loc Cert.ConfIdeal.main_arg3) = m ((c.tc : Thread Cert.ConfIdeal.nD Cert.ConfIdeal.τ).loc Cert.ConfIdeal.main_arg3)
      ∧ r.2.mem ((c.tc : Thread Cert.ConfIdeal.nD Cert.ConfIdeal.τ).loc Cert.ConfIdeal.main_arg4) = m ((c.tc : Thread Cert.ConfIdeal.nD Cert.ConfIdeal.τ).loc Cert.ConfIdeal.main_arg4)
      ∧ r.2.mem ((c.tc : Thread Cert.ConfIdeal.nD Cert.ConfIdeal.τ).loc Cert.ConfIdeal.main_arg5) = m ((c.tc : Thread Cert.ConfIdeal.nD Cert.ConfIdeal.τ).loc Cert.ConfIdeal.main_arg5))
      ∧ r.2.sem = fun _ => 0)

def quiescent_ConfIdeal_pre_finite_conf [hConfIdeal : Cert.ConfIdeal.Facts] [hPre_finite_conf : Cert.Pre_finite_conf.Facts] : Prop :=
  ∀ (m : (ℓ : Loc Cert.ConfIdeal.nD Cert.ConfIdeal.τ Cert.ConfIdeal.sig) → Buf (Elt Ideal) ℓ) (g : Dev Cert.ConfIdeal.nD → PrngReg), Pre_ConfIdeal_finite_conf m →
    θ_run (Cert.ConfIdeal.defs (F := Ideal)) (onTc (τ := Cert.ConfIdeal.τ) (Cert.ConfIdeal.main (F := Ideal))) ⟨m, fun _ => 0, g⟩ (fun r => (∀ c : Dev Cert.ConfIdeal.nD,
      r.2.mem ((c.tc : Thread Cert.ConfIdeal.nD Cert.ConfIdeal.τ).loc Cert.ConfIdeal.main_arg0) = m ((c.tc : Thread Cert.ConfIdeal.nD Cert.ConfIdeal.τ).loc Cert.ConfIdeal.main_arg0)
      ∧ r.2.mem ((c.tc : Thread Cert.ConfIdeal.nD Cert.ConfIdeal.τ).loc Cert.ConfIdeal.main_arg1) = m ((c.tc : Thread Cert.ConfIdeal.nD Cert.ConfIdeal.τ).loc Cert.ConfIdeal.main_arg1)
      ∧ r.2.mem ((c.tc : Thread Cert.ConfIdeal.nD Cert.ConfIdeal.τ).loc Cert.ConfIdeal.main_arg2) = m ((c.tc : Thread Cert.ConfIdeal.nD Cert.ConfIdeal.τ).loc Cert.ConfIdeal.main_arg2)
      ∧ r.2.mem ((c.tc : Thread Cert.ConfIdeal.nD Cert.ConfIdeal.τ).loc Cert.ConfIdeal.main_arg3) = m ((c.tc : Thread Cert.ConfIdeal.nD Cert.ConfIdeal.τ).loc Cert.ConfIdeal.main_arg3)
      ∧ r.2.mem ((c.tc : Thread Cert.ConfIdeal.nD Cert.ConfIdeal.τ).loc Cert.ConfIdeal.main_arg4) = m ((c.tc : Thread Cert.ConfIdeal.nD Cert.ConfIdeal.τ).loc Cert.ConfIdeal.main_arg4)
      ∧ r.2.mem ((c.tc : Thread Cert.ConfIdeal.nD Cert.ConfIdeal.τ).loc Cert.ConfIdeal.main_arg5) = m ((c.tc : Thread Cert.ConfIdeal.nD Cert.ConfIdeal.τ).loc Cert.ConfIdeal.main_arg5))
      ∧ r.2.sem = fun _ => 0)

def quiescent_ConfRefIdeal [hConfRefIdeal : Cert.ConfRefIdeal.Facts] : Prop :=
  ∀ (m : (ℓ : Loc Cert.ConfRefIdeal.nD Cert.ConfRefIdeal.τ Cert.ConfRefIdeal.sig) → Buf (Elt Ideal) ℓ) (g : Dev Cert.ConfRefIdeal.nD → PrngReg), Pre_ConfRefIdeal m →
    θ_run (Cert.ConfRefIdeal.defs (F := Ideal)) (onTc (τ := Cert.ConfRefIdeal.τ) (Cert.ConfRefIdeal.main (F := Ideal))) ⟨m, fun _ => 0, g⟩ (fun r => (∀ c : Dev Cert.ConfRefIdeal.nD,
      r.2.mem ((c.tc : Thread Cert.ConfRefIdeal.nD Cert.ConfRefIdeal.τ).loc Cert.ConfRefIdeal.main_arg0) = m ((c.tc : Thread Cert.ConfRefIdeal.nD Cert.ConfRefIdeal.τ).loc Cert.ConfRefIdeal.main_arg0)
      ∧ r.2.mem ((c.tc : Thread Cert.ConfRefIdeal.nD Cert.ConfRefIdeal.τ).loc Cert.ConfRefIdeal.main_arg1) = m ((c.tc : Thread Cert.ConfRefIdeal.nD Cert.ConfRefIdeal.τ).loc Cert.ConfRefIdeal.main_arg1)
      ∧ r.2.mem ((c.tc : Thread Cert.ConfRefIdeal.nD Cert.ConfRefIdeal.τ).loc Cert.ConfRefIdeal.main_arg2) = m ((c.tc : Thread Cert.ConfRefIdeal.nD Cert.ConfRefIdeal.τ).loc Cert.ConfRefIdeal.main_arg2)
      ∧ r.2.mem ((c.tc : Thread Cert.ConfRefIdeal.nD Cert.ConfRefIdeal.τ).loc Cert.ConfRefIdeal.main_arg3) = m ((c.tc : Thread Cert.ConfRefIdeal.nD Cert.ConfRefIdeal.τ).loc Cert.ConfRefIdeal.main_arg3)
      ∧ r.2.mem ((c.tc : Thread Cert.ConfRefIdeal.nD Cert.ConfRefIdeal.τ).loc Cert.ConfRefIdeal.main_arg4) = m ((c.tc : Thread Cert.ConfRefIdeal.nD Cert.ConfRefIdeal.τ).loc Cert.ConfRefIdeal.main_arg4)
      ∧ r.2.mem ((c.tc : Thread Cert.ConfRefIdeal.nD Cert.ConfRefIdeal.τ).loc Cert.ConfRefIdeal.main_arg5) = m ((c.tc : Thread Cert.ConfRefIdeal.nD Cert.ConfRefIdeal.τ).loc Cert.ConfRefIdeal.main_arg5))
      ∧ r.2.sem = fun _ => 0)

def quiescent_ConfRefIdeal_pre_finite_conf [hConfRefIdeal : Cert.ConfRefIdeal.Facts] [hPre_finite_conf : Cert.Pre_finite_conf.Facts] : Prop :=
  ∀ (m : (ℓ : Loc Cert.ConfRefIdeal.nD Cert.ConfRefIdeal.τ Cert.ConfRefIdeal.sig) → Buf (Elt Ideal) ℓ) (g : Dev Cert.ConfRefIdeal.nD → PrngReg), Pre_ConfRefIdeal_finite_conf m →
    θ_run (Cert.ConfRefIdeal.defs (F := Ideal)) (onTc (τ := Cert.ConfRefIdeal.τ) (Cert.ConfRefIdeal.main (F := Ideal))) ⟨m, fun _ => 0, g⟩ (fun r => (∀ c : Dev Cert.ConfRefIdeal.nD,
      r.2.mem ((c.tc : Thread Cert.ConfRefIdeal.nD Cert.ConfRefIdeal.τ).loc Cert.ConfRefIdeal.main_arg0) = m ((c.tc : Thread Cert.ConfRefIdeal.nD Cert.ConfRefIdeal.τ).loc Cert.ConfRefIdeal.main_arg0)
      ∧ r.2.mem ((c.tc : Thread Cert.ConfRefIdeal.nD Cert.ConfRefIdeal.τ).loc Cert.ConfRefIdeal.main_arg1) = m ((c.tc : Thread Cert.ConfRefIdeal.nD Cert.ConfRefIdeal.τ).loc Cert.ConfRefIdeal.main_arg1)
      ∧ r.2.mem ((c.tc : Thread Cert.ConfRefIdeal.nD Cert.ConfRefIdeal.τ).loc Cert.ConfRefIdeal.main_arg2) = m ((c.tc : Thread Cert.ConfRefIdeal.nD Cert.ConfRefIdeal.τ).loc Cert.ConfRefIdeal.main_arg2)
      ∧ r.2.mem ((c.tc : Thread Cert.ConfRefIdeal.nD Cert.ConfRefIdeal.τ).loc Cert.ConfRefIdeal.main_arg3) = m ((c.tc : Thread Cert.ConfRefIdeal.nD Cert.ConfRefIdeal.τ).loc Cert.ConfRefIdeal.main_arg3)
      ∧ r.2.mem ((c.tc : Thread Cert.ConfRefIdeal.nD Cert.ConfRefIdeal.τ).loc Cert.ConfRefIdeal.main_arg4) = m ((c.tc : Thread Cert.ConfRefIdeal.nD Cert.ConfRefIdeal.τ).loc Cert.ConfRefIdeal.main_arg4)
      ∧ r.2.mem ((c.tc : Thread Cert.ConfRefIdeal.nD Cert.ConfRefIdeal.τ).loc Cert.ConfRefIdeal.main_arg5) = m ((c.tc : Thread Cert.ConfRefIdeal.nD Cert.ConfRefIdeal.τ).loc Cert.ConfRefIdeal.main_arg5))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2)
      ∧ r.2.mem ((c.tc : Thread Cert.MlpDown.nD Cert.MlpDown.τ).loc Cert.MlpDown.main_arg3) = m ((c.tc : Thread Cert.MlpDown.nD Cert.MlpDown.τ).loc Cert.MlpDown.main_arg3))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
      ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2)
      ∧ r.2.mem ((c.tc : Thread Cert.MlpDownRefIdeal.nD Cert.MlpDownRefIdeal.τ).loc Cert.MlpDownRefIdeal.main_arg3) = m ((c.tc : Thread Cert.MlpDownRefIdeal.nD Cert.MlpDownRefIdeal.τ).loc Cert.MlpDownRefIdeal.main_arg3))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7))
      ∧ r.2.sem = fun _ => 0)

def quiescent_PleFwd [hPleFwd : Cert.PleFwd.Facts] : Prop :=
  ∀ (m : (ℓ : Loc Cert.PleFwd.nD Cert.PleFwd.τ Cert.PleFwd.sig) → Buf (Elt Bits) ℓ) (g : Dev Cert.PleFwd.nD → PrngReg), Pre_PleFwd m →
    θ_run (Cert.PleFwd.defs (F := Bits)) (onTc (τ := Cert.PleFwd.τ) (Cert.PleFwd.main (F := Bits))) ⟨m, fun _ => 0, g⟩ (fun r => (∀ c : Dev Cert.PleFwd.nD,
      r.2.mem ((c.tc : Thread Cert.PleFwd.nD Cert.PleFwd.τ).loc Cert.PleFwd.main_arg0) = m ((c.tc : Thread Cert.PleFwd.nD Cert.PleFwd.τ).loc Cert.PleFwd.main_arg0)
      ∧ r.2.mem ((c.tc : Thread Cert.PleFwd.nD Cert.PleFwd.τ).loc Cert.PleFwd.main_arg1) = m ((c.tc : Thread Cert.PleFwd.nD Cert.PleFwd.τ).loc Cert.PleFwd.main_arg1)
      ∧ r.2.mem ((c.tc : Thread Cert.PleFwd.nD Cert.PleFwd.τ).loc Cert.PleFwd.main_arg2) = m ((c.tc : Thread Cert.PleFwd.nD Cert.PleFwd.τ).loc Cert.PleFwd.main_arg2)
      ∧ r.2.mem ((c.tc : Thread Cert.PleFwd.nD Cert.PleFwd.τ).loc Cert.PleFwd.main_arg3) = m ((c.tc : Thread Cert.PleFwd.nD Cert.PleFwd.τ).loc Cert.PleFwd.main_arg3)
      ∧ r.2.mem ((c.tc : Thread Cert.PleFwd.nD Cert.PleFwd.τ).loc Cert.PleFwd.main_arg4) = m ((c.tc : Thread Cert.PleFwd.nD Cert.PleFwd.τ).loc Cert.PleFwd.main_arg4)
      ∧ r.2.mem ((c.tc : Thread Cert.PleFwd.nD Cert.PleFwd.τ).loc Cert.PleFwd.main_arg5) = m ((c.tc : Thread Cert.PleFwd.nD Cert.PleFwd.τ).loc Cert.PleFwd.main_arg5))
      ∧ r.2.sem = fun _ => 0)

def quiescent_PleFwdIdeal [hPleFwdIdeal : Cert.PleFwdIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg), Pre_PleFwdIdeal m →
    θ_run (Cert.PleFwdIdeal.defs (F := Ideal)) (onTc (τ := Cert.PleFwdIdeal.τ) (Cert.PleFwdIdeal.main (F := Ideal))) ⟨m, fun _ => 0, g⟩ (fun r => (∀ c : Dev Cert.PleFwdIdeal.nD,
      r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
      ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
      ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2)
      ∧ r.2.mem ((c.tc : Thread Cert.PleFwdIdeal.nD Cert.PleFwdIdeal.τ).loc Cert.PleFwdIdeal.main_arg3) = m ((c.tc : Thread Cert.PleFwdIdeal.nD Cert.PleFwdIdeal.τ).loc Cert.PleFwdIdeal.main_arg3)
      ∧ r.2.mem ((c.tc : Thread Cert.PleFwdIdeal.nD Cert.PleFwdIdeal.τ).loc Cert.PleFwdIdeal.main_arg4) = m ((c.tc : Thread Cert.PleFwdIdeal.nD Cert.PleFwdIdeal.τ).loc Cert.PleFwdIdeal.main_arg4)
      ∧ r.2.mem ((c.tc : Thread Cert.PleFwdIdeal.nD Cert.PleFwdIdeal.τ).loc Cert.PleFwdIdeal.main_arg5) = m ((c.tc : Thread Cert.PleFwdIdeal.nD Cert.PleFwdIdeal.τ).loc Cert.PleFwdIdeal.main_arg5))
      ∧ r.2.sem = fun _ => 0)

def quiescent_PleFwdRefIdeal [hPleFwdRefIdeal : Cert.PleFwdRefIdeal.Facts] : Prop :=
  ∀ (m : (ℓ : Loc Cert.PleFwdRefIdeal.nD Cert.PleFwdRefIdeal.τ Cert.PleFwdRefIdeal.sig) → Buf (Elt Ideal) ℓ) (g : Dev Cert.PleFwdRefIdeal.nD → PrngReg), Pre_PleFwdRefIdeal m →
    θ_run (Cert.PleFwdRefIdeal.defs (F := Ideal)) (onTc (τ := Cert.PleFwdRefIdeal.τ) (Cert.PleFwdRefIdeal.main (F := Ideal))) ⟨m, fun _ => 0, g⟩ (fun r => (∀ c : Dev Cert.PleFwdRefIdeal.nD,
      r.2.mem ((c.tc : Thread Cert.PleFwdRefIdeal.nD Cert.PleFwdRefIdeal.τ).loc Cert.PleFwdRefIdeal.main_arg0) = m ((c.tc : Thread Cert.PleFwdRefIdeal.nD Cert.PleFwdRefIdeal.τ).loc Cert.PleFwdRefIdeal.main_arg0)
      ∧ r.2.mem ((c.tc : Thread Cert.PleFwdRefIdeal.nD Cert.PleFwdRefIdeal.τ).loc Cert.PleFwdRefIdeal.main_arg1) = m ((c.tc : Thread Cert.PleFwdRefIdeal.nD Cert.PleFwdRefIdeal.τ).loc Cert.PleFwdRefIdeal.main_arg1)
      ∧ r.2.mem ((c.tc : Thread Cert.PleFwdRefIdeal.nD Cert.PleFwdRefIdeal.τ).loc Cert.PleFwdRefIdeal.main_arg2) = m ((c.tc : Thread Cert.PleFwdRefIdeal.nD Cert.PleFwdRefIdeal.τ).loc Cert.PleFwdRefIdeal.main_arg2)
      ∧ r.2.mem ((c.tc : Thread Cert.PleFwdRefIdeal.nD Cert.PleFwdRefIdeal.τ).loc Cert.PleFwdRefIdeal.main_arg3) = m ((c.tc : Thread Cert.PleFwdRefIdeal.nD Cert.PleFwdRefIdeal.τ).loc Cert.PleFwdRefIdeal.main_arg3)
      ∧ r.2.mem ((c.tc : Thread Cert.PleFwdRefIdeal.nD Cert.PleFwdRefIdeal.τ).loc Cert.PleFwdRefIdeal.main_arg4) = m ((c.tc : Thread Cert.PleFwdRefIdeal.nD Cert.PleFwdRefIdeal.τ).loc Cert.PleFwdRefIdeal.main_arg4)
      ∧ r.2.mem ((c.tc : Thread Cert.PleFwdRefIdeal.nD Cert.PleFwdRefIdeal.τ).loc Cert.PleFwdRefIdeal.main_arg5) = m ((c.tc : Thread Cert.PleFwdRefIdeal.nD Cert.PleFwdRefIdeal.τ).loc Cert.PleFwdRefIdeal.main_arg5))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_SConv_SConvIdeal : Prop :=
  True

def algebraic_SConvIdeal_SConvRefIdeal [hSConvIdeal : Cert.SConvIdeal.Facts] [hSConvRefIdeal : Cert.SConvRefIdeal.Facts] : Prop :=
  ∀ (m : (ℓ : Loc Cert.SConvIdeal.nD Cert.SConvIdeal.τ Cert.SConvIdeal.sig) → Buf (Elt Ideal) ℓ) (g : Dev Cert.SConvIdeal.nD → PrngReg)
    (m' : (ℓ : Loc Cert.SConvRefIdeal.nD Cert.SConvRefIdeal.τ Cert.SConvRefIdeal.sig) → Buf (Elt Ideal) ℓ) (g' : Dev Cert.SConvRefIdeal.nD → PrngReg), Pre_SConvIdeal m →
    (∀ c : Dev Cert.SConvIdeal.nD,
      m' ((c.tc : Thread Cert.SConvRefIdeal.nD Cert.SConvRefIdeal.τ).loc Cert.SConvRefIdeal.main_arg0) = m ((c.tc : Thread Cert.SConvIdeal.nD Cert.SConvIdeal.τ).loc Cert.SConvIdeal.main_arg0)
      ∧ m' ((c.tc : Thread Cert.SConvRefIdeal.nD Cert.SConvRefIdeal.τ).loc Cert.SConvRefIdeal.main_arg1) = m ((c.tc : Thread Cert.SConvIdeal.nD Cert.SConvIdeal.τ).loc Cert.SConvIdeal.main_arg1)
      ∧ m' ((c.tc : Thread Cert.SConvRefIdeal.nD Cert.SConvRefIdeal.τ).loc Cert.SConvRefIdeal.main_arg2) = m ((c.tc : Thread Cert.SConvIdeal.nD Cert.SConvIdeal.τ).loc Cert.SConvIdeal.main_arg2)) →
    ∃ (v0 : (c : Dev Cert.SConvIdeal.nD) → Buf (Elt Ideal) ((c.tc : Thread Cert.SConvIdeal.nD Cert.SConvIdeal.τ).loc Cert.SConvIdeal.main_v1_0)) (v1 : (c : Dev Cert.SConvIdeal.nD) → Buf (Elt Ideal) ((c.tc : Thread Cert.SConvIdeal.nD Cert.SConvIdeal.τ).loc Cert.SConvIdeal.main_v1_1)),
      θ_run (Cert.SConvIdeal.defs (F := Ideal)) (onTc (τ := Cert.SConvIdeal.τ) (Cert.SConvIdeal.main (F := Ideal))) ⟨m, fun _ => 0, g⟩ (fun r => ∀ c : Dev Cert.SConvIdeal.nD,
          r.2.mem ((c.tc : Thread Cert.SConvIdeal.nD Cert.SConvIdeal.τ).loc Cert.SConvIdeal.main_v1_0) = v0 c
          ∧ r.2.mem ((c.tc : Thread Cert.SConvIdeal.nD Cert.SConvIdeal.τ).loc Cert.SConvIdeal.main_v1_1) = v1 c
          ∧ r.2.mem ((c.tc : Thread Cert.SConvIdeal.nD Cert.SConvIdeal.τ).loc Cert.SConvIdeal.main_arg0) = m ((c.tc : Thread Cert.SConvIdeal.nD Cert.SConvIdeal.τ).loc Cert.SConvIdeal.main_arg0)
          ∧ r.2.mem ((c.tc : Thread Cert.SConvIdeal.nD Cert.SConvIdeal.τ).loc Cert.SConvIdeal.main_arg1) = m ((c.tc : Thread Cert.SConvIdeal.nD Cert.SConvIdeal.τ).loc Cert.SConvIdeal.main_arg1)
          ∧ r.2.mem ((c.tc : Thread Cert.SConvIdeal.nD Cert.SConvIdeal.τ).loc Cert.SConvIdeal.main_arg2) = m ((c.tc : Thread Cert.SConvIdeal.nD Cert.SConvIdeal.τ).loc Cert.SConvIdeal.main_arg2))
      ∧ θ_run (Cert.SConvRefIdeal.defs (F := Ideal)) (onTc (τ := Cert.SConvRefIdeal.τ) (Cert.SConvRefIdeal.main (F := Ideal))) ⟨m', fun _ => 0, g'⟩ (fun r => ∀ c : Dev Cert.SConvRefIdeal.nD,
          r.2.mem ((c.tc : Thread Cert.SConvRefIdeal.nD Cert.SConvRefIdeal.τ).loc Cert.SConvRefIdeal.main_v66) = v0 c
          ∧ r.2.mem ((c.tc : Thread Cert.SConvRefIdeal.nD Cert.SConvRefIdeal.τ).loc Cert.SConvRefIdeal.main_v67) = v1 c
          ∧ r.2.mem ((c.tc : Thread Cert.SConvRefIdeal.nD Cert.SConvRefIdeal.τ).loc Cert.SConvRefIdeal.main_arg0) = m' ((c.tc : Thread Cert.SConvRefIdeal.nD Cert.SConvRefIdeal.τ).loc Cert.SConvRefIdeal.main_arg0)
          ∧ r.2.mem ((c.tc : Thread Cert.SConvRefIdeal.nD Cert.SConvRefIdeal.τ).loc Cert.SConvRefIdeal.main_arg1) = m' ((c.tc : Thread Cert.SConvRefIdeal.nD Cert.SConvRefIdeal.τ).loc Cert.SConvRefIdeal.main_arg1)
          ∧ r.2.mem ((c.tc : Thread Cert.SConvRefIdeal.nD Cert.SConvRefIdeal.τ).loc Cert.SConvRefIdeal.main_arg2) = m' ((c.tc : Thread Cert.SConvRefIdeal.nD Cert.SConvRefIdeal.τ).loc Cert.SConvRefIdeal.main_arg2))

def preserves_FoxBwd_FoxBwdIdeal : Prop :=
  True

def algebraic_FoxBwdIdeal_FoxBwdRefIdeal_on_read_fox_pre_finite_fox [hFoxBwdIdeal : Cert.FoxBwdIdeal.Facts] [hFoxBwdRefIdeal : Cert.FoxBwdRefIdeal.Facts] [hPre_finite_fox : Cert.Pre_finite_fox.Facts] [hOn_read_fox : Cert.On_read_fox.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg)
    (m' : (ℓ : Loc Cert.FoxBwdRefIdeal.nD Cert.FoxBwdRefIdeal.τ Cert.FoxBwdRefIdeal.sig) → Buf (Elt Ideal) ℓ) (g' : Dev Cert.FoxBwdRefIdeal.nD → PrngReg), Pre_FoxBwdIdeal_finite_fox m →
    (∀ c : Dev Cert.FoxBwdIdeal.nD,
      m' ((c.tc : Thread Cert.FoxBwdRefIdeal.nD Cert.FoxBwdRefIdeal.τ).loc Cert.FoxBwdRefIdeal.main_arg0) = m ((c.tc : Thread Cert.FoxBwdIdeal.nD Cert.FoxBwdIdeal.τ).loc Cert.FoxBwdIdeal.main_arg0)
      ∧ m' ((c.tc : Thread Cert.FoxBwdRefIdeal.nD Cert.FoxBwdRefIdeal.τ).loc Cert.FoxBwdRefIdeal.main_arg1) = m ((c.tc : Thread Cert.FoxBwdIdeal.nD Cert.FoxBwdIdeal.τ).loc Cert.FoxBwdIdeal.main_arg1)
      ∧ m' ((c.tc : Thread Cert.FoxBwdRefIdeal.nD Cert.FoxBwdRefIdeal.τ).loc Cert.FoxBwdRefIdeal.main_arg2) = m ((c.tc : Thread Cert.FoxBwdIdeal.nD Cert.FoxBwdIdeal.τ).loc Cert.FoxBwdIdeal.main_arg2)
      ∧ m' ((c.tc : Thread Cert.FoxBwdRefIdeal.nD Cert.FoxBwdRefIdeal.τ).loc Cert.FoxBwdRefIdeal.main_arg3) = m ((c.tc : Thread Cert.FoxBwdIdeal.nD Cert.FoxBwdIdeal.τ).loc Cert.FoxBwdIdeal.main_arg3)
      ∧ m' ((c.tc : Thread Cert.FoxBwdRefIdeal.nD Cert.FoxBwdRefIdeal.τ).loc Cert.FoxBwdRefIdeal.main_arg4) = m ((c.tc : Thread Cert.FoxBwdIdeal.nD Cert.FoxBwdIdeal.τ).loc Cert.FoxBwdIdeal.main_arg4)
      ∧ m' ((c.tc : Thread Cert.FoxBwdRefIdeal.nD Cert.FoxBwdRefIdeal.τ).loc Cert.FoxBwdRefIdeal.main_arg5) = m ((c.tc : Thread Cert.FoxBwdIdeal.nD Cert.FoxBwdIdeal.τ).loc Cert.FoxBwdIdeal.main_arg5)) →
    ∃ (v0 : (c : Dev Cert.FoxBwdIdeal.nD) → Buf (Elt Ideal) ((c.tc : Thread Cert.FoxBwdIdeal.nD Cert.FoxBwdIdeal.τ).loc Cert.FoxBwdIdeal.main_v76_0)) (v1 : (c : Dev Cert.FoxBwdIdeal.nD) → Buf (Elt Ideal) ((c.tc : Thread Cert.FoxBwdIdeal.nD Cert.FoxBwdIdeal.τ).loc Cert.FoxBwdIdeal.main_v76_1)) (v2 : (c : Dev Cert.FoxBwdIdeal.nD) → Buf (Elt Ideal) ((c.tc : Thread Cert.FoxBwdIdeal.nD Cert.FoxBwdIdeal.τ).loc Cert.FoxBwdIdeal.main_v76_2)),
      θ_run (Cert.FoxBwdIdeal.defs (F := Ideal)) (onTc (τ := Cert.FoxBwdIdeal.τ) (Cert.FoxBwdIdeal.main (F := Ideal))) ⟨m, fun _ => 0, g⟩ (fun r => ∀ c : Dev Cert.FoxBwdIdeal.nD,
          (∀ i : (⟨2, ![8192, 512]⟩ : Shape).Idx, (Cert.On_read_fox.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4)) (m ((c.tc : Thread Cert.FoxBwdIdeal.nD Cert.FoxBwdIdeal.τ).loc Cert.FoxBwdIdeal.main_arg5))).1 i = 1#1 → r.2.mem ((c.tc : Thread Cert.FoxBwdIdeal.nD Cert.FoxBwdIdeal.τ).loc Cert.FoxBwdIdeal.main_v76_0) i = v0 c i)
          ∧ (∀ i : (⟨2, ![8192, 512]⟩ : Shape).Idx, (Cert.On_read_fox.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4)) (m ((c.tc : Thread Cert.FoxBwdIdeal.nD Cert.FoxBwdIdeal.τ).loc Cert.FoxBwdIdeal.main_arg5))).2.1 i = 1#1 → r.2.mem ((c.tc : Thread Cert.FoxBwdIdeal.nD Cert.FoxBwdIdeal.τ).loc Cert.FoxBwdIdeal.main_v76_1) i = v1 c i)
          ∧ (∀ i : (⟨2, ![8192, 512]⟩ : Shape).Idx, (Cert.On_read_fox.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4)) (m ((c.tc : Thread Cert.FoxBwdIdeal.nD Cert.FoxBwdIdeal.τ).loc Cert.FoxBwdIdeal.main_arg5))).2.2 i = 1#1 → r.2.mem ((c.tc : Thread Cert.FoxBwdIdeal.nD Cert.FoxBwdIdeal.τ).loc Cert.FoxBwdIdeal.main_v76_2) i = v2 c i)
          ∧ r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
          ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
          ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
          ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3)
          ∧ r.2.mem ((c.tc : Thread Cert.FoxBwdIdeal.nD Cert.FoxBwdIdeal.τ).loc Cert.FoxBwdIdeal.main_arg4) = m ((c.tc : Thread Cert.FoxBwdIdeal.nD Cert.FoxBwdIdeal.τ).loc Cert.FoxBwdIdeal.main_arg4)
          ∧ r.2.mem ((c.tc : Thread Cert.FoxBwdIdeal.nD Cert.FoxBwdIdeal.τ).loc Cert.FoxBwdIdeal.main_arg5) = m ((c.tc : Thread Cert.FoxBwdIdeal.nD Cert.FoxBwdIdeal.τ).loc Cert.FoxBwdIdeal.main_arg5))
      ∧ θ_run (Cert.FoxBwdRefIdeal.defs (F := Ideal)) (onTc (τ := Cert.FoxBwdRefIdeal.τ) (Cert.FoxBwdRefIdeal.main (F := Ideal))) ⟨m', fun _ => 0, g'⟩ (fun r => ∀ c : Dev Cert.FoxBwdRefIdeal.nD,
          (∀ i : (⟨2, ![8192, 512]⟩ : Shape).Idx, (Cert.On_read_fox.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4)) (m ((c.tc : Thread Cert.FoxBwdIdeal.nD Cert.FoxBwdIdeal.τ).loc Cert.FoxBwdIdeal.main_arg5))).1 i = 1#1 → r.2.mem ((c.tc : Thread Cert.FoxBwdRefIdeal.nD Cert.FoxBwdRefIdeal.τ).loc Cert.FoxBwdRefIdeal.main_v102) i = v0 c i)
          ∧ (∀ i : (⟨2, ![8192, 512]⟩ : Shape).Idx, (Cert.On_read_fox.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4)) (m ((c.tc : Thread Cert.FoxBwdIdeal.nD Cert.FoxBwdIdeal.τ).loc Cert.FoxBwdIdeal.main_arg5))).2.1 i = 1#1 → r.2.mem ((c.tc : Thread Cert.FoxBwdRefIdeal.nD Cert.FoxBwdRefIdeal.τ).loc Cert.FoxBwdRefIdeal.main_v108) i = v1 c i)
          ∧ (∀ i : (⟨2, ![8192, 512]⟩ : Shape).Idx, (Cert.On_read_fox.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4)) (m ((c.tc : Thread Cert.FoxBwdIdeal.nD Cert.FoxBwdIdeal.τ).loc Cert.FoxBwdIdeal.main_arg5))).2.2 i = 1#1 → r.2.mem ((c.tc : Thread Cert.FoxBwdRefIdeal.nD Cert.FoxBwdRefIdeal.τ).loc Cert.FoxBwdRefIdeal.main_v112) i = v2 c i)
          ∧ r.2.mem ((c.tc : Thread Cert.FoxBwdRefIdeal.nD Cert.FoxBwdRefIdeal.τ).loc Cert.FoxBwdRefIdeal.main_arg0) = m' ((c.tc : Thread Cert.FoxBwdRefIdeal.nD Cert.FoxBwdRefIdeal.τ).loc Cert.FoxBwdRefIdeal.main_arg0)
          ∧ r.2.mem ((c.tc : Thread Cert.FoxBwdRefIdeal.nD Cert.FoxBwdRefIdeal.τ).loc Cert.FoxBwdRefIdeal.main_arg1) = m' ((c.tc : Thread Cert.FoxBwdRefIdeal.nD Cert.FoxBwdRefIdeal.τ).loc Cert.FoxBwdRefIdeal.main_arg1)
          ∧ r.2.mem ((c.tc : Thread Cert.FoxBwdRefIdeal.nD Cert.FoxBwdRefIdeal.τ).loc Cert.FoxBwdRefIdeal.main_arg2) = m' ((c.tc : Thread Cert.FoxBwdRefIdeal.nD Cert.FoxBwdRefIdeal.τ).loc Cert.FoxBwdRefIdeal.main_arg2)
          ∧ r.2.mem ((c.tc : Thread Cert.FoxBwdRefIdeal.nD Cert.FoxBwdRefIdeal.τ).loc Cert.FoxBwdRefIdeal.main_arg3) = m' ((c.tc : Thread Cert.FoxBwdRefIdeal.nD Cert.FoxBwdRefIdeal.τ).loc Cert.FoxBwdRefIdeal.main_arg3)
          ∧ r.2.mem ((c.tc : Thread Cert.FoxBwdRefIdeal.nD Cert.FoxBwdRefIdeal.τ).loc Cert.FoxBwdRefIdeal.main_arg4) = m' ((c.tc : Thread Cert.FoxBwdRefIdeal.nD Cert.FoxBwdRefIdeal.τ).loc Cert.FoxBwdRefIdeal.main_arg4)
          ∧ r.2.mem ((c.tc : Thread Cert.FoxBwdRefIdeal.nD Cert.FoxBwdRefIdeal.τ).loc Cert.FoxBwdRefIdeal.main_arg5) = m' ((c.tc : Thread Cert.FoxBwdRefIdeal.nD Cert.FoxBwdRefIdeal.τ).loc Cert.FoxBwdRefIdeal.main_arg5))

def preserves_FoxPost_FoxPostIdeal : Prop :=
  True

def algebraic_FoxPostIdeal_FoxPostRefIdeal_pre_finite_foxpost [hFoxPostIdeal : Cert.FoxPostIdeal.Facts] [hFoxPostRefIdeal : Cert.FoxPostRefIdeal.Facts] [hPre_finite_foxpost : Cert.Pre_finite_foxpost.Facts] : Prop :=
  ∀ (m : (ℓ : Loc Cert.FoxPostIdeal.nD Cert.FoxPostIdeal.τ Cert.FoxPostIdeal.sig) → Buf (Elt Ideal) ℓ) (g : Dev Cert.FoxPostIdeal.nD → PrngReg)
    (m' : (ℓ : Loc Cert.FoxPostRefIdeal.nD Cert.FoxPostRefIdeal.τ Cert.FoxPostRefIdeal.sig) → Buf (Elt Ideal) ℓ) (g' : Dev Cert.FoxPostRefIdeal.nD → PrngReg), Pre_FoxPostIdeal_finite_foxpost m →
    (∀ c : Dev Cert.FoxPostIdeal.nD,
      m' ((c.tc : Thread Cert.FoxPostRefIdeal.nD Cert.FoxPostRefIdeal.τ).loc Cert.FoxPostRefIdeal.main_arg0) = m ((c.tc : Thread Cert.FoxPostIdeal.nD Cert.FoxPostIdeal.τ).loc Cert.FoxPostIdeal.main_arg0)
      ∧ m' ((c.tc : Thread Cert.FoxPostRefIdeal.nD Cert.FoxPostRefIdeal.τ).loc Cert.FoxPostRefIdeal.main_arg1) = m ((c.tc : Thread Cert.FoxPostIdeal.nD Cert.FoxPostIdeal.τ).loc Cert.FoxPostIdeal.main_arg1)
      ∧ m' ((c.tc : Thread Cert.FoxPostRefIdeal.nD Cert.FoxPostRefIdeal.τ).loc Cert.FoxPostRefIdeal.main_arg2) = m ((c.tc : Thread Cert.FoxPostIdeal.nD Cert.FoxPostIdeal.τ).loc Cert.FoxPostIdeal.main_arg2)
      ∧ m' ((c.tc : Thread Cert.FoxPostRefIdeal.nD Cert.FoxPostRefIdeal.τ).loc Cert.FoxPostRefIdeal.main_arg3) = m ((c.tc : Thread Cert.FoxPostIdeal.nD Cert.FoxPostIdeal.τ).loc Cert.FoxPostIdeal.main_arg3)) →
    ∃ (v0 : (c : Dev Cert.FoxPostIdeal.nD) → Buf (Elt Ideal) ((c.tc : Thread Cert.FoxPostIdeal.nD Cert.FoxPostIdeal.τ).loc Cert.FoxPostIdeal.main_v3_0)) (v1 : (c : Dev Cert.FoxPostIdeal.nD) → Buf (Elt Ideal) ((c.tc : Thread Cert.FoxPostIdeal.nD Cert.FoxPostIdeal.τ).loc Cert.FoxPostIdeal.main_v3_1)),
      θ_run (Cert.FoxPostIdeal.defs (F := Ideal)) (onTc (τ := Cert.FoxPostIdeal.τ) (Cert.FoxPostIdeal.main (F := Ideal))) ⟨m, fun _ => 0, g⟩ (fun r => ∀ c : Dev Cert.FoxPostIdeal.nD,
          r.2.mem ((c.tc : Thread Cert.FoxPostIdeal.nD Cert.FoxPostIdeal.τ).loc Cert.FoxPostIdeal.main_v3_0) = v0 c
          ∧ r.2.mem ((c.tc : Thread Cert.FoxPostIdeal.nD Cert.FoxPostIdeal.τ).loc Cert.FoxPostIdeal.main_v3_1) = v1 c
          ∧ r.2.mem ((c.tc : Thread Cert.FoxPostIdeal.nD Cert.FoxPostIdeal.τ).loc Cert.FoxPostIdeal.main_arg0) = m ((c.tc : Thread Cert.FoxPostIdeal.nD Cert.FoxPostIdeal.τ).loc Cert.FoxPostIdeal.main_arg0)
          ∧ r.2.mem ((c.tc : Thread Cert.FoxPostIdeal.nD Cert.FoxPostIdeal.τ).loc Cert.FoxPostIdeal.main_arg1) = m ((c.tc : Thread Cert.FoxPostIdeal.nD Cert.FoxPostIdeal.τ).loc Cert.FoxPostIdeal.main_arg1)
          ∧ r.2.mem ((c.tc : Thread Cert.FoxPostIdeal.nD Cert.FoxPostIdeal.τ).loc Cert.FoxPostIdeal.main_arg2) = m ((c.tc : Thread Cert.FoxPostIdeal.nD Cert.FoxPostIdeal.τ).loc Cert.FoxPostIdeal.main_arg2)
          ∧ r.2.mem ((c.tc : Thread Cert.FoxPostIdeal.nD Cert.FoxPostIdeal.τ).loc Cert.FoxPostIdeal.main_arg3) = m ((c.tc : Thread Cert.FoxPostIdeal.nD Cert.FoxPostIdeal.τ).loc Cert.FoxPostIdeal.main_arg3))
      ∧ θ_run (Cert.FoxPostRefIdeal.defs (F := Ideal)) (onTc (τ := Cert.FoxPostRefIdeal.τ) (Cert.FoxPostRefIdeal.main (F := Ideal))) ⟨m', fun _ => 0, g'⟩ (fun r => ∀ c : Dev Cert.FoxPostRefIdeal.nD,
          r.2.mem ((c.tc : Thread Cert.FoxPostRefIdeal.nD Cert.FoxPostRefIdeal.τ).loc Cert.FoxPostRefIdeal.main_v18) = v0 c
          ∧ r.2.mem ((c.tc : Thread Cert.FoxPostRefIdeal.nD Cert.FoxPostRefIdeal.τ).loc Cert.FoxPostRefIdeal.main_v20) = v1 c
          ∧ r.2.mem ((c.tc : Thread Cert.FoxPostRefIdeal.nD Cert.FoxPostRefIdeal.τ).loc Cert.FoxPostRefIdeal.main_arg0) = m' ((c.tc : Thread Cert.FoxPostRefIdeal.nD Cert.FoxPostRefIdeal.τ).loc Cert.FoxPostRefIdeal.main_arg0)
          ∧ r.2.mem ((c.tc : Thread Cert.FoxPostRefIdeal.nD Cert.FoxPostRefIdeal.τ).loc Cert.FoxPostRefIdeal.main_arg1) = m' ((c.tc : Thread Cert.FoxPostRefIdeal.nD Cert.FoxPostRefIdeal.τ).loc Cert.FoxPostRefIdeal.main_arg1)
          ∧ r.2.mem ((c.tc : Thread Cert.FoxPostRefIdeal.nD Cert.FoxPostRefIdeal.τ).loc Cert.FoxPostRefIdeal.main_arg2) = m' ((c.tc : Thread Cert.FoxPostRefIdeal.nD Cert.FoxPostRefIdeal.τ).loc Cert.FoxPostRefIdeal.main_arg2)
          ∧ r.2.mem ((c.tc : Thread Cert.FoxPostRefIdeal.nD Cert.FoxPostRefIdeal.τ).loc Cert.FoxPostRefIdeal.main_arg3) = m' ((c.tc : Thread Cert.FoxPostRefIdeal.nD Cert.FoxPostRefIdeal.τ).loc Cert.FoxPostRefIdeal.main_arg3))

def preserves_MlpB_MlpBIdeal : Prop :=
  True

def algebraic_MlpBIdeal_MlpBRefIdeal_pre_finite_mlpb [hMlpBIdeal : Cert.MlpBIdeal.Facts] [hMlpBRefIdeal : Cert.MlpBRefIdeal.Facts] [hPre_finite_mlpb : Cert.Pre_finite_mlpb.Facts] : Prop :=
  ∀ (m : (ℓ : Loc Cert.MlpBIdeal.nD Cert.MlpBIdeal.τ Cert.MlpBIdeal.sig) → Buf (Elt Ideal) ℓ) (g : Dev Cert.MlpBIdeal.nD → PrngReg)
    (m' : (ℓ : Loc Cert.MlpBRefIdeal.nD Cert.MlpBRefIdeal.τ Cert.MlpBRefIdeal.sig) → Buf (Elt Ideal) ℓ) (g' : Dev Cert.MlpBRefIdeal.nD → PrngReg), Pre_MlpBIdeal_finite_mlpb m →
    (∀ c : Dev Cert.MlpBIdeal.nD,
      m' ((c.tc : Thread Cert.MlpBRefIdeal.nD Cert.MlpBRefIdeal.τ).loc Cert.MlpBRefIdeal.main_arg0) = m ((c.tc : Thread Cert.MlpBIdeal.nD Cert.MlpBIdeal.τ).loc Cert.MlpBIdeal.main_arg0)
      ∧ m' ((c.tc : Thread Cert.MlpBRefIdeal.nD Cert.MlpBRefIdeal.τ).loc Cert.MlpBRefIdeal.main_arg1) = m ((c.tc : Thread Cert.MlpBIdeal.nD Cert.MlpBIdeal.τ).loc Cert.MlpBIdeal.main_arg1)
      ∧ m' ((c.tc : Thread Cert.MlpBRefIdeal.nD Cert.MlpBRefIdeal.τ).loc Cert.MlpBRefIdeal.main_arg2) = m ((c.tc : Thread Cert.MlpBIdeal.nD Cert.MlpBIdeal.τ).loc Cert.MlpBIdeal.main_arg2)
      ∧ m' ((c.tc : Thread Cert.MlpBRefIdeal.nD Cert.MlpBRefIdeal.τ).loc Cert.MlpBRefIdeal.main_arg3) = m ((c.tc : Thread Cert.MlpBIdeal.nD Cert.MlpBIdeal.τ).loc Cert.MlpBIdeal.main_arg3)
      ∧ m' ((c.tc : Thread Cert.MlpBRefIdeal.nD Cert.MlpBRefIdeal.τ).loc Cert.MlpBRefIdeal.main_arg4) = m ((c.tc : Thread Cert.MlpBIdeal.nD Cert.MlpBIdeal.τ).loc Cert.MlpBIdeal.main_arg4)) →
    ∃ (v0 : (c : Dev Cert.MlpBIdeal.nD) → Buf (Elt Ideal) ((c.tc : Thread Cert.MlpBIdeal.nD Cert.MlpBIdeal.τ).loc Cert.MlpBIdeal.main_v3_0)) (v1 : (c : Dev Cert.MlpBIdeal.nD) → Buf (Elt Ideal) ((c.tc : Thread Cert.MlpBIdeal.nD Cert.MlpBIdeal.τ).loc Cert.MlpBIdeal.main_v3_1)) (v2 : (c : Dev Cert.MlpBIdeal.nD) → Buf (Elt Ideal) ((c.tc : Thread Cert.MlpBIdeal.nD Cert.MlpBIdeal.τ).loc Cert.MlpBIdeal.main_v3_2)),
      θ_run (Cert.MlpBIdeal.defs (F := Ideal)) (onTc (τ := Cert.MlpBIdeal.τ) (Cert.MlpBIdeal.main (F := Ideal))) ⟨m, fun _ => 0, g⟩ (fun r => ∀ c : Dev Cert.MlpBIdeal.nD,
          r.2.mem ((c.tc : Thread Cert.MlpBIdeal.nD Cert.MlpBIdeal.τ).loc Cert.MlpBIdeal.main_v3_0) = v0 c
          ∧ r.2.mem ((c.tc : Thread Cert.MlpBIdeal.nD Cert.MlpBIdeal.τ).loc Cert.MlpBIdeal.main_v3_1) = v1 c
          ∧ r.2.mem ((c.tc : Thread Cert.MlpBIdeal.nD Cert.MlpBIdeal.τ).loc Cert.MlpBIdeal.main_v3_2) = v2 c
          ∧ r.2.mem ((c.tc : Thread Cert.MlpBIdeal.nD Cert.MlpBIdeal.τ).loc Cert.MlpBIdeal.main_arg0) = m ((c.tc : Thread Cert.MlpBIdeal.nD Cert.MlpBIdeal.τ).loc Cert.MlpBIdeal.main_arg0)
          ∧ r.2.mem ((c.tc : Thread Cert.MlpBIdeal.nD Cert.MlpBIdeal.τ).loc Cert.MlpBIdeal.main_arg1) = m ((c.tc : Thread Cert.MlpBIdeal.nD Cert.MlpBIdeal.τ).loc Cert.MlpBIdeal.main_arg1)
          ∧ r.2.mem ((c.tc : Thread Cert.MlpBIdeal.nD Cert.MlpBIdeal.τ).loc Cert.MlpBIdeal.main_arg2) = m ((c.tc : Thread Cert.MlpBIdeal.nD Cert.MlpBIdeal.τ).loc Cert.MlpBIdeal.main_arg2)
          ∧ r.2.mem ((c.tc : Thread Cert.MlpBIdeal.nD Cert.MlpBIdeal.τ).loc Cert.MlpBIdeal.main_arg3) = m ((c.tc : Thread Cert.MlpBIdeal.nD Cert.MlpBIdeal.τ).loc Cert.MlpBIdeal.main_arg3)
          ∧ r.2.mem ((c.tc : Thread Cert.MlpBIdeal.nD Cert.MlpBIdeal.τ).loc Cert.MlpBIdeal.main_arg4) = m ((c.tc : Thread Cert.MlpBIdeal.nD Cert.MlpBIdeal.τ).loc Cert.MlpBIdeal.main_arg4))
      ∧ θ_run (Cert.MlpBRefIdeal.defs (F := Ideal)) (onTc (τ := Cert.MlpBRefIdeal.τ) (Cert.MlpBRefIdeal.main (F := Ideal))) ⟨m', fun _ => 0, g'⟩ (fun r => ∀ c : Dev Cert.MlpBRefIdeal.nD,
          r.2.mem ((c.tc : Thread Cert.MlpBRefIdeal.nD Cert.MlpBRefIdeal.τ).loc Cert.MlpBRefIdeal.main_v38) = v0 c
          ∧ r.2.mem ((c.tc : Thread Cert.MlpBRefIdeal.nD Cert.MlpBRefIdeal.τ).loc Cert.MlpBRefIdeal.main_v52) = v1 c
          ∧ r.2.mem ((c.tc : Thread Cert.MlpBRefIdeal.nD Cert.MlpBRefIdeal.τ).loc Cert.MlpBRefIdeal.main_v53) = v2 c
          ∧ r.2.mem ((c.tc : Thread Cert.MlpBRefIdeal.nD Cert.MlpBRefIdeal.τ).loc Cert.MlpBRefIdeal.main_arg0) = m' ((c.tc : Thread Cert.MlpBRefIdeal.nD Cert.MlpBRefIdeal.τ).loc Cert.MlpBRefIdeal.main_arg0)
          ∧ r.2.mem ((c.tc : Thread Cert.MlpBRefIdeal.nD Cert.MlpBRefIdeal.τ).loc Cert.MlpBRefIdeal.main_arg1) = m' ((c.tc : Thread Cert.MlpBRefIdeal.nD Cert.MlpBRefIdeal.τ).loc Cert.MlpBRefIdeal.main_arg1)
          ∧ r.2.mem ((c.tc : Thread Cert.MlpBRefIdeal.nD Cert.MlpBRefIdeal.τ).loc Cert.MlpBRefIdeal.main_arg2) = m' ((c.tc : Thread Cert.MlpBRefIdeal.nD Cert.MlpBRefIdeal.τ).loc Cert.MlpBRefIdeal.main_arg2)
          ∧ r.2.mem ((c.tc : Thread Cert.MlpBRefIdeal.nD Cert.MlpBRefIdeal.τ).loc Cert.MlpBRefIdeal.main_arg3) = m' ((c.tc : Thread Cert.MlpBRefIdeal.nD Cert.MlpBRefIdeal.τ).loc Cert.MlpBRefIdeal.main_arg3)
          ∧ r.2.mem ((c.tc : Thread Cert.MlpBRefIdeal.nD Cert.MlpBRefIdeal.τ).loc Cert.MlpBRefIdeal.main_arg4) = m' ((c.tc : Thread Cert.MlpBRefIdeal.nD Cert.MlpBRefIdeal.τ).loc Cert.MlpBRefIdeal.main_arg4))

def preserves_MlpA_MlpAIdeal : Prop :=
  True

def algebraic_MlpAIdeal_MlpARefIdeal_pre_finite_mlpa [hMlpAIdeal : Cert.MlpAIdeal.Facts] [hMlpARefIdeal : Cert.MlpARefIdeal.Facts] [hPre_finite_mlpa : Cert.Pre_finite_mlpa.Facts] : Prop :=
  ∀ (m : (ℓ : Loc Cert.MlpAIdeal.nD Cert.MlpAIdeal.τ Cert.MlpAIdeal.sig) → Buf (Elt Ideal) ℓ) (g : Dev Cert.MlpAIdeal.nD → PrngReg)
    (m' : (ℓ : Loc Cert.MlpARefIdeal.nD Cert.MlpARefIdeal.τ Cert.MlpARefIdeal.sig) → Buf (Elt Ideal) ℓ) (g' : Dev Cert.MlpARefIdeal.nD → PrngReg), Pre_MlpAIdeal_finite_mlpa m →
    (∀ c : Dev Cert.MlpAIdeal.nD,
      m' ((c.tc : Thread Cert.MlpARefIdeal.nD Cert.MlpARefIdeal.τ).loc Cert.MlpARefIdeal.main_arg0) = m ((c.tc : Thread Cert.MlpAIdeal.nD Cert.MlpAIdeal.τ).loc Cert.MlpAIdeal.main_arg0)
      ∧ m' ((c.tc : Thread Cert.MlpARefIdeal.nD Cert.MlpARefIdeal.τ).loc Cert.MlpARefIdeal.main_arg1) = m ((c.tc : Thread Cert.MlpAIdeal.nD Cert.MlpAIdeal.τ).loc Cert.MlpAIdeal.main_arg1)
      ∧ m' ((c.tc : Thread Cert.MlpARefIdeal.nD Cert.MlpARefIdeal.τ).loc Cert.MlpARefIdeal.main_arg2) = m ((c.tc : Thread Cert.MlpAIdeal.nD Cert.MlpAIdeal.τ).loc Cert.MlpAIdeal.main_arg2)
      ∧ m' ((c.tc : Thread Cert.MlpARefIdeal.nD Cert.MlpARefIdeal.τ).loc Cert.MlpARefIdeal.main_arg3) = m ((c.tc : Thread Cert.MlpAIdeal.nD Cert.MlpAIdeal.τ).loc Cert.MlpAIdeal.main_arg3)) →
    ∃ (v0 : (c : Dev Cert.MlpAIdeal.nD) → Buf (Elt Ideal) ((c.tc : Thread Cert.MlpAIdeal.nD Cert.MlpAIdeal.τ).loc Cert.MlpAIdeal.main_v10_0)) (v1 : (c : Dev Cert.MlpAIdeal.nD) → Buf (Elt Ideal) ((c.tc : Thread Cert.MlpAIdeal.nD Cert.MlpAIdeal.τ).loc Cert.MlpAIdeal.main_v10_1)) (v2 : (c : Dev Cert.MlpAIdeal.nD) → Buf (Elt Ideal) ((c.tc : Thread Cert.MlpAIdeal.nD Cert.MlpAIdeal.τ).loc Cert.MlpAIdeal.main_v10_2)),
      θ_run (Cert.MlpAIdeal.defs (F := Ideal)) (onTc (τ := Cert.MlpAIdeal.τ) (Cert.MlpAIdeal.main (F := Ideal))) ⟨m, fun _ => 0, g⟩ (fun r => ∀ c : Dev Cert.MlpAIdeal.nD,
          r.2.mem ((c.tc : Thread Cert.MlpAIdeal.nD Cert.MlpAIdeal.τ).loc Cert.MlpAIdeal.main_v10_0) = v0 c
          ∧ r.2.mem ((c.tc : Thread Cert.MlpAIdeal.nD Cert.MlpAIdeal.τ).loc Cert.MlpAIdeal.main_v10_1) = v1 c
          ∧ r.2.mem ((c.tc : Thread Cert.MlpAIdeal.nD Cert.MlpAIdeal.τ).loc Cert.MlpAIdeal.main_v10_2) = v2 c
          ∧ r.2.mem ((c.tc : Thread Cert.MlpAIdeal.nD Cert.MlpAIdeal.τ).loc Cert.MlpAIdeal.main_arg0) = m ((c.tc : Thread Cert.MlpAIdeal.nD Cert.MlpAIdeal.τ).loc Cert.MlpAIdeal.main_arg0)
          ∧ r.2.mem ((c.tc : Thread Cert.MlpAIdeal.nD Cert.MlpAIdeal.τ).loc Cert.MlpAIdeal.main_arg1) = m ((c.tc : Thread Cert.MlpAIdeal.nD Cert.MlpAIdeal.τ).loc Cert.MlpAIdeal.main_arg1)
          ∧ r.2.mem ((c.tc : Thread Cert.MlpAIdeal.nD Cert.MlpAIdeal.τ).loc Cert.MlpAIdeal.main_arg2) = m ((c.tc : Thread Cert.MlpAIdeal.nD Cert.MlpAIdeal.τ).loc Cert.MlpAIdeal.main_arg2)
          ∧ r.2.mem ((c.tc : Thread Cert.MlpAIdeal.nD Cert.MlpAIdeal.τ).loc Cert.MlpAIdeal.main_arg3) = m ((c.tc : Thread Cert.MlpAIdeal.nD Cert.MlpAIdeal.τ).loc Cert.MlpAIdeal.main_arg3))
      ∧ θ_run (Cert.MlpARefIdeal.defs (F := Ideal)) (onTc (τ := Cert.MlpARefIdeal.τ) (Cert.MlpARefIdeal.main (F := Ideal))) ⟨m', fun _ => 0, g'⟩ (fun r => ∀ c : Dev Cert.MlpARefIdeal.nD,
          r.2.mem ((c.tc : Thread Cert.MlpARefIdeal.nD Cert.MlpARefIdeal.τ).loc Cert.MlpARefIdeal.main_v44) = v0 c
          ∧ r.2.mem ((c.tc : Thread Cert.MlpARefIdeal.nD Cert.MlpARefIdeal.τ).loc Cert.MlpARefIdeal.main_v49) = v1 c
          ∧ r.2.mem ((c.tc : Thread Cert.MlpARefIdeal.nD Cert.MlpARefIdeal.τ).loc Cert.MlpARefIdeal.main_v50) = v2 c
          ∧ r.2.mem ((c.tc : Thread Cert.MlpARefIdeal.nD Cert.MlpARefIdeal.τ).loc Cert.MlpARefIdeal.main_arg0) = m' ((c.tc : Thread Cert.MlpARefIdeal.nD Cert.MlpARefIdeal.τ).loc Cert.MlpARefIdeal.main_arg0)
          ∧ r.2.mem ((c.tc : Thread Cert.MlpARefIdeal.nD Cert.MlpARefIdeal.τ).loc Cert.MlpARefIdeal.main_arg1) = m' ((c.tc : Thread Cert.MlpARefIdeal.nD Cert.MlpARefIdeal.τ).loc Cert.MlpARefIdeal.main_arg1)
          ∧ r.2.mem ((c.tc : Thread Cert.MlpARefIdeal.nD Cert.MlpARefIdeal.τ).loc Cert.MlpARefIdeal.main_arg2) = m' ((c.tc : Thread Cert.MlpARefIdeal.nD Cert.MlpARefIdeal.τ).loc Cert.MlpARefIdeal.main_arg2)
          ∧ r.2.mem ((c.tc : Thread Cert.MlpARefIdeal.nD Cert.MlpARefIdeal.τ).loc Cert.MlpARefIdeal.main_arg3) = m' ((c.tc : Thread Cert.MlpARefIdeal.nD Cert.MlpARefIdeal.τ).loc Cert.MlpARefIdeal.main_arg3))

def preserves_MixOut_MixOutIdeal : Prop :=
  True

def algebraic_MixOutIdeal_MixOutRefIdeal_pre_finite_mixout [hMixOutIdeal : Cert.MixOutIdeal.Facts] [hMixOutRefIdeal : Cert.MixOutRefIdeal.Facts] [hPre_finite_mixout : Cert.Pre_finite_mixout.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal_finite_mixout m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)
      ∧ m' ((c.tc : Thread Cert.MixOutRefIdeal.nD Cert.MixOutRefIdeal.τ).loc Cert.MixOutRefIdeal.main_arg7) = m ((c.tc : Thread Cert.MixOutIdeal.nD Cert.MixOutIdeal.τ).loc Cert.MixOutIdeal.main_arg7)) →
    ∃ (v0 : (c : Dev Cert.MixOutIdeal.nD) → Buf (Elt Ideal) ((c.tc : Thread Cert.MixOutIdeal.nD Cert.MixOutIdeal.τ).loc Cert.MixOutIdeal.main_v10_0)) (v1 : (c : Dev Cert.MixOutIdeal.nD) → Buf (Elt Ideal) ((c.tc : Thread Cert.MixOutIdeal.nD Cert.MixOutIdeal.τ).loc Cert.MixOutIdeal.main_v10_1)) (v2 : (c : Dev Cert.MixOutIdeal.nD) → Buf (Elt Ideal) ((c.tc : Thread Cert.MixOutIdeal.nD Cert.MixOutIdeal.τ).loc Cert.MixOutIdeal.main_v10_2)) (v3 : (c : Dev Cert.MixOutIdeal.nD) → Buf (Elt Ideal) ((c.tc : Thread Cert.MixOutIdeal.nD Cert.MixOutIdeal.τ).loc Cert.MixOutIdeal.main_v10_3)) (v4 : (c : Dev Cert.MixOutIdeal.nD) → Buf (Elt Ideal) ((c.tc : Thread Cert.MixOutIdeal.nD Cert.MixOutIdeal.τ).loc Cert.MixOutIdeal.main_v10_4)) (v5 : (c : Dev Cert.MixOutIdeal.nD) → Buf (Elt Ideal) ((c.tc : Thread Cert.MixOutIdeal.nD Cert.MixOutIdeal.τ).loc Cert.MixOutIdeal.main_v10_5)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v10_0) = v0 c
          ∧ r.2.mem ((c.tc : Thread Cert.MixOutIdeal.nD Cert.MixOutIdeal.τ).loc Cert.MixOutIdeal.main_v10_1) = v1 c
          ∧ r.2.mem ((c.tc : Thread Cert.MixOutIdeal.nD Cert.MixOutIdeal.τ).loc Cert.MixOutIdeal.main_v10_2) = v2 c
          ∧ r.2.mem ((c.tc : Thread Cert.MixOutIdeal.nD Cert.MixOutIdeal.τ).loc Cert.MixOutIdeal.main_v10_3) = v3 c
          ∧ r.2.mem ((c.tc : Thread Cert.MixOutIdeal.nD Cert.MixOutIdeal.τ).loc Cert.MixOutIdeal.main_v10_4) = v4 c
          ∧ r.2.mem ((c.tc : Thread Cert.MixOutIdeal.nD Cert.MixOutIdeal.τ).loc Cert.MixOutIdeal.main_v10_5) = v5 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v41) = v0 c
          ∧ r.2.mem ((c.tc : Thread Cert.MixOutRefIdeal.nD Cert.MixOutRefIdeal.τ).loc Cert.MixOutRefIdeal.main_v47) = v1 c
          ∧ r.2.mem ((c.tc : Thread Cert.MixOutRefIdeal.nD Cert.MixOutRefIdeal.τ).loc Cert.MixOutRefIdeal.main_v43) = v2 c
          ∧ r.2.mem ((c.tc : Thread Cert.MixOutRefIdeal.nD Cert.MixOutRefIdeal.τ).loc Cert.MixOutRefIdeal.main_v44) = v3 c
          ∧ r.2.mem ((c.tc : Thread Cert.MixOutRefIdeal.nD Cert.MixOutRefIdeal.τ).loc Cert.MixOutRefIdeal.main_v39) = v4 c
          ∧ r.2.mem ((c.tc : Thread Cert.MixOutRefIdeal.nD Cert.MixOutRefIdeal.τ).loc Cert.MixOutRefIdeal.main_v48) = v5 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6)
          ∧ r.2.mem ((c.tc : Thread Cert.MixOutRefIdeal.nD Cert.MixOutRefIdeal.τ).loc Cert.MixOutRefIdeal.main_arg7) = m' ((c.tc : Thread Cert.MixOutRefIdeal.nD Cert.MixOutRefIdeal.τ).loc Cert.MixOutRefIdeal.main_arg7))

def preserves_MixIn_MixInIdeal : Prop :=
  True

def algebraic_MixInIdeal_MixInRefIdeal_pre_finite_mixin [hMixInIdeal : Cert.MixInIdeal.Facts] [hMixInRefIdeal : Cert.MixInRefIdeal.Facts] [hPre_finite_mixin : Cert.Pre_finite_mixin.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal_finite_mixin m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)
      ∧ m' ((c.tc : Thread Cert.MixInRefIdeal.nD Cert.MixInRefIdeal.τ).loc Cert.MixInRefIdeal.main_arg3) = m ((c.tc : Thread Cert.MixInIdeal.nD Cert.MixInIdeal.τ).loc Cert.MixInIdeal.main_arg3)
      ∧ m' ((c.tc : Thread Cert.MixInRefIdeal.nD Cert.MixInRefIdeal.τ).loc Cert.MixInRefIdeal.main_arg4) = m ((c.tc : Thread Cert.MixInIdeal.nD Cert.MixInIdeal.τ).loc Cert.MixInIdeal.main_arg4)
      ∧ m' ((c.tc : Thread Cert.MixInRefIdeal.nD Cert.MixInRefIdeal.τ).loc Cert.MixInRefIdeal.main_arg5) = m ((c.tc : Thread Cert.MixInIdeal.nD Cert.MixInIdeal.τ).loc Cert.MixInIdeal.main_arg5)
      ∧ m' ((c.tc : Thread Cert.MixInRefIdeal.nD Cert.MixInRefIdeal.τ).loc Cert.MixInRefIdeal.main_arg6) = m ((c.tc : Thread Cert.MixInIdeal.nD Cert.MixInIdeal.τ).loc Cert.MixInIdeal.main_arg6)
      ∧ m' ((c.tc : Thread Cert.MixInRefIdeal.nD Cert.MixInRefIdeal.τ).loc Cert.MixInRefIdeal.main_arg7) = m ((c.tc : Thread Cert.MixInIdeal.nD Cert.MixInIdeal.τ).loc Cert.MixInIdeal.main_arg7)
      ∧ m' ((c.tc : Thread Cert.MixInRefIdeal.nD Cert.MixInRefIdeal.τ).loc Cert.MixInRefIdeal.main_arg8) = m ((c.tc : Thread Cert.MixInIdeal.nD Cert.MixInIdeal.τ).loc Cert.MixInIdeal.main_arg8)
      ∧ m' ((c.tc : Thread Cert.MixInRefIdeal.nD Cert.MixInRefIdeal.τ).loc Cert.MixInRefIdeal.main_arg9) = m ((c.tc : Thread Cert.MixInIdeal.nD Cert.MixInIdeal.τ).loc Cert.MixInIdeal.main_arg9)
      ∧ m' ((c.tc : Thread Cert.MixInRefIdeal.nD Cert.MixInRefIdeal.τ).loc Cert.MixInRefIdeal.main_arg10) = m ((c.tc : Thread Cert.MixInIdeal.nD Cert.MixInIdeal.τ).loc Cert.MixInIdeal.main_arg10)) →
    ∃ (v0 : (c : Dev Cert.MixInIdeal.nD) → Buf (Elt Ideal) ((c.tc : Thread Cert.MixInIdeal.nD Cert.MixInIdeal.τ).loc Cert.MixInIdeal.main_v11_0)) (v1 : (c : Dev Cert.MixInIdeal.nD) → Buf (Elt Ideal) ((c.tc : Thread Cert.MixInIdeal.nD Cert.MixInIdeal.τ).loc Cert.MixInIdeal.main_v11_1)) (v2 : (c : Dev Cert.MixInIdeal.nD) → Buf (Elt Ideal) ((c.tc : Thread Cert.MixInIdeal.nD Cert.MixInIdeal.τ).loc Cert.MixInIdeal.main_v11_2)) (v3 : (c : Dev Cert.MixInIdeal.nD) → Buf (Elt Ideal) ((c.tc : Thread Cert.MixInIdeal.nD Cert.MixInIdeal.τ).loc Cert.MixInIdeal.main_v11_3)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v11_0) = v0 c
          ∧ r.2.mem ((c.tc : Thread Cert.MixInIdeal.nD Cert.MixInIdeal.τ).loc Cert.MixInIdeal.main_v11_1) = v1 c
          ∧ r.2.mem ((c.tc : Thread Cert.MixInIdeal.nD Cert.MixInIdeal.τ).loc Cert.MixInIdeal.main_v11_2) = v2 c
          ∧ r.2.mem ((c.tc : Thread Cert.MixInIdeal.nD Cert.MixInIdeal.τ).loc Cert.MixInIdeal.main_v11_3) = v3 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
          ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
          ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6)
          ∧ r.2.mem ((c.tc : Thread Cert.MixInIdeal.nD Cert.MixInIdeal.τ).loc Cert.MixInIdeal.main_arg7) = m ((c.tc : Thread Cert.MixInIdeal.nD Cert.MixInIdeal.τ).loc Cert.MixInIdeal.main_arg7)
          ∧ r.2.mem ((c.tc : Thread Cert.MixInIdeal.nD Cert.MixInIdeal.τ).loc Cert.MixInIdeal.main_arg8) = m ((c.tc : Thread Cert.MixInIdeal.nD Cert.MixInIdeal.τ).loc Cert.MixInIdeal.main_arg8)
          ∧ r.2.mem ((c.tc : Thread Cert.MixInIdeal.nD Cert.MixInIdeal.τ).loc Cert.MixInIdeal.main_arg9) = m ((c.tc : Thread Cert.MixInIdeal.nD Cert.MixInIdeal.τ).loc Cert.MixInIdeal.main_arg9)
          ∧ r.2.mem ((c.tc : Thread Cert.MixInIdeal.nD Cert.MixInIdeal.τ).loc Cert.MixInIdeal.main_arg10) = m ((c.tc : Thread Cert.MixInIdeal.nD Cert.MixInIdeal.τ).loc Cert.MixInIdeal.main_arg10))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v49) = v0 c
          ∧ r.2.mem ((c.tc : Thread Cert.MixInRefIdeal.nD Cert.MixInRefIdeal.τ).loc Cert.MixInRefIdeal.main_v63) = v1 c
          ∧ r.2.mem ((c.tc : Thread Cert.MixInRefIdeal.nD Cert.MixInRefIdeal.τ).loc Cert.MixInRefIdeal.main_v65) = v2 c
          ∧ r.2.mem ((c.tc : Thread Cert.MixInRefIdeal.nD Cert.MixInRefIdeal.τ).loc Cert.MixInRefIdeal.main_v66) = v3 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2)
          ∧ r.2.mem ((c.tc : Thread Cert.MixInRefIdeal.nD Cert.MixInRefIdeal.τ).loc Cert.MixInRefIdeal.main_arg3) = m' ((c.tc : Thread Cert.MixInRefIdeal.nD Cert.MixInRefIdeal.τ).loc Cert.MixInRefIdeal.main_arg3)
          ∧ r.2.mem ((c.tc : Thread Cert.MixInRefIdeal.nD Cert.MixInRefIdeal.τ).loc Cert.MixInRefIdeal.main_arg4) = m' ((c.tc : Thread Cert.MixInRefIdeal.nD Cert.MixInRefIdeal.τ).loc Cert.MixInRefIdeal.main_arg4)
          ∧ r.2.mem ((c.tc : Thread Cert.MixInRefIdeal.nD Cert.MixInRefIdeal.τ).loc Cert.MixInRefIdeal.main_arg5) = m' ((c.tc : Thread Cert.MixInRefIdeal.nD Cert.MixInRefIdeal.τ).loc Cert.MixInRefIdeal.main_arg5)
          ∧ r.2.mem ((c.tc : Thread Cert.MixInRefIdeal.nD Cert.MixInRefIdeal.τ).loc Cert.MixInRefIdeal.main_arg6) = m' ((c.tc : Thread Cert.MixInRefIdeal.nD Cert.MixInRefIdeal.τ).loc Cert.MixInRefIdeal.main_arg6)
          ∧ r.2.mem ((c.tc : Thread Cert.MixInRefIdeal.nD Cert.MixInRefIdeal.τ).loc Cert.MixInRefIdeal.main_arg7) = m' ((c.tc : Thread Cert.MixInRefIdeal.nD Cert.MixInRefIdeal.τ).loc Cert.MixInRefIdeal.main_arg7)
          ∧ r.2.mem ((c.tc : Thread Cert.MixInRefIdeal.nD Cert.MixInRefIdeal.τ).loc Cert.MixInRefIdeal.main_arg8) = m' ((c.tc : Thread Cert.MixInRefIdeal.nD Cert.MixInRefIdeal.τ).loc Cert.MixInRefIdeal.main_arg8)
          ∧ r.2.mem ((c.tc : Thread Cert.MixInRefIdeal.nD Cert.MixInRefIdeal.τ).loc Cert.MixInRefIdeal.main_arg9) = m' ((c.tc : Thread Cert.MixInRefIdeal.nD Cert.MixInRefIdeal.τ).loc Cert.MixInRefIdeal.main_arg9)
          ∧ r.2.mem ((c.tc : Thread Cert.MixInRefIdeal.nD Cert.MixInRefIdeal.τ).loc Cert.MixInRefIdeal.main_arg10) = m' ((c.tc : Thread Cert.MixInRefIdeal.nD Cert.MixInRefIdeal.τ).loc Cert.MixInRefIdeal.main_arg10))

def preserves_Ple_PleIdeal : Prop :=
  True

def algebraic_PleIdeal_PleRefIdeal_pre_finite_ple [hPleIdeal : Cert.PleIdeal.Facts] [hPleRefIdeal : Cert.PleRefIdeal.Facts] [hPre_finite_ple : Cert.Pre_finite_ple.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal_finite_ple m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)
      ∧ m' ((c.tc : Thread Cert.PleRefIdeal.nD Cert.PleRefIdeal.τ).loc Cert.PleRefIdeal.main_arg6) = m ((c.tc : Thread Cert.PleIdeal.nD Cert.PleIdeal.τ).loc Cert.PleIdeal.main_arg6)) →
    ∃ (v0 : (c : Dev Cert.PleIdeal.nD) → Buf (Elt Ideal) ((c.tc : Thread Cert.PleIdeal.nD Cert.PleIdeal.τ).loc Cert.PleIdeal.main_v18_0)) (v1 : (c : Dev Cert.PleIdeal.nD) → Buf (Elt Ideal) ((c.tc : Thread Cert.PleIdeal.nD Cert.PleIdeal.τ).loc Cert.PleIdeal.main_v18_1)) (v2 : (c : Dev Cert.PleIdeal.nD) → Buf (Elt Ideal) ((c.tc : Thread Cert.PleIdeal.nD Cert.PleIdeal.τ).loc Cert.PleIdeal.main_v18_2)) (v3 : (c : Dev Cert.PleIdeal.nD) → Buf (Elt Ideal) ((c.tc : Thread Cert.PleIdeal.nD Cert.PleIdeal.τ).loc Cert.PleIdeal.main_v18_3)) (v4 : (c : Dev Cert.PleIdeal.nD) → Buf (Elt Ideal) ((c.tc : Thread Cert.PleIdeal.nD Cert.PleIdeal.τ).loc Cert.PleIdeal.main_v18_4)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v18_0) = v0 c
          ∧ r.2.mem ((c.tc : Thread Cert.PleIdeal.nD Cert.PleIdeal.τ).loc Cert.PleIdeal.main_v18_1) = v1 c
          ∧ r.2.mem ((c.tc : Thread Cert.PleIdeal.nD Cert.PleIdeal.τ).loc Cert.PleIdeal.main_v18_2) = v2 c
          ∧ r.2.mem ((c.tc : Thread Cert.PleIdeal.nD Cert.PleIdeal.τ).loc Cert.PleIdeal.main_v18_3) = v3 c
          ∧ r.2.mem ((c.tc : Thread Cert.PleIdeal.nD Cert.PleIdeal.τ).loc Cert.PleIdeal.main_v18_4) = v4 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v94) = v0 c
          ∧ r.2.mem ((c.tc : Thread Cert.PleRefIdeal.nD Cert.PleRefIdeal.τ).loc Cert.PleRefIdeal.main_v72) = v1 c
          ∧ r.2.mem ((c.tc : Thread Cert.PleRefIdeal.nD Cert.PleRefIdeal.τ).loc Cert.PleRefIdeal.main_v69) = v2 c
          ∧ r.2.mem ((c.tc : Thread Cert.PleRefIdeal.nD Cert.PleRefIdeal.τ).loc Cert.PleRefIdeal.main_v95) = v3 c
          ∧ r.2.mem ((c.tc : Thread Cert.PleRefIdeal.nD Cert.PleRefIdeal.τ).loc Cert.PleRefIdeal.main_v96) = v4 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5)
          ∧ r.2.mem ((c.tc : Thread Cert.PleRefIdeal.nD Cert.PleRefIdeal.τ).loc Cert.PleRefIdeal.main_arg6) = m' ((c.tc : Thread Cert.PleRefIdeal.nD Cert.PleRefIdeal.τ).loc Cert.PleRefIdeal.main_arg6))

def preserves_Pool_PoolIdeal : Prop :=
  True

def algebraic_PoolIdeal_PoolRefIdeal_on_read_pool_pre_finite_pool [hPoolIdeal : Cert.PoolIdeal.Facts] [hPoolRefIdeal : Cert.PoolRefIdeal.Facts] [hPre_finite_pool : Cert.Pre_finite_pool.Facts] [hOn_read_pool : Cert.On_read_pool.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_finite_pool m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v15_0)) (v1 : (c : Dev Cert.PoolIdeal.nD) → Buf (Elt Ideal) ((c.tc : Thread Cert.PoolIdeal.nD Cert.PoolIdeal.τ).loc Cert.PoolIdeal.main_v15_1)) (v2 : (c : Dev Cert.PoolIdeal.nD) → Buf (Elt Ideal) ((c.tc : Thread Cert.PoolIdeal.nD Cert.PoolIdeal.τ).loc Cert.PoolIdeal.main_v15_2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          (∀ i : (⟨2, ![8192, 256]⟩ : Shape).Idx, (Cert.On_read_pool.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).1 i = 1#1 → r.2.mem ((c.tc : Thread Cert.PoolIdeal.nD Cert.PoolIdeal.τ).loc Cert.PoolIdeal.main_v15_0) i = v0 c i)
          ∧ (∀ i : (⟨2, ![256, 256]⟩ : Shape).Idx, (Cert.On_read_pool.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.1 i = 1#1 → r.2.mem ((c.tc : Thread Cert.PoolIdeal.nD Cert.PoolIdeal.τ).loc Cert.PoolIdeal.main_v15_1) i = v1 c i)
          ∧ (∀ i : (⟨2, ![1, 256]⟩ : Shape).Idx, (Cert.On_read_pool.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.2 i = 1#1 → r.2.mem ((c.tc : Thread Cert.PoolIdeal.nD Cert.PoolIdeal.τ).loc Cert.PoolIdeal.main_v15_2) i = v2 c i)
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          (∀ i : (⟨2, ![8192, 256]⟩ : Shape).Idx, (Cert.On_read_pool.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).1 i = 1#1 → r.2.mem ((c.tc : Thread Cert.PoolRefIdeal.nD Cert.PoolRefIdeal.τ).loc Cert.PoolRefIdeal.main_v137) i = v0 c i)
          ∧ (∀ i : (⟨2, ![256, 256]⟩ : Shape).Idx, (Cert.On_read_pool.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.1 i = 1#1 → r.2.mem ((c.tc : Thread Cert.PoolRefIdeal.nD Cert.PoolRefIdeal.τ).loc Cert.PoolRefIdeal.main_v136) i = v1 c i)
          ∧ (∀ i : (⟨2, ![1, 256]⟩ : Shape).Idx, (Cert.On_read_pool.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.2 i = 1#1 → r.2.mem ((c.tc : Thread Cert.PoolRefIdeal.nD Cert.PoolRefIdeal.τ).loc Cert.PoolRefIdeal.main_v138) i = v2 c i)
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def preserves_Conf_ConfIdeal : Prop :=
  True

def algebraic_ConfIdeal_ConfRefIdeal_pre_finite_conf [hConfIdeal : Cert.ConfIdeal.Facts] [hConfRefIdeal : Cert.ConfRefIdeal.Facts] [hPre_finite_conf : Cert.Pre_finite_conf.Facts] : Prop :=
  ∀ (m : (ℓ : Loc Cert.ConfIdeal.nD Cert.ConfIdeal.τ Cert.ConfIdeal.sig) → Buf (Elt Ideal) ℓ) (g : Dev Cert.ConfIdeal.nD → PrngReg)
    (m' : (ℓ : Loc Cert.ConfRefIdeal.nD Cert.ConfRefIdeal.τ Cert.ConfRefIdeal.sig) → Buf (Elt Ideal) ℓ) (g' : Dev Cert.ConfRefIdeal.nD → PrngReg), Pre_ConfIdeal_finite_conf m →
    (∀ c : Dev Cert.ConfIdeal.nD,
      m' ((c.tc : Thread Cert.ConfRefIdeal.nD Cert.ConfRefIdeal.τ).loc Cert.ConfRefIdeal.main_arg0) = m ((c.tc : Thread Cert.ConfIdeal.nD Cert.ConfIdeal.τ).loc Cert.ConfIdeal.main_arg0)
      ∧ m' ((c.tc : Thread Cert.ConfRefIdeal.nD Cert.ConfRefIdeal.τ).loc Cert.ConfRefIdeal.main_arg1) = m ((c.tc : Thread Cert.ConfIdeal.nD Cert.ConfIdeal.τ).loc Cert.ConfIdeal.main_arg1)
      ∧ m' ((c.tc : Thread Cert.ConfRefIdeal.nD Cert.ConfRefIdeal.τ).loc Cert.ConfRefIdeal.main_arg2) = m ((c.tc : Thread Cert.ConfIdeal.nD Cert.ConfIdeal.τ).loc Cert.ConfIdeal.main_arg2)
      ∧ m' ((c.tc : Thread Cert.ConfRefIdeal.nD Cert.ConfRefIdeal.τ).loc Cert.ConfRefIdeal.main_arg3) = m ((c.tc : Thread Cert.ConfIdeal.nD Cert.ConfIdeal.τ).loc Cert.ConfIdeal.main_arg3)
      ∧ m' ((c.tc : Thread Cert.ConfRefIdeal.nD Cert.ConfRefIdeal.τ).loc Cert.ConfRefIdeal.main_arg4) = m ((c.tc : Thread Cert.ConfIdeal.nD Cert.ConfIdeal.τ).loc Cert.ConfIdeal.main_arg4)
      ∧ m' ((c.tc : Thread Cert.ConfRefIdeal.nD Cert.ConfRefIdeal.τ).loc Cert.ConfRefIdeal.main_arg5) = m ((c.tc : Thread Cert.ConfIdeal.nD Cert.ConfIdeal.τ).loc Cert.ConfIdeal.main_arg5)) →
    ∃ (v0 : (c : Dev Cert.ConfIdeal.nD) → Buf (Elt Ideal) ((c.tc : Thread Cert.ConfIdeal.nD Cert.ConfIdeal.τ).loc Cert.ConfIdeal.main_v170_0)) (v1 : (c : Dev Cert.ConfIdeal.nD) → Buf (Elt Ideal) ((c.tc : Thread Cert.ConfIdeal.nD Cert.ConfIdeal.τ).loc Cert.ConfIdeal.main_v170_1)) (v2 : (c : Dev Cert.ConfIdeal.nD) → Buf (Elt Ideal) ((c.tc : Thread Cert.ConfIdeal.nD Cert.ConfIdeal.τ).loc Cert.ConfIdeal.main_v170_2)) (v3 : (c : Dev Cert.ConfIdeal.nD) → Buf (Elt Ideal) ((c.tc : Thread Cert.ConfIdeal.nD Cert.ConfIdeal.τ).loc Cert.ConfIdeal.main_v170_3)) (v4 : (c : Dev Cert.ConfIdeal.nD) → Buf (Elt Ideal) ((c.tc : Thread Cert.ConfIdeal.nD Cert.ConfIdeal.τ).loc Cert.ConfIdeal.main_v170_4)),
      θ_run (Cert.ConfIdeal.defs (F := Ideal)) (onTc (τ := Cert.ConfIdeal.τ) (Cert.ConfIdeal.main (F := Ideal))) ⟨m, fun _ => 0, g⟩ (fun r => ∀ c : Dev Cert.ConfIdeal.nD,
          r.2.mem ((c.tc : Thread Cert.ConfIdeal.nD Cert.ConfIdeal.τ).loc Cert.ConfIdeal.main_v170_0) = v0 c
          ∧ r.2.mem ((c.tc : Thread Cert.ConfIdeal.nD Cert.ConfIdeal.τ).loc Cert.ConfIdeal.main_v170_1) = v1 c
          ∧ r.2.mem ((c.tc : Thread Cert.ConfIdeal.nD Cert.ConfIdeal.τ).loc Cert.ConfIdeal.main_v170_2) = v2 c
          ∧ r.2.mem ((c.tc : Thread Cert.ConfIdeal.nD Cert.ConfIdeal.τ).loc Cert.ConfIdeal.main_v170_3) = v3 c
          ∧ r.2.mem ((c.tc : Thread Cert.ConfIdeal.nD Cert.ConfIdeal.τ).loc Cert.ConfIdeal.main_v170_4) = v4 c
          ∧ r.2.mem ((c.tc : Thread Cert.ConfIdeal.nD Cert.ConfIdeal.τ).loc Cert.ConfIdeal.main_arg0) = m ((c.tc : Thread Cert.ConfIdeal.nD Cert.ConfIdeal.τ).loc Cert.ConfIdeal.main_arg0)
          ∧ r.2.mem ((c.tc : Thread Cert.ConfIdeal.nD Cert.ConfIdeal.τ).loc Cert.ConfIdeal.main_arg1) = m ((c.tc : Thread Cert.ConfIdeal.nD Cert.ConfIdeal.τ).loc Cert.ConfIdeal.main_arg1)
          ∧ r.2.mem ((c.tc : Thread Cert.ConfIdeal.nD Cert.ConfIdeal.τ).loc Cert.ConfIdeal.main_arg2) = m ((c.tc : Thread Cert.ConfIdeal.nD Cert.ConfIdeal.τ).loc Cert.ConfIdeal.main_arg2)
          ∧ r.2.mem ((c.tc : Thread Cert.ConfIdeal.nD Cert.ConfIdeal.τ).loc Cert.ConfIdeal.main_arg3) = m ((c.tc : Thread Cert.ConfIdeal.nD Cert.ConfIdeal.τ).loc Cert.ConfIdeal.main_arg3)
          ∧ r.2.mem ((c.tc : Thread Cert.ConfIdeal.nD Cert.ConfIdeal.τ).loc Cert.ConfIdeal.main_arg4) = m ((c.tc : Thread Cert.ConfIdeal.nD Cert.ConfIdeal.τ).loc Cert.ConfIdeal.main_arg4)
          ∧ r.2.mem ((c.tc : Thread Cert.ConfIdeal.nD Cert.ConfIdeal.τ).loc Cert.ConfIdeal.main_arg5) = m ((c.tc : Thread Cert.ConfIdeal.nD Cert.ConfIdeal.τ).loc Cert.ConfIdeal.main_arg5))
      ∧ θ_run (Cert.ConfRefIdeal.defs (F := Ideal)) (onTc (τ := Cert.ConfRefIdeal.τ) (Cert.ConfRefIdeal.main (F := Ideal))) ⟨m', fun _ => 0, g'⟩ (fun r => ∀ c : Dev Cert.ConfRefIdeal.nD,
          r.2.mem ((c.tc : Thread Cert.ConfRefIdeal.nD Cert.ConfRefIdeal.τ).loc Cert.ConfRefIdeal.main_v638) = v0 c
          ∧ r.2.mem ((c.tc : Thread Cert.ConfRefIdeal.nD Cert.ConfRefIdeal.τ).loc Cert.ConfRefIdeal.main_v639) = v1 c
          ∧ r.2.mem ((c.tc : Thread Cert.ConfRefIdeal.nD Cert.ConfRefIdeal.τ).loc Cert.ConfRefIdeal.main_v640) = v2 c
          ∧ r.2.mem ((c.tc : Thread Cert.ConfRefIdeal.nD Cert.ConfRefIdeal.τ).loc Cert.ConfRefIdeal.main_v641) = v3 c
          ∧ r.2.mem ((c.tc : Thread Cert.ConfRefIdeal.nD Cert.ConfRefIdeal.τ).loc Cert.ConfRefIdeal.main_v259) = v4 c
          ∧ r.2.mem ((c.tc : Thread Cert.ConfRefIdeal.nD Cert.ConfRefIdeal.τ).loc Cert.ConfRefIdeal.main_arg0) = m' ((c.tc : Thread Cert.ConfRefIdeal.nD Cert.ConfRefIdeal.τ).loc Cert.ConfRefIdeal.main_arg0)
          ∧ r.2.mem ((c.tc : Thread Cert.ConfRefIdeal.nD Cert.ConfRefIdeal.τ).loc Cert.ConfRefIdeal.main_arg1) = m' ((c.tc : Thread Cert.ConfRefIdeal.nD Cert.ConfRefIdeal.τ).loc Cert.ConfRefIdeal.main_arg1)
          ∧ r.2.mem ((c.tc : Thread Cert.ConfRefIdeal.nD Cert.ConfRefIdeal.τ).loc Cert.ConfRefIdeal.main_arg2) = m' ((c.tc : Thread Cert.ConfRefIdeal.nD Cert.ConfRefIdeal.τ).loc Cert.ConfRefIdeal.main_arg2)
          ∧ r.2.mem ((c.tc : Thread Cert.ConfRefIdeal.nD Cert.ConfRefIdeal.τ).loc Cert.ConfRefIdeal.main_arg3) = m' ((c.tc : Thread Cert.ConfRefIdeal.nD Cert.ConfRefIdeal.τ).loc Cert.ConfRefIdeal.main_arg3)
          ∧ r.2.mem ((c.tc : Thread Cert.ConfRefIdeal.nD Cert.ConfRefIdeal.τ).loc Cert.ConfRefIdeal.main_arg4) = m' ((c.tc : Thread Cert.ConfRefIdeal.nD Cert.ConfRefIdeal.τ).loc Cert.ConfRefIdeal.main_arg4)
          ∧ r.2.mem ((c.tc : Thread Cert.ConfRefIdeal.nD Cert.ConfRefIdeal.τ).loc Cert.ConfRefIdeal.main_arg5) = m' ((c.tc : Thread Cert.ConfRefIdeal.nD Cert.ConfRefIdeal.τ).loc Cert.ConfRefIdeal.main_arg5))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)
      ∧ m' ((c.tc : Thread Cert.MlpDownRefIdeal.nD Cert.MlpDownRefIdeal.τ).loc Cert.MlpDownRefIdeal.main_arg2) = m ((c.tc : Thread Cert.MlpDownIdeal.nD Cert.MlpDownIdeal.τ).loc Cert.MlpDownIdeal.main_arg2)
      ∧ m' ((c.tc : Thread Cert.MlpDownRefIdeal.nD Cert.MlpDownRefIdeal.τ).loc Cert.MlpDownRefIdeal.main_arg3) = m ((c.tc : Thread Cert.MlpDownIdeal.nD Cert.MlpDownIdeal.τ).loc Cert.MlpDownIdeal.main_arg3)) →
    ∃ (v0 : (c : Dev Cert.MlpDownIdeal.nD) → Buf (Elt Ideal) ((c.tc : Thread Cert.MlpDownIdeal.nD Cert.MlpDownIdeal.τ).loc Cert.MlpDownIdeal.main_v2_0)) (v1 : (c : Dev Cert.MlpDownIdeal.nD) → Buf (Elt Ideal) ((c.tc : Thread Cert.MlpDownIdeal.nD Cert.MlpDownIdeal.τ).loc Cert.MlpDownIdeal.main_v2_1)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v2_0) = v0 c
          ∧ r.2.mem ((c.tc : Thread Cert.MlpDownIdeal.nD Cert.MlpDownIdeal.τ).loc Cert.MlpDownIdeal.main_v2_1) = v1 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
          ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v2) = v0 c
          ∧ r.2.mem ((c.tc : Thread Cert.MlpDownRefIdeal.nD Cert.MlpDownRefIdeal.τ).loc Cert.MlpDownRefIdeal.main_v16) = v1 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1)
          ∧ r.2.mem ((c.tc : Thread Cert.MlpDownRefIdeal.nD Cert.MlpDownRefIdeal.τ).loc Cert.MlpDownRefIdeal.main_arg2) = m' ((c.tc : Thread Cert.MlpDownRefIdeal.nD Cert.MlpDownRefIdeal.τ).loc Cert.MlpDownRefIdeal.main_arg2)
          ∧ r.2.mem ((c.tc : Thread Cert.MlpDownRefIdeal.nD Cert.MlpDownRefIdeal.τ).loc Cert.MlpDownRefIdeal.main_arg3) = m' ((c.tc : Thread Cert.MlpDownRefIdeal.nD Cert.MlpDownRefIdeal.τ).loc Cert.MlpDownRefIdeal.main_arg3))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)
      ∧ m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6)
      ∧ m' ((c.tc : Thread Cert.MixFwdRefIdeal.nD Cert.MixFwdRefIdeal.τ).loc Cert.MixFwdRefIdeal.main_arg7) = m ((c.tc : Thread Cert.MixFwdIdeal.nD Cert.MixFwdIdeal.τ).loc Cert.MixFwdIdeal.main_arg7)) →
    ∃ (v0 : (c : Dev Cert.MixFwdIdeal.nD) → Buf (Elt Ideal) ((c.tc : Thread Cert.MixFwdIdeal.nD Cert.MixFwdIdeal.τ).loc Cert.MixFwdIdeal.main_v8_0)) (v1 : (c : Dev Cert.MixFwdIdeal.nD) → Buf (Elt Ideal) ((c.tc : Thread Cert.MixFwdIdeal.nD Cert.MixFwdIdeal.τ).loc Cert.MixFwdIdeal.main_v8_1)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v8_0) = v0 c
          ∧ r.2.mem ((c.tc : Thread Cert.MixFwdIdeal.nD Cert.MixFwdIdeal.τ).loc Cert.MixFwdIdeal.main_v8_1) = v1 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
          ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v1) = v0 c
          ∧ r.2.mem ((c.tc : Thread Cert.MixFwdRefIdeal.nD Cert.MixFwdRefIdeal.τ).loc Cert.MixFwdRefIdeal.main_v15) = v1 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5)
          ∧ r.2.mem ((c.tc : Thread Cert.MixFwdRefIdeal.nD Cert.MixFwdRefIdeal.τ).loc Cert.MixFwdRefIdeal.main_arg6) = m' ((c.tc : Thread Cert.MixFwdRefIdeal.nD Cert.MixFwdRefIdeal.τ).loc Cert.MixFwdRefIdeal.main_arg6)
          ∧ r.2.mem ((c.tc : Thread Cert.MixFwdRefIdeal.nD Cert.MixFwdRefIdeal.τ).loc Cert.MixFwdRefIdeal.main_arg7) = m' ((c.tc : Thread Cert.MixFwdRefIdeal.nD Cert.MixFwdRefIdeal.τ).loc Cert.MixFwdRefIdeal.main_arg7))

def preserves_PleFwd_PleFwdIdeal : Prop :=
  True

def algebraic_PleFwdIdeal_PleFwdRefIdeal [hPleFwdIdeal : Cert.PleFwdIdeal.Facts] [hPleFwdRefIdeal : Cert.PleFwdRefIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg)
    (m' : (ℓ : Loc Cert.PleFwdRefIdeal.nD Cert.PleFwdRefIdeal.τ Cert.PleFwdRefIdeal.sig) → Buf (Elt Ideal) ℓ) (g' : Dev Cert.PleFwdRefIdeal.nD → PrngReg), Pre_PleFwdIdeal m →
    (∀ c : Dev Cert.PleFwdIdeal.nD,
      m' ((c.tc : Thread Cert.PleFwdRefIdeal.nD Cert.PleFwdRefIdeal.τ).loc Cert.PleFwdRefIdeal.main_arg0) = m ((c.tc : Thread Cert.PleFwdIdeal.nD Cert.PleFwdIdeal.τ).loc Cert.PleFwdIdeal.main_arg0)
      ∧ m' ((c.tc : Thread Cert.PleFwdRefIdeal.nD Cert.PleFwdRefIdeal.τ).loc Cert.PleFwdRefIdeal.main_arg1) = m ((c.tc : Thread Cert.PleFwdIdeal.nD Cert.PleFwdIdeal.τ).loc Cert.PleFwdIdeal.main_arg1)
      ∧ m' ((c.tc : Thread Cert.PleFwdRefIdeal.nD Cert.PleFwdRefIdeal.τ).loc Cert.PleFwdRefIdeal.main_arg2) = m ((c.tc : Thread Cert.PleFwdIdeal.nD Cert.PleFwdIdeal.τ).loc Cert.PleFwdIdeal.main_arg2)
      ∧ m' ((c.tc : Thread Cert.PleFwdRefIdeal.nD Cert.PleFwdRefIdeal.τ).loc Cert.PleFwdRefIdeal.main_arg3) = m ((c.tc : Thread Cert.PleFwdIdeal.nD Cert.PleFwdIdeal.τ).loc Cert.PleFwdIdeal.main_arg3)
      ∧ m' ((c.tc : Thread Cert.PleFwdRefIdeal.nD Cert.PleFwdRefIdeal.τ).loc Cert.PleFwdRefIdeal.main_arg4) = m ((c.tc : Thread Cert.PleFwdIdeal.nD Cert.PleFwdIdeal.τ).loc Cert.PleFwdIdeal.main_arg4)
      ∧ m' ((c.tc : Thread Cert.PleFwdRefIdeal.nD Cert.PleFwdRefIdeal.τ).loc Cert.PleFwdRefIdeal.main_arg5) = m ((c.tc : Thread Cert.PleFwdIdeal.nD Cert.PleFwdIdeal.τ).loc Cert.PleFwdIdeal.main_arg5)) →
    ∃ (v0 : (c : Dev Cert.PleFwdIdeal.nD) → Buf (Elt Ideal) ((c.tc : Thread Cert.PleFwdIdeal.nD Cert.PleFwdIdeal.τ).loc Cert.PleFwdIdeal.main_v4_0)) (v1 : (c : Dev Cert.PleFwdIdeal.nD) → Buf (Elt Ideal) ((c.tc : Thread Cert.PleFwdIdeal.nD Cert.PleFwdIdeal.τ).loc Cert.PleFwdIdeal.main_v4_1)) (v2 : (c : Dev Cert.PleFwdIdeal.nD) → Buf (Elt Ideal) ((c.tc : Thread Cert.PleFwdIdeal.nD Cert.PleFwdIdeal.τ).loc Cert.PleFwdIdeal.main_v4_2)),
      θ_run (Cert.PleFwdIdeal.defs (F := Ideal)) (onTc (τ := Cert.PleFwdIdeal.τ) (Cert.PleFwdIdeal.main (F := Ideal))) ⟨m, fun _ => 0, g⟩ (fun r => ∀ c : Dev Cert.PleFwdIdeal.nD,
          r.2.mem ((c.tc : Thread Cert.PleFwdIdeal.nD Cert.PleFwdIdeal.τ).loc Cert.PleFwdIdeal.main_v4_0) = v0 c
          ∧ r.2.mem ((c.tc : Thread Cert.PleFwdIdeal.nD Cert.PleFwdIdeal.τ).loc Cert.PleFwdIdeal.main_v4_1) = v1 c
          ∧ r.2.mem ((c.tc : Thread Cert.PleFwdIdeal.nD Cert.PleFwdIdeal.τ).loc Cert.PleFwdIdeal.main_v4_2) = v2 c
          ∧ r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
          ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
          ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2)
          ∧ r.2.mem ((c.tc : Thread Cert.PleFwdIdeal.nD Cert.PleFwdIdeal.τ).loc Cert.PleFwdIdeal.main_arg3) = m ((c.tc : Thread Cert.PleFwdIdeal.nD Cert.PleFwdIdeal.τ).loc Cert.PleFwdIdeal.main_arg3)
          ∧ r.2.mem ((c.tc : Thread Cert.PleFwdIdeal.nD Cert.PleFwdIdeal.τ).loc Cert.PleFwdIdeal.main_arg4) = m ((c.tc : Thread Cert.PleFwdIdeal.nD Cert.PleFwdIdeal.τ).loc Cert.PleFwdIdeal.main_arg4)
          ∧ r.2.mem ((c.tc : Thread Cert.PleFwdIdeal.nD Cert.PleFwdIdeal.τ).loc Cert.PleFwdIdeal.main_arg5) = m ((c.tc : Thread Cert.PleFwdIdeal.nD Cert.PleFwdIdeal.τ).loc Cert.PleFwdIdeal.main_arg5))
      ∧ θ_run (Cert.PleFwdRefIdeal.defs (F := Ideal)) (onTc (τ := Cert.PleFwdRefIdeal.τ) (Cert.PleFwdRefIdeal.main (F := Ideal))) ⟨m', fun _ => 0, g'⟩ (fun r => ∀ c : Dev Cert.PleFwdRefIdeal.nD,
          r.2.mem ((c.tc : Thread Cert.PleFwdRefIdeal.nD Cert.PleFwdRefIdeal.τ).loc Cert.PleFwdRefIdeal.main_v13) = v0 c
          ∧ r.2.mem ((c.tc : Thread Cert.PleFwdRefIdeal.nD Cert.PleFwdRefIdeal.τ).loc Cert.PleFwdRefIdeal.main_v14) = v1 c
          ∧ r.2.mem ((c.tc : Thread Cert.PleFwdRefIdeal.nD Cert.PleFwdRefIdeal.τ).loc Cert.PleFwdRefIdeal.main_v35) = v2 c
          ∧ r.2.mem ((c.tc : Thread Cert.PleFwdRefIdeal.nD Cert.PleFwdRefIdeal.τ).loc Cert.PleFwdRefIdeal.main_arg0) = m' ((c.tc : Thread Cert.PleFwdRefIdeal.nD Cert.PleFwdRefIdeal.τ).loc Cert.PleFwdRefIdeal.main_arg0)
          ∧ r.2.mem ((c.tc : Thread Cert.PleFwdRefIdeal.nD Cert.PleFwdRefIdeal.τ).loc Cert.PleFwdRefIdeal.main_arg1) = m' ((c.tc : Thread Cert.PleFwdRefIdeal.nD Cert.PleFwdRefIdeal.τ).loc Cert.PleFwdRefIdeal.main_arg1)
          ∧ r.2.mem ((c.tc : Thread Cert.PleFwdRefIdeal.nD Cert.PleFwdRefIdeal.τ).loc Cert.PleFwdRefIdeal.main_arg2) = m' ((c.tc : Thread Cert.PleFwdRefIdeal.nD Cert.PleFwdRefIdeal.τ).loc Cert.PleFwdRefIdeal.main_arg2)
          ∧ r.2.mem ((c.tc : Thread Cert.PleFwdRefIdeal.nD Cert.PleFwdRefIdeal.τ).loc Cert.PleFwdRefIdeal.main_arg3) = m' ((c.tc : Thread Cert.PleFwdRefIdeal.nD Cert.PleFwdRefIdeal.τ).loc Cert.PleFwdRefIdeal.main_arg3)
          ∧ r.2.mem ((c.tc : Thread Cert.PleFwdRefIdeal.nD Cert.PleFwdRefIdeal.τ).loc Cert.PleFwdRefIdeal.main_arg4) = m' ((c.tc : Thread Cert.PleFwdRefIdeal.nD Cert.PleFwdRefIdeal.τ).loc Cert.PleFwdRefIdeal.main_arg4)
          ∧ r.2.mem ((c.tc : Thread Cert.PleFwdRefIdeal.nD Cert.PleFwdRefIdeal.τ).loc Cert.PleFwdRefIdeal.main_arg5) = m' ((c.tc : Thread Cert.PleFwdRefIdeal.nD Cert.PleFwdRefIdeal.τ).loc Cert.PleFwdRefIdeal.main_arg5))

def Claim : Prop :=
  ∃ (hLoss : Cert.Loss.Facts) (hLossIdeal : Cert.LossIdeal.Facts) (hLossRefIdeal : Cert.LossRefIdeal.Facts) (hSConv : Cert.SConv.Facts) (hSConvIdeal : Cert.SConvIdeal.Facts) (hSConvRefIdeal : Cert.SConvRefIdeal.Facts) (hFoxBwd : Cert.FoxBwd.Facts) (hFoxBwdIdeal : Cert.FoxBwdIdeal.Facts) (hFoxBwdRefIdeal : Cert.FoxBwdRefIdeal.Facts) (hFoxPost : Cert.FoxPost.Facts) (hFoxPostIdeal : Cert.FoxPostIdeal.Facts) (hFoxPostRefIdeal : Cert.FoxPostRefIdeal.Facts) (hMlpB : Cert.MlpB.Facts) (hMlpBIdeal : Cert.MlpBIdeal.Facts) (hMlpBRefIdeal : Cert.MlpBRefIdeal.Facts) (hMlpA : Cert.MlpA.Facts) (hMlpAIdeal : Cert.MlpAIdeal.Facts) (hMlpARefIdeal : Cert.MlpARefIdeal.Facts) (hMixOut : Cert.MixOut.Facts) (hMixOutIdeal : Cert.MixOutIdeal.Facts) (hMixOutRefIdeal : Cert.MixOutRefIdeal.Facts) (hMixIn : Cert.MixIn.Facts) (hMixInIdeal : Cert.MixInIdeal.Facts) (hMixInRefIdeal : Cert.MixInRefIdeal.Facts) (hPle : Cert.Ple.Facts) (hPleIdeal : Cert.PleIdeal.Facts) (hPleRefIdeal : Cert.PleRefIdeal.Facts) (hPool : Cert.Pool.Facts) (hPoolIdeal : Cert.PoolIdeal.Facts) (hPoolRefIdeal : Cert.PoolRefIdeal.Facts) (hConf : Cert.Conf.Facts) (hConfIdeal : Cert.ConfIdeal.Facts) (hConfRefIdeal : Cert.ConfRefIdeal.Facts) (hMlpDown : Cert.MlpDown.Facts) (hMlpDownIdeal : Cert.MlpDownIdeal.Facts) (hMlpDownRefIdeal : Cert.MlpDownRefIdeal.Facts) (hMixFwd : Cert.MixFwd.Facts) (hMixFwdIdeal : Cert.MixFwdIdeal.Facts) (hMixFwdRefIdeal : Cert.MixFwdRefIdeal.Facts) (hPleFwd : Cert.PleFwd.Facts) (hPleFwdIdeal : Cert.PleFwdIdeal.Facts) (hPleFwdRefIdeal : Cert.PleFwdRefIdeal.Facts) (hPre_finite_fox : Cert.Pre_finite_fox.Facts) (hPre_finite_foxpost : Cert.Pre_finite_foxpost.Facts) (hPre_finite_mlpb : Cert.Pre_finite_mlpb.Facts) (hPre_finite_mlpa : Cert.Pre_finite_mlpa.Facts) (hPre_finite_mixout : Cert.Pre_finite_mixout.Facts) (hPre_finite_mixin : Cert.Pre_finite_mixin.Facts) (hPre_finite_ple : Cert.Pre_finite_ple.Facts) (hPre_finite_pool : Cert.Pre_finite_pool.Facts) (hPre_finite_conf : Cert.Pre_finite_conf.Facts) (hOn_read_fox : Cert.On_read_fox.Facts) (hOn_read_pool : Cert.On_read_pool.Facts),
    quiescent_Loss (hLoss := hLoss)
    ∧ quiescent_LossIdeal (hLossIdeal := hLossIdeal)
    ∧ quiescent_LossRefIdeal (hLossRefIdeal := hLossRefIdeal)
    ∧ quiescent_SConv (hSConv := hSConv)
    ∧ quiescent_SConvIdeal (hSConvIdeal := hSConvIdeal)
    ∧ quiescent_SConvRefIdeal (hSConvRefIdeal := hSConvRefIdeal)
    ∧ quiescent_FoxBwd (hFoxBwd := hFoxBwd)
    ∧ quiescent_FoxBwdIdeal (hFoxBwdIdeal := hFoxBwdIdeal)
    ∧ quiescent_FoxBwdIdeal_pre_finite_fox (hFoxBwdIdeal := hFoxBwdIdeal) (hPre_finite_fox := hPre_finite_fox)
    ∧ quiescent_FoxBwdRefIdeal (hFoxBwdRefIdeal := hFoxBwdRefIdeal)
    ∧ quiescent_FoxBwdRefIdeal_pre_finite_fox (hFoxBwdRefIdeal := hFoxBwdRefIdeal) (hPre_finite_fox := hPre_finite_fox)
    ∧ quiescent_FoxPost (hFoxPost := hFoxPost)
    ∧ quiescent_FoxPostIdeal (hFoxPostIdeal := hFoxPostIdeal)
    ∧ quiescent_FoxPostIdeal_pre_finite_foxpost (hFoxPostIdeal := hFoxPostIdeal) (hPre_finite_foxpost := hPre_finite_foxpost)
    ∧ quiescent_FoxPostRefIdeal (hFoxPostRefIdeal := hFoxPostRefIdeal)
    ∧ quiescent_FoxPostRefIdeal_pre_finite_foxpost (hFoxPostRefIdeal := hFoxPostRefIdeal) (hPre_finite_foxpost := hPre_finite_foxpost)
    ∧ quiescent_MlpB (hMlpB := hMlpB)
    ∧ quiescent_MlpBIdeal (hMlpBIdeal := hMlpBIdeal)
    ∧ quiescent_MlpBIdeal_pre_finite_mlpb (hMlpBIdeal := hMlpBIdeal) (hPre_finite_mlpb := hPre_finite_mlpb)
    ∧ quiescent_MlpBRefIdeal (hMlpBRefIdeal := hMlpBRefIdeal)
    ∧ quiescent_MlpBRefIdeal_pre_finite_mlpb (hMlpBRefIdeal := hMlpBRefIdeal) (hPre_finite_mlpb := hPre_finite_mlpb)
    ∧ quiescent_MlpA (hMlpA := hMlpA)
    ∧ quiescent_MlpAIdeal (hMlpAIdeal := hMlpAIdeal)
    ∧ quiescent_MlpAIdeal_pre_finite_mlpa (hMlpAIdeal := hMlpAIdeal) (hPre_finite_mlpa := hPre_finite_mlpa)
    ∧ quiescent_MlpARefIdeal (hMlpARefIdeal := hMlpARefIdeal)
    ∧ quiescent_MlpARefIdeal_pre_finite_mlpa (hMlpARefIdeal := hMlpARefIdeal) (hPre_finite_mlpa := hPre_finite_mlpa)
    ∧ quiescent_MixOut (hMixOut := hMixOut)
    ∧ quiescent_MixOutIdeal (hMixOutIdeal := hMixOutIdeal)
    ∧ quiescent_MixOutIdeal_pre_finite_mixout (hMixOutIdeal := hMixOutIdeal) (hPre_finite_mixout := hPre_finite_mixout)
    ∧ quiescent_MixOutRefIdeal (hMixOutRefIdeal := hMixOutRefIdeal)
    ∧ quiescent_MixOutRefIdeal_pre_finite_mixout (hMixOutRefIdeal := hMixOutRefIdeal) (hPre_finite_mixout := hPre_finite_mixout)
    ∧ quiescent_MixIn (hMixIn := hMixIn)
    ∧ quiescent_MixInIdeal (hMixInIdeal := hMixInIdeal)
    ∧ quiescent_MixInIdeal_pre_finite_mixin (hMixInIdeal := hMixInIdeal) (hPre_finite_mixin := hPre_finite_mixin)
    ∧ quiescent_MixInRefIdeal (hMixInRefIdeal := hMixInRefIdeal)
    ∧ quiescent_MixInRefIdeal_pre_finite_mixin (hMixInRefIdeal := hMixInRefIdeal) (hPre_finite_mixin := hPre_finite_mixin)
    ∧ quiescent_Ple (hPle := hPle)
    ∧ quiescent_PleIdeal (hPleIdeal := hPleIdeal)
    ∧ quiescent_PleIdeal_pre_finite_ple (hPleIdeal := hPleIdeal) (hPre_finite_ple := hPre_finite_ple)
    ∧ quiescent_PleRefIdeal (hPleRefIdeal := hPleRefIdeal)
    ∧ quiescent_PleRefIdeal_pre_finite_ple (hPleRefIdeal := hPleRefIdeal) (hPre_finite_ple := hPre_finite_ple)
    ∧ quiescent_Pool (hPool := hPool)
    ∧ quiescent_PoolIdeal (hPoolIdeal := hPoolIdeal)
    ∧ quiescent_PoolIdeal_pre_finite_pool (hPoolIdeal := hPoolIdeal) (hPre_finite_pool := hPre_finite_pool)
    ∧ quiescent_PoolRefIdeal (hPoolRefIdeal := hPoolRefIdeal)
    ∧ quiescent_PoolRefIdeal_pre_finite_pool (hPoolRefIdeal := hPoolRefIdeal) (hPre_finite_pool := hPre_finite_pool)
    ∧ quiescent_Conf (hConf := hConf)
    ∧ quiescent_ConfIdeal (hConfIdeal := hConfIdeal)
    ∧ quiescent_ConfIdeal_pre_finite_conf (hConfIdeal := hConfIdeal) (hPre_finite_conf := hPre_finite_conf)
    ∧ quiescent_ConfRefIdeal (hConfRefIdeal := hConfRefIdeal)
    ∧ quiescent_ConfRefIdeal_pre_finite_conf (hConfRefIdeal := hConfRefIdeal) (hPre_finite_conf := hPre_finite_conf)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_PleFwd (hPleFwd := hPleFwd)
    ∧ quiescent_PleFwdIdeal (hPleFwdIdeal := hPleFwdIdeal)
    ∧ quiescent_PleFwdRefIdeal (hPleFwdRefIdeal := hPleFwdRefIdeal)
    ∧ preserves_Loss_LossIdeal
    ∧ algebraic_LossIdeal_LossRefIdeal (hLossIdeal := hLossIdeal) (hLossRefIdeal := hLossRefIdeal)
    ∧ preserves_SConv_SConvIdeal
    ∧ algebraic_SConvIdeal_SConvRefIdeal (hSConvIdeal := hSConvIdeal) (hSConvRefIdeal := hSConvRefIdeal)
    ∧ preserves_FoxBwd_FoxBwdIdeal
    ∧ algebraic_FoxBwdIdeal_FoxBwdRefIdeal_on_read_fox_pre_finite_fox (hFoxBwdIdeal := hFoxBwdIdeal) (hFoxBwdRefIdeal := hFoxBwdRefIdeal) (hPre_finite_fox := hPre_finite_fox) (hOn_read_fox := hOn_read_fox)
    ∧ preserves_FoxPost_FoxPostIdeal
    ∧ algebraic_FoxPostIdeal_FoxPostRefIdeal_pre_finite_foxpost (hFoxPostIdeal := hFoxPostIdeal) (hFoxPostRefIdeal := hFoxPostRefIdeal) (hPre_finite_foxpost := hPre_finite_foxpost)
    ∧ preserves_MlpB_MlpBIdeal
    ∧ algebraic_MlpBIdeal_MlpBRefIdeal_pre_finite_mlpb (hMlpBIdeal := hMlpBIdeal) (hMlpBRefIdeal := hMlpBRefIdeal) (hPre_finite_mlpb := hPre_finite_mlpb)
    ∧ preserves_MlpA_MlpAIdeal
    ∧ algebraic_MlpAIdeal_MlpARefIdeal_pre_finite_mlpa (hMlpAIdeal := hMlpAIdeal) (hMlpARefIdeal := hMlpARefIdeal) (hPre_finite_mlpa := hPre_finite_mlpa)
    ∧ preserves_MixOut_MixOutIdeal
    ∧ algebraic_MixOutIdeal_MixOutRefIdeal_pre_finite_mixout (hMixOutIdeal := hMixOutIdeal) (hMixOutRefIdeal := hMixOutRefIdeal) (hPre_finite_mixout := hPre_finite_mixout)
    ∧ preserves_MixIn_MixInIdeal
    ∧ algebraic_MixInIdeal_MixInRefIdeal_pre_finite_mixin (hMixInIdeal := hMixInIdeal) (hMixInRefIdeal := hMixInRefIdeal) (hPre_finite_mixin := hPre_finite_mixin)
    ∧ preserves_Ple_PleIdeal
    ∧ algebraic_PleIdeal_PleRefIdeal_pre_finite_ple (hPleIdeal := hPleIdeal) (hPleRefIdeal := hPleRefIdeal) (hPre_finite_ple := hPre_finite_ple)
    ∧ preserves_Pool_PoolIdeal
    ∧ algebraic_PoolIdeal_PoolRefIdeal_on_read_pool_pre_finite_pool (hPoolIdeal := hPoolIdeal) (hPoolRefIdeal := hPoolRefIdeal) (hPre_finite_pool := hPre_finite_pool) (hOn_read_pool := hOn_read_pool)
    ∧ preserves_Conf_ConfIdeal
    ∧ algebraic_ConfIdeal_ConfRefIdeal_pre_finite_conf (hConfIdeal := hConfIdeal) (hConfRefIdeal := hConfRefIdeal) (hPre_finite_conf := hPre_finite_conf)
    ∧ preserves_MlpDown_MlpDownIdeal
    ∧ algebraic_MlpDownIdeal_MlpDownRefIdeal (hMlpDownIdeal := hMlpDownIdeal) (hMlpDownRefIdeal := hMlpDownRefIdeal)
    ∧ preserves_MixFwd_MixFwdIdeal
    ∧ algebraic_MixFwdIdeal_MixFwdRefIdeal (hMixFwdIdeal := hMixFwdIdeal) (hMixFwdRefIdeal := hMixFwdRefIdeal)
    ∧ preserves_PleFwd_PleFwdIdeal
    ∧ algebraic_PleFwdIdeal_PleFwdRefIdeal (hPleFwdIdeal := hPleFwdIdeal) (hPleFwdRefIdeal := hPleFwdRefIdeal)
-- ==== On_read_fox.lean ====
abbrev S8192x256 : Shape := ⟨2, ![8192, 256]⟩
abbrev S8192x4 : Shape := ⟨2, ![8192, 4]⟩
abbrev S4 : Shape := ⟨1, ![4]⟩
abbrev S8192x4x128 : Shape := ⟨3, ![8192, 4, 128]⟩
abbrev S_ : Shape := ⟨0, ![]⟩
abbrev S8192x512 : Shape := ⟨2, ![8192, 512]⟩

class Facts : Prop where
  bcast_S_S8192x4x128 : S_.BroadcastsInDim S8192x4x128 (![] : Fin 0 → Fin S8192x4x128.rank)
  shapeCasts_S8192x4x128_S8192x512 : S8192x4x128.ShapeCasts S8192x512
  bcast_S_S8192x512 : S_.BroadcastsInDim S8192x512 (![] : Fin 0 → Fin S8192x512.rank)

variable [Facts]

def fn {F : FTy → Type} [FloatOps F] (main_arg0 : FVec F S8192x256 .f32) (main_arg1 : FVec F S8192x256 .f32) (main_arg2 : FVec F S8192x256 .f32) (main_arg3 : FVec F S8192x4 .f32) (main_arg4 : FVec F S4 .f32) (main_arg5 : FVec F S8192x256 .f32) : IVec S8192x512 1 × IVec S8192x512 1 × IVec S8192x512 1 :=
  let main_v0 : IVec S8192x4x128 32 := iotaInDim S8192x4x128 32 2
  let main_c : IVec S_ 32 := constantI S_ 32 64#32
  let main_v1 : IVec S8192x4x128 32 := broadcastInDim S8192x4x128 ![] bcast_S_S8192x4x128 main_c
  let main_v2 : IVec S8192x4x128 1 := cmpi .slt main_v0 main_v1
  let main_c_0 : IVec S_ 32 := constantI S_ 32 67#32
  let main_v3 : IVec S8192x4x128 32 := broadcastInDim S8192x4x128 ![] bcast_S_S8192x4x128 main_c_0
  let main_v4 : IVec S8192x4x128 1 := cmpi .eq main_v0 main_v3
  let main_v5 : IVec S8192x4x128 1 := ori main_v2 main_v4
  let main_v6 : IVec S8192x512 1 := shapeCast S8192x512 main_v5 shapeCasts_S8192x4x128_S8192x512
  let main_c_1 : IVec S_ 32 := constantI S_ 32 64#32
  let main_v7 : IVec S8192x4x128 32 := broadcastInDim S8192x4x128 ![] bcast_S_S8192x4x128 main_c_1
  let main_v8 : IVec S8192x4x128 1 := cmpi .sle main_v0 main_v7
  let main_v9 : IVec S8192x512 1 := shapeCast S8192x512 main_v8 shapeCasts_S8192x4x128_S8192x512
  let main_c_2 : IVec S_ 1 := constantI S_ 1 1#1
  let main_v10 : IVec S8192x512 1 := broadcastInDim S8192x512 ![] bcast_S_S8192x512 main_c_2
  (main_v6, main_v9, main_v10)
-- ==== On_read_pool.lean ====
abbrev S8192x256 : Shape := ⟨2, ![8192, 256]⟩
abbrev S4x64x64 : Shape := ⟨3, ![4, 64, 64]⟩
abbrev S256 : Shape := ⟨1, ![256]⟩
abbrev S256x256 : Shape := ⟨2, ![256, 256]⟩
abbrev S_ : Shape := ⟨0, ![]⟩
abbrev S1x256 : Shape := ⟨2, ![1, 256]⟩

class Facts : Prop where
  bcast_S_S8192x256 : S_.BroadcastsInDim S8192x256 (![] : Fin 0 → Fin S8192x256.rank)
  bcast_S_S256x256 : S_.BroadcastsInDim S256x256 (![] : Fin 0 → Fin S256x256.rank)
  bcast_S_S1x256 : S_.BroadcastsInDim S1x256 (![] : Fin 0 → Fin S1x256.rank)

variable [Facts]

def fn_where {F : FTy → Type} [FloatOps F] (arg0 : IVec S256x256 1) (arg1 : IVec S256x256 32) (arg2 : IVec S256x256 32) : IVec S256x256 32 :=
  let v0 : IVec S256x256 32 := select arg0 arg1 arg2
  v0

def fn_floor_divide {F : FTy → Type} [FloatOps F] (arg0 : IVec S256x256 32) (arg1 : IVec S_ 32) : IVec S256x256 32 :=
  let v0 : IVec S_ 32 := id arg1
  let v1 : IVec S256x256 32 := broadcastInDim S256x256 ![] bcast_S_S256x256 v0
  let v2 : IVec S256x256 32 := Host.divsi arg0 v1
  let v3 : IVec S256x256 32 := signi arg0
  let v4 : IVec S_ 32 := signi v0
  let v5 : IVec S256x256 32 := broadcastInDim S256x256 ![] bcast_S_S256x256 v4
  let v6 : IVec S256x256 1 := cmpi .ne v3 v5
  let v7 : IVec S256x256 32 := broadcastInDim S256x256 ![] bcast_S_S256x256 v0
  let v8 : IVec S256x256 32 := Host.remsi arg0 v7
  let c : IVec S_ 32 := constantI S_ 32 0#32
  let v9 : IVec S256x256 32 := broadcastInDim S256x256 ![] bcast_S_S256x256 c
  let v10 : IVec S256x256 1 := cmpi .ne v8 v9
  let v11 : IVec S256x256 1 := andi v6 v10
  let c_0 : IVec S_ 32 := constantI S_ 32 1#32
  let v12 : IVec S256x256 32 := broadcastInDim S256x256 ![] bcast_S_S256x256 c_0
  let v13 : IVec S256x256 32 := subi v2 v12
  let v14 : IVec S256x256 32 := fn_where (F := F) v11 v13 v2
  v14

def fn {F : FTy → Type} [FloatOps F] (main_arg0 : FVec F S8192x256 .f32) (main_arg1 : FVec F S4x64x64 .f32) (main_arg2 : FVec F S256 .f32) (main_arg3 : FVec F S8192x256 .f32) : IVec S8192x256 1 × IVec S256x256 1 × IVec S1x256 1 :=
  let main_v0 : IVec S256x256 32 := iotaInDim S256x256 32 0
  let main_v1 : IVec S256x256 32 := iotaInDim S256x256 32 1
  let main_c : IVec S_ 1 := constantI S_ 1 1#1
  let main_v2 : IVec S8192x256 1 := broadcastInDim S8192x256 ![] bcast_S_S8192x256 main_c
  let main_c_0 : IVec S_ 32 := constantI S_ 32 64#32
  let main_v3 : IVec S256x256 32 := fn_floor_divide (F := F) main_v0 main_c_0
  let main_c_1 : IVec S_ 32 := constantI S_ 32 64#32
  let main_v4 : IVec S256x256 32 := fn_floor_divide (F := F) main_v1 main_c_1
  let main_v5 : IVec S256x256 1 := cmpi .eq main_v3 main_v4
  let main_c_2 : IVec S_ 1 := constantI S_ 1 1#1
  let main_v6 : IVec S1x256 1 := broadcastInDim S1x256 ![] bcast_S_S1x256 main_c_2
  (main_v2, main_v5, main_v6)
-- ==== Pre_finite_conf.lean ====
abbrev S8192x512 : Shape := ⟨2, ![8192, 512]⟩
abbrev S31x256 : Shape := ⟨2, ![31, 256]⟩
abbrev S256 : Shape := ⟨1, ![256]⟩
abbrev S256x256 : Shape := ⟨2, ![256, 256]⟩
abbrev S8192x256 : Shape := ⟨2, ![8192, 256]⟩
abbrev S_ : Shape := ⟨0, ![]⟩

class Facts : Prop where
  bcast_S_S8192x512 : S_.BroadcastsInDim S8192x512 (![] : Fin 0 → Fin S8192x512.rank)
  bcast_S_S31x256 : S_.BroadcastsInDim S31x256 (![] : Fin 0 → Fin S31x256.rank)
  bcast_S_S256 : S_.BroadcastsInDim S256 (![] : Fin 0 → Fin S256.rank)
  bcast_S_S256x256 : S_.BroadcastsInDim S256x256 (![] : Fin 0 → Fin S256x256.rank)
  bcast_S_S8192x256 : S_.BroadcastsInDim S8192x256 (![] : Fin 0 → Fin S8192x256.rank)

variable [Facts]

def fn {F : FTy → Type} [FloatOps F] (main_arg0 : FVec F S8192x512 .f32) (main_arg1 : FVec F S31x256 .f32) (main_arg2 : FVec F S256 .f32) (main_arg3 : FVec F S256 .f32) (main_arg4 : FVec F S256x256 .f32) (main_arg5 : FVec F S8192x256 .f32) : IVec S8192x512 1 × IVec S31x256 1 × IVec S256 1 × IVec S256 1 × IVec S256x256 1 × IVec S8192x256 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S31x256 .f32 := Host.absf main_arg1
  let main_cst_0 : FVec F S_ .f32 := constant S_ .f32 0x7F800000#32
  let main_v4 : FVec F S31x256 .f32 := broadcastInDim S31x256 ![] bcast_S_S31x256 main_cst_0
  let main_v5 : IVec S31x256 1 := cmpf .olt main_v3 main_v4
  let main_v6 : FVec F S256 .f32 := Host.absf main_arg2
  let main_cst_1 : FVec F S_ .f32 := constant S_ .f32 0x7F800000#32
  let main_v7 : FVec F S256 .f32 := broadcastInDim S256 ![] bcast_S_S256 main_cst_1
  let main_v8 : IVec S256 1 := cmpf .olt main_v6 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_v12 : FVec F S256x256 .f32 := Host.absf main_arg4
  let main_cst_3 : FVec F S_ .f32 := constant S_ .f32 0x7F800000#32
  let main_v13 : FVec F S256x256 .f32 := broadcastInDim S256x256 ![] bcast_S_S256x256 main_cst_3
  let main_v14 : IVec S256x256 1 := cmpf .olt main_v12 main_v13
  let main_v15 : FVec F S8192x256 .f32 := Host.absf main_arg5
  let main_cst_4 : FVec F S_ .f32 := constant S_ .f32 0x7F800000#32
  let main_v16 : FVec F S8192x256 .f32 := broadcastInDim S8192x256 ![] bcast_S_S8192x256 main_cst_4
  let main_v17 : IVec S8192x256 1 := cmpf .olt main_v15 main_v16
  (main_v2, main_v5, main_v8, main_v11, main_v14, main_v17)
-- ==== Pre_finite_fox.lean ====
abbrev S8192x256 : Shape := ⟨2, ![8192, 256]⟩
abbrev S8192x4 : Shape := ⟨2, ![8192, 4]⟩
abbrev S4 : Shape := ⟨1, ![4]⟩
abbrev S_ : Shape := ⟨0, ![]⟩

class Facts : Prop where
  bcast_S_S8192x256 : S_.BroadcastsInDim S8192x256 (![] : Fin 0 → Fin S8192x256.rank)
  bcast_S_S8192x4 : S_.BroadcastsInDim S8192x4 (![] : Fin 0 → Fin S8192x4.rank)
  bcast_S_S4 : S_.BroadcastsInDim S4 (![] : Fin 0 → Fin S4.rank)

variable [Facts]

def fn {F : FTy → Type} [FloatOps F] (main_arg0 : FVec F S8192x256 .f32) (main_arg1 : FVec F S8192x256 .f32) (main_arg2 : FVec F S8192x256 .f32) (main_arg3 : FVec F S8192x4 .f32) (main_arg4 : FVec F S4 .f32) (main_arg5 : FVec F S8192x256 .f32) : IVec S8192x256 1 × IVec S8192x256 1 × IVec S8192x256 1 × IVec S8192x4 1 × IVec S4 1 × IVec S8192x256 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_v3 : FVec F S8192x256 .f32 := Host.absf main_arg1
  let main_cst_0 : FVec F S_ .f32 := constant S_ .f32 0x7F800000#32
  let main_v4 : FVec F S8192x256 .f32 := broadcastInDim S8192x256 ![] bcast_S_S8192x256 main_cst_0
  let main_v5 : IVec S8192x256 1 := cmpf .olt main_v3 main_v4
  let main_v6 : FVec F S8192x256 .f32 := Host.absf main_arg2
  let main_cst_1 : FVec F S_ .f32 := constant S_ .f32 0x7F800000#32
  let main_v7 : FVec F S8192x256 .f32 := broadcastInDim S8192x256 ![] bcast_S_S8192x256 main_cst_1
  let main_v8 : IVec S8192x256 1 := cmpf .olt main_v6 main_v7
  let main_v9 : FVec F S8192x4 .f32 := Host.absf main_arg3
  let main_cst_2 : FVec F S_ .f32 := constant S_ .f32 0x7F800000#32
  let main_v10 : FVec F S8192x4 .f32 := broadcastInDim S8192x4 ![] bcast_S_S8192x4 main_cst_2
  let main_v11 : IVec S8192x4 1 := cmpf .olt main_v9 main_v10
  let main_v12 : FVec F S4 .f32 := Host.absf main_arg4
  let main_cst_3 : FVec F S_ .f32 := constant S_ .f32 0x7F800000#32
  let main_v13 : FVec F S4 .f32 := broadcastInDim S4 ![] bcast_S_S4 main_cst_3
  let main_v14 : IVec S4 1 := cmpf .olt main_v12 main_v13
  let main_v15 : FVec F S8192x256 .f32 := Host.absf main_arg5
  let main_cst_4 : FVec F S_ .f32 := constant S_ .f32 0x7F800000#32
  let main_v16 : FVec F S8192x256 .f32 := broadcastInDim S8192x256 ![] bcast_S_S8192x256 main_cst_4
  let main_v17 : IVec S8192x256 1 := cmpf .olt main_v15 main_v16
  (main_v2, main_v5, main_v8, main_v11, main_v14, main_v17)
-- ==== Pre_finite_foxpost.lean ====
abbrev S8192x4 : Shape := ⟨2, ![8192, 4]⟩
abbrev S4 : Shape := ⟨1, ![4]⟩
abbrev S8192x512 : Shape := ⟨2, ![8192, 512]⟩
abbrev S_ : Shape := ⟨0, ![]⟩

class Facts : Prop where
  bcast_S_S8192x4 : S_.BroadcastsInDim S8192x4 (![] : Fin 0 → Fin S8192x4.rank)
  bcast_S_S4 : S_.BroadcastsInDim S4 (![] : Fin 0 → Fin S4.rank)

variable [Facts]

def fn {F : FTy → Type} [FloatOps F] (main_arg0 : FVec F S8192x4 .f32) (main_arg1 : FVec F S4 .f32) (main_arg2 : FVec F S8192x512 .f32) (main_arg3 : FVec F S8192x512 .f32) : IVec S8192x4 1 × IVec S4 1 :=
  let main_v0 : FVec F S8192x4 .f32 := Host.absf main_arg0
  let main_cst : FVec F S_ .f32 := constant S_ .f32 0x7F800000#32
  let main_v1 : FVec F S8192x4 .f32 := broadcastInDim S8192x4 ![] bcast_S_S8192x4 main_cst
  let main_v2 : IVec S8192x4 1 := cmpf .olt main_v0 main_v1
  let main_v3 : FVec F S4 .f32 := Host.absf main_arg1
  let main_cst_0 : FVec F S_ .f32 := constant S_ .f32 0x7F800000#32
  let main_v4 : FVec F S4 .f32 := broadcastInDim S4 ![] bcast_S_S4 main_cst_0
  let main_v5 : IVec S4 1 := cmpf .olt main_v3 main_v4
  (main_v2, main_v5)
-- ==== Pre_finite_mixin.lean ====
abbrev S8192x1024 : Shape := ⟨2, ![8192, 1024]⟩
abbrev S8192x512 : Shape := ⟨2, ![8192, 512]⟩
abbrev S8192x768 : Shape := ⟨2, ![8192, 768]⟩
abbrev S8192x256 : Shape := ⟨2, ![8192, 256]⟩
abbrev S8192x128 : Shape := ⟨2, ![8192, 128]⟩
abbrev S1024 : Shape := ⟨1, ![1024]⟩
abbrev S1024x2308 : Shape := ⟨2, ![1024, 2308]⟩
abbrev S_ : Shape := ⟨0, ![]⟩

class Facts : Prop where
  bcast_S_S8192x1024 : S_.BroadcastsInDim S8192x1024 (![] : Fin 0 → Fin S8192x1024.rank)
  bcast_S_S8192x512 : S_.BroadcastsInDim S8192x512 (![] : Fin 0 → Fin S8192x512.rank)
  bcast_S_S8192x768 : S_.BroadcastsInDim S8192x768 (![] : Fin 0 → Fin S8192x768.rank)
  bcast_S_S8192x256 : S_.BroadcastsInDim S8192x256 (![] : Fin 0 → Fin S8192x256.rank)
  bcast_S_S8192x128 : S_.BroadcastsInDim S8192x128 (![] : Fin 0 → Fin S8192x128.rank)
  bcast_S_S1024 : S_.BroadcastsInDim S1024 (![] : Fin 0 → Fin S1024.rank)
  bcast_S_S1024x2308 : S_.BroadcastsInDim S1024x2308 (![] : Fin 0 → Fin S1024x2308.rank)

variable [Facts]

def fn_part1 {F : FTy → Type} [FloatOps F] (main_arg7 : FVec F S8192x256 .f32) (main_arg8 : FVec F S8192x128 .f32) (main_arg9 : FVec F S1024 .f32) (main_arg10 : FVec F S1024x2308 .f32) (main_v2 : IVec S8192x1024 1) (main_v5 : IVec S8192x512 1) (main_v8 : IVec S8192x512 1) (main_v11 : IVec S8192x512 1) (main_v14 : IVec S8192x512 1) (main_v17 : IVec S8192x768 1) : IVec S8192x1024 1 × IVec S8192x512 1 × IVec S8192x512 1 × IVec S8192x512 1 × IVec S8192x512 1 × IVec S8192x768 1 × IVec S8192x256 1 × IVec S8192x128 1 × IVec S1024 1 × IVec S1024x2308 1 :=
  let main_v18 : FVec F S8192x256 .f32 := Host.absf main_arg7
  let main_cst_5 : FVec F S_ .f32 := constant S_ .f32 0x7F800000#32
  let main_v19 : FVec F S8192x256 .f32 := broadcastInDim S8192x256 ![] bcast_S_S8192x256 main_cst_5
  let main_v20 : IVec S8192x256 1 := cmpf .olt main_v18 main_v19
  let main_v21 : FVec F S8192x128 .f32 := Host.absf main_arg8
  let main_cst_6 : FVec F S_ .f32 := constant S_ .f32 0x7F800000#32
  let main_v22 : FVec F S8192x128 .f32 := broadcastInDim S8192x128 ![] bcast_S_S8192x128 main_cst_6
  let main_v23 : IVec S8192x128 1 := cmpf .olt main_v21 main_v22
  let main_v24 : FVec F S1024 .f32 := Host.absf main_arg9
  let main_cst_7 : FVec F S_ .f32 := constant S_ .f32 0x7F800000#32
  let main_v25 : FVec F S1024 .f32 := broadcastInDim S1024 ![] bcast_S_S1024 main_cst_7
  let main_v26 : IVec S1024 1 := cmpf .olt main_v24 main_v25
  let main_v27 : FVec F S1024x2308 .f32 := Host.absf main_arg10
  let main_cst_8 : FVec F S_ .f32 := constant S_ .f32 0x7F800000#32
  let main_v28 : FVec F S1024x2308 .f32 := broadcastInDim S1024x2308 ![] bcast_S_S1024x2308 main_cst_8
  let main_v29 : IVec S1024x2308 1 := cmpf .olt main_v27 main_v28
  (main_v2, main_v5, main_v8, main_v11, main_v14, main_v17, main_v20, main_v23, main_v26, main_v29)

def fn {F : FTy → Type} [FloatOps F] (main_arg0 : FVec F S8192x1024 .f32) (main_arg1 : FVec F S8192x1024 .f32) (main_arg2 : FVec F S8192x512 .f32) (main_arg3 : FVec F S8192x512 .f32) (main_arg4 : FVec F S8192x512 .f32) (main_arg5 : FVec F S8192x512 .f32) (main_arg6 : FVec F S8192x768 .f32) (main_arg7 : FVec F S8192x256 .f32) (main_arg8 : FVec F S8192x128 .f32) (main_arg9 : FVec F S1024 .f32) (main_arg10 : FVec F S1024x2308 .f32) : IVec S8192x1024 1 × IVec S8192x512 1 × IVec S8192x512 1 × IVec S8192x512 1 × IVec S8192x512 1 × IVec S8192x768 1 × IVec S8192x256 1 × IVec S8192x128 1 × IVec S1024 1 × IVec S1024x2308 1 :=
  let main_v0 : FVec F S8192x1024 .f32 := Host.absf main_arg1
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x512 .f32 := Host.absf main_arg2
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x512 .f32 := Host.absf main_arg3
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S8192x512 .f32 := Host.absf main_arg4
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_v12 : FVec F S8192x512 .f32 := Host.absf main_arg5
  let main_cst_3 : FVec F S_ .f32 := constant S_ .f32 0x7F800000#32
  let main_v13 : FVec F S8192x512 .f32 := broadcastInDim S8192x512 ![] bcast_S_S8192x512 main_cst_3
  let main_v14 : IVec S8192x512 1 := cmpf .olt main_v12 main_v13
  let main_v15 : FVec F S8192x768 .f32 := Host.absf main_arg6
  let main_cst_4 : FVec F S_ .f32 := constant S_ .f32 0x7F800000#32
  let main_v16 : FVec F S8192x768 .f32 := broadcastInDim S8192x768 ![] bcast_S_S8192x768 main_cst_4
  let main_v17 : IVec S8192x768 1 := cmpf .olt main_v15 main_v16
  fn_part1 (F := F) main_arg7 main_arg8 main_arg9 main_arg10 main_v2 main_v5 main_v8 main_v11 main_v14 main_v17
-- ==== Pre_finite_mixout.lean ====
abbrev S8192x1024 : Shape := ⟨2, ![8192, 1024]⟩
abbrev S8192x256 : Shape := ⟨2, ![8192, 256]⟩
abbrev S8192x4x64 : Shape := ⟨3, ![8192, 4, 64]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S8192x256 : S_.BroadcastsInDim S8192x256 (![] : Fin 0 → Fin S8192x256.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn_part1 {F : FTy → Type} [FloatOps F] (main_arg7 : FVec F S1024 .f32) (main_v2 : IVec S8192x1024 1) (main_v5 : IVec S8192x256 1) (main_v8 : IVec S8192x256 1) (main_v11 : IVec S8192x256 1) (main_v14 : IVec S8192x256 1) (main_v17 : IVec S1024x1024 1) : IVec S8192x1024 1 × IVec S8192x256 1 × IVec S8192x256 1 × IVec S8192x256 1 × IVec S8192x256 1 × IVec S1024x1024 1 × IVec S1024 1 :=
  let main_v18 : FVec F S1024 .f32 := Host.absf main_arg7
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  (main_v2, main_v5, main_v8, main_v11, main_v14, main_v17, main_v20)

def fn {F : FTy → Type} [FloatOps F] (main_arg0 : FVec F S8192x1024 .f32) (main_arg1 : FVec F S8192x256 .f32) (main_arg2 : FVec F S8192x256 .f32) (main_arg3 : FVec F S8192x256 .f32) (main_arg4 : FVec F S8192x256 .f32) (main_arg5 : FVec F S8192x4x64 .f32) (main_arg6 : FVec F S1024x1024 .f32) (main_arg7 : FVec F S1024 .f32) : IVec S8192x1024 1 × IVec S8192x256 1 × IVec S8192x256 1 × IVec S8192x256 1 × IVec S8192x256 1 × IVec S1024x1024 1 × IVec S1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x256 .f32 := Host.absf main_arg1
  let main_cst_0 : FVec F S_ .f32 := constant S_ .f32 0x7F800000#32
  let main_v4 : FVec F S8192x256 .f32 := broadcastInDim S8192x256 ![] bcast_S_S8192x256 main_cst_0
  let main_v5 : IVec S8192x256 1 := cmpf .olt main_v3 main_v4
  let main_v6 : FVec F S8192x256 .f32 := Host.absf main_arg2
  let main_cst_1 : FVec F S_ .f32 := constant S_ .f32 0x7F800000#32
  let main_v7 : FVec F S8192x256 .f32 := broadcastInDim S8192x256 ![] bcast_S_S8192x256 main_cst_1
  let main_v8 : IVec S8192x256 1 := cmpf .olt main_v6 main_v7
  let main_v9 : FVec F S8192x256 .f32 := Host.absf main_arg3
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_v12 : FVec F S8192x256 .f32 := Host.absf main_arg4
  let main_cst_3 : FVec F S_ .f32 := constant S_ .f32 0x7F800000#32
  let main_v13 : FVec F S8192x256 .f32 := broadcastInDim S8192x256 ![] bcast_S_S8192x256 main_cst_3
  let main_v14 : IVec S8192x256 1 := cmpf .olt main_v12 main_v13
  let main_v15 : FVec F S1024x1024 .f32 := Host.absf main_arg6
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  fn_part1 (F := F) main_arg7 main_v2 main_v5 main_v8 main_v11 main_v14 main_v17
-- ==== Pre_finite_mlpa.lean ====
abbrev S8192x1024 : Shape := ⟨2, ![8192, 1024]⟩
abbrev S8192x4096 : Shape := ⟨2, ![8192, 4096]⟩
abbrev S4096x1024 : Shape := ⟨2, ![4096, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S8192x4096 : S_.BroadcastsInDim S8192x4096 (![] : Fin 0 → Fin S8192x4096.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S8192x1024 .f32) (main_arg1 : FVec F S8192x4096 .f32) (main_arg2 : FVec F S4096x1024 .f32) (main_arg3 : FVec F S1024 .f32) : IVec S8192x1024 1 × IVec S8192x4096 1 × IVec S4096x1024 1 × IVec S1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x4096 .f32 := Host.absf main_arg1
  let main_cst_0 : FVec F S_ .f32 := constant S_ .f32 0x7F800000#32
  let main_v4 : FVec F S8192x4096 .f32 := broadcastInDim S8192x4096 ![] bcast_S_S8192x4096 main_cst_0
  let main_v5 : IVec S8192x4096 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  (main_v2, main_v5, main_v8, main_v11)
-- ==== Pre_finite_mlpb.lean ====
abbrev S8192x1024 : Shape := ⟨2, ![8192, 1024]⟩
abbrev S8192x4096 : Shape := ⟨2, ![8192, 4096]⟩
abbrev S1024x4096 : Shape := ⟨2, ![1024, 4096]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S8192x4096 : S_.BroadcastsInDim S8192x4096 (![] : Fin 0 → Fin S8192x4096.rank)
  bcast_S_S1024x4096 : S_.BroadcastsInDim S1024x4096 (![] : Fin 0 → Fin S1024x4096.rank)
  bcast_S_S1024 : S_.BroadcastsInDim S1024 (![] : Fin 0 → Fin S1024.rank)

variable [Facts]

def fn {F : FTy → Type} [FloatOps F] (main_arg0 : FVec F S8192x1024 .f32) (main_arg1 : FVec F S8192x1024 .f32) (main_arg2 : FVec F S8192x4096 .f32) (main_arg3 : FVec F S1024x4096 .f32) (main_arg4 : FVec F S1024 .f32) : IVec S8192x1024 1 × IVec S8192x4096 1 × IVec S1024x4096 1 × IVec S1024 1 :=
  let main_v0 : FVec F S8192x1024 .f32 := Host.absf main_arg1
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x4096 .f32 := Host.absf main_arg2
  let main_cst_0 : FVec F S_ .f32 := constant S_ .f32 0x7F800000#32
  let main_v4 : FVec F S8192x4096 .f32 := broadcastInDim S8192x4096 ![] bcast_S_S8192x4096 main_cst_0
  let main_v5 : IVec S8192x4096 1 := cmpf .olt main_v3 main_v4
  let main_v6 : FVec F S1024x4096 .f32 := Host.absf main_arg3
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  (main_v2, main_v5, main_v8, main_v11)
-- ==== Pre_finite_ple.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩

class Facts : Prop where
  bcast_S_S8192x1024 : S_.BroadcastsInDim S8192x1024 (![] : Fin 0 → Fin S8192x1024.rank)
  bcast_S_S8192x256 : S_.BroadcastsInDim S8192x256 (![] : Fin 0 → Fin S8192x256.rank)
  bcast_S_S1024 : S_.BroadcastsInDim S1024 (![] : Fin 0 → Fin S1024.rank)
  bcast_S_S1024x1024 : S_.BroadcastsInDim S1024x1024 (![] : Fin 0 → Fin S1024x1024.rank)
  bcast_S_S256x1024 : S_.BroadcastsInDim S256x1024 (![] : Fin 0 → Fin S256x1024.rank)

variable [Facts]

def fn_part1 {F : FTy → Type} [FloatOps F] (main_arg6 : FVec F S1024 .f32) (main_v2 : IVec S8192x1024 1) (main_v5 : IVec S8192x1024 1) (main_v8 : IVec S8192x256 1) (main_v11 : IVec S1024 1) (main_v14 : IVec S1024x1024 1) (main_v17 : IVec S256x1024 1) : IVec S8192x1024 1 × IVec S8192x1024 1 × IVec S8192x256 1 × IVec S1024 1 × IVec S1024x1024 1 × IVec S256x1024 1 × IVec S1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  (main_v2, main_v5, main_v8, main_v11, main_v14, main_v17, main_v20)

def fn {F : FTy → Type} [FloatOps F] (main_arg0 : FVec F S8192x1024 .f32) (main_arg1 : FVec F S8192x1024 .f32) (main_arg2 : FVec F S8192x256 .f32) (main_arg3 : FVec F S1024 .f32) (main_arg4 : FVec F S1024x1024 .f32) (main_arg5 : FVec F S256x1024 .f32) (main_arg6 : FVec F S1024 .f32) : IVec S8192x1024 1 × IVec S8192x1024 1 × IVec S8192x256 1 × IVec S1024 1 × IVec S1024x1024 1 × IVec S256x1024 1 × IVec S1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x256 .f32 := Host.absf main_arg2
  let main_cst_1 : FVec F S_ .f32 := constant S_ .f32 0x7F800000#32
  let main_v7 : FVec F S8192x256 .f32 := broadcastInDim S8192x256 ![] bcast_S_S8192x256 main_cst_1
  let main_v8 : IVec S8192x256 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S256x1024 .f32 := Host.absf main_arg5
  let main_cst_4 : FVec F S_ .f32 := constant S_ .f32 0x7F800000#32
  let main_v16 : FVec F S256x1024 .f32 := broadcastInDim S256x1024 ![] bcast_S_S256x1024 main_cst_4
  let main_v17 : IVec S256x1024 1 := cmpf .olt main_v15 main_v16
  fn_part1 (F := F) main_arg6 main_v2 main_v5 main_v8 main_v11 main_v14 main_v17
-- ==== Pre_finite_pool.lean ====
abbrev S8192x256 : Shape := ⟨2, ![8192, 256]⟩
abbrev S4x64x64 : Shape := ⟨3, ![4, 64, 64]⟩
abbrev S256 : Shape := ⟨1, ![256]⟩
abbrev S_ : Shape := ⟨0, ![]⟩

class Facts : Prop where
  bcast_S_S8192x256 : S_.BroadcastsInDim S8192x256 (![] : Fin 0 → Fin S8192x256.rank)
  bcast_S_S4x64x64 : S_.BroadcastsInDim S4x64x64 (![] : Fin 0 → Fin S4x64x64.rank)
  bcast_S_S256 : S_.BroadcastsInDim S256 (![] : Fin 0 → Fin S256.rank)

variable [Facts]

def fn {F : FTy → Type} [FloatOps F] (main_arg0 : FVec F S8192x256 .f32) (main_arg1 : FVec F S4x64x64 .f32) (main_arg2 : FVec F S256 .f32) (main_arg3 : FVec F S8192x256 .f32) : IVec S8192x256 1 × IVec S4x64x64 1 × IVec S256 1 × IVec S8192x256 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_v3 : FVec F S4x64x64 .f32 := Host.absf main_arg1
  let main_cst_0 : FVec F S_ .f32 := constant S_ .f32 0x7F800000#32
  let main_v4 : FVec F S4x64x64 .f32 := broadcastInDim S4x64x64 ![] bcast_S_S4x64x64 main_cst_0
  let main_v5 : IVec S4x64x64 1 := cmpf .olt main_v3 main_v4
  let main_v6 : FVec F S256 .f32 := Host.absf main_arg2
  let main_cst_1 : FVec F S_ .f32 := constant S_ .f32 0x7F800000#32
  let main_v7 : FVec F S256 .f32 := broadcastInDim S256 ![] bcast_S_S256 main_cst_1
  let main_v8 : IVec S256 1 := cmpf .olt main_v6 main_v7
  let main_v9 : FVec F S8192x256 .f32 := Host.absf main_arg3
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  (main_v2, main_v5, main_v8, main_v11)
-- ==== Loss.lean ====
abbrev S8192x1024 : Shape := ⟨2, ![8192, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S8192x1024 : Shape := ⟨2, ![8192, 1024]⟩
abbrev S_ : Shape := ⟨0, ![]⟩
abbrev S8192 : Shape := ⟨1, ![8192]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== SConv.lean ====
abbrev S8192x768 : Shape := ⟨2, ![8192, 768]⟩
abbrev S3x256 : Shape := ⟨2, ![3, 256]⟩
abbrev S8192x256 : Shape := ⟨2, ![8192, 256]⟩
abbrev S_ : Shape := ⟨0, ![]⟩
abbrev S8x256 : Shape := ⟨2, ![8, 256]⟩
abbrev S1024x768 : Shape := ⟨2, ![1024, 768]⟩
abbrev S1024x256 : Shape := ⟨2, ![1024, 256]⟩
abbrev S32x768 : Shape := ⟨2, ![32, 768]⟩
abbrev S32x256 : Shape := ⟨2, ![32, 256]⟩
abbrev S1056x768 : Shape := ⟨2, ![1056, 768]⟩
abbrev S1056x256 : Shape := ⟨2, ![1056, 256]⟩
abbrev S1x256 : Shape := ⟨2, ![1, 256]⟩
abbrev S256 : Shape := ⟨1, ![256]⟩

abbrev nBuf : Space → Nat
  | .hbm => 8
  | .vmem => 14
  | .smem => 0
  | _ => 0

abbrev bufTy : (tb : Table) → Fin (tcTables nBuf tb) → BufTy
  | .hbm, ⟨0, _⟩ => ⟨S8192x768, .f32⟩
  | .hbm, ⟨1, _⟩ => ⟨S3x256, .f32⟩
  | .hbm, ⟨2, _⟩ => ⟨S8192x256, .f32⟩
  | .hbm, ⟨3, _⟩ => ⟨S_, .i32⟩
  | .hbm, ⟨4, _⟩ => ⟨S_, .f32⟩
  | .hbm, ⟨5, _⟩ => ⟨S8x256, .f32⟩
  | .hbm, ⟨6, _⟩ => ⟨S8192x768, .bf16⟩
  | .hbm, ⟨7, _⟩ => ⟨S8x256, .f32⟩
  | .local _ .vmem, ⟨0, _⟩ => ⟨S1024x768, .f32⟩
  | .local _ .vmem, ⟨1, _⟩ => ⟨S1024x768, .f32⟩
  | .local _ .vmem, ⟨2, _⟩ => ⟨S1024x256, .f32⟩
  | .local _ .vmem, ⟨3, _⟩ => ⟨S1024x256, .f32⟩
  | .local _ .vmem, ⟨4, _⟩ => ⟨S32x768, .f32⟩
  | .local _ .vmem, ⟨5, _⟩ => ⟨S32x768, .f32⟩
  | .local _ .vmem, ⟨6, _⟩ => ⟨S32x768, .f32⟩
  | .local _ .vmem, ⟨7, _⟩ => ⟨S32x768, .f32⟩
  | .local _ .vmem, ⟨8, _⟩ => ⟨S32x256, .f32⟩
  | .local _ .vmem, ⟨9, _⟩ => ⟨S32x256, .f32⟩
  | .local _ .vmem, ⟨10, _⟩ => ⟨S8x256, .f32⟩
  | .local _ .vmem, ⟨11, _⟩ => ⟨S1024x768, .bf16⟩
  | .local _ .vmem, ⟨12, _⟩ => ⟨S1024x768, .bf16⟩
  | .local _ .vmem, ⟨13, _⟩ => ⟨S8x256, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== SConvRefIdeal.lean ====
abbrev S8192x768 : Shape := ⟨2, ![8192, 768]⟩
abbrev S3x256 : Shape := ⟨2, ![3, 256]⟩
abbrev S8192x256 : Shape := ⟨2, ![8192, 256]⟩
abbrev S_ : Shape := ⟨0, ![]⟩
abbrev S2x256 : Shape := ⟨2, ![2, 256]⟩
abbrev S8194x256 : Shape := ⟨2, ![8194, 256]⟩
abbrev S1x256 : Shape := ⟨2, ![1, 256]⟩
abbrev S256 : Shape := ⟨1, ![256]⟩
abbrev S8x256 : Shape := ⟨2, ![8, 256]⟩

abbrev nBuf : Space → Nat
  | .hbm => 87
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S3x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S_, .f32⟩
  | .hbm, ⟨8, _⟩ => ⟨S2x256, .f32⟩
  | .hbm, ⟨9, _⟩ => ⟨S8194x256, .f32⟩
  | .hbm, ⟨10, _⟩ => ⟨S_, .f32⟩
  | .hbm, ⟨11, _⟩ => ⟨S2x256, .f32⟩
  | .hbm, ⟨12, _⟩ => ⟨S1x256, .f32⟩
  | .hbm, ⟨13, _⟩ => ⟨S256, .f32⟩
  | .hbm, ⟨14, _⟩ => ⟨S8192x256, .f32⟩
  | .hbm, ⟨15, _⟩ => ⟨S1x256, .f32⟩
  | .hbm, ⟨16, _⟩ => ⟨S8192x256, .f32⟩
  | .hbm, ⟨17, _⟩ => ⟨S8192x256, .f32⟩
  | .hbm, ⟨18, _⟩ => ⟨S1x256, .f32⟩
  | .hbm, ⟨19, _⟩ => ⟨S256, .f32⟩
  | .hbm, ⟨20, _⟩ => ⟨S8192x256, .f32⟩
  | .hbm, ⟨21, _⟩ => ⟨S1x256, .f32⟩
  | .hbm, ⟨22, _⟩ => ⟨S8192x256, .f32⟩
  | .hbm, ⟨23, _⟩ => ⟨S8192x256, .f32⟩
  | .hbm, ⟨24, _⟩ => ⟨S8192x256, .f32⟩
  | .hbm, ⟨25, _⟩ => ⟨S1x256, .f32⟩
  | .hbm, ⟨26, _⟩ => ⟨S256, .f32⟩
  | .hbm, ⟨27, _⟩ => ⟨S8192x256, .f32⟩
  | .hbm, ⟨28, _⟩ => ⟨S1x256, .f32⟩
  | .hbm, ⟨29, _⟩ => ⟨S8192x256, .f32⟩
  | .hbm, ⟨30, _⟩ => ⟨S8192x256, .f32⟩
  | .hbm, ⟨31, _⟩ => ⟨S8192x256, .f32⟩
  | .hbm, ⟨32, _⟩ => ⟨S8192x256, .f32⟩
  | .hbm, ⟨33, _⟩ => ⟨S8192x256, .f32⟩
  | .hbm, ⟨34, _⟩ => ⟨S8192x256, .f32⟩
  | .hbm, ⟨35, _⟩ => ⟨S8192x256, .f32⟩
  | .hbm, ⟨36, _⟩ => ⟨S8192x256, .f32⟩
  | .hbm, ⟨37, _⟩ => ⟨S8192x256, .f32⟩
  | .hbm, ⟨38, _⟩ => ⟨S_, .f32⟩
  | .hbm, ⟨39, _⟩ => ⟨S256, .f32⟩
  | .hbm, ⟨40, _⟩ => ⟨S1x256, .f32⟩
  | .hbm, ⟨41, _⟩ => ⟨S_, .f32⟩
  | .hbm, ⟨42, _⟩ => ⟨S256, .f32⟩
  | .hbm, ⟨43, _⟩ => ⟨S_, .f32⟩
  | .hbm, ⟨44, _⟩ => ⟨S8194x256, .f32⟩
  | .hbm, ⟨45, _⟩ => ⟨S1x256, .f32⟩
  | .hbm, ⟨46, _⟩ => ⟨S_, .f32⟩
  | .hbm, ⟨47, _⟩ => ⟨S3x256, .f32⟩
  | .hbm, ⟨48, _⟩ => ⟨S8192x256, .f32⟩
  | .hbm, ⟨49, _⟩ => ⟨S8192x256, .f32⟩
  | .hbm, ⟨50, _⟩ => ⟨S8192x256, .f32⟩
  | .hbm, ⟨51, _⟩ => ⟨S_, .f32⟩
  | .hbm, ⟨52, _⟩ => ⟨S256, .f32⟩
  | .hbm, ⟨53, _⟩ => ⟨S1x256, .f32⟩
  | .hbm, ⟨54, _⟩ => ⟨S_, .f32⟩
  | .hbm, ⟨55, _⟩ => ⟨S256, .f32⟩
  | .hbm, ⟨56, _⟩ => ⟨S_, .f32⟩
  | .hbm, ⟨57, _⟩ => ⟨S8194x256, .f32⟩
  | .hbm, ⟨58, _⟩ => ⟨S8194x256, .f32⟩
  | .hbm, ⟨59, _⟩ => ⟨S1x256, .f32⟩
  | .hbm, ⟨60, _⟩ => ⟨S_, .f32⟩
  | .hbm, ⟨61, _⟩ => ⟨S3x256, .f32⟩
  | .hbm, ⟨62, _⟩ => ⟨S3x256, .f32⟩
  | .hbm, ⟨63, _⟩ => ⟨S8192x256, .f32⟩
  | .hbm, ⟨64, _⟩ => ⟨S8192x256, .f32⟩
  | .hbm, ⟨65, _⟩ => ⟨S8192x256, .f32⟩
  | .hbm, ⟨66, _⟩ => ⟨S_, .f32⟩
  | .hbm, ⟨67, _⟩ => ⟨S256, .f32⟩
  | .hbm, ⟨68, _⟩ => ⟨S1x256, .f32⟩
  | .hbm, ⟨69, _⟩ => ⟨S_, .f32⟩
  | .hbm, ⟨70, _⟩ => ⟨S256, .f32⟩
  | .hbm, ⟨71, _⟩ => ⟨S_, .f32⟩
  | .hbm, ⟨72, _⟩ => ⟨S8194x256, .f32⟩
  | .hbm, ⟨73, _⟩ => ⟨S8194x256, .f32⟩
  | .hbm, ⟨74, _⟩ => ⟨S1x256, .f32⟩
  | .hbm, ⟨75, _⟩ => ⟨S_, .f32⟩
  | .hbm, ⟨76, _⟩ => ⟨S3x256, .f32⟩
  | .hbm, ⟨77, _⟩ => ⟨S3x256, .f32⟩
  | .hbm, ⟨78, _⟩ => ⟨S2x256, .f32⟩
  | .hbm, ⟨79, _⟩ => ⟨S8192x256, .f32⟩
  | .hbm, ⟨80, _⟩ => ⟨S8192x256, .f32⟩
  | .hbm, ⟨81, _⟩ => ⟨S8192x256, .f32⟩
  | .hbm, ⟨82, _⟩ => ⟨S8192x768, .f32⟩
  | .hbm, ⟨83, _⟩ => ⟨S8192x768, .bf16⟩
  | .hbm, ⟨84, _⟩ => ⟨S_, .i32⟩
  | .hbm, ⟨85, _⟩ => ⟨S_, .f32⟩
  | .hbm, ⟨86, _⟩ => ⟨S8x256, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_cst_7 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_c : Ref sig .tc := ⟨.hbm, 84, rfl⟩
abbrev main_call0_v0 : Ref sig .tc := ⟨.hbm, 85, rfl⟩
abbrev main_v67 : Ref sig .tc := ⟨.hbm, 86, rfl⟩

abbrev nD : Nat := 1
abbrev τ : Topo := Topo.v7x

variable {F : FTy → Type} [FloatOps F]
-- ==== FoxBwd.lean ====
abbrev S8192x256 : Shape := ⟨2, ![8192, 256]⟩
abbrev S8192x4 : Shape := ⟨2, ![8192, 4]⟩
abbrev S4 : Shape := ⟨1, ![4]⟩
abbrev S1x4 : Shape := ⟨2, ![1, 4]⟩
abbrev S_ : Shape := ⟨0, ![]⟩
abbrev S8192x4x64 : Shape := ⟨3, ![8192, 4, 64]⟩
abbrev S8192x4x3 : Shape := ⟨3, ![8192, 4, 3]⟩
abbrev S8192x4x61 : Shape := ⟨3, ![8192, 4, 61]⟩
abbrev S8192x4x128 : Shape := ⟨3, ![8192, 4, 128]⟩
abbrev S8192x512 : Shape := ⟨2, ![8192, 512]⟩
abbrev S8192x4x1 : Shape := ⟨3, ![8192, 4, 1]⟩
abbrev S8192x4x60 : Shape := ⟨3, ![8192, 4, 60]⟩
abbrev S4x8192x8192 : Shape := ⟨3, ![4, 8192, 8192]⟩
abbrev S4x8192 : Shape := ⟨2, ![4, 8192]⟩
abbrev S4x1x8192 : Shape := ⟨3, ![4, 1, 8192]⟩
abbrev S8192x8192 : Shape := ⟨2, ![8192, 8192]⟩
abbrev S4x8192x1 : Shape := ⟨3, ![4, 8192, 1]⟩
abbrev S4x64x8192 : Shape := ⟨3, ![4, 64, 8192]⟩
abbrev S8192x4x63 : Shape := ⟨3, ![8192, 4, 63]⟩
abbrev S8192x128 : Shape := ⟨2, ![8192, 128]⟩
abbrev S512x128 : Shape := ⟨2, ![512, 128]⟩
abbrev S8x8192 : Shape := ⟨2, ![8, 8192]⟩
abbrev S8x128 : Shape := ⟨2, ![8, 128]⟩
abbrev S512x512 : Shape := ⟨2, ![512, 512]⟩
abbrev S1x512 : Shape := ⟨2, ![1, 512]⟩

abbrev nBuf : Space → Nat
  | .hbm => 115
  | .vmem => 19
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x4, .f32⟩
  | .hbm, ⟨4, _⟩ => ⟨S4, .f32⟩
  | .hbm, ⟨5, _⟩ => ⟨S8192x256, .f32⟩
  | .hbm, ⟨6, _⟩ => ⟨S1x4, .f32⟩
  | .hbm, ⟨7, _⟩ => ⟨S8192x4, .f32⟩
  | .hbm, ⟨8, _⟩ => ⟨S8192x4, .f32⟩
  | .hbm, ⟨9, _⟩ => ⟨S_, .f32⟩
  | .hbm, ⟨10, _⟩ => ⟨S8192x4, .f32⟩
  | .hbm, ⟨11, _⟩ => ⟨S8192x4, .f32⟩
  | .hbm, ⟨12, _⟩ => ⟨S8192x4, .f32⟩
  | .hbm, ⟨13, _⟩ => ⟨S8192x4, .f32⟩
  | .hbm, ⟨14, _⟩ => ⟨S8192x4, .f32⟩
  | .hbm, ⟨15, _⟩ => ⟨S_, .f32⟩
  | .hbm, ⟨16, _⟩ => ⟨S8192x4, .f32⟩
  | .hbm, ⟨17, _⟩ => ⟨S8192x4, .f32⟩
  | .hbm, ⟨18, _⟩ => ⟨S8192x4, .f32⟩
  | .hbm, ⟨19, _⟩ => ⟨S8192x4, .f32⟩
  | .hbm, ⟨20, _⟩ => ⟨S_, .f32⟩
  | .hbm, ⟨21, _⟩ => ⟨S_, .f32⟩
  | .hbm, ⟨22, _⟩ => ⟨S8192x4, .f32⟩
  | .hbm, ⟨23, _⟩ => ⟨S8192x4x64, .f32⟩
  | .hbm, ⟨24, _⟩ => ⟨S8192x4x64, .f32⟩
  | .hbm, ⟨25, _⟩ => ⟨S8192x4x64, .f32⟩
  | .hbm, ⟨26, _⟩ => ⟨S_, .f32⟩
  | .hbm, ⟨27, _⟩ => ⟨S8192x4x3, .f32⟩
  | .hbm, ⟨28, _⟩ => ⟨S_, .f32⟩
  | .hbm, ⟨29, _⟩ => ⟨S8192x4x64, .f32⟩
  | .hbm, ⟨30, _⟩ => ⟨S8192x4x64, .f32⟩
  | .hbm, ⟨31, _⟩ => ⟨S_, .f32⟩
  | .hbm, ⟨32, _⟩ => ⟨S8192x4x61, .f32⟩
  | .hbm, ⟨33, _⟩ => ⟨S8192x4x128, .f32⟩
  | .hbm, ⟨34, _⟩ => ⟨S8192x512, .f32⟩
  | .hbm, ⟨35, _⟩ => ⟨S8192x512, .bf16⟩
  | .hbm, ⟨36, _⟩ => ⟨S8192x4, .f32⟩
  | .hbm, ⟨37, _⟩ => ⟨S8192x4, .bf16⟩
  | .hbm, ⟨38, _⟩ => ⟨S8192x4, .f32⟩
  | .hbm, ⟨39, _⟩ => ⟨S8192x4, .f32⟩
  | .hbm, ⟨40, _⟩ => ⟨S8192x4, .bf16⟩
  | .hbm, ⟨41, _⟩ => ⟨S8192x4, .f32⟩
  | .hbm, ⟨42, _⟩ => ⟨S8192x4, .f32⟩
  | .hbm, ⟨43, _⟩ => ⟨S8192x4, .f32⟩
  | .hbm, ⟨44, _⟩ => ⟨S8192x4, .bf16⟩
  | .hbm, ⟨45, _⟩ => ⟨S8192x4, .f32⟩
  | .hbm, ⟨46, _⟩ => ⟨S8192x4x1, .f32⟩
  | .hbm, ⟨47, _⟩ => ⟨S8192x4x1, .f32⟩
  | .hbm, ⟨48, _⟩ => ⟨S8192x4x1, .f32⟩
  | .hbm, ⟨49, _⟩ => ⟨S_, .f32⟩
  | .hbm, ⟨50, _⟩ => ⟨S8192x4x1, .f32⟩
  | .hbm, ⟨51, _⟩ => ⟨S_, .f32⟩
  | .hbm, ⟨52, _⟩ => ⟨S8192x4x60, .f32⟩
  | .hbm, ⟨53, _⟩ => ⟨S8192x4x128, .f32⟩
  | .hbm, ⟨54, _⟩ => ⟨S8192x512, .f32⟩
  | .hbm, ⟨55, _⟩ => ⟨S8192x512, .bf16⟩
  | .hbm, ⟨56, _⟩ => ⟨S_, .i32⟩
  | .hbm, ⟨57, _⟩ => ⟨S_, .f32⟩
  | .hbm, ⟨58, _⟩ => ⟨S8192x4x128, .f32⟩
  | .hbm, ⟨59, _⟩ => ⟨S8192x512, .f32⟩
  | .hbm, ⟨60, _⟩ => ⟨S8192x512, .bf16⟩
  | .hbm, ⟨61, _⟩ => ⟨S8192x4x64, .f32⟩
  | .hbm, ⟨62, _⟩ => ⟨S_, .i32⟩
  | .hbm, ⟨63, _⟩ => ⟨S_, .f32⟩
  | .hbm, ⟨64, _⟩ => ⟨S8192x4x128, .f32⟩
  | .hbm, ⟨65, _⟩ => ⟨S8192x512, .f32⟩
  | .hbm, ⟨66, _⟩ => ⟨S4x8192x8192, .f32⟩
  | .hbm, ⟨67, _⟩ => ⟨S_, .f32⟩
  | .hbm, ⟨68, _⟩ => ⟨S4x8192x8192, .f32⟩
  | .hbm, ⟨69, _⟩ => ⟨S4x8192x8192, .f32⟩
  | .hbm, ⟨70, _⟩ => ⟨S4x8192, .f32⟩
  | .hbm, ⟨71, _⟩ => ⟨S4x1x8192, .f32⟩
  | .hbm, ⟨72, _⟩ => ⟨S4x8192x8192, .f32⟩
  | .hbm, ⟨73, _⟩ => ⟨S4x8192x8192, .f32⟩
  | .hbm, ⟨74, _⟩ => ⟨S_, .i1⟩
  | .hbm, ⟨75, _⟩ => ⟨S8192x8192, .i1⟩
  | .hbm, ⟨76, _⟩ => ⟨S8192x8192, .i32⟩
  | .hbm, ⟨77, _⟩ => ⟨S_, .i32⟩
  | .hbm, ⟨78, _⟩ => ⟨S8192x8192, .i32⟩
  | .hbm, ⟨79, _⟩ => ⟨S8192x8192, .i32⟩
  | .hbm, ⟨80, _⟩ => ⟨S8192x8192, .i32⟩
  | .hbm, ⟨81, _⟩ => ⟨S8192x8192, .i1⟩
  | .hbm, ⟨82, _⟩ => ⟨S_, .i1⟩
  | .hbm, ⟨83, _⟩ => ⟨S8192x8192, .i1⟩
  | .hbm, ⟨84, _⟩ => ⟨S8192x8192, .i1⟩
  | .hbm, ⟨85, _⟩ => ⟨S_, .f32⟩
  | .hbm, ⟨86, _⟩ => ⟨S_, .f32⟩
  | .hbm, ⟨87, _⟩ => ⟨S4x8192x8192, .i1⟩
  | .hbm, ⟨88, _⟩ => ⟨S4x8192x8192, .f32⟩
  | .hbm, ⟨89, _⟩ => ⟨S4x8192x8192, .f32⟩
  | .hbm, ⟨90, _⟩ => ⟨S_, .f32⟩
  | .hbm, ⟨91, _⟩ => ⟨S4x8192, .f32⟩
  | .hbm, ⟨92, _⟩ => ⟨S4x8192x1, .f32⟩
  | .hbm, ⟨93, _⟩ => ⟨S4x8192x8192, .f32⟩
  | .hbm, ⟨94, _⟩ => ⟨S4x8192x8192, .f32⟩
  | .hbm, ⟨95, _⟩ => ⟨S4x8192x8192, .f32⟩
  | .hbm, ⟨96, _⟩ => ⟨S_, .f32⟩
  | .hbm, ⟨97, _⟩ => ⟨S4x8192, .f32⟩
  | .hbm, ⟨98, _⟩ => ⟨S4x8192x1, .f32⟩
  | .hbm, ⟨99, _⟩ => ⟨S4x8192x8192, .f32⟩
  | .hbm, ⟨100, _⟩ => ⟨S4x8192x8192, .f32⟩
  | .hbm, ⟨101, _⟩ => ⟨S4x64x8192, .f32⟩
  | .hbm, ⟨102, _⟩ => ⟨S8192x4x64, .f32⟩
  | .hbm, ⟨103, _⟩ => ⟨S4x8192x1, .f32⟩
  | .hbm, ⟨104, _⟩ => ⟨S4x8192x1, .f32⟩
  | .hbm, ⟨105, _⟩ => ⟨S4x8192, .f32⟩
  | .hbm, ⟨106, _⟩ => ⟨S8192x4, .f32⟩
  | .hbm, ⟨107, _⟩ => ⟨S8192x4x1, .f32⟩
  | .hbm, ⟨108, _⟩ => ⟨S_, .f32⟩
  | .hbm, ⟨109, _⟩ => ⟨S8192x4x63, .f32⟩
  | .hbm, ⟨110, _⟩ => ⟨S8192x4x128, .f32⟩
  | .hbm, ⟨111, _⟩ => ⟨S8192x512, .f32⟩
  | .hbm, ⟨112, _⟩ => ⟨S8192x512, .f32⟩
  | .hbm, ⟨113, _⟩ => ⟨S8192x512, .f32⟩
  | .hbm, ⟨114, _⟩ => ⟨S8192x512, .f32⟩
  | .local _ .vmem, ⟨0, _⟩ => ⟨S8192x128, .bf16⟩
  | .local _ .vmem, ⟨1, _⟩ => ⟨S8192x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S8192x128, .f32⟩
  | .local _ .vmem, ⟨7, _⟩ => ⟨S8192x128, .f32⟩
  | .local _ .vmem, ⟨8, _⟩ => ⟨S8192x128, .f32⟩
  | .local _ .vmem, ⟨9, _⟩ => ⟨S8192x128, .f32⟩
  | .local _ .vmem, ⟨10, _⟩ => ⟨S8192x128, .f32⟩
  | .local _ .vmem, ⟨11, _⟩ => ⟨S8192x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S8192x128, .f32⟩
  | .local _ .vmem, ⟨17, _⟩ => ⟨S8x8192, .f32⟩
  | .local _ .vmem, ⟨18, _⟩ => ⟨S8x8192, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_call0_cst : Ref sig .tc := ⟨.hbm, 20, rfl⟩
abbrev main_call0_call0_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c : Ref sig .tc := ⟨.hbm, 56, rfl⟩
abbrev main_call1_v0 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_6 : Ref sig .tc := ⟨.hbm, 62, rfl⟩
abbrev main_call2_v0 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_7 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_8 : Ref sig .tc := ⟨.hbm, 74, rfl⟩
abbrev main_v54 : Ref sig .tc := ⟨.hbm, 75, rfl⟩
abbrev main_call3_v0 : Ref sig .tc := ⟨.hbm, 76, rfl⟩
abbrev main_call3_c : Ref sig .tc := ⟨.hbm, 77, rfl⟩
abbrev main_call3_v1 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_c_0 : Ref sig .tc := ⟨.hbm, 82, rfl⟩
abbrev main_call3_v5 : Ref sig .tc := ⟨.hbm, 83, rfl⟩
abbrev main_v55 : Ref sig .tc := ⟨.hbm, 84, rfl⟩
abbrev main_cst_9 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_v56 : Ref sig .tc := ⟨.hbm, 89, rfl⟩
abbrev main_cst_10 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_11 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_12 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76_0 : Ref sig .tc := ⟨.hbm, 112, rfl⟩
abbrev main_v76_1 : Ref sig .tc := ⟨.hbm, 113, rfl⟩
abbrev main_v76_2 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c512_i32 : BitVec 32 := 512#32
  let v9 : BitVec 32 := Scalar.muli arg1 c512_i32
  v9
def k0_off1 (i : grid0.Coords) : Fin 2 → Nat :=
  let arg1 : BitVec 32 := BitVec.ofNat 32 (i 1).val
  let c512_i32 : BitVec 32 := 512#32
  let v9 : BitVec 32 := Scalar.muli arg1 c512_i32
  let v10 : BitVec 32 := v9
  let v11 : Index := Scalar.indexCast v10
  let c0_5 : Index := 0#32
  ![v11.toNat, 0]
def k0_off2 (i : grid0.Coords) : Fin 2 → Nat :=
  let c0_8 : Index := 0#32
  let arg1 : BitVec 32 := BitVec.ofNat 32 (i 1).val
  let c512_i32 : BitVec 32 := 512#32
  let v9 : BitVec 32 := Scalar.muli arg1 c512_i32
  let v10 : BitVec 32 := v9
  let v19 : Index := Scalar.indexCast v10
  ![0, v19.toNat]
@[reducible] def k0_t1_loop (i : grid0.Coords) : Scf.Loop 32 :=
  let arg1 : BitVec 32 := BitVec.ofNat 32 (i 1).val
  let c1_i32 : BitVec 32 := 1#32
  let v49 : BitVec 32 := Scalar.addi arg1 c1_i32
  let c16_i32 : BitVec 32 := 16#32
  let v50 : BitVec 32 := Scalar.subi c16_i32 v49
  let c1_i32_17 : BitVec 32 := 1#32
  let v52 : BitVec 32 := Scalar.divsi v50 c1_i32_17
  let v53 : BitVec 32 := Scalar.muli v52 c1_i32_17
  let v54 : BitVec 32 := Scalar.addi v49 v53
  let c1_i32_18 : BitVec 32 := 1#32
  ⟨v49, v54, c1_i32_18⟩
def k0_mult2 (i : grid0.Coords) (k0_t1 : Fin (k0_t1_loop i).trips) : BitVec 32 :=
  let arg1 : BitVec 32 := BitVec.ofNat 32 (i 1).val
  let c1_i32 : BitVec 32 := 1#32
  let v49 : BitVec 32 := Scalar.addi arg1 c1_i32
  let c1_i32_18 : BitVec 32 := 1#32
  let arg13 : BitVec 32 := Scf.iv v49 c1_i32_18 k0_t1
  let c512_i32_25 : BitVec 32 := 512#32
  let v62 : BitVec 32 := Scalar.muli arg13 c512_i32_25
  v62
def k0_off3 (i : grid0.Coords) (k0_t1 : Fin (k0_t1_loop i).trips) : Fin 2 → Nat :=
  let arg1 : BitVec 32 := BitVec.ofNat 32 (i 1).val
  let c1_i32 : BitVec 32 := 1#32
  let v49 : BitVec 32 := Scalar.addi arg1 c1_i32
  let c1_i32_18 : BitVec 32 := 1#32
  let arg13 : BitVec 32 := Scf.iv v49 c1_i32_18 k0_t1
  let c512_i32_25 : BitVec 32 := 512#32
  let v62 : BitVec 32 := Scalar.muli arg13 c512_i32_25
  let v63 : BitVec 32 := v62
  let v64 : Index := Scalar.indexCast v63
  let c0_26 : Index := 0#32
  ![v64.toNat, 0]
def k0_off4 (i : grid0.Coords) (k0_t1 : Fin (k0_t1_loop i).trips) : Fin 2 → Nat :=
  let c0_29 : Index := 0#32
  let arg1 : BitVec 32 := BitVec.ofNat 32 (i 1).val
  let c1_i32 : BitVec 32 := 1#32
  let v49 : BitVec 32 := Scalar.addi arg1 c1_i32
  let c1_i32_18 : BitVec 32 := 1#32
  let arg13 : BitVec 32 := Scf.iv v49 c1_i32_18 k0_t1
  let c512_i32_25 : BitVec 32 := 512#32
  let v62 : BitVec 32 := Scalar.muli arg13 c512_i32_25
  let v63 : BitVec 32 := v62
  let v72 : Index := Scalar.indexCast v63
  ![0, v72.toNat]
@[reducible] def k0_t2_loop (i : grid0.Coords) : Scf.Loop 32 :=
  let arg1 : BitVec 32 := BitVec.ofNat 32 (i 1).val
  let c1_i32 : BitVec 32 := 1#32
  let v49 : BitVec 32 := Scalar.addi arg1 c1_i32
  let c16_i32 : BitVec 32 := 16#32
  let v50 : BitVec 32 := Scalar.subi c16_i32 v49
  let c1_i32_17 : BitVec 32 := 1#32
  let v52 : BitVec 32 := Scalar.divsi v50 c1_i32_17
  let v53 : BitVec 32 := Scalar.muli v52 c1_i32_17
  let v54 : BitVec 32 := Scalar.addi v49 v53
  let v51 : BitVec 32 := Scalar.addi v49 v50
  let c1_i32_19 : BitVec 32 := 1#32
  ⟨v54, v51, c1_i32_19⟩
def k0_mult3 (i : grid0.Coords) (k0_t2 : Fin (k0_t2_loop i).trips) : BitVec 32 :=
  let arg1 : BitVec 32 := BitVec.ofNat 32 (i 1).val
  let c1_i32 : BitVec 32 := 1#32
  let v49 : BitVec 32 := Scalar.addi arg1 c1_i32
  let c16_i32 : BitVec 32 := 16#32
  let v50 : BitVec 32 := Scalar.subi c16_i32 v49
  let c1_i32_17 : BitVec 32 := 1#32
  let v52 : BitVec 32 := Scalar.divsi v50 c1_i32_17
  let v53 : BitVec 32 := Scalar.muli v52 c1_i32_17
  let v54 : BitVec 32 := Scalar.addi v49 v53
  let c1_i32_19 : BitVec 32 := 1#32
  let arg13 : BitVec 32 := Scf.iv v54 c1_i32_19 k0_t2
  let c512_i32_25 : BitVec 32 := 512#32
  let v62 : BitVec 32 := Scalar.muli arg13 c512_i32_25
  v62
def k0_off5 (i : grid0.Coords) (k0_t2 : Fin (k0_t2_loop i).trips) : Fin 2 → Nat :=
  let arg1 : BitVec 32 := BitVec.ofNat 32 (i 1).val
  let c1_i32 : BitVec 32 := 1#32
  let v49 : BitVec 32 := Scalar.addi arg1 c1_i32
  let c16_i32 : BitVec 32 := 16#32
  let v50 : BitVec 32 := Scalar.subi c16_i32 v49
  let c1_i32_17 : BitVec 32 := 1#32
  let v52 : BitVec 32 := Scalar.divsi v50 c1_i32_17
  let v53 : BitVec 32 := Scalar.muli v52 c1_i32_17
  let v54 : BitVec 32 := Scalar.addi v49 v53
  let c1_i32_19 : BitVec 32 := 1#32
  let arg13 : BitVec 32 := Scf.iv v54 c1_i32_19 k0_t2
  let c512_i32_25 : BitVec 32 := 512#32
  let v62 : BitVec 32 := Scalar.muli arg13 c512_i32_25
  let v63 : BitVec 32 := v62
  let v64 : Index := Scalar.indexCast v63
  let c0_26 : Index := 0#32
  ![v64.toNat, 0]
def k0_off6 (i : grid0.Coords) (k0_t2 : Fin (k0_t2_loop i).trips) : Fin 2 → Nat :=
  let c0_29 : Index := 0#32
  let arg1 : BitVec 32 := BitVec.ofNat 32 (i 1).val
  let c1_i32 : BitVec 32 := 1#32
  let v49 : BitVec 32 := Scalar.addi arg1 c1_i32
  let c16_i32 : BitVec 32 := 16#32
  let v50 : BitVec 32 := Scalar.subi c16_i32 v49
  let c1_i32_17 : BitVec 32 := 1#32
  let v52 : BitVec 32 := Scalar.divsi v50 c1_i32_17
  let v53 : BitVec 32 := Scalar.muli v52 c1_i32_17
  let v54 : BitVec 32 := Scalar.addi v49 v53
  let c1_i32_19 : BitVec 32 := 1#32
  let arg13 : BitVec 32 := Scf.iv v54 c1_i32_19 k0_t2
  let c512_i32_25 : BitVec 32 := 512#32
  let v62 : BitVec 32 := Scalar.muli arg13 c512_i32_25
  let v63 : BitVec 32 := v62
  let v72 : Index := Scalar.indexCast v63
  ![0, v72.toNat]
def k0_cond2 (i : grid0.Coords) : BitVec 1 :=
  let arg1 : BitVec 32 := BitVec.ofNat 32 (i 1).val
  let c15_i32 : BitVec 32 := 15#32
  let v59 : BitVec 1 := Scalar.cmpi .eq arg1 c15_i32
  let v60 : BitVec 32 := Scalar.extui v59
  let c0_i32_24 : BitVec 32 := 0#32
  let v61 : BitVec 1 := Scalar.cmpi .ne v60 c0_i32_24
  v61

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FoxBwdRefIdeal.lean ====
abbrev S8192x256 : Shape := ⟨2, ![8192, 256]⟩
abbrev S8192x4 : Shape := ⟨2, ![8192, 4]⟩
abbrev S4 : Shape := ⟨1, ![4]⟩
abbrev S1x4 : Shape := ⟨2, ![1, 4]⟩
abbrev S_ : Shape := ⟨0, ![]⟩
abbrev S8192x4x64 : Shape := ⟨3, ![8192, 4, 64]⟩
abbrev S4x8192x64 : Shape := ⟨3, ![4, 8192, 64]⟩
abbrev S4x8192x8192 : Shape := ⟨3, ![4, 8192, 8192]⟩
abbrev S4x8192 : Shape := ⟨2, ![4, 8192]⟩
abbrev S4x8192x1 : Shape := ⟨3, ![4, 8192, 1]⟩
abbrev S4x1x8192 : Shape := ⟨3, ![4, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S4x64x8192 : Shape := ⟨3, ![4, 64, 8192]⟩
abbrev S8192x4x3 : Shape := ⟨3, ![8192, 4, 3]⟩
abbrev S8192x4x1 : Shape := ⟨3, ![8192, 4, 1]⟩
abbrev S8192x4x60 : Shape := ⟨3, ![8192, 4, 60]⟩
abbrev S8192x4x128 : Shape := ⟨3, ![8192, 4, 128]⟩
abbrev S8192x512 : Shape := ⟨2, ![8192, 512]⟩
abbrev S8192x4x63 : Shape := ⟨3, ![8192, 4, 63]⟩

abbrev nBuf : Space → Nat
  | .hbm => 166
  | .vmem => 0
  | .smem => 0
  | _ => 0

abbrev hbmTy0_0 (i : Nat) : BufTy := match i % 128 with
  | 0 => ⟨S8192x256, .f32⟩
  | 1 => ⟨S8192x256, .f32⟩
  | 2 => ⟨S8192x256, .f32⟩
  | 3 => ⟨S8192x4, .f32⟩
  | 4 => ⟨S4, .f32⟩
  | 5 => ⟨S8192x256, .f32⟩
  | 6 => ⟨S1x4, .f32⟩
  | 7 => ⟨S8192x4, .f32⟩
  | 8 => ⟨S8192x4, .f32⟩
  | 9 => ⟨S8192x4, .f32⟩
  | 10 => ⟨S_, .f32⟩
  | 11 => ⟨S8192x4, .f32⟩
  | 12 => ⟨S8192x4, .f32⟩
  | 13 => ⟨S8192x4, .f32⟩
  | 14 => ⟨S8192x4, .f32⟩
  | 15 => ⟨S8192x4, .i1⟩
  | 16 => ⟨S8192x4, .f32⟩
  | 17 => ⟨S8192x4, .f32⟩
  | 18 => ⟨S8192x4, .f32⟩
  | 19 => ⟨S8192x4, .f32⟩
  | 20 => ⟨S8192x4, .f32⟩
  | 21 => ⟨S8192x4, .f32⟩
  | 22 => ⟨S8192x4, .f32⟩
  | 23 => ⟨S8192x4, .f32⟩
  | 24 => ⟨S8192x4, .f32⟩
  | 25 => ⟨S_, .f32⟩
  | 26 => ⟨S_, .f32⟩
  | 27 => ⟨S8192x4, .f32⟩
  | 28 => ⟨S8192x4x64, .f32⟩
  | 29 => ⟨S4x8192x64, .f32⟩
  | 30 => ⟨S8192x4x64, .f32⟩
  | 31 => ⟨S4x8192x64, .f32⟩
  | 32 => ⟨S8192x4x64, .f32⟩
  | 33 => ⟨S4x8192x64, .f32⟩
  | 34 => ⟨S4x8192x8192, .f32⟩
  | 35 => ⟨S_, .f32⟩
  | 36 => ⟨S4x8192x8192, .f32⟩
  | 37 => ⟨S4x8192x8192, .f32⟩
  | 38 => ⟨S4x8192, .f32⟩
  | 39 => ⟨S4x8192x1, .f32⟩
  | 40 => ⟨S4x8192x8192, .f32⟩
  | 41 => ⟨S4x8192x8192, .f32⟩
  | 42 => ⟨S4x8192, .f32⟩
  | 43 => ⟨S4x1x8192, .f32⟩
  | 44 => ⟨S4x8192x8192, .f32⟩
  | 45 => ⟨S4x8192x8192, .f32⟩
  | 46 => ⟨S8192, .i32⟩
  | 47 => ⟨S8192x1, .i32⟩
  | 48 => ⟨S1x8192, .i32⟩
  | 49 => ⟨S8192x8192, .i32⟩
  | 50 => ⟨S8192x8192, .i32⟩
  | 51 => ⟨S8192x8192, .i1⟩
  | 52 => ⟨S_, .f32⟩
  | 53 => ⟨S_, .f32⟩
  | 54 => ⟨S4x8192x8192, .i1⟩
  | 55 => ⟨S4x8192x8192, .f32⟩
  | 56 => ⟨S4x8192x8192, .f32⟩
  | 57 => ⟨S_, .f32⟩
  | 58 => ⟨S4x8192x8192, .f32⟩
  | 59 => ⟨S_, .f32⟩
  | 60 => ⟨S4x8192, .f32⟩
  | 61 => ⟨S4x8192x1, .f32⟩
  | 62 => ⟨S4x8192x8192, .f32⟩
  | 63 => ⟨S4x8192x8192, .i1⟩
  | 64 => ⟨S4x8192x8192, .f32⟩
  | 65 => ⟨S_, .f32⟩
  | 66 => ⟨S4x8192, .f32⟩
  | 67 => ⟨S_, .f32⟩
  | 68 => ⟨S4x8192, .f32⟩
  | 69 => ⟨S4x8192, .f32⟩
  | 70 => ⟨S_, .f32⟩
  | 71 => ⟨S4x8192, .f32⟩
  | 72 => ⟨S4x8192, .i1⟩
  | 73 => ⟨S_, .f32⟩
  | 74 => ⟨S4x8192, .f32⟩
  | 75 => ⟨S4x8192, .i1⟩
  | 76 => ⟨S_, .f32⟩
  | 77 => ⟨S4x8192, .f32⟩
  | 78 => ⟨S_, .f32⟩
  | 79 => ⟨S4x8192, .f32⟩
  | 80 => ⟨S_, .f32⟩
  | 81 => ⟨S4x8192, .f32⟩
  | 82 => ⟨S4x8192, .f32⟩
  | 83 => ⟨S4x8192, .f32⟩
  | 84 => ⟨S4x8192x1, .f32⟩
  | 85 => ⟨S4x8192x8192, .f32⟩
  | 86 => ⟨S4x8192x8192, .f32⟩
  | 87 => ⟨S4x8192x8192, .f32⟩
  | 88 => ⟨S_, .f32⟩
  | 89 => ⟨S4x8192, .f32⟩
  | 90 => ⟨S4x8192x1, .f32⟩
  | 91 => ⟨S4x8192x8192, .f32⟩
  | 92 => ⟨S4x8192x8192, .f32⟩
  | 93 => ⟨S4x8192x1, .f32⟩
  | 94 => ⟨S_, .f32⟩
  | 95 => ⟨S4x8192x1, .f32⟩
  | 96 => ⟨S4x8192x1, .f32⟩
  | 97 => ⟨S4x8192x64, .f32⟩
  | 98 => ⟨S8192x4x64, .f32⟩
  | 99 => ⟨S8192x256, .f32⟩
  | 100 => ⟨S8192x4x64, .f32⟩
  | 101 => ⟨S4x8192x64, .f32⟩
  | 102 => ⟨S4x64x8192, .f32⟩
  | 103 => ⟨S4x8192x64, .f32⟩
  | 104 => ⟨S4x8192x8192, .f32⟩
  | 105 => ⟨S4x8192x8192, .f32⟩
  | 106 => ⟨S4x8192x8192, .f32⟩
  | 107 => ⟨S4x8192x8192, .f32⟩
  | 108 => ⟨S_, .f32⟩
  | 109 => ⟨S4x8192, .f32⟩
  | 110 => ⟨S4x8192x1, .f32⟩
  | 111 => ⟨S4x8192x1, .f32⟩
  | 112 => ⟨S4x8192x8192, .f32⟩
  | 113 => ⟨S4x8192x8192, .f32⟩
  | 114 => ⟨S_, .f32⟩
  | 115 => ⟨S4x8192, .f32⟩
  | 116 => ⟨S4x8192x8192, .f32⟩
  | 117 => ⟨S4x8192x8192, .f32⟩
  | 118 => ⟨S4x8192x8192, .f32⟩
  | 119 => ⟨S_, .f32⟩
  | 120 => ⟨S4x8192x8192, .f32⟩
  | 121 => ⟨S4x8192x8192, .f32⟩
  | 122 => ⟨S4x8192x8192, .f32⟩
  | 123 => ⟨S_, .f32⟩
  | 124 => ⟨S4x8192, .f32⟩
  | 125 => ⟨S4x1x8192, .f32⟩
  | 126 => ⟨S_, .f32⟩
  | 127 => ⟨S4x8192, .f32⟩
  | _ => ⟨S8192x256, .f32⟩

abbrev hbmTy0_1 (i : Nat) : BufTy := match i % 128 with
  | 0 => ⟨S8192x4, .f32⟩
  | 1 => ⟨S_, .f32⟩
  | 2 => ⟨S4x8192, .f32⟩
  | 3 => ⟨S4x8192x1, .f32⟩
  | 4 => ⟨S_, .f32⟩
  | 5 => ⟨S4x8192, .f32⟩
  | 6 => ⟨S8192x4, .f32⟩
  | 7 => ⟨S_, .f32⟩
  | 8 => ⟨S4x8192x8192, .f32⟩
  | 9 => ⟨S4x8192x8192, .f32⟩
  | 10 => ⟨S4x8192x64, .f32⟩
  | 11 => ⟨S4x8192x64, .f32⟩
  | 12 => ⟨S8192x4x64, .f32⟩
  | 13 => ⟨S8192x256, .f32⟩
  | 14 => ⟨S8192x4x64, .f32⟩
  | 15 => ⟨S8192x256, .f32⟩
  | 16 => ⟨S8192x4x64, .f32⟩
  | 17 => ⟨S8192x256, .f32⟩
  | 18 => ⟨S8192x4x64, .f32⟩
  | 19 => ⟨S_, .f32⟩
  | 20 => ⟨S8192x4x3, .f32⟩
  | 21 => ⟨S8192x4x1, .f32⟩
  | 22 => ⟨S_, .f32⟩
  | 23 => ⟨S8192x4x60, .f32⟩
  | 24 => ⟨S8192x4x128, .f32⟩
  | 25 => ⟨S8192x512, .f32⟩
  | 26 => ⟨S8192x4x64, .f32⟩
  | 27 => ⟨S8192x4x1, .f32⟩
  | 28 => ⟨S8192x4x1, .f32⟩
  | 29 => ⟨S_, .f32⟩
  | 30 => ⟨S8192x4x63, .f32⟩
  | 31 => ⟨S8192x4x128, .f32⟩
  | 32 => ⟨S8192x512, .f32⟩
  | 33 => ⟨S8192x4x64, .f32⟩
  | 34 => ⟨S_, .f32⟩
  | 35 => ⟨S8192x4x64, .f32⟩
  | 36 => ⟨S8192x4x128, .f32⟩
  | 37 => ⟨S8192x512, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_v1 : Ref sig .tc := ⟨.hbm, 23, rfl⟩
abbrev main_v3 : Ref sig .tc := ⟨.hbm, 24, rfl⟩
abbrev main_call1_call0_cst : Ref sig .tc := ⟨.hbm, 25, rfl⟩
abbrev main_call1_call0_v0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_0 : Ref sig .tc := ⟨.hbm, 52, rfl⟩
abbrev main_call2_v0 : Ref sig .tc := ⟨.hbm, 53, rfl⟩
abbrev main_v28_1 : Ref sig .tc := ⟨.hbm, 54, rfl⟩
abbrev main_call2_v2 : Ref sig .tc := ⟨.hbm, 55, rfl⟩
abbrev main_v28_0 : Ref sig .tc := ⟨.hbm, 56, rfl⟩
abbrev main_call2_cst : Ref sig .tc := ⟨.hbm, 57, rfl⟩
abbrev main_v28_2 : Ref sig .tc := ⟨.hbm, 58, rfl⟩
abbrev main_cst_1 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_2 : Ref sig .tc := ⟨.hbm, 65, rfl⟩
abbrev main_v34 : Ref sig .tc := ⟨.hbm, 66, rfl⟩
abbrev main_cst_3 : Ref sig .tc := ⟨.hbm, 67, rfl⟩
abbrev main_v35 : Ref sig .tc := ⟨.hbm, 68, rfl⟩
abbrev main_v36 : Ref sig .tc := ⟨.hbm, 69, rfl⟩
abbrev main_cst_4 : Ref sig .tc := ⟨.hbm, 70, rfl⟩
abbrev main_v37 : Ref sig .tc := ⟨.hbm, 71, rfl⟩
abbrev main_v38 : Ref sig .tc := ⟨.hbm, 72, rfl⟩
abbrev main_cst_5 : Ref sig .tc := ⟨.hbm, 73, rfl⟩
abbrev main_v39 : Ref sig .tc := ⟨.hbm, 74, rfl⟩
abbrev main_v40 : Ref sig .tc := ⟨.hbm, 75, rfl⟩
abbrev main_cst_6 : Ref sig .tc := ⟨.hbm, 76, rfl⟩
abbrev main_v41 : Ref sig .tc := ⟨.hbm, 77, rfl⟩
abbrev main_cst_7 : Ref sig .tc := ⟨.hbm, 78, rfl⟩
abbrev main_v42 : Ref sig .tc := ⟨.hbm, 79, rfl⟩
abbrev main_cst_8 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_9 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_10 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_11 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_12 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_call3_cst : Ref sig .tc := ⟨.hbm, 119, rfl⟩
abbrev main_call3_v0 : Ref sig .tc := ⟨.hbm, 120, rfl⟩
abbrev main_v77 : Ref sig .tc := ⟨.hbm, 121, rfl⟩
abbrev main_v78 : Ref sig .tc := ⟨.hbm, 122, rfl⟩
abbrev main_cst_13 : Ref sig .tc := ⟨.hbm, 123, rfl⟩
abbrev main_v79 : Ref sig .tc := ⟨.hbm, 124, rfl⟩
abbrev main_v80 : Ref sig .tc := ⟨.hbm, 125, rfl⟩
abbrev main_cst_14 : Ref sig .tc := ⟨.hbm, 126, rfl⟩
abbrev main_v81 : Ref sig .tc := ⟨.hbm, 127, rfl⟩
abbrev main_v82 : Ref sig .tc := ⟨.hbm, 128, rfl⟩
abbrev main_cst_15 : Ref sig .tc := ⟨.hbm, 129, rfl⟩
abbrev main_v83 : Ref sig .tc := ⟨.hbm, 130, rfl⟩
abbrev main_v84 : Ref sig .tc := ⟨.hbm, 131, rfl⟩
abbrev main_cst_16 : Ref sig .tc := ⟨.hbm, 132, rfl⟩
abbrev main_v85 : Ref sig .tc := ⟨.hbm, 133, rfl⟩
abbrev main_v86 : Ref sig .tc := ⟨.hbm, 134, rfl⟩
abbrev main_cst_17 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_cst_18 : Ref sig .tc := ⟨.hbm, 147, rfl⟩
abbrev main_v98 : Ref sig .tc := ⟨.hbm, 148, rfl⟩
abbrev main_v99 : Ref sig .tc := ⟨.hbm, 149, rfl⟩
abbrev main_cst_19 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_cst_20 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_cst_21 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩

abbrev nD : Nat := 1
abbrev τ : Topo := Topo.v7x

variable {F : FTy → Type} [FloatOps F]
-- ==== FoxPost.lean ====
abbrev S8192x4 : Shape := ⟨2, ![8192, 4]⟩
abbrev S4 : Shape := ⟨1, ![4]⟩
abbrev S8192x512 : Shape := ⟨2, ![8192, 512]⟩
abbrev S_ : Shape := ⟨0, ![]⟩
abbrev S8192x128 : Shape := ⟨2, ![8192, 128]⟩
abbrev S128 : Shape := ⟨1, ![128]⟩
abbrev S1x128 : Shape := ⟨2, ![1, 128]⟩
abbrev S256x512 : Shape := ⟨2, ![256, 512]⟩
abbrev S256x128 : Shape := ⟨2, ![256, 128]⟩
abbrev S256x256 : Shape := ⟨2, ![256, 256]⟩
abbrev S256x1 : Shape := ⟨2, ![256, 1]⟩

abbrev nBuf : Space → Nat
  | .hbm => 13
  | .vmem => 11
  | .smem => 0
  | _ => 0

abbrev bufTy : (tb : Table) → Fin (tcTables nBuf tb) → BufTy
  | .hbm, ⟨0, _⟩ => ⟨S8192x4, .f32⟩
  | .hbm, ⟨1, _⟩ => ⟨S4, .f32⟩
  | .hbm, ⟨2, _⟩ => ⟨S8192x512, .f32⟩
  | .hbm, ⟨3, _⟩ => ⟨S8192x512, .f32⟩
  | .hbm, ⟨4, _⟩ => ⟨S_, .i32⟩
  | .hbm, ⟨5, _⟩ => ⟨S_, .f32⟩
  | .hbm, ⟨6, _⟩ => ⟨S8192x128, .f32⟩
  | .hbm, ⟨7, _⟩ => ⟨S_, .i32⟩
  | .hbm, ⟨8, _⟩ => ⟨S_, .f32⟩
  | .hbm, ⟨9, _⟩ => ⟨S128, .f32⟩
  | .hbm, ⟨10, _⟩ => ⟨S1x128, .f32⟩
  | .hbm, ⟨11, _⟩ => ⟨S8192x128, .bf16⟩
  | .hbm, ⟨12, _⟩ => ⟨S1x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S256x128, .bf16⟩
  | .local _ .vmem, ⟨8, _⟩ => ⟨S256x128, .bf16⟩
  | .local _ .vmem, ⟨9, _⟩ => ⟨S1x128, .f32⟩
  | .local _ .vmem, ⟨10, _⟩ => ⟨S1x128, .f32⟩
  | _, _ => ⟨S8192x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== FoxPostRefIdeal.lean ====
abbrev S8192x4 : Shape := ⟨2, ![8192, 4]⟩
abbrev S4 : Shape := ⟨1, ![4]⟩
abbrev S8192x512 : Shape := ⟨2, ![8192, 512]⟩
abbrev S8192x4x128 : Shape := ⟨3, ![8192, 4, 128]⟩
abbrev S8192x4x1 : Shape := ⟨3, ![8192, 4, 1]⟩
abbrev S1x4 : Shape := ⟨2, ![1, 4]⟩
abbrev S_ : Shape := ⟨0, ![]⟩
abbrev S8192x128 : Shape := ⟨2, ![8192, 128]⟩
abbrev S128 : Shape := ⟨1, ![128]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S8192x4, .f32⟩
  | .hbm, ⟨1, _⟩ => ⟨S4, .f32⟩
  | .hbm, ⟨2, _⟩ => ⟨S8192x512, .f32⟩
  | .hbm, ⟨3, _⟩ => ⟨S8192x512, .f32⟩
  | .hbm, ⟨4, _⟩ => ⟨S8192x4x128, .f32⟩
  | .hbm, ⟨5, _⟩ => ⟨S8192x4x1, .f32⟩
  | .hbm, ⟨6, _⟩ => ⟨S8192x4, .f32⟩
  | .hbm, ⟨7, _⟩ => ⟨S8192x4x128, .f32⟩
  | .hbm, ⟨8, _⟩ => ⟨S8192x4x1, .f32⟩
  | .hbm, ⟨9, _⟩ => ⟨S8192x4, .f32⟩
  | .hbm, ⟨10, _⟩ => ⟨S8192x4, .f32⟩
  | .hbm, ⟨11, _⟩ => ⟨S1x4, .f32⟩
  | .hbm, ⟨12, _⟩ => ⟨S8192x4, .f32⟩
  | .hbm, ⟨13, _⟩ => ⟨S8192x4, .f32⟩
  | .hbm, ⟨14, _⟩ => ⟨S8192x4, .f32⟩
  | .hbm, ⟨15, _⟩ => ⟨S_, .f32⟩
  | .hbm, ⟨16, _⟩ => ⟨S8192x4, .f32⟩
  | .hbm, ⟨17, _⟩ => ⟨S8192x4, .f32⟩
  | .hbm, ⟨18, _⟩ => ⟨S8192x4, .f32⟩
  | .hbm, ⟨19, _⟩ => ⟨S8192x4, .f32⟩
  | .hbm, ⟨20, _⟩ => ⟨S8192x4, .i1⟩
  | .hbm, ⟨21, _⟩ => ⟨S8192x4, .f32⟩
  | .hbm, ⟨22, _⟩ => ⟨S8192x4, .f32⟩
  | .hbm, ⟨23, _⟩ => ⟨S8192x4, .f32⟩
  | .hbm, ⟨24, _⟩ => ⟨S8192x4, .f32⟩
  | .hbm, ⟨25, _⟩ => ⟨S8192x4, .f32⟩
  | .hbm, ⟨26, _⟩ => ⟨S8192x4, .f32⟩
  | .hbm, ⟨27, _⟩ => ⟨S8192x4, .f32⟩
  | .hbm, ⟨28, _⟩ => ⟨S8192x4, .f32⟩
  | .hbm, ⟨29, _⟩ => ⟨S_, .f32⟩
  | .hbm, ⟨30, _⟩ => ⟨S8192x4, .f32⟩
  | .hbm, ⟨31, _⟩ => ⟨S8192x4, .i1⟩
  | .hbm, ⟨32, _⟩ => ⟨S_, .f32⟩
  | .hbm, ⟨33, _⟩ => ⟨S8192x4, .f32⟩
  | .hbm, ⟨34, _⟩ => ⟨S8192x4, .f32⟩
  | .hbm, ⟨35, _⟩ => ⟨S_, .f32⟩
  | .hbm, ⟨36, _⟩ => ⟨S8192x4, .f32⟩
  | .hbm, ⟨37, _⟩ => ⟨S8192x4, .i1⟩
  | .hbm, ⟨38, _⟩ => ⟨S_, .f32⟩
  | .hbm, ⟨39, _⟩ => ⟨S8192x4, .f32⟩
  | .hbm, ⟨40, _⟩ => ⟨S8192x4, .f32⟩
  | .hbm, ⟨41, _⟩ => ⟨S8192x4, .f32⟩
  | .hbm, ⟨42, _⟩ => ⟨S8192x4, .f32⟩
  | .hbm, ⟨43, _⟩ => ⟨S_, .f32⟩
  | .hbm, ⟨44, _⟩ => ⟨S_, .f32⟩
  | .hbm, ⟨45, _⟩ => ⟨S_, .i1⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S8192x4, .f32⟩
  | .hbm, ⟨51, _⟩ => ⟨S8192x4, .i1⟩
  | .hbm, ⟨52, _⟩ => ⟨S_, .f32⟩
  | .hbm, ⟨53, _⟩ => ⟨S8192x4, .f32⟩
  | .hbm, ⟨54, _⟩ => ⟨S8192x4, .f32⟩
  | .hbm, ⟨55, _⟩ => ⟨S8192x4, .f32⟩
  | .hbm, ⟨56, _⟩ => ⟨S8192x4, .f32⟩
  | .hbm, ⟨57, _⟩ => ⟨S8192x4, .f32⟩
  | .hbm, ⟨58, _⟩ => ⟨S_, .f32⟩
  | .hbm, ⟨59, _⟩ => ⟨S8192x4, .f32⟩
  | .hbm, ⟨60, _⟩ => ⟨S8192x4, .f32⟩
  | .hbm, ⟨61, _⟩ => ⟨S8192x4, .f32⟩
  | .hbm, ⟨62, _⟩ => ⟨S_, .f32⟩
  | .hbm, ⟨63, _⟩ => ⟨S_, .f32⟩
  | .hbm, ⟨64, _⟩ => ⟨S8192x4, .f32⟩
  | .hbm, ⟨65, _⟩ => ⟨S_, .f32⟩
  | .hbm, ⟨66, _⟩ => ⟨S_, .f32⟩
  | .hbm, ⟨67, _⟩ => ⟨S8192x4, .f32⟩
  | .hbm, ⟨68, _⟩ => ⟨S8192x4, .f32⟩
  | .hbm, ⟨69, _⟩ => ⟨S8192x4, .f32⟩
  | .hbm, ⟨70, _⟩ => ⟨S8192x4, .f32⟩
  | .hbm, ⟨71, _⟩ => ⟨S_, .f32⟩
  | .hbm, ⟨72, _⟩ => ⟨S4, .f32⟩
  | .hbm, ⟨73, _⟩ => ⟨S1x4, .f32⟩
  | .hbm, ⟨74, _⟩ => ⟨S_, .f32⟩
  | .hbm, ⟨75, _⟩ => ⟨S4, .f32⟩
  | .hbm, ⟨76, _⟩ => ⟨S_, .i32⟩
  | .hbm, ⟨77, _⟩ => ⟨S_, .f32⟩
  | .hbm, ⟨78, _⟩ => ⟨S8192x128, .f32⟩
  | .hbm, ⟨79, _⟩ => ⟨S8192x128, .bf16⟩
  | .hbm, ⟨80, _⟩ => ⟨S_, .i32⟩
  | .hbm, ⟨81, _⟩ => ⟨S_, .f32⟩
  | .hbm, ⟨82, _⟩ => ⟨S128, .f32⟩
  | .hbm, ⟨83, _⟩ => ⟨S1x128, .f32⟩
  | _, _ => ⟨S8192x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1_0 : Ref sig .tc := ⟨.hbm, 28, rfl⟩
abbrev main_call0_call0_cst_0 : Ref sig .tc := ⟨.hbm, 29, rfl⟩
abbrev main_call0_call0_v13 : Ref sig .tc := ⟨.hbm, 30, rfl⟩
abbrev main_call0_call0_v14 : Ref sig .tc := ⟨.hbm, 31, rfl⟩
abbrev main_call0_call0_cst_1 : Ref sig .tc := ⟨.hbm, 32, rfl⟩
abbrev main_call0_call0_v15 : Ref sig .tc := ⟨.hbm, 33, rfl⟩
abbrev main_call0_call0_v16 : Ref sig .tc := ⟨.hbm, 34, rfl⟩
abbrev main_call0_call0_cst_2 : Ref sig .tc := ⟨.hbm, 35, rfl⟩
abbrev main_call0_call0_v17 : Ref sig .tc := ⟨.hbm, 36, rfl⟩
abbrev main_call0_call0_v18 : Ref sig .tc := ⟨.hbm, 37, rfl⟩
abbrev main_call0_call0_cst_3 : Ref sig .tc := ⟨.hbm, 38, rfl⟩
abbrev main_call0_call0_v19 : Ref sig .tc := ⟨.hbm, 39, rfl⟩
abbrev main_call0_call0_v20 : Ref sig .tc := ⟨.hbm, 40, rfl⟩
abbrev main_call0_call0_v21 : Ref sig .tc := ⟨.hbm, 41, rfl⟩
abbrev main_v10_1 : Ref sig .tc := ⟨.hbm, 42, rfl⟩
abbrev main_call0_call0_cst_4 : Ref sig .tc := ⟨.hbm, 43, rfl⟩
abbrev main_call0_call0_cst_5 : Ref sig .tc := ⟨.hbm, 44, rfl⟩
abbrev main_call0_call0_v23 : Ref sig .tc := ⟨.hbm, 45, rfl⟩
abbrev main_call0_call0_cst_6 : Ref sig .tc := ⟨.hbm, 46, rfl⟩
abbrev main_call0_call0_cst_7 : Ref sig .tc := ⟨.hbm, 47, rfl⟩
abbrev main_call0_call0_v24 : Ref sig .tc := ⟨.hbm, 48, rfl⟩
abbrev main_call0_call0_cst_8 : Ref sig .tc := ⟨.hbm, 49, rfl⟩
abbrev main_call0_call0_v25 : Ref sig .tc := ⟨.hbm, 50, rfl⟩
abbrev main_call0_call0_v26 : Ref sig .tc := ⟨.hbm, 51, rfl⟩
abbrev main_call0_call0_cst_9 : Ref sig .tc := ⟨.hbm, 52, rfl⟩
abbrev main_call0_call0_v27 : Ref sig .tc := ⟨.hbm, 53, rfl⟩
abbrev main_call0_call0_v28 : Ref sig .tc := ⟨.hbm, 54, rfl⟩
abbrev main_call0_call0_v29 : Ref sig .tc := ⟨.hbm, 55, rfl⟩
abbrev main_call0_call0_v30 : Ref sig .tc := ⟨.hbm, 56, rfl⟩
abbrev main_call0_call0_v31 : Ref sig .tc := ⟨.hbm, 57, rfl⟩
abbrev main_call0_call0_cst_10 : Ref sig .tc := ⟨.hbm, 58, rfl⟩
abbrev main_call0_call0_v32 : Ref sig .tc := ⟨.hbm, 59, rfl⟩
abbrev main_v10_2 : Ref sig .tc := ⟨.hbm, 60, rfl⟩
abbrev main_v10_0 : Ref sig .tc := ⟨.hbm, 61, rfl⟩
abbrev main_call1_call0_cst : Ref sig .tc := ⟨.hbm, 62, rfl⟩
abbrev main_call1_call0_v0 : Ref sig .tc := ⟨.hbm, 63, rfl⟩
abbrev main_v11 : Ref sig .tc := ⟨.hbm, 64, rfl⟩
abbrev main_call2_call0_cst : Ref sig .tc := ⟨.hbm, 65, rfl⟩
abbrev main_call2_call0_v0 : Ref sig .tc := ⟨.hbm, 66, rfl⟩
abbrev main_v12 : Ref sig .tc := ⟨.hbm, 67, rfl⟩
abbrev main_call3_v0 : Ref sig .tc := ⟨.hbm, 68, rfl⟩
abbrev main_call3_v1 : Ref sig .tc := ⟨.hbm, 69, rfl⟩
abbrev main_v13 : Ref sig .tc := ⟨.hbm, 70, rfl⟩
abbrev main_cst : Ref sig .tc := ⟨.hbm, 71, rfl⟩
abbrev main_v14 : Ref sig .tc := ⟨.hbm, 72, rfl⟩
abbrev main_v15 : Ref sig .tc := ⟨.hbm, 73, rfl⟩
abbrev main_cst_0 : Ref sig .tc := ⟨.hbm, 74, rfl⟩
abbrev main_v16 : Ref sig .tc := ⟨.hbm, 75, rfl⟩
abbrev main_c : Ref sig .tc := ⟨.hbm, 76, rfl⟩
abbrev main_call4_v0 : Ref sig .tc := ⟨.hbm, 77, rfl⟩
abbrev main_v17 : Ref sig .tc := ⟨.hbm, 78, rfl⟩
abbrev main_v18 : Ref sig .tc := ⟨.hbm, 79, rfl⟩
abbrev main_c_1 : Ref sig .tc := ⟨.hbm, 80, rfl⟩
abbrev main_call5_v0 : Ref sig .tc := ⟨.hbm, 81, rfl⟩
abbrev main_v19 : Ref sig .tc := ⟨.hbm, 82, rfl⟩
abbrev main_v20 : Ref sig .tc := ⟨.hbm, 83, rfl⟩

abbrev nD : Nat := 1
abbrev τ : Topo := Topo.v7x

variable {F : FTy → Type} [FloatOps F]
-- ==== MlpB.lean ====
abbrev S8192x1024 : Shape := ⟨2, ![8192, 1024]⟩
abbrev S8192x4096 : Shape := ⟨2, ![8192, 4096]⟩
abbrev S1024x4096 : Shape := ⟨2, ![1024, 4096]⟩
abbrev S1024 : Shape := ⟨1, ![1024]⟩
abbrev S1x1024 : Shape := ⟨2, ![1, 1024]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x4096, .f32⟩
  | .hbm, ⟨3, _⟩ => ⟨S1024x4096, .f32⟩
  | .hbm, ⟨4, _⟩ => ⟨S1024, .f32⟩
  | .hbm, ⟨5, _⟩ => ⟨S8192x4096, .bf16⟩
  | .hbm, ⟨6, _⟩ => ⟨S1024x4096, .bf16⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x4096, .bf16⟩
  | .local _ .vmem, ⟨5, _⟩ => ⟨S512x4096, .bf16⟩
  | .local _ .vmem, ⟨6, _⟩ => ⟨S1024x4096, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MlpBRefIdeal.lean ====
abbrev S8192x1024 : Shape := ⟨2, ![8192, 1024]⟩
abbrev S8192x4096 : Shape := ⟨2, ![8192, 4096]⟩
abbrev S1024x4096 : Shape := ⟨2, ![1024, 4096]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x4096, .f32⟩
  | .hbm, ⟨3, _⟩ => ⟨S1024x4096, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S1x1024, .f32⟩
  | .hbm, ⟨67, _⟩ => ⟨S8192x1024, .f32⟩
  | .hbm, ⟨68, _⟩ => ⟨S8192x1024, .f32⟩
  | .hbm, ⟨69, _⟩ => ⟨S8192x1024, .bf16⟩
  | .hbm, ⟨70, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== MlpA.lean ====
abbrev S8192x1024 : Shape := ⟨2, ![8192, 1024]⟩
abbrev S8192x4096 : Shape := ⟨2, ![8192, 4096]⟩
abbrev S4096x1024 : Shape := ⟨2, ![4096, 1024]⟩
abbrev S1024 : Shape := ⟨1, ![1024]⟩
abbrev S_ : Shape := ⟨0, ![]⟩
abbrev S1x1024 : Shape := ⟨2, ![1, 1024]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩

abbrev nBuf : Space → Nat
  | .hbm => 18
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4096x1024, .f32⟩
  | .hbm, ⟨3, _⟩ => ⟨S1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .bf16⟩
  | .hbm, ⟨9, _⟩ => ⟨S8192x4096, .f32⟩
  | .hbm, ⟨10, _⟩ => ⟨S4096x1024, .bf16⟩
  | .hbm, ⟨11, _⟩ => ⟨S4096x1024, .f32⟩
  | .hbm, ⟨12, _⟩ => ⟨S8192x1024, .f32⟩
  | .hbm, ⟨13, _⟩ => ⟨S4096x1024, .bf16⟩
  | .hbm, ⟨14, _⟩ => ⟨S1x1024, .f32⟩
  | .hbm, ⟨15, _⟩ => ⟨S8192x1024, .bf16⟩
  | .hbm, ⟨16, _⟩ => ⟨S8192x4096, .bf16⟩
  | .hbm, ⟨17, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x4096, .f32⟩
  | .local _ .vmem, ⟨5, _⟩ => ⟨S512x4096, .f32⟩
  | .local _ .vmem, ⟨6, _⟩ => ⟨S4096x1024, .bf16⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x4096, .bf16⟩
  | .local _ .vmem, ⟨11, _⟩ => ⟨S512x4096, .bf16⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MlpARefIdeal.lean ====
abbrev S8192x1024 : Shape := ⟨2, ![8192, 1024]⟩
abbrev S8192x4096 : Shape := ⟨2, ![8192, 4096]⟩
abbrev S4096x1024 : Shape := ⟨2, ![4096, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 70
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4096x1024, .f32⟩
  | .hbm, ⟨3, _⟩ => ⟨S1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .i1⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .bf16⟩
  | .hbm, ⟨63, _⟩ => ⟨S8192x4096, .f32⟩
  | .hbm, ⟨64, _⟩ => ⟨S8192x4096, .f32⟩
  | .hbm, ⟨65, _⟩ => ⟨S_, .f32⟩
  | .hbm, ⟨66, _⟩ => ⟨S8192x4096, .f32⟩
  | .hbm, ⟨67, _⟩ => ⟨S8192x4096, .f32⟩
  | .hbm, ⟨68, _⟩ => ⟨S8192x4096, .bf16⟩
  | .hbm, ⟨69, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== MixOut.lean ====
abbrev S8192x1024 : Shape := ⟨2, ![8192, 1024]⟩
abbrev S8192x256 : Shape := ⟨2, ![8192, 256]⟩
abbrev S8192x4x64 : Shape := ⟨3, ![8192, 4, 64]⟩
abbrev S1024x1024 : Shape := ⟨2, ![1024, 1024]⟩
abbrev S1024 : Shape := ⟨1, ![1024]⟩
abbrev S8192x4x128 : Shape := ⟨3, ![8192, 4, 128]⟩
abbrev S8192x512 : Shape := ⟨2, ![8192, 512]⟩
abbrev S1x1024 : Shape := ⟨2, ![1, 1024]⟩
abbrev S512x1024 : Shape := ⟨2, ![512, 1024]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S512x128 : Shape := ⟨2, ![512, 128]⟩

abbrev nBuf : Space → Nat
  | .hbm => 24
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x4x64, .f32⟩
  | .hbm, ⟨6, _⟩ => ⟨S1024x1024, .f32⟩
  | .hbm, ⟨7, _⟩ => ⟨S1024, .f32⟩
  | .hbm, ⟨8, _⟩ => ⟨S8192x4x64, .f32⟩
  | .hbm, ⟨9, _⟩ => ⟨S8192x4x128, .f32⟩
  | .hbm, ⟨10, _⟩ => ⟨S8192x512, .f32⟩
  | .hbm, ⟨11, _⟩ => ⟨S8192x1024, .f32⟩
  | .hbm, ⟨12, _⟩ => ⟨S8192x1024, .f32⟩
  | .hbm, ⟨13, _⟩ => ⟨S8192x256, .bf16⟩
  | .hbm, ⟨14, _⟩ => ⟨S8192x256, .bf16⟩
  | .hbm, ⟨15, _⟩ => ⟨S8192x256, .bf16⟩
  | .hbm, ⟨16, _⟩ => ⟨S1024x1024, .bf16⟩
  | .hbm, ⟨17, _⟩ => ⟨S1x1024, .f32⟩
  | .hbm, ⟨18, _⟩ => ⟨S8192x256, .f32⟩
  | .hbm, ⟨19, _⟩ => ⟨S8192x512, .f32⟩
  | .hbm, ⟨20, _⟩ => ⟨S8192x256, .f32⟩
  | .hbm, ⟨21, _⟩ => ⟨S8192x256, .f32⟩
  | .hbm, ⟨22, _⟩ => ⟨S1024x1024, .f32⟩
  | .hbm, ⟨23, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x256, .bf16⟩
  | .local _ .vmem, ⟨5, _⟩ => ⟨S512x256, .bf16⟩
  | .local _ .vmem, ⟨6, _⟩ => ⟨S512x512, .f32⟩
  | .local _ .vmem, ⟨7, _⟩ => ⟨S512x512, .f32⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S1024x1024, .bf16⟩
  | .local _ .vmem, ⟨13, _⟩ => ⟨S1x1024, .f32⟩
  | .local _ .vmem, ⟨14, _⟩ => ⟨S512x256, .f32⟩
  | .local _ .vmem, ⟨15, _⟩ => ⟨S512x256, .f32⟩
  | .local _ .vmem, ⟨16, _⟩ => ⟨S512x512, .f32⟩
  | .local _ .vmem, ⟨17, _⟩ => ⟨S512x512, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S1024x1024, .f32⟩
  | .local _ .vmem, ⟨23, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev main_v10_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MixOutRefIdeal.lean ====
abbrev S8192x1024 : Shape := ⟨2, ![8192, 1024]⟩
abbrev S8192x256 : Shape := ⟨2, ![8192, 256]⟩
abbrev S8192x4x64 : Shape := ⟨3, ![8192, 4, 64]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4x128 : Shape := ⟨3, ![8192, 4, 128]⟩
abbrev S8192x512 : Shape := ⟨2, ![8192, 512]⟩

abbrev nBuf : Space → Nat
  | .hbm => 68
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x4x64, .f32⟩
  | .hbm, ⟨6, _⟩ => ⟨S1024x1024, .f32⟩
  | .hbm, ⟨7, _⟩ => ⟨S1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1024x1024, .f32⟩
  | .hbm, ⟨56, _⟩ => ⟨S1024x1024, .f32⟩
  | .hbm, ⟨57, _⟩ => ⟨S8192x1024, .f32⟩
  | .hbm, ⟨58, _⟩ => ⟨S8192x256, .f32⟩
  | .hbm, ⟨59, _⟩ => ⟨S8192x256, .f32⟩
  | .hbm, ⟨60, _⟩ => ⟨S8192x256, .f32⟩
  | .hbm, ⟨61, _⟩ => ⟨S8192x256, .f32⟩
  | .hbm, ⟨62, _⟩ => ⟨S8192x4x64, .f32⟩
  | .hbm, ⟨63, _⟩ => ⟨S_, .i32⟩
  | .hbm, ⟨64, _⟩ => ⟨S_, .f32⟩
  | .hbm, ⟨65, _⟩ => ⟨S8192x4x128, .f32⟩
  | .hbm, ⟨66, _⟩ => ⟨S8192x512, .f32⟩
  | .hbm, ⟨67, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c : Ref sig .tc := ⟨.hbm, 63, rfl⟩
abbrev main_call0_v0 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]
-- ==== MixIn.lean ====
abbrev S8192x1024 : Shape := ⟨2, ![8192, 1024]⟩
abbrev S8192x512 : Shape := ⟨2, ![8192, 512]⟩
abbrev S8192x768 : Shape := ⟨2, ![8192, 768]⟩
abbrev S8192x256 : Shape := ⟨2, ![8192, 256]⟩
abbrev S8192x128 : Shape := ⟨2, ![8192, 128]⟩
abbrev S1024 : Shape := ⟨1, ![1024]⟩
abbrev S1024x2308 : Shape := ⟨2, ![1024, 2308]⟩
abbrev S1024x1280 : Shape := ⟨2, ![1024, 1280]⟩
abbrev S1024x1024 : Shape := ⟨2, ![1024, 1024]⟩
abbrev S1024x4 : Shape := ⟨2, ![1024, 4]⟩
abbrev S_ : Shape := ⟨0, ![]⟩
abbrev S1024x124 : Shape := ⟨2, ![1024, 124]⟩
abbrev S1024x2432 : Shape := ⟨2, ![1024, 2432]⟩
abbrev S1x1024 : Shape := ⟨2, ![1, 1024]⟩
abbrev S8192x2432 : Shape := ⟨2, ![8192, 2432]⟩
abbrev S512x1024 : Shape := ⟨2, ![512, 1024]⟩
abbrev S512x512 : Shape := ⟨2, ![512, 512]⟩
abbrev S512x768 : Shape := ⟨2, ![512, 768]⟩
abbrev S512x256 : Shape := ⟨2, ![512, 256]⟩
abbrev S512x128 : Shape := ⟨2, ![512, 128]⟩
abbrev S512x2432 : Shape := ⟨2, ![512, 2432]⟩
abbrev S512 : Shape := ⟨1, ![512]⟩
abbrev S512x1 : Shape := ⟨2, ![512, 1]⟩

abbrev nBuf : Space → Nat
  | .hbm => 27
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x768, .f32⟩
  | .hbm, ⟨7, _⟩ => ⟨S8192x256, .f32⟩
  | .hbm, ⟨8, _⟩ => ⟨S8192x128, .f32⟩
  | .hbm, ⟨9, _⟩ => ⟨S1024, .f32⟩
  | .hbm, ⟨10, _⟩ => ⟨S1024x2308, .f32⟩
  | .hbm, ⟨11, _⟩ => ⟨S1024x2308, .bf16⟩
  | .hbm, ⟨12, _⟩ => ⟨S1024x1280, .bf16⟩
  | .hbm, ⟨13, _⟩ => ⟨S1024x1024, .bf16⟩
  | .hbm, ⟨14, _⟩ => ⟨S1024x4, .bf16⟩
  | .hbm, ⟨15, _⟩ => ⟨S_, .bf16⟩
  | .hbm, ⟨16, _⟩ => ⟨S1024x124, .bf16⟩
  | .hbm, ⟨17, _⟩ => ⟨S1024x2432, .bf16⟩
  | .hbm, ⟨18, _⟩ => ⟨S8192x512, .bf16⟩
  | .hbm, ⟨19, _⟩ => ⟨S8192x768, .bf16⟩
  | .hbm, ⟨20, _⟩ => ⟨S8192x256, .bf16⟩
  | .hbm, ⟨21, _⟩ => ⟨S8192x128, .bf16⟩
  | .hbm, ⟨22, _⟩ => ⟨S1x1024, .f32⟩
  | .hbm, ⟨23, _⟩ => ⟨S8192x1024, .f32⟩
  | .hbm, ⟨24, _⟩ => ⟨S8192x1024, .bf16⟩
  | .hbm, ⟨25, _⟩ => ⟨S8192x2432, .bf16⟩
  | .hbm, ⟨26, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x768, .bf16⟩
  | .local _ .vmem, ⟨13, _⟩ => ⟨S512x768, .bf16⟩
  | .local _ .vmem, ⟨14, _⟩ => ⟨S512x256, .bf16⟩
  | .local _ .vmem, ⟨15, _⟩ => ⟨S512x256, .bf16⟩
  | .local _ .vmem, ⟨16, _⟩ => ⟨S512x128, .bf16⟩
  | .local _ .vmem, ⟨17, _⟩ => ⟨S512x128, .bf16⟩
  | .local _ .vmem, ⟨18, _⟩ => ⟨S1x1024, .f32⟩
  | .local _ .vmem, ⟨19, _⟩ => ⟨S1024x2432, .bf16⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S512x2432, .bf16⟩
  | .local _ .vmem, ⟨25, _⟩ => ⟨S512x2432, .bf16⟩
  | .local _ .vmem, ⟨26, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2432 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2432 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MixInRefIdeal.lean ====
abbrev S8192x1024 : Shape := ⟨2, ![8192, 1024]⟩
abbrev S8192x512 : Shape := ⟨2, ![8192, 512]⟩
abbrev S8192x768 : Shape := ⟨2, ![8192, 768]⟩
abbrev S8192x256 : Shape := ⟨2, ![8192, 256]⟩
abbrev S8192x128 : Shape := ⟨2, ![8192, 128]⟩
abbrev S1024 : Shape := ⟨1, ![1024]⟩
abbrev S1024x2308 : Shape := ⟨2, ![1024, 2308]⟩
abbrev S8192x4x128 : Shape := ⟨3, ![8192, 4, 128]⟩
abbrev S8192x4x64 : Shape := ⟨3, ![8192, 4, 64]⟩
abbrev S8192x4 : Shape := ⟨2, ![8192, 4]⟩
abbrev S8192x2308 : Shape := ⟨2, ![8192, 2308]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2432 : Shape := ⟨2, ![8192, 2432]⟩

abbrev nBuf : Space → Nat
  | .hbm => 90
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x768, .f32⟩
  | .hbm, ⟨7, _⟩ => ⟨S8192x256, .f32⟩
  | .hbm, ⟨8, _⟩ => ⟨S8192x128, .f32⟩
  | .hbm, ⟨9, _⟩ => ⟨S1024, .f32⟩
  | .hbm, ⟨10, _⟩ => ⟨S1024x2308, .f32⟩
  | .hbm, ⟨11, _⟩ => ⟨S8192x4x128, .f32⟩
  | .hbm, ⟨12, _⟩ => ⟨S8192x4x64, .f32⟩
  | .hbm, ⟨13, _⟩ => ⟨S8192x256, .f32⟩
  | .hbm, ⟨14, _⟩ => ⟨S8192x4x128, .f32⟩
  | .hbm, ⟨15, _⟩ => ⟨S8192x4x64, .f32⟩
  | .hbm, ⟨16, _⟩ => ⟨S8192x256, .f32⟩
  | .hbm, ⟨17, _⟩ => ⟨S8192x4x128, .f32⟩
  | .hbm, ⟨18, _⟩ => ⟨S8192x4x64, .f32⟩
  | .hbm, ⟨19, _⟩ => ⟨S8192x256, .f32⟩
  | .hbm, ⟨20, _⟩ => ⟨S8192x4, .f32⟩
  | .hbm, ⟨21, _⟩ => ⟨S8192x2308, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x2308, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S8192x1, .f32⟩
  | .hbm, ⟨81, _⟩ => ⟨S8192x1024, .f32⟩
  | .hbm, ⟨82, _⟩ => ⟨S8192x1024, .f32⟩
  | .hbm, ⟨83, _⟩ => ⟨S1x1024, .f32⟩
  | .hbm, ⟨84, _⟩ => ⟨S8192x1024, .f32⟩
  | .hbm, ⟨85, _⟩ => ⟨S8192x1024, .f32⟩
  | .hbm, ⟨86, _⟩ => ⟨S8192x1024, .bf16⟩
  | .hbm, ⟨87, _⟩ => ⟨S8192x2432, .f32⟩
  | .hbm, ⟨88, _⟩ => ⟨S8192x2432, .bf16⟩
  | .hbm, ⟨89, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩

abbrev nD : Nat := 1
abbrev τ : Topo := Topo.v7x

variable {F : FTy → Type} [FloatOps F]
-- ==== Ple.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 33
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x256, .f32⟩
  | .hbm, ⟨3, _⟩ => ⟨S1024, .f32⟩
  | .hbm, ⟨4, _⟩ => ⟨S1024x1024, .f32⟩
  | .hbm, ⟨5, _⟩ => ⟨S256x1024, .f32⟩
  | .hbm, ⟨6, _⟩ => ⟨S1024, .f32⟩
  | .hbm, ⟨7, _⟩ => ⟨S1x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S1024x1024, .bf16⟩
  | .hbm, ⟨27, _⟩ => ⟨S1x1024, .f32⟩
  | .hbm, ⟨28, _⟩ => ⟨S8192x1024, .f32⟩
  | .hbm, ⟨29, _⟩ => ⟨S1024x1024, .f32⟩
  | .hbm, ⟨30, _⟩ => ⟨S256x1024, .f32⟩
  | .hbm, ⟨31, _⟩ => ⟨S1x1024, .f32⟩
  | .hbm, ⟨32, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x256, .f32⟩
  | .local _ .vmem, ⟨9, _⟩ => ⟨S512x256, .f32⟩
  | .local _ .vmem, ⟨10, _⟩ => ⟨S1x1024, .f32⟩
  | .local _ .vmem, ⟨11, _⟩ => ⟨S1024x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S1024x1024, .f32⟩
  | .local _ .vmem, ⟨16, _⟩ => ⟨S256x1024, .f32⟩
  | .local _ .vmem, ⟨17, _⟩ => ⟨S1x1024, .f32⟩
  | .local _ .vmem, ⟨18, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev main_v18_3 : Ref sig .tc := ⟨.hbm, 31, rfl⟩
abbrev main_v18_4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== PleRefIdeal.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x256 : Shape := ⟨2, ![1024, 256]⟩

abbrev nBuf : Space → Nat
  | .hbm => 125
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x256, .f32⟩
  | .hbm, ⟨3, _⟩ => ⟨S1024, .f32⟩
  | .hbm, ⟨4, _⟩ => ⟨S1024x1024, .f32⟩
  | .hbm, ⟨5, _⟩ => ⟨S256x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S1024, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S8192x1024, .f32⟩
  | .hbm, ⟨77, _⟩ => ⟨S8192x1024, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S1024x256, .f32⟩
  | .hbm, ⟨92, _⟩ => ⟨S256x1024, .f32⟩
  | .hbm, ⟨93, _⟩ => ⟨S8192x1024, .f32⟩
  | .hbm, ⟨94, _⟩ => ⟨S1024x1024, .f32⟩
  | .hbm, ⟨95, _⟩ => ⟨S1024x1024, .f32⟩
  | .hbm, ⟨96, _⟩ => ⟨S8192x1024, .f32⟩
  | .hbm, ⟨97, _⟩ => ⟨S8192x1024, .f32⟩
  | .hbm, ⟨98, _⟩ => ⟨S_, .f32⟩
  | .hbm, ⟨99, _⟩ => ⟨S1024, .f32⟩
  | .hbm, ⟨100, _⟩ => ⟨S1x1024, .f32⟩
  | .hbm, ⟨101, _⟩ => ⟨S8192x1024, .f32⟩
  | .hbm, ⟨102, _⟩ => ⟨S8192x1024, .f32⟩
  | .hbm, ⟨103, _⟩ => ⟨S_, .f32⟩
  | .hbm, ⟨104, _⟩ => ⟨S1024, .f32⟩
  | .hbm, ⟨105, _⟩ => ⟨S8192x1024, .f32⟩
  | .hbm, ⟨106, _⟩ => ⟨S_, .f32⟩
  | .hbm, ⟨107, _⟩ => ⟨S8192, .f32⟩
  | .hbm, ⟨108, _⟩ => ⟨S8192x1, .f32⟩
  | .hbm, ⟨109, _⟩ => ⟨S8192x1024, .f32⟩
  | .hbm, ⟨110, _⟩ => ⟨S8192x1024, .f32⟩
  | .hbm, ⟨111, _⟩ => ⟨S8192x1024, .f32⟩
  | .hbm, ⟨112, _⟩ => ⟨S8192x1, .f32⟩
  | .hbm, ⟨113, _⟩ => ⟨S_, .f32⟩
  | .hbm, ⟨114, _⟩ => ⟨S8192x1, .f32⟩
  | .hbm, ⟨115, _⟩ => ⟨S8192x1, .f32⟩
  | .hbm, ⟨116, _⟩ => ⟨S_, .f32⟩
  | .hbm, ⟨117, _⟩ => ⟨S8192, .f32⟩
  | .hbm, ⟨118, _⟩ => ⟨S8192x1024, .f32⟩
  | .hbm, ⟨119, _⟩ => ⟨S8192x1024, .f32⟩
  | .hbm, ⟨120, _⟩ => ⟨S8192x1024, .f32⟩
  | .hbm, ⟨121, _⟩ => ⟨S8192x1024, .f32⟩
  | .hbm, ⟨122, _⟩ => ⟨S8192x1024, .f32⟩
  | .hbm, ⟨123, _⟩ => ⟨S1x1024, .f32⟩
  | .hbm, ⟨124, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_13 : Ref sig .tc := ⟨.hbm, 79, rfl⟩
abbrev main_v58 : Ref sig .tc := ⟨.hbm, 80, rfl⟩
abbrev main_v59 : Ref sig .tc := ⟨.hbm, 81, rfl⟩
abbrev main_cst_14 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_15 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_16 : Ref sig .tc := ⟨.hbm, 103, rfl⟩
abbrev main_v79 : Ref sig .tc := ⟨.hbm, 104, rfl⟩
abbrev main_v80 : Ref sig .tc := ⟨.hbm, 105, rfl⟩
abbrev main_cst_17 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_18 : Ref sig .tc := ⟨.hbm, 113, rfl⟩
abbrev main_v87 : Ref sig .tc := ⟨.hbm, 114, rfl⟩
abbrev main_v88 : Ref sig .tc := ⟨.hbm, 115, rfl⟩
abbrev main_cst_19 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩

abbrev nD : Nat := 1
abbrev τ : Topo := Topo.v7x

variable {F : FTy → Type} [FloatOps F]
-- ==== Pool.lean ====
abbrev S8192x256 : Shape := ⟨2, ![8192, 256]⟩
abbrev S4x64x64 : Shape := ⟨3, ![4, 64, 64]⟩
abbrev S256 : Shape := ⟨1, ![256]⟩
abbrev S_ : Shape := ⟨0, ![]⟩
abbrev S256x256 : Shape := ⟨2, ![256, 256]⟩
abbrev S1x64x64 : Shape := ⟨3, ![1, 64, 64]⟩
abbrev S64x64 : Shape := ⟨2, ![64, 64]⟩
abbrev S1x256 : Shape := ⟨2, ![1, 256]⟩
abbrev S1024x256 : Shape := ⟨2, ![1024, 256]⟩
abbrev S32x256 : Shape := ⟨2, ![32, 256]⟩
abbrev S1056x256 : Shape := ⟨2, ![1056, 256]⟩

abbrev nBuf : Space → Nat
  | .hbm => 31
  | .vmem => 14
  | .smem => 0
  | _ => 0

abbrev bufTy : (tb : Table) → Fin (tcTables nBuf tb) → BufTy
  | .hbm, ⟨0, _⟩ => ⟨S8192x256, .f32⟩
  | .hbm, ⟨1, _⟩ => ⟨S4x64x64, .f32⟩
  | .hbm, ⟨2, _⟩ => ⟨S256, .f32⟩
  | .hbm, ⟨3, _⟩ => ⟨S8192x256, .f32⟩
  | .hbm, ⟨4, _⟩ => ⟨S_, .f32⟩
  | .hbm, ⟨5, _⟩ => ⟨S256x256, .f32⟩
  | .hbm, ⟨6, _⟩ => ⟨S1x64x64, .f32⟩
  | .hbm, ⟨7, _⟩ => ⟨S64x64, .f32⟩
  | .hbm, ⟨8, _⟩ => ⟨S_, .i32⟩
  | .hbm, ⟨9, _⟩ => ⟨S_, .i32⟩
  | .hbm, ⟨10, _⟩ => ⟨S256x256, .f32⟩
  | .hbm, ⟨11, _⟩ => ⟨S1x64x64, .f32⟩
  | .hbm, ⟨12, _⟩ => ⟨S64x64, .f32⟩
  | .hbm, ⟨13, _⟩ => ⟨S_, .i32⟩
  | .hbm, ⟨14, _⟩ => ⟨S_, .i32⟩
  | .hbm, ⟨15, _⟩ => ⟨S256x256, .f32⟩
  | .hbm, ⟨16, _⟩ => ⟨S1x64x64, .f32⟩
  | .hbm, ⟨17, _⟩ => ⟨S64x64, .f32⟩
  | .hbm, ⟨18, _⟩ => ⟨S_, .i32⟩
  | .hbm, ⟨19, _⟩ => ⟨S_, .i32⟩
  | .hbm, ⟨20, _⟩ => ⟨S256x256, .f32⟩
  | .hbm, ⟨21, _⟩ => ⟨S1x64x64, .f32⟩
  | .hbm, ⟨22, _⟩ => ⟨S64x64, .f32⟩
  | .hbm, ⟨23, _⟩ => ⟨S_, .i32⟩
  | .hbm, ⟨24, _⟩ => ⟨S_, .i32⟩
  | .hbm, ⟨25, _⟩ => ⟨S256x256, .f32⟩
  | .hbm, ⟨26, _⟩ => ⟨S256x256, .bf16⟩
  | .hbm, ⟨27, _⟩ => ⟨S1x256, .f32⟩
  | .hbm, ⟨28, _⟩ => ⟨S8192x256, .bf16⟩
  | .hbm, ⟨29, _⟩ => ⟨S256x256, .f32⟩
  | .hbm, ⟨30, _⟩ => ⟨S1x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S32x256, .f32⟩
  | .local _ .vmem, ⟨5, _⟩ => ⟨S32x256, .f32⟩
  | .local _ .vmem, ⟨6, _⟩ => ⟨S32x256, .f32⟩
  | .local _ .vmem, ⟨7, _⟩ => ⟨S32x256, .f32⟩
  | .local _ .vmem, ⟨8, _⟩ => ⟨S256x256, .bf16⟩
  | .local _ .vmem, ⟨9, _⟩ => ⟨S1x256, .f32⟩
  | .local _ .vmem, ⟨10, _⟩ => ⟨S1024x256, .bf16⟩
  | .local _ .vmem, ⟨11, _⟩ => ⟨S1024x256, .bf16⟩
  | .local _ .vmem, ⟨12, _⟩ => ⟨S256x256, .f32⟩
  | .local _ .vmem, ⟨13, _⟩ => ⟨S1x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_3 : Ref sig .tc := ⟨.hbm, 18, rfl⟩
abbrev main_c_4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_5 : Ref sig .tc := ⟨.hbm, 23, rfl⟩
abbrev main_c_6 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_v15_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== PoolRefIdeal.lean ====
abbrev S8192x256 : Shape := ⟨2, ![8192, 256]⟩
abbrev S4x64x64 : Shape := ⟨3, ![4, 64, 64]⟩
abbrev S256 : Shape := ⟨1, ![256]⟩
abbrev S8192 : Shape := ⟨1, ![8192]⟩
abbrev S_ : Shape := ⟨0, ![]⟩
abbrev S8192x1 : Shape := ⟨2, ![8192, 1]⟩
abbrev S8192x64 : Shape := ⟨2, ![8192, 64]⟩
abbrev S2x64 : Shape := ⟨2, ![2, 64]⟩
abbrev S8190x64 : Shape := ⟨2, ![8190, 64]⟩
abbrev S4x64 : Shape := ⟨2, ![4, 64]⟩
abbrev S8188x64 : Shape := ⟨2, ![8188, 64]⟩
abbrev S8x64 : Shape := ⟨2, ![8, 64]⟩
abbrev S8184x64 : Shape := ⟨2, ![8184, 64]⟩
abbrev S16x64 : Shape := ⟨2, ![16, 64]⟩
abbrev S8176x64 : Shape := ⟨2, ![8176, 64]⟩
abbrev S8192x1x64 : Shape := ⟨3, ![8192, 1, 64]⟩
abbrev S8192x4x64 : Shape := ⟨3, ![8192, 4, 64]⟩
abbrev S4x64x8192 : Shape := ⟨3, ![4, 64, 8192]⟩
abbrev S1x256 : Shape := ⟨2, ![1, 256]⟩
abbrev S4x8192x64 : Shape := ⟨3, ![4, 8192, 64]⟩
abbrev S256x256 : Shape := ⟨2, ![256, 256]⟩
abbrev S1x64x64 : Shape := ⟨3, ![1, 64, 64]⟩
abbrev S64x64 : Shape := ⟨2, ![64, 64]⟩

abbrev nBuf : Space → Nat
  | .hbm => 187
  | .vmem => 0
  | .smem => 0
  | _ => 0

abbrev hbmTy0_0 (i : Nat) : BufTy := match i % 128 with
  | 0 => ⟨S8192x256, .f32⟩
  | 1 => ⟨S4x64x64, .f32⟩
  | 2 => ⟨S256, .f32⟩
  | 3 => ⟨S8192x256, .f32⟩
  | 4 => ⟨S8192, .f32⟩
  | 5 => ⟨S_, .f32⟩
  | 6 => ⟨S8192, .f32⟩
  | 7 => ⟨S8192, .f32⟩
  | 8 => ⟨S8192x1, .f32⟩
  | 9 => ⟨S8192x64, .f32⟩
  | 10 => ⟨S8192x64, .f32⟩
  | 11 => ⟨S8192x64, .f32⟩
  | 12 => ⟨S8192x64, .f32⟩
  | 13 => ⟨S_, .f32⟩
  | 14 => ⟨S_, .f32⟩
  | 15 => ⟨S8192x64, .f32⟩
  | 16 => ⟨S_, .f32⟩
  | 17 => ⟨S2x64, .f32⟩
  | 18 => ⟨S8190x64, .f32⟩
  | 19 => ⟨S8192x64, .f32⟩
  | 20 => ⟨S_, .f32⟩
  | 21 => ⟨S2x64, .f32⟩
  | 22 => ⟨S8192x64, .f32⟩
  | 23 => ⟨S_, .f32⟩
  | 24 => ⟨S8192x1, .f32⟩
  | 25 => ⟨S8192x1, .f32⟩
  | 26 => ⟨S8192x64, .f32⟩
  | 27 => ⟨S8192x64, .f32⟩
  | 28 => ⟨S8192x64, .f32⟩
  | 29 => ⟨S_, .f32⟩
  | 30 => ⟨S_, .f32⟩
  | 31 => ⟨S8192x64, .f32⟩
  | 32 => ⟨S_, .f32⟩
  | 33 => ⟨S4x64, .f32⟩
  | 34 => ⟨S8188x64, .f32⟩
  | 35 => ⟨S8192x64, .f32⟩
  | 36 => ⟨S_, .f32⟩
  | 37 => ⟨S4x64, .f32⟩
  | 38 => ⟨S8192x64, .f32⟩
  | 39 => ⟨S_, .f32⟩
  | 40 => ⟨S8192x1, .f32⟩
  | 41 => ⟨S8192x1, .f32⟩
  | 42 => ⟨S8192x64, .f32⟩
  | 43 => ⟨S8192x64, .f32⟩
  | 44 => ⟨S8192x64, .f32⟩
  | 45 => ⟨S_, .f32⟩
  | 46 => ⟨S_, .f32⟩
  | 47 => ⟨S8192x64, .f32⟩
  | 48 => ⟨S_, .f32⟩
  | 49 => ⟨S8x64, .f32⟩
  | 50 => ⟨S8184x64, .f32⟩
  | 51 => ⟨S8192x64, .f32⟩
  | 52 => ⟨S_, .f32⟩
  | 53 => ⟨S8x64, .f32⟩
  | 54 => ⟨S8192x64, .f32⟩
  | 55 => ⟨S_, .f32⟩
  | 56 => ⟨S8192x1, .f32⟩
  | 57 => ⟨S8192x1, .f32⟩
  | 58 => ⟨S8192x64, .f32⟩
  | 59 => ⟨S8192x64, .f32⟩
  | 60 => ⟨S8192x64, .f32⟩
  | 61 => ⟨S_, .f32⟩
  | 62 => ⟨S_, .f32⟩
  | 63 => ⟨S8192x64, .f32⟩
  | 64 => ⟨S_, .f32⟩
  | 65 => ⟨S16x64, .f32⟩
  | 66 => ⟨S8176x64, .f32⟩
  | 67 => ⟨S8192x64, .f32⟩
  | 68 => ⟨S_, .f32⟩
  | 69 => ⟨S16x64, .f32⟩
  | 70 => ⟨S8192x64, .f32⟩
  | 71 => ⟨S_, .f32⟩
  | 72 => ⟨S8192x1, .f32⟩
  | 73 => ⟨S8192x1, .f32⟩
  | 74 => ⟨S8192x64, .f32⟩
  | 75 => ⟨S8192x64, .f32⟩
  | 76 => ⟨S8192x64, .f32⟩
  | 77 => ⟨S8192x1x64, .f32⟩
  | 78 => ⟨S8192x1x64, .f32⟩
  | 79 => ⟨S8192x1x64, .f32⟩
  | 80 => ⟨S8192x1x64, .f32⟩
  | 81 => ⟨S8192x4x64, .f32⟩
  | 82 => ⟨S4x64x8192, .f32⟩
  | 83 => ⟨S8192x4x64, .f32⟩
  | 84 => ⟨S8192x256, .f32⟩
  | 85 => ⟨S1x256, .f32⟩
  | 86 => ⟨S8192x256, .f32⟩
  | 87 => ⟨S8192x256, .f32⟩
  | 88 => ⟨S8192x256, .f32⟩
  | 89 => ⟨S_, .f32⟩
  | 90 => ⟨S256, .f32⟩
  | 91 => ⟨S1x256, .f32⟩
  | 92 => ⟨S8192x256, .f32⟩
  | 93 => ⟨S8192x256, .f32⟩
  | 94 => ⟨S_, .f32⟩
  | 95 => ⟨S256, .f32⟩
  | 96 => ⟨S8192x4x64, .f32⟩
  | 97 => ⟨S4x64x8192, .f32⟩
  | 98 => ⟨S4x8192x64, .f32⟩
  | 99 => ⟨S8192x4x64, .f32⟩
  | 100 => ⟨S4x64x64, .f32⟩
  | 101 => ⟨S4x64x64, .f32⟩
  | 102 => ⟨S8192x1x64, .f32⟩
  | 103 => ⟨S8192x64, .f32⟩
  | 104 => ⟨S8192x1x64, .f32⟩
  | 105 => ⟨S8192x64, .f32⟩
  | 106 => ⟨S8192x1x64, .f32⟩
  | 107 => ⟨S8192x64, .f32⟩
  | 108 => ⟨S8192x1x64, .f32⟩
  | 109 => ⟨S8192x64, .f32⟩
  | 110 => ⟨S8192x64, .f32⟩
  | 111 => ⟨S8192x64, .f32⟩
  | 112 => ⟨S8192x64, .f32⟩
  | 113 => ⟨S8192x64, .f32⟩
  | 114 => ⟨S16x64, .f32⟩
  | 115 => ⟨S8176x64, .f32⟩
  | 116 => ⟨S_, .f32⟩
  | 117 => ⟨S8192x64, .f32⟩
  | 118 => ⟨S8192x64, .f32⟩
  | 119 => ⟨S_, .f32⟩
  | 120 => ⟨S_, .f32⟩
  | 121 => ⟨S8192x64, .f32⟩
  | 122 => ⟨S8192x64, .f32⟩
  | 123 => ⟨S8192x64, .f32⟩
  | 124 => ⟨S8192x64, .f32⟩
  | 125 => ⟨S8192x64, .f32⟩
  | 126 => ⟨S8192x64, .f32⟩
  | 127 => ⟨S8x64, .f32⟩
  | _ => ⟨S8192x256, .f32⟩

abbrev hbmTy0_1 (i : Nat) : BufTy := match i % 128 with
  | 0 => ⟨S8184x64, .f32⟩
  | 1 => ⟨S_, .f32⟩
  | 2 => ⟨S8192x64, .f32⟩
  | 3 => ⟨S8192x64, .f32⟩
  | 4 => ⟨S_, .f32⟩
  | 5 => ⟨S_, .f32⟩
  | 6 => ⟨S8192x64, .f32⟩
  | 7 => ⟨S8192x64, .f32⟩
  | 8 => ⟨S8192x64, .f32⟩
  | 9 => ⟨S8192x64, .f32⟩
  | 10 => ⟨S8192x64, .f32⟩
  | 11 => ⟨S8192x64, .f32⟩
  | 12 => ⟨S4x64, .f32⟩
  | 13 => ⟨S8188x64, .f32⟩
  | 14 => ⟨S_, .f32⟩
  | 15 => ⟨S8192x64, .f32⟩
  | 16 => ⟨S8192x64, .f32⟩
  | 17 => ⟨S_, .f32⟩
  | 18 => ⟨S_, .f32⟩
  | 19 => ⟨S8192x64, .f32⟩
  | 20 => ⟨S8192x64, .f32⟩
  | 21 => ⟨S8192x64, .f32⟩
  | 22 => ⟨S8192x64, .f32⟩
  | 23 => ⟨S8192x64, .f32⟩
  | 24 => ⟨S8192x64, .f32⟩
  | 25 => ⟨S2x64, .f32⟩
  | 26 => ⟨S8190x64, .f32⟩
  | 27 => ⟨S_, .f32⟩
  | 28 => ⟨S8192x64, .f32⟩
  | 29 => ⟨S8192x64, .f32⟩
  | 30 => ⟨S_, .f32⟩
  | 31 => ⟨S_, .f32⟩
  | 32 => ⟨S8192x64, .f32⟩
  | 33 => ⟨S8192x64, .f32⟩
  | 34 => ⟨S8192x256, .f32⟩
  | 35 => ⟨S_, .f32⟩
  | 36 => ⟨S256x256, .f32⟩
  | 37 => ⟨S1x64x64, .f32⟩
  | 38 => ⟨S64x64, .f32⟩
  | 39 => ⟨S_, .i32⟩
  | 40 => ⟨S_, .i32⟩
  | 41 => ⟨S256x256, .f32⟩
  | 42 => ⟨S1x64x64, .f32⟩
  | 43 => ⟨S64x64, .f32⟩
  | 44 => ⟨S_, .i32⟩
  | 45 => ⟨S_, .i32⟩
  | 46 => ⟨S256x256, .f32⟩
  | 47 => ⟨S1x64x64, .f32⟩
  | 48 => ⟨S64x64, .f32⟩
  | 49 => ⟨S_, .i32⟩
  | 50 => ⟨S_, .i32⟩
  | 51 => ⟨S256x256, .f32⟩
  | 52 => ⟨S1x64x64, .f32⟩
  | 53 => ⟨S64x64, .f32⟩
  | 54 => ⟨S_, .i32⟩
  | 55 => ⟨S_, .i32⟩
  | 56 => ⟨S256x256, .f32⟩
  | 57 => ⟨S8192x256, .bf16⟩
  | 58 => ⟨S1x256, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_call0_cst : Ref sig .tc := ⟨.hbm, 13, rfl⟩
abbrev main_call0_call0_v0 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call1_call0_cst : Ref sig .tc := ⟨.hbm, 29, rfl⟩
abbrev main_call1_call0_v0 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call2_call0_cst : Ref sig .tc := ⟨.hbm, 45, rfl⟩
abbrev main_call2_call0_v0 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call3_call0_cst : Ref sig .tc := ⟨.hbm, 61, rfl⟩
abbrev main_call3_call0_v0 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩
abbrev main_v46 : Ref sig .tc := ⟨.hbm, 70, rfl⟩
abbrev main_cst_11 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_12 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_13 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_14 : Ref sig .tc := ⟨.hbm, 116, rfl⟩
abbrev main_v89 : Ref sig .tc := ⟨.hbm, 117, rfl⟩
abbrev main_v90 : Ref sig .tc := ⟨.hbm, 118, rfl⟩
abbrev main_call4_call0_cst : Ref sig .tc := ⟨.hbm, 119, rfl⟩
abbrev main_call4_call0_v0 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_15 : Ref sig .tc := ⟨.hbm, 129, rfl⟩
abbrev main_v99 : Ref sig .tc := ⟨.hbm, 130, rfl⟩
abbrev main_v100 : Ref sig .tc := ⟨.hbm, 131, rfl⟩
abbrev main_call5_call0_cst : Ref sig .tc := ⟨.hbm, 132, rfl⟩
abbrev main_call5_call0_v0 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_16 : Ref sig .tc := ⟨.hbm, 142, rfl⟩
abbrev main_v109 : Ref sig .tc := ⟨.hbm, 143, rfl⟩
abbrev main_v110 : Ref sig .tc := ⟨.hbm, 144, rfl⟩
abbrev main_call6_call0_cst : Ref sig .tc := ⟨.hbm, 145, rfl⟩
abbrev main_call6_call0_v0 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_cst_17 : Ref sig .tc := ⟨.hbm, 155, rfl⟩
abbrev main_v119 : Ref sig .tc := ⟨.hbm, 156, rfl⟩
abbrev main_v120 : Ref sig .tc := ⟨.hbm, 157, rfl⟩
abbrev main_call7_call0_cst : Ref sig .tc := ⟨.hbm, 158, rfl⟩
abbrev main_call7_call0_v0 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_cst_18 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_c : Ref sig .tc := ⟨.hbm, 167, rfl⟩
abbrev main_c_19 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_c_20 : Ref sig .tc := ⟨.hbm, 172, rfl⟩
abbrev main_c_21 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_c_22 : Ref sig .tc := ⟨.hbm, 177, rfl⟩
abbrev main_c_23 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_c_24 : Ref sig .tc := ⟨.hbm, 182, rfl⟩
abbrev main_c_25 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩

abbrev nD : Nat := 1
abbrev τ : Topo := Topo.v7x

variable {F : FTy → Type} [FloatOps F]
-- ==== Conf.lean ====
abbrev S8192x512 : Shape := ⟨2, ![8192, 512]⟩
abbrev S31x256 : Shape := ⟨2, ![31, 256]⟩
abbrev S256 : Shape := ⟨1, ![256]⟩
abbrev S256x256 : Shape := ⟨2, ![256, 256]⟩
abbrev S8192x256 : Shape := ⟨2, ![8192, 256]⟩
abbrev S_ : Shape := ⟨0, ![]⟩
abbrev S8222x256 : Shape := ⟨2, ![8222, 256]⟩
abbrev S1x256 : Shape := ⟨2, ![1, 256]⟩
abbrev S32x256 : Shape := ⟨2, ![32, 256]⟩
abbrev S512x512 : Shape := ⟨2, ![512, 512]⟩
abbrev S512x256 : Shape := ⟨2, ![512, 256]⟩
abbrev S32x512 : Shape := ⟨2, ![32, 512]⟩
abbrev S544x256 : Shape := ⟨2, ![544, 256]⟩
abbrev S544 : Shape := ⟨1, ![544]⟩
abbrev S544x1 : Shape := ⟨2, ![544, 1]⟩
abbrev S544x512 : Shape := ⟨2, ![544, 512]⟩

abbrev nBuf : Space → Nat
  | .hbm => 188
  | .vmem => 22
  | .smem => 0
  | _ => 0

abbrev hbmTy0_0 (i : Nat) : BufTy := match i % 128 with
  | 0 => ⟨S8192x512, .f32⟩
  | 1 => ⟨S31x256, .f32⟩
  | 2 => ⟨S256, .f32⟩
  | 3 => ⟨S256, .f32⟩
  | 4 => ⟨S256x256, .f32⟩
  | 5 => ⟨S8192x256, .f32⟩
  | 6 => ⟨S8192x256, .f32⟩
  | 7 => ⟨S8192x256, .f32⟩
  | 8 => ⟨S8192x256, .f32⟩
  | 9 => ⟨S8192x256, .f32⟩
  | 10 => ⟨S_, .f32⟩
  | 11 => ⟨S8192x256, .f32⟩
  | 12 => ⟨S8192x256, .f32⟩
  | 13 => ⟨S_, .f32⟩
  | 14 => ⟨S8192x256, .f32⟩
  | 15 => ⟨S8192x256, .f32⟩
  | 16 => ⟨S8192x256, .f32⟩
  | 17 => ⟨S_, .i32⟩
  | 18 => ⟨S_, .f32⟩
  | 19 => ⟨S8222x256, .f32⟩
  | 20 => ⟨S_, .f32⟩
  | 21 => ⟨S8192x256, .f32⟩
  | 22 => ⟨S1x256, .f32⟩
  | 23 => ⟨S8192x256, .f32⟩
  | 24 => ⟨S8192x256, .f32⟩
  | 25 => ⟨S8192x256, .f32⟩
  | 26 => ⟨S8192x256, .f32⟩
  | 27 => ⟨S1x256, .f32⟩
  | 28 => ⟨S8192x256, .f32⟩
  | 29 => ⟨S8192x256, .f32⟩
  | 30 => ⟨S8192x256, .f32⟩
  | 31 => ⟨S8192x256, .f32⟩
  | 32 => ⟨S1x256, .f32⟩
  | 33 => ⟨S8192x256, .f32⟩
  | 34 => ⟨S8192x256, .f32⟩
  | 35 => ⟨S8192x256, .f32⟩
  | 36 => ⟨S8192x256, .f32⟩
  | 37 => ⟨S1x256, .f32⟩
  | 38 => ⟨S8192x256, .f32⟩
  | 39 => ⟨S8192x256, .f32⟩
  | 40 => ⟨S8192x256, .f32⟩
  | 41 => ⟨S8192x256, .f32⟩
  | 42 => ⟨S1x256, .f32⟩
  | 43 => ⟨S8192x256, .f32⟩
  | 44 => ⟨S8192x256, .f32⟩
  | 45 => ⟨S8192x256, .f32⟩
  | 46 => ⟨S8192x256, .f32⟩
  | 47 => ⟨S1x256, .f32⟩
  | 48 => ⟨S8192x256, .f32⟩
  | 49 => ⟨S8192x256, .f32⟩
  | 50 => ⟨S8192x256, .f32⟩
  | 51 => ⟨S8192x256, .f32⟩
  | 52 => ⟨S1x256, .f32⟩
  | 53 => ⟨S8192x256, .f32⟩
  | 54 => ⟨S8192x256, .f32⟩
  | 55 => ⟨S8192x256, .f32⟩
  | 56 => ⟨S8192x256, .f32⟩
  | 57 => ⟨S1x256, .f32⟩
  | 58 => ⟨S8192x256, .f32⟩
  | 59 => ⟨S8192x256, .f32⟩
  | 60 => ⟨S8192x256, .f32⟩
  | 61 => ⟨S8192x256, .f32⟩
  | 62 => ⟨S1x256, .f32⟩
  | 63 => ⟨S8192x256, .f32⟩
  | 64 => ⟨S8192x256, .f32⟩
  | 65 => ⟨S8192x256, .f32⟩
  | 66 => ⟨S8192x256, .f32⟩
  | 67 => ⟨S1x256, .f32⟩
  | 68 => ⟨S8192x256, .f32⟩
  | 69 => ⟨S8192x256, .f32⟩
  | 70 => ⟨S8192x256, .f32⟩
  | 71 => ⟨S8192x256, .f32⟩
  | 72 => ⟨S1x256, .f32⟩
  | 73 => ⟨S8192x256, .f32⟩
  | 74 => ⟨S8192x256, .f32⟩
  | 75 => ⟨S8192x256, .f32⟩
  | 76 => ⟨S8192x256, .f32⟩
  | 77 => ⟨S1x256, .f32⟩
  | 78 => ⟨S8192x256, .f32⟩
  | 79 => ⟨S8192x256, .f32⟩
  | 80 => ⟨S8192x256, .f32⟩
  | 81 => ⟨S8192x256, .f32⟩
  | 82 => ⟨S1x256, .f32⟩
  | 83 => ⟨S8192x256, .f32⟩
  | 84 => ⟨S8192x256, .f32⟩
  | 85 => ⟨S8192x256, .f32⟩
  | 86 => ⟨S8192x256, .f32⟩
  | 87 => ⟨S1x256, .f32⟩
  | 88 => ⟨S8192x256, .f32⟩
  | 89 => ⟨S8192x256, .f32⟩
  | 90 => ⟨S8192x256, .f32⟩
  | 91 => ⟨S8192x256, .f32⟩
  | 92 => ⟨S1x256, .f32⟩
  | 93 => ⟨S8192x256, .f32⟩
  | 94 => ⟨S8192x256, .f32⟩
  | 95 => ⟨S8192x256, .f32⟩
  | 96 => ⟨S8192x256, .f32⟩
  | 97 => ⟨S1x256, .f32⟩
  | 98 => ⟨S8192x256, .f32⟩
  | 99 => ⟨S8192x256, .f32⟩
  | 100 => ⟨S8192x256, .f32⟩
  | 101 => ⟨S8192x256, .f32⟩
  | 102 => ⟨S1x256, .f32⟩
  | 103 => ⟨S8192x256, .f32⟩
  | 104 => ⟨S8192x256, .f32⟩
  | 105 => ⟨S8192x256, .f32⟩
  | 106 => ⟨S8192x256, .f32⟩
  | 107 => ⟨S1x256, .f32⟩
  | 108 => ⟨S8192x256, .f32⟩
  | 109 => ⟨S8192x256, .f32⟩
  | 110 => ⟨S8192x256, .f32⟩
  | 111 => ⟨S8192x256, .f32⟩
  | 112 => ⟨S1x256, .f32⟩
  | 113 => ⟨S8192x256, .f32⟩
  | 114 => ⟨S8192x256, .f32⟩
  | 115 => ⟨S8192x256, .f32⟩
  | 116 => ⟨S8192x256, .f32⟩
  | 117 => ⟨S1x256, .f32⟩
  | 118 => ⟨S8192x256, .f32⟩
  | 119 => ⟨S8192x256, .f32⟩
  | 120 => ⟨S8192x256, .f32⟩
  | 121 => ⟨S8192x256, .f32⟩
  | 122 => ⟨S1x256, .f32⟩
  | 123 => ⟨S8192x256, .f32⟩
  | 124 => ⟨S8192x256, .f32⟩
  | 125 => ⟨S8192x256, .f32⟩
  | 126 => ⟨S8192x256, .f32⟩
  | 127 => ⟨S1x256, .f32⟩
  | _ => ⟨S8192x512, .f32⟩

abbrev hbmTy0_1 (i : Nat) : BufTy := match i % 128 with
  | 0 => ⟨S8192x256, .f32⟩
  | 1 => ⟨S8192x256, .f32⟩
  | 2 => ⟨S8192x256, .f32⟩
  | 3 => ⟨S8192x256, .f32⟩
  | 4 => ⟨S1x256, .f32⟩
  | 5 => ⟨S8192x256, .f32⟩
  | 6 => ⟨S8192x256, .f32⟩
  | 7 => ⟨S8192x256, .f32⟩
  | 8 => ⟨S8192x256, .f32⟩
  | 9 => ⟨S1x256, .f32⟩
  | 10 => ⟨S8192x256, .f32⟩
  | 11 => ⟨S8192x256, .f32⟩
  | 12 => ⟨S8192x256, .f32⟩
  | 13 => ⟨S8192x256, .f32⟩
  | 14 => ⟨S1x256, .f32⟩
  | 15 => ⟨S8192x256, .f32⟩
  | 16 => ⟨S8192x256, .f32⟩
  | 17 => ⟨S8192x256, .f32⟩
  | 18 => ⟨S8192x256, .f32⟩
  | 19 => ⟨S1x256, .f32⟩
  | 20 => ⟨S8192x256, .f32⟩
  | 21 => ⟨S8192x256, .f32⟩
  | 22 => ⟨S8192x256, .f32⟩
  | 23 => ⟨S8192x256, .f32⟩
  | 24 => ⟨S1x256, .f32⟩
  | 25 => ⟨S8192x256, .f32⟩
  | 26 => ⟨S8192x256, .f32⟩
  | 27 => ⟨S8192x256, .f32⟩
  | 28 => ⟨S8192x256, .f32⟩
  | 29 => ⟨S1x256, .f32⟩
  | 30 => ⟨S8192x256, .f32⟩
  | 31 => ⟨S8192x256, .f32⟩
  | 32 => ⟨S8192x256, .f32⟩
  | 33 => ⟨S8192x256, .f32⟩
  | 34 => ⟨S1x256, .f32⟩
  | 35 => ⟨S8192x256, .f32⟩
  | 36 => ⟨S8192x256, .f32⟩
  | 37 => ⟨S8192x256, .f32⟩
  | 38 => ⟨S8192x256, .f32⟩
  | 39 => ⟨S1x256, .f32⟩
  | 40 => ⟨S8192x256, .f32⟩
  | 41 => ⟨S8192x256, .f32⟩
  | 42 => ⟨S8192x256, .f32⟩
  | 43 => ⟨S8192x256, .f32⟩
  | 44 => ⟨S1x256, .f32⟩
  | 45 => ⟨S8192x256, .f32⟩
  | 46 => ⟨S8192x256, .f32⟩
  | 47 => ⟨S8192x256, .f32⟩
  | 48 => ⟨S8192x256, .f32⟩
  | 49 => ⟨S_, .i32⟩
  | 50 => ⟨S_, .f32⟩
  | 51 => ⟨S32x256, .f32⟩
  | 52 => ⟨S1x256, .f32⟩
  | 53 => ⟨S1x256, .f32⟩
  | 54 => ⟨S256x256, .bf16⟩
  | 55 => ⟨S8192x512, .bf16⟩
  | 56 => ⟨S32x256, .f32⟩
  | 57 => ⟨S1x256, .f32⟩
  | 58 => ⟨S1x256, .f32⟩
  | 59 => ⟨S256x256, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S32x512, .f32⟩
  | .local _ .vmem, ⟨7, _⟩ => ⟨S32x512, .f32⟩
  | .local _ .vmem, ⟨8, _⟩ => ⟨S32x256, .f32⟩
  | .local _ .vmem, ⟨9, _⟩ => ⟨S32x256, .f32⟩
  | .local _ .vmem, ⟨10, _⟩ => ⟨S32x256, .f32⟩
  | .local _ .vmem, ⟨11, _⟩ => ⟨S32x256, .f32⟩
  | .local _ .vmem, ⟨12, _⟩ => ⟨S32x256, .f32⟩
  | .local _ .vmem, ⟨13, _⟩ => ⟨S1x256, .f32⟩
  | .local _ .vmem, ⟨14, _⟩ => ⟨S1x256, .f32⟩
  | .local _ .vmem, ⟨15, _⟩ => ⟨S256x256, .bf16⟩
  | .local _ .vmem, ⟨16, _⟩ => ⟨S512x512, .bf16⟩
  | .local _ .vmem, ⟨17, _⟩ => ⟨S512x512, .bf16⟩
  | .local _ .vmem, ⟨18, _⟩ => ⟨S32x256, .f32⟩
  | .local _ .vmem, ⟨19, _⟩ => ⟨S1x256, .f32⟩
  | .local _ .vmem, ⟨20, _⟩ => ⟨S1x256, .f32⟩
  | .local _ .vmem, ⟨21, _⟩ => ⟨S256x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call0_v0 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_c_2 : Ref sig .tc := ⟨.hbm, 177, rfl⟩
abbrev main_call1_v0 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170_0 : Ref sig .tc := ⟨.hbm, 183, rfl⟩
abbrev main_v170_1 : Ref sig .tc := ⟨.hbm, 184, rfl⟩
abbrev main_v170_2 : Ref sig .tc := ⟨.hbm, 185, rfl⟩
abbrev main_v170_3 : Ref sig .tc := ⟨.hbm, 186, rfl⟩
abbrev main_v170_4 : Ref sig .tc := ⟨.hbm, 187, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S32x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ConfRefIdeal.lean ====
abbrev S8192x512 : Shape := ⟨2, ![8192, 512]⟩
abbrev S31x256 : Shape := ⟨2, ![31, 256]⟩
abbrev S256 : Shape := ⟨1, ![256]⟩
abbrev S256x256 : Shape := ⟨2, ![256, 256]⟩
abbrev S8192x256 : Shape := ⟨2, ![8192, 256]⟩
abbrev S_ : Shape := ⟨0, ![]⟩
abbrev S30x256 : Shape := ⟨2, ![30, 256]⟩
abbrev S8222x256 : Shape := ⟨2, ![8222, 256]⟩
abbrev S1x256 : Shape := ⟨2, ![1, 256]⟩
abbrev S8192 : Shape := ⟨1, ![8192]⟩
abbrev S8192x1 : Shape := ⟨2, ![8192, 1]⟩
abbrev S32x256 : Shape := ⟨2, ![32, 256]⟩

abbrev nBuf : Space → Nat
  | .hbm => 810
  | .vmem => 0
  | .smem => 0
  | _ => 0

abbrev hbmTy0_0 (i : Nat) : BufTy := match i % 128 with
  | 0 => ⟨S8192x512, .f32⟩
  | 1 => ⟨S31x256, .f32⟩
  | 2 => ⟨S256, .f32⟩
  | 3 => ⟨S256, .f32⟩
  | 4 => ⟨S256x256, .f32⟩
  | 5 => ⟨S8192x256, .f32⟩
  | 6 => ⟨S8192x256, .f32⟩
  | 7 => ⟨S8192x256, .f32⟩
  | 8 => ⟨S8192x256, .f32⟩
  | 9 => ⟨S8192x256, .f32⟩
  | 10 => ⟨S_, .f32⟩
  | 11 => ⟨S8192x256, .f32⟩
  | 12 => ⟨S8192x256, .f32⟩
  | 13 => ⟨S_, .f32⟩
  | 14 => ⟨S8192x256, .f32⟩
  | 15 => ⟨S8192x256, .f32⟩
  | 16 => ⟨S_, .f32⟩
  | 17 => ⟨S8192x256, .f32⟩
  | 18 => ⟨S8192x256, .f32⟩
  | 19 => ⟨S8192x256, .f32⟩
  | 20 => ⟨S8192x256, .f32⟩
  | 21 => ⟨S_, .f32⟩
  | 22 => ⟨S30x256, .f32⟩
  | 23 => ⟨S8222x256, .f32⟩
  | 24 => ⟨S_, .f32⟩
  | 25 => ⟨S30x256, .f32⟩
  | 26 => ⟨S1x256, .f32⟩
  | 27 => ⟨S256, .f32⟩
  | 28 => ⟨S8192x256, .f32⟩
  | 29 => ⟨S1x256, .f32⟩
  | 30 => ⟨S8192x256, .f32⟩
  | 31 => ⟨S8192x256, .f32⟩
  | 32 => ⟨S1x256, .f32⟩
  | 33 => ⟨S256, .f32⟩
  | 34 => ⟨S8192x256, .f32⟩
  | 35 => ⟨S1x256, .f32⟩
  | 36 => ⟨S8192x256, .f32⟩
  | 37 => ⟨S8192x256, .f32⟩
  | 38 => ⟨S8192x256, .f32⟩
  | 39 => ⟨S1x256, .f32⟩
  | 40 => ⟨S256, .f32⟩
  | 41 => ⟨S8192x256, .f32⟩
  | 42 => ⟨S1x256, .f32⟩
  | 43 => ⟨S8192x256, .f32⟩
  | 44 => ⟨S8192x256, .f32⟩
  | 45 => ⟨S8192x256, .f32⟩
  | 46 => ⟨S1x256, .f32⟩
  | 47 => ⟨S256, .f32⟩
  | 48 => ⟨S8192x256, .f32⟩
  | 49 => ⟨S1x256, .f32⟩
  | 50 => ⟨S8192x256, .f32⟩
  | 51 => ⟨S8192x256, .f32⟩
  | 52 => ⟨S8192x256, .f32⟩
  | 53 => ⟨S1x256, .f32⟩
  | 54 => ⟨S256, .f32⟩
  | 55 => ⟨S8192x256, .f32⟩
  | 56 => ⟨S1x256, .f32⟩
  | 57 => ⟨S8192x256, .f32⟩
  | 58 => ⟨S8192x256, .f32⟩
  | 59 => ⟨S8192x256, .f32⟩
  | 60 => ⟨S1x256, .f32⟩
  | 61 => ⟨S256, .f32⟩
  | 62 => ⟨S8192x256, .f32⟩
  | 63 => ⟨S1x256, .f32⟩
  | 64 => ⟨S8192x256, .f32⟩
  | 65 => ⟨S8192x256, .f32⟩
  | 66 => ⟨S8192x256, .f32⟩
  | 67 => ⟨S1x256, .f32⟩
  | 68 => ⟨S256, .f32⟩
  | 69 => ⟨S8192x256, .f32⟩
  | 70 => ⟨S1x256, .f32⟩
  | 71 => ⟨S8192x256, .f32⟩
  | 72 => ⟨S8192x256, .f32⟩
  | 73 => ⟨S8192x256, .f32⟩
  | 74 => ⟨S1x256, .f32⟩
  | 75 => ⟨S256, .f32⟩
  | 76 => ⟨S8192x256, .f32⟩
  | 77 => ⟨S1x256, .f32⟩
  | 78 => ⟨S8192x256, .f32⟩
  | 79 => ⟨S8192x256, .f32⟩
  | 80 => ⟨S8192x256, .f32⟩
  | 81 => ⟨S1x256, .f32⟩
  | 82 => ⟨S256, .f32⟩
  | 83 => ⟨S8192x256, .f32⟩
  | 84 => ⟨S1x256, .f32⟩
  | 85 => ⟨S8192x256, .f32⟩
  | 86 => ⟨S8192x256, .f32⟩
  | 87 => ⟨S8192x256, .f32⟩
  | 88 => ⟨S1x256, .f32⟩
  | 89 => ⟨S256, .f32⟩
  | 90 => ⟨S8192x256, .f32⟩
  | 91 => ⟨S1x256, .f32⟩
  | 92 => ⟨S8192x256, .f32⟩
  | 93 => ⟨S8192x256, .f32⟩
  | 94 => ⟨S8192x256, .f32⟩
  | 95 => ⟨S1x256, .f32⟩
  | 96 => ⟨S256, .f32⟩
  | 97 => ⟨S8192x256, .f32⟩
  | 98 => ⟨S1x256, .f32⟩
  | 99 => ⟨S8192x256, .f32⟩
  | 100 => ⟨S8192x256, .f32⟩
  | 101 => ⟨S8192x256, .f32⟩
  | 102 => ⟨S1x256, .f32⟩
  | 103 => ⟨S256, .f32⟩
  | 104 => ⟨S8192x256, .f32⟩
  | 105 => ⟨S1x256, .f32⟩
  | 106 => ⟨S8192x256, .f32⟩
  | 107 => ⟨S8192x256, .f32⟩
  | 108 => ⟨S8192x256, .f32⟩
  | 109 => ⟨S1x256, .f32⟩
  | 110 => ⟨S256, .f32⟩
  | 111 => ⟨S8192x256, .f32⟩
  | 112 => ⟨S1x256, .f32⟩
  | 113 => ⟨S8192x256, .f32⟩
  | 114 => ⟨S8192x256, .f32⟩
  | 115 => ⟨S8192x256, .f32⟩
  | 116 => ⟨S1x256, .f32⟩
  | 117 => ⟨S256, .f32⟩
  | 118 => ⟨S8192x256, .f32⟩
  | 119 => ⟨S1x256, .f32⟩
  | 120 => ⟨S8192x256, .f32⟩
  | 121 => ⟨S8192x256, .f32⟩
  | 122 => ⟨S8192x256, .f32⟩
  | 123 => ⟨S1x256, .f32⟩
  | 124 => ⟨S256, .f32⟩
  | 125 => ⟨S8192x256, .f32⟩
  | 126 => ⟨S1x256, .f32⟩
  | 127 => ⟨S8192x256, .f32⟩
  | _ => ⟨S8192x512, .f32⟩

abbrev hbmTy0_1 (i : Nat) : BufTy := match i % 128 with
  | 0 => ⟨S8192x256, .f32⟩
  | 1 => ⟨S8192x256, .f32⟩
  | 2 => ⟨S1x256, .f32⟩
  | 3 => ⟨S256, .f32⟩
  | 4 => ⟨S8192x256, .f32⟩
  | 5 => ⟨S1x256, .f32⟩
  | 6 => ⟨S8192x256, .f32⟩
  | 7 => ⟨S8192x256, .f32⟩
  | 8 => ⟨S8192x256, .f32⟩
  | 9 => ⟨S1x256, .f32⟩
  | 10 => ⟨S256, .f32⟩
  | 11 => ⟨S8192x256, .f32⟩
  | 12 => ⟨S1x256, .f32⟩
  | 13 => ⟨S8192x256, .f32⟩
  | 14 => ⟨S8192x256, .f32⟩
  | 15 => ⟨S8192x256, .f32⟩
  | 16 => ⟨S1x256, .f32⟩
  | 17 => ⟨S256, .f32⟩
  | 18 => ⟨S8192x256, .f32⟩
  | 19 => ⟨S1x256, .f32⟩
  | 20 => ⟨S8192x256, .f32⟩
  | 21 => ⟨S8192x256, .f32⟩
  | 22 => ⟨S8192x256, .f32⟩
  | 23 => ⟨S1x256, .f32⟩
  | 24 => ⟨S256, .f32⟩
  | 25 => ⟨S8192x256, .f32⟩
  | 26 => ⟨S1x256, .f32⟩
  | 27 => ⟨S8192x256, .f32⟩
  | 28 => ⟨S8192x256, .f32⟩
  | 29 => ⟨S8192x256, .f32⟩
  | 30 => ⟨S1x256, .f32⟩
  | 31 => ⟨S256, .f32⟩
  | 32 => ⟨S8192x256, .f32⟩
  | 33 => ⟨S1x256, .f32⟩
  | 34 => ⟨S8192x256, .f32⟩
  | 35 => ⟨S8192x256, .f32⟩
  | 36 => ⟨S8192x256, .f32⟩
  | 37 => ⟨S1x256, .f32⟩
  | 38 => ⟨S256, .f32⟩
  | 39 => ⟨S8192x256, .f32⟩
  | 40 => ⟨S1x256, .f32⟩
  | 41 => ⟨S8192x256, .f32⟩
  | 42 => ⟨S8192x256, .f32⟩
  | 43 => ⟨S8192x256, .f32⟩
  | 44 => ⟨S1x256, .f32⟩
  | 45 => ⟨S256, .f32⟩
  | 46 => ⟨S8192x256, .f32⟩
  | 47 => ⟨S1x256, .f32⟩
  | 48 => ⟨S8192x256, .f32⟩
  | 49 => ⟨S8192x256, .f32⟩
  | 50 => ⟨S8192x256, .f32⟩
  | 51 => ⟨S1x256, .f32⟩
  | 52 => ⟨S256, .f32⟩
  | 53 => ⟨S8192x256, .f32⟩
  | 54 => ⟨S1x256, .f32⟩
  | 55 => ⟨S8192x256, .f32⟩
  | 56 => ⟨S8192x256, .f32⟩
  | 57 => ⟨S8192x256, .f32⟩
  | 58 => ⟨S1x256, .f32⟩
  | 59 => ⟨S256, .f32⟩
  | 60 => ⟨S8192x256, .f32⟩
  | 61 => ⟨S1x256, .f32⟩
  | 62 => ⟨S8192x256, .f32⟩
  | 63 => ⟨S8192x256, .f32⟩
  | 64 => ⟨S8192x256, .f32⟩
  | 65 => ⟨S1x256, .f32⟩
  | 66 => ⟨S256, .f32⟩
  | 67 => ⟨S8192x256, .f32⟩
  | 68 => ⟨S1x256, .f32⟩
  | 69 => ⟨S8192x256, .f32⟩
  | 70 => ⟨S8192x256, .f32⟩
  | 71 => ⟨S8192x256, .f32⟩
  | 72 => ⟨S1x256, .f32⟩
  | 73 => ⟨S256, .f32⟩
  | 74 => ⟨S8192x256, .f32⟩
  | 75 => ⟨S1x256, .f32⟩
  | 76 => ⟨S8192x256, .f32⟩
  | 77 => ⟨S8192x256, .f32⟩
  | 78 => ⟨S8192x256, .f32⟩
  | 79 => ⟨S1x256, .f32⟩
  | 80 => ⟨S256, .f32⟩
  | 81 => ⟨S8192x256, .f32⟩
  | 82 => ⟨S1x256, .f32⟩
  | 83 => ⟨S8192x256, .f32⟩
  | 84 => ⟨S8192x256, .f32⟩
  | 85 => ⟨S8192x256, .f32⟩
  | 86 => ⟨S1x256, .f32⟩
  | 87 => ⟨S256, .f32⟩
  | 88 => ⟨S8192x256, .f32⟩
  | 89 => ⟨S1x256, .f32⟩
  | 90 => ⟨S8192x256, .f32⟩
  | 91 => ⟨S8192x256, .f32⟩
  | 92 => ⟨S8192x256, .f32⟩
  | 93 => ⟨S1x256, .f32⟩
  | 94 => ⟨S256, .f32⟩
  | 95 => ⟨S8192x256, .f32⟩
  | 96 => ⟨S1x256, .f32⟩
  | 97 => ⟨S8192x256, .f32⟩
  | 98 => ⟨S8192x256, .f32⟩
  | 99 => ⟨S8192x256, .f32⟩
  | 100 => ⟨S1x256, .f32⟩
  | 101 => ⟨S256, .f32⟩
  | 102 => ⟨S8192x256, .f32⟩
  | 103 => ⟨S1x256, .f32⟩
  | 104 => ⟨S8192x256, .f32⟩
  | 105 => ⟨S8192x256, .f32⟩
  | 106 => ⟨S8192x256, .f32⟩
  | 107 => ⟨S1x256, .f32⟩
  | 108 => ⟨S256, .f32⟩
  | 109 => ⟨S8192x256, .f32⟩
  | 110 => ⟨S1x256, .f32⟩
  | 111 => ⟨S8192x256, .f32⟩
  | 112 => ⟨S8192x256, .f32⟩
  | 113 => ⟨S8192x256, .f32⟩
  | 114 => ⟨S_, .f32⟩
  | 115 => ⟨S8192, .f32⟩
  | 116 => ⟨S8192x1, .f32⟩
  | 117 => ⟨S_, .f32⟩
  | 118 => ⟨S8192x1, .f32⟩
  | 119 => ⟨S8192x1, .f32⟩
  | 120 => ⟨S8192x256, .f32⟩
  | 121 => ⟨S8192x256, .f32⟩
  | 122 => ⟨S8192x256, .f32⟩
  | 123 => ⟨S_, .f32⟩
  | 124 => ⟨S8192, .f32⟩
  | 125 => ⟨S8192x1, .f32⟩
  | 126 => ⟨S_, .f32⟩
  | 127 => ⟨S8192x1, .f32⟩
  | _ => ⟨S8192x512, .f32⟩

abbrev hbmTy0_2 (i : Nat) : BufTy := match i % 128 with
  | 0 => ⟨S8192x1, .f32⟩
  | 1 => ⟨S_, .f32⟩
  | 2 => ⟨S8192x1, .f32⟩
  | 3 => ⟨S8192x1, .f32⟩
  | 4 => ⟨S8192x1, .f32⟩
  | 5 => ⟨S8192x1, .f32⟩
  | 6 => ⟨S_, .f32⟩
  | 7 => ⟨S8192x1, .f32⟩
  | 8 => ⟨S8192x1, .f32⟩
  | 9 => ⟨S8192x256, .f32⟩
  | 10 => ⟨S8192x256, .f32⟩
  | 11 => ⟨S1x256, .f32⟩
  | 12 => ⟨S8192x256, .f32⟩
  | 13 => ⟨S8192x256, .f32⟩
  | 14 => ⟨S1x256, .f32⟩
  | 15 => ⟨S8192x256, .f32⟩
  | 16 => ⟨S8192x256, .f32⟩
  | 17 => ⟨S8192x256, .f32⟩
  | 18 => ⟨S8192x256, .f32⟩
  | 19 => ⟨S_, .f32⟩
  | 20 => ⟨S8192x256, .f32⟩
  | 21 => ⟨S8192x256, .f32⟩
  | 22 => ⟨S_, .f32⟩
  | 23 => ⟨S8192x256, .f32⟩
  | 24 => ⟨S8192x256, .f32⟩
  | 25 => ⟨S_, .f32⟩
  | 26 => ⟨S8192x256, .f32⟩
  | 27 => ⟨S8192x256, .f32⟩
  | 28 => ⟨S8192x256, .f32⟩
  | 29 => ⟨S8192x256, .f32⟩
  | 30 => ⟨S8192x256, .f32⟩
  | 31 => ⟨S256x256, .f32⟩
  | 32 => ⟨S256x256, .f32⟩
  | 33 => ⟨S8192x256, .f32⟩
  | 34 => ⟨S8192x256, .f32⟩
  | 35 => ⟨S8192x256, .f32⟩
  | 36 => ⟨S8192x256, .f32⟩
  | 37 => ⟨S8192x256, .f32⟩
  | 38 => ⟨S_, .f32⟩
  | 39 => ⟨S256, .f32⟩
  | 40 => ⟨S1x256, .f32⟩
  | 41 => ⟨S_, .f32⟩
  | 42 => ⟨S256, .f32⟩
  | 43 => ⟨S8192x256, .f32⟩
  | 44 => ⟨S_, .f32⟩
  | 45 => ⟨S256, .f32⟩
  | 46 => ⟨S1x256, .f32⟩
  | 47 => ⟨S8192x256, .f32⟩
  | 48 => ⟨S8192x256, .f32⟩
  | 49 => ⟨S_, .f32⟩
  | 50 => ⟨S256, .f32⟩
  | 51 => ⟨S8192x256, .f32⟩
  | 52 => ⟨S_, .f32⟩
  | 53 => ⟨S8192, .f32⟩
  | 54 => ⟨S8192x1, .f32⟩
  | 55 => ⟨S8192x256, .f32⟩
  | 56 => ⟨S8192x256, .f32⟩
  | 57 => ⟨S8192x1, .f32⟩
  | 58 => ⟨S_, .f32⟩
  | 59 => ⟨S8192x1, .f32⟩
  | 60 => ⟨S8192x1, .f32⟩
  | 61 => ⟨S_, .f32⟩
  | 62 => ⟨S8192, .f32⟩
  | 63 => ⟨S8192x256, .f32⟩
  | 64 => ⟨S8192x256, .f32⟩
  | 65 => ⟨S8192x256, .f32⟩
  | 66 => ⟨S8192x256, .f32⟩
  | 67 => ⟨S8192x256, .f32⟩
  | 68 => ⟨S8192x256, .f32⟩
  | 69 => ⟨S_, .f32⟩
  | 70 => ⟨S8192, .f32⟩
  | 71 => ⟨S8192x1, .f32⟩
  | 72 => ⟨S_, .f32⟩
  | 73 => ⟨S8192x1, .f32⟩
  | 74 => ⟨S8192x1, .f32⟩
  | 75 => ⟨S_, .f32⟩
  | 76 => ⟨S8192, .f32⟩
  | 77 => ⟨S8192x256, .f32⟩
  | 78 => ⟨S8192x256, .f32⟩
  | 79 => ⟨S8192x256, .f32⟩
  | 80 => ⟨S8192x256, .f32⟩
  | 81 => ⟨S8192x256, .f32⟩
  | 82 => ⟨S_, .f32⟩
  | 83 => ⟨S256, .f32⟩
  | 84 => ⟨S1x256, .f32⟩
  | 85 => ⟨S_, .f32⟩
  | 86 => ⟨S256, .f32⟩
  | 87 => ⟨S_, .f32⟩
  | 88 => ⟨S8222x256, .f32⟩
  | 89 => ⟨S1x256, .f32⟩
  | 90 => ⟨S_, .f32⟩
  | 91 => ⟨S31x256, .f32⟩
  | 92 => ⟨S8192x256, .f32⟩
  | 93 => ⟨S8192x256, .f32⟩
  | 94 => ⟨S8192x256, .f32⟩
  | 95 => ⟨S_, .f32⟩
  | 96 => ⟨S256, .f32⟩
  | 97 => ⟨S1x256, .f32⟩
  | 98 => ⟨S_, .f32⟩
  | 99 => ⟨S256, .f32⟩
  | 100 => ⟨S_, .f32⟩
  | 101 => ⟨S8222x256, .f32⟩
  | 102 => ⟨S8222x256, .f32⟩
  | 103 => ⟨S1x256, .f32⟩
  | 104 => ⟨S_, .f32⟩
  | 105 => ⟨S31x256, .f32⟩
  | 106 => ⟨S31x256, .f32⟩
  | 107 => ⟨S8192x256, .f32⟩
  | 108 => ⟨S8192x256, .f32⟩
  | 109 => ⟨S8192x256, .f32⟩
  | 110 => ⟨S_, .f32⟩
  | 111 => ⟨S256, .f32⟩
  | 112 => ⟨S1x256, .f32⟩
  | 113 => ⟨S_, .f32⟩
  | 114 => ⟨S256, .f32⟩
  | 115 => ⟨S_, .f32⟩
  | 116 => ⟨S8222x256, .f32⟩
  | 117 => ⟨S8222x256, .f32⟩
  | 118 => ⟨S1x256, .f32⟩
  | 119 => ⟨S_, .f32⟩
  | 120 => ⟨S31x256, .f32⟩
  | 121 => ⟨S31x256, .f32⟩
  | 122 => ⟨S8192x256, .f32⟩
  | 123 => ⟨S8192x256, .f32⟩
  | 124 => ⟨S8192x256, .f32⟩
  | 125 => ⟨S_, .f32⟩
  | 126 => ⟨S256, .f32⟩
  | 127 => ⟨S1x256, .f32⟩
  | _ => ⟨S8192x512, .f32⟩

abbrev hbmTy0_3 (i : Nat) : BufTy := match i % 128 with
  | 0 => ⟨S_, .f32⟩
  | 1 => ⟨S256, .f32⟩
  | 2 => ⟨S_, .f32⟩
  | 3 => ⟨S8222x256, .f32⟩
  | 4 => ⟨S8222x256, .f32⟩
  | 5 => ⟨S1x256, .f32⟩
  | 6 => ⟨S_, .f32⟩
  | 7 => ⟨S31x256, .f32⟩
  | 8 => ⟨S31x256, .f32⟩
  | 9 => ⟨S8192x256, .f32⟩
  | 10 => ⟨S8192x256, .f32⟩
  | 11 => ⟨S8192x256, .f32⟩
  | 12 => ⟨S_, .f32⟩
  | 13 => ⟨S256, .f32⟩
  | 14 => ⟨S1x256, .f32⟩
  | 15 => ⟨S_, .f32⟩
  | 16 => ⟨S256, .f32⟩
  | 17 => ⟨S_, .f32⟩
  | 18 => ⟨S8222x256, .f32⟩
  | 19 => ⟨S8222x256, .f32⟩
  | 20 => ⟨S1x256, .f32⟩
  | 21 => ⟨S_, .f32⟩
  | 22 => ⟨S31x256, .f32⟩
  | 23 => ⟨S31x256, .f32⟩
  | 24 => ⟨S8192x256, .f32⟩
  | 25 => ⟨S8192x256, .f32⟩
  | 26 => ⟨S8192x256, .f32⟩
  | 27 => ⟨S_, .f32⟩
  | 28 => ⟨S256, .f32⟩
  | 29 => ⟨S1x256, .f32⟩
  | 30 => ⟨S_, .f32⟩
  | 31 => ⟨S256, .f32⟩
  | 32 => ⟨S_, .f32⟩
  | 33 => ⟨S8222x256, .f32⟩
  | 34 => ⟨S8222x256, .f32⟩
  | 35 => ⟨S1x256, .f32⟩
  | 36 => ⟨S_, .f32⟩
  | 37 => ⟨S31x256, .f32⟩
  | 38 => ⟨S31x256, .f32⟩
  | 39 => ⟨S8192x256, .f32⟩
  | 40 => ⟨S8192x256, .f32⟩
  | 41 => ⟨S8192x256, .f32⟩
  | 42 => ⟨S_, .f32⟩
  | 43 => ⟨S256, .f32⟩
  | 44 => ⟨S1x256, .f32⟩
  | 45 => ⟨S_, .f32⟩
  | 46 => ⟨S256, .f32⟩
  | 47 => ⟨S_, .f32⟩
  | 48 => ⟨S8222x256, .f32⟩
  | 49 => ⟨S8222x256, .f32⟩
  | 50 => ⟨S1x256, .f32⟩
  | 51 => ⟨S_, .f32⟩
  | 52 => ⟨S31x256, .f32⟩
  | 53 => ⟨S31x256, .f32⟩
  | 54 => ⟨S8192x256, .f32⟩
  | 55 => ⟨S8192x256, .f32⟩
  | 56 => ⟨S8192x256, .f32⟩
  | 57 => ⟨S_, .f32⟩
  | 58 => ⟨S256, .f32⟩
  | 59 => ⟨S1x256, .f32⟩
  | 60 => ⟨S_, .f32⟩
  | 61 => ⟨S256, .f32⟩
  | 62 => ⟨S_, .f32⟩
  | 63 => ⟨S8222x256, .f32⟩
  | 64 => ⟨S8222x256, .f32⟩
  | 65 => ⟨S1x256, .f32⟩
  | 66 => ⟨S_, .f32⟩
  | 67 => ⟨S31x256, .f32⟩
  | 68 => ⟨S31x256, .f32⟩
  | 69 => ⟨S8192x256, .f32⟩
  | 70 => ⟨S8192x256, .f32⟩
  | 71 => ⟨S8192x256, .f32⟩
  | 72 => ⟨S_, .f32⟩
  | 73 => ⟨S256, .f32⟩
  | 74 => ⟨S1x256, .f32⟩
  | 75 => ⟨S_, .f32⟩
  | 76 => ⟨S256, .f32⟩
  | 77 => ⟨S_, .f32⟩
  | 78 => ⟨S8222x256, .f32⟩
  | 79 => ⟨S8222x256, .f32⟩
  | 80 => ⟨S1x256, .f32⟩
  | 81 => ⟨S_, .f32⟩
  | 82 => ⟨S31x256, .f32⟩
  | 83 => ⟨S31x256, .f32⟩
  | 84 => ⟨S8192x256, .f32⟩
  | 85 => ⟨S8192x256, .f32⟩
  | 86 => ⟨S8192x256, .f32⟩
  | 87 => ⟨S_, .f32⟩
  | 88 => ⟨S256, .f32⟩
  | 89 => ⟨S1x256, .f32⟩
  | 90 => ⟨S_, .f32⟩
  | 91 => ⟨S256, .f32⟩
  | 92 => ⟨S_, .f32⟩
  | 93 => ⟨S8222x256, .f32⟩
  | 94 => ⟨S8222x256, .f32⟩
  | 95 => ⟨S1x256, .f32⟩
  | 96 => ⟨S_, .f32⟩
  | 97 => ⟨S31x256, .f32⟩
  | 98 => ⟨S31x256, .f32⟩
  | 99 => ⟨S8192x256, .f32⟩
  | 100 => ⟨S8192x256, .f32⟩
  | 101 => ⟨S8192x256, .f32⟩
  | 102 => ⟨S_, .f32⟩
  | 103 => ⟨S256, .f32⟩
  | 104 => ⟨S1x256, .f32⟩
  | 105 => ⟨S_, .f32⟩
  | 106 => ⟨S256, .f32⟩
  | 107 => ⟨S_, .f32⟩
  | 108 => ⟨S8222x256, .f32⟩
  | 109 => ⟨S8222x256, .f32⟩
  | 110 => ⟨S1x256, .f32⟩
  | 111 => ⟨S_, .f32⟩
  | 112 => ⟨S31x256, .f32⟩
  | 113 => ⟨S31x256, .f32⟩
  | 114 => ⟨S8192x256, .f32⟩
  | 115 => ⟨S8192x256, .f32⟩
  | 116 => ⟨S8192x256, .f32⟩
  | 117 => ⟨S_, .f32⟩
  | 118 => ⟨S256, .f32⟩
  | 119 => ⟨S1x256, .f32⟩
  | 120 => ⟨S_, .f32⟩
  | 121 => ⟨S256, .f32⟩
  | 122 => ⟨S_, .f32⟩
  | 123 => ⟨S8222x256, .f32⟩
  | 124 => ⟨S8222x256, .f32⟩
  | 125 => ⟨S1x256, .f32⟩
  | 126 => ⟨S_, .f32⟩
  | 127 => ⟨S31x256, .f32⟩
  | _ => ⟨S8192x512, .f32⟩

abbrev hbmTy0_4 (i : Nat) : BufTy := match i % 128 with
  | 0 => ⟨S31x256, .f32⟩
  | 1 => ⟨S8192x256, .f32⟩
  | 2 => ⟨S8192x256, .f32⟩
  | 3 => ⟨S8192x256, .f32⟩
  | 4 => ⟨S_, .f32⟩
  | 5 => ⟨S256, .f32⟩
  | 6 => ⟨S1x256, .f32⟩
  | 7 => ⟨S_, .f32⟩
  | 8 => ⟨S256, .f32⟩
  | 9 => ⟨S_, .f32⟩
  | 10 => ⟨S8222x256, .f32⟩
  | 11 => ⟨S8222x256, .f32⟩
  | 12 => ⟨S1x256, .f32⟩
  | 13 => ⟨S_, .f32⟩
  | 14 => ⟨S31x256, .f32⟩
  | 15 => ⟨S31x256, .f32⟩
  | 16 => ⟨S8192x256, .f32⟩
  | 17 => ⟨S8192x256, .f32⟩
  | 18 => ⟨S8192x256, .f32⟩
  | 19 => ⟨S_, .f32⟩
  | 20 => ⟨S256, .f32⟩
  | 21 => ⟨S1x256, .f32⟩
  | 22 => ⟨S_, .f32⟩
  | 23 => ⟨S256, .f32⟩
  | 24 => ⟨S_, .f32⟩
  | 25 => ⟨S8222x256, .f32⟩
  | 26 => ⟨S8222x256, .f32⟩
  | 27 => ⟨S1x256, .f32⟩
  | 28 => ⟨S_, .f32⟩
  | 29 => ⟨S31x256, .f32⟩
  | 30 => ⟨S31x256, .f32⟩
  | 31 => ⟨S8192x256, .f32⟩
  | 32 => ⟨S8192x256, .f32⟩
  | 33 => ⟨S8192x256, .f32⟩
  | 34 => ⟨S_, .f32⟩
  | 35 => ⟨S256, .f32⟩
  | 36 => ⟨S1x256, .f32⟩
  | 37 => ⟨S_, .f32⟩
  | 38 => ⟨S256, .f32⟩
  | 39 => ⟨S_, .f32⟩
  | 40 => ⟨S8222x256, .f32⟩
  | 41 => ⟨S8222x256, .f32⟩
  | 42 => ⟨S1x256, .f32⟩
  | 43 => ⟨S_, .f32⟩
  | 44 => ⟨S31x256, .f32⟩
  | 45 => ⟨S31x256, .f32⟩
  | 46 => ⟨S8192x256, .f32⟩
  | 47 => ⟨S8192x256, .f32⟩
  | 48 => ⟨S8192x256, .f32⟩
  | 49 => ⟨S_, .f32⟩
  | 50 => ⟨S256, .f32⟩
  | 51 => ⟨S1x256, .f32⟩
  | 52 => ⟨S_, .f32⟩
  | 53 => ⟨S256, .f32⟩
  | 54 => ⟨S_, .f32⟩
  | 55 => ⟨S8222x256, .f32⟩
  | 56 => ⟨S8222x256, .f32⟩
  | 57 => ⟨S1x256, .f32⟩
  | 58 => ⟨S_, .f32⟩
  | 59 => ⟨S31x256, .f32⟩
  | 60 => ⟨S31x256, .f32⟩
  | 61 => ⟨S8192x256, .f32⟩
  | 62 => ⟨S8192x256, .f32⟩
  | 63 => ⟨S8192x256, .f32⟩
  | 64 => ⟨S_, .f32⟩
  | 65 => ⟨S256, .f32⟩
  | 66 => ⟨S1x256, .f32⟩
  | 67 => ⟨S_, .f32⟩
  | 68 => ⟨S256, .f32⟩
  | 69 => ⟨S_, .f32⟩
  | 70 => ⟨S8222x256, .f32⟩
  | 71 => ⟨S8222x256, .f32⟩
  | 72 => ⟨S1x256, .f32⟩
  | 73 => ⟨S_, .f32⟩
  | 74 => ⟨S31x256, .f32⟩
  | 75 => ⟨S31x256, .f32⟩
  | 76 => ⟨S8192x256, .f32⟩
  | 77 => ⟨S8192x256, .f32⟩
  | 78 => ⟨S8192x256, .f32⟩
  | 79 => ⟨S_, .f32⟩
  | 80 => ⟨S256, .f32⟩
  | 81 => ⟨S1x256, .f32⟩
  | 82 => ⟨S_, .f32⟩
  | 83 => ⟨S256, .f32⟩
  | 84 => ⟨S_, .f32⟩
  | 85 => ⟨S8222x256, .f32⟩
  | 86 => ⟨S8222x256, .f32⟩
  | 87 => ⟨S1x256, .f32⟩
  | 88 => ⟨S_, .f32⟩
  | 89 => ⟨S31x256, .f32⟩
  | 90 => ⟨S31x256, .f32⟩
  | 91 => ⟨S8192x256, .f32⟩
  | 92 => ⟨S8192x256, .f32⟩
  | 93 => ⟨S8192x256, .f32⟩
  | 94 => ⟨S_, .f32⟩
  | 95 => ⟨S256, .f32⟩
  | 96 => ⟨S1x256, .f32⟩
  | 97 => ⟨S_, .f32⟩
  | 98 => ⟨S256, .f32⟩
  | 99 => ⟨S_, .f32⟩
  | 100 => ⟨S8222x256, .f32⟩
  | 101 => ⟨S8222x256, .f32⟩
  | 102 => ⟨S1x256, .f32⟩
  | 103 => ⟨S_, .f32⟩
  | 104 => ⟨S31x256, .f32⟩
  | 105 => ⟨S31x256, .f32⟩
  | 106 => ⟨S8192x256, .f32⟩
  | 107 => ⟨S8192x256, .f32⟩
  | 108 => ⟨S8192x256, .f32⟩
  | 109 => ⟨S_, .f32⟩
  | 110 => ⟨S256, .f32⟩
  | 111 => ⟨S1x256, .f32⟩
  | 112 => ⟨S_, .f32⟩
  | 113 => ⟨S256, .f32⟩
  | 114 => ⟨S_, .f32⟩
  | 115 => ⟨S8222x256, .f32⟩
  | 116 => ⟨S8222x256, .f32⟩
  | 117 => ⟨S1x256, .f32⟩
  | 118 => ⟨S_, .f32⟩
  | 119 => ⟨S31x256, .f32⟩
  | 120 => ⟨S31x256, .f32⟩
  | 121 => ⟨S8192x256, .f32⟩
  | 122 => ⟨S8192x256, .f32⟩
  | 123 => ⟨S8192x256, .f32⟩
  | 124 => ⟨S_, .f32⟩
  | 125 => ⟨S256, .f32⟩
  | 126 => ⟨S1x256, .f32⟩
  | 127 => ⟨S_, .f32⟩
  | _ => ⟨S8192x512, .f32⟩

abbrev hbmTy0_5 (i : Nat) : BufTy := match i % 128 with
  | 0 => ⟨S256, .f32⟩
  | 1 => ⟨S_, .f32⟩
  | 2 => ⟨S8222x256, .f32⟩
  | 3 => ⟨S8222x256, .f32⟩
  | 4 => ⟨S1x256, .f32⟩
  | 5 => ⟨S_, .f32⟩
  | 6 => ⟨S31x256, .f32⟩
  | 7 => ⟨S31x256, .f32⟩
  | 8 => ⟨S8192x256, .f32⟩
  | 9 => ⟨S8192x256, .f32⟩
  | 10 => ⟨S8192x256, .f32⟩
  | 11 => ⟨S_, .f32⟩
  | 12 => ⟨S256, .f32⟩
  | 13 => ⟨S1x256, .f32⟩
  | 14 => ⟨S_, .f32⟩
  | 15 => ⟨S256, .f32⟩
  | 16 => ⟨S_, .f32⟩
  | 17 => ⟨S8222x256, .f32⟩
  | 18 => ⟨S8222x256, .f32⟩
  | 19 => ⟨S1x256, .f32⟩
  | 20 => ⟨S_, .f32⟩
  | 21 => ⟨S31x256, .f32⟩
  | 22 => ⟨S31x256, .f32⟩
  | 23 => ⟨S8192x256, .f32⟩
  | 24 => ⟨S8192x256, .f32⟩
  | 25 => ⟨S8192x256, .f32⟩
  | 26 => ⟨S_, .f32⟩
  | 27 => ⟨S256, .f32⟩
  | 28 => ⟨S1x256, .f32⟩
  | 29 => ⟨S_, .f32⟩
  | 30 => ⟨S256, .f32⟩
  | 31 => ⟨S_, .f32⟩
  | 32 => ⟨S8222x256, .f32⟩
  | 33 => ⟨S8222x256, .f32⟩
  | 34 => ⟨S1x256, .f32⟩
  | 35 => ⟨S_, .f32⟩
  | 36 => ⟨S31x256, .f32⟩
  | 37 => ⟨S31x256, .f32⟩
  | 38 => ⟨S8192x256, .f32⟩
  | 39 => ⟨S8192x256, .f32⟩
  | 40 => ⟨S8192x256, .f32⟩
  | 41 => ⟨S_, .f32⟩
  | 42 => ⟨S256, .f32⟩
  | 43 => ⟨S1x256, .f32⟩
  | 44 => ⟨S_, .f32⟩
  | 45 => ⟨S256, .f32⟩
  | 46 => ⟨S_, .f32⟩
  | 47 => ⟨S8222x256, .f32⟩
  | 48 => ⟨S8222x256, .f32⟩
  | 49 => ⟨S1x256, .f32⟩
  | 50 => ⟨S_, .f32⟩
  | 51 => ⟨S31x256, .f32⟩
  | 52 => ⟨S31x256, .f32⟩
  | 53 => ⟨S8192x256, .f32⟩
  | 54 => ⟨S8192x256, .f32⟩
  | 55 => ⟨S8192x256, .f32⟩
  | 56 => ⟨S_, .f32⟩
  | 57 => ⟨S256, .f32⟩
  | 58 => ⟨S1x256, .f32⟩
  | 59 => ⟨S_, .f32⟩
  | 60 => ⟨S256, .f32⟩
  | 61 => ⟨S_, .f32⟩
  | 62 => ⟨S8222x256, .f32⟩
  | 63 => ⟨S8222x256, .f32⟩
  | 64 => ⟨S1x256, .f32⟩
  | 65 => ⟨S_, .f32⟩
  | 66 => ⟨S31x256, .f32⟩
  | 67 => ⟨S31x256, .f32⟩
  | 68 => ⟨S8192x256, .f32⟩
  | 69 => ⟨S8192x256, .f32⟩
  | 70 => ⟨S8192x256, .f32⟩
  | 71 => ⟨S_, .f32⟩
  | 72 => ⟨S256, .f32⟩
  | 73 => ⟨S1x256, .f32⟩
  | 74 => ⟨S_, .f32⟩
  | 75 => ⟨S256, .f32⟩
  | 76 => ⟨S_, .f32⟩
  | 77 => ⟨S8222x256, .f32⟩
  | 78 => ⟨S8222x256, .f32⟩
  | 79 => ⟨S1x256, .f32⟩
  | 80 => ⟨S_, .f32⟩
  | 81 => ⟨S31x256, .f32⟩
  | 82 => ⟨S31x256, .f32⟩
  | 83 => ⟨S8192x256, .f32⟩
  | 84 => ⟨S8192x256, .f32⟩
  | 85 => ⟨S8192x256, .f32⟩
  | 86 => ⟨S_, .f32⟩
  | 87 => ⟨S256, .f32⟩
  | 88 => ⟨S1x256, .f32⟩
  | 89 => ⟨S_, .f32⟩
  | 90 => ⟨S256, .f32⟩
  | 91 => ⟨S_, .f32⟩
  | 92 => ⟨S8222x256, .f32⟩
  | 93 => ⟨S8222x256, .f32⟩
  | 94 => ⟨S1x256, .f32⟩
  | 95 => ⟨S_, .f32⟩
  | 96 => ⟨S31x256, .f32⟩
  | 97 => ⟨S31x256, .f32⟩
  | 98 => ⟨S8192x256, .f32⟩
  | 99 => ⟨S8192x256, .f32⟩
  | 100 => ⟨S8192x256, .f32⟩
  | 101 => ⟨S_, .f32⟩
  | 102 => ⟨S256, .f32⟩
  | 103 => ⟨S1x256, .f32⟩
  | 104 => ⟨S_, .f32⟩
  | 105 => ⟨S256, .f32⟩
  | 106 => ⟨S_, .f32⟩
  | 107 => ⟨S8222x256, .f32⟩
  | 108 => ⟨S8222x256, .f32⟩
  | 109 => ⟨S1x256, .f32⟩
  | 110 => ⟨S_, .f32⟩
  | 111 => ⟨S31x256, .f32⟩
  | 112 => ⟨S31x256, .f32⟩
  | 113 => ⟨S8192x256, .f32⟩
  | 114 => ⟨S8192x256, .f32⟩
  | 115 => ⟨S8192x256, .f32⟩
  | 116 => ⟨S_, .f32⟩
  | 117 => ⟨S256, .f32⟩
  | 118 => ⟨S1x256, .f32⟩
  | 119 => ⟨S_, .f32⟩
  | 120 => ⟨S256, .f32⟩
  | 121 => ⟨S_, .f32⟩
  | 122 => ⟨S8222x256, .f32⟩
  | 123 => ⟨S8222x256, .f32⟩
  | 124 => ⟨S1x256, .f32⟩
  | 125 => ⟨S_, .f32⟩
  | 126 => ⟨S31x256, .f32⟩
  | 127 => ⟨S31x256, .f32⟩
  | _ => ⟨S8192x512, .f32⟩

abbrev hbmTy0_6 (i : Nat) : BufTy := match i % 128 with
  | 0 => ⟨S8192x256, .f32⟩
  | 1 => ⟨S8192x256, .f32⟩
  | 2 => ⟨S8192x256, .f32⟩
  | 3 => ⟨S_, .f32⟩
  | 4 => ⟨S256, .f32⟩
  | 5 => ⟨S1x256, .f32⟩
  | 6 => ⟨S_, .f32⟩
  | 7 => ⟨S256, .f32⟩
  | 8 => ⟨S_, .f32⟩
  | 9 => ⟨S8222x256, .f32⟩
  | 10 => ⟨S8222x256, .f32⟩
  | 11 => ⟨S1x256, .f32⟩
  | 12 => ⟨S_, .f32⟩
  | 13 => ⟨S31x256, .f32⟩
  | 14 => ⟨S31x256, .f32⟩
  | 15 => ⟨S8192x256, .f32⟩
  | 16 => ⟨S8192x256, .f32⟩
  | 17 => ⟨S8192x256, .f32⟩
  | 18 => ⟨S_, .f32⟩
  | 19 => ⟨S256, .f32⟩
  | 20 => ⟨S1x256, .f32⟩
  | 21 => ⟨S_, .f32⟩
  | 22 => ⟨S256, .f32⟩
  | 23 => ⟨S_, .f32⟩
  | 24 => ⟨S8222x256, .f32⟩
  | 25 => ⟨S8222x256, .f32⟩
  | 26 => ⟨S1x256, .f32⟩
  | 27 => ⟨S_, .f32⟩
  | 28 => ⟨S31x256, .f32⟩
  | 29 => ⟨S31x256, .f32⟩
  | 30 => ⟨S30x256, .f32⟩
  | 31 => ⟨S8192x256, .f32⟩
  | 32 => ⟨S8192x256, .f32⟩
  | 33 => ⟨S8192x256, .f32⟩
  | 34 => ⟨S8192x256, .f32⟩
  | 35 => ⟨S8192x512, .f32⟩
  | 36 => ⟨S8192x512, .bf16⟩
  | 37 => ⟨S_, .i32⟩
  | 38 => ⟨S_, .f32⟩
  | 39 => ⟨S32x256, .f32⟩
  | 40 => ⟨S1x256, .f32⟩
  | 41 => ⟨S1x256, .f32⟩
  | _ => ⟨S8192x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_cst_4 : Ref sig .tc := ⟨.hbm, 242, rfl⟩
abbrev main_v231 : Ref sig .tc := ⟨.hbm, 243, rfl⟩
abbrev main_v232 : Ref sig .tc := ⟨.hbm, 244, rfl⟩
abbrev main_cst_5 : Ref sig .tc := ⟨.hbm, 245, rfl⟩
abbrev main_v233 : Ref sig .tc := ⟨.hbm, 246, rfl⟩
abbrev main_v234 : Ref sig .tc := ⟨.hbm, 247, rfl⟩
abbrev main_v235 : Ref sig .tc := ⟨.hbm, 248, rfl⟩
abbrev main_v236 : Ref sig .tc := ⟨.hbm, 249, rfl⟩
abbrev main_v237 : Ref sig .tc := ⟨.hbm, 250, rfl⟩
abbrev main_cst_6 : Ref sig .tc := ⟨.hbm, 251, rfl⟩
abbrev main_v238 : Ref sig .tc := ⟨.hbm, 252, rfl⟩
abbrev main_v239 : Ref sig .tc := ⟨.hbm, 253, rfl⟩
abbrev main_cst_7 : Ref sig .tc := ⟨.hbm, 254, rfl⟩
abbrev main_v240 : Ref sig .tc := ⟨.hbm, 255, rfl⟩
abbrev main_v241 : Ref sig .tc := ⟨.hbm, 256, rfl⟩
abbrev main_cst_8 : Ref sig .tc := ⟨.hbm, 257, rfl⟩
abbrev main_v242 : Ref sig .tc := ⟨.hbm, 258, rfl⟩
abbrev main_v243 : Ref sig .tc := ⟨.hbm, 259, rfl⟩
abbrev main_v244 : Ref sig .tc := ⟨.hbm, 260, rfl⟩
abbrev main_v245 : Ref sig .tc := ⟨.hbm, 261, rfl⟩
abbrev main_cst_9 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_v251 : Ref sig .tc := ⟨.hbm, 268, rfl⟩
abbrev main_v252 : Ref sig .tc := ⟨.hbm, 269, rfl⟩
abbrev main_v253 : Ref sig .tc := ⟨.hbm, 270, rfl⟩
abbrev main_v254 : Ref sig .tc := ⟨.hbm, 271, rfl⟩
abbrev main_v255 : Ref sig .tc := ⟨.hbm, 272, rfl⟩
abbrev main_call0_v0 : Ref sig .tc := ⟨.hbm, 273, rfl⟩
abbrev main_call0_v1 : Ref sig .tc := ⟨.hbm, 274, rfl⟩
abbrev main_call0_cst : Ref sig .tc := ⟨.hbm, 275, rfl⟩
abbrev main_call0_v2 : Ref sig .tc := ⟨.hbm, 276, rfl⟩
abbrev main_call0_v3 : Ref sig .tc := ⟨.hbm, 277, rfl⟩
abbrev main_call0_cst_0 : Ref sig .tc := ⟨.hbm, 278, rfl⟩
abbrev main_call0_v4 : Ref sig .tc := ⟨.hbm, 279, rfl⟩
abbrev main_v256_2 : Ref sig .tc := ⟨.hbm, 280, rfl⟩
abbrev main_call0_cst_1 : Ref sig .tc := ⟨.hbm, 281, rfl⟩
abbrev main_call0_v6 : Ref sig .tc := ⟨.hbm, 282, rfl⟩
abbrev main_call0_v7 : Ref sig .tc := ⟨.hbm, 283, rfl⟩
abbrev main_v256_1 : Ref sig .tc := ⟨.hbm, 284, rfl⟩
abbrev main_v256_0 : Ref sig .tc := ⟨.hbm, 285, rfl⟩
abbrev main_v257 : Ref sig .tc := ⟨.hbm, 286, rfl⟩
abbrev main_v258 : Ref sig .tc := ⟨.hbm, 287, rfl⟩
abbrev main_v259 : Ref sig .tc := ⟨.hbm, 288, rfl⟩
abbrev main_v260 : Ref sig .tc := ⟨.hbm, 289, rfl⟩
abbrev main_call1_v0 : Ref sig .tc := ⟨.hbm, 290, rfl⟩
abbrev main_call1_v1 : Ref sig .tc := ⟨.hbm, 291, rfl⟩
abbrev main_call1_v2 : Ref sig .tc := ⟨.hbm, 292, rfl⟩
abbrev main_v261 : Ref sig .tc := ⟨.hbm, 293, rfl⟩
abbrev main_cst_10 : Ref sig .tc := ⟨.hbm, 294, rfl⟩
abbrev main_v262 : Ref sig .tc := ⟨.hbm, 295, rfl⟩
abbrev main_v263 : Ref sig .tc := ⟨.hbm, 296, rfl⟩
abbrev main_cst_11 : Ref sig .tc := ⟨.hbm, 297, rfl⟩
abbrev main_v264 : Ref sig .tc := ⟨.hbm, 298, rfl⟩
abbrev main_v265 : Ref sig .tc := ⟨.hbm, 299, rfl⟩
abbrev main_cst_12 : Ref sig .tc := ⟨.hbm, 300, rfl⟩
abbrev main_v266 : Ref sig .tc := ⟨.hbm, 301, rfl⟩
abbrev main_v267 : Ref sig .tc := ⟨.hbm, 302, rfl⟩
abbrev main_v268 : Ref sig .tc := ⟨.hbm, 303, rfl⟩
abbrev main_v269 : Ref sig .tc := ⟨.hbm, 304, rfl⟩
abbrev main_cst_13 : Ref sig .tc := ⟨.hbm, 305, rfl⟩
abbrev main_v270 : Ref sig .tc := ⟨.hbm, 306, rfl⟩
abbrev main_v271 : Ref sig .tc := ⟨.hbm, 307, rfl⟩
abbrev main_cst_14 : Ref sig .tc := ⟨.hbm, 308, rfl⟩
abbrev main_v272 : Ref sig .tc := ⟨.hbm, 309, rfl⟩
abbrev main_v273 : Ref sig .tc := ⟨.hbm, 310, rfl⟩
abbrev main_v274 : Ref sig .tc := ⟨.hbm, 311, rfl⟩
abbrev main_v275 : Ref sig .tc := ⟨.hbm, 312, rfl⟩
abbrev main_v276 : Ref sig .tc := ⟨.hbm, 313, rfl⟩
abbrev main_cst_15 : Ref sig .tc := ⟨.hbm, 314, rfl⟩
abbrev main_v277 : Ref sig .tc := ⟨.hbm, 315, rfl⟩
abbrev main_v278 : Ref sig .tc := ⟨.hbm, 316, rfl⟩
abbrev main_cst_16 : Ref sig .tc := ⟨.hbm, 317, rfl⟩
abbrev main_v279 : Ref sig .tc := ⟨.hbm, 318, rfl⟩
abbrev main_v280 : Ref sig .tc := ⟨.hbm, 319, rfl⟩
abbrev main_v281 : Ref sig .tc := ⟨.hbm, 320, rfl⟩
abbrev main_v282 : Ref sig .tc := ⟨.hbm, 321, rfl⟩
abbrev main_v283 : Ref sig .tc := ⟨.hbm, 322, rfl⟩
abbrev main_v284 : Ref sig .tc := ⟨.hbm, 323, rfl⟩
abbrev main_v285 : Ref sig .tc := ⟨.hbm, 324, rfl⟩
abbrev main_cst_17 : Ref sig .tc := ⟨.hbm, 325, rfl⟩
abbrev main_v286 : Ref sig .tc := ⟨.hbm, 326, rfl⟩
abbrev main_v287 : Ref sig .tc := ⟨.hbm, 327, rfl⟩
abbrev main_cst_18 : Ref sig .tc := ⟨.hbm, 328, rfl⟩
abbrev main_v288 : Ref sig .tc := ⟨.hbm, 329, rfl⟩
abbrev main_v289 : Ref sig .tc := ⟨.hbm, 330, rfl⟩
abbrev main_cst_19 : Ref sig .tc := ⟨.hbm, 331, rfl⟩
abbrev main_v290 : Ref sig .tc := ⟨.hbm, 332, rfl⟩
abbrev main_v291 : Ref sig .tc := ⟨.hbm, 333, rfl⟩
abbrev main_v292 : Ref sig .tc := ⟨.hbm, 334, rfl⟩
abbrev main_v293 : Ref sig .tc := ⟨.hbm, 335, rfl⟩
abbrev main_v294 : Ref sig .tc := ⟨.hbm, 336, rfl⟩
abbrev main_v295 : Ref sig .tc := ⟨.hbm, 337, rfl⟩
abbrev main_cst_20 : Ref sig .tc := ⟨.hbm, 338, rfl⟩
abbrev main_v296 : Ref sig .tc := ⟨.hbm, 339, rfl⟩
abbrev main_v297 : Ref sig .tc := ⟨.hbm, 340, rfl⟩
abbrev main_cst_21 : Ref sig .tc := ⟨.hbm, 341, rfl⟩
abbrev main_v298 : Ref sig .tc := ⟨.hbm, 342, rfl⟩
abbrev main_cst_22 : Ref sig .tc := ⟨.hbm, 343, rfl⟩
abbrev main_v299 : Ref sig .tc := ⟨.hbm, 344, rfl⟩
abbrev main_v300 : Ref sig .tc := ⟨.hbm, 345, rfl⟩
abbrev main_cst_23 : Ref sig .tc := ⟨.hbm, 346, rfl⟩
abbrev main_v301 : Ref sig .tc := ⟨.hbm, 347, rfl⟩
abbrev main_v302 : Ref sig .tc := ⟨.hbm, 348, rfl⟩
abbrev main_v303 : Ref sig .tc := ⟨.hbm, 349, rfl⟩
abbrev main_v304 : Ref sig .tc := ⟨.hbm, 350, rfl⟩
abbrev main_cst_24 : Ref sig .tc := ⟨.hbm, 351, rfl⟩
abbrev main_v305 : Ref sig .tc := ⟨.hbm, 352, rfl⟩
abbrev main_v306 : Ref sig .tc := ⟨.hbm, 353, rfl⟩
abbrev main_cst_25 : Ref sig .tc := ⟨.hbm, 354, rfl⟩
abbrev main_v307 : Ref sig .tc := ⟨.hbm, 355, rfl⟩
abbrev main_cst_26 : Ref sig .tc := ⟨.hbm, 356, rfl⟩
abbrev main_v308 : Ref sig .tc := ⟨.hbm, 357, rfl⟩
abbrev main_v309 : Ref sig .tc := ⟨.hbm, 358, rfl⟩
abbrev main_v310 : Ref sig .tc := ⟨.hbm, 359, rfl⟩
abbrev main_cst_27 : Ref sig .tc := ⟨.hbm, 360, rfl⟩
abbrev main_v311 : Ref sig .tc := ⟨.hbm, 361, rfl⟩
abbrev main_v312 : Ref sig .tc := ⟨.hbm, 362, rfl⟩
abbrev main_v313 : Ref sig .tc := ⟨.hbm, 363, rfl⟩
abbrev main_v314 : Ref sig .tc := ⟨.hbm, 364, rfl⟩
abbrev main_v315 : Ref sig .tc := ⟨.hbm, 365, rfl⟩
abbrev main_cst_28 : Ref sig .tc := ⟨.hbm, 366, rfl⟩
abbrev main_v316 : Ref sig .tc := ⟨.hbm, 367, rfl⟩
abbrev main_v317 : Ref sig .tc := ⟨.hbm, 368, rfl⟩
abbrev main_cst_29 : Ref sig .tc := ⟨.hbm, 369, rfl⟩
abbrev main_v318 : Ref sig .tc := ⟨.hbm, 370, rfl⟩
abbrev main_cst_30 : Ref sig .tc := ⟨.hbm, 371, rfl⟩
abbrev main_v319 : Ref sig .tc := ⟨.hbm, 372, rfl⟩
abbrev main_v320 : Ref sig .tc := ⟨.hbm, 373, rfl⟩
abbrev main_v321 : Ref sig .tc := ⟨.hbm, 374, rfl⟩
abbrev main_cst_31 : Ref sig .tc := ⟨.hbm, 375, rfl⟩
abbrev main_v322 : Ref sig .tc := ⟨.hbm, 376, rfl⟩
abbrev main_v323 : Ref sig .tc := ⟨.hbm, 377, rfl⟩
abbrev main_v324 : Ref sig .tc := ⟨.hbm, 378, rfl⟩
abbrev main_v325 : Ref sig .tc := ⟨.hbm, 379, rfl⟩
abbrev main_v326 : Ref sig .tc := ⟨.hbm, 380, rfl⟩
abbrev main_cst_32 : Ref sig .tc := ⟨.hbm, 381, rfl⟩
abbrev main_v327 : Ref sig .tc := ⟨.hbm, 382, rfl⟩
abbrev main_v328 : Ref sig .tc := ⟨.hbm, 383, rfl⟩
abbrev main_cst_33 : Ref sig .tc := ⟨.hbm, 384, rfl⟩
abbrev main_v329 : Ref sig .tc := ⟨.hbm, 385, rfl⟩
abbrev main_cst_34 : Ref sig .tc := ⟨.hbm, 386, rfl⟩
abbrev main_v330 : Ref sig .tc := ⟨.hbm, 387, rfl⟩
abbrev main_v331 : Ref sig .tc := ⟨.hbm, 388, rfl⟩
abbrev main_v332 : Ref sig .tc := ⟨.hbm, 389, rfl⟩
abbrev main_cst_35 : Ref sig .tc := ⟨.hbm, 390, rfl⟩
abbrev main_v333 : Ref sig .tc := ⟨.hbm, 391, rfl⟩
abbrev main_v334 : Ref sig .tc := ⟨.hbm, 392, rfl⟩
abbrev main_v335 : Ref sig .tc := ⟨.hbm, 393, rfl⟩
abbrev main_v336 : Ref sig .tc := ⟨.hbm, 394, rfl⟩
abbrev main_v337 : Ref sig .tc := ⟨.hbm, 395, rfl⟩
abbrev main_cst_36 : Ref sig .tc := ⟨.hbm, 396, rfl⟩
abbrev main_v338 : Ref sig .tc := ⟨.hbm, 397, rfl⟩
abbrev main_v339 : Ref sig .tc := ⟨.hbm, 398, rfl⟩
abbrev main_cst_37 : Ref sig .tc := ⟨.hbm, 399, rfl⟩
abbrev main_v340 : Ref sig .tc := ⟨.hbm, 400, rfl⟩
abbrev main_cst_38 : Ref sig .tc := ⟨.hbm, 401, rfl⟩
abbrev main_v341 : Ref sig .tc := ⟨.hbm, 402, rfl⟩
abbrev main_v342 : Ref sig .tc := ⟨.hbm, 403, rfl⟩
abbrev main_v343 : Ref sig .tc := ⟨.hbm, 404, rfl⟩
abbrev main_cst_39 : Ref sig .tc := ⟨.hbm, 405, rfl⟩
abbrev main_v344 : Ref sig .tc := ⟨.hbm, 406, rfl⟩
abbrev main_v345 : Ref sig .tc := ⟨.hbm, 407, rfl⟩
abbrev main_v346 : Ref sig .tc := ⟨.hbm, 408, rfl⟩
abbrev main_v347 : Ref sig .tc := ⟨.hbm, 409, rfl⟩
abbrev main_v348 : Ref sig .tc := ⟨.hbm, 410, rfl⟩
abbrev main_cst_40 : Ref sig .tc := ⟨.hbm, 411, rfl⟩
abbrev main_v349 : Ref sig .tc := ⟨.hbm, 412, rfl⟩
abbrev main_v350 : Ref sig .tc := ⟨.hbm, 413, rfl⟩
abbrev main_cst_41 : Ref sig .tc := ⟨.hbm, 414, rfl⟩
abbrev main_v351 : Ref sig .tc := ⟨.hbm, 415, rfl⟩
abbrev main_cst_42 : Ref sig .tc := ⟨.hbm, 416, rfl⟩
abbrev main_v352 : Ref sig .tc := ⟨.hbm, 417, rfl⟩
abbrev main_v353 : Ref sig .tc := ⟨.hbm, 418, rfl⟩
abbrev main_v354 : Ref sig .tc := ⟨.hbm, 419, rfl⟩
abbrev main_cst_43 : Ref sig .tc := ⟨.hbm, 420, rfl⟩
abbrev main_v355 : Ref sig .tc := ⟨.hbm, 421, rfl⟩
abbrev main_v356 : Ref sig .tc := ⟨.hbm, 422, rfl⟩
abbrev main_v357 : Ref sig .tc := ⟨.hbm, 423, rfl⟩
abbrev main_v358 : Ref sig .tc := ⟨.hbm, 424, rfl⟩
abbrev main_v359 : Ref sig .tc := ⟨.hbm, 425, rfl⟩
abbrev main_cst_44 : Ref sig .tc := ⟨.hbm, 426, rfl⟩
abbrev main_v360 : Ref sig .tc := ⟨.hbm, 427, rfl⟩
abbrev main_v361 : Ref sig .tc := ⟨.hbm, 428, rfl⟩
abbrev main_cst_45 : Ref sig .tc := ⟨.hbm, 429, rfl⟩
abbrev main_v362 : Ref sig .tc := ⟨.hbm, 430, rfl⟩
abbrev main_cst_46 : Ref sig .tc := ⟨.hbm, 431, rfl⟩
abbrev main_v363 : Ref sig .tc := ⟨.hbm, 432, rfl⟩
abbrev main_v364 : Ref sig .tc := ⟨.hbm, 433, rfl⟩
abbrev main_v365 : Ref sig .tc := ⟨.hbm, 434, rfl⟩
abbrev main_cst_47 : Ref sig .tc := ⟨.hbm, 435, rfl⟩
abbrev main_v366 : Ref sig .tc := ⟨.hbm, 436, rfl⟩
abbrev main_v367 : Ref sig .tc := ⟨.hbm, 437, rfl⟩
abbrev main_v368 : Ref sig .tc := ⟨.hbm, 438, rfl⟩
abbrev main_v369 : Ref sig .tc := ⟨.hbm, 439, rfl⟩
abbrev main_v370 : Ref sig .tc := ⟨.hbm, 440, rfl⟩
abbrev main_cst_48 : Ref sig .tc := ⟨.hbm, 441, rfl⟩
abbrev main_v371 : Ref sig .tc := ⟨.hbm, 442, rfl⟩
abbrev main_v372 : Ref sig .tc := ⟨.hbm, 443, rfl⟩
abbrev main_cst_49 : Ref sig .tc := ⟨.hbm, 444, rfl⟩
abbrev main_v373 : Ref sig .tc := ⟨.hbm, 445, rfl⟩
abbrev main_cst_50 : Ref sig .tc := ⟨.hbm, 446, rfl⟩
abbrev main_v374 : Ref sig .tc := ⟨.hbm, 447, rfl⟩
abbrev main_v375 : Ref sig .tc := ⟨.hbm, 448, rfl⟩
abbrev main_v376 : Ref sig .tc := ⟨.hbm, 449, rfl⟩
abbrev main_cst_51 : Ref sig .tc := ⟨.hbm, 450, rfl⟩
abbrev main_v377 : Ref sig .tc := ⟨.hbm, 451, rfl⟩
abbrev main_v378 : Ref sig .tc := ⟨.hbm, 452, rfl⟩
abbrev main_v379 : Ref sig .tc := ⟨.hbm, 453, rfl⟩
abbrev main_v380 : Ref sig .tc := ⟨.hbm, 454, rfl⟩
abbrev main_v381 : Ref sig .tc := ⟨.hbm, 455, rfl⟩
abbrev main_cst_52 : Ref sig .tc := ⟨.hbm, 456, rfl⟩
abbrev main_v382 : Ref sig .tc := ⟨.hbm, 457, rfl⟩
abbrev main_v383 : Ref sig .tc := ⟨.hbm, 458, rfl⟩
abbrev main_cst_53 : Ref sig .tc := ⟨.hbm, 459, rfl⟩
abbrev main_v384 : Ref sig .tc := ⟨.hbm, 460, rfl⟩
abbrev main_cst_54 : Ref sig .tc := ⟨.hbm, 461, rfl⟩
abbrev main_v385 : Ref sig .tc := ⟨.hbm, 462, rfl⟩
abbrev main_v386 : Ref sig .tc := ⟨.hbm, 463, rfl⟩
abbrev main_v387 : Ref sig .tc := ⟨.hbm, 464, rfl⟩
abbrev main_cst_55 : Ref sig .tc := ⟨.hbm, 465, rfl⟩
abbrev main_v388 : Ref sig .tc := ⟨.hbm, 466, rfl⟩
abbrev main_v389 : Ref sig .tc := ⟨.hbm, 467, rfl⟩
abbrev main_v390 : Ref sig .tc := ⟨.hbm, 468, rfl⟩
abbrev main_v391 : Ref sig .tc := ⟨.hbm, 469, rfl⟩
abbrev main_v392 : Ref sig .tc := ⟨.hbm, 470, rfl⟩
abbrev main_cst_56 : Ref sig .tc := ⟨.hbm, 471, rfl⟩
abbrev main_v393 : Ref sig .tc := ⟨.hbm, 472, rfl⟩
abbrev main_v394 : Ref sig .tc := ⟨.hbm, 473, rfl⟩
abbrev main_cst_57 : Ref sig .tc := ⟨.hbm, 474, rfl⟩
abbrev main_v395 : Ref sig .tc := ⟨.hbm, 475, rfl⟩
abbrev main_cst_58 : Ref sig .tc := ⟨.hbm, 476, rfl⟩
abbrev main_v396 : Ref sig .tc := ⟨.hbm, 477, rfl⟩
abbrev main_v397 : Ref sig .tc := ⟨.hbm, 478, rfl⟩
abbrev main_v398 : Ref sig .tc := ⟨.hbm, 479, rfl⟩
abbrev main_cst_59 : Ref sig .tc := ⟨.hbm, 480, rfl⟩
abbrev main_v399 : Ref sig .tc := ⟨.hbm, 481, rfl⟩
abbrev main_v400 : Ref sig .tc := ⟨.hbm, 482, rfl⟩
abbrev main_v401 : Ref sig .tc := ⟨.hbm, 483, rfl⟩
abbrev main_v402 : Ref sig .tc := ⟨.hbm, 484, rfl⟩
abbrev main_v403 : Ref sig .tc := ⟨.hbm, 485, rfl⟩
abbrev main_cst_60 : Ref sig .tc := ⟨.hbm, 486, rfl⟩
abbrev main_v404 : Ref sig .tc := ⟨.hbm, 487, rfl⟩
abbrev main_v405 : Ref sig .tc := ⟨.hbm, 488, rfl⟩
abbrev main_cst_61 : Ref sig .tc := ⟨.hbm, 489, rfl⟩
abbrev main_v406 : Ref sig .tc := ⟨.hbm, 490, rfl⟩
abbrev main_cst_62 : Ref sig .tc := ⟨.hbm, 491, rfl⟩
abbrev main_v407 : Ref sig .tc := ⟨.hbm, 492, rfl⟩
abbrev main_v408 : Ref sig .tc := ⟨.hbm, 493, rfl⟩
abbrev main_v409 : Ref sig .tc := ⟨.hbm, 494, rfl⟩
abbrev main_cst_63 : Ref sig .tc := ⟨.hbm, 495, rfl⟩
abbrev main_v410 : Ref sig .tc := ⟨.hbm, 496, rfl⟩
abbrev main_v411 : Ref sig .tc := ⟨.hbm, 497, rfl⟩
abbrev main_v412 : Ref sig .tc := ⟨.hbm, 498, rfl⟩
abbrev main_v413 : Ref sig .tc := ⟨.hbm, 499, rfl⟩
abbrev main_v414 : Ref sig .tc := ⟨.hbm, 500, rfl⟩
abbrev main_cst_64 : Ref sig .tc := ⟨.hbm, 501, rfl⟩
abbrev main_v415 : Ref sig .tc := ⟨.hbm, 502, rfl⟩
abbrev main_v416 : Ref sig .tc := ⟨.hbm, 503, rfl⟩
abbrev main_cst_65 : Ref sig .tc := ⟨.hbm, 504, rfl⟩
abbrev main_v417 : Ref sig .tc := ⟨.hbm, 505, rfl⟩
abbrev main_cst_66 : Ref sig .tc := ⟨.hbm, 506, rfl⟩
abbrev main_v418 : Ref sig .tc := ⟨.hbm, 507, rfl⟩
abbrev main_v419 : Ref sig .tc := ⟨.hbm, 508, rfl⟩
abbrev main_v420 : Ref sig .tc := ⟨.hbm, 509, rfl⟩
abbrev main_cst_67 : Ref sig .tc := ⟨.hbm, 510, rfl⟩
abbrev main_v421 : Ref sig .tc := ⟨.hbm, 511, rfl⟩
abbrev main_v422 : Ref sig .tc := ⟨.hbm, 512, rfl⟩
abbrev main_v423 : Ref sig .tc := ⟨.hbm, 513, rfl⟩
abbrev main_v424 : Ref sig .tc := ⟨.hbm, 514, rfl⟩
abbrev main_v425 : Ref sig .tc := ⟨.hbm, 515, rfl⟩
abbrev main_cst_68 : Ref sig .tc := ⟨.hbm, 516, rfl⟩
abbrev main_v426 : Ref sig .tc := ⟨.hbm, 517, rfl⟩
abbrev main_v427 : Ref sig .tc := ⟨.hbm, 518, rfl⟩
abbrev main_cst_69 : Ref sig .tc := ⟨.hbm, 519, rfl⟩
abbrev main_v428 : Ref sig .tc := ⟨.hbm, 520, rfl⟩
abbrev main_cst_70 : Ref sig .tc := ⟨.hbm, 521, rfl⟩
abbrev main_v429 : Ref sig .tc := ⟨.hbm, 522, rfl⟩
abbrev main_v430 : Ref sig .tc := ⟨.hbm, 523, rfl⟩
abbrev main_v431 : Ref sig .tc := ⟨.hbm, 524, rfl⟩
abbrev main_cst_71 : Ref sig .tc := ⟨.hbm, 525, rfl⟩
abbrev main_v432 : Ref sig .tc := ⟨.hbm, 526, rfl⟩
abbrev main_v433 : Ref sig .tc := ⟨.hbm, 527, rfl⟩
abbrev main_v434 : Ref sig .tc := ⟨.hbm, 528, rfl⟩
abbrev main_v435 : Ref sig .tc := ⟨.hbm, 529, rfl⟩
abbrev main_v436 : Ref sig .tc := ⟨.hbm, 530, rfl⟩
abbrev main_cst_72 : Ref sig .tc := ⟨.hbm, 531, rfl⟩
abbrev main_v437 : Ref sig .tc := ⟨.hbm, 532, rfl⟩
abbrev main_v438 : Ref sig .tc := ⟨.hbm, 533, rfl⟩
abbrev main_cst_73 : Ref sig .tc := ⟨.hbm, 534, rfl⟩
abbrev main_v439 : Ref sig .tc := ⟨.hbm, 535, rfl⟩
abbrev main_cst_74 : Ref sig .tc := ⟨.hbm, 536, rfl⟩
abbrev main_v440 : Ref sig .tc := ⟨.hbm, 537, rfl⟩
abbrev main_v441 : Ref sig .tc := ⟨.hbm, 538, rfl⟩
abbrev main_v442 : Ref sig .tc := ⟨.hbm, 539, rfl⟩
abbrev main_cst_75 : Ref sig .tc := ⟨.hbm, 540, rfl⟩
abbrev main_v443 : Ref sig .tc := ⟨.hbm, 541, rfl⟩
abbrev main_v444 : Ref sig .tc := ⟨.hbm, 542, rfl⟩
abbrev main_v445 : Ref sig .tc := ⟨.hbm, 543, rfl⟩
abbrev main_v446 : Ref sig .tc := ⟨.hbm, 544, rfl⟩
abbrev main_v447 : Ref sig .tc := ⟨.hbm, 545, rfl⟩
abbrev main_cst_76 : Ref sig .tc := ⟨.hbm, 546, rfl⟩
abbrev main_v448 : Ref sig .tc := ⟨.hbm, 547, rfl⟩
abbrev main_v449 : Ref sig .tc := ⟨.hbm, 548, rfl⟩
abbrev main_cst_77 : Ref sig .tc := ⟨.hbm, 549, rfl⟩
abbrev main_v450 : Ref sig .tc := ⟨.hbm, 550, rfl⟩
abbrev main_cst_78 : Ref sig .tc := ⟨.hbm, 551, rfl⟩
abbrev main_v451 : Ref sig .tc := ⟨.hbm, 552, rfl⟩
abbrev main_v452 : Ref sig .tc := ⟨.hbm, 553, rfl⟩
abbrev main_v453 : Ref sig .tc := ⟨.hbm, 554, rfl⟩
abbrev main_cst_79 : Ref sig .tc := ⟨.hbm, 555, rfl⟩
abbrev main_v454 : Ref sig .tc := ⟨.hbm, 556, rfl⟩
abbrev main_v455 : Ref sig .tc := ⟨.hbm, 557, rfl⟩
abbrev main_v456 : Ref sig .tc := ⟨.hbm, 558, rfl⟩
abbrev main_v457 : Ref sig .tc := ⟨.hbm, 559, rfl⟩
abbrev main_v458 : Ref sig .tc := ⟨.hbm, 560, rfl⟩
abbrev main_cst_80 : Ref sig .tc := ⟨.hbm, 561, rfl⟩
abbrev main_v459 : Ref sig .tc := ⟨.hbm, 562, rfl⟩
abbrev main_v460 : Ref sig .tc := ⟨.hbm, 563, rfl⟩
abbrev main_cst_81 : Ref sig .tc := ⟨.hbm, 564, rfl⟩
abbrev main_v461 : Ref sig .tc := ⟨.hbm, 565, rfl⟩
abbrev main_cst_82 : Ref sig .tc := ⟨.hbm, 566, rfl⟩
abbrev main_v462 : Ref sig .tc := ⟨.hbm, 567, rfl⟩
abbrev main_v463 : Ref sig .tc := ⟨.hbm, 568, rfl⟩
abbrev main_v464 : Ref sig .tc := ⟨.hbm, 569, rfl⟩
abbrev main_cst_83 : Ref sig .tc := ⟨.hbm, 570, rfl⟩
abbrev main_v465 : Ref sig .tc := ⟨.hbm, 571, rfl⟩
abbrev main_v466 : Ref sig .tc := ⟨.hbm, 572, rfl⟩
abbrev main_v467 : Ref sig .tc := ⟨.hbm, 573, rfl⟩
abbrev main_v468 : Ref sig .tc := ⟨.hbm, 574, rfl⟩
abbrev main_v469 : Ref sig .tc := ⟨.hbm, 575, rfl⟩
abbrev main_cst_84 : Ref sig .tc := ⟨.hbm, 576, rfl⟩
abbrev main_v470 : Ref sig .tc := ⟨.hbm, 577, rfl⟩
abbrev main_v471 : Ref sig .tc := ⟨.hbm, 578, rfl⟩
abbrev main_cst_85 : Ref sig .tc := ⟨.hbm, 579, rfl⟩
abbrev main_v472 : Ref sig .tc := ⟨.hbm, 580, rfl⟩
abbrev main_cst_86 : Ref sig .tc := ⟨.hbm, 581, rfl⟩
abbrev main_v473 : Ref sig .tc := ⟨.hbm, 582, rfl⟩
abbrev main_v474 : Ref sig .tc := ⟨.hbm, 583, rfl⟩
abbrev main_v475 : Ref sig .tc := ⟨.hbm, 584, rfl⟩
abbrev main_cst_87 : Ref sig .tc := ⟨.hbm, 585, rfl⟩
abbrev main_v476 : Ref sig .tc := ⟨.hbm, 586, rfl⟩
abbrev main_v477 : Ref sig .tc := ⟨.hbm, 587, rfl⟩
abbrev main_v478 : Ref sig .tc := ⟨.hbm, 588, rfl⟩
abbrev main_v479 : Ref sig .tc := ⟨.hbm, 589, rfl⟩
abbrev main_v480 : Ref sig .tc := ⟨.hbm, 590, rfl⟩
abbrev main_cst_88 : Ref sig .tc := ⟨.hbm, 591, rfl⟩
abbrev main_v481 : Ref sig .tc := ⟨.hbm, 592, rfl⟩
abbrev main_v482 : Ref sig .tc := ⟨.hbm, 593, rfl⟩
abbrev main_cst_89 : Ref sig .tc := ⟨.hbm, 594, rfl⟩
abbrev main_v483 : Ref sig .tc := ⟨.hbm, 595, rfl⟩
abbrev main_cst_90 : Ref sig .tc := ⟨.hbm, 596, rfl⟩
abbrev main_v484 : Ref sig .tc := ⟨.hbm, 597, rfl⟩
abbrev main_v485 : Ref sig .tc := ⟨.hbm, 598, rfl⟩
abbrev main_v486 : Ref sig .tc := ⟨.hbm, 599, rfl⟩
abbrev main_cst_91 : Ref sig .tc := ⟨.hbm, 600, rfl⟩
abbrev main_v487 : Ref sig .tc := ⟨.hbm, 601, rfl⟩
abbrev main_v488 : Ref sig .tc := ⟨.hbm, 602, rfl⟩
abbrev main_v489 : Ref sig .tc := ⟨.hbm, 603, rfl⟩
abbrev main_v490 : Ref sig .tc := ⟨.hbm, 604, rfl⟩
abbrev main_v491 : Ref sig .tc := ⟨.hbm, 605, rfl⟩
abbrev main_cst_92 : Ref sig .tc := ⟨.hbm, 606, rfl⟩
abbrev main_v492 : Ref sig .tc := ⟨.hbm, 607, rfl⟩
abbrev main_v493 : Ref sig .tc := ⟨.hbm, 608, rfl⟩
abbrev main_cst_93 : Ref sig .tc := ⟨.hbm, 609, rfl⟩
abbrev main_v494 : Ref sig .tc := ⟨.hbm, 610, rfl⟩
abbrev main_cst_94 : Ref sig .tc := ⟨.hbm, 611, rfl⟩
abbrev main_v495 : Ref sig .tc := ⟨.hbm, 612, rfl⟩
abbrev main_v496 : Ref sig .tc := ⟨.hbm, 613, rfl⟩
abbrev main_v497 : Ref sig .tc := ⟨.hbm, 614, rfl⟩
abbrev main_cst_95 : Ref sig .tc := ⟨.hbm, 615, rfl⟩
abbrev main_v498 : Ref sig .tc := ⟨.hbm, 616, rfl⟩
abbrev main_v499 : Ref sig .tc := ⟨.hbm, 617, rfl⟩
abbrev main_v500 : Ref sig .tc := ⟨.hbm, 618, rfl⟩
abbrev main_v501 : Ref sig .tc := ⟨.hbm, 619, rfl⟩
abbrev main_v502 : Ref sig .tc := ⟨.hbm, 620, rfl⟩
abbrev main_cst_96 : Ref sig .tc := ⟨.hbm, 621, rfl⟩
abbrev main_v503 : Ref sig .tc := ⟨.hbm, 622, rfl⟩
abbrev main_v504 : Ref sig .tc := ⟨.hbm, 623, rfl⟩
abbrev main_cst_97 : Ref sig .tc := ⟨.hbm, 624, rfl⟩
abbrev main_v505 : Ref sig .tc := ⟨.hbm, 625, rfl⟩
abbrev main_cst_98 : Ref sig .tc := ⟨.hbm, 626, rfl⟩
abbrev main_v506 : Ref sig .tc := ⟨.hbm, 627, rfl⟩
abbrev main_v507 : Ref sig .tc := ⟨.hbm, 628, rfl⟩
abbrev main_v508 : Ref sig .tc := ⟨.hbm, 629, rfl⟩
abbrev main_cst_99 : Ref sig .tc := ⟨.hbm, 630, rfl⟩
abbrev main_v509 : Ref sig .tc := ⟨.hbm, 631, rfl⟩
abbrev main_v510 : Ref sig .tc := ⟨.hbm, 632, rfl⟩
abbrev main_v511 : Ref sig .tc := ⟨.hbm, 633, rfl⟩
abbrev main_v512 : Ref sig .tc := ⟨.hbm, 634, rfl⟩
abbrev main_v513 : Ref sig .tc := ⟨.hbm, 635, rfl⟩
abbrev main_cst_100 : Ref sig .tc := ⟨.hbm, 636, rfl⟩
abbrev main_v514 : Ref sig .tc := ⟨.hbm, 637, rfl⟩
abbrev main_v515 : Ref sig .tc := ⟨.hbm, 638, rfl⟩
abbrev main_cst_101 : Ref sig .tc := ⟨.hbm, 639, rfl⟩
abbrev main_v516 : Ref sig .tc := ⟨.hbm, 640, rfl⟩
abbrev main_cst_102 : Ref sig .tc := ⟨.hbm, 641, rfl⟩
abbrev main_v517 : Ref sig .tc := ⟨.hbm, 642, rfl⟩
abbrev main_v518 : Ref sig .tc := ⟨.hbm, 643, rfl⟩
abbrev main_v519 : Ref sig .tc := ⟨.hbm, 644, rfl⟩
abbrev main_cst_103 : Ref sig .tc := ⟨.hbm, 645, rfl⟩
abbrev main_v520 : Ref sig .tc := ⟨.hbm, 646, rfl⟩
abbrev main_v521 : Ref sig .tc := ⟨.hbm, 647, rfl⟩
abbrev main_v522 : Ref sig .tc := ⟨.hbm, 648, rfl⟩
abbrev main_v523 : Ref sig .tc := ⟨.hbm, 649, rfl⟩
abbrev main_v524 : Ref sig .tc := ⟨.hbm, 650, rfl⟩
abbrev main_cst_104 : Ref sig .tc := ⟨.hbm, 651, rfl⟩
abbrev main_v525 : Ref sig .tc := ⟨.hbm, 652, rfl⟩
abbrev main_v526 : Ref sig .tc := ⟨.hbm, 653, rfl⟩
abbrev main_cst_105 : Ref sig .tc := ⟨.hbm, 654, rfl⟩
abbrev main_v527 : Ref sig .tc := ⟨.hbm, 655, rfl⟩
abbrev main_cst_106 : Ref sig .tc := ⟨.hbm, 656, rfl⟩
abbrev main_v528 : Ref sig .tc := ⟨.hbm, 657, rfl⟩
abbrev main_v529 : Ref sig .tc := ⟨.hbm, 658, rfl⟩
abbrev main_v530 : Ref sig .tc := ⟨.hbm, 659, rfl⟩
abbrev main_cst_107 : Ref sig .tc := ⟨.hbm, 660, rfl⟩
abbrev main_v531 : Ref sig .tc := ⟨.hbm, 661, rfl⟩
abbrev main_v532 : Ref sig .tc := ⟨.hbm, 662, rfl⟩
abbrev main_v533 : Ref sig .tc := ⟨.hbm, 663, rfl⟩
abbrev main_v534 : Ref sig .tc := ⟨.hbm, 664, rfl⟩
abbrev main_v535 : Ref sig .tc := ⟨.hbm, 665, rfl⟩
abbrev main_cst_108 : Ref sig .tc := ⟨.hbm, 666, rfl⟩
abbrev main_v536 : Ref sig .tc := ⟨.hbm, 667, rfl⟩
abbrev main_v537 : Ref sig .tc := ⟨.hbm, 668, rfl⟩
abbrev main_cst_109 : Ref sig .tc := ⟨.hbm, 669, rfl⟩
abbrev main_v538 : Ref sig .tc := ⟨.hbm, 670, rfl⟩
abbrev main_cst_110 : Ref sig .tc := ⟨.hbm, 671, rfl⟩
abbrev main_v539 : Ref sig .tc := ⟨.hbm, 672, rfl⟩
abbrev main_v540 : Ref sig .tc := ⟨.hbm, 673, rfl⟩
abbrev main_v541 : Ref sig .tc := ⟨.hbm, 674, rfl⟩
abbrev main_cst_111 : Ref sig .tc := ⟨.hbm, 675, rfl⟩
abbrev main_v542 : Ref sig .tc := ⟨.hbm, 676, rfl⟩
abbrev main_v543 : Ref sig .tc := ⟨.hbm, 677, rfl⟩
abbrev main_v544 : Ref sig .tc := ⟨.hbm, 678, rfl⟩
abbrev main_v545 : Ref sig .tc := ⟨.hbm, 679, rfl⟩
abbrev main_v546 : Ref sig .tc := ⟨.hbm, 680, rfl⟩
abbrev main_cst_112 : Ref sig .tc := ⟨.hbm, 681, rfl⟩
abbrev main_v547 : Ref sig .tc := ⟨.hbm, 682, rfl⟩
abbrev main_v548 : Ref sig .tc := ⟨.hbm, 683, rfl⟩
abbrev main_cst_113 : Ref sig .tc := ⟨.hbm, 684, rfl⟩
abbrev main_v549 : Ref sig .tc := ⟨.hbm, 685, rfl⟩
abbrev main_cst_114 : Ref sig .tc := ⟨.hbm, 686, rfl⟩
abbrev main_v550 : Ref sig .tc := ⟨.hbm, 687, rfl⟩
abbrev main_v551 : Ref sig .tc := ⟨.hbm, 688, rfl⟩
abbrev main_v552 : Ref sig .tc := ⟨.hbm, 689, rfl⟩
abbrev main_cst_115 : Ref sig .tc := ⟨.hbm, 690, rfl⟩
abbrev main_v553 : Ref sig .tc := ⟨.hbm, 691, rfl⟩
abbrev main_v554 : Ref sig .tc := ⟨.hbm, 692, rfl⟩
abbrev main_v555 : Ref sig .tc := ⟨.hbm, 693, rfl⟩
abbrev main_v556 : Ref sig .tc := ⟨.hbm, 694, rfl⟩
abbrev main_v557 : Ref sig .tc := ⟨.hbm, 695, rfl⟩
abbrev main_cst_116 : Ref sig .tc := ⟨.hbm, 696, rfl⟩
abbrev main_v558 : Ref sig .tc := ⟨.hbm, 697, rfl⟩
abbrev main_v559 : Ref sig .tc := ⟨.hbm, 698, rfl⟩
abbrev main_cst_117 : Ref sig .tc := ⟨.hbm, 699, rfl⟩
abbrev main_v560 : Ref sig .tc := ⟨.hbm, 700, rfl⟩
abbrev main_cst_118 : Ref sig .tc := ⟨.hbm, 701, rfl⟩
abbrev main_v561 : Ref sig .tc := ⟨.hbm, 702, rfl⟩
abbrev main_v562 : Ref sig .tc := ⟨.hbm, 703, rfl⟩
abbrev main_v563 : Ref sig .tc := ⟨.hbm, 704, rfl⟩
abbrev main_cst_119 : Ref sig .tc := ⟨.hbm, 705, rfl⟩
abbrev main_v564 : Ref sig .tc := ⟨.hbm, 706, rfl⟩
abbrev main_v565 : Ref sig .tc := ⟨.hbm, 707, rfl⟩
abbrev main_v566 : Ref sig .tc := ⟨.hbm, 708, rfl⟩
abbrev main_v567 : Ref sig .tc := ⟨.hbm, 709, rfl⟩
abbrev main_v568 : Ref sig .tc := ⟨.hbm, 710, rfl⟩
abbrev main_cst_120 : Ref sig .tc := ⟨.hbm, 711, rfl⟩
abbrev main_v569 : Ref sig .tc := ⟨.hbm, 712, rfl⟩
abbrev main_v570 : Ref sig .tc := ⟨.hbm, 713, rfl⟩
abbrev main_cst_121 : Ref sig .tc := ⟨.hbm, 714, rfl⟩
abbrev main_v571 : Ref sig .tc := ⟨.hbm, 715, rfl⟩
abbrev main_cst_122 : Ref sig .tc := ⟨.hbm, 716, rfl⟩
abbrev main_v572 : Ref sig .tc := ⟨.hbm, 717, rfl⟩
abbrev main_v573 : Ref sig .tc := ⟨.hbm, 718, rfl⟩
abbrev main_v574 : Ref sig .tc := ⟨.hbm, 719, rfl⟩
abbrev main_cst_123 : Ref sig .tc := ⟨.hbm, 720, rfl⟩
abbrev main_v575 : Ref sig .tc := ⟨.hbm, 721, rfl⟩
abbrev main_v576 : Ref sig .tc := ⟨.hbm, 722, rfl⟩
abbrev main_v577 : Ref sig .tc := ⟨.hbm, 723, rfl⟩
abbrev main_v578 : Ref sig .tc := ⟨.hbm, 724, rfl⟩
abbrev main_v579 : Ref sig .tc := ⟨.hbm, 725, rfl⟩
abbrev main_cst_124 : Ref sig .tc := ⟨.hbm, 726, rfl⟩
abbrev main_v580 : Ref sig .tc := ⟨.hbm, 727, rfl⟩
abbrev main_v581 : Ref sig .tc := ⟨.hbm, 728, rfl⟩
abbrev main_cst_125 : Ref sig .tc := ⟨.hbm, 729, rfl⟩
abbrev main_v582 : Ref sig .tc := ⟨.hbm, 730, rfl⟩
abbrev main_cst_126 : Ref sig .tc := ⟨.hbm, 731, rfl⟩
abbrev main_v583 : Ref sig .tc := ⟨.hbm, 732, rfl⟩
abbrev main_v584 : Ref sig .tc := ⟨.hbm, 733, rfl⟩
abbrev main_v585 : Ref sig .tc := ⟨.hbm, 734, rfl⟩
abbrev main_cst_127 : Ref sig .tc := ⟨.hbm, 735, rfl⟩
abbrev main_v586 : Ref sig .tc := ⟨.hbm, 736, rfl⟩
abbrev main_v587 : Ref sig .tc := ⟨.hbm, 737, rfl⟩
abbrev main_v588 : Ref sig .tc := ⟨.hbm, 738, rfl⟩
abbrev main_v589 : Ref sig .tc := ⟨.hbm, 739, rfl⟩
abbrev main_v590 : Ref sig .tc := ⟨.hbm, 740, rfl⟩
abbrev main_cst_128 : Ref sig .tc := ⟨.hbm, 741, rfl⟩
abbrev main_v591 : Ref sig .tc := ⟨.hbm, 742, rfl⟩
abbrev main_v592 : Ref sig .tc := ⟨.hbm, 743, rfl⟩
abbrev main_cst_129 : Ref sig .tc := ⟨.hbm, 744, rfl⟩
abbrev main_v593 : Ref sig .tc := ⟨.hbm, 745, rfl⟩
abbrev main_cst_130 : Ref sig .tc := ⟨.hbm, 746, rfl⟩
abbrev main_v594 : Ref sig .tc := ⟨.hbm, 747, rfl⟩
abbrev main_v595 : Ref sig .tc := ⟨.hbm, 748, rfl⟩
abbrev main_v596 : Ref sig .tc := ⟨.hbm, 749, rfl⟩
abbrev main_cst_131 : Ref sig .tc := ⟨.hbm, 750, rfl⟩
abbrev main_v597 : Ref sig .tc := ⟨.hbm, 751, rfl⟩
abbrev main_v598 : Ref sig .tc := ⟨.hbm, 752, rfl⟩
abbrev main_v599 : Ref sig .tc := ⟨.hbm, 753, rfl⟩
abbrev main_v600 : Ref sig .tc := ⟨.hbm, 754, rfl⟩
abbrev main_v601 : Ref sig .tc := ⟨.hbm, 755, rfl⟩
abbrev main_cst_132 : Ref sig .tc := ⟨.hbm, 756, rfl⟩
abbrev main_v602 : Ref sig .tc := ⟨.hbm, 757, rfl⟩
abbrev main_v603 : Ref sig .tc := ⟨.hbm, 758, rfl⟩
abbrev main_cst_133 : Ref sig .tc := ⟨.hbm, 759, rfl⟩
abbrev main_v604 : Ref sig .tc := ⟨.hbm, 760, rfl⟩
abbrev main_cst_134 : Ref sig .tc := ⟨.hbm, 761, rfl⟩
abbrev main_v605 : Ref sig .tc := ⟨.hbm, 762, rfl⟩
abbrev main_v606 : Ref sig .tc := ⟨.hbm, 763, rfl⟩
abbrev main_v607 : Ref sig .tc := ⟨.hbm, 764, rfl⟩
abbrev main_cst_135 : Ref sig .tc := ⟨.hbm, 765, rfl⟩
abbrev main_v608 : Ref sig .tc := ⟨.hbm, 766, rfl⟩
abbrev main_v609 : Ref sig .tc := ⟨.hbm, 767, rfl⟩
abbrev main_v610 : Ref sig .tc := ⟨.hbm, 768, rfl⟩
abbrev main_v611 : Ref sig .tc := ⟨.hbm, 769, rfl⟩
abbrev main_v612 : Ref sig .tc := ⟨.hbm, 770, rfl⟩
abbrev main_cst_136 : Ref sig .tc := ⟨.hbm, 771, rfl⟩
abbrev main_v613 : Ref sig .tc := ⟨.hbm, 772, rfl⟩
abbrev main_v614 : Ref sig .tc := ⟨.hbm, 773, rfl⟩
abbrev main_cst_137 : Ref sig .tc := ⟨.hbm, 774, rfl⟩
abbrev main_v615 : Ref sig .tc := ⟨.hbm, 775, rfl⟩
abbrev main_cst_138 : Ref sig .tc := ⟨.hbm, 776, rfl⟩
abbrev main_v616 : Ref sig .tc := ⟨.hbm, 777, rfl⟩
abbrev main_v617 : Ref sig .tc := ⟨.hbm, 778, rfl⟩
abbrev main_v618 : Ref sig .tc := ⟨.hbm, 779, rfl⟩
abbrev main_cst_139 : Ref sig .tc := ⟨.hbm, 780, rfl⟩
abbrev main_v619 : Ref sig .tc := ⟨.hbm, 781, rfl⟩
abbrev main_v620 : Ref sig .tc := ⟨.hbm, 782, rfl⟩
abbrev main_v621 : Ref sig .tc := ⟨.hbm, 783, rfl⟩
abbrev main_v622 : Ref sig .tc := ⟨.hbm, 784, rfl⟩
abbrev main_v623 : Ref sig .tc := ⟨.hbm, 785, rfl⟩
abbrev main_cst_140 : Ref sig .tc := ⟨.hbm, 786, rfl⟩
abbrev main_v624 : Ref sig .tc := ⟨.hbm, 787, rfl⟩
abbrev main_v625 : Ref sig .tc := ⟨.hbm, 788, rfl⟩
abbrev main_cst_141 : Ref sig .tc := ⟨.hbm, 789, rfl⟩
abbrev main_v626 : Ref sig .tc := ⟨.hbm, 790, rfl⟩
abbrev main_cst_142 : Ref sig .tc := ⟨.hbm, 791, rfl⟩
abbrev main_v627 : Ref sig .tc := ⟨.hbm, 792, rfl⟩
abbrev main_v628 : Ref sig .tc := ⟨.hbm, 793, rfl⟩
abbrev main_v629 : Ref sig .tc := ⟨.hbm, 794, rfl⟩
abbrev main_cst_143 : Ref sig .tc := ⟨.hbm, 795, rfl⟩
abbrev main_v630 : Ref sig .tc := ⟨.hbm, 796, rfl⟩
abbrev main_v631 : Ref sig .tc := ⟨.hbm, 797, rfl⟩
abbrev main_v632 : Ref sig .tc := ⟨.hbm, 798, rfl⟩
abbrev main_v633 : Ref sig .tc := ⟨.hbm, 799, rfl⟩
abbrev main_v634 : Ref sig .tc := ⟨.hbm, 800, rfl⟩
abbrev main_v635 : Ref sig .tc := ⟨.hbm, 801, rfl⟩
abbrev main_v636 : Ref sig .tc := ⟨.hbm, 802, rfl⟩
abbrev main_v637 : Ref sig .tc := ⟨.hbm, 803, rfl⟩
abbrev main_v638 : Ref sig .tc := ⟨.hbm, 804, rfl⟩
abbrev main_c : Ref sig .tc := ⟨.hbm, 805, rfl⟩
abbrev main_call2_v0 : Ref sig .tc := ⟨.hbm, 806, rfl⟩
abbrev main_v639 : Ref sig .tc := ⟨.hbm, 807, rfl⟩
abbrev main_v640 : Ref sig .tc := ⟨.hbm, 808, rfl⟩
abbrev main_v641 : Ref sig .tc := ⟨.hbm, 809, rfl⟩

abbrev nD : Nat := 1
abbrev τ : Topo := Topo.v7x

variable {F : FTy → Type} [FloatOps F]
-- ==== MlpDown.lean ====
abbrev S8192x4096 : Shape := ⟨2, ![8192, 4096]⟩
abbrev S8192x1024 : Shape := ⟨2, ![8192, 1024]⟩
abbrev S4096x1024 : Shape := ⟨2, ![4096, 1024]⟩
abbrev S1024 : Shape := ⟨1, ![1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S4096x1024, .f32⟩
  | .hbm, ⟨3, _⟩ => ⟨S1024, .f32⟩
  | .hbm, ⟨4, _⟩ => ⟨S4096x1024, .bf16⟩
  | .hbm, ⟨5, _⟩ => ⟨S1x1024, .f32⟩
  | .hbm, ⟨6, _⟩ => ⟨S8192x1024, .f32⟩
  | .hbm, ⟨7, _⟩ => ⟨S8192x1024, .f32⟩
  | .local _ .vmem, ⟨0, _⟩ => ⟨S512x4096, .f32⟩
  | .local _ .vmem, ⟨1, _⟩ => ⟨S512x4096, .f32⟩
  | .local _ .vmem, ⟨2, _⟩ => ⟨S512x1024, .f32⟩
  | .local _ .vmem, ⟨3, _⟩ => ⟨S512x1024, .f32⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpDownRefIdeal.lean ====
abbrev S8192x4096 : Shape := ⟨2, ![8192, 4096]⟩
abbrev S8192x1024 : Shape := ⟨2, ![8192, 1024]⟩
abbrev S4096x1024 : Shape := ⟨2, ![4096, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S4096x1024, .f32⟩
  | .hbm, ⟨3, _⟩ => ⟨S1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== MixFwd.lean ====
abbrev S8192x256 : Shape := ⟨2, ![8192, 256]⟩
abbrev S8192x4x64 : Shape := ⟨3, ![8192, 4, 64]⟩
abbrev S8192x1024 : Shape := ⟨2, ![8192, 1024]⟩
abbrev S1024x1024 : Shape := ⟨2, ![1024, 1024]⟩
abbrev S1024 : Shape := ⟨1, ![1024]⟩
abbrev S8192x4x128 : Shape := ⟨3, ![8192, 4, 128]⟩
abbrev S8192x512 : Shape := ⟨2, ![8192, 512]⟩
abbrev S1x1024 : Shape := ⟨2, ![1, 1024]⟩
abbrev S512x256 : Shape := ⟨2, ![512, 256]⟩
abbrev S512x512 : Shape := ⟨2, ![512, 512]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 18
  | .vmem => 16
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x4x64, .f32⟩
  | .hbm, ⟨5, _⟩ => ⟨S8192x1024, .f32⟩
  | .hbm, ⟨6, _⟩ => ⟨S1024x1024, .f32⟩
  | .hbm, ⟨7, _⟩ => ⟨S1024, .f32⟩
  | .hbm, ⟨8, _⟩ => ⟨S8192x4x64, .f32⟩
  | .hbm, ⟨9, _⟩ => ⟨S8192x4x128, .f32⟩
  | .hbm, ⟨10, _⟩ => ⟨S8192x512, .f32⟩
  | .hbm, ⟨11, _⟩ => ⟨S8192x256, .bf16⟩
  | .hbm, ⟨12, _⟩ => ⟨S8192x256, .bf16⟩
  | .hbm, ⟨13, _⟩ => ⟨S8192x256, .bf16⟩
  | .hbm, ⟨14, _⟩ => ⟨S1024x1024, .bf16⟩
  | .hbm, ⟨15, _⟩ => ⟨S1x1024, .f32⟩
  | .hbm, ⟨16, _⟩ => ⟨S8192x1024, .f32⟩
  | .hbm, ⟨17, _⟩ => ⟨S8192x1024, .f32⟩
  | .local _ .vmem, ⟨0, _⟩ => ⟨S512x256, .bf16⟩
  | .local _ .vmem, ⟨1, _⟩ => ⟨S512x256, .bf16⟩
  | .local _ .vmem, ⟨2, _⟩ => ⟨S512x512, .f32⟩
  | .local _ .vmem, ⟨3, _⟩ => ⟨S512x512, .f32⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixFwdRefIdeal.lean ====
abbrev S8192x256 : Shape := ⟨2, ![8192, 256]⟩
abbrev S8192x4x64 : Shape := ⟨3, ![8192, 4, 64]⟩
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x4x64, .f32⟩
  | .hbm, ⟨5, _⟩ => ⟨S8192x1024, .f32⟩
  | .hbm, ⟨6, _⟩ => ⟨S1024x1024, .f32⟩
  | .hbm, ⟨7, _⟩ => ⟨S1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]
-- ==== PleFwd.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S1x1024, .f32⟩
  | .hbm, ⟨7, _⟩ => ⟨S1024x1024, .bf16⟩
  | .hbm, ⟨8, _⟩ => ⟨S256x1024, .bf16⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PleFwdRefIdeal.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Proof.Common.lean ====
/- Facts several calls share: the values of the constants, and finite extended reals. -/
module

public import Idealize.ShloMosaic.Lib.Pipeline.ValueKit
public import Idealize.ShloMosaic.Lib.IdealHost

@[expose] public section

noncomputable section

open Idealize.ShloMosaic

namespace Cert.Common

theorem half : Ideal.ofBits .f32 0x3F000000#32 = ((1 / 2 : ℝ) : EReal) := by
  simp [Ideal.ofBits, Ideal.ieee, ← EReal.coe_mul]; norm_num

theorem two : Ideal.ofBits .f32 0x40000000#32 = ((2 : ℝ) : EReal) := by
  simp [Ideal.ofBits, Ideal.ieee, ← EReal.coe_mul]; norm_num

theorem width : Ideal.ofBits .f32 0x44800000#32 = ((1024 : ℝ) : EReal) := by
  simp [Ideal.ofBits, Ideal.ieee, ← EReal.coe_mul]; norm_num

theorem perWidth : Ideal.ofBits .f32 0x3A800000#32 = ((1 / 1024 : ℝ) : EReal) := by
  simp [Ideal.ofBits, Ideal.ieee, ← EReal.coe_mul]; norm_num

theorem one_word : Ideal.ofBits .f32 0x3F800000#32 = ((1 : ℝ) : EReal) := by
  simp [Ideal.ofBits, Ideal.ieee, ← EReal.coe_mul]; norm_num

theorem zero_word : Ideal.ofBits .f32 0x00000000#32 = ((0 : ℝ) : EReal) := by
  simp [Ideal.ofBits, Ideal.ieee]

theorem infinity : Ideal.ofBits .f32 0x7F800000#32 = ⊤ := by simp [Ideal.ofBits, Ideal.ieee]

theorem select_ite {α : Type} (p : Prop) [Decidable p] (a b : α) :
    Scalar.select (if p then 0#1 else 1#1) a b = if p then b else a := by
  split <;> rfl

theorem ori_ite (p q : Prop) [Decidable p] [Decidable q] :
    IntOp.ori (if p then 0#1 else 1#1) (if q then 0#1 else 1#1) = if p ∧ q then 0#1 else 1#1 := by
  by_cases hp : p <;> by_cases hq : q <;> simp [hp, hq] <;> rfl

theorem coe_abs (x : ℝ) : max (x : EReal) (-(x : EReal)) = ((|x| : ℝ) : EReal) := by
  rw [← EReal.coe_neg]
  exact (EReal.coe_strictMono.monotone.map_max (a := x) (b := -x)).symm

theorem coe_max (x y : ℝ) : ((max x y : ℝ) : EReal) = max (x : EReal) (y : EReal) := EReal.coe_strictMono.monotone.map_max

theorem coe_min (x y : ℝ) : ((min x y : ℝ) : EReal) = min (x : EReal) (y : EReal) := EReal.coe_strictMono.monotone.map_min

/-- An element whose size is below infinity is a real. -/
theorem real_of_lt (x : EReal) (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have h' : Ideal.cmp .olt (max x (-x)) (Ideal.ofBits .f32 0x7F800000#32) = 1#1 := h
  rw [infinity] at h'
  rcases eq_or_ne x ⊤ with rfl | h1
  · simp [Ideal.cmp] at h'
  rcases eq_or_ne x ⊥ with rfl | h2
  · simp [Ideal.cmp] at h'
  exact ⟨x.toReal, (EReal.coe_toReal h1 h2).symm⟩

/-- The elements of an array the precondition calls finite are reals. -/
theorem real_of_mask {s : Shape} (x : FVec Ideal s .f32) (hb : (⟨0, ![]⟩ : Shape).BroadcastsInDim s (![] : Fin 0 → Fin s.rank))
    (h : cmpf .olt (Host.absf x) (broadcastInDim s ![] hb (constant (F := Ideal) ⟨0, ![]⟩ .f32 0x7F800000#32)) = fun _ => 1#1) (i : s.Idx) :
    ∃ r : ℝ, x i = (r : EReal) :=
  real_of_lt (x i) (congrFun h i)

theorem coe_sum {ι : Type*} (s : Finset ι) (f : ι → ℝ) : ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

/-- A finite nonnegative factor passes into a sum, whatever the summands are. -/
theorem coe_mul_sum {ι : Type*} (s : Finset ι) (r : ℝ) (hr : 0 ≤ r) (f : ι → EReal) :
    (r : EReal) * ∑ k ∈ s, f k = ∑ k ∈ s, (r : EReal) * f k := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

/-- The smooth threshold's slope, as its logarithm's gradient writes it. -/
theorem slope (x : ℝ) :
    Ideal.exp ((x : EReal) - (max (x : EReal) 0 + Ideal.log1p (Ideal.exp (-(max (x : EReal) (-(x : EReal))))))) = Ideal.logistic (x : EReal) := by
  have hp : 0 < 1 + Real.exp (-|x|) := by positivity
  rw [coe_abs, ← EReal.coe_neg, Ideal.exp_coe,
    show Ideal.log1p ((Real.exp (-|x|) : ℝ) : EReal) = Ideal.log (((1 : ℝ) : EReal) + ((Real.exp (-|x|) : ℝ) : EReal)) from rfl, ← EReal.coe_add,
    Ideal.log_coe, if_neg hp.not_ge, ← EReal.coe_zero, ← coe_max, ← EReal.coe_add, ← EReal.coe_sub, Ideal.exp_coe, Ideal.logistic_coe]
  congr 1
  rw [Real.exp_sub, Real.exp_add, Real.exp_log hp]
  have hx := Real.exp_pos x
  rcases le_total x 0 with h | h
  · rw [max_eq_right h, abs_of_nonpos h, neg_neg, Real.exp_zero, Real.exp_neg]
    field_simp
    try ring
  · rw [max_eq_left h, abs_of_nonneg h, Real.exp_neg]
    field_simp
    try ring

end Cert.Common

end

end
-- ==== Proof.Loss.lean ====
/- The loss and its gradient: each row block writes its own rows of `(y - target) / 1024`, and the loss is
   summed over the sixteen row blocks. -/
module

public import proofs.«01_k».proof.Proof.Gen.LossIdeal.Frame
public import proofs.«01_k».proof.Proof.Gen.LossRefIdeal.Run
public import proofs.«01_k».proof.Proof.Common

@[expose] public section

set_option maxRecDepth 16384

noncomputable section

open Idealize.ShloMosaic Idealize.ShloMosaic.TcCoe Idealize.SL.Sem
open Idealize.ShloMosaic.Pipeline (Dat)
open Cert.Common

namespace Cert.LossIdeal.Value

open Cert.LossIdeal Cert.LossIdeal.Gen

/-- The gradient of the loss, as the reference writes it. -/
def refGrad (y z : FVec Ideal S8192x1024 .f32) : FVec Ideal S8192x1024 .f32 :=
  mulf (broadcastInDim Cert.LossRefIdeal.S8192x1024 ![0] Cert.LossRefIdeal.Gen.bcast_S8192_S8192x1024_0 (Host.divf (broadcastInDim Cert.LossRefIdeal.S8192 ![] Cert.LossRefIdeal.Gen.bcast_S_S8192 (mulf (constant Cert.LossRefIdeal.S_ .f32 0x3F000000#32) (constant Cert.LossRefIdeal.S_ .f32 0x3F800000#32))) (broadcastInDim Cert.LossRefIdeal.S8192 ![] Cert.LossRefIdeal.Gen.bcast_S_S8192 (constant Cert.LossRefIdeal.S_ .f32 0x44800000#32)))) (mulf (broadcastInDim Cert.LossRefIdeal.S8192x1024 ![] Cert.LossRefIdeal.Gen.bcast_S_S8192x1024 (constant Cert.LossRefIdeal.S_ .f32 0x40000000#32)) (subf y z))

/-- The loss in every lane of the result, as the reference writes it. -/
def refLoss (y z : FVec Ideal S8192x1024 .f32) : FVec Ideal S8x128 .f32 :=
  broadcastInDim Cert.LossRefIdeal.S8x128 ![] Cert.LossRefIdeal.Gen.bcast_S_S8x128 (mulf (constant Cert.LossRefIdeal.S_ .f32 0x3F000000#32) (Host.reduceAdd (Host.divf (Host.reduceAdd (mulf (subf y z) (subf y z)) (constant Cert.LossRefIdeal.S_ .f32 0x00000000#32) Cert.LossRefIdeal.Gen.reducesTo_S8192x1024_S8192_d1 Cert.LossRefIdeal.Gen.h_S_) (broadcastInDim Cert.LossRefIdeal.S8192 ![] Cert.LossRefIdeal.Gen.bcast_S_S8192 (constant Cert.LossRefIdeal.S_ .f32 0x44800000#32))) (constant Cert.LossRefIdeal.S_ .f32 0x00000000#32) Cert.LossRefIdeal.Gen.reducesTo_S8192_S_d0 Cert.LossRefIdeal.Gen.h_S_))

variable (m : (ℓ : Loc nD τ sig) → Buf (Elt Ideal) ℓ)

/-- Row block `t` is block `t` of each array; the loss is one block. -/
theorem idx : ∀ t : Fin cfg0.N, win0_0.index t = ![t.val, 0] ∧ win0_1.index t = ![t.val, 0] ∧ win0_2.index t = ![t.val, 0] ∧ win0_3.index t = ![0, 0] :=
  (by decide +kernel : ∀ t : Fin grid0.N, _)

/-- A block's gradient. -/
theorem grad_point (c : Dev nD) (t : Fin cfg0.N) (y) : k0_pay2 (F := Ideal) (iblk m c 0 t) (iblk m c 1 t) y
    = refGrad (m ((c : Thread nD τ).loc main_arg0)) (m ((c : Thread nD τ).loc main_arg1)) (((cfg0.win 2).blk t).view.emb y) := by
  pointwise [k0_pay2, k0_pay1, refGrad]
  rw [half, two, width, perWidth, Ideal.div_coe (by norm_num), ← mul_assoc, ← EReal.coe_mul, ← EReal.coe_mul, mul_comm]
  refine congrArg₂ (· * ·) (by norm_num) ?_
  blk_point [iblk, V, idx t]

/-- The gradient, as the kernel leaves it. -/
theorem final_grad (c : Dev nD) : (dats m 0 c).arrAt 2 (cfgs 0).N
    = refGrad (m ((c : Thread nD τ).loc main_arg0)) (m ((c : Thread nD τ).loc main_arg1)) := by
  refine (dats m 0 c).arrAt_eq_of_covers 2 _ (by decide +kernel) fun t _ y => ?_
  blk_simp
  rw [after0_2]
  by_cases h : t.val % 16 = 0
  · rw [outsAt0_A m c t h]
    frame_out
    exact grad_point m c t y
  · rw [outsAt0_B m c t h]
    frame_out
    exact grad_point m c t y

/-- Half the sum of the rows' means, row by row. -/
theorem half_sum {n : ℕ} (f : Fin n → EReal) :
    Ideal.ofBits .f32 0x3F000000#32 * ∑ r, Ideal.div (f r) (Ideal.ofBits .f32 0x44800000#32) = ∑ r, ((1 / 2048 : ℝ) : EReal) * f r := by
  rw [half, width, coe_mul_sum _ _ (by norm_num)]
  refine Finset.sum_congr rfl fun r _ => ?_
  rw [Ideal.div_coe (by norm_num), mul_left_comm, ← EReal.coe_mul, mul_comm]
  norm_num

theorem loss_zero (j) : k0_pay3 (F := Ideal) j = 0 := by pointwise [k0_pay3]

/-- What a block adds to the loss. -/
theorem loss_step (y z a j) : k0_pay4 (F := Ideal) y z a j
    = a j + ∑ r : Fin 512, ((1 / 2048 : ℝ) : EReal) * ∑ k : Fin 1024, (y (ix2 r k) - z (ix2 r k)) * (y (ix2 r k) - z (ix2 r k)) := by
  pointwise [k0_pay4, k0_pay1]
  rw [half_sum]

/-- The reference's loss. -/
theorem ref_loss (y z j) : refLoss y z j
    = ∑ r : Fin 8192, ((1 / 2048 : ℝ) : EReal) * ∑ k : Fin 1024, (y (ix2 r k) - z (ix2 r k)) * (y (ix2 r k) - z (ix2 r k)) := by
  pointwise [refLoss]
  rw [half_sum]

/-- The loss, as the kernel leaves it. -/
theorem final_loss (c : Dev nD) : (dats m 0 c).arrAt 3 (cfgs 0).N
    = refLoss (m ((c : Thread nD τ).loc main_arg0)) (m ((c : Thread nD τ).loc main_arg1)) := by
  refine (dats m 0 c).arrAt_eq_of_after_last 3 t0_15 (by decide +kernel) _ fun j => ?_
  blk_simp
  rw [after0_3, Pipeline.eq_sum_fin_of_reset_step_apply_last (fun n h => (outsAt0 m c n h).2) 16 (fun _ => 0) _
    (fun t h j => by rw [outsAt0_A m c t h]; frame_out; rw [loss_step, loss_zero])
    (fun t h j => by rw [outsAt0_B m c t h]; frame_out; rw [loss_step])
    (le_of_eq N_0) t0_15 rfl j, zero_add, ref_loss]
  refine Fin.sum_mul_add_congr fun p r h => ?_
  blk_point [iblk, V, idx p]

end Cert.LossIdeal.Value

end

end
-- ==== Proof.SConv.lean ====
/- The short causal convolution's gradient, row block by row block with 32 rows of each neighbour. -/
module

public import proofs.«01_k».proof.Proof.Gen.SConvIdeal.Frame
public import proofs.«01_k».proof.Proof.Gen.SConvRefIdeal.Read
public import proofs.«01_k».proof.Proof.Common

@[expose] public section

set_option maxRecDepth 16384

noncomputable section

open Idealize.ShloMosaic Idealize.ShloMosaic.TcCoe Idealize.SL.Sem
open Idealize.ShloMosaic.Pipeline (Dat)
open Cert.Common

namespace Cert.SConvIdeal.Value

open Cert.SConvIdeal Cert.SConvIdeal.Gen
open Cert.SConvRefIdeal.Read

/-- Row `n - 2` of the convolution's input, two rows of zeros first. -/
def past (z : FVec Ideal S8192x768 .f32) (n : ℕ) (c : Fin 256) : EReal :=
  if h : 2 ≤ n ∧ n < 8194 then z (ix2 ⟨n - 2, by omega⟩ ⟨512 + c, by omega⟩) * z (ix2 ⟨n - 2, by omega⟩ ⟨c, by omega⟩) else 0

/-- Row `n` of the gradient at the convolution's output, zero past the last row. -/
def dout (z : FVec Ideal S8192x768 .f32) (dy : FVec Ideal S8192x256 .f32) (n : ℕ) (c : Fin 256) : EReal :=
  if h : n < 8192 then z (ix2 ⟨n, by omega⟩ ⟨256 + c, by omega⟩) * dy (ix2 ⟨n, by omega⟩ c) else 0

theorem ref_past (z) (q : Fin 8194) (l : Fin 256) : val_main_v5 (F := Ideal) z (ix2 q l) = past z q l := by
  unfold past
  pointwise [val_main_v5, val_main_v3, val_main_v0, val_main_v2, val_main_v4, val_main_cst]
  by_cases h : (q : ℕ) < 2
  · rw [dif_pos h, dif_neg (by omega)]
  · rw [dif_neg h, dif_pos (by omega)]

theorem ref_dout (z dy) (n : Fin 8192) (l : Fin 256) : val_main_v28 (F := Ideal) z dy (ix2 n l) = dout z dy n l := by
  unfold dout
  pointwise [val_main_v28, val_main_v1]

/-- The reference's gradient of the taps. -/
theorem ref_dw (z dy) (k : Fin 8) (l : Fin 256) : val_main_v67 (F := Ideal) z dy (ix2 k l)
    = if k.val < 3 then ∑ r : Fin 8192, dout z dy r l * past z (r + k) l else 0 := by
  pointwise [val_main_v67, val_main_call0_v0, val_main_c, val_main_v60, val_main_v59, val_main_cst_12, val_main_v58, val_main_v55, val_main_cst_10, val_main_v54, val_main_v53, val_main_cst_9, val_main_v52, val_main_v9, val_main_v49, val_main_v48, val_main_cst_8, val_main_v47, val_main_v44, val_main_cst_6, val_main_v43, val_main_v42, val_main_cst_5, val_main_v41, val_main_v15, val_main_v38, val_main_cst_4, val_main_v37, val_main_v35, val_main_cst_2, val_main_v34, val_main_v33, val_main_cst_1, val_main_v32, val_main_v22, ref_dout, ref_past]
  fin_vals k with hk
  all_goals simp [hk, add_comm, FloatOps.sitofp]

/-- The gradient at the convolution's input, row `n`. -/
def din (z : FVec Ideal S8192x768 .f32) (w : FVec Ideal S3x256 .f32) (dy : FVec Ideal S8192x256 .f32) (n : ℕ) (l : Fin 256) : EReal :=
  w (ix2 (2 : Fin 3) l) * dout z dy n l + w (ix2 (1 : Fin 3) l) * dout z dy (2 + n - 1) l + w (ix2 (0 : Fin 3) l) * dout z dy (2 + n) l

/-- The convolution's row `n`. -/
def conv (z : FVec Ideal S8192x768 .f32) (w : FVec Ideal S3x256 .f32) (n : ℕ) (l : Fin 256) : EReal :=
  w (ix2 (0 : Fin 3) l) * past z n l + w (ix2 (1 : Fin 3) l) * past z (1 + n) l + w (ix2 (2 : Fin 3) l) * past z (2 + n) l

theorem dout_end (z dy) (n : ℕ) (c : Fin 256) (h : 8192 ≤ n) : dout z dy n c = 0 := dif_neg (by omega)

/-- The reference's gradient of the call's input. -/
theorem ref_dz (z w dy) (n : Fin 8192) (l : Fin 768) : val_main_v66 (F := Ideal) z w dy (ix2 n l)
    = if h : l.val < 256 then din z w dy n ⟨l, by omega⟩ * z (ix2 n ⟨512 + l, by omega⟩)
      else if h : l.val - 256 < 256 then dy (ix2 n ⟨l - 256, by omega⟩) * conv z w n ⟨l - 256, by omega⟩
      else din z w dy n ⟨l - 256 - 256, by omega⟩ * z (ix2 n ⟨l - 256 - 256, by omega⟩) := by
  pointwise [val_main_v66, val_main_v65, val_main_v64, val_main_v0, val_main_v62, val_main_v57, val_main_v56, val_main_cst_11, val_main_v51, val_main_v50, val_main_v10, val_main_v8, val_main_v7, val_main_v46, val_main_v45, val_main_cst_7, val_main_v40, val_main_v39, val_main_v16, val_main_v14, val_main_v13, val_main_v36, val_main_cst_3, val_main_v31, val_main_v30, val_main_v23, val_main_v21, val_main_v20, val_main_v29, val_main_v26, val_main_v25, val_main_v22, val_main_v2, val_main_v24, val_main_v19, val_main_v18, val_main_v15, val_main_v17, val_main_v12, val_main_v9, val_main_v11, val_main_v63, ref_dout, ref_past]
  have e1 : ¬ (2 + n.val - 1 < 8192) → ∀ k, dout z dy (2 + n - 1) k = 0 := fun h k => dout_end z dy _ k (by omega)
  have e2 : ¬ (2 + n.val < 8192) → ∀ k, dout z dy (2 + n) k = 0 := fun h k => dout_end z dy _ k (by omega)
  have h0 : 1 ≤ 2 + n.val := by omega
  have hm : l.val - 256 - 256 < 256 := by omega
  by_cases h1 : l.val < 256 <;> by_cases h2 : l.val - 256 < 256 <;> by_cases h3 : 2 + n.val < 8192 <;> by_cases h4 : 2 + n.val - 1 < 8192
  all_goals simp only [h0, h1, h2, h3, h4, hm, e1, e2, din, conv, and_self, and_true, true_and, false_and, and_false, dite_true, dite_false, mul_zero, not_false_eq_true]
  all_goals exact mul_comm _ _

variable (m : (ℓ : Loc nD τ sig) → Buf (Elt Ideal) ℓ)

/-- The block of each window at each grid point. -/
theorem idx : ∀ t : Fin cfg0.N, win0_0.index t = ![t.val, 0] ∧ win0_1.index t = ![t.val, 0] ∧ win0_2.index t = ![t.val * 32 - 1, 0]
    ∧ win0_3.index t = ![min (t.val * 32 + 32) 255, 0] ∧ win0_4.index t = ![min (t.val * 32 + 32) 255, 0]
    ∧ win0_5.index t = ![0, 0] ∧ win0_6.index t = ![t.val, 0] ∧ win0_7.index t = ![0, 0] :=
  (by decide +kernel : ∀ t : Fin grid0.N, _)

theorem first_row : ∀ t : Fin cfg0.N, Scalar.cmpi .sgt (BitVec.ofNat 32 (grid0.coords t 0).val) 0#32 = if t.val = 0 then 0#1 else 1#1 :=
  (by decide +kernel : ∀ t : Fin grid0.N, _)

theorem last_row : ∀ t : Fin cfg0.N, Scalar.cmpi .slt (BitVec.ofNat 32 (grid0.coords t 0).val) 7#32 = if t.val = 7 then 0#1 else 1#1 :=
  (by decide +kernel : ∀ t : Fin grid0.N, _)

theorem below (a : Fin 1056) : IntOp.cmpi .slt (BitVec.ofNat 32 a) 1024#32 = if 1024 ≤ a.val then 0#1 else 1#1 := by
  word_cmp
  by_cases h : (a : ℕ) < 1024 <;> simp [h, Nat.not_le.2, Nat.le_of_not_lt]

theorem above (a : Fin 1056) : IntOp.cmpi .sge (BitVec.ofNat 32 a) 32#32 = if a.val < 32 then 0#1 else 1#1 := by
  word_cmp
  by_cases h : (a : ℕ) < 32 <;> simp [h, Nat.not_le.2, Nat.le_of_not_lt]

/-- A block's rows behind the last rows of the one before. -/
theorem ext_at (c : Dev nD) (t : Fin cfg0.N) (q : Fin 1056) (l : Fin 256) (h : 30 ≤ q.val) :
    k0_pay4 (F := Ideal) (grid0.coords t) (iblk m c 0 t) (iblk m c 2 t) (ix2 q l)
      = past (m ((c : Thread nD τ).loc main_arg0)) (t.val * 1024 + q - 30) l := by
  have ht : t.val < 8 := lt_of_lt_of_eq t.isLt N_0
  unfold past
  pointwise [k0_pay4]
  rw [first_row t, above q, ori_ite, select_ite]
  by_cases h1 : (q : ℕ) < 32
  · by_cases h2 : t.val = 0
    · rw [if_pos ⟨h1, h2⟩, dif_neg (by omega)]
    · rw [if_neg (by omega)]
      simp only [dif_pos h1]
      rw [dif_pos (by omega)]
      blk_point [iblk, V, idx t]
  · rw [if_neg (by omega)]
    simp only [dif_neg h1]
    rw [dif_pos (by omega)]
    blk_point [iblk, V, idx t]

theorem ext_two (c : Dev nD) (t : Fin cfg0.N) (x : Fin 1024) (l : Fin 256) (h : (32 + x.val + 1056 - 2) % 1056 < 1056) :
    k0_pay4 (F := Ideal) (grid0.coords t) (iblk m c 0 t) (iblk m c 2 t) (ix2 ⟨(32 + x.val + 1056 - 2) % 1056, h⟩ l)
      = past (m ((c : Thread nD τ).loc main_arg0)) (t.val * 1024 + x) l :=
  (ext_at m c t _ l (show 30 ≤ _ % _ by omega)).trans (by rw [show t.val * 1024 + (32 + x.val + 1056 - 2) % 1056 - 30 = t.val * 1024 + x by omega])

theorem ext_one (c : Dev nD) (t : Fin cfg0.N) (x : Fin 1024) (l : Fin 256) (h : (32 + x.val + 1056 - 1) % 1056 < 1056) :
    k0_pay4 (F := Ideal) (grid0.coords t) (iblk m c 0 t) (iblk m c 2 t) (ix2 ⟨(32 + x.val + 1056 - 1) % 1056, h⟩ l)
      = past (m ((c : Thread nD τ).loc main_arg0)) (1 + (t.val * 1024 + x)) l :=
  (ext_at m c t _ l (show 30 ≤ _ % _ by omega)).trans (by rw [show t.val * 1024 + (32 + x.val + 1056 - 1) % 1056 - 30 = 1 + (t.val * 1024 + x) by omega])

theorem ext_same (c : Dev nD) (t : Fin cfg0.N) (x : Fin 1024) (l : Fin 256) (h : 32 + x.val < 1056) :
    k0_pay4 (F := Ideal) (grid0.coords t) (iblk m c 0 t) (iblk m c 2 t) (ix2 ⟨32 + x.val, h⟩ l)
      = past (m ((c : Thread nD τ).loc main_arg0)) (2 + (t.val * 1024 + x)) l :=
  (ext_at m c t _ l (show 30 ≤ _ + _ by omega)).trans (by rw [show t.val * 1024 + (32 + x.val) - 30 = 2 + (t.val * 1024 + x) by omega])

theorem row_zero : ∀ k : Fin 8, IntOp.cmpi .eq (BitVec.ofNat 32 k) 0#32 = if k.val ≠ 0 then 0#1 else 1#1 := by decide
theorem row_one : ∀ k : Fin 8, IntOp.cmpi .eq (BitVec.ofNat 32 k) 1#32 = if k.val ≠ 1 then 0#1 else 1#1 := by decide
theorem row_two : ∀ k : Fin 8, IntOp.cmpi .eq (BitVec.ofNat 32 k) 2#32 = if k.val ≠ 2 then 0#1 else 1#1 := by decide

theorem add_rev (a b d : EReal) : a + b + d = d + b + a := by
  abel

theorem out_at (c : Dev nD) (t : Fin cfg0.N) (q : Fin 1056) (l : Fin 256) :
    k0_pay10 (F := Ideal) (BitVec.ofNat 32 (grid0.coords t 0).val) (iblk m c 3 t) (iblk m c 4 t) (k0_pay9 (iblk m c 0 t) (iblk m c 1 t)) (ix2 q l)
      = dout (m ((c : Thread nD τ).loc main_arg0)) (m ((c : Thread nD τ).loc main_arg2)) (t.val * 1024 + q) l := by
  have ht : t.val < 8 := lt_of_lt_of_eq t.isLt N_0
  unfold dout
  pointwise [k0_pay10, k0_pay9]
  rw [last_row t, below q, ori_ite, select_ite]
  by_cases h1 : (q : ℕ) < 1024
  · rw [if_neg (by omega), dif_pos h1, dif_pos (by omega), mul_comm]
    blk_point [iblk, V, idx t]
  · by_cases h2 : t.val = 7
    · rw [if_pos (by omega), dif_neg (by omega)]
    · rw [if_neg (by omega), dif_neg h1, dif_pos (by omega), mul_comm]
      blk_point [iblk, V, idx t]

theorem w_read (c : Dev nD) : (V m c main_v0 : FVec Ideal S8x256 .f32) = pad S8x256 ![0, 0] ![5, 0] ![0, 0] (show FVec Ideal S3x256 .f32 from m ((c : Thread nD τ).loc main_arg1)) (sitofp .f32 (constantI S_ 32 0#32)) pads_S3x256_S8x256_050_000 h_S_ := by
  unfold V
  simp only [List.flatten, List.append, hostOps0, hostOps0_1]
  after_results
  rfl

theorem w_at (c : Dev nD) (t : Fin cfg0.N) (k : Fin 3) (l : Fin 256) :
    (iblk m c 5 t : FVec Ideal S8x256 .f32) (ix2 ⟨k, by omega⟩ l) = (show FVec Ideal S3x256 .f32 from m ((c : Thread nD τ).loc main_arg1)) (ix2 k l) := by
  refine Eq.trans (b := (V m c main_v0 : FVec Ideal S8x256 .f32) (ix2 ⟨k, by omega⟩ l)) (by blk_point [iblk, idx t]) ?_
  rw [w_read]
  pointwise []

/-- What a grid point leaves of the input's gradient. -/
theorem dz_point (c : Dev nD) (t : Fin cfg0.N) (y0 : Fin 1024) (y1 : Fin 768) :
    k0_pay1 (F := Ideal) (iblk m c 0 t) (iblk m c 1 t)
      (k0_pay8 (grid0.coords t) (iblk m c 0 t) (iblk m c 2 t)
        (View.ld (iblk m c 5 t) (Rect.unit ![0, 0] ![1, 256] inb_S8x256_S1x256_0_0))
        (View.ld (iblk m c 5 t) (Rect.unit ![1, 0] ![1, 256] inb_S8x256_S1x256_1_0))
        (View.ld (iblk m c 5 t) (Rect.unit ![2, 0] ![1, 256] inb_S8x256_S1x256_2_0)))
      (k0_pay10 (BitVec.ofNat 32 (grid0.coords t 0).val) (iblk m c 3 t) (iblk m c 4 t) (k0_pay9 (iblk m c 0 t) (iblk m c 1 t)))
      (k0_pay12 (BitVec.ofNat 32 (grid0.coords t 0).val) (iblk m c 3 t) (iblk m c 4 t) (k0_pay9 (iblk m c 0 t) (iblk m c 1 t))
        (View.ld (iblk m c 5 t) (Rect.unit ![0, 0] ![1, 256] inb_S8x256_S1x256_0_0))
        (View.ld (iblk m c 5 t) (Rect.unit ![1, 0] ![1, 256] inb_S8x256_S1x256_1_0)))
      (View.ld (iblk m c 5 t) (Rect.unit ![2, 0] ![1, 256] inb_S8x256_S1x256_2_0)) (ix2 y0 y1)
      = val_main_v66 (F := Ideal) (m ((c : Thread nD τ).loc main_arg0)) (m ((c : Thread nD τ).loc main_arg1)) (m ((c : Thread nD τ).loc main_arg2))
          (((cfg0.win 6).blk t).view.emb (ix2 y0 y1)) := by
  have ht : t.val < 8 := lt_of_lt_of_eq t.isLt N_0
  refine Eq.trans (b := val_main_v66 (F := Ideal) (m ((c : Thread nD τ).loc main_arg0)) (m ((c : Thread nD τ).loc main_arg1)) (m ((c : Thread nD τ).loc main_arg2)) (ix2 ⟨t.val * 1024 + y0, by omega⟩ y1)) ?_ (by blk_ext [idx t])
  rw [ref_dz]
  pointwise [k0_pay1, k0_pay8, k0_pay12, k0_pay5, k0_pay6, k0_pay7]
  have e1 : t.val * 1024 + (y0.val + 1056 - 1054) % 1056 = 2 + (t.val * 1024 + y0) := by omega
  have e2 : t.val * 1024 + (y0.val + 1056 - 1055) % 1056 = 2 + (t.val * 1024 + y0) - 1 := by omega
  have w0 : ∀ l, iblk m c 5 t (ix2 (0 : Fin 8) l) = m ((c : Thread nD τ).loc main_arg1) (ix2 (0 : Fin 3) l) := w_at m c t 0
  have w1 : ∀ l, iblk m c 5 t (ix2 (1 : Fin 8) l) = m ((c : Thread nD τ).loc main_arg1) (ix2 (1 : Fin 3) l) := w_at m c t 1
  have w2 : ∀ l, iblk m c 5 t (ix2 (2 : Fin 8) l) = m ((c : Thread nD τ).loc main_arg1) (ix2 (2 : Fin 3) l) := w_at m c t 2
  have hz : ∀ l : Fin 768, (iblk m c 0 t : FVec Ideal S1024x768 .f32) (ix2 y0 l) = m ((c : Thread nD τ).loc main_arg0) (ix2 ⟨t.val * 1024 + y0, by omega⟩ l) := fun l => by
    blk_point [iblk, V, idx t]
  have hd : ∀ l : Fin 256, (iblk m c 1 t : FVec Ideal S1024x256 .f32) (ix2 y0 l) = m ((c : Thread nD τ).loc main_arg2) (ix2 ⟨t.val * 1024 + y0, by omega⟩ l) := fun l => by
    blk_point [iblk, V, idx t]
  by_cases h1 : y1.val < 256
  · simp only [h1, dite_true, out_at, e1, e2, din, w0, w1, w2, hz]
    rw [add_rev]
  · by_cases h2 : y1.val - 256 < 256
    · simp only [h1, h2, dite_true, dite_false, ext_two, ext_one, ext_same, conv, w0, w1, w2, hd]
    · simp only [h1, h2, dite_false, out_at, e1, e2, din, w0, w1, w2, hz]
      rw [add_rev]

/-- The input's gradient, as the kernel leaves it. -/
theorem final_dz (c : Dev nD) : (dats m 0 c).arrAt 6 (cfgs 0).N
    = val_main_v66 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  by_cases h : t.val % 8 = 0
  · rw [outsAt0_A m c t h]
    frame_out
    idx_vars y
    exact dz_point m c t y0 y1
  · rw [outsAt0_B m c t h]
    frame_out
    idx_vars y
    exact dz_point m c t y0 y1

theorem dw_zero (j) : k0_pay2 (F := Ideal) j = 0 := by pointwise [k0_pay2]

/-- What a block adds to the taps' gradient. -/
theorem dw_step (c : Dev nD) (t : Fin cfg0.N) (a : FVec Ideal S8x256 .f32) (k : Fin 8) (l : Fin 256) :
    k0_pay3 (F := Ideal) (k0_pay7 (grid0.coords t) (iblk m c 0 t) (iblk m c 2 t))
      (k0_pay10 (BitVec.ofNat 32 (grid0.coords t 0).val) (iblk m c 3 t) (iblk m c 4 t) (k0_pay9 (iblk m c 0 t) (iblk m c 1 t)))
      (iota Kind.tc S8x256 32 [0] iota_S8x256_d0_w32)
      (k0_pay11 (BitVec.ofNat 32 (grid0.coords t 0).val) (iblk m c 3 t) (iblk m c 4 t)
        (k0_pay5 (grid0.coords t) (iblk m c 0 t) (iblk m c 2 t)) (k0_pay9 (iblk m c 0 t) (iblk m c 1 t)))
      k0_pay13
      (k0_pay14 (BitVec.ofNat 32 (grid0.coords t 0).val) (iblk m c 3 t) (iblk m c 4 t)
        (k0_pay6 (grid0.coords t) (iblk m c 0 t) (iblk m c 2 t)) (k0_pay9 (iblk m c 0 t) (iblk m c 1 t))) a (ix2 k l)
      = a (ix2 k l) + ∑ r : Fin 1024, if k.val < 3 then dout (m ((c : Thread nD τ).loc main_arg0)) (m ((c : Thread nD τ).loc main_arg2)) (t.val * 1024 + r) l
          * past (m ((c : Thread nD τ).loc main_arg0)) (t.val * 1024 + r + k) l else 0 := by
  pointwise [k0_pay3, k0_pay11, k0_pay13, k0_pay14, k0_pay5, k0_pay6, k0_pay7]
  simp only [out_at, ext_two, ext_one, ext_same, Nat.add_comm 1, Nat.add_comm 2]
  rw [row_zero, row_one, row_two, select_ite, select_ite, select_ite]
  fin_vals k with hk
  all_goals simp [hk]

/-- The taps' gradient, as the kernel leaves it. -/
theorem final_dw (c : Dev nD) : (dats m 0 c).arrAt 7 (cfgs 0).N
    = val_main_v67 (F := Ideal) (m ((c : Thread nD τ).loc main_arg0)) (m ((c : Thread nD τ).loc main_arg2)) := by
  refine (dats m 0 c).arrAt_eq_of_after_last 7 t0_7 (by decide +kernel) _ fun j => ?_
  blk_simp
  idx_vars j
  rw [after0_7, Pipeline.eq_sum_fin_of_reset_step_apply_last (fun n h => (outsAt0 m c n h).2) 8 (fun _ => 0)
    (fun p i => ∑ r : Fin 1024, if (i 0).val < 3 then dout (m ((c : Thread nD τ).loc main_arg0)) (m ((c : Thread nD τ).loc main_arg2)) (p * 1024 + r) (i 1)
          * past (m ((c : Thread nD τ).loc main_arg0)) (p * 1024 + r + (i 0).val) (i 1) else 0)
    (fun t h j => by rw [outsAt0_A m c t h]; frame_out; idx_vars j; exact (dw_step m c t _ j0 j1).trans (by rw [dw_zero]; rfl))
    (fun t h j => by rw [outsAt0_B m c t h]; frame_out; idx_vars j; exact dw_step m c t _ j0 j1)
    (le_of_eq N_0) t0_7 rfl _, zero_add, ref_dw]
  by_cases h3 : j0.val < 3
  · rw [if_pos h3]
    refine Fin.sum_mul_add_congr fun p r h => ?_
    exact if_pos h3
  · rw [if_neg h3]
    refine Finset.sum_eq_zero (M := EReal) fun p _ => Finset.sum_eq_zero fun r _ => ?_
    exact if_neg h3

end Cert.SConvIdeal.Value

end

end
-- ==== Proof.FoxFrame.lean ====
/- The attention backward's run: what each grid point leaves in the buffers, in closed form. -/
module

public import proofs.«01_k».proof.Proof.Gen.FoxBwdIdeal.Frame
public import proofs.«01_k».proof.Proof.Gen.FoxBwdIdeal.Loops
public import Idealize.ShloMosaic.Lib.VecWindow
public import Idealize.ShloMosaic.Lib.Claim

@[expose] public section

set_option maxRecDepth 16384

noncomputable section

namespace Cert.FoxBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one point computes, as functions of the values it finds -/

/-- One query tile of the loop over a key tile: the carried gradients of keys and values, and the gradient of the queries so far. -/
def tripS (i : grid0.Coords) (v4 v6 : FVec F S512x128 .bf16) (q : Vec F S8192x128 .bf16) (d : Vec F S8192x128 .f32) (D L : Vec F S8x8192 .f32)
    (k : Fin (k0_t1_loop i).trips) (s : (FVec F S512x128 .f32 × FVec F S512x128 .f32) × Vec F S8192x128 .f32) :
    (FVec F S512x128 .f32 × FVec F S512x128 .f32) × Vec F S8192x128 .f32 :=
  let v65 : Vec F S512x128 .bf16 := VecWindow.window q (k0_off3 i k) S512x128.size (k0_off3_inb i k)
  let v68 : Vec F S512x128 .f32 := VecWindow.window d (k0_off3 i k) S512x128.size (k0_off3_inb i k)
  let v73 : Vec F S1x512 .f32 := VecWindow.window L (k0_off4 i k) S1x512.size (k0_off4_inb i k)
  let v79 : Vec F S1x512 .f32 := VecWindow.window D (k0_off4 i k) S1x512.size (k0_off4_inb i k)
  let v85 : Vec F S512x128 .f32 := VecWindow.window s.2 (k0_off3 i k) S512x128.size (k0_off3_inb i k)
  ((k0_pay9 v4 v6 s.1.1 v65 v68 v73 v79, k0_pay10 v4 s.1.2 v65 v68 v73),
    VecWindow.put s.2 (k0_off3 i k) S512x128.size (k0_pay8 v4 v6 v65 v68 v73 v79 v85))

/-- The loop after `n` query tiles. -/
def loopS (i : grid0.Coords) (v4 v6 : FVec F S512x128 .bf16) (q : Vec F S8192x128 .bf16) (d : Vec F S8192x128 .f32) (D L : Vec F S8x8192 .f32)
    (init : (FVec F S512x128 .f32 × FVec F S512x128 .f32) × Vec F S8192x128 .f32) :
    ℕ → (FVec F S512x128 .f32 × FVec F S512x128 .f32) × Vec F S8192x128 .f32
  | 0 => init
  | n + 1 => if h : n < (k0_t1_loop i).trips then tripS i v4 v6 q d D L ⟨n, h⟩ (loopS i v4 v6 q d D L init n) else loopS i v4 v6 q d D L init n

/-- What a point starts the loop with: the diagonal tile's terms, over the gradient of the queries `A` found. -/
def startS (i : grid0.Coords) (q : Vec F S8192x128 .bf16) (kk vv : Vec F S512x128 .bf16) (d : Vec F S8192x128 .f32) (A : Vec F S8192x128 .f32) (D L : Vec F S8x8192 .f32) :
    (FVec F S512x128 .f32 × FVec F S512x128 .f32) × Vec F S8192x128 .f32 :=
  let v12 : Vec F S512x128 .bf16 := VecWindow.window q (k0_off1 i) S512x128.size (k0_off1_inb i)
  let v15 : Vec F S512x128 .f32 := VecWindow.window d (k0_off1 i) S512x128.size (k0_off1_inb i)
  let v20 : Vec F S1x512 .f32 := VecWindow.window L (k0_off2 i) S1x512.size (k0_off2_inb i)
  let v31 : Vec F S1x512 .f32 := VecWindow.window D (k0_off2 i) S1x512.size (k0_off2_inb i)
  let v37 : Vec F S512x128 .f32 := VecWindow.window A (k0_off1 i) S512x128.size (k0_off1_inb i)
  ((k0_pay2 k0_pay24 (k0_pay26 v12) (k0_pay29 kk vv v12 v15 v20 v31), k0_pay3 k0_pay25 (k0_pay27 v15) (k0_pay28 kk v12 v20)),
    VecWindow.put A (k0_off1 i) S512x128.size (k0_pay1 v37 (k0_pay30 kk vv v12 v15 v20 v31)))

/-- A point whole: the gradients of its key tile and of its value tile, and the gradient of the queries after it. -/
def pointS (i : grid0.Coords) (q : Vec F S8192x128 .bf16) (kk vv : Vec F S512x128 .bf16) (d : Vec F S8192x128 .f32) (A : Vec F S8192x128 .f32) (D L : Vec F S8x8192 .f32) :
    (FVec F S512x128 .f32 × FVec F S512x128 .f32) × Vec F S8192x128 .f32 :=
  loopS i (k0_pay22 kk) (k0_pay23 vv) q d D L (startS i q kk vv d A D L) (k0_t1_loop i).trips

/-- The loop's state as run is the loop's state in values. -/
theorem st_eq (𝒱 : Variants) (c : Dev nD) (bd : Option 𝒱.V) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .f32) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S8192x128 .f32) (harg10 : arg10.IsWhole) (arg11 : Memref sig .tc .vmem S8x8192 .f32) (harg11 : arg11.IsWhole) (arg12 : Memref sig .tc .vmem S8x8192 .f32) (harg12 : arg12.IsWhole) (v4 : FVec F S512x128 .bf16) (v6 : FVec F S512x128 .bf16) (X_arg2 : BufTy.Contents (Elt F) arg2.view.ty) (X_arg5 : BufTy.Contents (Elt F) arg5.view.ty) (X_arg11 : BufTy.Contents (Elt F) arg11.view.ty) (X_arg12 : BufTy.Contents (Elt F) arg12.view.ty) (G : BufTy.Contents (Elt F) arg10.view.ty) (init : FVec F S512x128 .f32 × FVec F S512x128 .f32)
    (n : ℕ) (hn : n ≤ (k0_t1_loop i).trips) :
    ((st_k0_t1 (F := F) 𝒱 c bd i arg2 harg2 arg3 harg3 arg4 harg4 arg5 harg5 arg6 harg6 arg7 harg7 arg8 harg8 arg9 harg9 arg10 harg10 arg11 harg11 arg12 harg12 v4 v6 X_arg2 X_arg5 X_arg11 X_arg12 G init n).1,
      arg10.view.read (Elt F) (arg10.view.writes (Elt F) G (st_k0_t1 (F := F) 𝒱 c bd i arg2 harg2 arg3 harg3 arg4 harg4 arg5 harg5 arg6 harg6 arg7 harg7 arg8 harg8 arg9 harg9 arg10 harg10 arg11 harg11 arg12 harg12 v4 v6 X_arg2 X_arg5 X_arg11 X_arg12 G init n).2))
    = loopS i v4 v6 (arg2.view.read (Elt F) X_arg2) (arg5.view.read (Elt F) X_arg5) (arg11.view.read (Elt F) X_arg11) (arg12.view.read (Elt F) X_arg12) (init, arg10.view.read (Elt F) G) n := by
  induction n with
  | zero => rfl
  | succ n ih =>
    have h : n < (k0_t1_loop i).trips := hn
    rw [st_k0_t1_succ 𝒱 c bd i arg2 harg2 arg3 harg3 arg4 harg4 arg5 harg5 arg6 harg6 arg7 harg7 arg8 harg8 arg9 harg9 arg10 harg10 arg11 harg11 arg12 harg12 v4 v6 X_arg2 X_arg5 X_arg11 X_arg12 G init ⟨n, h⟩]
    have ih := ih h.le
    rw [loopS, dif_pos h, ← ih]
    unfold tripR_k0_t1 tripL_k0_t1 trip_k0_t1 tripS
    dsimp only
    refine Prod.ext rfl ?_
    dsimp only [List.cons_append, List.nil_append]
    rw [View.read_writes_cons_put _ _ _ _ _ rfl]
    rfl

/-- The remainder loop makes no trip. -/
theorem trips_t2 (i : grid0.Coords) : (k0_t2_loop i).trips = 0 := by
  have h : ∀ j : Fin 16, (⟨(Scalar.addi (Scalar.addi (BitVec.ofNat 32 j.val) 1#32) (Scalar.muli (Scalar.divsi (Scalar.subi (16#32) (Scalar.addi (BitVec.ofNat 32 j.val) 1#32)) 1#32) 1#32)), Scalar.addi (Scalar.addi (BitVec.ofNat 32 j.val) 1#32) (Scalar.subi (16#32) (Scalar.addi (BitVec.ofNat 32 j.val) 1#32)), 1#32⟩ : Scf.Loop 32).trips = 0 := by decide +kernel
  exact h (i 1)

/-- A load at an offset reads the window of the values there. -/
theorem readAt_window {s : Shape} {e : EltTy} {sp : Space} (v : View sig .tc sp s e) (f : v.ty.Contents (Elt F)) {off size : Fin s.rank → ℕ} (inb : ∀ a, off a + size a ≤ s.size a) {x : s.Idx → Elt F e} (h : v.read (Elt F) f = x) :
    v.readAt (Elt F) (Rect.unit off size inb).toLoadRect f = VecWindow.window x off size inb := by
  subst h; rfl

/-- The remainder loop before its first trip. -/
theorem t2_zero (𝒱 : Variants) (c : Dev nD) (bd : Option 𝒱.V) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .f32) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S8192x128 .f32) (harg10 : arg10.IsWhole) (arg11 : Memref sig .tc .vmem S8x8192 .f32) (harg11 : arg11.IsWhole) (arg12 : Memref sig .tc .vmem S8x8192 .f32) (harg12 : arg12.IsWhole) (v4 : FVec F S512x128 .bf16) (v6 : FVec F S512x128 .bf16) (X_arg2 : BufTy.Contents (Elt F) arg2.view.ty) (X_arg5 : BufTy.Contents (Elt F) arg5.view.ty) (X_arg11 : BufTy.Contents (Elt F) arg11.view.ty) (X_arg12 : BufTy.Contents (Elt F) arg12.view.ty) (G : BufTy.Contents (Elt F) arg10.view.ty) (init : FVec F S512x128 .f32 × FVec F S512x128 .f32) :
    st_k0_t2 (F := F) 𝒱 c bd i arg2 harg2 arg3 harg3 arg4 harg4 arg5 harg5 arg6 harg6 arg7 harg7 arg8 harg8 arg9 harg9 arg10 harg10 arg11 harg11 arg12 harg12 v4 v6 X_arg2 X_arg5 X_arg11 X_arg12 G init 0 = (init, []) := rfl

/-- Both loops as run, in values: the second makes no trip. -/
theorem loops_eq (𝒱 : Variants) (c : Dev nD) (bd : Option 𝒱.V) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .f32) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S8192x128 .f32) (harg10 : arg10.IsWhole) (arg11 : Memref sig .tc .vmem S8x8192 .f32) (harg11 : arg11.IsWhole) (arg12 : Memref sig .tc .vmem S8x8192 .f32) (harg12 : arg12.IsWhole) (v4 : FVec F S512x128 .bf16) (v6 : FVec F S512x128 .bf16) (X_arg2 : BufTy.Contents (Elt F) arg2.view.ty) (X_arg5 : BufTy.Contents (Elt F) arg5.view.ty) (X_arg11 : BufTy.Contents (Elt F) arg11.view.ty) (X_arg12 : BufTy.Contents (Elt F) arg12.view.ty) (G : BufTy.Contents (Elt F) arg10.view.ty) (P : List (View.Piece (Elt F) S8192x128 .f32)) (init : FVec F S512x128 .f32 × FVec F S512x128 .f32) :
    ((st_k0_t2 (F := F) 𝒱 c bd i arg2 harg2 arg3 harg3 arg4 harg4 arg5 harg5 arg6 harg6 arg7 harg7 arg8 harg8 arg9 harg9 arg10 harg10 arg11 harg11 arg12 harg12 v4 v6 X_arg2 X_arg5 X_arg11 X_arg12 (arg10.view.writes (Elt F) G ((st_k0_t1 (F := F) 𝒱 c bd i arg2 harg2 arg3 harg3 arg4 harg4 arg5 harg5 arg6 harg6 arg7 harg7 arg8 harg8 arg9 harg9 arg10 harg10 arg11 harg11 arg12 harg12 v4 v6 X_arg2 X_arg5 X_arg11 X_arg12 (arg10.view.writes (Elt F) G P) init (k0_t1_loop i).trips).2 ++ P)) ((st_k0_t1 (F := F) 𝒱 c bd i arg2 harg2 arg3 harg3 arg4 harg4 arg5 harg5 arg6 harg6 arg7 harg7 arg8 harg8 arg9 harg9 arg10 harg10 arg11 harg11 arg12 harg12 v4 v6 X_arg2 X_arg5 X_arg11 X_arg12 (arg10.view.writes (Elt F) G P) init (k0_t1_loop i).trips).1.1, (st_k0_t1 (F := F) 𝒱 c bd i arg2 harg2 arg3 harg3 arg4 harg4 arg5 harg5 arg6 harg6 arg7 harg7 arg8 harg8 arg9 harg9 arg10 harg10 arg11 harg11 arg12 harg12 v4 v6 X_arg2 X_arg5 X_arg11 X_arg12 (arg10.view.writes (Elt F) G P) init (k0_t1_loop i).trips).1.2) (k0_t2_loop i).trips).1,
      arg10.view.read (Elt F) (arg10.view.writes (Elt F) G ((st_k0_t2 (F := F) 𝒱 c bd i arg2 harg2 arg3 harg3 arg4 harg4 arg5 harg5 arg6 harg6 arg7 harg7 arg8 harg8 arg9 harg9 arg10 harg10 arg11 harg11 arg12 harg12 v4 v6 X_arg2 X_arg5 X_arg11 X_arg12 (arg10.view.writes (Elt F) G ((st_k0_t1 (F := F) 𝒱 c bd i arg2 harg2 arg3 harg3 arg4 harg4 arg5 harg5 arg6 harg6 arg7 harg7 arg8 harg8 arg9 harg9 arg10 harg10 arg11 harg11 arg12 harg12 v4 v6 X_arg2 X_arg5 X_arg11 X_arg12 (arg10.view.writes (Elt F) G P) init (k0_t1_loop i).trips).2 ++ P)) ((st_k0_t1 (F := F) 𝒱 c bd i arg2 harg2 arg3 harg3 arg4 harg4 arg5 harg5 arg6 harg6 arg7 harg7 arg8 harg8 arg9 harg9 arg10 harg10 arg11 harg11 arg12 harg12 v4 v6 X_arg2 X_arg5 X_arg11 X_arg12 (arg10.view.writes (Elt F) G P) init (k0_t1_loop i).trips).1.1, (st_k0_t1 (F := F) 𝒱 c bd i arg2 harg2 arg3 harg3 arg4 harg4 arg5 harg5 arg6 harg6 arg7 harg7 arg8 harg8 arg9 harg9 arg10 harg10 arg11 harg11 arg12 harg12 v4 v6 X_arg2 X_arg5 X_arg11 X_arg12 (arg10.view.writes (Elt F) G P) init (k0_t1_loop i).trips).1.2) (k0_t2_loop i).trips).2 ++ ((st_k0_t1 (F := F) 𝒱 c bd i arg2 harg2 arg3 harg3 arg4 harg4 arg5 harg5 arg6 harg6 arg7 harg7 arg8 harg8 arg9 harg9 arg10 harg10 arg11 harg11 arg12 harg12 v4 v6 X_arg2 X_arg5 X_arg11 X_arg12 (arg10.view.writes (Elt F) G P) init (k0_t1_loop i).trips).2 ++ P))))
    = loopS i v4 v6 (arg2.view.read (Elt F) X_arg2) (arg5.view.read (Elt F) X_arg5) (arg11.view.read (Elt F) X_arg11) (arg12.view.read (Elt F) X_arg12) (init, arg10.view.read (Elt F) (arg10.view.writes (Elt F) G P)) (k0_t1_loop i).trips := by
  rw [trips_t2, t2_zero, List.nil_append, View.writes_append]
  simp only [Prod.mk.eta]
  exact st_eq 𝒱 c bd i arg2 harg2 arg3 harg3 arg4 harg4 arg5 harg5 arg6 harg6 arg7 harg7 arg8 harg8 arg9 harg9 arg10 harg10 arg11 harg11 arg12 harg12 v4 v6 X_arg2 X_arg5 X_arg11 X_arg12 (arg10.view.writes (Elt F) G P) init (k0_t1_loop i).trips le_rfl

/-- The loops from the diagonal tile's terms on, over the contents found: the point's values. -/
theorem loops_point (𝒱 : Variants) (c : Dev nD) (bd : Option 𝒱.V) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .f32) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S8192x128 .f32) (harg10 : arg10.IsWhole) (arg11 : Memref sig .tc .vmem S8x8192 .f32) (harg11 : arg11.IsWhole) (arg12 : Memref sig .tc .vmem S8x8192 .f32) (harg12 : arg12.IsWhole)
    (q : Vec F S8192x128 .bf16) (kk vv : Vec F S512x128 .bf16) (d A : Vec F S8192x128 .f32) (D L : Vec F S8x8192 .f32)
    (f2 : BufTy.Contents (Elt F) arg2.view.ty) (f5 : BufTy.Contents (Elt F) arg5.view.ty) (f10 : BufTy.Contents (Elt F) arg10.view.ty) (P : List (View.Piece (Elt F) S8192x128 .f32)) (f11 : BufTy.Contents (Elt F) arg11.view.ty) (f12 : BufTy.Contents (Elt F) arg12.view.ty)
    (v3 v5 v12 : Vec F S512x128 .bf16) (v15 v37 : Vec F S512x128 .f32) (v20 v31 : Vec F S1x512 .f32)
    (h2 : arg2.view.read (Elt F) f2 = q) (h5 : arg5.view.read (Elt F) f5 = d) (h10 : arg10.view.read (Elt F) (arg10.view.writes (Elt F) f10 P) = A) (h11 : arg11.view.read (Elt F) f11 = D) (h12 : arg12.view.read (Elt F) f12 = L)
    (e3 : v3 = kk) (e5 : v5 = vv) (e12 : v12 = VecWindow.window q (k0_off1 i) S512x128.size (k0_off1_inb i)) (e15 : v15 = VecWindow.window d (k0_off1 i) S512x128.size (k0_off1_inb i)) (e37 : v37 = VecWindow.window A (k0_off1 i) S512x128.size (k0_off1_inb i)) (e20 : v20 = VecWindow.window L (k0_off2 i) S1x512.size (k0_off2_inb i)) (e31 : v31 = VecWindow.window D (k0_off2 i) S1x512.size (k0_off2_inb i)) :
    ((st_k0_t2 (F := F) 𝒱 c bd i arg2 harg2 arg3 harg3 arg4 harg4 arg5 harg5 arg6 harg6 arg7 harg7 arg8 harg8 arg9 harg9 arg10 harg10 arg11 harg11 arg12 harg12 (k0_pay22 v3) (k0_pay23 v5) f2 f5 f11 f12 (arg10.view.writes (Elt F) f10 ((st_k0_t1 (F := F) 𝒱 c bd i arg2 harg2 arg3 harg3 arg4 harg4 arg5 harg5 arg6 harg6 arg7 harg7 arg8 harg8 arg9 harg9 arg10 harg10 arg11 harg11 arg12 harg12 (k0_pay22 v3) (k0_pay23 v5) f2 f5 f11 f12 (arg10.view.writes (Elt F) f10 (⟨Rect.unit (k0_off1 i) S512x128.size (k0_off1_inb i), k0_pay1 v37 (k0_pay30 v3 v5 v12 v15 v20 v31)⟩ :: P)) (k0_pay2 k0_pay24 (k0_pay26 v12) (k0_pay29 v3 v5 v12 v15 v20 v31), k0_pay3 k0_pay25 (k0_pay27 v15) (k0_pay28 v3 v12 v20)) (k0_t1_loop i).trips).2 ++ (⟨Rect.unit (k0_off1 i) S512x128.size (k0_off1_inb i), k0_pay1 v37 (k0_pay30 v3 v5 v12 v15 v20 v31)⟩ :: P))) ((st_k0_t1 (F := F) 𝒱 c bd i arg2 harg2 arg3 harg3 arg4 harg4 arg5 harg5 arg6 harg6 arg7 harg7 arg8 harg8 arg9 harg9 arg10 harg10 arg11 harg11 arg12 harg12 (k0_pay22 v3) (k0_pay23 v5) f2 f5 f11 f12 (arg10.view.writes (Elt F) f10 (⟨Rect.unit (k0_off1 i) S512x128.size (k0_off1_inb i), k0_pay1 v37 (k0_pay30 v3 v5 v12 v15 v20 v31)⟩ :: P)) (k0_pay2 k0_pay24 (k0_pay26 v12) (k0_pay29 v3 v5 v12 v15 v20 v31), k0_pay3 k0_pay25 (k0_pay27 v15) (k0_pay28 v3 v12 v20)) (k0_t1_loop i).trips).1.1, (st_k0_t1 (F := F) 𝒱 c bd i arg2 harg2 arg3 harg3 arg4 harg4 arg5 harg5 arg6 harg6 arg7 harg7 arg8 harg8 arg9 harg9 arg10 harg10 arg11 harg11 arg12 harg12 (k0_pay22 v3) (k0_pay23 v5) f2 f5 f11 f12 (arg10.view.writes (Elt F) f10 (⟨Rect.unit (k0_off1 i) S512x128.size (k0_off1_inb i), k0_pay1 v37 (k0_pay30 v3 v5 v12 v15 v20 v31)⟩ :: P)) (k0_pay2 k0_pay24 (k0_pay26 v12) (k0_pay29 v3 v5 v12 v15 v20 v31), k0_pay3 k0_pay25 (k0_pay27 v15) (k0_pay28 v3 v12 v20)) (k0_t1_loop i).trips).1.2) (k0_t2_loop i).trips).1,
      arg10.view.read (Elt F) (arg10.view.writes (Elt F) f10 ((st_k0_t2 (F := F) 𝒱 c bd i arg2 harg2 arg3 harg3 arg4 harg4 arg5 harg5 arg6 harg6 arg7 harg7 arg8 harg8 arg9 harg9 arg10 harg10 arg11 harg11 arg12 harg12 (k0_pay22 v3) (k0_pay23 v5) f2 f5 f11 f12 (arg10.view.writes (Elt F) f10 ((st_k0_t1 (F := F) 𝒱 c bd i arg2 harg2 arg3 harg3 arg4 harg4 arg5 harg5 arg6 harg6 arg7 harg7 arg8 harg8 arg9 harg9 arg10 harg10 arg11 harg11 arg12 harg12 (k0_pay22 v3) (k0_pay23 v5) f2 f5 f11 f12 (arg10.view.writes (Elt F) f10 (⟨Rect.unit (k0_off1 i) S512x128.size (k0_off1_inb i), k0_pay1 v37 (k0_pay30 v3 v5 v12 v15 v20 v31)⟩ :: P)) (k0_pay2 k0_pay24 (k0_pay26 v12) (k0_pay29 v3 v5 v12 v15 v20 v31), k0_pay3 k0_pay25 (k0_pay27 v15) (k0_pay28 v3 v12 v20)) (k0_t1_loop i).trips).2 ++ (⟨Rect.unit (k0_off1 i) S512x128.size (k0_off1_inb i), k0_pay1 v37 (k0_pay30 v3 v5 v12 v15 v20 v31)⟩ :: P))) ((st_k0_t1 (F := F) 𝒱 c bd i arg2 harg2 arg3 harg3 arg4 harg4 arg5 harg5 arg6 harg6 arg7 harg7 arg8 harg8 arg9 harg9 arg10 harg10 arg11 harg11 arg12 harg12 (k0_pay22 v3) (k0_pay23 v5) f2 f5 f11 f12 (arg10.view.writes (Elt F) f10 (⟨Rect.unit (k0_off1 i) S512x128.size (k0_off1_inb i), k0_pay1 v37 (k0_pay30 v3 v5 v12 v15 v20 v31)⟩ :: P)) (k0_pay2 k0_pay24 (k0_pay26 v12) (k0_pay29 v3 v5 v12 v15 v20 v31), k0_pay3 k0_pay25 (k0_pay27 v15) (k0_pay28 v3 v12 v20)) (k0_t1_loop i).trips).1.1, (st_k0_t1 (F := F) 𝒱 c bd i arg2 harg2 arg3 harg3 arg4 harg4 arg5 harg5 arg6 harg6 arg7 harg7 arg8 harg8 arg9 harg9 arg10 harg10 arg11 harg11 arg12 harg12 (k0_pay22 v3) (k0_pay23 v5) f2 f5 f11 f12 (arg10.view.writes (Elt F) f10 (⟨Rect.unit (k0_off1 i) S512x128.size (k0_off1_inb i), k0_pay1 v37 (k0_pay30 v3 v5 v12 v15 v20 v31)⟩ :: P)) (k0_pay2 k0_pay24 (k0_pay26 v12) (k0_pay29 v3 v5 v12 v15 v20 v31), k0_pay3 k0_pay25 (k0_pay27 v15) (k0_pay28 v3 v12 v20)) (k0_t1_loop i).trips).1.2) (k0_t2_loop i).trips).2 ++ ((st_k0_t1 (F := F) 𝒱 c bd i arg2 harg2 arg3 harg3 arg4 harg4 arg5 harg5 arg6 harg6 arg7 harg7 arg8 harg8 arg9 harg9 arg10 harg10 arg11 harg11 arg12 harg12 (k0_pay22 v3) (k0_pay23 v5) f2 f5 f11 f12 (arg10.view.writes (Elt F) f10 (⟨Rect.unit (k0_off1 i) S512x128.size (k0_off1_inb i), k0_pay1 v37 (k0_pay30 v3 v5 v12 v15 v20 v31)⟩ :: P)) (k0_pay2 k0_pay24 (k0_pay26 v12) (k0_pay29 v3 v5 v12 v15 v20 v31), k0_pay3 k0_pay25 (k0_pay27 v15) (k0_pay28 v3 v12 v20)) (k0_t1_loop i).trips).2 ++ (⟨Rect.unit (k0_off1 i) S512x128.size (k0_off1_inb i), k0_pay1 v37 (k0_pay30 v3 v5 v12 v15 v20 v31)⟩ :: P)))))
    = pointS i q kk vv d A D L := by
  refine (loops_eq 𝒱 c bd i arg2 harg2 arg3 harg3 arg4 harg4 arg5 harg5 arg6 harg6 arg7 harg7 arg8 harg8 arg9 harg9 arg10 harg10 arg11 harg11 arg12 harg12 _ _ f2 f5 f11 f12 f10 _ _).trans ?_
  rw [View.read_writes_cons_put _ _ _ _ _ rfl, h2, h5, h10, h11, h12]
  subst e3 e5 e12 e15 e37 e20 e31
  rfl

/-- The first branch's condition: the key tile is the first. -/
abbrev cond0_0 (i : grid0.Coords) : Prop := (Scalar.cmpi .ne (Scalar.extui (Scalar.cmpi .eq (BitVec.ofNat 32 (i 1).val) 0#32)) 0#32) = 1#1

set_option maxHeartbeats 1000000 in
theorem kernelRun0_B (c : Dev nD) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .f32) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S8192x128 .f32) (harg10 : arg10.IsWhole) (arg11 : Memref sig .tc .vmem S8x8192 .f32) (harg11 : arg11.IsWhole) (arg12 : Memref sig .tc .vmem S8x8192 .f32) (harg12 : arg12.IsWhole) (hc0 : ¬cond0_0 i) (hc1 : ¬(k0_cond2 i = 1#1))
    (q : Vec F S8192x128 .bf16) (kk vv : Vec F S512x128 .bf16) (d o dq : Vec F S8192x128 .f32) (A : Vec F S8192x128 .f32) (D L : Vec F S8x8192 .f32) (E : Set ℕ) (K : PUnit → sProp 𝕄) :
    iprop(owns (c : Thread nD τ) arg2 fullShare q ∗ owns (c : Thread nD τ) arg3 fullShare kk ∗ owns (c : Thread nD τ) arg4 fullShare vv ∗ owns (c : Thread nD τ) arg5 fullShare d ∗ owns (c : Thread nD τ) arg6 fullShare o ∗ owns (c : Thread nD τ) arg7 fullShare dq ∗ (∃ x, owns (c : Thread nD τ) arg8 fullShare x) ∗ (∃ x, owns (c : Thread nD τ) arg9 fullShare x) ∗ owns (c : Thread nD τ) arg10 fullShare A ∗ owns (c : Thread nD τ) arg11 fullShare D ∗ owns (c : Thread nD τ) arg12 fullShare L
        ∗ (iprop(owns (c : Thread nD τ) arg2 fullShare q ∗ owns (c : Thread nD τ) arg3 fullShare kk ∗ owns (c : Thread nD τ) arg4 fullShare vv ∗ owns (c : Thread nD τ) arg5 fullShare d ∗ owns (c : Thread nD τ) arg6 fullShare o ∗ owns (c : Thread nD τ) arg7 fullShare dq ∗ owns (c : Thread nD τ) arg8 fullShare (pointS i q kk vv d A D L).1.1 ∗ owns (c : Thread nD τ) arg9 fullShare (pointS i q kk vv d A D L).1.2 ∗ owns (c : Thread nD τ) arg10 fullShare (pointS i q kk vv d A D L).2 ∗ owns (c : Thread nD τ) arg11 fullShare D ∗ owns (c : Thread nD τ) arg12 fullShare L) -∗ K ⟨⟩))
      ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12) K := by
  simp only [cc0_fox_bwd_eq_skeleton]; unfold cc0_fox_bwd_skel
  simp only [k0_part1_eq_skeleton]
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%d8, %f8, -, H8⟩, ⟨%d9, %f9, -, H9⟩, ⟨%f10, %h10, H10⟩, ⟨%f11, %h11, H11⟩, ⟨%f12, %h12, H12⟩, Hk⟩
  sl_exec (disch := first | sl_exact hc0 | sl_exact hc1)
  sl_step
  iapply Hk
  isplitl [H2]
  · iexists _; isplitr; · ipureintro; exact h2
    iexact H2
  isplitl [H3]
  · iexists _; isplitr; · ipureintro; exact h3
    iexact H3
  isplitl [H4]
  · iexists _; isplitr; · ipureintro; exact h4
    iexact H4
  isplitl [H5]
  · iexists _; isplitr; · ipureintro; exact h5
    iexact H5
  isplitl [H6]
  · iexists _; isplitr; · ipureintro; exact h6
    iexact H6
  isplitl [H7]
  · iexists _; isplitr; · ipureintro; exact h7
    iexact H7
  have hP := loops_point Variants.none c none i arg2 harg2 arg3 harg3 arg4 harg4 arg5 harg5 arg6 harg6 arg7 harg7 arg8 harg8 arg9 harg9 arg10 harg10 arg11 harg11 arg12 harg12 q kk vv d A D L f2 f5 f10 [] f11 f12 _ _ _ _ _ _ _ h2 h5 h10 h11 h12 ((View.readAt_full _ f3 inb_S512x128_S512x128_0_0).trans h3) ((View.readAt_full _ f4 inb_S512x128_S512x128_0_0).trans h4) (readAt_window _ _ (k0_off1_inb i) h2) (readAt_window _ _ (k0_off1_inb i) h5) (readAt_window _ _ (k0_off1_inb i) h10) (readAt_window _ _ (k0_off2_inb i) h12) (readAt_window _ _ (k0_off2_inb i) h11)
  have hP := loops_point Variants.none c none i arg2 harg2 arg3 harg3 arg4 harg4 arg5 harg5 arg6 harg6 arg7 harg7 arg8 harg8 arg9 harg9 arg10 harg10 arg11 harg11 arg12 harg12 q kk vv d A D L f2 f5 f10 [] f11 f12 _ _ _ _ _ _ _ h2 h5 h10 h11 h12 ((View.readAt_full _ f3 inb_S512x128_S512x128_0_0).trans h3) ((View.readAt_full _ f4 inb_S512x128_S512x128_0_0).trans h4) (readAt_window _ _ (k0_off1_inb i) h2) (readAt_window _ _ (k0_off1_inb i) h5) (readAt_window _ _ (k0_off1_inb i) h10) (readAt_window _ _ (k0_off2_inb i) h12) (readAt_window _ _ (k0_off2_inb i) h11)
  isplitl [H8]
  · iexists _; isplitr
    rotate_left
    · iexact H8
    · ipureintro
      exact (View.read_writes_full _ _ inb_S512x128_S512x128_0_0 _ _).trans (congrArg (fun z => z.1.1) hP)
  isplitl [H9]
  · iexists _; isplitr
    rotate_left
    · iexact H9
    · ipureintro
      exact (View.read_writes_full _ _ inb_S512x128_S512x128_0_0 _ _).trans (congrArg (fun z => z.1.2) hP)
  isplitl [H10]
  · iexists _; isplitr
    rotate_left
    · iexact H10
    · ipureintro
      exact congrArg (fun z => z.2) hP
  isplitl [H11]
  · iexists _; isplitr; · ipureintro; exact h11
    iexact H11
  iexists _; isplitr; · ipureintro; exact h12
  iexact H12

set_option maxHeartbeats 1000000 in
theorem kernelRun0_C (c : Dev nD) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .f32) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S8192x128 .f32) (harg10 : arg10.IsWhole) (arg11 : Memref sig .tc .vmem S8x8192 .f32) (harg11 : arg11.IsWhole) (arg12 : Memref sig .tc .vmem S8x8192 .f32) (harg12 : arg12.IsWhole) (hc0 : ¬cond0_0 i) (hc1 : k0_cond2 i = 1#1)
    (q : Vec F S8192x128 .bf16) (kk vv : Vec F S512x128 .bf16) (d o : Vec F S8192x128 .f32) (A : Vec F S8192x128 .f32) (D L : Vec F S8x8192 .f32) (E : Set ℕ) (K : PUnit → sProp 𝕄) :
    iprop(owns (c : Thread nD τ) arg2 fullShare q ∗ owns (c : Thread nD τ) arg3 fullShare kk ∗ owns (c : Thread nD τ) arg4 fullShare vv ∗ owns (c : Thread nD τ) arg5 fullShare d ∗ owns (c : Thread nD τ) arg6 fullShare o ∗ (∃ x, owns (c : Thread nD τ) arg7 fullShare x) ∗ (∃ x, owns (c : Thread nD τ) arg8 fullShare x) ∗ (∃ x, owns (c : Thread nD τ) arg9 fullShare x) ∗ owns (c : Thread nD τ) arg10 fullShare A ∗ owns (c : Thread nD τ) arg11 fullShare D ∗ owns (c : Thread nD τ) arg12 fullShare L
        ∗ (iprop(owns (c : Thread nD τ) arg2 fullShare q ∗ owns (c : Thread nD τ) arg3 fullShare kk ∗ owns (c : Thread nD τ) arg4 fullShare vv ∗ owns (c : Thread nD τ) arg5 fullShare d ∗ owns (c : Thread nD τ) arg6 fullShare o ∗ owns (c : Thread nD τ) arg7 fullShare (k0_pay18 (pointS i q kk vv d A D L).2) ∗ owns (c : Thread nD τ) arg8 fullShare (pointS i q kk vv d A D L).1.1 ∗ owns (c : Thread nD τ) arg9 fullShare (pointS i q kk vv d A D L).1.2 ∗ owns (c : Thread nD τ) arg10 fullShare (pointS i q kk vv d A D L).2 ∗ owns (c : Thread nD τ) arg11 fullShare D ∗ owns (c : Thread nD τ) arg12 fullShare L) -∗ K ⟨⟩))
      ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12) K := by
  simp only [cc0_fox_bwd_eq_skeleton]; unfold cc0_fox_bwd_skel
  simp only [k0_part1_eq_skeleton]
  unfold owns
  iintro ⟨⟨%f2, %h2, H2⟩, ⟨%f3, %h3, H3⟩, ⟨%f4, %h4, H4⟩, ⟨%f5, %h5, H5⟩, ⟨%f6, %h6, H6⟩, ⟨%d7, %f7, -, H7⟩, ⟨%d8, %f8, -, H8⟩, ⟨%d9, %f9, -, H9⟩, ⟨%f10, %h10, H10⟩, ⟨%f11, %h11, H11⟩, ⟨%f12, %h12, H12⟩, Hk⟩
  sl_exec (disch := first | sl_exact hc0 | sl_exact hc1)
  sl_step
  iapply Hk
  isplitl [H2]
  · iexists _; isplitr; · ipureintro; exact h2
    iexact H2
  isplitl [H3]
  · iexists _; isplitr; · ipureintro; exact h3
    iexact H3
  isplitl [H4]
  · iexists _; isplitr; · ipureintro; exact h4
    iexact H4
  isplitl [H5]
  · iexists _; isplitr; · ipureintro; exact h5
    iexact H5
  isplitl [H6]
  · iexists _; isplitr; · ipureintro; exact h6
    iexact H6
  have hP := loops_point Variants.none c none i arg2 harg2 arg3 harg3 arg4 harg4 arg5 harg5 arg6 harg6 arg7 harg7 arg8 harg8 arg9 harg9 arg10 harg10 arg11 harg11 arg12 harg12 q kk vv d A D L f2 f5 f10 [] f11 f12 _ _ _ _ _ _ _ h2 h5 h10 h11 h12 ((View.readAt_full _ f3 inb_S512x128_S512x128_0_0).trans h3) ((View.readAt_full _ f4 inb_S512x128_S512x128_0_0).trans h4) (readAt_window _ _ (k0_off1_inb i) h2) (readAt_window _ _ (k0_off1_inb i) h5) (readAt_window _ _ (k0_off1_inb i) h10) (readAt_window _ _ (k0_off2_inb i) h12) (readAt_window _ _ (k0_off2_inb i) h11)
  have hP := loops_point Variants.none c none i arg2 harg2 arg3 harg3 arg4 harg4 arg5 harg5 arg6 harg6 arg7 harg7 arg8 harg8 arg9 harg9 arg10 harg10 arg11 harg11 arg12 harg12 q kk vv d A D L f2 f5 f10 [] f11 f12 _ _ _ _ _ _ _ h2 h5 h10 h11 h12 ((View.readAt_full _ f3 inb_S512x128_S512x128_0_0).trans h3) ((View.readAt_full _ f4 inb_S512x128_S512x128_0_0).trans h4) (readAt_window _ _ (k0_off1_inb i) h2) (readAt_window _ _ (k0_off1_inb i) h5) (readAt_window _ _ (k0_off1_inb i) h10) (readAt_window _ _ (k0_off2_inb i) h12) (readAt_window _ _ (k0_off2_inb i) h11)
  isplitl [H7]
  · iexists _; isplitr
    rotate_left
    · iexact H7
    · ipureintro
      exact (View.read_writes_full _ _ inb_S8192x128_S8192x128_0_0 _ _).trans (congrArg k0_pay18 ((View.readAt_full _ _ inb_S8192x128_S8192x128_0_0).trans (congrArg (fun z => z.2) hP)))
  isplitl [H8]
  · iexists _; isplitr
    rotate_left
    · iexact H8
    · ipureintro
      exact (View.read_writes_full _ _ inb_S512x128_S512x128_0_0 _ _).trans (congrArg (fun z => z.1.1) hP)
  isplitl [H9]
  · iexists _; isplitr
    rotate_left
    · iexact H9
    · ipureintro
      exact (View.read_writes_full _ _ inb_S512x128_S512x128_0_0 _ _).trans (congrArg (fun z => z.1.2) hP)
  isplitl [H10]
  · iexists _; isplitr
    rotate_left
    · iexact H10
    · ipureintro
      exact congrArg (fun z => z.2) hP
  isplitl [H11]
  · iexists _; isplitr; · ipureintro; exact h11
    iexact H11
  iexists _; isplitr; · ipureintro; exact h12
  iexact H12

set_option maxHeartbeats 1000000 in
theorem kernelRun0_A (c : Dev nD) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .f32) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S8192x128 .f32) (harg10 : arg10.IsWhole) (arg11 : Memref sig .tc .vmem S8x8192 .f32) (harg11 : arg11.IsWhole) (arg12 : Memref sig .tc .vmem S8x8192 .f32) (harg12 : arg12.IsWhole) (hc0 : cond0_0 i) (hc1 : ¬(k0_cond2 i = 1#1))
    (q : Vec F S8192x128 .bf16) (kk vv : Vec F S512x128 .bf16) (d o dq : Vec F S8192x128 .f32) (E : Set ℕ) (K : PUnit → sProp 𝕄) :
    iprop(owns (c : Thread nD τ) arg2 fullShare q ∗ owns (c : Thread nD τ) arg3 fullShare kk ∗ owns (c : Thread nD τ) arg4 fullShare vv ∗ owns (c : Thread nD τ) arg5 fullShare d ∗ owns (c : Thread nD τ) arg6 fullShare o ∗ owns (c : Thread nD τ) arg7 fullShare dq ∗ (∃ x, owns (c : Thread nD τ) arg8 fullShare x) ∗ (∃ x, owns (c : Thread nD τ) arg9 fullShare x) ∗ (∃ x, owns (c : Thread nD τ) arg10 fullShare x) ∗ (∃ x, owns (c : Thread nD τ) arg11 fullShare x) ∗ (∃ x, owns (c : Thread nD τ) arg12 fullShare x)
        ∗ (iprop(owns (c : Thread nD τ) arg2 fullShare q ∗ owns (c : Thread nD τ) arg3 fullShare kk ∗ owns (c : Thread nD τ) arg4 fullShare vv ∗ owns (c : Thread nD τ) arg5 fullShare d ∗ owns (c : Thread nD τ) arg6 fullShare o ∗ owns (c : Thread nD τ) arg7 fullShare dq ∗ owns (c : Thread nD τ) arg8 fullShare (pointS i q kk vv d k0_pay19 (k0_pay20 d o) (k0_pay21 o)).1.1 ∗ owns (c : Thread nD τ) arg9 fullShare (pointS i q kk vv d k0_pay19 (k0_pay20 d o) (k0_pay21 o)).1.2 ∗ owns (c : Thread nD τ) arg10 fullShare (pointS i q kk vv d k0_pay19 (k0_pay20 d o) (k0_pay21 o)).2 ∗ owns (c : Thread nD τ) arg11 fullShare (k0_pay20 d o) ∗ owns (c : Thread nD τ) arg12 fullShare (k0_pay21 o)) -∗ K ⟨⟩))
      ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12) K := by
  simp only [cc0_fox_bwd_eq_skeleton]; unfold cc0_fox_bwd_skel
  simp only [k0_part1_eq_skeleton]
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%d8, %f8, -, H8⟩, ⟨%d9, %f9, -, H9⟩, ⟨%d10, %f10, -, H10⟩, ⟨%d11, %f11, -, H11⟩, ⟨%d12, %f12, -, H12⟩, Hk⟩
  sl_exec (disch := first | sl_exact hc0 | sl_exact hc1)
  sl_step
  iapply Hk
  isplitl [H2]
  · iexists _; isplitr; · ipureintro; exact h2
    iexact H2
  isplitl [H3]
  · iexists _; isplitr; · ipureintro; exact h3
    iexact H3
  isplitl [H4]
  · iexists _; isplitr; · ipureintro; exact h4
    iexact H4
  isplitl [H5]
  · iexists _; isplitr; · ipureintro; exact h5
    iexact H5
  isplitl [H6]
  · iexists _; isplitr; · ipureintro; exact h6
    iexact H6
  isplitl [H7]
  · iexists _; isplitr; · ipureintro; exact h7
    iexact H7
  have h10 : arg10.view.read (Elt F) (arg10.view.writes (Elt F) arg10.view.junk [⟨Rect.unit ![0, 0] S8192x128.size inb_S8192x128_S8192x128_0_0, k0_pay19⟩]) = k0_pay19 := View.read_writes_full _ _ inb_S8192x128_S8192x128_0_0 _ _
  have h11 : arg11.view.read (Elt F) (arg11.view.writes (Elt F) arg11.view.junk [⟨Rect.unit ![0, 0] S8x8192.size inb_S8x8192_S8x8192_0_0, k0_pay20 (arg5.view.readAt (Elt F) (Rect.unit ![0, 0] S8192x128.size inb_S8192x128_S8192x128_0_0).toLoadRect f5) (arg6.view.readAt (Elt F) (Rect.unit ![0, 0] S8192x128.size inb_S8192x128_S8192x128_0_0).toLoadRect f6)⟩]) = k0_pay20 d o :=
    (View.read_writes_full _ _ inb_S8x8192_S8x8192_0_0 _ _).trans (congrArg₂ k0_pay20 ((View.readAt_full _ f5 inb_S8192x128_S8192x128_0_0).trans h5) ((View.readAt_full _ f6 inb_S8192x128_S8192x128_0_0).trans h6))
  have h12 : arg12.view.read (Elt F) (arg12.view.writes (Elt F) arg12.view.junk [⟨Rect.unit ![0, 0] S8x8192.size inb_S8x8192_S8x8192_0_0, k0_pay21 (arg6.view.readAt (Elt F) (Rect.unit ![0, 0] S8192x128.size inb_S8192x128_S8192x128_0_0).toLoadRect f6)⟩]) = k0_pay21 o :=
    (View.read_writes_full _ _ inb_S8x8192_S8x8192_0_0 _ _).trans (congrArg k0_pay21 ((View.readAt_full _ f6 inb_S8192x128_S8192x128_0_0).trans h6))
  have hP := loops_point Variants.none c none i arg2 harg2 arg3 harg3 arg4 harg4 arg5 harg5 arg6 harg6 arg7 harg7 arg8 harg8 arg9 harg9 arg10 harg10 arg11 harg11 arg12 harg12 q kk vv d k0_pay19 (k0_pay20 d o) (k0_pay21 o) f2 f5 arg10.view.junk _ _ _ _ _ _ _ _ _ _ h2 h5 h10 h11 h12 ((View.readAt_full _ f3 inb_S512x128_S512x128_0_0).trans h3) ((View.readAt_full _ f4 inb_S512x128_S512x128_0_0).trans h4) (readAt_window _ _ (k0_off1_inb i) h2) (readAt_window _ _ (k0_off1_inb i) h5) (readAt_window _ _ (k0_off1_inb i) h10) (readAt_window _ _ (k0_off2_inb i) h12) (readAt_window _ _ (k0_off2_inb i) h11)
  have hP := loops_point Variants.none c none i arg2 harg2 arg3 harg3 arg4 harg4 arg5 harg5 arg6 harg6 arg7 harg7 arg8 harg8 arg9 harg9 arg10 harg10 arg11 harg11 arg12 harg12 q kk vv d k0_pay19 (k0_pay20 d o) (k0_pay21 o) f2 f5 arg10.view.junk _ _ _ _ _ _ _ _ _ _ h2 h5 h10 h11 h12 ((View.readAt_full _ f3 inb_S512x128_S512x128_0_0).trans h3) ((View.readAt_full _ f4 inb_S512x128_S512x128_0_0).trans h4) (readAt_window _ _ (k0_off1_inb i) h2) (readAt_window _ _ (k0_off1_inb i) h5) (readAt_window _ _ (k0_off1_inb i) h10) (readAt_window _ _ (k0_off2_inb i) h12) (readAt_window _ _ (k0_off2_inb i) h11)
  isplitl [H8]
  · iexists _; isplitr
    rotate_left
    · iexact H8
    · ipureintro
      exact (View.read_writes_full _ _ inb_S512x128_S512x128_0_0 _ _).trans (congrArg (fun z => z.1.1) hP)
  isplitl [H9]
  · iexists _; isplitr
    rotate_left
    · iexact H9
    · ipureintro
      exact (View.read_writes_full _ _ inb_S512x128_S512x128_0_0 _ _).trans (congrArg (fun z => z.1.2) hP)
  isplitl [H10]
  · iexists _; isplitr
    rotate_left
    · iexact H10
    · ipureintro
      exact congrArg (fun z => z.2) hP
  isplitl [H11]
  · iexists _; isplitr
    rotate_left
    · iexact H11
    · ipureintro
      exact h11
  iexists _; isplitr
  rotate_left
  · iexact H12
  · ipureintro
    exact h12

/-! ## The points of the grid -/

theorem coord1 : ∀ t : Fin cfg0.N, (grid0.coords t 1).val = t.val % 16 :=
  (fun t => by
    have ht : t.val < 64 := Nat.lt_of_lt_of_eq t.isLt N_0
    have e1 : (grid0.coords t 1).val = t.val / 1 % 16 := Pipeline.Grid.coords_val t 1 (by decide) rfl
    rw [e1, Nat.div_one] : ∀ t : Fin grid0.N, (grid0.coords t 1).val = t.val % 16)

/-- The first branch is taken at the first key tile of a head. -/
theorem hcond0_0 (t : Fin cfg0.N) : cond0_0 (grid0.coords t) ↔ t.val % 16 = 0 := by
  have h : ∀ j : Fin 16, (Scalar.cmpi .ne (Scalar.extui (Scalar.cmpi .eq (BitVec.ofNat 32 j.val) 0#32)) 0#32) = 1#1 ↔ j.val = 0 := by decide +kernel
  have e := coord1 t
  exact (h (grid0.coords t 1)).trans (by rw [e])

/-- The last branch is taken at the last key tile of a head. -/
theorem hcond0_2 (t : Fin cfg0.N) : k0_cond2 (grid0.coords t) = 1#1 ↔ t.val % 16 = 15 := by
  have h : ∀ j : Fin 16, (Scalar.cmpi .ne (Scalar.extui (Scalar.cmpi .eq (BitVec.ofNat 32 j.val) 15#32)) 0#32) = 1#1 ↔ j.val = 15 := by decide +kernel
  have e := coord1 t
  exact (h (grid0.coords t 1)).trans (by rw [e])

abbrev ms0_0 (t : Fin cfg0.N) : Memref sig .tc .vmem S8192x128 .bf16 := win0_0.stage (cfg0.slots t 0)
abbrev ms0_1 (t : Fin cfg0.N) : Memref sig .tc .vmem S512x128 .bf16 := win0_1.stage (cfg0.slots t 1)
abbrev ms0_2 (t : Fin cfg0.N) : Memref sig .tc .vmem S512x128 .bf16 := win0_2.stage (cfg0.slots t 2)
abbrev ms0_3 (t : Fin cfg0.N) : Memref sig .tc .vmem S8192x128 .f32 := win0_3.stage (cfg0.slots t 3)
abbrev ms0_4 (t : Fin cfg0.N) : Memref sig .tc .vmem S8192x128 .f32 := win0_4.stage (cfg0.slots t 4)
abbrev ms0_5 (t : Fin cfg0.N) : Memref sig .tc .vmem S8192x128 .f32 := win0_5.stage (cfg0.slots t 5)
abbrev ms0_6 (t : Fin cfg0.N) : Memref sig .tc .vmem S512x128 .f32 := win0_6.stage (cfg0.slots t 6)
abbrev ms0_7 (t : Fin cfg0.N) : Memref sig .tc .vmem S512x128 .f32 := win0_7.stage (cfg0.slots t 7)
abbrev scM0_0 : Memref sig .tc .vmem S8192x128 .f32 := Memref.whole cc0_scratch0
abbrev scM0_1 : Memref sig .tc .vmem S8x8192 .f32 := Memref.whole cc0_scratch1
abbrev scM0_2 : Memref sig .tc .vmem S8x8192 .f32 := Memref.whole cc0_scratch2

/-- The region's invariant at its ends: the three scratches at anything. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

variable (m : (ℓ : Loc nD τ sig) → Buf (Elt F) ℓ) (ρ : Dev nD → PrngReg)

/-- What point `t` computes over the gradient of the queries `A`, the row dots `D` and the log-sums `L` it finds. -/
def pt (c : Dev nD) (t : Fin cfg0.N) (A : Vec F S8192x128 .f32) (D L : Vec F S8x8192 .f32) :
    (FVec F S512x128 .f32 × FVec F S512x128 .f32) × Vec F S8192x128 .f32 :=
  pointS (grid0.coords t) (iblk m c 0 t) (iblk m c 1 t) (iblk m c 2 t) (iblk m c 3 t) A D L

/-- The row dots and the log-sums of the head of point `t`. -/
def rowD (c : Dev nD) (t : Fin cfg0.N) : Vec F S8x8192 .f32 := k0_pay20 (iblk m c 3 t) (iblk m c 4 t)
def rowL (c : Dev nD) (t : Fin cfg0.N) : Vec F S8x8192 .f32 := k0_pay21 (iblk m c 4 t)

/-- What a point leaves: its two tiles with the gradient of the queries so far, the row dots, the log-sums. -/
abbrev St : Type := (((FVec F S512x128 .f32 × FVec F S512x128 .f32) × Vec F S8192x128 .f32) × Vec F S8x8192 .f32 × Vec F S8x8192 .f32)

/-- What each point leaves: a head's first point starts afresh, the others go on from what the point before left. -/
def outsAt0 (c : Dev nD) : (n : ℕ) → n < cfg0.N → St (F := F)
  | 0, hn => (pt m c ⟨0, hn⟩ k0_pay19 (rowD m c ⟨0, hn⟩) (rowL m c ⟨0, hn⟩), rowD m c ⟨0, hn⟩, rowL m c ⟨0, hn⟩)
  | n + 1, hn =>
    if (n + 1) % 16 = 0 then
      (pt m c ⟨n + 1, hn⟩ k0_pay19 (rowD m c ⟨n + 1, hn⟩) (rowL m c ⟨n + 1, hn⟩), rowD m c ⟨n + 1, hn⟩, rowL m c ⟨n + 1, hn⟩)
    else
      let s := outsAt0 c n (Nat.lt_of_succ_lt hn)
      (pt m c ⟨n + 1, hn⟩ s.1.2 s.2.1 s.2.2, s.2.1, s.2.2)

theorem outsAt0_A (c : Dev nD) (t : Fin cfg0.N) (h0 : t.val % 16 = 0) :
    outsAt0 m c t.val t.isLt = (pt m c t k0_pay19 (rowD m c t) (rowL m c t), rowD m c t, rowL m c t) := by
  obtain ⟨n, hn⟩ := t
  cases n with
  | zero => exact rfl
  | succ n => exact (if_pos h0).trans rfl

theorem outsAt0_B (c : Dev nD) (t : Fin cfg0.N) (h0 : ¬t.val % 16 = 0) :
    outsAt0 m c t.val t.isLt =
      (pt m c t (outsAt0 m c (t.val - 1) (Nat.lt_of_le_of_lt (Nat.sub_le _ _) t.isLt)).1.2 (outsAt0 m c (t.val - 1) (Nat.lt_of_le_of_lt (Nat.sub_le _ _) t.isLt)).2.1 (outsAt0 m c (t.val - 1) (Nat.lt_of_le_of_lt (Nat.sub_le _ _) t.isLt)).2.2,
        (outsAt0 m c (t.val - 1) (Nat.lt_of_le_of_lt (Nat.sub_le _ _) t.isLt)).2.1, (outsAt0 m c (t.val - 1) (Nat.lt_of_le_of_lt (Nat.sub_le _ _) t.isLt)).2.2) := by
  obtain ⟨n, hn⟩ := t
  cases n with
  | zero => exact absurd (Nat.zero_mod _) h0
  | succ n => exact (if_neg h0).trans rfl

/-- The scratches at a point's values. -/
def scr (c : Dev nD) (s : St (F := F)) : sProp 𝕄 :=
  iprop(iprop(owns (c : Thread nD τ) scM0_0 fullShare s.1.2 ∗ owns (c : Thread nD τ) scM0_1 fullShare s.2.1 ∗ owns (c : Thread nD τ) scM0_2 fullShare s.2.2) ∗ (∃ r, prngReg c r))

/-- The invariant before position `n`: the scratches at anything before the first point, then at what the point before left. -/
def PhiS (c : Dev nD) : (n : ℕ) → n ≤ cfg0.N → sProp 𝕄
  | 0, _ => Pipeline.ΦA spec0 c
  | n + 1, hn => scr c (outsAt0 m c n hn)

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) : PhiS m c (n + 1) hn = scr c (outsAt0 m c n hn) := rfl

theorem PhiS_pos (c : Dev nD) (n : ℕ) (h : n ≤ cfg0.N) (hz : n ≠ 0) :
    PhiS m c n h = scr c (outsAt0 m c (n - 1) (by omega)) := by
  cases n with
  | zero => exact absurd rfl hz
  | succ n => rfl

/-- The pipeline's data: the inputs in place, the outputs at what the points leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay18 (outsAt0 m c t.val t.isLt).1.2
    | ⟨6, _⟩ => (outsAt0 m c t.val t.isLt).1.1.1
    | ⟨7, _⟩ => (outsAt0 m c t.val t.isLt).1.1.2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = k0_pay18 (outsAt0 m c t.val t.isLt).1.2 := by dsimp only [dats]
theorem after0_6 (c : Dev nD) (t : Fin cfg0.N) : (dats m 0 c).after 6 t = (outsAt0 m c t.val t.isLt).1.1.1 := by dsimp only [dats]
theorem after0_7 (c : Dev nD) (t : Fin cfg0.N) : (dats m 0 c).after 7 t = (outsAt0 m c t.val t.isLt).1.1.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body leaves of the gradient of the queries: untouched before a head's last point. -/
def left5 (c : Dev nD) (t : Fin cfg0.N) : sProp 𝕄 :=
  match cfg0.idle 5 (cfg0.grid.coords t) with
  | true =>
    match (cfg0.win 5).flush t with
    | false => iprop(∃ d, owns (c : Thread nD τ) (ms0_5 t) fullShare ((dats m 0 c).before 5 t d))
    | true => owns (c : Thread nD τ) (ms0_5 t) fullShare ((dats m 0 c).after 5 t)
  | false => owns (c : Thread nD τ) (ms0_5 t) fullShare ((dats m 0 c).after 5 t)

theorem idle5 (t : Fin cfg0.N) : cfg0.idle 5 (cfg0.grid.coords t) = !(k0_cond2 (grid0.coords t) == 1#1) := rfl

theorem left5_last (c : Dev nD) (t : Fin cfg0.N) (h : t.val % 16 = 15) :
    left5 m c t = owns (c : Thread nD τ) (ms0_5 t) fullShare ((dats m 0 c).after 5 t) := by
  unfold left5
  rw [idle5, (hcond0_2 t).mpr h]
  rfl

theorem left5_other (c : Dev nD) (t : Fin cfg0.N) (h : ¬t.val % 16 = 15) :
    left5 m c t = iprop(∃ d, owns (c : Thread nD τ) (ms0_5 t) fullShare ((dats m 0 c).before 5 t d)) := by
  unfold left5
  have hc : (k0_cond2 (grid0.coords t) == 1#1) = false := beq_eq_false_iff_ne.mpr fun e => h ((hcond0_2 t).mp e)
  have hf : (cfg0.win 5).flush t = false := Bool.eq_false_iff.mpr fun e => h ((flush0_5 t).mp e)
  rw [idle5, hc, hf]
  rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ left5 m c t
    ∗ owns (c : Thread nD τ) (ms0_6 t) fullShare ((dats m 0 c).after 6 t)
    ∗ owns (c : Thread nD τ) (ms0_7 t) fullShare ((dats m 0 c).after 7 t))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_6, after0_7]
  rw [show (dats m 0 c).Φ t.succ = PhiS m c (t.val + 1) t.isLt from rfl, PhiS_succ]
  have hN : t.val < 64 := lt_of_lt_of_eq t.isLt (show cfg0.N = 64 from N_0)
  by_cases h0 : t.val % 16 = 0
  · have h15 : ¬t.val % 16 = 15 := by omega
    rw [outsAt0_A m c t h0, left5_other m c t h15, PhiS_castSucc m c t]
    by_cases hz : t.val = 0
    · rw [PhiS_zero m c _ _ hz, PhiA0_eq]
      unfold scr; dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun0_A c (grid0.coords t) _ _ _ _ _ _ _ _ _ _ _ _ _ _ _ _ _ _ _ _ _ _ ((hcond0_0 t).mpr h0) (fun h => h15 ((hcond0_2 t).mp h)) (iblk m c 0 t) (iblk m c 1 t) (iblk m c 2 t) (iblk m c 3 t) (iblk m c 4 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      isplitl [HS2]; · iexact HS2
      iintro ⟨H0, H1, H2, H3, H4, H5, H6, H7, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists d5; iexact H5
      isplitl [H6]; · iexact H6
      iexact H7
    · rw [PhiS_pos m c _ _ hz]
      unfold scr; dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun0_A c (grid0.coords t) _ _ _ _ _ _ _ _ _ _ _ _ _ _ _ _ _ _ _ _ _ _ ((hcond0_0 t).mpr h0) (fun h => h15 ((hcond0_2 t).mp h)) (iblk m c 0 t) (iblk m c 1 t) (iblk m c 2 t) (iblk m c 3 t) (iblk m c 4 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexists _; iexact HS0
      isplitl [HS1]; · iexists _; iexact HS1
      isplitl [HS2]; · iexists _; iexact HS2
      iintro ⟨H0, H1, H2, H3, H4, H5, H6, H7, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists d5; iexact H5
      isplitl [H6]; · iexact H6
      iexact H7
  · have hz : t.val ≠ 0 := fun e => h0 (by rw [e])
    rw [outsAt0_B m c t h0, PhiS_castSucc m c t, PhiS_pos m c _ _ hz]
    by_cases h15 : t.val % 16 = 15
    · rw [left5_last m c t h15, after0_5, outsAt0_B m c t h0]
      unfold scr; dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun0_C c (grid0.coords t) _ _ _ _ _ _ _ _ _ _ _ _ _ _ _ _ _ _ _ _ _ _ (fun h => h0 ((hcond0_0 t).mp h)) ((hcond0_2 t).mpr h15) (iblk m c 0 t) (iblk m c 1 t) (iblk m c 2 t) (iblk m c 3 t) (iblk m c 4 t) _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      isplitl [HS2]; · iexact HS2
      iintro ⟨H0, H1, H2, H3, H4, H5, H6, H7, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [left5_other m c t h15]
      unfold scr; dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun0_B c (grid0.coords t) _ _ _ _ _ _ _ _ _ _ _ _ _ _ _ _ _ _ _ _ _ _ (fun h => h0 ((hcond0_0 t).mp h)) (fun h => h15 ((hcond0_2 t).mp h)) (iblk m c 0 t) (iblk m c 1 t) (iblk m c 2 t) (iblk m c 3 t) (iblk m c 4 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      isplitl [HS2]; · iexact HS2
      iintro ⟨H0, H1, H2, H3, H4, H5, H6, H7, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists d5; iexact H5
      isplitl [H6]; · iexact H6
      iexact H7

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  unfold scr
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 64 := N_0; omega)

set_option backward.isDefEq.respectTransparency.types false in
/-- The launch: every execution terminates with the arrays at what the points leave, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.FoxBwdIdeal.Gen

end
-- ==== Proof.FoxBits.lean ====
/- The attention backward's text is the same in both value domains: the run made once serves the words too. -/
module

public import proofs.«01_k».proof.Defs
public import proofs.«01_k».proof.Proof.Gen.FoxBwd.Frame
public import proofs.«01_k».proof.Proof.FoxFrame
public import Idealize.ShloMosaic.Lib.Claim

@[expose] public section

set_option maxRecDepth 16384

noncomputable section

namespace Cert.Proof

open Idealize.ShloMosaic Idealize.SL.Sem

set_option maxHeartbeats 4000000

theorem fox_defs₀ : (Cert.FoxBwdIdeal.defs₀ (F := Bits)) = (Cert.FoxBwd.defs₀ (F := Bits)) := by
  unfold Cert.FoxBwdIdeal.defs₀ Cert.FoxBwd.defs₀
  refine congrArg Defs.onTc (funext fun l => funext fun a => ?_)
  match l, a with
  | 0, (t, s) => rfl

theorem fox_defs : (Cert.FoxBwdIdeal.defs (F := Bits)) = (Cert.FoxBwd.defs (F := Bits)) := by
  unfold Cert.FoxBwdIdeal.defs Cert.FoxBwd.defs
  rw [fox_defs₀]
  rfl

theorem fox_main : (Cert.FoxBwdIdeal.main (F := Bits)) = (Cert.FoxBwd.main (F := Bits)) := rfl

/-- The frame over the words. -/
theorem frame_foxBwd : Cert.quiescent_FoxBwd := fun m ρ _ => by
  have h := Cert.FoxBwdIdeal.Gen.frame (F := Bits) m ρ
  rw [fox_defs, fox_main] at h
  exact h

end Cert.Proof

end

end
-- ==== Proof.FoxMath.lean ====
/- Causal attention with a forget bias for one head, and its gradient, over the reals; and the rows of a masked
   softmax read in the extended reals. -/
module

public import Idealize.ShloMosaic.Lib.Pointwise
public import proofs.«01_k».proof.Proof.Common

@[expose] public section

set_option maxRecDepth 16384

noncomputable section

open Idealize.ShloMosaic
open Cert.Common

namespace Cert.Fox

variable {n : ℕ} (q k v d : Fin n → Fin 64 → ℝ) (c : Fin n → ℝ)

/-- The logit of row `i` at key `j` without the row's own bias, which the softmax drops. -/
def S (i j : Fin n) : ℝ := (∑ l, q i l * k j l) * (1 / 8) - c j

/-- The unnormalised weight: zero past the diagonal. -/
def W (i j : Fin n) : ℝ := if j ≤ i then Real.exp (S q k c i j) else 0

def Z (i : Fin n) : ℝ := ∑ j, W q k c i j

/-- The attention weight. -/
def P (i j : Fin n) : ℝ := W q k c i j / Z q k c i

/-- The gradient at an attention weight. -/
def G (i j : Fin n) : ℝ := ∑ l, d i l * v j l

/-- The row's mean of those gradients. -/
def R (i : Fin n) : ℝ := ∑ j, P q k c i j * G v d i j

/-- The gradient at a logit. -/
def DS (i j : Fin n) : ℝ := P q k c i j * (G v d i j - R q k v d c i)

theorem W_nonneg (i j : Fin n) : 0 ≤ W q k c i j := by
  unfold W; split
  · exact (Real.exp_pos _).le
  · exact le_rfl

theorem Z_pos (i : Fin n) : 0 < Z q k c i :=
  lt_of_lt_of_le (by rw [W, if_pos le_rfl]; exact Real.exp_pos _)
    (Finset.single_le_sum (f := fun j => W q k c i j) (fun j _ => W_nonneg q k c i j) (Finset.mem_univ i))

/-- What the kernel exponentiates: the weight, its normaliser's logarithm taken off first. -/
theorem exp_sub_log (i j : Fin n) (h : j ≤ i) : Real.exp (S q k c i j - Real.log (Z q k c i)) = P q k c i j := by
  rw [Real.exp_sub, Real.exp_log (Z_pos q k c i), P, W, if_pos h]

theorem P_zero (i j : Fin n) (h : ¬ j ≤ i) : P q k c i j = 0 := by rw [P, W, if_neg h, zero_div]

theorem DS_zero (i j : Fin n) (h : ¬ j ≤ i) : DS q k v d c i j = 0 := by rw [DS, P_zero _ _ _ _ _ h, zero_mul]

/-- The row's mean gradient is the product of the row's output with the gradient arriving there. -/
theorem R_eq (i : Fin n) : ∑ l, d i l * (∑ j, P q k c i j * v j l) = R q k v d c i := by
  simp only [R, G, Finset.mul_sum]
  rw [Finset.sum_comm]
  exact Finset.sum_congr rfl fun j _ => Finset.sum_congr rfl fun l _ => by ring

/-- The division's gradient as differentiation writes it. -/
theorem DS_eq (i j : Fin n) (a : ℝ) (ha : a ≠ 0) :
    (G v d i j / (a * Z q k c i) + -∑ j, G v d i j * (1 / (a * Z q k c i * (a * Z q k c i))) * (a * W q k c i j)) * (a * W q k c i j)
      = DS q k v d c i j := by
  have hz := (Z_pos q k c i).ne'
  have e : ∑ j, G v d i j * (1 / (a * Z q k c i * (a * Z q k c i))) * (a * W q k c i j) = R q k v d c i / (a * Z q k c i) := by
    rw [R, Finset.sum_div]
    exact Finset.sum_congr rfl fun j _ => by rw [P]; field_simp
  rw [e, DS, P]
  field_simp
  ring

/-- The greatest element of a masked row that has one element unmasked is a real. -/
theorem max_real {ι : Type*} [Fintype ι] (p : ι → Prop) [DecidablePred p] (i : ι) (hi : p i) (x : ι → ℝ) :
    ∃ m : ℝ, (Finset.univ.fold max (⊥ : EReal) fun j => if p j then ((x j : ℝ) : EReal) else ⊥) = (m : EReal) := by
  classical
  have key : ∀ s : Finset ι, (s.fold max (⊥ : EReal) fun j => if p j then ((x j : ℝ) : EReal) else ⊥) ≠ ⊤
      ∧ (i ∈ s → (s.fold max (⊥ : EReal) fun j => if p j then ((x j : ℝ) : EReal) else ⊥) ≠ ⊥) := by
    intro s
    induction s using Finset.induction_on with
    | empty => simp
    | insert a s ha ih =>
      rw [Finset.fold_insert ha]
      refine ⟨?_, fun h => ?_⟩
      · rcases max_choice (if p a then ((x a : ℝ) : EReal) else ⊥) (s.fold max (⊥ : EReal) fun j => if p j then ((x j : ℝ) : EReal) else ⊥) with e | e <;> rw [e]
        · split <;> simp
        · exact ih.1
      · rcases Finset.mem_insert.1 h with rfl | h
        · intro hb
          have := le_max_left (if p i then ((x i : ℝ) : EReal) else ⊥) (s.fold max (⊥ : EReal) fun j => if p j then ((x j : ℝ) : EReal) else ⊥)
          rw [hb, if_pos hi] at this
          exact absurd (le_bot_iff.1 this) (EReal.coe_ne_bot _)
        · intro hb
          have := le_max_right (if p a then ((x a : ℝ) : EReal) else ⊥) (s.fold max (⊥ : EReal) fun j => if p j then ((x j : ℝ) : EReal) else ⊥)
          rw [hb] at this
          exact ih.2 h (le_bot_iff.1 this)
  obtain ⟨h1, h2⟩ := key Finset.univ
  exact ⟨_, (EReal.coe_toReal h1 (h2 (Finset.mem_univ i))).symm⟩

/-- One element of the exponentiated row, a multiple `e⁻ᵐ` of the weight where the logits carry a row's bias `b`. -/
theorem exp_masked (i j : Fin n) (b m : ℝ) :
    Ideal.exp ((if j ≤ i then ((S q k c i j + b : ℝ) : EReal) else ⊥) - (m : EReal)) = ((Real.exp (b - m) * W q k c i j : ℝ) : EReal) := by
  unfold W
  split
  · rw [← EReal.coe_sub, Ideal.exp_coe, ← Real.exp_add]
    congr 2; ring
  · rw [EReal.bot_sub, mul_zero, Ideal.exp_bot, EReal.coe_zero]

end Cert.Fox

end

end
-- ==== Proof.FoxHost.lean ====
/- The five arrays the attention's backward call takes, as the host lines before it make them. -/
module

public import proofs.«01_k».proof.Proof.FoxFrame
public import proofs.«01_k».proof.Proof.FoxMath
public import Idealize.ShloMosaic.Lib.WordCmp

@[expose] public section

set_option maxRecDepth 16384

noncomputable section

open Idealize.ShloMosaic Idealize.ShloMosaic.TcCoe Idealize.SL.Sem
open Idealize.ShloMosaic.Pipeline (Dat)
open Cert.Common

namespace Cert.FoxBwdIdeal.Value

open Cert.FoxBwdIdeal Cert.FoxBwdIdeal.Gen

/-- The forget gates' logarithms. -/
def gates (f : FVec Ideal S8192x4 .f32) (b : FVec Ideal S4 .f32) : FVec Ideal S8192x4 .f32 :=
  let x := addf f (broadcastInDim S8192x4 ![0, 1] bcast_S1x4_S8192x4_0_1 (broadcastInDim S1x4 ![1] bcast_S4_S1x4_1 b))
  subf (minimumf x (broadcastInDim S8192x4 ![] bcast_S_S8192x4 (constant S_ .f32 0x00000000#32)))
    (Host.log (addf (broadcastInDim S8192x4 ![] bcast_S_S8192x4 (constant S_ .f32 0x3F800000#32)) (Host.exp (Host.negf (Host.absf x)))))

/-- The forget bias: the logarithms' running sum. -/
def bias (f : FVec Ideal S8192x4 .f32) (b : FVec Ideal S4 .f32) : FVec Ideal S8192x4 .f32 :=
  Host.reduceWindowAdd ![8192, 1] ![1, 1] ![8191, 0] ![0, 0] (gates f b) (broadcastInDim S_ ![] bcast_S_S_ (constant S_ .f32 0x00000000#32)) reduceWindows_S8192x4_S8192x4_w8192s1p8191_0_w1s1p0_0 h_S_

def heads (x : FVec Ideal S8192x256 .f32) : FVec Ideal S8192x4x64 .f32 := shapeCast _ x shapeCasts_S8192x256_S8192x4x64

def packQ (q : FVec Ideal S8192x256 .f32) : FVec Ideal S8192x512 .bf16 :=
  truncf .bf16 (shapeCast S8192x512 (concatenate S8192x4x128 2
    [⟨S8192x4x64, mulf (heads q) (broadcastInDim S8192x4x64 ![] bcast_S_S8192x4x64 (constant S_ .f32 0x3E000000#32))⟩,
      ⟨S8192x4x3, broadcastInDim S8192x4x3 ![] bcast_S_S8192x4x3 (constant S_ .f32 0x3F800000#32)⟩,
      ⟨S8192x4x61, broadcastInDim S8192x4x61 ![] bcast_S_S8192x4x61 (constant S_ .f32 0x00000000#32)⟩]
    concatenates_S8192x4x64_S8192x4x3_S8192x4x61_S8192x4x128_d2) shapeCasts_S8192x4x128_S8192x512) bitsLt_bf16_f32

def hi (c : FVec Ideal S8192x4 .f32) : FVec Ideal S8192x4 .f32 := extf .f32 (truncf .bf16 (Host.negf c) bitsLt_bf16_f32) bitsLt_bf16_f32
def mid (c : FVec Ideal S8192x4 .f32) : FVec Ideal S8192x4 .f32 :=
  extf .f32 (truncf .bf16 (subf (Host.negf c) (hi c)) bitsLt_bf16_f32) bitsLt_bf16_f32
def lo (c : FVec Ideal S8192x4 .f32) : FVec Ideal S8192x4 .f32 :=
  extf .f32 (truncf .bf16 (subf (subf (Host.negf c) (hi c)) (mid c)) bitsLt_bf16_f32) bitsLt_bf16_f32

def packK (k : FVec Ideal S8192x256 .f32) (c : FVec Ideal S8192x4 .f32) : FVec Ideal S8192x512 .bf16 :=
  truncf .bf16 (shapeCast S8192x512 (concatenate S8192x4x128 2
    [⟨S8192x4x64, heads k⟩,
      ⟨S8192x4x1, broadcastInDim S8192x4x1 ![0, 1] bcast_S8192x4_S8192x4x1_0_1 (hi c)⟩,
      ⟨S8192x4x1, broadcastInDim S8192x4x1 ![0, 1] bcast_S8192x4_S8192x4x1_0_1 (mid c)⟩,
      ⟨S8192x4x1, broadcastInDim S8192x4x1 ![0, 1] bcast_S8192x4_S8192x4x1_0_1 (lo c)⟩,
      ⟨S8192x4x1, broadcastInDim S8192x4x1 ![] bcast_S_S8192x4x1 (constant S_ .f32 0x41000000#32)⟩,
      ⟨S8192x4x60, broadcastInDim S8192x4x60 ![] bcast_S_S8192x4x60 (constant S_ .f32 0x00000000#32)⟩]
    concatenates_S8192x4x64_S8192x4x1_S8192x4x1_S8192x4x1_S8192x4x1_S8192x4x60_S8192x4x128_d2) shapeCasts_S8192x4x128_S8192x512) bitsLt_bf16_f32

/-- Each head's 64 lanes and 64 zeros. -/
def wide (x : FVec Ideal S8192x256 .f32) : FVec Ideal S8192x512 .f32 :=
  shapeCast S8192x512 (pad S8192x4x128 ![0, 0, 0] ![0, 0, 64] ![0, 0, 0] (heads x) (sitofp .f32 (constantI S_ 32 0#32) : FVec Ideal S_ .f32) pads_S8192x4x64_S8192x4x128_000_000_0640 h_S_) shapeCasts_S8192x4x128_S8192x512

/-- The logits without the rows' own bias. -/
def scores (q k : FVec Ideal S8192x4x64 .f32) (c : FVec Ideal S8192x4 .f32) : FVec Ideal S4x8192x8192 .f32 :=
  subf (mulf (Host.dotGeneral dot_S8192x4x64_S8192x4x64_S4x8192x8192_2_2_0_0_1_1 none q k) (broadcastInDim S4x8192x8192 ![] bcast_S_S4x8192x8192 (constant S_ .f32 0x3E000000#32)))
    (broadcastInDim S4x8192x8192 ![0, 1, 2] bcast_S4x1x8192_S4x8192x8192_0_1_2 (broadcastInDim S4x1x8192 ![0, 2] bcast_S4x8192_S4x1x8192_0_2 (transpose S4x8192 [1, 0] c transposes_S8192x4_S4x8192_1_0)))

def ones : IVec S8192x8192 1 := broadcastInDim S8192x8192 ![] bcast_S_S8192x8192 (constantI S_ 1 1#1)

/-- What lies on or below the diagonal of a square of bits. -/
def lower (x : IVec S8192x8192 1) : IVec S8192x8192 1 :=
  select (cmpi .sge (addi (iotaInDim S8192x8192 32 0) (broadcastInDim S8192x8192 ![] bcast_S_S8192x8192 (constantI S_ 32 0#32))) (iotaInDim S8192x8192 32 1))
    x (broadcastInDim S8192x8192 ![] bcast_S_S8192x8192 (constantI S_ 1 0#1))

/-- The logits, least where `x` is not set. -/
def logits (x : IVec S8192x8192 1) (s : FVec Ideal S4x8192x8192 .f32) : FVec Ideal S4x8192x8192 .f32 :=
  select (broadcastInDim S4x8192x8192 ![1, 2] bcast_S8192x8192_S4x8192x8192_1_2 x) s
    (broadcastInDim S4x8192x8192 ![] bcast_S_S4x8192x8192 (id (constant S_ .f32 0xFF800000#32)))

/-- The logits' greatest element per row. -/
def top (x : FVec Ideal S4x8192x8192 .f32) : FVec Ideal S4x8192x1 .f32 :=
  broadcastInDim S4x8192x1 ![0, 1] bcast_S4x8192_S4x8192x1_0_1 (Host.reduce FloatOps.maximumf x (constant S_ .f32 0xFF800000#32) reducesTo_S4x8192x8192_S4x8192_d2 h_S_)

def expo (x : FVec Ideal S4x8192x8192 .f32) : FVec Ideal S4x8192x8192 .f32 :=
  Host.exp (subf x (broadcastInDim S4x8192x8192 ![0, 1, 2] bcast_S4x8192x1_S4x8192x8192_0_1_2 (top x)))

def total (x : FVec Ideal S4x8192x8192 .f32) : FVec Ideal S4x8192x1 .f32 :=
  broadcastInDim S4x8192x1 ![0, 1] bcast_S4x8192_S4x8192x1_0_1 (Host.reduceAdd (expo x) (constant S_ .f32 0x00000000#32) reducesTo_S4x8192x8192_S4x8192_d2 h_S_)

/-- The forward output and the rows' logarithm of the normaliser. -/
def packO (x : FVec Ideal S4x8192x8192 .f32) (v : FVec Ideal S8192x4x64 .f32) : FVec Ideal S8192x512 .f32 :=
  shapeCast S8192x512 (concatenate S8192x4x128 2
    [⟨S8192x4x64, transpose S8192x4x64 [2, 0, 1] (Host.dotGeneral dot_S8192x4x64_S4x8192x8192_S4x64x8192_0_2_2_1_1_0 none v
        (Host.divf (expo x) (broadcastInDim S4x8192x8192 ![0, 1, 2] bcast_S4x8192x1_S4x8192x8192_0_1_2 (total x)))) transposes_S4x64x8192_S8192x4x64_2_0_1⟩,
      ⟨S8192x4x1, broadcastInDim S8192x4x1 ![0, 1] bcast_S8192x4_S8192x4x1_0_1 (transpose S8192x4 [1, 0] (shapeCast S4x8192 (addf (top x) (Host.log (total x))) shapeCasts_S4x8192x1_S4x8192) transposes_S4x8192_S8192x4_1_0)⟩,
      ⟨S8192x4x63, broadcastInDim S8192x4x63 ![] bcast_S_S8192x4x63 (constant S_ .f32 0x00000000#32)⟩]
    concatenates_S8192x4x64_S8192x4x1_S8192x4x63_S8192x4x128_d2) shapeCasts_S8192x4x128_S8192x512

variable (m : (ℓ : Loc nD τ sig) → Buf (Elt Ideal) ℓ)

abbrev aq (c : Dev nD) : FVec Ideal S8192x256 .f32 := m ((c : Thread nD τ).loc main_arg0)
abbrev ak (c : Dev nD) : FVec Ideal S8192x256 .f32 := m ((c : Thread nD τ).loc main_arg1)
abbrev av (c : Dev nD) : FVec Ideal S8192x256 .f32 := m ((c : Thread nD τ).loc main_arg2)
abbrev af (c : Dev nD) : FVec Ideal S8192x4 .f32 := m ((c : Thread nD τ).loc main_arg3)
abbrev ab (c : Dev nD) : FVec Ideal S4 .f32 := m ((c : Thread nD τ).loc main_arg4)
abbrev ad (c : Dev nD) : FVec Ideal S8192x256 .f32 := m ((c : Thread nD τ).loc main_arg5)

theorem V_q (c : Dev nD) : (V m c main_v22 : FVec Ideal S8192x512 .bf16) = packQ (aq m c) := by
  unfold V
  simp only [List.flatten, List.append, hostOps0, hostOps0_1, hostOps0_2, hostOps0_3, hostOps0_4, hostOps0_5, hostOps0_6, hostOps0_7, hostOps0_8, hostOps0_9, hostOps0_10]
  after_results
  rfl

theorem V_k (c : Dev nD) : (V m c main_v40 : FVec Ideal S8192x512 .bf16) = packK (ak m c) (bias (af m c) (ab m c)) := by
  unfold V
  simp only [List.flatten, List.append, hostOps0, hostOps0_1, hostOps0_2, hostOps0_3, hostOps0_4, hostOps0_5, hostOps0_6, hostOps0_7, hostOps0_8, hostOps0_9, hostOps0_10]
  after_results
  rfl

theorem V_v (c : Dev nD) : (V m c main_v43 : FVec Ideal S8192x512 .bf16) = truncf .bf16 (wide (av m c)) bitsLt_bf16_f32 := by
  unfold V
  simp only [List.flatten, List.append, hostOps0, hostOps0_1, hostOps0_2, hostOps0_3, hostOps0_4, hostOps0_5, hostOps0_6, hostOps0_7, hostOps0_8, hostOps0_9, hostOps0_10]
  after_results
  rfl

theorem V_d (c : Dev nD) : (V m c main_v46 : FVec Ideal S8192x512 .f32) = wide (ad m c) := by
  unfold V
  simp only [List.flatten, List.append, hostOps0, hostOps0_1, hostOps0_2, hostOps0_3, hostOps0_4, hostOps0_5, hostOps0_6, hostOps0_7, hostOps0_8, hostOps0_9, hostOps0_10]
  after_results
  rfl

end Cert.FoxBwdIdeal.Value

end

end
-- ==== Proof.FoxSoft.lean ====
/- The forward output and normalisers the attention's backward call takes, as the host lines make them. -/
module

public import proofs.«01_k».proof.Proof.FoxHost
public import proofs.«01_k».proof.Proof.FoxMath
public import Idealize.ShloMosaic.Lib.WordCmp

@[expose] public section

set_option maxRecDepth 16384

noncomputable section

open Idealize.ShloMosaic Idealize.ShloMosaic.TcCoe Idealize.SL.Sem
open Idealize.ShloMosaic.Pipeline (Dat)
open Cert.Common

namespace Cert.FoxBwdIdeal.Value

open Cert.FoxBwdIdeal Cert.FoxBwdIdeal.Gen

variable (m : (ℓ : Loc nD τ sig) → Buf (Elt Ideal) ℓ)

theorem after_two (a b : List (HloOp τ sig (Elt Ideal))) (U : Valuation τ sig (Elt Ideal)) :
    StableHlo.after (a ++ b) U = StableHlo.after b (StableHlo.after a U) := by
  induction a generalizing U with
  | nil => rfl
  | cons x a ih => exact ih _

/-- The output array from the weights' exponentials, their totals and greatest logits. -/
def putO (y : FVec Ideal S4x8192x8192 .f32) (g t : FVec Ideal S4x8192x1 .f32) (v : FVec Ideal S8192x4x64 .f32) : FVec Ideal S8192x512 .f32 :=
  shapeCast S8192x512 (concatenate S8192x4x128 2
    [⟨S8192x4x64, transpose S8192x4x64 [2, 0, 1] (Host.dotGeneral dot_S8192x4x64_S4x8192x8192_S4x64x8192_0_2_2_1_1_0 none v
        (Host.divf y (broadcastInDim S4x8192x8192 ![0, 1, 2] bcast_S4x8192x1_S4x8192x8192_0_1_2 t))) transposes_S4x64x8192_S8192x4x64_2_0_1⟩,
      ⟨S8192x4x1, broadcastInDim S8192x4x1 ![0, 1] bcast_S8192x4_S8192x4x1_0_1 (transpose S8192x4 [1, 0] (shapeCast S4x8192 (addf g (Host.log t)) shapeCasts_S4x8192x1_S4x8192) transposes_S4x8192_S8192x4_1_0)⟩,
      ⟨S8192x4x63, broadcastInDim S8192x4x63 ![] bcast_S_S8192x4x63 (constant S_ .f32 0x00000000#32)⟩]
    concatenates_S8192x4x64_S8192x4x1_S8192x4x63_S8192x4x128_d2) shapeCasts_S8192x4x128_S8192x512

theorem first_top (U : Valuation τ sig (Elt Ideal)) : (StableHlo.after (List.take 3 hostOps0_10) U main_v58 : FVec Ideal S4x8192x1 .f32) = top (U main_v56) := by
  simp only [hostOps0_10, List.take]
  after_results
  rfl

theorem first_v56 (U : Valuation τ sig (Elt Ideal)) : (StableHlo.after (List.take 3 hostOps0_10) U main_v56 : FVec Ideal S4x8192x8192 .f32) = U main_v56 := by
  simp only [hostOps0_10, List.take]
  after_results

theorem first_v15 (U : Valuation τ sig (Elt Ideal)) : (StableHlo.after (List.take 3 hostOps0_10) U main_v15 : FVec Ideal S8192x4x64 .f32) = U main_v15 := by
  simp only [hostOps0_10, List.take]
  after_results

def expoOf (x : FVec Ideal S4x8192x8192 .f32) (g : FVec Ideal S4x8192x1 .f32) : FVec Ideal S4x8192x8192 .f32 :=
  Host.exp (subf x (broadcastInDim S4x8192x8192 ![0, 1, 2] bcast_S4x8192x1_S4x8192x8192_0_1_2 g))

def totalOf (y : FVec Ideal S4x8192x8192 .f32) : FVec Ideal S4x8192x1 .f32 :=
  broadcastInDim S4x8192x1 ![0, 1] bcast_S4x8192_S4x8192x1_0_1 (Host.reduceAdd y (constant S_ .f32 0x00000000#32) reducesTo_S4x8192x8192_S4x8192_d2 h_S_)

theorem next_expo (U : Valuation τ sig (Elt Ideal)) : (StableHlo.after (List.take 6 (List.drop 3 hostOps0_10)) U main_v61 : FVec Ideal S4x8192x8192 .f32) = expoOf (U main_v56) (U main_v58) := by
  simp only [hostOps0_10, List.take, List.drop]
  after_results
  rfl

theorem next_total (U : Valuation τ sig (Elt Ideal)) : (StableHlo.after (List.take 6 (List.drop 3 hostOps0_10)) U main_v63 : FVec Ideal S4x8192x1 .f32) = totalOf (expoOf (U main_v56) (U main_v58)) := by
  simp only [hostOps0_10, List.take, List.drop]
  after_results
  rfl

theorem next_v15 (U : Valuation τ sig (Elt Ideal)) : (StableHlo.after (List.take 6 (List.drop 3 hostOps0_10)) U main_v15 : FVec Ideal S8192x4x64 .f32) = U main_v15 := by
  simp only [hostOps0_10, List.take, List.drop]
  after_results

theorem next_v58 (U : Valuation τ sig (Elt Ideal)) : (StableHlo.after (List.take 6 (List.drop 3 hostOps0_10)) U main_v58 : FVec Ideal S4x8192x1 .f32) = U main_v58 := by
  simp only [hostOps0_10, List.take, List.drop]
  after_results

theorem end_o (U : Valuation τ sig (Elt Ideal)) : (StableHlo.after (List.drop 9 hostOps0_10) U main_v75 : FVec Ideal S8192x512 .f32) = putO (U main_v61) (U main_v58) (U main_v63) (U main_v15) := by
  simp only [hostOps0_10, List.drop]
  after_results
  rfl

theorem last_o (U : Valuation τ sig (Elt Ideal)) : (StableHlo.after hostOps0_10 U main_v75 : FVec Ideal S8192x512 .f32) = packO (U main_v56) (U main_v15) := by
  have e : StableHlo.after hostOps0_10 U main_v75 = StableHlo.after (List.drop 9 hostOps0_10) (StableHlo.after (List.take 6 (List.drop 3 hostOps0_10)) (StableHlo.after (List.take 3 hostOps0_10) U)) main_v75 := by
    rw [← after_two, ← after_two]
    rfl
  rw [e, end_o, next_expo, next_total, next_v15, next_v58, first_top, first_v56, first_v15]
  rfl

theorem last_logits (U : Valuation τ sig (Elt Ideal)) :
    (StableHlo.after (List.flatten [hostOps0_7, hostOps0_8, hostOps0_9]) U main_v56 : FVec Ideal S4x8192x8192 .f32) = logits (lower (U main_v54)) (U main_v53) := by
  simp only [List.flatten, List.append, hostOps0_7, hostOps0_8, hostOps0_9]
  after_results
  rfl

theorem last_v (U : Valuation τ sig (Elt Ideal)) :
    (StableHlo.after (List.flatten [hostOps0_7, hostOps0_8, hostOps0_9]) U main_v15 : FVec Ideal S8192x4x64 .f32) = U main_v15 := by
  simp only [List.flatten, List.append, hostOps0_7, hostOps0_8, hostOps0_9]
  after_results

/-- The buffers after the lines up to the logits. -/
def U (c : Dev nD) : Valuation τ sig (Elt Ideal) :=
  StableHlo.after (List.flatten [hostOps0, hostOps0_1, hostOps0_2, hostOps0_3, hostOps0_4, hostOps0_5, hostOps0_6]) (fun b => m (c, b))

theorem U_scores (c : Dev nD) : (U m c main_v53 : FVec Ideal S4x8192x8192 .f32) = scores (heads (aq m c)) (heads (ak m c)) (bias (af m c) (ab m c)) := by
  unfold U
  simp only [List.flatten, List.append, hostOps0, hostOps0_1, hostOps0_2, hostOps0_3, hostOps0_4, hostOps0_5, hostOps0_6]
  after_results
  rfl

theorem U_ones (c : Dev nD) : (U m c main_v54 : IVec S8192x8192 1) = ones := by
  unfold U
  simp only [List.flatten, List.append, hostOps0, hostOps0_1, hostOps0_2, hostOps0_3, hostOps0_4, hostOps0_5, hostOps0_6]
  after_results
  rfl

theorem U_v (c : Dev nD) : (U m c main_v15 : FVec Ideal S8192x4x64 .f32) = heads (av m c) := by
  unfold U
  simp only [List.flatten, List.append, hostOps0, hostOps0_1, hostOps0_2, hostOps0_3, hostOps0_4, hostOps0_5, hostOps0_6]
  after_results
  rfl

theorem V_o (c : Dev nD) : (V m c main_v75 : FVec Ideal S8192x512 .f32)
    = packO (logits (lower ones) (scores (heads (aq m c)) (heads (ak m c)) (bias (af m c) (ab m c)))) (heads (av m c)) := by
  have e : V m c main_v75 = StableHlo.after hostOps0_10 (StableHlo.after (List.flatten [hostOps0_7, hostOps0_8, hostOps0_9]) (U m c)) main_v75 := by
    unfold V U
    rw [← after_two, ← after_two]
    rfl
  rw [e, last_o, last_logits, last_v, U_scores, U_ones, U_v]

end Cert.FoxBwdIdeal.Value

end

end
-- ==== Proof.FoxLanes.lean ====
/- The 128 lanes per head in which the attention kernel packs its arrays, over the reals. -/
module

public import proofs.«01_k».proof.Proof.FoxMath

@[expose] public section

set_option maxRecDepth 16384

noncomputable section

open Idealize.ShloMosaic

namespace Cert.Fox

variable {n : ℕ} (q k v d : Fin n → Fin 64 → ℝ) (c : Fin n → ℝ)

/-- A query's lanes: the scaled query, three ones that pick the key's bias, zeros. -/
def qL (i : Fin n) (l : Fin 128) : ℝ := if h : l.val < 64 then q i ⟨l.val, h⟩ * (1 / 8) else if l.val < 67 then 1 else 0

/-- A key's lanes: the key, its bias in three parts of which two vanish, the lane that sums a row's gradients. -/
def kL (j : Fin n) (l : Fin 128) : ℝ := if h : l.val < 64 then k j ⟨l.val, h⟩ else if l.val = 64 then -c j else if l.val = 67 then 8 else 0

/-- A value's lanes, or those of the gradient arriving at an output. -/
def wL (j : Fin n) (l : Fin 128) : ℝ := if h : l.val < 64 then v j ⟨l.val, h⟩ else 0

/-- An output's lanes: the row's mean value and its normaliser's logarithm. -/
def oL (i : Fin n) (l : Fin 128) : ℝ := if h : l.val < 64 then ∑ j, P q k c i j * v j ⟨l.val, h⟩ else if l.val = 64 then Real.log (Z q k c i) else 0

/-- A sum over the lanes is one over the head's 64 and one over the rest. -/
theorem sum_lanes (f : Fin 128 → ℝ) : ∑ l, f l = (∑ l : Fin 64, f ⟨l.val, by omega⟩) + ∑ l : Fin 64, f ⟨64 + l.val, by omega⟩ :=
  Fin.sum_univ_add (a := 64) (b := 64) f

theorem sum_kq (i j : Fin n) : ∑ l, kL k c j l * qL q i l = S q k c i j := by
  rw [sum_lanes, S]
  have e : ∀ l : Fin 64, kL k c j ⟨64 + l.val, by omega⟩ * qL q i ⟨64 + l.val, by omega⟩ = if l = 0 then -c j else 0 := fun l => by
    unfold kL qL
    simp only [show ¬ 64 + l.val < 64 by omega, dite_false, Nat.add_eq_left, Fin.ext_iff, Fin.val_zero]
    split_ifs <;> first | omega | simp
  simp only [e, Finset.sum_ite_eq', Finset.mem_univ, if_true]
  rw [sub_eq_add_neg, Finset.sum_mul]
  congr 1
  exact Finset.sum_congr rfl fun l _ => by simp only [kL, qL, l.isLt, dite_true]; ring

theorem sum_vd (i j : Fin n) : ∑ l, wL v j l * wL d i l = G v d i j := by
  rw [sum_lanes, G]
  have e : ∀ l : Fin 64, wL v j ⟨64 + l.val, by omega⟩ * wL d i ⟨64 + l.val, by omega⟩ = 0 := fun l => by
    simp only [wL, show ¬ 64 + l.val < 64 by omega, dite_false, mul_zero]
  simp only [e, Finset.sum_const_zero, add_zero]
  exact Finset.sum_congr rfl fun l _ => by simp only [wL, l.isLt, dite_true]; ring

theorem sum_do (i : Fin n) : ∑ l, wL d i l * oL q k v c i l = R q k v d c i := by
  rw [sum_lanes, ← R_eq]
  have e : ∀ l : Fin 64, wL d i ⟨64 + l.val, by omega⟩ * oL q k v c i ⟨64 + l.val, by omega⟩ = 0 := fun l => by
    simp only [wL, show ¬ 64 + l.val < 64 by omega, dite_false, zero_mul]
  simp only [e, Finset.sum_const_zero, add_zero]
  exact Finset.sum_congr rfl fun l _ => by simp only [wL, oL, l.isLt, dite_true]

theorem sum_lse (i : Fin n) : ∑ l : Fin 128, (if l.val = 64 then (1 : ℝ) else 0) * oL q k v c i l = Real.log (Z q k c i) := by
  rw [Finset.sum_eq_single (⟨64, by omega⟩ : Fin 128)]
  · simp [oL]
  · intro l _ h
    rw [if_neg fun e => h (Fin.ext e), zero_mul]
  · simp

end Cert.Fox

end

end
-- ==== Proof.FoxRef.lean ====
/- The attention reference's stages over finite arrays. -/
module

public import proofs.«01_k».proof.Proof.Gen.FoxBwdRefIdeal.Read
public import proofs.«01_k».proof.Proof.FoxMath
public import Idealize.ShloMosaic.Lib.WordCmp

@[expose] public section

set_option maxRecDepth 16384

noncomputable section

open Idealize.ShloMosaic Idealize.ShloMosaic.TcCoe Idealize.SL.Sem
open Cert.Common

namespace Cert.FoxBwdRefIdeal.Value

open Cert.FoxBwdRefIdeal Cert.FoxBwdRefIdeal.Read
open Cert.Fox

/-- The four heads of an array of real elements. -/
def Heads (x : FVec Ideal S8192x256 .f32) (r : Fin 4 → Fin 8192 → Fin 64 → ℝ) : Prop :=
  ∀ (h : Fin 4) (i : Fin 8192) (l : Fin 64) (hl : h.val * 64 + l.val < 256), x (ix2 i ⟨h.val * 64 + l.val, hl⟩) = ((r h i l : ℝ) : EReal)

variable {x0 x1 x2 x5 : FVec Ideal S8192x256 .f32} {x3 : FVec Ideal S8192x4 .f32} {x4 : FVec Ideal S4 .f32}
  {q k v d : Fin 4 → Fin 8192 → Fin 64 → ℝ} {c : Fin 4 → Fin 8192 → ℝ}
  (hq : Heads x0 q) (hk : Heads x1 k) (hv : Heads x2 v) (hd : Heads x5 d)
  (hc : ∀ (h : Fin 4) (i : Fin 8192), val_main_v4 (F := Ideal) x3 x4 (ix2 i h) = ((c h i : ℝ) : EReal))

/-- The weights, the gradients at the logits and the rest of one head. -/
abbrev Wh (q k : Fin 4 → Fin 8192 → Fin 64 → ℝ) (c : Fin 4 → Fin 8192 → ℝ) (h : Fin 4) := W (q h) (k h) (c h)
abbrev Zh (q k : Fin 4 → Fin 8192 → Fin 64 → ℝ) (c : Fin 4 → Fin 8192 → ℝ) (h : Fin 4) := Z (q h) (k h) (c h)
abbrev Ph (q k : Fin 4 → Fin 8192 → Fin 64 → ℝ) (c : Fin 4 → Fin 8192 → ℝ) (h : Fin 4) := P (q h) (k h) (c h)
abbrev DSh (q k v d : Fin 4 → Fin 8192 → Fin 64 → ℝ) (c : Fin 4 → Fin 8192 → ℝ) (h : Fin 4) := DS (q h) (k h) (v h) (d h) (c h)

include hq in
theorem v6 (h : Fin 4) (i : Fin 8192) (l : Fin 64) : val_main_v6 (F := Ideal) x0 (ix3 h i l) = ((q h i l : ℝ) : EReal) := by
  pointwise [val_main_v6, val_main_v5]
  exact hq h i l _

include hk in
theorem v8 (h : Fin 4) (i : Fin 8192) (l : Fin 64) : val_main_v8 (F := Ideal) x1 (ix3 h i l) = ((k h i l : ℝ) : EReal) := by
  pointwise [val_main_v8, val_main_v7]
  exact hk h i l _

include hv in
theorem v10 (h : Fin 4) (i : Fin 8192) (l : Fin 64) : val_main_v10 (F := Ideal) x2 (ix3 h i l) = ((v h i l : ℝ) : EReal) := by
  pointwise [val_main_v10, val_main_v9]
  exact hv h i l _

include hd in
theorem v61 (h : Fin 4) (i : Fin 8192) (l : Fin 64) : val_main_v61 (F := Ideal) x5 (ix3 h i l) = ((d h i l : ℝ) : EReal) := by
  pointwise [val_main_v61, val_main_v60]
  exact hd h i l _

include hq hk in
theorem v11 (h : Fin 4) (i j : Fin 8192) : val_main_v11 (F := Ideal) x0 x1 (ix3 h i j) = ((∑ l, q h i l * k h j l : ℝ) : EReal) := by
  pointwise [val_main_v11]
  simp only [v6 hq, v8 hk, ← EReal.coe_mul]
  exact coe_sum _ _

include hv hd in
theorem v64 (h : Fin 4) (i j : Fin 8192) : val_main_v64 (F := Ideal) x2 x5 (ix3 h i j) = ((G (v h) (d h) i j : ℝ) : EReal) := by
  pointwise [val_main_v64]
  simp only [v10 hv, v61 hd, ← EReal.coe_mul]
  exact coe_sum _ _

theorem eighth : Ideal.ofBits .f32 0x3E000000#32 = ((1 / 8 : ℝ) : EReal) := by
  simp [Ideal.ofBits, Ideal.ieee, ← EReal.coe_mul]; norm_num

theorem bottom : Ideal.ofBits .f32 0xFF800000#32 = (⊥ : EReal) := by
  simp [Ideal.ofBits, Ideal.ieee]

/-- The reference's mask: a key no later than the query. -/
theorem causal (i j : Fin 8192) : IntOp.cmpi .sge (BitVec.ofNat 32 i) (BitVec.ofNat 32 j) = if ¬ j ≤ i then 0#1 else 1#1 := by
  word_cmp
  by_cases h : j ≤ i <;> simp [h, Fin.le_def.1]
  all_goals omega

include hq hk hc in
theorem v28 (h : Fin 4) (i j : Fin 8192) : val_main_v28_0 (F := Ideal) x0 x1 x3 x4 (ix3 h i j)
    = if j ≤ i then ((S (q h) (k h) (c h) i j + c h i : ℝ) : EReal) else ⊥ := by
  pointwise [val_main_v28_0, val_main_call2_v2, val_main_call2_v0, val_main_cst_0, val_main_v21, val_main_v20, val_main_v19, val_main_v18, val_main_v17, val_main_v16, val_main_v15, val_main_v14, val_main_v13, val_main_v12, val_main_cst, val_main_v28_1, val_main_v27, val_main_v26, val_main_v24, val_main_v22, val_main_v25, val_main_v23]
  rw [causal, select_ite, v11 hq hk, hc, hc, eighth, ← EReal.coe_mul, ← EReal.coe_add, ← EReal.coe_sub]
  by_cases h : j ≤ i
  · rw [if_neg (by simpa using h), if_pos h, S]
    congr 1; ring
  · rw [if_pos h, if_neg h]
    exact bottom

include hq hk hc in
theorem v36 (h : Fin 4) (i : Fin 8192) : ∃ m : ℝ, val_main_v36 (F := Ideal) x0 x1 x3 x4 (ix2 h i) = (m : EReal) := by
  obtain ⟨m, hm⟩ := max_real (fun j : Fin 8192 => j ≤ i) i le_rfl fun j => S (q h) (k h) (c h) i j + c h i
  refine ⟨m, ?_⟩
  have e : val_main_v29 (F := Ideal) x0 x1 x3 x4 (ix2 h i) = (m : EReal) := by
    pointwise [val_main_v29, val_main_cst_1]
    simp only [v28 hq hk hc, bottom]
    exact hm
  rw [val_main_v36_apply, e, val_main_v35_apply]
  refine (congrArg (max · _) bottom).trans ?_
  exact max_eq_right bot_le

include hq hk hc in
/-- A row's exponentials are one positive multiple of its weights. -/
theorem v49 (h : Fin 4) (i : Fin 8192) : ∃ a : ℝ, a ≠ 0 ∧ ∀ j : Fin 8192,
    val_main_v49 (F := Ideal) x0 x1 x3 x4 (ix3 h i j) = ((a * Wh q k c h i j : ℝ) : EReal) := by
  obtain ⟨m, hm⟩ := v36 hq hk hc h i
  refine ⟨_, (Real.exp_pos (c h i - m)).ne', fun j => ?_⟩
  pointwise [val_main_v49, val_main_v48, val_main_v47, val_main_v46]
  rw [hm, v28 hq hk hc]
  exact exp_masked _ _ _ _ _ _ _

include hq hk hc in
theorem v53 (h : Fin 4) (i j : Fin 8192) : val_main_v53 (F := Ideal) x0 x1 x3 x4 (ix3 h i j) = ((Ph q k c h i j : ℝ) : EReal) := by
  obtain ⟨a, ha, he⟩ := v49 hq hk hc h i
  pointwise [val_main_v53, val_main_v52, val_main_v51, val_main_v50, val_main_cst_9]
  simp only [he]
  have hz := (Z_pos (q h) (k h) (c h) i).ne'
  rw [coe_sum, ← Finset.mul_sum, ← Z, Ideal.div_coe (mul_ne_zero ha hz), ← EReal.coe_mul]
  unfold Ph P
  congr 1; field_simp

include hq hk hv hd hc in
theorem v76 (h : Fin 4) (i j : Fin 8192) : val_main_v76 (F := Ideal) x0 x1 x2 x3 x4 x5 (ix3 h i j) = ((DSh q k v d c h i j : ℝ) : EReal) := by
  obtain ⟨a, ha, he⟩ := v49 hq hk hc h i
  have hz := (Z_pos (q h) (k h) (c h) i).ne'
  have hp := mul_ne_zero ha hz
  have one (x : ℝ) (hx : x ≠ 0) : Ideal.div 1 (x : EReal) = ((1 / x : ℝ) : EReal) := by rw [Ideal.div_coe hx, one_mul]
  pointwise [val_main_v76, val_main_v75, val_main_v74, val_main_v73, val_main_cst_12, val_main_v70, val_main_v69, val_main_v68, val_main_cst_11, val_main_v67, val_main_v66, val_main_v65, val_main_v56, val_main_v54, val_main_v51, val_main_v50, val_main_cst_9, val_main_v55, val_main_cst_10, val_main_v72, val_main_v71]
  simp only [he, v64 hv hd, Finset.univ_unique, Finset.sum_singleton]
  simp only [coe_sum, ← Finset.mul_sum, ← EReal.coe_mul, ← EReal.coe_neg, ← EReal.coe_add, Ideal.div_coe hp]
  rw [show ∑ j, Wh q k c h i j = Z (q h) (k h) (c h) i from rfl]
  simp only [Ideal.div_coe hp, one _ (mul_ne_zero hp hp), coe_sum, ← EReal.coe_mul, ← EReal.coe_neg, ← EReal.coe_add]
  have e := DS_eq (q h) (k h) (v h) (d h) (c h) i j a ha
  rw [DSh, ← e]
  congr 1; simp only [Wh]; ring

include hq hk hv hd hc in
theorem v77 (h : Fin 4) (i j : Fin 8192) : val_main_v77 (F := Ideal) x0 x1 x2 x3 x4 x5 (ix3 h i j) = ((DSh q k v d c h i j : ℝ) : EReal) := by
  pointwise [val_main_v77, val_main_call3_v0, val_main_call3_cst, val_main_v28_1, val_main_v27, val_main_v26, val_main_v24, val_main_v22, val_main_v25, val_main_v23]
  rw [causal, select_ite, v76 hq hk hv hd hc]
  by_cases h : j ≤ i
  · rw [if_neg (by simpa using h)]
  · rw [if_pos h, DSh, DS_zero _ _ _ _ _ _ _ h]; rfl

/-- What the three results hold: the gradients at the query, key and value heads, and the two bias gradients beside them. -/
def dq (q k v d : Fin 4 → Fin 8192 → Fin 64 → ℝ) (c : Fin 4 → Fin 8192 → ℝ) (h : Fin 4) (i : Fin 8192) (l : Fin 64) : ℝ :=
  ∑ j, DSh q k v d c h i j * (1 / 8) * k h j l

/-- The keys' gradient over heads. -/
def dk (q k v d : Fin 4 → Fin 8192 → Fin 64 → ℝ) (c : Fin 4 → Fin 8192 → ℝ) (h : Fin 4) (j : Fin 8192) (l : Fin 64) : ℝ :=
  ∑ i, DSh q k v d c h i j * (1 / 8) * q h i l

/-- The values' gradient over heads. -/
def dv (q k d : Fin 4 → Fin 8192 → Fin 64 → ℝ) (c : Fin 4 → Fin 8192 → ℝ) (h : Fin 4) (j : Fin 8192) (l : Fin 64) : ℝ :=
  ∑ i, d h i l * Ph q k c h i j

include hq hk hv hd hc in
theorem v102 (i : Fin 8192) (h : Fin 4) (l : Fin 128) (hl : h.val * 128 + l.val < 512) :
    val_main_v102 (F := Ideal) x0 x1 x2 x3 x4 x5 (ix2 i ⟨h.val * 128 + l.val, hl⟩)
      = if hl : l.val < 64 then ((dq q k v d c h i ⟨l, hl⟩ : ℝ) : EReal)
        else if l.val = 67 then ((∑ j, DSh q k v d c h i j : ℝ) : EReal) else 0 := by
  pointwise [val_main_v102, val_main_v101, val_main_v100, val_main_cst_19, val_main_v99, val_main_v86, val_main_v85, val_main_cst_16, val_main_v84, val_main_v83, val_main_cst_15, val_main_v97, val_main_v93, val_main_v94, val_main_v95, val_main_v96, val_main_v90, val_main_v88, val_main_v87, val_main_cst_17, val_main_v98, val_main_cst_18]
  simp only [v77 hq hk hv hd hc, v8 hk, eighth, Finset.univ_unique, Finset.sum_singleton, ← EReal.coe_mul, coe_sum]
  by_cases h1 : l.val < 64
  · rw [dif_pos h1, dif_pos h1]; rfl
  · by_cases h2 : l.val = 67
    · rw [dif_neg h1, dif_neg h1, dif_neg (by omega), dif_pos (by omega), if_pos h2]
    · rw [dif_neg h1, dif_neg h1, if_neg h2]
      by_cases h3 : l.val - 64 < 3
      · rw [dif_pos h3]
      · rw [dif_neg h3, dif_neg (by omega)]

include hq hk hv hd hc in
theorem v108 (i : Fin 8192) (h : Fin 4) (l : Fin 128) (hl : h.val * 128 + l.val < 512) :
    val_main_v108 (F := Ideal) x0 x1 x2 x3 x4 x5 (ix2 i ⟨h.val * 128 + l.val, hl⟩)
      = if hl : l.val < 64 then ((dk q k v d c h i ⟨l, hl⟩ : ℝ) : EReal)
        else if l.val = 64 then ((∑ j, DSh q k v d c h j i : ℝ) : EReal) else 0 := by
  pointwise [val_main_v108, val_main_v107, val_main_v106, val_main_cst_20, val_main_v105, val_main_v104, val_main_v103, val_main_v82, val_main_v81, val_main_cst_14, val_main_v80, val_main_v79, val_main_cst_13, val_main_v78, val_main_v95, val_main_v94, val_main_v93, val_main_v89, val_main_v88, val_main_v87, val_main_cst_17]
  simp only [v77 hq hk hv hd hc, v6 hq, eighth, Finset.univ_unique, Finset.sum_singleton, ← EReal.coe_mul, ← EReal.coe_neg, coe_sum,
    Finset.sum_neg_distrib, neg_neg]
  by_cases h1 : l.val < 64
  · rw [dif_pos h1, dif_pos h1]; rfl
  · by_cases h2 : l.val = 64
    · rw [dif_neg h1, dif_neg h1, dif_pos (by omega), if_pos h2]
    · rw [dif_neg h1, dif_neg h1, if_neg h2, dif_neg (by omega)]

include hq hk hd hc in
theorem v112 (i : Fin 8192) (h : Fin 4) (l : Fin 128) (hl : h.val * 128 + l.val < 512) :
    val_main_v112 (F := Ideal) x0 x1 x3 x4 x5 (ix2 i ⟨h.val * 128 + l.val, hl⟩)
      = if hl : l.val < 64 then ((dv q k d c h i ⟨l, hl⟩ : ℝ) : EReal) else 0 := by
  pointwise [val_main_v112, val_main_v111, val_main_v110, val_main_cst_21, val_main_v109, val_main_v92, val_main_v91, val_main_v63, val_main_v62]
  simp only [v61 hd, v53 hq hk hc, ← EReal.coe_mul, coe_sum]
  rfl

end Cert.FoxBwdRefIdeal.Value

end

end
-- ==== Proof.FoxPack.lean ====
/- The packed arrays of the attention's backward call over finite arguments. -/
module

public import proofs.«01_k».proof.Proof.FoxSoft
public import proofs.«01_k».proof.Proof.FoxLanes
public import proofs.«01_k».proof.Proof.FoxRef
public import Idealize.ShloMosaic.Lib.WordCmp

@[expose] public section

set_option maxRecDepth 16384

noncomputable section

open Idealize.ShloMosaic Idealize.ShloMosaic.TcCoe Idealize.SL.Sem
open Cert.Common

namespace Cert.FoxBwdIdeal.Value

open Cert.FoxBwdIdeal Cert.FoxBwdIdeal.Gen
open Cert.Fox
open Cert.FoxBwdRefIdeal.Value (Heads eighth bottom causal)

variable {x : FVec Ideal S8192x256 .f32} {r : Fin 4 → Fin 8192 → Fin 64 → ℝ}
  {b : FVec Ideal S8192x4 .f32} {c : Fin 4 → Fin 8192 → ℝ}

theorem eight : Ideal.ofBits .f32 0x41000000#32 = ((8 : ℝ) : EReal) := by
  simp [Ideal.ofBits, Ideal.ieee, ← EReal.coe_mul]; norm_num

theorem packQ_at (hx : Heads x r) (h : Fin 4) (i : Fin 8192) (l : Fin 128) (hl : h.val * 128 + l.val < 512) :
    packQ x (ix2 i ⟨h.val * 128 + l.val, hl⟩) = ((qL (r h) i l : ℝ) : EReal) := by
  pointwise [packQ, heads]
  unfold qL
  by_cases h1 : l.val < 64
  · simp only [h1, dite_true]
    rw [hx h i ⟨l.val, h1⟩, eighth, ← EReal.coe_mul]
  · simp only [h1, dite_false]
    by_cases h2 : l.val < 67
    · rw [dif_pos (by omega), if_pos h2, EReal.coe_one]
    · rw [dif_neg (by omega), if_neg h2, EReal.coe_zero]

theorem packK_at (hx : Heads x r) (hb : ∀ (h : Fin 4) (i : Fin 8192), b (ix2 i h) = ((c h i : ℝ) : EReal)) (h : Fin 4) (i : Fin 8192) (l : Fin 128) (hl : h.val * 128 + l.val < 512) :
    packK x b (ix2 i ⟨h.val * 128 + l.val, hl⟩) = ((kL (r h) (c h) i l : ℝ) : EReal) := by
  pointwise [packK, heads, hi, mid, lo]
  unfold kL
  simp only [hb, ← EReal.coe_neg, ← EReal.coe_sub, sub_self]
  by_cases h1 : l.val < 64
  · simp only [h1, dite_true]
    exact hx h i ⟨l.val, h1⟩ _
  · simp only [h1, dite_false]
    by_cases h2 : l.val = 64
    · rw [dif_pos (by omega), if_pos h2]
    · rw [dif_neg (by omega), if_neg h2]
      by_cases h3 : l.val = 67
      · rw [dif_neg (by omega), dif_neg (by omega), dif_pos (by omega), if_pos h3, eight]
      · rw [if_neg h3]
        split_ifs <;> first | rfl | omega

theorem wide_at (hx : Heads x r) (h : Fin 4) (i : Fin 8192) (l : Fin 128) (hl : h.val * 128 + l.val < 512) :
    wide x (ix2 i ⟨h.val * 128 + l.val, hl⟩) = ((wL (r h) i l : ℝ) : EReal) := by
  pointwise [wide, heads]
  unfold wL
  by_cases h1 : l.val < 64
  · simp only [h1, dite_true]
    exact hx h i ⟨l.val, h1⟩ _
  · simp only [h1, dite_false]
    simp [FloatOps.sitofp]

variable {y z : FVec Ideal S8192x256 .f32} {q k v : Fin 4 → Fin 8192 → Fin 64 → ℝ}
  (hq : Heads x q) (hk : Heads y k) (hv : Heads z v) (hb : ∀ (h : Fin 4) (i : Fin 8192), b (ix2 i h) = ((c h i : ℝ) : EReal))

/-- The kernel's logits: the row's own bias is left out. -/
abbrev lg (x y : FVec Ideal S8192x256 .f32) (b : FVec Ideal S8192x4 .f32) : FVec Ideal S4x8192x8192 .f32 :=
  logits (lower ones) (scores (heads x) (heads y) b)

include hq hk hb in
theorem lg_at (h : Fin 4) (i j : Fin 8192) : lg x y b (ix3 h i j)
    = if j ≤ i then ((S (q h) (k h) (c h) i j + 0 : ℝ) : EReal) else ⊥ := by
  pointwise [lg, logits, lower, ones, scores, heads]
  have hx : ∀ l : Fin 64, x (ix2 i ⟨h.val * 64 + l.val, by omega⟩) = ((q h i l : ℝ) : EReal) := fun l => hq h i l _
  have hy : ∀ l : Fin 64, y (ix2 j ⟨h.val * 64 + l.val, by omega⟩) = ((k h j l : ℝ) : EReal) := fun l => hk h j l _
  rw [show IntOp.addi (BitVec.ofNat 32 i.val) 0#32 = BitVec.ofNat 32 i.val by simp [IntOp.addi], causal, hb, eighth]
  simp only [hx, hy, ← EReal.coe_mul, coe_sum, ← EReal.coe_sub]
  by_cases h : j ≤ i
  · simp only [h, if_true, not_true_eq_false, if_false]; rfl
  · simp only [h, if_false, not_false_eq_true, if_true]; exact bottom

include hq hk hb in
theorem top_at (h : Fin 4) (i : Fin 8192) : ∃ m : ℝ, top (lg x y b) (ix3 h i 0) = (m : EReal) := by
  obtain ⟨m, hm⟩ := max_real (fun j : Fin 8192 => j ≤ i) i le_rfl fun j => S (q h) (k h) (c h) i j + 0
  refine ⟨m, ?_⟩
  pointwise [top]
  simp only [lg_at hq hk hb, bottom]
  exact hm

include hq hk hb in
theorem total_at (h : Fin 4) (i : Fin 8192) : ∃ m : ℝ, top (lg x y b) (ix3 h i 0) = (m : EReal)
    ∧ (∀ j, expo (lg x y b) (ix3 h i j) = ((Real.exp (0 - m) * W (q h) (k h) (c h) i j : ℝ) : EReal))
    ∧ total (lg x y b) (ix3 h i 0) = ((Real.exp (0 - m) * Z (q h) (k h) (c h) i : ℝ) : EReal) := by
  obtain ⟨m, hm⟩ := top_at hq hk hb h i
  have he (j) : expo (lg x y b) (ix3 h i j) = ((Real.exp (0 - m) * W (q h) (k h) (c h) i j : ℝ) : EReal) := by
    pointwise [expo]
    rw [hm, lg_at hq hk hb]
    exact exp_masked _ _ _ _ _ _ _
  refine ⟨m, hm, he, ?_⟩
  pointwise [total]
  simp only [he]
  rw [coe_sum, ← Finset.mul_sum, ← Z]

theorem putO_at (e : FVec Ideal S4x8192x8192 .f32) (g t : FVec Ideal S4x8192x1 .f32) (v : FVec Ideal S8192x4x64 .f32)
    (h : Fin 4) (i : Fin 8192) (l : Fin 128) (hl : h.val * 128 + l.val < 512) :
    putO e g t v (ix2 i ⟨h.val * 128 + l.val, hl⟩)
      = if hl : l.val < 64 then ∑ j, v (ix3 j h ⟨l.val, hl⟩) * Ideal.div (e (ix3 h i j)) (t (ix3 h i 0))
        else if l.val = 64 then g (ix3 h i 0) + Ideal.log (t (ix3 h i 0)) else 0 := by
  pointwise [putO]
  by_cases h1 : l.val < 64
  · simp only [h1, dite_true]
  · simp only [h1, dite_false]
    by_cases h2 : l.val = 64
    · rw [dif_pos (by omega), if_pos h2]
    · rw [dif_neg (by omega), if_neg h2]

theorem putO_real (q k v : Fin 8192 → Fin 64 → ℝ) (c : Fin 8192 → ℝ) (m : ℝ)
    (e : FVec Ideal S4x8192x8192 .f32) (g t : FVec Ideal S4x8192x1 .f32) (z : FVec Ideal S8192x4x64 .f32)
    (h : Fin 4) (i : Fin 8192) (l : Fin 128) (hl : h.val * 128 + l.val < 512)
    (hm : g (ix3 h i 0) = (m : EReal)) (he : ∀ j, e (ix3 h i j) = ((Real.exp (0 - m) * W q k c i j : ℝ) : EReal))
    (ht : t (ix3 h i 0) = ((Real.exp (0 - m) * Z q k c i : ℝ) : EReal)) (hz : ∀ j l, z (ix3 j h l) = ((v j l : ℝ) : EReal)) :
    putO e g t z (ix2 i ⟨h.val * 128 + l.val, hl⟩) = ((oL q k v c i l : ℝ) : EReal) := by
  have hZ := Z_pos q k c i
  have hp := mul_pos (Real.exp_pos (0 - m)) hZ
  rw [putO_at, hm, ht]
  unfold oL
  by_cases h1 : l.val < 64
  · simp only [h1, dite_true, he, hz, Ideal.div_coe hp.ne', ← EReal.coe_mul, coe_sum]
    congr 1
    refine Finset.sum_congr rfl fun j _ => ?_
    rw [P]; field_simp
  · simp only [h1, dite_false]
    by_cases h2 : l.val = 64
    · rw [if_pos h2, if_pos h2, Ideal.log_coe, if_neg hp.not_ge, ← EReal.coe_add, Real.log_mul (Real.exp_pos _).ne' hZ.ne', Real.log_exp]
      congr 1; ring
    · rw [if_neg h2, if_neg h2, EReal.coe_zero]

include hq hk hv hb in
theorem packO_at (h : Fin 4) (i : Fin 8192) (l : Fin 128) (hl : h.val * 128 + l.val < 512) :
    packO (lg x y b) (heads z) (ix2 i ⟨h.val * 128 + l.val, hl⟩) = ((oL (q h) (k h) (v h) (c h) i l : ℝ) : EReal) := by
  obtain ⟨m, hm, he, ht⟩ := total_at hq hk hb h i
  refine putO_real _ _ _ _ m _ _ _ _ h i l hl hm he ht fun j l => ?_
  pointwise [heads]
  exact hv h j l _

end Cert.FoxBwdIdeal.Value

end

end
-- ==== Proof.FoxTile.lean ====
/- The attention kernel's tiles over real operands: the weights, their gradients and the three products of a tile. -/
module

public import proofs.«01_k».proof.Proof.FoxPack

@[expose] public section

set_option maxRecDepth 16384

noncomputable section

open Idealize.ShloMosaic Idealize.ShloMosaic.TcCoe Idealize.SL.Sem
open Cert.Common

namespace Cert.FoxBwdIdeal.Value

open Cert.FoxBwdIdeal Cert.FoxBwdIdeal.Gen
open Cert.Fox

variable {Q K V E : Fin 8192 → Fin 64 → ℝ} {C : Fin 8192 → ℝ} {κ ι : Fin 512 → Fin 8192}
  {k v q : FVec Ideal S512x128 .bf16} {d : FVec Ideal S512x128 .f32} {L D : FVec Ideal S1x512 .f32}
  (hk : ∀ r l, k (ix2 r l) = ((kL K C (κ r) l : ℝ) : EReal)) (hv : ∀ r l, v (ix2 r l) = ((wL V (κ r) l : ℝ) : EReal))
  (hq : ∀ r l, q (ix2 r l) = ((qL Q (ι r) l : ℝ) : EReal)) (hd : ∀ r l, d (ix2 r l) = ((wL E (ι r) l : ℝ) : EReal))
  (hL : ∀ r, L (ix2 0 r) = ((Real.log (Z Q K C (ι r)) : ℝ) : EReal)) (hD : ∀ r, D (ix2 0 r) = ((R Q K V E C (ι r) : ℝ) : EReal))

include hk hq hL in
theorem pay6_at (h : ∀ r c, κ r ≤ ι c) (r c : Fin 512) : k0_pay6 k q L (ix2 r c) = ((P Q K C (ι c) (κ r) : ℝ) : EReal) := by
  pointwise [k0_pay6, k0_pay4]
  simp only [hk, hq, hL, ← EReal.coe_mul, coe_sum, sum_kq, ← EReal.coe_sub, Ideal.exp_coe]
  rw [exp_sub_log _ _ _ _ _ (h r c)]

include hk hv hq hd hL hD in
theorem pay7_at (h : ∀ r c, κ r ≤ ι c) (r c : Fin 512) : k0_pay7 k v q d L D (ix2 r c) = ((DS Q K V E C (ι c) (κ r) : ℝ) : EReal) := by
  pointwise [k0_pay7, k0_pay5]
  rw [pay6_at hk hq hL h]
  simp only [hv, hd, hD, ← EReal.coe_mul, coe_sum, sum_vd, ← EReal.coe_sub]
  rfl

include hk hv hq hd hL hD in
theorem pay8_at (h : ∀ r c, κ r ≤ ι c) (a : FVec Ideal S512x128 .f32) (x : ℝ) (c : Fin 512) (l : Fin 128) (ha : a (ix2 c l) = (x : EReal)) :
    k0_pay8 k v q d L D a (ix2 c l) = ((x + ∑ r, DS Q K V E C (ι c) (κ r) * kL K C (κ r) l : ℝ) : EReal) := by
  pointwise [k0_pay8]
  simp only [pay7_at hk hv hq hd hL hD h, hk, ha, ← EReal.coe_mul, coe_sum, ← EReal.coe_add]

include hk hv hq hd hL hD in
theorem pay9_at (h : ∀ r c, κ r ≤ ι c) (a : FVec Ideal S512x128 .f32) (x : ℝ) (r : Fin 512) (l : Fin 128) (ha : a (ix2 r l) = (x : EReal)) :
    k0_pay9 k v a q d L D (ix2 r l) = ((x + ∑ c, DS Q K V E C (ι c) (κ r) * qL Q (ι c) l : ℝ) : EReal) := by
  pointwise [k0_pay9, k0_pay4]
  simp only [pay7_at hk hv hq hd hL hD h, hq, ha, ← EReal.coe_mul, coe_sum, ← EReal.coe_add]

include hk hq hd hL in
theorem pay10_at (h : ∀ r c, κ r ≤ ι c) (a : FVec Ideal S512x128 .f32) (x : ℝ) (r : Fin 512) (l : Fin 128) (ha : a (ix2 r l) = (x : EReal)) :
    k0_pay10 k a q d L (ix2 r l) = ((x + ∑ c, P Q K C (ι c) (κ r) * wL E (ι c) l : ℝ) : EReal) := by
  pointwise [k0_pay10, k0_pay5]
  simp only [pay6_at hk hq hL h, hd, ha, ← EReal.coe_mul, coe_sum, ← EReal.coe_add]

theorem below (r c : Fin 512) : IntOp.cmpi .sle (BitVec.ofNat 32 r) (BitVec.ofNat 32 c) = if ¬ r ≤ c then 0#1 else 1#1 := by
  word_cmp
  by_cases h : r ≤ c <;> simp [h, Fin.le_def.1]
  all_goals omega

include hk hq hL in
theorem pay28_at (h : ∀ r c, κ r ≤ ι c ↔ r ≤ c) (r c : Fin 512) : k0_pay28 (F := Ideal) k q L (ix2 r c) = ((P Q K C (ι c) (κ r) : ℝ) : EReal) := by
  pointwise [k0_pay28, k0_pay22, k0_pay26]
  rw [below, select_ite]
  simp only [hk, hq, hL, ← EReal.coe_mul, coe_sum, sum_kq, ← EReal.coe_sub, Ideal.exp_coe]
  by_cases hrc : r ≤ c
  · rw [if_neg (by simpa using hrc), exp_sub_log _ _ _ _ _ ((h r c).2 hrc)]
  · rw [if_pos hrc, P_zero _ _ _ _ _ (fun e => hrc ((h r c).1 e)), EReal.coe_zero]

include hk hv hq hd hL hD in
theorem pay29_at (h : ∀ r c, κ r ≤ ι c ↔ r ≤ c) (r c : Fin 512) : k0_pay29 (F := Ideal) k v q d L D (ix2 r c) = ((DS Q K V E C (ι c) (κ r) : ℝ) : EReal) := by
  pointwise [k0_pay29, k0_pay23, k0_pay27]
  rw [pay28_at hk hq hL h]
  simp only [hv, hd, hD, ← EReal.coe_mul, coe_sum, sum_vd, ← EReal.coe_sub]
  rfl

include hk hv hq hd hL hD in
theorem pay1_at (h : ∀ r c, κ r ≤ ι c ↔ r ≤ c) (a : FVec Ideal S512x128 .f32) (x : ℝ) (c : Fin 512) (l : Fin 128) (ha : a (ix2 c l) = (x : EReal)) :
    k0_pay1 (F := Ideal) a (k0_pay30 k v q d L D) (ix2 c l) = ((x + ∑ r, DS Q K V E C (ι c) (κ r) * kL K C (κ r) l : ℝ) : EReal) := by
  pointwise [k0_pay1, k0_pay30, k0_pay22]
  simp only [pay29_at hk hv hq hd hL hD h, hk, ha, ← EReal.coe_mul, coe_sum, ← EReal.coe_add]

include hk hv hq hd hL hD in
theorem pay2_at (h : ∀ r c, κ r ≤ ι c ↔ r ≤ c) (r : Fin 512) (l : Fin 128) :
    k0_pay2 (F := Ideal) k0_pay24 (k0_pay26 q) (k0_pay29 k v q d L D) (ix2 r l) = ((∑ c, DS Q K V E C (ι c) (κ r) * qL Q (ι c) l : ℝ) : EReal) := by
  pointwise [k0_pay2, k0_pay24, k0_pay26]
  simp only [pay29_at hk hv hq hd hL hD h, hq, ← EReal.coe_mul, coe_sum]

include hk hq hd hL in
theorem pay3_at (h : ∀ r c, κ r ≤ ι c ↔ r ≤ c) (r : Fin 512) (l : Fin 128) :
    k0_pay3 (F := Ideal) k0_pay25 (k0_pay27 d) (k0_pay28 k q L) (ix2 r l) = ((∑ c, P Q K C (ι c) (κ r) * wL E (ι c) l : ℝ) : EReal) := by
  pointwise [k0_pay3, k0_pay25, k0_pay27]
  simp only [pay28_at hk hq hL h, hd, ← EReal.coe_mul, coe_sum]

/-- The two rows a head's first point saves: the rows' mean gradients and their normalisers' logarithms. -/
theorem pay20_at (d o : FVec Ideal S8192x128 .f32) (hd : ∀ i l, d (ix2 i l) = ((wL E i l : ℝ) : EReal))
    (ho : ∀ i l, o (ix2 i l) = ((oL Q K V C i l : ℝ) : EReal)) (a : Fin 8) (i : Fin 8192) :
    k0_pay20 (F := Ideal) d o (ix2 a i) = ((R Q K V E C i : ℝ) : EReal) := by
  pointwise [k0_pay20]
  simp only [hd, ho, ← EReal.coe_mul, coe_sum, sum_do]

theorem pay21_at (o : FVec Ideal S8192x128 .f32) (ho : ∀ i l, o (ix2 i l) = ((oL Q K V C i l : ℝ) : EReal)) (a : Fin 8) (i : Fin 8192) :
    k0_pay21 (F := Ideal) o (ix2 a i) = ((Real.log (Z Q K C i) : ℝ) : EReal) := by
  pointwise [k0_pay21]
  have e : ∀ l : Fin 128, IntOp.cmpi .eq (BitVec.ofNat 32 l.val) 64#32 = if l.val = 64 then 1#1 else 0#1 := by decide +kernel
  rw [← sum_lse Q K V C i, ← coe_sum]
  refine Finset.sum_congr rfl fun l _ => ?_
  rw [e, ho]
  by_cases h : l.val = 64 <;> simp [h, Scalar.select]

end Cert.FoxBwdIdeal.Value

end

end
-- ==== Proof.FoxLoop.lean ====
/- One point of the attention kernel over real operands: the loop over the query tiles, summed. -/
module

public import proofs.«01_k».proof.Proof.FoxTile

@[expose] public section

set_option maxRecDepth 16384

noncomputable section

open Idealize.ShloMosaic Idealize.ShloMosaic.TcCoe Idealize.SL.Sem
open Cert.Common

namespace Cert.FoxBwdIdeal.Value

open Cert.FoxBwdIdeal Cert.FoxBwdIdeal.Gen
open Cert.Fox

theorem trips_t1 (i : grid0.Coords) : (k0_t1_loop i).trips = 15 - (i 1).val := by
  have h : ∀ j : Fin 16, (⟨Scalar.addi (BitVec.ofNat 32 j.val) 1#32, Scalar.addi (Scalar.addi (BitVec.ofNat 32 j.val) 1#32) (Scalar.muli (Scalar.divsi (Scalar.subi 16#32 (Scalar.addi (BitVec.ofNat 32 j.val) 1#32)) 1#32) 1#32), 1#32⟩ : Scf.Loop 32).trips = 15 - j.val := by decide +kernel
  exact h (i 1)

theorem off1_eq (i : grid0.Coords) : k0_off1 i = ![(i 1).val * 512, 0] := by
  have h : ∀ j : Fin 16, (Scalar.indexCast (Scalar.muli (BitVec.ofNat 32 j.val) 512#32) : Index).toNat = j.val * 512 := by decide +kernel
  exact congrArg (fun n : ℕ => ![n, 0]) (h (i 1))

theorem off2_eq (i : grid0.Coords) : k0_off2 i = ![0, (i 1).val * 512] := by
  have h : ∀ j : Fin 16, (Scalar.indexCast (Scalar.muli (BitVec.ofNat 32 j.val) 512#32) : Index).toNat = j.val * 512 := by decide +kernel
  exact congrArg (fun n : ℕ => ![0, n]) (h (i 1))

theorem off_word : ∀ j k : Fin 16, j.val + 1 + k.val < 16 → (Scalar.indexCast (Scalar.muli (Scf.iv (Scalar.addi (BitVec.ofNat 32 j.val) 1#32) 1#32 k.val) 512#32) : Index).toNat = (j.val + 1 + k.val) * 512 := by
  decide +kernel

theorem tile_lt (i : grid0.Coords) (k : Fin (k0_t1_loop i).trips) : (i 1).val + 1 + k.val < 16 := by
  have h := k.isLt
  have e := trips_t1 i
  have := (i 1).isLt
  omega

theorem off3_eq (i : grid0.Coords) (k : Fin (k0_t1_loop i).trips) : k0_off3 i k = ![((i 1).val + 1 + k.val) * 512, 0] :=
  congrArg (fun n : ℕ => ![n, 0]) (off_word (i 1) ⟨k.val, by have := tile_lt i k; omega⟩ (tile_lt i k))

theorem off4_eq (i : grid0.Coords) (k : Fin (k0_t1_loop i).trips) : k0_off4 i k = ![0, ((i 1).val + 1 + k.val) * 512] :=
  congrArg (fun n : ℕ => ![0, n]) (off_word (i 1) ⟨k.val, by have := tile_lt i k; omega⟩ (tile_lt i k))

/-- A window of whole rows, read at an index. -/
theorem rows_at {α : Type} (x : S8192x128.Idx → α) (off : Fin 2 → ℕ) (inb : ∀ a, off a + S512x128.size a ≤ S8192x128.size a) (o : ℕ) (h : off = ![o, 0])
    (r : Fin 512) (l : Fin 128) (hb : o + r.val < 8192) :
    (VecWindow.window x off S512x128.size inb : S512x128.Idx → α) (ix2 r l) = x (ix2 ⟨o + r.val, hb⟩ l) := by
  subst h
  refine congrArg x (funext fun a => Fin.ext ?_)
  fin_cases a
  · show o + 1 * r.val = o + r.val
    omega
  · show 0 + 1 * l.val = l.val
    omega

/-- A window of the first row's lanes, read at an index. -/
theorem lanes_at {α : Type} (x : S8x8192.Idx → α) (off : Fin 2 → ℕ) (inb : ∀ a, off a + S1x512.size a ≤ S8x8192.size a) (o : ℕ) (h : off = ![0, o])
    (r : Fin 512) (hb : o + r.val < 8192) :
    (VecWindow.window x off S1x512.size inb : S1x512.Idx → α) (ix2 0 r) = x (ix2 0 ⟨o + r.val, hb⟩) := by
  subst h
  refine congrArg x (funext fun a => Fin.ext ?_)
  fin_cases a
  · rfl
  · show o + 1 * r.val = o + r.val
    omega

/-- Rows put over a window, read at an index. -/
theorem put_at {α : Type} (x : S8192x128.Idx → α) (off : Fin 2 → ℕ) (w : S512x128.Idx → α) (o : ℕ) (h : off = ![o, 0]) (i : Fin 8192) (l : Fin 128) :
    (VecWindow.put x off S512x128.size w : S8192x128.Idx → α) (ix2 i l)
      = if h : o ≤ i.val ∧ i.val < o + 512 then w (ix2 ⟨i.val - o, by omega⟩ l) else x (ix2 i l) := by
  subst h
  unfold VecWindow.put
  by_cases hi : o ≤ i.val ∧ i.val < o + 512
  · have hall : ∀ a, (![o, 0] : Fin 2 → ℕ) a ≤ ((ix2 i l : S8192x128.Idx) a).val ∧ ((ix2 i l : S8192x128.Idx) a).val < (![o, 0] : Fin 2 → ℕ) a + S512x128.size a := fun a => by
      fin_cases a
      · exact hi
      · exact ⟨Nat.zero_le _, by show l.val < 0 + 128; omega⟩
    rw [dif_pos hall, dif_pos hi]
    refine congrArg w (funext fun a => Fin.ext ?_)
    fin_cases a <;> rfl
  · rw [dif_neg hi, dif_neg (fun hall => hi (hall 0))]

/-- Row `c` of tile `s`. -/
def tl (s : Fin 16) (c : Fin 512) : Fin 8192 := ⟨s.val * 512 + c.val, by omega⟩

/-- One more tile of a sum over the tiles from `j` on. -/
theorem sum_next (f : Fin 16 → ℝ) (j n : ℕ) (hj : j ≤ n) (hn : n < 16) :
    (∑ u : Fin 16, if j ≤ u.val ∧ u.val < n + 1 then f u else 0) = (∑ u : Fin 16, if j ≤ u.val ∧ u.val < n then f u else 0) + f ⟨n, hn⟩ := by
  have e : ∀ u : Fin 16, (if j ≤ u.val ∧ u.val < n + 1 then f u else 0) = (if j ≤ u.val ∧ u.val < n then f u else 0) + if u = ⟨n, hn⟩ then f u else 0 := fun u => by
    by_cases hu : u = ⟨n, hn⟩
    · subst hu
      simp [hj]
    · have : u.val ≠ n := fun h => hu (Fin.ext h)
      rw [if_neg hu, add_zero]
      exact if_congr (by omega) rfl rfl
  rw [Finset.sum_congr rfl fun u _ => e u, Finset.sum_add_distrib, Finset.sum_ite_eq' Finset.univ]
  simp

/-- The tiles from `j` on hold the whole sum of terms that vanish before them. -/
theorem sum_from (j : Fin 16) (f : Fin 8192 → ℝ) (hf : ∀ y : Fin 8192, y.val < j.val * 512 → f y = 0) :
    (∑ u : Fin 16, if j.val ≤ u.val ∧ u.val < 16 then ∑ c, f (tl u c) else 0) = ∑ y, f y := by
  have e : ∑ y, f y = ∑ u : Fin 16, ∑ c : Fin 512, f (tl u c) := Fin.sum_univ_tiles 16 512 rfl f
  rw [e]
  refine Finset.sum_congr rfl fun u _ => ?_
  by_cases hu : j.val ≤ u.val
  · rw [if_pos ⟨hu, u.isLt⟩]
  · rw [if_neg (by omega)]
    exact (Finset.sum_eq_zero fun c _ => hf _ (by show u.val * 512 + c.val < j.val * 512; omega)).symm

variable (Q K V E : Fin 8192 → Fin 64 → ℝ) (C : Fin 8192 → ℝ)

/-- What the state holds with the tiles from `j` to `n` done: the sums over those tiles, and `a` with the key tile's terms added in their rows. -/
def Done (j : Fin 16) (a : Fin 8192 → Fin 128 → ℝ) (s : (FVec Ideal S512x128 .f32 × FVec Ideal S512x128 .f32) × Vec Ideal S8192x128 .f32) (n : ℕ) : Prop :=
  (∀ r l, s.1.1 (ix2 r l) = ((∑ u : Fin 16, if j.val ≤ u.val ∧ u.val < n then ∑ c, DS Q K V E C (tl u c) (tl j r) * qL Q (tl u c) l else 0 : ℝ) : EReal))
  ∧ (∀ r l, s.1.2 (ix2 r l) = ((∑ u : Fin 16, if j.val ≤ u.val ∧ u.val < n then ∑ c, P Q K C (tl u c) (tl j r) * wL E (tl u c) l else 0 : ℝ) : EReal))
  ∧ ∀ i l, s.2 (ix2 i l) = ((a i l + if j.val * 512 ≤ i.val ∧ i.val < n * 512 then ∑ r, DS Q K V E C i (tl j r) * kL K C (tl j r) l else 0 : ℝ) : EReal)

variable {Q K V E C} {i : grid0.Coords} {j : Fin 16} (hj : (i 1).val = j.val)
  {q : Vec Ideal S8192x128 .bf16} {k v : Vec Ideal S512x128 .bf16} {d : Vec Ideal S8192x128 .f32} {D L : Vec Ideal S8x8192 .f32}
  (hq : ∀ i l, q (ix2 i l) = ((qL Q i l : ℝ) : EReal)) (hd : ∀ i l, d (ix2 i l) = ((wL E i l : ℝ) : EReal))
  (hk : ∀ r l, k (ix2 r l) = ((kL K C (tl j r) l : ℝ) : EReal)) (hv : ∀ r l, v (ix2 r l) = ((wL V (tl j r) l : ℝ) : EReal))
  (hL : ∀ i, L (ix2 0 i) = ((Real.log (Z Q K C i) : ℝ) : EReal)) (hD : ∀ i, D (ix2 0 i) = ((R Q K V E C i : ℝ) : EReal))

include hj hq hd hk hv hL hD in
/-- The diagonal tile. -/
theorem start_done (a : Fin 8192 → Fin 128 → ℝ) (A : Vec Ideal S8192x128 .f32) (hA : ∀ i l, A (ix2 i l) = ((a i l : ℝ) : EReal)) :
    Done Q K V E C j a (startS i q k v d A D L) (j.val + 1) := by
  have o1 : k0_off1 i = ![j.val * 512, 0] := by rw [off1_eq, hj]
  have o2 : k0_off2 i = ![0, j.val * 512] := by rw [off2_eq, hj]
  have hq' : ∀ r l, (VecWindow.window q (k0_off1 i) S512x128.size (k0_off1_inb i) : FVec Ideal S512x128 .bf16) (ix2 r l) = ((qL Q (tl j r) l : ℝ) : EReal) :=
    fun r l => (rows_at q _ _ _ o1 r l (by omega)).trans (hq _ l)
  have hd' : ∀ r l, (VecWindow.window d (k0_off1 i) S512x128.size (k0_off1_inb i) : FVec Ideal S512x128 .f32) (ix2 r l) = ((wL E (tl j r) l : ℝ) : EReal) :=
    fun r l => (rows_at d _ _ _ o1 r l (by omega)).trans (hd _ l)
  have hL' : ∀ r, (VecWindow.window L (k0_off2 i) S1x512.size (k0_off2_inb i) : FVec Ideal S1x512 .f32) (ix2 0 r) = ((Real.log (Z Q K C (tl j r)) : ℝ) : EReal) :=
    fun r => (lanes_at L _ _ _ o2 r (by omega)).trans (hL _)
  have hD' : ∀ r, (VecWindow.window D (k0_off2 i) S1x512.size (k0_off2_inb i) : FVec Ideal S1x512 .f32) (ix2 0 r) = ((R Q K V E C (tl j r) : ℝ) : EReal) :=
    fun r => (lanes_at D _ _ _ o2 r (by omega)).trans (hD _)
  have hA' : ∀ r l, (VecWindow.window A (k0_off1 i) S512x128.size (k0_off1_inb i) : FVec Ideal S512x128 .f32) (ix2 r l) = ((a (tl j r) l : ℝ) : EReal) :=
    fun r l => (rows_at A _ _ _ o1 r l (by omega)).trans (hA _ l)
  have hle : ∀ r c, tl j r ≤ tl j c ↔ r ≤ c := fun r c => by
    show j.val * 512 + r.val ≤ j.val * 512 + c.val ↔ r.val ≤ c.val
    omega
  have one : ∀ f : Fin 16 → ℝ, (∑ u : Fin 16, if j.val ≤ u.val ∧ u.val < j.val + 1 then f u else 0) = f j := fun f => by
    rw [sum_next f j.val j.val le_rfl j.isLt, Finset.sum_eq_zero fun u _ => if_neg (by omega), zero_add]
  refine ⟨fun r l => ?_, fun r l => ?_, fun y l => ?_⟩
  · rw [one]
    exact pay2_at hk hv hq' hd' hL' hD' hle r l
  · rw [one]
    exact pay3_at hk hq' hd' hL' hle r l
  · refine (put_at A _ _ _ o1 y l).trans ?_
    by_cases hy : j.val * 512 ≤ y.val ∧ y.val < j.val * 512 + 512
    · rw [dif_pos hy, if_pos (by omega)]
      have e : tl j ⟨y.val - j.val * 512, by omega⟩ = y := Fin.ext (by show j.val * 512 + (y.val - j.val * 512) = y.val; omega)
      have := pay1_at hk hv hq' hd' hL' hD' hle _ _ ⟨y.val - j.val * 512, by omega⟩ l (hA' _ l)
      rw [e] at this
      exact this
    · rw [dif_neg hy, if_neg (by omega), add_zero]
      exact hA y l

include hj hq hd hk hv hL hD in
/-- One more query tile. -/
theorem trip_done (a : Fin 8192 → Fin 128 → ℝ) (n : Fin (k0_t1_loop i).trips) (s : (FVec Ideal S512x128 .f32 × FVec Ideal S512x128 .f32) × Vec Ideal S8192x128 .f32)
    (hs : Done Q K V E C j a s (j.val + 1 + n.val)) :
    Done Q K V E C j a (tripS i (k0_pay22 k) (k0_pay23 v) q d D L n s) (j.val + 1 + n.val + 1) := by
  obtain ⟨h1, h2, h3⟩ := hs
  have hn : j.val + 1 + n.val < 16 := by have := tile_lt i n; omega
  have o3 : k0_off3 i n = ![(j.val + 1 + n.val) * 512, 0] := by rw [off3_eq, hj]
  have o4 : k0_off4 i n = ![0, (j.val + 1 + n.val) * 512] := by rw [off4_eq, hj]
  generalize hu : (⟨j.val + 1 + n.val, hn⟩ : Fin 16) = u
  have huv : u.val = j.val + 1 + n.val := by rw [← hu]
  rw [← huv] at o3 o4 h1 h2 h3 ⊢
  have hk' : ∀ r l, k0_pay22 (F := Ideal) k (ix2 r l) = ((kL K C (tl j r) l : ℝ) : EReal) := fun r l => by
    pointwise [k0_pay22]
    exact hk r l
  have hv' : ∀ r l, k0_pay23 (F := Ideal) v (ix2 r l) = ((wL V (tl j r) l : ℝ) : EReal) := fun r l => by
    pointwise [k0_pay23]
    exact hv r l
  have hq' : ∀ r l, (VecWindow.window q (k0_off3 i n) S512x128.size (k0_off3_inb i n) : FVec Ideal S512x128 .bf16) (ix2 r l) = ((qL Q (tl u r) l : ℝ) : EReal) :=
    fun r l => (rows_at q _ _ _ o3 r l (by omega)).trans (hq _ l)
  have hd' : ∀ r l, (VecWindow.window d (k0_off3 i n) S512x128.size (k0_off3_inb i n) : FVec Ideal S512x128 .f32) (ix2 r l) = ((wL E (tl u r) l : ℝ) : EReal) :=
    fun r l => (rows_at d _ _ _ o3 r l (by omega)).trans (hd _ l)
  have hL' : ∀ r, (VecWindow.window L (k0_off4 i n) S1x512.size (k0_off4_inb i n) : FVec Ideal S1x512 .f32) (ix2 0 r) = ((Real.log (Z Q K C (tl u r)) : ℝ) : EReal) :=
    fun r => (lanes_at L _ _ _ o4 r (by omega)).trans (hL _)
  have hD' : ∀ r, (VecWindow.window D (k0_off4 i n) S1x512.size (k0_off4_inb i n) : FVec Ideal S1x512 .f32) (ix2 0 r) = ((R Q K V E C (tl u r) : ℝ) : EReal) :=
    fun r => (lanes_at D _ _ _ o4 r (by omega)).trans (hD _)
  have hle : ∀ r c, tl j r ≤ tl u c := fun r c => by
    show j.val * 512 + r.val ≤ u.val * 512 + c.val
    omega
  have hA' : ∀ r l, (VecWindow.window s.2 (k0_off3 i n) S512x128.size (k0_off3_inb i n) : FVec Ideal S512x128 .f32) (ix2 r l) = ((a (tl u r) l : ℝ) : EReal) :=
    fun r l => (rows_at s.2 _ _ _ o3 r l (by omega)).trans ((h3 _ l).trans (by
      rw [if_neg (by show ¬(j.val * 512 ≤ u.val * 512 + r.val ∧ u.val * 512 + r.val < u.val * 512); omega), add_zero]; rfl))
  refine ⟨fun r l => ?_, fun r l => ?_, fun y l => ?_⟩
  · rw [sum_next _ j.val u.val (by omega) u.isLt]
    exact pay9_at hk' hv' hq' hd' hL' hD' hle _ _ r l (h1 r l)
  · rw [sum_next _ j.val u.val (by omega) u.isLt]
    exact pay10_at hk' hq' hd' hL' hle _ _ r l (h2 r l)
  · refine (put_at s.2 _ _ _ o3 y l).trans ?_
    by_cases hy : u.val * 512 ≤ y.val ∧ y.val < u.val * 512 + 512
    · rw [dif_pos hy, if_pos (by omega)]
      have e : tl u ⟨y.val - u.val * 512, by omega⟩ = y := Fin.ext (by show u.val * 512 + (y.val - u.val * 512) = y.val; omega)
      have := pay8_at hk' hv' hq' hd' hL' hD' hle _ _ ⟨y.val - u.val * 512, by omega⟩ l (hA' _ l)
      rw [e] at this
      exact this
    · rw [dif_neg hy, h3]
      congr 2
      exact if_congr (by omega) rfl rfl

include hj hq hd hk hv hL hD in
theorem loop_done (a : Fin 8192 → Fin 128 → ℝ) (s : (FVec Ideal S512x128 .f32 × FVec Ideal S512x128 .f32) × Vec Ideal S8192x128 .f32)
    (hs : Done Q K V E C j a s (j.val + 1)) (n : ℕ) (hn : n ≤ (k0_t1_loop i).trips) :
    Done Q K V E C j a (loopS i (k0_pay22 k) (k0_pay23 v) q d D L s n) (j.val + 1 + n) := by
  induction n with
  | zero => exact hs
  | succ n ih =>
    rw [loopS, dif_pos (by omega : n < (k0_t1_loop i).trips)]
    exact trip_done hj hq hd hk hv hL hD a ⟨n, by omega⟩ _ (ih (by omega))

include hj hq hd hk hv hL hD in
/-- A whole point: the key tile's gradients, summed over every row, and its terms in every row of the queries' gradient. -/
theorem point_done (a : Fin 8192 → Fin 128 → ℝ) (A : Vec Ideal S8192x128 .f32) (hA : ∀ i l, A (ix2 i l) = ((a i l : ℝ) : EReal)) :
    (∀ r l, (pointS i q k v d A D L).1.1 (ix2 r l) = ((∑ y, DS Q K V E C y (tl j r) * qL Q y l : ℝ) : EReal))
    ∧ (∀ r l, (pointS i q k v d A D L).1.2 (ix2 r l) = ((∑ y, P Q K C y (tl j r) * wL E y l : ℝ) : EReal))
    ∧ ∀ y l, (pointS i q k v d A D L).2 (ix2 y l) = ((a y l + ∑ r, DS Q K V E C y (tl j r) * kL K C (tl j r) l : ℝ) : EReal) := by
  have ht : j.val + 1 + (k0_t1_loop i).trips = 16 := by rw [trips_t1, hj]; omega
  have hp : Done Q K V E C j a (pointS i q k v d A D L) 16 := by
    rw [← ht]
    exact loop_done hj hq hd hk hv hL hD a _ (start_done hj hq hd hk hv hL hD a A hA) _ le_rfl
  generalize pointS i q k v d A D L = p at hp ⊢
  obtain ⟨h1, h2, h3⟩ := hp
  have hno : ∀ (y : Fin 8192) (r : Fin 512), y.val < j.val * 512 → ¬ tl j r ≤ y := fun y r hy h => by
    have : j.val * 512 + r.val ≤ y.val := h
    omega
  refine ⟨fun r l => (h1 r l).trans ?_, fun r l => (h2 r l).trans ?_, fun y l => (h3 y l).trans ?_⟩
  · exact congrArg _ (sum_from j (fun y => DS Q K V E C y (tl j r) * qL Q y l) fun y hy => by rw [DS_zero _ _ _ _ _ _ _ (hno y r hy), zero_mul])
  · exact congrArg _ (sum_from j (fun y => P Q K C y (tl j r) * wL E y l) fun y hy => by rw [P_zero _ _ _ _ _ (hno y r hy), zero_mul])
  · by_cases hy : j.val * 512 ≤ y.val
    · rw [if_pos ⟨hy, y.isLt⟩]
    · rw [if_neg (fun e => hy e.1), Finset.sum_eq_zero fun r _ => by rw [DS_zero _ _ _ _ _ _ _ (hno y r (by omega)), zero_mul]]

end Cert.FoxBwdIdeal.Value

end

end
-- ==== Proof.FoxValue.lean ====
/- The arrays the attention kernel leaves over real operands: the induction over a head's points. -/
module

public import proofs.«01_k».proof.Proof.FoxLoop
public import proofs.«01_k».proof.Proof.FoxPack
public import proofs.«01_k».proof.Proof.FoxSoft

@[expose] public section

set_option maxRecDepth 16384

noncomputable section

open Idealize.ShloMosaic Idealize.ShloMosaic.TcCoe Idealize.SL.Sem
open Idealize.ShloMosaic.Pipeline (Dat)
open Cert.Common

namespace Cert.FoxBwdIdeal.Value

open Cert.FoxBwdIdeal Cert.FoxBwdIdeal.Gen
open Cert.Fox
open Cert.FoxBwdRefIdeal.Value (Heads)

theorem idx : ∀ t : Fin cfg0.N, win0_0.index t = ![0, t.val / 16] ∧ win0_1.index t = ![t.val % 16, t.val / 16]
    ∧ win0_2.index t = ![t.val % 16, t.val / 16] ∧ win0_3.index t = ![0, t.val / 16] ∧ win0_4.index t = ![0, t.val / 16]
    ∧ win0_5.index t = ![0, t.val / 16] ∧ win0_6.index t = ![t.val % 16, t.val / 16] ∧ win0_7.index t = ![t.val % 16, t.val / 16] :=
  (by decide +kernel : ∀ t : Fin grid0.N, _)

/-- The head and the key tile of a point. -/
def hd (t : Fin cfg0.N) : Fin 4 := ⟨t.val / 16, by have := lt_of_lt_of_eq t.isLt N_0; omega⟩
def kt (t : Fin cfg0.N) : Fin 16 := ⟨t.val % 16, by omega⟩

theorem lane_lt (h : Fin 4) (l : Fin 128) : h.val * 128 + l.val < 512 := by omega

variable (m : (ℓ : Loc nD τ sig) → Buf (Elt Ideal) ℓ) (c : Dev nD)
variable {Q K W E : Fin 4 → Fin 8192 → Fin 64 → ℝ} {C : Fin 4 → Fin 8192 → ℝ}
  (hq : Heads (aq m c) Q) (hk : Heads (ak m c) K) (hv : Heads (av m c) W) (he : Heads (ad m c) E)
  (hb : ∀ (h : Fin 4) (i : Fin 8192), bias (af m c) (ab m c) (ix2 i h) = ((C h i : ℝ) : EReal))

include hq in
theorem q_at (t : Fin cfg0.N) (i : Fin 8192) (l : Fin 128) : (iblk m c 0 t : FVec Ideal S8192x128 .f32) (ix2 i l) = ((qL (Q (hd t)) i l : ℝ) : EReal) := by
  refine Eq.trans (b := (V m c main_v22 : FVec Ideal S8192x512 .f32) (ix2 i ⟨(hd t).val * 128 + l.val, lane_lt _ _⟩)) (by unfold hd; blk_point [iblk, idx t]) ?_
  rw [V_q]
  exact packQ_at hq _ _ _ _

include hk hb in
theorem k_at (t : Fin cfg0.N) (i : Fin 512) (l : Fin 128) : (iblk m c 1 t : FVec Ideal S512x128 .f32) (ix2 i l) = ((kL (K (hd t)) (C (hd t)) (tl (kt t) i) l : ℝ) : EReal) := by
  refine Eq.trans (b := (V m c main_v40 : FVec Ideal S8192x512 .f32) (ix2 (tl (kt t) i) ⟨(hd t).val * 128 + l.val, lane_lt _ _⟩)) (by unfold hd kt tl; blk_point [iblk, idx t]) ?_
  rw [V_k]
  exact packK_at hk hb _ _ _ _

include hv in
theorem v_at (t : Fin cfg0.N) (i : Fin 512) (l : Fin 128) : (iblk m c 2 t : FVec Ideal S512x128 .bf16) (ix2 i l) = ((wL (W (hd t)) (tl (kt t) i) l : ℝ) : EReal) := by
  refine Eq.trans (b := (V m c main_v43 : FVec Ideal S8192x512 .bf16) (ix2 (tl (kt t) i) ⟨(hd t).val * 128 + l.val, lane_lt _ _⟩)) (by unfold hd kt tl; blk_point [iblk, idx t]) ?_
  rw [V_v]
  exact wide_at hv _ _ _ _

include he in
theorem d_at (t : Fin cfg0.N) (i : Fin 8192) (l : Fin 128) : (iblk m c 3 t : FVec Ideal S8192x128 .f32) (ix2 i l) = ((wL (E (hd t)) i l : ℝ) : EReal) := by
  refine Eq.trans (b := (V m c main_v46 : FVec Ideal S8192x512 .f32) (ix2 i ⟨(hd t).val * 128 + l.val, lane_lt _ _⟩)) (by unfold hd; blk_point [iblk, idx t]) ?_
  rw [V_d]
  exact wide_at he _ _ _ _

include hq hk hv hb in
theorem o_at (t : Fin cfg0.N) (i : Fin 8192) (l : Fin 128) : (iblk m c 4 t : FVec Ideal S8192x128 .f32) (ix2 i l) = ((oL (Q (hd t)) (K (hd t)) (W (hd t)) (C (hd t)) i l : ℝ) : EReal) := by
  refine Eq.trans (b := (V m c main_v75 : FVec Ideal S8192x512 .f32) (ix2 i ⟨(hd t).val * 128 + l.val, lane_lt _ _⟩)) (by unfold hd; blk_point [iblk, idx t]) ?_
  rw [V_o]
  exact packO_at hq hk hv hb _ _ _ _

/-- What the gradient of the queries holds after `n` key tiles of head `h`. -/
def acc (Q K W E : Fin 4 → Fin 8192 → Fin 64 → ℝ) (C : Fin 4 → Fin 8192 → ℝ) (h : Fin 4) (n : ℕ) (y : Fin 8192) (l : Fin 128) : ℝ :=
  ∑ u : Fin 16, if 0 ≤ u.val ∧ u.val < n then ∑ r, DS (Q h) (K h) (W h) (E h) (C h) y (tl u r) * kL (K h) (C h) (tl u r) l else 0

/-- What a point leaves, over real operands. -/
structure Left (Q K W E : Fin 4 → Fin 8192 → Fin 64 → ℝ) (C : Fin 4 → Fin 8192 → ℝ) (h : Fin 4) (j : Fin 16) (s : St (F := Ideal)) : Prop where
  dk : ∀ r l, s.1.1.1 (ix2 r l) = ((∑ y, DS (Q h) (K h) (W h) (E h) (C h) y (tl j r) * qL (Q h) y l : ℝ) : EReal)
  dv : ∀ r l, s.1.1.2 (ix2 r l) = ((∑ y, P (Q h) (K h) (C h) y (tl j r) * wL (E h) y l : ℝ) : EReal)
  dq : ∀ y l, s.1.2 (ix2 y l) = ((acc Q K W E C h (j.val + 1) y l : ℝ) : EReal)
  row : ∀ i, s.2.1 (ix2 0 i) = ((R (Q h) (K h) (W h) (E h) (C h) i : ℝ) : EReal)
  lse : ∀ i, s.2.2 (ix2 0 i) = ((Real.log (Z (Q h) (K h) (C h) i) : ℝ) : EReal)

include hq hk hv he hb in
theorem left_step (t : Fin cfg0.N) (A : Vec Ideal S8192x128 .f32) (D L : Vec Ideal S8x8192 .f32)
    (hA : ∀ y l, A (ix2 y l) = ((acc Q K W E C (hd t) (kt t).val y l : ℝ) : EReal))
    (hD : ∀ i, D (ix2 0 i) = ((R (Q (hd t)) (K (hd t)) (W (hd t)) (E (hd t)) (C (hd t)) i : ℝ) : EReal))
    (hL : ∀ i, L (ix2 0 i) = ((Real.log (Z (Q (hd t)) (K (hd t)) (C (hd t)) i) : ℝ) : EReal)) :
    Left Q K W E C (hd t) (kt t) (pt m c t A D L, D, L) := by
  have hp := point_done (i := grid0.coords t) (j := kt t) (coord1 t) (fun i l => q_at m c hq t i l) (fun i l => d_at m c he t i l)
    (fun r l => k_at m c hk hb t r l) (fun r l => v_at m c hv t r l) hL hD _ A hA
  unfold pt
  generalize pointS (grid0.coords t) (iblk m c 0 t) (iblk m c 1 t) (iblk m c 2 t) (iblk m c 3 t) A D L = p at hp ⊢
  obtain ⟨h1, h2, h3⟩ := hp
  refine ⟨h1, h2, fun y l => (h3 y l).trans (congrArg _ ?_), hD, hL⟩
  unfold acc
  exact (sum_next (fun u => ∑ r, DS (Q (hd t)) (K (hd t)) (W (hd t)) (E (hd t)) (C (hd t)) y (tl u r) * kL (K (hd t)) (C (hd t)) (tl u r) l) 0 (kt t).val (Nat.zero_le _) (kt t).isLt).symm

theorem zero_at (y : Fin 8192) (l : Fin 128) : k0_pay19 (F := Ideal) (ix2 y l) = ((0 : ℝ) : EReal) := by
  pointwise [k0_pay19]
  exact EReal.coe_zero.symm

include hq hk hv he hb in
theorem left_at (n : ℕ) (hn : n < cfg0.N) : Left Q K W E C (hd ⟨n, hn⟩) (kt ⟨n, hn⟩) (outsAt0 m c n hn) := by
  induction n with
  | zero =>
    rw [outsAt0_A m c ⟨0, hn⟩ rfl]
    refine left_step m c hq hk hv he hb ⟨0, hn⟩ _ _ _ (fun y l => (zero_at y l).trans (congrArg _ ?_)) ?_ ?_
    · unfold acc kt
      simp
    · exact fun i => pay20_at _ _ (fun i l => d_at m c he _ i l) (fun i l => o_at m c hq hk hv hb _ i l) 0 i
    · exact fun i => pay21_at _ (fun i l => o_at m c hq hk hv hb _ i l) 0 i
  | succ n ih =>
    by_cases h0 : (n + 1) % 16 = 0
    · rw [outsAt0_A m c ⟨n + 1, hn⟩ h0]
      refine left_step m c hq hk hv he hb ⟨n + 1, hn⟩ _ _ _ (fun y l => (zero_at y l).trans (congrArg _ ?_)) ?_ ?_
      · unfold acc kt
        simp [h0]
      · exact fun i => pay20_at _ _ (fun i l => d_at m c he _ i l) (fun i l => o_at m c hq hk hv hb _ i l) 0 i
      · exact fun i => pay21_at _ (fun i l => o_at m c hq hk hv hb _ i l) 0 i
    · rw [outsAt0_B m c ⟨n + 1, hn⟩ h0]
      have p := ih (Nat.lt_of_succ_lt hn)
      have eh : hd ⟨n, Nat.lt_of_succ_lt hn⟩ = hd ⟨n + 1, hn⟩ := Fin.ext (by show n / 16 = (n + 1) / 16; omega)
      have ek : (kt ⟨n, Nat.lt_of_succ_lt hn⟩).val + 1 = (kt ⟨n + 1, hn⟩).val := by show n % 16 + 1 = (n + 1) % 16; omega
      rw [eh] at p
      exact left_step m c hq hk hv he hb ⟨n + 1, hn⟩ _ _ _ (fun y l => by rw [← ek]; exact p.dq y l) p.row p.lse

/-- The array whose lane `l` of head `h` is `f h · l`. -/
def ofLanes (f : Fin 4 → Fin 8192 → Fin 128 → ℝ) : FVec Ideal S8192x512 .f32 :=
  fun x => ((f ⟨(x 1).val / 128, by have : (x 1).val < 512 := (x 1).isLt; omega⟩ (x 0) ⟨(x 1).val % 128, by omega⟩ : ℝ) : EReal)

theorem ofLanes_at (f : Fin 4 → Fin 8192 → Fin 128 → ℝ) (h : Fin 4) (i : Fin 8192) (l : Fin 128) (hl : h.val * 128 + l.val < 512) :
    ofLanes f (ix2 i ⟨h.val * 128 + l.val, hl⟩) = ((f h i l : ℝ) : EReal) := by
  have e1 : (⟨(h.val * 128 + l.val) / 128, by omega⟩ : Fin 4) = h := Fin.ext (by simp only []; omega)
  have e2 : (⟨(h.val * 128 + l.val) % 128, by omega⟩ : Fin 128) = l := Fin.ext (by simp only []; omega)
  show ((f ⟨(h.val * 128 + l.val) / 128, _⟩ i ⟨(h.val * 128 + l.val) % 128, _⟩ : ℝ) : EReal) = _
  rw [e1, e2]

/-- The accumulated queries' gradient after all key tiles. -/
theorem acc_all (h : Fin 4) (y : Fin 8192) (l : Fin 128) :
    acc Q K W E C h 16 y l = ∑ j, DS (Q h) (K h) (W h) (E h) (C h) y j * kL (K h) (C h) j l :=
  sum_from 0 (fun j => DS (Q h) (K h) (W h) (E h) (C h) y j * kL (K h) (C h) j l) (fun j hj => absurd hj (by simp))

theorem eighth : (FloatOps.ofBits .f32 0x3E000000#32 : Ideal .f32) = ((1 / 8 : ℝ) : EReal) := by
  simp [FloatOps.ofBits, Ideal.ofBits, Ideal.ieee, ← EReal.coe_mul]; norm_num

theorem scaled_at (A : FVec Ideal S8192x128 .f32) (y : Fin 8192) (l : Fin 128) (r : ℝ) (h : A (ix2 y l) = ((r : ℝ) : EReal)) :
    k0_pay18 (F := Ideal) A (ix2 y l) = ((r * (1 / 8) : ℝ) : EReal) := by
  pointwise [k0_pay18]
  rw [h, EReal.coe_mul]
  exact congrArg _ eighth

include hq hk hv he hb in
/-- The queries' gradient, as the kernel leaves it. -/
theorem final_dq : (dats m 0 c).arrAt 5 (cfgs 0).N = ofLanes fun h y l => (∑ j, DS (Q h) (K h) (W h) (E h) (C h) y j * kL (K h) (C h) j l) * (1 / 8) := by
  refine (dats m 0 c).arrAt_eq_of_covers 5 _ (by decide +kernel) fun t hf y => ?_
  have h15 : t.val % 16 = 15 := by exact (flush0_5 t).mp hf
  blk_simp
  rw [after0_5]
  idx_vars y
  refine (scaled_at _ y0 y1 _ ((left_at m c hq hk hv he hb t.val t.isLt).dq y0 y1)).trans ?_
  refine Eq.trans ?_ ((ofLanes_at (fun h y l => (∑ j, DS (Q h) (K h) (W h) (E h) (C h) y j * kL (K h) (C h) j l) * (1 / 8)) (hd t) y0 y1 (lane_lt _ _)).symm.trans (by unfold hd; blk_ext [idx t]))
  have e : (kt ⟨t.val, t.isLt⟩).val + 1 = 16 := by show t.val % 16 + 1 = 16; omega
  rw [e, acc_all]

include hq hk hv he hb in
/-- The keys' gradient, as the kernel leaves it. -/
theorem final_dk : (dats m 0 c).arrAt 6 (cfgs 0).N = ofLanes fun h j l => ∑ y, DS (Q h) (K h) (W h) (E h) (C h) y j * qL (Q h) y l := by
  refine (dats m 0 c).arrAt_eq_of_covers 6 _ (by decide +kernel) fun t hf y => ?_
  blk_simp
  rw [after0_6]
  idx_vars y
  refine ((left_at m c hq hk hv he hb t.val t.isLt).dk y0 y1).trans ?_
  exact (ofLanes_at (fun h j l => ∑ y, DS (Q h) (K h) (W h) (E h) (C h) y j * qL (Q h) y l) (hd t) (tl (kt t) y0) y1 (lane_lt _ _)).symm.trans (by unfold hd tl kt; blk_ext [idx t])

include hq hk hv he hb in
/-- The values' gradient, as the kernel leaves it. -/
theorem final_dv : (dats m 0 c).arrAt 7 (cfgs 0).N = ofLanes fun h j l => ∑ y, P (Q h) (K h) (C h) y j * wL (E h) y l := by
  refine (dats m 0 c).arrAt_eq_of_covers 7 _ (by decide +kernel) fun t hf y => ?_
  blk_simp
  rw [after0_7]
  idx_vars y
  refine ((left_at m c hq hk hv he hb t.val t.isLt).dv y0 y1).trans ?_
  exact (ofLanes_at (fun h j l => ∑ y, P (Q h) (K h) (C h) y j * wL (E h) y l) (hd t) (tl (kt t) y0) y1 (lane_lt _ _)).symm.trans (by unfold hd tl kt; blk_ext [idx t])

end Cert.FoxBwdIdeal.Value

end

end
-- ==== Proof.FoxBias.lean ====
/- The forget bias: the kernel's host lines and the reference's log-sigmoid make the same real array. -/
module

public import proofs.«01_k».proof.Proof.FoxPack

@[expose] public section

set_option maxRecDepth 16384

noncomputable section

open Idealize.ShloMosaic Idealize.ShloMosaic.TcCoe Idealize.SL.Sem
open Cert.Common

namespace Cert.FoxBwdIdeal.Value

open Cert.FoxBwdIdeal Cert.FoxBwdIdeal.Gen
open Cert.Fox
open Cert.FoxBwdRefIdeal.Read

variable {f : FVec Ideal S8192x4 .f32} {b : FVec Ideal S4 .f32}

/-- A gate's logarithm, as the kernel's host lines write it and as the reference does. -/
theorem gate_real (x : ℝ) : ((min x 0 - Real.log (1 + Real.exp (-|x|)) : ℝ) : EReal) = ((-(max (-x) 0 + Real.log (1 + Real.exp (-|-x|))) : ℝ) : EReal) := by
  congr 1
  rw [abs_neg, neg_add, sub_eq_add_neg]
  congr 1
  rcases le_total x 0 with h | h
  · rw [min_eq_left h, max_eq_left (by linarith), neg_neg]
  · rw [min_eq_right h, max_eq_right (by linarith), neg_zero]

theorem gates_at (hf : ∀ i, ∃ r : ℝ, f i = (r : EReal)) (hb : ∀ i, ∃ r : ℝ, b i = (r : EReal)) (i : Fin 8192) (h : Fin 4) :
    ∃ r : ℝ, gates f b (ix2 i h) = (r : EReal) ∧ val_main_v3 (F := Ideal) f b (ix2 i h) = (r : EReal) := by
  obtain ⟨x, hx⟩ := hf (ix2 i h)
  obtain ⟨y, hy⟩ := hb (ix1 h)
  have hp : 0 < 1 + Real.exp (-|x + y|) := by positivity
  refine ⟨min (x + y) 0 - Real.log (1 + Real.exp (-|x + y|)), ?_, ?_⟩
  · pointwise [gates]
    rw [hx, hy, ← EReal.coe_add]
    rw [show FloatOps.absf (F := Ideal) (φ := .f32) ((x + y : ℝ) : EReal) = ((|x + y| : ℝ) : EReal) from coe_abs _, ← EReal.coe_neg, Ideal.exp_coe, ← EReal.coe_one, ← EReal.coe_add,
      Ideal.log_coe, if_neg hp.not_ge, ← EReal.coe_zero, ← coe_min, ← EReal.coe_sub]
  · pointwise [val_main_v3, val_main_call0_v1, val_main_call0_call0_v4, val_main_call0_call0_v6, val_main_call0_call0_v11, val_main_call0_call0_v10, val_main_call0_call0_v9, val_main_call0_call0_v8, val_main_call0_call0_v7, val_main_call0_call0_v5, val_main_call0_call0_v3, val_main_call0_call0_v2, val_main_call0_call0_v1, val_main_call0_call0_v0, val_main_call0_call0_cst, val_main_call0_v0, val_main_v2, val_main_v1, val_main_v0]
    rw [hx, hy, ← EReal.coe_add, ← EReal.coe_neg, if_neg (fun e => e rfl)]
    rw [show FloatOps.absf (F := Ideal) (φ := .f32) ((-(x + y) : ℝ) : EReal) = ((|-(x + y)| : ℝ) : EReal) from coe_abs _, ← EReal.coe_neg, Ideal.exp_coe]
    rw [show Ideal.log1p ((Real.exp (-|-(x + y)|) : ℝ) : EReal) = Ideal.log (((1 : ℝ) : EReal) + ((Real.exp (-|-(x + y)|) : ℝ) : EReal)) from rfl, ← EReal.coe_add,
      Ideal.log_coe, if_neg (by rw [abs_neg]; exact hp.not_ge), ← EReal.coe_zero, ← coe_max, ← EReal.coe_add, ← EReal.coe_neg]
    exact (gate_real _).symm

theorem bias_eq (hf : ∀ i, ∃ r : ℝ, f i = (r : EReal)) (hb : ∀ i, ∃ r : ℝ, b i = (r : EReal)) :
    bias f b = val_main_v4 (F := Ideal) f b := by
  have e : gates f b = val_main_v3 (F := Ideal) f b := funext fun i => by
    idx_vars i
    obtain ⟨r, h1, h2⟩ := gates_at hf hb _ _
    exact h1.trans h2.symm
  unfold bias val_main_v4
  rw [e]
  rfl

theorem fold_real {ι : Type*} (l : List ι) (g : ι → EReal) (hg : ∀ n, ∃ r : ℝ, g n = (r : EReal)) (x : ℝ) :
    ∃ r : ℝ, l.foldl (fun r n => r + g n) (x : EReal) = (r : EReal) := by
  induction l generalizing x with
  | nil => exact ⟨x, rfl⟩
  | cons a l ih =>
    obtain ⟨y, hy⟩ := hg a
    obtain ⟨r, hr⟩ := ih (x + y)
    exact ⟨r, by rw [List.foldl_cons, hy, ← EReal.coe_add]; exact hr⟩

/-- A window sum of real elements is a real. -/
theorem window_real {s t u : Shape} (window strides lo hi : Fin s.rank → ℕ) (x : FVec Ideal s .f32) (init : FVec Ideal u .f32)
    (h : s.ReduceWindows window strides lo hi t) (hu : 0 < u.numel) (hx : ∀ i, ∃ r : ℝ, x i = (r : EReal)) (hn : ∀ i, ∃ r : ℝ, init i = (r : EReal)) (j : t.Idx) :
    ∃ r : ℝ, Host.reduceWindowAdd window strides lo hi x init h hu j = (r : EReal) := by
  obtain ⟨a, ha⟩ := hn (Shape.Idx.first hu)
  unfold Host.reduceWindowAdd
  rw [ha]
  refine fold_real _ _ (fun n => ?_) a
  dsimp only
  split
  · exact hx _
  · exact ⟨a, rfl⟩

theorem bias_real (hf : ∀ i, ∃ r : ℝ, f i = (r : EReal)) (hb : ∀ i, ∃ r : ℝ, b i = (r : EReal)) (j : S8192x4.Idx) :
    ∃ r : ℝ, bias f b j = (r : EReal) := by
  unfold bias
  refine window_real _ _ _ _ _ _ _ _ (fun i => ?_) (fun i => ⟨0, ?_⟩) j
  · idx_vars i
    obtain ⟨r, h1, _⟩ := gates_at hf hb _ _
    exact ⟨r, h1⟩
  · exact zero_word

end Cert.FoxBwdIdeal.Value

end

end
-- ==== Proof.Fox.lean ====
/- The attention kernel's three results against the reference's: the read lanes, under finite operands. -/
module

public import proofs.«01_k».proof.Defs
public import proofs.«01_k».proof.Proof.FoxValue
public import proofs.«01_k».proof.Proof.FoxBias

@[expose] public section

set_option maxRecDepth 16384

noncomputable section

open Idealize.ShloMosaic Idealize.ShloMosaic.TcCoe Idealize.SL.Sem
open Idealize.ShloMosaic.Pipeline (Dat)
open Cert.Common

namespace Cert.FoxBwdIdeal.Value

open Cert.FoxBwdIdeal Cert.FoxBwdIdeal.Gen
open Cert.Fox
open Cert.FoxBwdRefIdeal.Value (Heads Ph DSh v102 v108 v112)
open Cert.FoxBwdRefIdeal.Read

instance factsPre : Cert.Pre_finite_fox.Facts := ⟨by decide, by decide, by decide⟩
instance factsOn : Cert.On_read_fox.Facts := ⟨by decide, by decide +kernel, by decide⟩

/-- Every lane of a row is a lane of a head. -/
theorem exists_lane (x : Fin 512) : ∃ (h : Fin 4) (l : Fin 128) (hl : h.val * 128 + l.val < 512), x = ⟨h.val * 128 + l.val, hl⟩ :=
  ⟨⟨x.val / 128, by omega⟩, ⟨x.val % 128, by omega⟩, by simp only []; omega, Fin.ext (by simp only []; omega)⟩

section mask
variable (a0 a1 a2 : FVec Ideal S8192x256 .f32) (a3 : FVec Ideal S8192x4 .f32) (a4 : FVec Ideal S4 .f32) (a5 : FVec Ideal S8192x256 .f32)

/-- The lanes of the queries' gradient that are read. -/
theorem mask_dq (i : Fin 8192) (h : Fin 4) (l : Fin 128) (hl : h.val * 128 + l.val < 512)
    (hm : (Cert.On_read_fox.fn (F := Ideal) a0 a1 a2 a3 a4 a5).1 (ix2 i ⟨h.val * 128 + l.val, hl⟩) = 1#1) : l.val < 64 ∨ l.val = 67 := by
  have e : (Cert.On_read_fox.fn (F := Ideal) a0 a1 a2 a3 a4 a5).1 (ix2 i ⟨h.val * 128 + l.val, hl⟩)
      = Scalar.ori (Scalar.cmpi .slt (BitVec.ofNat 32 l.val) 64#32) (Scalar.cmpi .eq (BitVec.ofNat 32 l.val) 67#32) := by
    pointwise [Cert.On_read_fox.fn]
    rfl
  have f : ∀ l : Fin 128, Scalar.ori (Scalar.cmpi .slt (BitVec.ofNat 32 l.val) 64#32) (Scalar.cmpi .eq (BitVec.ofNat 32 l.val) 67#32) = 1#1 → l.val < 64 ∨ l.val = 67 := by
    decide +kernel
  exact f l (e.symm.trans hm)

/-- The lanes of the keys' gradient that are read. -/
theorem mask_dk (i : Fin 8192) (h : Fin 4) (l : Fin 128) (hl : h.val * 128 + l.val < 512)
    (hm : (Cert.On_read_fox.fn (F := Ideal) a0 a1 a2 a3 a4 a5).2.1 (ix2 i ⟨h.val * 128 + l.val, hl⟩) = 1#1) : l.val ≤ 64 := by
  have e : (Cert.On_read_fox.fn (F := Ideal) a0 a1 a2 a3 a4 a5).2.1 (ix2 i ⟨h.val * 128 + l.val, hl⟩)
      = Scalar.cmpi .sle (BitVec.ofNat 32 l.val) 64#32 := by
    pointwise [Cert.On_read_fox.fn]
    rfl
  have f : ∀ l : Fin 128, Scalar.cmpi .sle (BitVec.ofNat 32 l.val) 64#32 = 1#1 → l.val ≤ 64 := by
    decide +kernel
  exact f l (e.symm.trans hm)
end mask

section real
variable (q k v d : Fin 4 → Fin 8192 → Fin 64 → ℝ) (c : Fin 4 → Fin 8192 → ℝ) (h : Fin 4) (i : Fin 8192) (l : Fin 128)

theorem real_dq (hl : l.val < 64 ∨ l.val = 67) :
    (((∑ j, DS (q h) (k h) (v h) (d h) (c h) i j * kL (k h) (c h) j l) * (1 / 8) : ℝ) : EReal)
      = if hl : l.val < 64 then ((Cert.FoxBwdRefIdeal.Value.dq q k v d c h i ⟨l, hl⟩ : ℝ) : EReal)
        else if l.val = 67 then ((∑ j, DSh q k v d c h i j : ℝ) : EReal) else 0 := by
  by_cases h1 : l.val < 64
  · rw [dif_pos h1]
    congr 1
    unfold Cert.FoxBwdRefIdeal.Value.dq DSh kL
    rw [Finset.sum_mul]
    refine Finset.sum_congr rfl fun j _ => ?_
    rw [dif_pos h1]
    ring
  · have h2 : l.val = 67 := hl.resolve_left h1
    rw [dif_neg h1, if_pos h2]
    congr 1
    unfold DSh kL
    rw [Finset.sum_mul]
    refine Finset.sum_congr rfl fun j _ => ?_
    rw [dif_neg h1, if_neg (by omega), if_pos h2]
    ring

theorem real_dk (hl : l.val ≤ 64) :
    ((∑ y, DS (q h) (k h) (v h) (d h) (c h) y i * qL (q h) y l : ℝ) : EReal)
      = if hl : l.val < 64 then ((Cert.FoxBwdRefIdeal.Value.dk q k v d c h i ⟨l, hl⟩ : ℝ) : EReal)
        else if l.val = 64 then ((∑ j, DSh q k v d c h j i : ℝ) : EReal) else 0 := by
  by_cases h1 : l.val < 64
  · rw [dif_pos h1]
    congr 1
    unfold Cert.FoxBwdRefIdeal.Value.dk DSh qL
    refine Finset.sum_congr rfl fun j _ => ?_
    rw [dif_pos h1]
    ring
  · have h2 : l.val = 64 := by omega
    rw [dif_neg h1, if_pos h2]
    congr 1
    unfold DSh qL
    refine Finset.sum_congr rfl fun j _ => ?_
    rw [dif_neg h1, if_pos (by omega)]
    ring

theorem real_dv :
    ((∑ y, P (q h) (k h) (c h) y i * wL (d h) y l : ℝ) : EReal)
      = if hl : l.val < 64 then ((Cert.FoxBwdRefIdeal.Value.dv q k d c h i ⟨l, hl⟩ : ℝ) : EReal) else 0 := by
  by_cases h1 : l.val < 64
  · rw [dif_pos h1]
    congr 1
    unfold Cert.FoxBwdRefIdeal.Value.dv Ph wL
    refine Finset.sum_congr rfl fun j _ => ?_
    rw [dif_pos h1]
    ring
  · rw [dif_neg h1, ← EReal.coe_zero]
    congr 1
    refine Finset.sum_eq_zero fun j _ => ?_
    unfold wL
    rw [dif_neg h1, mul_zero]
end real

section finite
variable {a0 a1 a2 : FVec Ideal S8192x256 .f32} {a3 : FVec Ideal S8192x4 .f32} {a4 : FVec Ideal S4 .f32} {a5 : FVec Ideal S8192x256 .f32}

/-- An array of reals, head by head. -/
theorem heads_real (x : FVec Ideal S8192x256 .f32) (h : ∀ i, ∃ r : ℝ, x i = (r : EReal)) : ∃ r : Fin 4 → Fin 8192 → Fin 64 → ℝ, Heads x r := by
  choose r hr using h
  exact ⟨fun h i l => r (ix2 i ⟨h.val * 64 + l.val, by omega⟩), fun h i l hl => hr _⟩
end finite

variable (m : (ℓ : Loc nD τ sig) → Buf (Elt Ideal) ℓ)

/-- Finite operands are reals, and so is the forget bias made of them. -/
theorem reals (hpre : Cert.Pre_FoxBwdIdeal_finite_fox m) (c : Dev nD) :
    ∃ (Q K W E : Fin 4 → Fin 8192 → Fin 64 → ℝ) (C : Fin 4 → Fin 8192 → ℝ),
      Heads (aq m c) Q ∧ Heads (ak m c) K ∧ Heads (av m c) W ∧ Heads (ad m c) E
      ∧ (∀ (h : Fin 4) (i : Fin 8192), bias (af m c) (ab m c) (ix2 i h) = ((C h i : ℝ) : EReal))
      ∧ (∀ (h : Fin 4) (i : Fin 8192), val_main_v4 (F := Ideal) (af m c) (ab m c) (ix2 i h) = ((C h i : ℝ) : EReal)) := by
  obtain ⟨p0, p1, p2, p3, p4, p5⟩ := hpre c
  have hf : ∀ i, ∃ r : ℝ, af m c i = (r : EReal) := real_of_mask (af m c) factsPre.bcast_S_S8192x4 p3
  have hg : ∀ i, ∃ r : ℝ, ab m c i = (r : EReal) := real_of_mask (ab m c) factsPre.bcast_S_S4 p4
  obtain ⟨Q, hQ⟩ := heads_real (aq m c) (real_of_mask (aq m c) factsPre.bcast_S_S8192x256 p0)
  obtain ⟨K, hK⟩ := heads_real (ak m c) (real_of_mask (ak m c) factsPre.bcast_S_S8192x256 p1)
  obtain ⟨W, hW⟩ := heads_real (av m c) (real_of_mask (av m c) factsPre.bcast_S_S8192x256 p2)
  obtain ⟨E, hE⟩ := heads_real (ad m c) (real_of_mask (ad m c) factsPre.bcast_S_S8192x256 p5)
  choose C hC using fun j => bias_real hf hg j
  refine ⟨Q, K, W, E, fun h i => C (ix2 i h), hQ, hK, hW, hE, fun h i => hC _, fun h i => ?_⟩
  rw [← bias_eq hf hg]
  exact hC _

/-- The queries' gradient and the decay's on the queries' side: the kernel leaves what the reference computes. -/
theorem same_dq (hpre : Cert.Pre_FoxBwdIdeal_finite_fox m) (c : Dev nD) (i : S8192x512.Idx)
    (hm : (Cert.On_read_fox.fn (F := Ideal) (aq m c) (ak m c) (av m c) (af m c) (ab m c) (ad m c)).1 i = 1#1) :
    val_main_v102 (F := Ideal) (aq m c) (ak m c) (av m c) (af m c) (ab m c) (ad m c) i = (dats m 0 c).arrAt 5 (cfgs 0).N i := by
  obtain ⟨Q, K, W, E, C, hq, hk, hv, he, hb, hc⟩ := reals m hpre c
  rw [final_dq m c hq hk hv he hb]
  idx_vars i
  obtain ⟨h, l, hl, rfl⟩ := exists_lane i1
  rw [ofLanes_at]
  refine (v102 hq hk hv he hc i0 h l hl).trans ?_
  exact (real_dq Q K W E C h i0 l (mask_dq _ _ _ _ _ _ i0 h l hl hm)).symm

/-- The keys' gradient and the decay's on the keys' side: the kernel leaves what the reference computes. -/
theorem same_dk (hpre : Cert.Pre_FoxBwdIdeal_finite_fox m) (c : Dev nD) (i : S8192x512.Idx)
    (hm : (Cert.On_read_fox.fn (F := Ideal) (aq m c) (ak m c) (av m c) (af m c) (ab m c) (ad m c)).2.1 i = 1#1) :
    val_main_v108 (F := Ideal) (aq m c) (ak m c) (av m c) (af m c) (ab m c) (ad m c) i = (dats m 0 c).arrAt 6 (cfgs 0).N i := by
  obtain ⟨Q, K, W, E, C, hq, hk, hv, he, hb, hc⟩ := reals m hpre c
  rw [final_dk m c hq hk hv he hb]
  idx_vars i
  obtain ⟨h, l, hl, rfl⟩ := exists_lane i1
  rw [ofLanes_at]
  refine (v108 hq hk hv he hc i0 h l hl).trans ?_
  exact (real_dk Q K W E C h i0 l (mask_dk _ _ _ _ _ _ i0 h l hl hm)).symm

/-- The values' gradient: the kernel leaves what the reference computes. -/
theorem same_dv (hpre : Cert.Pre_FoxBwdIdeal_finite_fox m) (c : Dev nD) (i : S8192x512.Idx) :
    val_main_v112 (F := Ideal) (aq m c) (ak m c) (af m c) (ab m c) (ad m c) i = (dats m 0 c).arrAt 7 (cfgs 0).N i := by
  obtain ⟨Q, K, W, E, C, hq, hk, hv, he, hb, hc⟩ := reals m hpre c
  rw [final_dv m c hq hk hv he hb]
  idx_vars i
  obtain ⟨h, l, hl, rfl⟩ := exists_lane i1
  rw [ofLanes_at]
  refine (v112 hq hk he hc i0 h l hl).trans ?_
  exact (real_dv Q K E C h i0 l).symm

end Cert.FoxBwdIdeal.Value

end

end
-- ==== Proof.Window.lean ====
/- Running sums as the host writes them: one window per row, the whole column long. -/
module

public import Idealize.ShloMosaic.Lib.Claim
public import proofs.«01_k».proof.Proof.Common

@[expose] public section

set_option maxRecDepth 16384

noncomputable section

open Idealize.ShloMosaic Idealize.ShloMosaic.TcCoe Idealize.SL.Sem

namespace Cert.Common

theorem foldl_add {n : ℕ} (l : List (Fin n)) (g : Fin n → EReal) (v : EReal) : l.foldl (fun r k => r + g k) v = v + (l.map g).sum := by
  induction l generalizing v with
  | nil => simp
  | cons a l ih => rw [List.foldl_cons, ih, List.map_cons, List.sum_cons, add_assoc]

/-- A column-long window's sum over the positions inside the array. -/
theorem window_sum {M N : ℕ} {u : Shape} (a b : ℕ) (x : FVec Ideal ⟨2, ![M, N]⟩ .f32) (init : FVec Ideal u .f32)
    (h : (⟨2, ![M, N]⟩ : Shape).ReduceWindows ![M, 1] ![1, 1] ![a, 0] ![b, 0] ⟨2, ![M, N]⟩) (hu : 0 < u.numel)
    (hz : init (Shape.Idx.first hu) = 0) (i : Fin M) (l : Fin N) :
    Host.reduceWindowAdd (s := ⟨2, ![M, N]⟩) (t := ⟨2, ![M, N]⟩) ![M, 1] ![1, 1] ![a, 0] ![b, 0] x init h hu (ix2 i l)
      = ∑ k : Fin M, if hk : a ≤ i.val + k.val ∧ i.val + k.val - a < M then x (ix2 ⟨i.val + k.val - a, hk.2⟩ l) else 0 := by
  let W : Shape := ⟨2, ![M, 1]⟩
  let f : W.Idx → EReal := fun w => if hin : ∀ d : Fin 2, (![a, 0] : Fin 2 → ℕ) d ≤ ((ix2 i l) d).val * (![1, 1] : Fin 2 → ℕ) d + (w d).val
      ∧ ((ix2 i l) d).val * (![1, 1] : Fin 2 → ℕ) d + (w d).val - (![a, 0] : Fin 2 → ℕ) d < (![M, N] : Fin 2 → ℕ) d
    then x (fun d => ⟨((ix2 i l) d).val * (![1, 1] : Fin 2 → ℕ) d + (w d).val - (![a, 0] : Fin 2 → ℕ) d, (hin d).2⟩) else 0
  have e : Host.reduceWindowAdd (s := ⟨2, ![M, N]⟩) (t := ⟨2, ![M, N]⟩) ![M, 1] ![1, 1] ![a, 0] ![b, 0] x init h hu (ix2 i l)
      = (List.finRange W.numel).foldl (fun r n => r + f (W.rowMajor.symm n)) 0 := by
    unfold Host.reduceWindowAdd
    rw [hz]
    change Ideal.hostReduceWindowAdd ![M, 1] ![1, 1] ![a, 0] ![b, 0] h x (0 : EReal) (ix2 i l) = _
    unfold Ideal.hostReduceWindowAdd Host.reduceWindow
    dsimp only [f]
    refine congrArg (fun g => List.foldl g (0 : EReal) (List.finRange W.numel)) (funext fun r => funext fun n => congrArg (r + ·) ?_)
    exact dite_congr rfl (fun _ => rfl) fun _ => rfl
  rw [e, foldl_add _ (fun n => f (W.rowMajor.symm n)), zero_add, ← List.ofFn_eq_map, List.sum_ofFn, Equiv.sum_comp W.rowMajor.symm f]
  refine (Fintype.sum_equiv (⟨fun k => ix2 k 0, fun w => w 0, fun k => rfl, fun w => ?_⟩ : Fin M ≃ W.Idx) _ _ fun k => ?_).symm
  · funext d
    match d with
    | ⟨0, _⟩ => rfl
    | ⟨1, _⟩ => exact Subsingleton.elim (α := Fin 1) _ _
  · show _ = f (ix2 k 0)
    by_cases hk : a ≤ i.val + k.val ∧ i.val + k.val - a < M
    · rw [dif_pos hk]
      refine Eq.trans ?_ (dif_pos ?_).symm
      · refine congrArg x (funext fun d => Fin.ext ?_)
        match d with
        | ⟨0, _⟩ => show i.val + k.val - a = i.val * 1 + k.val - a; rw [mul_one]
        | ⟨1, _⟩ => show l.val = l.val * 1 + 0 - 0; omega
      · intro d
        match d with
        | ⟨0, _⟩ => show a ≤ i.val * 1 + k.val ∧ i.val * 1 + k.val - a < M; rw [mul_one]; exact hk
        | ⟨1, _⟩ => show 0 ≤ l.val * 1 + 0 ∧ l.val * 1 + 0 - 0 < N; omega
    · rw [dif_neg hk]
      refine Eq.symm (Eq.trans (dif_neg fun hin => hk ?_) rfl)
      have := hin 0
      change a ≤ i.val * 1 + k.val ∧ i.val * 1 + k.val - a < M at this
      rwa [mul_one] at this

variable {M N : ℕ} {u : Shape} (x : FVec Ideal ⟨2, ![M, N]⟩ .f32) (init : FVec Ideal u .f32) (hu : 0 < u.numel)
  (hz : init (Shape.Idx.first hu) = 0) (i : Fin M) (l : Fin N)

include hz in
/-- The sum from a row on. -/
theorem window_rest (b : ℕ) (h : (⟨2, ![M, N]⟩ : Shape).ReduceWindows ![M, 1] ![1, 1] ![0, 0] ![b, 0] ⟨2, ![M, N]⟩) :
    Host.reduceWindowAdd (s := ⟨2, ![M, N]⟩) (t := ⟨2, ![M, N]⟩) ![M, 1] ![1, 1] ![0, 0] ![b, 0] x init h hu (ix2 i l)
      = ∑ y : Fin M, if i ≤ y then x (ix2 y l) else 0 := by
  rw [window_sum 0 b x init h hu hz]
  have e : ∀ k : Fin M, (if hk : 0 ≤ i.val + k.val ∧ i.val + k.val - 0 < M then x (ix2 ⟨i.val + k.val - 0, hk.2⟩ l) else (0 : EReal))
      = ∑ y : Fin M, if y.val = i.val + k.val then x (ix2 y l) else 0 := fun k => by
    by_cases hk : i.val + k.val < M
    · rw [dif_pos ⟨Nat.zero_le _, hk⟩, Finset.sum_eq_single ⟨i.val + k.val, hk⟩ (fun y _ hy => if_neg fun e => hy (Fin.ext e)) (fun h => absurd (Finset.mem_univ _) h), if_pos rfl]
      rfl
    · rw [dif_neg fun h => hk h.2]
      exact (Finset.sum_eq_zero (M := EReal) fun y _ => if_neg (by omega)).symm
  rw [Finset.sum_congr rfl fun k _ => e k, Finset.sum_comm]
  refine Finset.sum_congr rfl fun y _ => ?_
  by_cases hy : i ≤ y
  · have hy' : i.val ≤ y.val := hy
    rw [if_pos hy, Finset.sum_eq_single ⟨y.val - i.val, by omega⟩ (fun k _ hk => if_neg fun e => hk (Fin.ext (by show k.val = y.val - i.val; omega))) (fun h => absurd (Finset.mem_univ _) h), if_pos (by show y.val = i.val + (y.val - i.val); omega)]
  · have hy' : ¬i.val ≤ y.val := hy
    rw [if_neg hy]
    exact Finset.sum_eq_zero (M := EReal) fun k _ => if_neg (by omega)

include hz in
/-- The sum up to a row. -/
theorem window_upto (a b : ℕ) (ha : a + 1 = M) (h : (⟨2, ![M, N]⟩ : Shape).ReduceWindows ![M, 1] ![1, 1] ![a, 0] ![b, 0] ⟨2, ![M, N]⟩) :
    Host.reduceWindowAdd (s := ⟨2, ![M, N]⟩) (t := ⟨2, ![M, N]⟩) ![M, 1] ![1, 1] ![a, 0] ![b, 0] x init h hu (ix2 i l)
      = ∑ y : Fin M, if y ≤ i then x (ix2 y l) else 0 := by
  rw [window_sum a b x init h hu hz]
  have e : ∀ k : Fin M, (if hk : a ≤ i.val + k.val ∧ i.val + k.val - a < M then x (ix2 ⟨i.val + k.val - a, hk.2⟩ l) else (0 : EReal))
      = ∑ y : Fin M, if y.val + a = i.val + k.val then x (ix2 y l) else 0 := fun k => by
    by_cases hk : a ≤ i.val + k.val ∧ i.val + k.val - a < M
    · rw [dif_pos hk, Finset.sum_eq_single ⟨i.val + k.val - a, hk.2⟩ (fun y _ hy => if_neg fun e => hy (Fin.ext (by show y.val = i.val + k.val - a; omega))) (fun h => absurd (Finset.mem_univ _) h),
        if_pos (by show i.val + k.val - a + a = i.val + k.val; omega)]
    · rw [dif_neg hk]
      exact (Finset.sum_eq_zero (M := EReal) fun y _ => if_neg (by omega)).symm
  rw [Finset.sum_congr rfl fun k _ => e k, Finset.sum_comm]
  refine Finset.sum_congr rfl fun y _ => ?_
  by_cases hy : y ≤ i
  · have hy' : y.val ≤ i.val := hy
    rw [if_pos hy, Finset.sum_eq_single ⟨y.val + a - i.val, by omega⟩ (fun k _ hk => if_neg fun e => hk (Fin.ext (by show k.val = y.val + a - i.val; omega))) (fun h => absurd (Finset.mem_univ _) h), if_pos (by show y.val + a = i.val + (y.val + a - i.val); omega)]
  · have hy' : ¬y.val ≤ i.val := hy
    rw [if_neg hy]
    exact Finset.sum_eq_zero (M := EReal) fun k _ => if_neg (by omega)

end Cert.Common

end

end
-- ==== Proof.FoxPost.lean ====
/- The forget gate's gradient: the decay's running sum taken back, row block by row block from the last one. -/
module

public import proofs.«01_k».proof.Proof.Gen.FoxPostIdeal.Frame
public import proofs.«01_k».proof.Proof.Gen.FoxPostRefIdeal.Run
public import proofs.«01_k».proof.Proof.Gen.FoxPostRefIdeal.Read
public import Idealize.ShloMosaic.Lib.Claim
public import proofs.«01_k».proof.Proof.Window
public import proofs.«01_k».proof.Defs
public import Idealize.ShloMosaic.Lib.WordCmp
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.Common

namespace Cert.FoxPostIdeal.Value

open Cert.FoxPostIdeal Cert.FoxPostIdeal.Gen
open Cert.FoxPostRefIdeal.Read

variable (f : FVec Ideal S8192x4 .f32) (b : FVec Ideal S4 .f32) (qa ka : FVec Ideal S8192x512 .f32)

/-- The decay's gradient at a row, on the lanes of the heads, zero on the other lanes. -/
def dc (r : Fin 8192) (l : ℕ) : EReal :=
  if h : l < 4 then qa (ix2 r ⟨l * 128 + 67, by omega⟩) - ka (ix2 r ⟨l * 128 + 64, by omega⟩) else 0

/-- Its sum from a row on. -/
def rest (n : ℕ) (l : ℕ) : EReal := ∑ y : Fin 8192, if n ≤ y.val then dc qa ka y l else 0

/-- The gate's factor. -/
def gate (r : Fin 8192) (l : ℕ) : EReal :=
  if h : l < 4 then Ideal.logistic (0 - (f (ix2 r ⟨l, h⟩) + b (ix1 ⟨l, h⟩))) else Ideal.logistic (0 - (0 + 0))
/-- The reference's sum over a row and all later ones. -/
theorem ref_rest (r : Fin 8192) (l : Fin 4) : val_main_v12 (F := Ideal) qa ka (ix2 r l) = rest qa ka r l := by
  unfold val_main_v12
  refine (window_rest _ _ _ ?_ r l 8191 _).trans ?_
  · rw [val_main_call2_call0_v0_apply, val_main_call2_call0_cst_apply]
    exact zero_word
  · refine Finset.sum_congr rfl fun y _ => if_congr Iff.rfl ?_ rfl
    unfold dc
    pointwise [val_main_v6, val_main_v5, val_main_v4, val_main_v3, val_main_v2, val_main_v1, val_main_v0]

variable {f b} in
theorem ref_gate (hf : ∀ i, ∃ r : ℝ, f i = (r : EReal)) (hb : ∀ i, ∃ r : ℝ, b i = (r : EReal)) (r : Fin 8192) (l : Fin 4) :
    val_main_v10_1 (F := Ideal) f b (ix2 r l) = gate f b r l := by
  obtain ⟨x, hx⟩ := hf (ix2 r l)
  obtain ⟨y, hy⟩ := hb (ix1 l)
  unfold gate
  pointwise [val_main_v10_1, val_main_call0_call0_v21, val_main_call0_call0_v20, val_main_call0_v1_0, val_main_call0_call0_v11, val_main_call0_call0_v10, val_main_call0_call0_v9, val_main_call0_call0_v8, val_main_call0_call0_v7, val_main_call0_call0_v3, val_main_call0_call0_v2, val_main_call0_call0_cst, val_main_call0_v0, val_main_v9, val_main_v8, val_main_v7, val_main_call0_call0_v1, val_main_call0_call0_v0, val_main_call0_call0_v6, val_main_call0_call0_v5, val_main_call0_call0_v4, val_main_call0_call0_v19, val_main_call0_call0_cst_3, val_main_call0_call0_v18, val_main_call0_call0_v17, val_main_call0_call0_cst_2, val_main_call0_call0_v16, val_main_call0_call0_v15, val_main_call0_call0_cst_1, val_main_call0_call0_v14, val_main_call0_call0_v13, val_main_call0_call0_cst_0]
  rw [hx, hy, ← EReal.coe_add, zero_sub, ← EReal.coe_neg]
  generalize -(x + y) = z
  rw [infinity]
  simp only [ne_eq, not_true_eq_false, if_false, EReal.coe_ne_top]
  refine Eq.trans (congrArg Ideal.exp ?_) (slope z)
  refine congrArg ((z : EReal) - ·) (if_neg fun e => ?_)
  have hp : 0 < 1 + Real.exp (-|z|) := by positivity
  rw [show FloatOps.absf (F := Ideal) (φ := .f32) (z : EReal) = ((|z| : ℝ) : EReal) from coe_abs _, ← EReal.coe_neg, Ideal.exp_coe,
    show Ideal.log1p ((Real.exp (-|z|) : ℝ) : EReal) = Ideal.log (((1 : ℝ) : EReal) + ((Real.exp (-|z|) : ℝ) : EReal)) from rfl, ← EReal.coe_add,
    Ideal.log_coe, if_neg hp.not_ge, ← EReal.coe_zero, ← coe_max, ← EReal.coe_add] at e
  exact EReal.coe_ne_top _ e

variable (m : (ℓ : Loc nD τ sig) → Buf (Elt Ideal) ℓ)

/-- The block of each window at each grid point. -/
theorem idx : ∀ t : Fin cfg0.N, win0_0.index t = ![31 - t.val, 0] ∧ win0_1.index t = ![31 - t.val, 0] ∧ win0_2.index t = ![31 - t.val, 0]
    ∧ win0_3.index t = ![0, 0] ∧ win0_4.index t = ![31 - t.val, 0] ∧ win0_5.index t = ![0, 0] :=
  (by decide +kernel : ∀ t : Fin grid0.N, _)

abbrev aqa (c : Dev nD) : FVec Ideal S8192x512 .f32 := m ((c : Thread nD τ).loc main_arg2)
abbrev aka (c : Dev nD) : FVec Ideal S8192x512 .f32 := m ((c : Thread nD τ).loc main_arg3)
abbrev af (c : Dev nD) : FVec Ideal S8192x4 .f32 := m ((c : Thread nD τ).loc main_arg0)
abbrev ab (c : Dev nD) : FVec Ideal S4 .f32 := m ((c : Thread nD τ).loc main_arg1)

/-- The lanes of the first three heads at a point. -/
abbrev lanes (c : Dev nD) (t : Fin cfg0.N) : FVec Ideal S256x128 .f32 :=
  k0_pay4 (View.ld (iblk m c 0 t) (Rect.unit ![0, 0] ![256, 128] inb_S256x512_S256x128_0_0))
    (View.ld (iblk m c 1 t) (Rect.unit ![0, 0] ![256, 128] inb_S256x512_S256x128_0_0))
    (View.ld (iblk m c 0 t) (Rect.unit ![0, 128] ![256, 128] inb_S256x512_S256x128_0_128))
    (View.ld (iblk m c 1 t) (Rect.unit ![0, 128] ![256, 128] inb_S256x512_S256x128_0_128))
    (View.ld (iblk m c 0 t) (Rect.unit ![0, 256] ![256, 128] inb_S256x512_S256x128_0_256))
    (View.ld (iblk m c 1 t) (Rect.unit ![0, 256] ![256, 128] inb_S256x512_S256x128_0_256))

/-- A constant lane number met. -/
theorem at_lane (l n : ℕ) (hl : l < 128) (hn : n < 128) {α : Type} (x y : α) :
    Scalar.select (IntOp.cmpi .eq (BitVec.ofNat 32 l) (BitVec.ofNat 32 n)) x y = if l = n then x else y := by
  have e : IntOp.cmpi .eq (BitVec.ofNat 32 l) (BitVec.ofNat 32 n) = if l = n then 1#1 else 0#1 := by
    word_cmp
    by_cases h : l = n <;> simp [h]
  rw [e]
  split <;> rfl

theorem tri_at (r k : Fin 256) : k0_pay3 (F := Ideal) (ix2 r k) = if r ≤ k then 1 else 0 := by
  pointwise [k0_pay3]
  have e : IntOp.cmpi .sle (BitVec.ofNat 32 r.val) (BitVec.ofNat 32 k.val) = if r ≤ k then 1#1 else 0#1 := by
    word_cmp
    by_cases h : r ≤ k <;> simp [h, Fin.le_def.1, Nat.not_lt.2, Nat.not_le.1]
  rw [e]
  split <;> simp [FloatOps.sitofp]

theorem run_at (c : Dev nD) (t : Fin cfg0.N) (s : FVec Ideal S1x128 .f32) (r : Fin 256) (l : Fin 128) (ht : t.val < 32) :
    k0_pay5 (F := Ideal) k0_pay3 (iota Kind.tc S256x128 32 [1] iota_S256x128_d1_w32) (lanes m c t)
      (View.ld (iblk m c 0 t) (Rect.unit ![0, 384] ![256, 128] inb_S256x512_S256x128_0_384))
      (View.ld (iblk m c 1 t) (Rect.unit ![0, 384] ![256, 128] inb_S256x512_S256x128_0_384)) s (ix2 r l)
      = (∑ k : Fin 256, if r ≤ k then dc (aqa m c) (aka m c) ⟨(31 - t.val) * 256 + k, by omega⟩ l else 0) + s (ix2 0 l) := by
  pointwise [k0_pay5]
  refine congrArg (· + s (ix2 0 l)) (Finset.sum_congr rfl fun k _ => ?_)
  rw [tri_at, ite_mul, one_mul, zero_mul]
  refine if_congr Iff.rfl ?_ rfl
  have ea : ∀ j : Fin 512, (iblk m c 0 t : FVec Ideal S256x512 .f32) (ix2 k j) = aqa m c (ix2 ⟨(31 - t.val) * 256 + k, by omega⟩ j) := fun j => by blk_point [iblk, V, idx t]
  have ek : ∀ j : Fin 512, (iblk m c 1 t : FVec Ideal S256x512 .f32) (ix2 k j) = aka m c (ix2 ⟨(31 - t.val) * 256 + k, by omega⟩ j) := fun j => by blk_point [iblk, V, idx t]
  unfold dc
  pointwise [k0_pay4]
  rw [ea, ek, ea, ek, ea, ek, ea, ek]
  rw [at_lane l 3 l.isLt (by omega), at_lane l 2 l.isLt (by omega), at_lane l 1 l.isLt (by omega), at_lane l 0 l.isLt (by omega)]
  by_cases h : l.val < 4
  · rw [dif_pos h]
    have h' : l.val = 0 ∨ l.val = 1 ∨ l.val = 2 ∨ l.val = 3 := by omega
    rcases h' with h' | h' | h' | h' <;> simp [h']
  · rw [dif_neg h, if_neg (by omega), if_neg (by omega), if_neg (by omega), if_neg (by omega)]

/-- A block's part of the sum over later rows. -/
theorem rest_block (b : ℕ) (hb : b < 32) (r : Fin 256) (l : ℕ) :
    rest qa ka (b * 256 + r) l = (∑ k : Fin 256, if r ≤ k then dc qa ka ⟨b * 256 + k, by omega⟩ l else 0) + rest qa ka ((b + 1) * 256) l := by
  unfold rest
  rw [Fin.sum_univ_tiles 32 256 rfl, Fin.sum_univ_tiles 32 256 rfl]
  have e : ∀ j : Fin 32, (∑ k : Fin 256, if b * 256 + r.val ≤ j.val * 256 + k.val then dc qa ka ⟨j.val * 256 + k.val, by omega⟩ l else (0 : EReal))
      = (if j = ⟨b, hb⟩ then ∑ k : Fin 256, if r ≤ k then dc qa ka ⟨b * 256 + k, by omega⟩ l else 0 else 0)
        + ∑ k : Fin 256, if (b + 1) * 256 ≤ j.val * 256 + k.val then dc qa ka ⟨j.val * 256 + k.val, by omega⟩ l else 0 := fun j => by
    by_cases h : j = ⟨b, hb⟩
    · subst h
      rw [if_pos rfl, Finset.sum_eq_zero (M := EReal) (f := fun k : Fin 256 => if (b + 1) * 256 ≤ b * 256 + k.val then _ else _) fun k _ => if_neg (by omega), add_zero]
      exact Finset.sum_congr rfl fun k _ => if_congr (by rw [Fin.le_def]; show b * 256 + r.val ≤ b * 256 + k.val ↔ _; omega) rfl rfl
    · have h' : j.val ≠ b := fun e => h (Fin.ext e)
      rw [if_neg h, zero_add]
      exact Finset.sum_congr rfl fun k _ => if_congr (by omega) rfl rfl
  refine (Finset.sum_congr rfl fun j _ => e j).trans ?_
  rw [Finset.sum_add_distrib, Finset.sum_ite_eq' Finset.univ, if_pos (Finset.mem_univ _)]

theorem rest_end (l : ℕ) : rest qa ka 8192 l = 0 := Finset.sum_eq_zero (M := EReal) fun y _ => if_neg (by omega)

/-- The running sum at a point, on what the later rows left. -/
theorem run_rest (c : Dev nD) (t : Fin cfg0.N) (s : FVec Ideal S1x128 .f32) (r : Fin 256) (l : Fin 128)
    (hs : s (ix2 0 l) = rest (aqa m c) (aka m c) ((31 - t.val + 1) * 256) l) :
    k0_pay5 (F := Ideal) k0_pay3 (iota Kind.tc S256x128 32 [1] iota_S256x128_d1_w32) (lanes m c t)
      (View.ld (iblk m c 0 t) (Rect.unit ![0, 384] ![256, 128] inb_S256x512_S256x128_0_384))
      (View.ld (iblk m c 1 t) (Rect.unit ![0, 384] ![256, 128] inb_S256x512_S256x128_0_384)) s (ix2 r l)
      = rest (aqa m c) (aka m c) ((31 - t.val) * 256 + r) l := by
  have ht : t.val < 32 := lt_of_lt_of_eq t.isLt N_0
  rw [run_at m c t s r l ht, hs, rest_block _ _ _ (by omega)]

/-- The carried row after a point. -/
theorem carry (c : Dev nD) (l : Fin 128) : ∀ (n : ℕ) (h : n < cfg0.N), (outsAt0 m c n h).2.2 (ix2 0 l) = rest (aqa m c) (aka m c) ((31 - n) * 256) l
  | 0, h => by
    rw [outsAt0_A m c ⟨0, h⟩ rfl]
    frame_out
    pointwise [k0_pay6]
    refine (run_rest m c ⟨0, h⟩ _ 0 l ?_).trans rfl
    pointwise [k0_pay1]
    exact (rest_end _ _ l).symm
  | n + 1, h => by
    have ht : n + 1 < 32 := lt_of_lt_of_eq h N_0
    rw [outsAt0_B m c ⟨n + 1, h⟩ (by show ¬(n + 1) % 32 = 0; omega)]
    frame_out
    pointwise [k0_pay6]
    refine (run_rest m c ⟨n + 1, h⟩ _ 0 l ?_).trans rfl
    rw [read_unread_whole]
    refine (carry c l n _).trans ?_
    rw [show 31 - n = 31 - (n + 1) + 1 by omega]

/-- The carried row a point meets is what the later rows left. -/
theorem carried (c : Dev nD) (t : Fin cfg0.N) (h0 : ¬t.val % 32 = 0) (l : Fin 128) (h : t.val - 1 < cfg0.N) :
    (outsAt0 m c (t.val - 1) h).2.2 (ix2 0 l) = rest (aqa m c) (aka m c) ((31 - t.val + 1) * 256) l := by
  have ht : t.val < 32 := lt_of_lt_of_eq t.isLt N_0
  rw [carry m c l, show 31 - (t.val - 1) = 31 - t.val + 1 by omega]

theorem gate_read (c : Dev nD) : (V m c main_v0 : FVec Ideal S8192x128 .f32)
    = pad S8192x128 ![0, 0] ![0, 124] ![0, 0] (af m c) (sitofp .f32 (constantI S_ 32 0#32)) pads_S8192x4_S8192x128_000_01240 h_S_ := by
  unfold V
  simp only [List.flatten, List.append, hostOps0, hostOps0_1, hostOps0_2, hostOps0_3, hostOps0_4]
  after_results
  rfl

theorem bias_read (c : Dev nD) : (V m c main_v2 : FVec Ideal S1x128 .f32)
    = broadcastInDim S1x128 ![1] bcast_S128_S1x128_1 (pad S128 ![0] ![124] ![0] (ab m c) (sitofp .f32 (constantI S_ 32 0#32)) pads_S4_S128_01240 h_S_) := by
  unfold V
  simp only [List.flatten, List.append, hostOps0, hostOps0_1, hostOps0_2, hostOps0_3, hostOps0_4]
  after_results
  rfl

theorem w_gate (c : Dev nD) (t : Fin cfg0.N) (r : Fin 256) (l : Fin 128) (ht : t.val < 32) :
    (iblk m c 2 t : FVec Ideal S256x128 .f32) (ix2 r l) = if h : l.val < 4 then af m c (ix2 ⟨(31 - t.val) * 256 + r, by omega⟩ ⟨l, h⟩) else 0 := by
  refine Eq.trans (b := (V m c main_v0 : FVec Ideal S8192x128 .f32) (ix2 ⟨(31 - t.val) * 256 + r, by omega⟩ l)) (by blk_point [iblk, idx t]) ?_
  rw [gate_read]
  pointwise []
  refine dite_congr (propext ⟨And.right, fun h => ⟨by omega, h⟩⟩) (fun _ => rfl) fun _ => ?_
  simp [FloatOps.sitofp]

theorem w_bias (c : Dev nD) (t : Fin cfg0.N) (l : Fin 128) :
    (iblk m c 3 t : FVec Ideal S1x128 .f32) (ix2 0 l) = if h : l.val < 4 then ab m c (ix1 ⟨l, h⟩) else 0 := by
  refine Eq.trans (b := (V m c main_v2 : FVec Ideal S1x128 .f32) (ix2 0 l)) (by blk_point [iblk, idx t]) ?_
  rw [bias_read]
  pointwise []
  refine dite_congr rfl (fun _ => rfl) fun _ => ?_
  simp [FloatOps.sitofp]

/-- The gradient at a point's row. -/
theorem dz_at (c : Dev nD) (t : Fin cfg0.N) (s : FVec Ideal S1x128 .f32) (r : Fin 256) (l : Fin 128) (ht : t.val < 32)
    (hs : s (ix2 0 l) = rest (aqa m c) (aka m c) ((31 - t.val + 1) * 256) l) :
    k0_pay7 (F := Ideal) k0_pay3 (iota Kind.tc S256x128 32 [1] iota_S256x128_d1_w32) (lanes m c t)
      (View.ld (iblk m c 0 t) (Rect.unit ![0, 384] ![256, 128] inb_S256x512_S256x128_0_384))
      (View.ld (iblk m c 1 t) (Rect.unit ![0, 384] ![256, 128] inb_S256x512_S256x128_0_384)) s (iblk m c 2 t) (iblk m c 3 t) (ix2 r l)
      = rest (aqa m c) (aka m c) ((31 - t.val) * 256 + r) l * gate (af m c) (ab m c) ⟨(31 - t.val) * 256 + r, by omega⟩ l := by
  pointwise [k0_pay7]
  rw [run_rest m c t s r l hs, w_gate m c t r l ht, w_bias m c t l]
  unfold gate
  by_cases h : l.val < 4 <;> simp only [h, dite_true, dite_false]

/-- What a grid point leaves of the logits' gradient. -/
theorem dz_point (c : Dev nD) (t : Fin cfg0.N) (r : Fin 256) (l : Fin 128) (ht : t.val < 32) :
    (outsAt0 m c t.val t.isLt).1 (ix2 r l) = rest (aqa m c) (aka m c) ((31 - t.val) * 256 + r) l * gate (af m c) (ab m c) ⟨(31 - t.val) * 256 + r, by omega⟩ l := by
  by_cases h0 : t.val % 32 = 0
  · rw [outsAt0_A m c t h0]
    frame_out
    pointwise [k0_pay8]
    refine dz_at m c t _ r l ht ?_
    pointwise [k0_pay1]
    rw [show (31 - t.val + 1) * 256 = 8192 by omega]
    exact (rest_end _ _ l).symm
  · rw [outsAt0_B m c t h0]
    frame_out
    pointwise [k0_pay8]
    refine dz_at m c t _ r l ht ?_
    rw [read_unread_whole]
    exact carried m c t h0 l _

/-- The gradient at the gate's weighted sum, a row's lane. -/
def dz (n : Fin 8192) (l : Fin 128) : EReal := rest qa ka n l * gate f b n l

theorem final_dz (c : Dev nD) : (dats m 0 c).arrAt 4 (cfgs 0).N
    = fun j : S8192x128.Idx => dz (af m c) (ab m c) (aqa m c) (aka m c) (j 0) (j 1) := by
  refine (dats m 0 c).arrAt_eq_of_covers 4 _ (by decide +kernel) fun t hf y => ?_
  have ht : t.val < 32 := lt_of_lt_of_eq t.isLt N_0
  blk_simp
  rw [after0_4]
  idx_vars y
  refine (dz_point m c t y0 y1 ht).trans ?_
  have e : (((cfg0.win 4).blk t).view.emb (ix2 y0 y1) : S8192x128.Idx) = ix2 ⟨(31 - t.val) * 256 + y0, by omega⟩ y1 := by blk_ext [idx t]
  show _ = dz (af m c) (ab m c) (aqa m c) (aka m c) ((((cfg0.win 4).blk t).view.emb (ix2 y0 y1) : S8192x128.Idx) 0) ((((cfg0.win 4).blk t).view.emb (ix2 y0 y1) : S8192x128.Idx) 1)
  rw [e]
  rfl

/-- A sum over the rows, the last block first. -/
theorem sum_back (g : Fin 8192 → EReal) : (∑ p : Fin 32, ∑ r : Fin 256, g ⟨(31 - p.val) * 256 + r.val, by omega⟩) = ∑ n, g n := by
  rw [Fin.sum_univ_tiles 32 256 rfl]
  refine Eq.trans ?_ (Equiv.sum_comp (Fin.revPerm : Equiv.Perm (Fin 32)) _)
  refine Finset.sum_congr rfl fun p _ => Finset.sum_congr rfl fun r _ => congrArg g (Fin.ext ?_)
  show (31 - p.val) * 256 + r.val = (32 - (p.val + 1)) * 256 + r.val
  omega

/-- A block's sums and the carried row together are the sums over all later rows. -/
theorem sum_carried (c : Dev nD) (t : Fin cfg0.N) (s : FVec Ideal S1x128 .f32) (l : Fin 128)
    (hs : s (ix2 0 l) = rest (aqa m c) (aka m c) ((31 - t.val + 1) * 256) l) :
    (∑ r : Fin 256, k0_pay7 (F := Ideal) k0_pay3 (iota Kind.tc S256x128 32 [1] iota_S256x128_d1_w32) (lanes m c t)
      (View.ld (iblk m c 0 t) (Rect.unit ![0, 384] ![256, 128] inb_S256x512_S256x128_0_384))
      (View.ld (iblk m c 1 t) (Rect.unit ![0, 384] ![256, 128] inb_S256x512_S256x128_0_384)) s (iblk m c 2 t) (iblk m c 3 t) (ix2 r l))
      = ∑ r : Fin 256, dz (af m c) (ab m c) (aqa m c) (aka m c) ⟨(31 - t.val) * 256 + r, by omega⟩ l :=
  Finset.sum_congr rfl fun r _ => dz_at m c t s r l (lt_of_lt_of_eq t.isLt N_0) hs

/-- The last point. -/
abbrev final : Fin cfg0.N := ⟨31, by decide⟩

theorem final_db (c : Dev nD) : (dats m 0 c).arrAt 5 (cfgs 0).N
    = fun j : S1x128.Idx => ∑ n : Fin 8192, dz (af m c) (ab m c) (aqa m c) (aka m c) n (j 1) := by
  refine (dats m 0 c).arrAt_eq_of_after_last 5 final (by decide +kernel) _ fun j => ?_
  blk_simp
  rw [after0_5, Pipeline.eq_sum_fin_of_reset_step_apply_last (fun n h => (outsAt0 m c n h).2.1) 32 (fun _ => 0)
    (fun p j => ∑ r : Fin 256, dz (af m c) (ab m c) (aqa m c) (aka m c) ⟨(31 - p.val) * 256 + r, by omega⟩ (j 1))
    (fun t h j => by
      have ht : t.val < 32 := lt_of_lt_of_eq t.isLt N_0
      rw [outsAt0_A m c t h]
      frame_out
      idx_vars j
      pointwise [k0_pay9]
      refine (congrArg₂ (· + ·) ?_ (sum_carried m c t _ j1 ?_)).trans (zero_add _)
      · pointwise [k0_pay2]
      · pointwise [k0_pay1]
        rw [show (31 - t.val + 1) * 256 = 8192 by omega]
        exact (rest_end _ _ j1).symm)
    (fun t h j => by
      rw [outsAt0_B m c t h]
      frame_out
      idx_vars j
      pointwise [k0_pay9]
      refine congrArg (_ + ·) (sum_carried m c t _ j1 ?_)
      rw [read_unread_whole]
      exact carried m c t h j1 _)
    (le_of_eq N_0) final (by decide) j, zero_add]
  idx_vars j
  exact sum_back fun n => dz (af m c) (ab m c) (aqa m c) (aka m c) n j1

variable {qa ka} in
theorem rest_none (n l : ℕ) (h : ¬l < 4) : rest qa ka n l = 0 :=
  Finset.sum_eq_zero (M := EReal) fun y _ => by
    unfold dc
    rw [dif_neg h]
    split <;> rfl

variable {f b} in
theorem ref_row (hf : ∀ i, ∃ r : ℝ, f i = (r : EReal)) (hb : ∀ i, ∃ r : ℝ, b i = (r : EReal)) (r : Fin 8192) (l : Fin 128) (h : l.val < 4) :
    val_main_v13 (F := Ideal) f b qa ka (ix2 r ⟨l, h⟩) = dz f b qa ka r l := by
  unfold dz
  pointwise [val_main_v13, val_main_call3_v1, val_main_call3_v0]
  rw [ref_rest, ref_gate hf hb, EReal.neg_mul, neg_neg]

variable {f b} in
/-- The reference's gradient of the forget logits. -/
theorem ref_dz (hf : ∀ i, ∃ r : ℝ, f i = (r : EReal)) (hb : ∀ i, ∃ r : ℝ, b i = (r : EReal)) (r : Fin 8192) (l : Fin 128) :
    val_main_v18 (F := Ideal) f b qa ka (ix2 r l) = dz f b qa ka r l := by
  pointwise [val_main_v18, val_main_v17, val_main_call4_v0, val_main_c]
  by_cases h : l.val < 4
  · rw [dif_pos h, ref_row qa ka hf hb]
  · rw [dif_neg h]
    unfold dz
    rw [rest_none _ _ h, zero_mul]
    simp [FloatOps.sitofp]

variable {f b} in
/-- The reference's gradient of the bias. -/
theorem ref_db (hf : ∀ i, ∃ r : ℝ, f i = (r : EReal)) (hb : ∀ i, ∃ r : ℝ, b i = (r : EReal)) (l : Fin 128) :
    val_main_v20 (F := Ideal) f b qa ka (ix2 0 l) = ∑ n : Fin 8192, dz f b qa ka n l := by
  pointwise [val_main_v20, val_main_v19, val_main_call5_v0, val_main_c_1, val_main_v16, val_main_cst_0, val_main_v15, val_main_v14, val_main_cst]
  by_cases h : l.val < 4
  · have e : ∀ n : Fin 8192, dz f b qa ka n l = val_main_v13 (F := Ideal) f b qa ka (ix2 n ⟨l, h⟩) := fun n => (ref_row qa ka hf hb n l h).symm
    simp only [e, h, dite_true]
    rw [Fintype.sum_unique]
  · have e : ∀ n : Fin 8192, dz f b qa ka n l = 0 := fun n => by
      unfold dz
      rw [rest_none _ _ h, zero_mul]
    simp only [e, h, dite_false, Finset.sum_const_zero]
    simp [FloatOps.sitofp]

instance factsPre : Cert.Pre_finite_foxpost.Facts := ⟨by decide, by decide⟩

section
variable (hpre : Cert.Pre_FoxPostIdeal_finite_foxpost m) (c : Dev nD)

include hpre

theorem reals : (∀ i, ∃ r : ℝ, af m c i = (r : EReal)) ∧ ∀ i, ∃ r : ℝ, ab m c i = (r : EReal) :=
  ⟨real_of_mask (af m c) factsPre.bcast_S_S8192x4 (hpre c).1, real_of_mask (ab m c) factsPre.bcast_S_S4 (hpre c).2⟩

/-- The forget logits' gradient: the kernel leaves what the reference computes. -/
theorem same_dz : val_main_v18 (F := Ideal) (af m c) (ab m c) (aqa m c) (aka m c) = (dats m 0 c).arrAt 4 (cfgs 0).N := by
  rw [final_dz]
  obtain ⟨hf, hb⟩ := reals m hpre c
  funext j
  idx_vars j
  exact ref_dz _ _ hf hb j0 j1

/-- The bias's gradient: the kernel leaves what the reference computes. -/
theorem same_db : val_main_v20 (F := Ideal) (af m c) (ab m c) (aqa m c) (aka m c) = (dats m 0 c).arrAt 5 (cfgs 0).N := by
  rw [final_db]
  obtain ⟨hf, hb⟩ := reals m hpre c
  funext j
  idx_vars j
  obtain rfl : j0 = 0 := Subsingleton.elim _ _
  exact ref_db _ _ hf hb j1

end

/-- What a run of the kernel leaves in its results. -/
theorem ran (g : Dev nD → PrngReg) :
    θ_run (defs (F := Ideal)) (onTc (τ := τ) (main (F := Ideal))) ⟨m, fun _ => 0, g⟩ (fun r => ∀ c : Dev nD,
      r.2.mem ((c.tc : Thread nD τ).loc main_v3_0) = (dats m 0 c).arrAt 4 (cfgs 0).N
      ∧ r.2.mem ((c.tc : Thread nD τ).loc main_v3_1) = (dats m 0 c).arrAt 5 (cfgs 0).N) :=
  θ_run_mono (run_main m g) fun r h c => ⟨(h c).1 4, (h c).1 5⟩

/-- Over the reals, kernel and reference compute the same function. -/
theorem claim : Cert.algebraic_FoxPostIdeal_FoxPostRefIdeal_pre_finite_foxpost := by
  intro m g m' g' hpre hagree
  refine ⟨fun c => (dats m 0 c).arrAt 4 (cfgs 0).N, fun c => (dats m 0 c).arrAt 5 (cfgs 0).N, ?_, ?_⟩
  · exact θ_run_mono (θ_run_and (ran m g) (Gen.frame m g)) fun r h c => ⟨(h.1 c).1, (h.1 c).2, h.2.1 c⟩
  · refine θ_run_mono (Cert.FoxPostRefIdeal.Value.run (F := Ideal) m' g') fun r h c => ?_
    obtain ⟨h1, h2, hargs⟩ := h c
    obtain ⟨a0, a1, a2, a3⟩ := hagree c
    refine ⟨(h1.trans (val_main_v18_eq m' c)).trans (Eq.trans ?_ (same_dz m hpre c)), (h2.trans (val_main_v20_eq m' c)).trans (Eq.trans ?_ (same_db m hpre c)), hargs⟩
    · exact congr (congr (congr (congrArg _ a0) a1) a2) a3
    · exact congr (congr (congr (congrArg _ a0) a1) a2) a3

end Cert.FoxPostIdeal.Value

end

end
-- ==== Proof.Norm.lean ====
/- The root-mean-square norm's gradient: the closed form of the kernels against the chain rule's. -/
module

public import proofs.«01_k».proof.Proof.Common

@[expose] public section

noncomputable section

open Idealize.ShloMosaic

namespace Cert.Common

/-- A real's size. -/
def Finite (x : EReal) : Prop := ∃ r : ℝ, x = (r : EReal)

theorem Finite.add {x y : EReal} (hx : Finite x) (hy : Finite y) : Finite (x + y) := by
  obtain ⟨r, rfl⟩ := hx
  obtain ⟨s, rfl⟩ := hy
  exact ⟨r + s, (EReal.coe_add r s).symm⟩

theorem Finite.mul {x y : EReal} (hx : Finite x) (hy : Finite y) : Finite (x * y) := by
  obtain ⟨r, rfl⟩ := hx
  obtain ⟨s, rfl⟩ := hy
  exact ⟨r * s, (EReal.coe_mul r s).symm⟩

theorem Finite.sum {ι : Type*} (s : Finset ι) {f : ι → EReal} (h : ∀ k, Finite (f k)) : Finite (∑ k ∈ s, f k) := by
  choose r hr using h
  exact ⟨∑ k ∈ s, r k, by simp only [hr, coe_sum]⟩

/-- A lane's half of a head's pair of halves, by its number. -/
theorem low_lane {α : Type} (l : Fin 128) (x y : α) : Scalar.select (IntOp.cmpi .slt (BitVec.ofNat 32 l) 64#32) x y = if l.val < 64 then x else y := by
  fin_cases l <;> rfl

theorem eps : ∃ e : ℝ, 0 < e ∧ Ideal.ofBits .f32 0x358637BD#32 = (e : EReal) :=
  ⟨8796093 / 8796093022208, by norm_num, by simp [Ideal.ofBits, Ideal.ieee, ← EReal.coe_mul]; norm_num⟩

theorem minus_half : Ideal.ofBits .f32 0xBF000000#32 = ((-(1 / 2) : ℝ) : EReal) := by
  simp [Ideal.ofBits, Ideal.ieee, ← EReal.coe_mul]; norm_num

/-- A row's mean square, the small constant added. -/
def meanSq (x : Fin 1024 → EReal) : EReal :=
  Ideal.div (∑ k, x k * x k) (Ideal.ofBits .f32 0x44800000#32) + Ideal.ofBits .f32 0x358637BD#32

/-- The norm's gradient at a row's element, in closed form: `x` the row, `d` the gradient times the gain. -/
def normGrad (x d : Fin 1024 → EReal) (j : Fin 1024) : EReal :=
  Ideal.rsqrt (meanSq x) * (d j - x j * Ideal.rsqrt (meanSq x) * Ideal.div (∑ k, d k * (x k * Ideal.rsqrt (meanSq x))) (Ideal.ofBits .f32 0x44800000#32))

theorem meanSq_real {x : Fin 1024 → EReal} (hx : ∀ k, Finite (x k)) : ∃ v : ℝ, 0 < v ∧ meanSq x = (v : EReal) := by
  choose a ha using hx
  obtain ⟨e, he, ee⟩ := eps
  have h : 0 ≤ ∑ k, a k * a k := Finset.sum_nonneg fun k _ => mul_self_nonneg _
  refine ⟨(∑ k, a k * a k) * (1 / 1024) + e, by positivity, ?_⟩
  unfold meanSq
  rw [ee, width]
  simp only [ha, ← EReal.coe_mul, coe_sum]
  rw [Ideal.div_coe (by norm_num), ← EReal.coe_mul, ← EReal.coe_add]

theorem rsqrt_real {v : ℝ} (hv : 0 < v) : Ideal.rsqrt (v : EReal) = (((Real.sqrt v)⁻¹ : ℝ) : EReal) := by
  rw [Ideal.rsqrt_coe, if_neg hv.not_gt, if_neg hv.ne']

theorem rsqrt_finite {x : Fin 1024 → EReal} (hx : ∀ k, Finite (x k)) : Finite (Ideal.rsqrt (meanSq x)) := by
  obtain ⟨v, hv, e⟩ := meanSq_real hx
  exact ⟨_, (congrArg Ideal.rsqrt e).trans (rsqrt_real hv)⟩

theorem Finite.sub {x y : EReal} (hx : Finite x) (hy : Finite y) : Finite (x - y) := by
  obtain ⟨a, rfl⟩ := hx
  obtain ⟨b, rfl⟩ := hy
  exact ⟨a - b, (EReal.coe_sub a b).symm⟩

theorem mean_finite {x : EReal} (hx : Finite x) : Finite (Ideal.div x (Ideal.ofBits .f32 0x44800000#32)) := by
  obtain ⟨a, rfl⟩ := hx
  rw [width]
  exact ⟨a * (1 / 1024), by rw [Ideal.div_coe (by norm_num), ← EReal.coe_mul]⟩

theorem normGrad_finite {x d : Fin 1024 → EReal} (hx : ∀ k, Finite (x k)) (hd : ∀ k, Finite (d k)) (j : Fin 1024) : Finite (normGrad x d j) :=
  (rsqrt_finite hx).mul ((hd j).sub (((hx j).mul (rsqrt_finite hx)).mul (mean_finite (Finite.sum _ fun k => (hd k).mul ((hx k).mul (rsqrt_finite hx))))))

/-- The chain rule's terms, its mean's gradient `s` met twice, are the closed form. -/
theorem normGrad_eq {x d : Fin 1024 → EReal} (hx : ∀ k, Finite (x k)) (hd : ∀ k, Finite (d k)) (j : Fin 1024) (s : EReal)
    (hs : s = Ideal.div ((∑ k, x k * d k) * (Ideal.ofBits .f32 0xBF000000#32 * Ideal.div (Ideal.rsqrt (meanSq x)) (meanSq x))) (Ideal.ofBits .f32 0x44800000#32)) :
    d j * Ideal.rsqrt (meanSq x) + x j * s + s * x j = normGrad x d j := by
  subst hs
  unfold normGrad
  obtain ⟨v, hv, ev⟩ := meanSq_real hx
  choose a ha using hx
  choose b hb using hd
  rw [ev, rsqrt_real hv, width, minus_half]
  simp only [ha, hb, ← EReal.coe_mul, coe_sum, Ideal.div_coe (show (1024 : ℝ) ≠ 0 by norm_num), Ideal.div_coe hv.ne', ← EReal.coe_add, ← EReal.coe_sub]
  congr 1
  have e : (∑ k, b k * (a k * (Real.sqrt v)⁻¹)) = (∑ k, a k * b k) * (Real.sqrt v)⁻¹ := by
    rw [Finset.sum_mul]
    exact Finset.sum_congr rfl fun k _ => by ring
  rw [e]
  have h2 : v = Real.sqrt v * Real.sqrt v := (Real.mul_self_sqrt hv.le).symm
  have hp := Real.sqrt_pos.2 hv
  generalize Real.sqrt v = q at *
  subst h2
  field_simp
  ring

end Cert.Common

end

end
-- ==== Proof.MlpB.lean ====
/- The feed-forward's entry gradient: the norm's gradient at its input, its gain and its output, row block by row block. -/
module

public import proofs.«01_k».proof.Proof.Gen.MlpBIdeal.Frame
public import proofs.«01_k».proof.Defs
public import proofs.«01_k».proof.Proof.Gen.MlpBRefIdeal.Run
public import proofs.«01_k».proof.Proof.Gen.MlpBRefIdeal.Read
public import proofs.«01_k».proof.Proof.Norm
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Common

namespace Cert.MlpBIdeal.Value

open Cert.MlpBIdeal Cert.MlpBIdeal.Gen
open Cert.MlpBRefIdeal.Read

section
variable (dh x : FVec Ideal S8192x1024 .f32) (du : FVec Ideal S8192x4096 .f32) (w : FVec Ideal S1024x4096 .f32) (g : FVec Ideal S1024 .f32)

/-- A row of the norm's input. -/
abbrev row (i : Fin 8192) : Fin 1024 → EReal := fun k => x (ix2 i k)

/-- The gradient at the norm's output. -/
def dn (i : Fin 8192) (k : Fin 1024) : EReal := ∑ n, du (ix2 i n) * w (ix2 k n)

/-- The reference's gradient at the normed rows. -/
theorem ref_dn (i : Fin 8192) (j : Fin 1024) : val_main_v17 (F := Ideal) du w (ix2 i j) = dn du w i j := by
  pointwise [val_main_v17, val_main_v16, val_main_v15, val_main_v14]
  rfl

variable {x du w g} in
/-- The reference's gradient of the residual. -/
theorem ref_dx (hx : ∀ i, Finite (x i)) (hu : ∀ i, Finite (du i)) (hw : ∀ i, Finite (w i)) (hg : ∀ i, Finite (g i)) (i : Fin 8192) (j : Fin 1024) :
    val_main_v38 (F := Ideal) dh x du w g (ix2 i j) = dh (ix2 i j) + normGrad (row x i) (fun k => dn du w i k * g (ix1 k)) j := by
  pointwise [val_main_v38, val_main_v37, val_main_v34, val_main_v33, val_main_cst_7, val_main_v32, val_main_v31, val_main_cst_6, val_main_v30, val_main_v10, val_main_v8, val_main_v6, val_main_v5, val_main_cst_1, val_main_v4, val_main_v3, val_main_cst_0, val_main_v2, val_main_v1, val_main_cst, val_main_v0, val_main_v7, val_main_v9, val_main_cst_2, val_main_v26, val_main_v25, val_main_cst_5, val_main_v24, val_main_v22, val_main_v21, val_main_v13, val_main_v36, val_main_v35, val_main_v29, val_main_v28, val_main_v27]
  simp only [Fintype.sum_unique, ref_dn]
  rw [← normGrad_eq (x := row x i) (fun k => hx _) (d := fun k => dn du w i k * g (ix1 k)) (fun k => (Finite.sum _ fun n => (hu _).mul (hw _)).mul (hg _)) j _ rfl, ← add_assoc, ← add_assoc]
  rfl

/-- The reference's gradient of the gain. -/
theorem ref_dg (j : Fin 1024) : val_main_v53 (F := Ideal) x du w (ix2 0 j) = ∑ i, dn du w i j * (x (ix2 i j) * Ideal.rsqrt (meanSq (row x i))) := by
  pointwise [val_main_v53, val_main_v23, val_main_cst_4, val_main_v20, val_main_v19, val_main_cst_3, val_main_v18, val_main_v12, val_main_v11, val_main_v7, val_main_v6, val_main_v5, val_main_cst_1, val_main_v4, val_main_v3, val_main_cst_0, val_main_v2, val_main_v1, val_main_cst, val_main_v0]
  simp only [Fintype.sum_unique, ref_dn]
  exact Finset.sum_congr rfl fun i _ => mul_comm _ _

/-- The reference's normed rows. -/
theorem ref_xn (i : Fin 8192) (j : Fin 1024) : val_main_v52 (F := Ideal) x g (ix2 i j) = x (ix2 i j) * Ideal.rsqrt (meanSq (row x i)) * g (ix1 j) := by
  pointwise [val_main_v52, val_main_v51, val_main_v50, val_main_v49, val_main_v48, val_main_v47, val_main_v46, val_main_v45, val_main_v44, val_main_cst_10, val_main_v43, val_main_v42, val_main_cst_9, val_main_v41, val_main_v40, val_main_cst_8, val_main_v39]
  rfl
end

variable (m : (ℓ : Loc nD τ sig) → Buf (Elt Ideal) ℓ)

abbrev adh (c : Dev nD) : FVec Ideal S8192x1024 .f32 := m ((c : Thread nD τ).loc main_arg0)
abbrev ax (c : Dev nD) : FVec Ideal S8192x1024 .f32 := m ((c : Thread nD τ).loc main_arg1)
abbrev adu (c : Dev nD) : FVec Ideal S8192x4096 .f32 := m ((c : Thread nD τ).loc main_arg2)
abbrev aw (c : Dev nD) : FVec Ideal S1024x4096 .f32 := m ((c : Thread nD τ).loc main_arg3)
abbrev ag (c : Dev nD) : FVec Ideal S1024 .f32 := m ((c : Thread nD τ).loc main_arg4)

/-- The block of each window at each grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0] ∧ win0_7.index t = ![0, 0] :=
  (by decide +kernel : ∀ t : Fin grid0.N, _)

theorem w_du (c : Dev nD) (t : Fin cfg0.N) (r : Fin 512) (k : Fin 4096) (ht : t.val < 16) :
    (iblk m c 2 t : FVec Ideal S512x4096 .bf16) (ix2 r k) = adu m c (ix2 ⟨t.val * 512 + r, by omega⟩ k) := by
  refine Eq.trans (b := (V m c main_v0 : FVec Ideal S8192x4096 .bf16) (ix2 ⟨t.val * 512 + r, by omega⟩ k)) (by blk_point [iblk, idx t]) ?_
  rw [show V m c main_v0 = (truncf .bf16 (adu m c) bitsLt_bf16_f32 : FVec Ideal S8192x4096 .bf16) from by
    unfold V; simp only [List.flatten, List.append, hostOps0]; after_results]
  pointwise []

theorem w_w (c : Dev nD) (t : Fin cfg0.N) (r : Fin 1024) (k : Fin 4096) :
    (iblk m c 3 t : FVec Ideal S1024x4096 .bf16) (ix2 r k) = aw m c (ix2 r k) := by
  refine Eq.trans (b := (V m c main_v1 : FVec Ideal S1024x4096 .bf16) (ix2 r k)) (by blk_point [iblk, idx t]) ?_
  rw [show V m c main_v1 = (truncf .bf16 (aw m c) bitsLt_bf16_f32 : FVec Ideal S1024x4096 .bf16) from by
    unfold V; simp only [List.flatten, List.append, hostOps0]; after_results]
  pointwise []

theorem w_g (c : Dev nD) (t : Fin cfg0.N) (k : Fin 1024) :
    (iblk m c 4 t : FVec Ideal S1x1024 .f32) (ix2 0 k) = ag m c (ix1 k) := by
  refine Eq.trans (b := (V m c main_v2 : FVec Ideal S1x1024 .f32) (ix2 0 k)) (by blk_point [iblk, idx t]) ?_
  rw [show V m c main_v2 = (broadcastInDim S1x1024 ![1] bcast_S1024_S1x1024_1 (ag m c) : FVec Ideal S1x1024 .f32) from by
    unfold V; simp only [List.flatten, List.append, hostOps0]; after_results]
  pointwise []

theorem w_x (c : Dev nD) (t : Fin cfg0.N) (r : Fin 512) (k : Fin 1024) (ht : t.val < 16) :
    (iblk m c 1 t : FVec Ideal S512x1024 .f32) (ix2 r k) = ax m c (ix2 ⟨t.val * 512 + r, by omega⟩ k) := by blk_point [iblk, V, idx t]

theorem w_dh (c : Dev nD) (t : Fin cfg0.N) (r : Fin 512) (k : Fin 1024) (ht : t.val < 16) :
    (iblk m c 0 t : FVec Ideal S512x1024 .f32) (ix2 r k) = adh m c (ix2 ⟨t.val * 512 + r, by omega⟩ k) := by blk_point [iblk, V, idx t]

/-- A block's gradient at the normed rows. -/
theorem dn_at (c : Dev nD) (t : Fin cfg0.N) (r : Fin 512) (k : Fin 1024) (ht : t.val < 16) :
    k0_pay4 (F := Ideal) (iblk m c 2 t) (iblk m c 3 t) (ix2 r k) = dn (adu m c) (aw m c) ⟨t.val * 512 + r, by omega⟩ k := by
  pointwise [k0_pay4]
  exact Finset.sum_congr rfl fun n _ => by rw [w_du m c t r n ht, w_w]

/-- A block's gradient of the residual. -/
theorem dx_at (c : Dev nD) (t : Fin cfg0.N) (r : Fin 512) (j : Fin 1024) (ht : t.val < 16) :
    k0_pay8 (F := Ideal) (iblk m c 0 t) (iblk m c 1 t) (iblk m c 2 t) (iblk m c 3 t) (iblk m c 4 t) (ix2 r j)
      = adh m c (ix2 ⟨t.val * 512 + r, by omega⟩ j) + normGrad (row (ax m c) ⟨t.val * 512 + r, by omega⟩) (fun k => dn (adu m c) (aw m c) ⟨t.val * 512 + r, by omega⟩ k * ag m c (ix1 k)) j := by
  pointwise [k0_pay8, k0_pay6, k0_pay5]
  simp only [dn_at m c t r _ ht, w_x m c t r _ ht, w_dh m c t r _ ht, w_g m c t]
  rfl

/-- A block's normed rows. -/
theorem xn_at (c : Dev nD) (t : Fin cfg0.N) (r : Fin 512) (j : Fin 1024) (ht : t.val < 16) :
    k0_pay1 (F := Ideal) (iblk m c 1 t) (k0_pay9 (iblk m c 4 t)) (k0_pay10 (iblk m c 1 t)) (ix2 r j)
      = ax m c (ix2 ⟨t.val * 512 + r, by omega⟩ j) * Ideal.rsqrt (meanSq (row (ax m c) ⟨t.val * 512 + r, by omega⟩)) * ag m c (ix1 j) := by
  pointwise [k0_pay1, k0_pay9, k0_pay10]
  simp only [w_x m c t r _ ht, w_g m c t]
  rfl

/-- What a block adds to the gain's gradient. -/
theorem dg_at (c : Dev nD) (t : Fin cfg0.N) (j : Fin 1024) (ht : t.val < 16) :
    k0_pay7 (F := Ideal) (iblk m c 1 t) (iblk m c 2 t) (iblk m c 3 t) (ix2 0 j)
      = ∑ r : Fin 512, dn (adu m c) (aw m c) ⟨t.val * 512 + r, by omega⟩ j * (ax m c (ix2 ⟨t.val * 512 + r, by omega⟩ j) * Ideal.rsqrt (meanSq (row (ax m c) ⟨t.val * 512 + r, by omega⟩))) := by
  pointwise [k0_pay7, k0_pay6, k0_pay5]
  refine Finset.sum_congr rfl fun r _ => ?_
  simp only [dn_at m c t r _ ht, w_x m c t r _ ht]
  rfl

theorem final_dx (c : Dev nD) : (dats m 0 c).arrAt 5 (cfgs 0).N
    = fun i : S8192x1024.Idx => adh m c i + normGrad (row (ax m c) (i 0)) (fun k => dn (adu m c) (aw m c) (i 0) k * ag m c (ix1 k)) (i 1) := by
  refine (dats m 0 c).arrAt_eq_of_covers 5 _ (by decide +kernel) fun t hf y => ?_
  have ht : t.val < 16 := lt_of_lt_of_eq t.isLt N_0
  blk_simp
  rw [after0_5]
  idx_vars y
  have e : (((cfg0.win 5).blk t).view.emb (ix2 y0 y1) : S8192x1024.Idx) = ix2 ⟨t.val * 512 + y0, by omega⟩ y1 := by blk_ext [idx t]
  refine Eq.trans ?_ (congrArg (fun i : S8192x1024.Idx => adh m c i + normGrad (row (ax m c) (i 0)) (fun k => dn (adu m c) (aw m c) (i 0) k * ag m c (ix1 k)) (i 1)) e).symm
  refine Eq.trans ?_ (dx_at m c t y0 y1 ht)
  by_cases h : t.val % 16 = 0
  · rw [outsAt0_A m c t h]
    frame_out
  · rw [outsAt0_B m c t h]
    frame_out

theorem final_xn (c : Dev nD) : (dats m 0 c).arrAt 6 (cfgs 0).N
    = fun i : S8192x1024.Idx => ax m c i * Ideal.rsqrt (meanSq (row (ax m c) (i 0))) * ag m c (ix1 (i 1)) := by
  refine (dats m 0 c).arrAt_eq_of_covers 6 _ (by decide +kernel) fun t hf y => ?_
  have ht : t.val < 16 := lt_of_lt_of_eq t.isLt N_0
  blk_simp
  rw [after0_6]
  idx_vars y
  have e : (((cfg0.win 6).blk t).view.emb (ix2 y0 y1) : S8192x1024.Idx) = ix2 ⟨t.val * 512 + y0, by omega⟩ y1 := by blk_ext [idx t]
  refine Eq.trans ?_ (congrArg (fun i : S8192x1024.Idx => ax m c i * Ideal.rsqrt (meanSq (row (ax m c) (i 0))) * ag m c (ix1 (i 1))) e).symm
  refine Eq.trans ?_ (xn_at m c t y0 y1 ht)
  by_cases h : t.val % 16 = 0
  · rw [outsAt0_A m c t h]
    frame_out
  · rw [outsAt0_B m c t h]
    frame_out

theorem final_dg (c : Dev nD) : (dats m 0 c).arrAt 7 (cfgs 0).N
    = fun i : S1x1024.Idx => ∑ n, dn (adu m c) (aw m c) n (i 1) * (ax m c (ix2 n (i 1)) * Ideal.rsqrt (meanSq (row (ax m c) n))) := by
  refine (dats m 0 c).arrAt_eq_of_after_last 7 t0_15 (by decide +kernel) _ fun j => ?_
  blk_simp
  rw [after0_7, Pipeline.eq_sum_fin_of_reset_step_apply_last (fun n h => (outsAt0 m c n h).2.2) 16 (fun _ => 0)
    (fun p j => k0_pay7 (F := Ideal) (iblk m c 1 p) (iblk m c 2 p) (iblk m c 3 p) j)
    (fun t h j => by
      rw [outsAt0_A m c t h]
      frame_out
      idx_vars j
      pointwise [k0_pay3, k0_pay2])
    (fun t h j => by
      rw [outsAt0_B m c t h]
      frame_out
      idx_vars j
      pointwise [k0_pay3])
    (le_of_eq N_0) t0_15 rfl j, zero_add]
  idx_vars j
  obtain rfl : j0 = 0 := Subsingleton.elim _ _
  refine (Finset.sum_congr rfl fun p _ => dg_at m c p j1 (lt_of_lt_of_eq p.isLt N_0)).trans ?_
  exact (Fin.sum_univ_tiles 16 512 rfl fun n : Fin 8192 => dn (adu m c) (aw m c) n j1 * (ax m c (ix2 n j1) * Ideal.rsqrt (meanSq (row (ax m c) n)))).symm

instance factsPre : Cert.Pre_finite_mlpb.Facts := by constructor <;> decide

/-- The residual's gradient: the kernel leaves what the reference computes. -/
theorem same_dx (hpre : Cert.Pre_MlpBIdeal_finite_mlpb m) (c : Dev nD) :
    val_main_v38 (F := Ideal) (adh m c) (ax m c) (adu m c) (aw m c) (ag m c) = (dats m 0 c).arrAt 5 (cfgs 0).N := by
  rw [final_dx]
  funext j
  idx_vars j
  exact ref_dx _ (real_of_mask _ factsPre.bcast_S_S8192x1024 (hpre c).1) (real_of_mask _ factsPre.bcast_S_S8192x4096 (hpre c).2.1)
    (real_of_mask _ factsPre.bcast_S_S1024x4096 (hpre c).2.2.1) (real_of_mask _ factsPre.bcast_S_S1024 (hpre c).2.2.2) j0 j1

/-- The normed rows: the kernel leaves what the reference computes. -/
theorem same_xn (c : Dev nD) : val_main_v52 (F := Ideal) (ax m c) (ag m c) = (dats m 0 c).arrAt 6 (cfgs 0).N := by
  rw [final_xn]
  funext j
  idx_vars j
  exact ref_xn _ _ j0 j1

/-- The gain's gradient: the kernel leaves what the reference computes. -/
theorem same_dg (c : Dev nD) : val_main_v53 (F := Ideal) (ax m c) (adu m c) (aw m c) = (dats m 0 c).arrAt 7 (cfgs 0).N := by
  rw [final_dg]
  funext j
  idx_vars j
  obtain rfl : j0 = 0 := Subsingleton.elim _ _
  exact ref_dg _ _ _ j1

/-- What a run of the kernel leaves in its results. -/
theorem ran (g : Dev nD → PrngReg) :
    θ_run (defs (F := Ideal)) (onTc (τ := τ) (main (F := Ideal))) ⟨m, fun _ => 0, g⟩ (fun r => ∀ c : Dev nD,
      r.2.mem ((c.tc : Thread nD τ).loc main_v3_0) = (dats m 0 c).arrAt 5 (cfgs 0).N
      ∧ r.2.mem ((c.tc : Thread nD τ).loc main_v3_1) = (dats m 0 c).arrAt 6 (cfgs 0).N
      ∧ r.2.mem ((c.tc : Thread nD τ).loc main_v3_2) = (dats m 0 c).arrAt 7 (cfgs 0).N) :=
  θ_run_mono (run_main m g) fun r h c => ⟨(h c).1 5, (h c).1 6, (h c).1 7⟩

/-- Over the reals, kernel and reference compute the same function. -/
theorem claim : Cert.algebraic_MlpBIdeal_MlpBRefIdeal_pre_finite_mlpb := by
  intro m g m' g' hpre hagree
  refine ⟨fun c => (dats m 0 c).arrAt 5 (cfgs 0).N, fun c => (dats m 0 c).arrAt 6 (cfgs 0).N, fun c => (dats m 0 c).arrAt 7 (cfgs 0).N, ?_, ?_⟩
  · exact θ_run_mono (θ_run_and (ran m g) (Gen.frame m g)) fun r h c => ⟨(h.1 c).1, (h.1 c).2.1, (h.1 c).2.2, h.2.1 c⟩
  · refine θ_run_mono (Cert.MlpBRefIdeal.Value.run (F := Ideal) m' g') fun r h c => ?_
    obtain ⟨h1, h2, h3, hargs⟩ := h c
    obtain ⟨a0, a1, a2, a3, a4⟩ := hagree c
    refine ⟨(h1.trans (val_main_v38_eq m' c)).trans (Eq.trans ?_ (same_dx m hpre c)), (h2.trans (val_main_v52_eq _ _)).trans (Eq.trans ?_ (same_xn m c)),
      (h3.trans (val_main_v53_eq _ _ _)).trans (Eq.trans ?_ (same_dg m c)), hargs⟩
    · exact congr (congr (congr (congr (congrArg _ a0) a1) a2) a3) a4
    · exact congr (congrArg _ a1) a4
    · exact congr (congr (congrArg _ a1) a2) a3

end Cert.MlpBIdeal.Value

end

end
-- ==== Proof.MlpA.lean ====
/- The feed-forward's exit gradient: the norm's gradient at its input, its gain, and the squared rectifier's gradient, row block by row block. -/
module

public import proofs.«01_k».proof.Proof.Gen.MlpAIdeal.Frame
public import proofs.«01_k».proof.Defs
public import proofs.«01_k».proof.Proof.Gen.MlpARefIdeal.Run
public import proofs.«01_k».proof.Proof.Gen.MlpARefIdeal.Read
public import proofs.«01_k».proof.Proof.Norm
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Common

namespace Cert.MlpAIdeal.Value

open Cert.MlpAIdeal Cert.MlpAIdeal.Gen
open Cert.MlpARefIdeal.Read

section
variable (dh : FVec Ideal S8192x1024 .f32) (u : FVec Ideal S8192x4096 .f32) (w : FVec Ideal S4096x1024 .f32) (g : FVec Ideal S1024 .f32)

/-- A row of the feed-forward's output. -/
def ff (i : Fin 8192) (k : Fin 1024) : EReal := ∑ n, max (u (ix2 i n)) 0 * max (u (ix2 i n)) 0 * w (ix2 n k)

/-- The gradient at the feed-forward's output. -/
def dff (i : Fin 8192) (j : Fin 1024) : EReal := normGrad (ff u w i) (fun k => dh (ix2 i k) * g (ix1 k)) j

theorem relu_finite {x : EReal} (h : Finite x) : Finite (max x 0) := by
  rcases max_choice x 0 with e | e
  · rwa [e]
  · rw [e]
    exact ⟨0, rfl⟩

/-- The reference's down product. -/
theorem ref_ff (i : Fin 8192) (j : Fin 1024) : val_main_v7 (F := Ideal) u w (ix2 i j) = ff u w i j := by
  pointwise [val_main_v7, val_main_v4, val_main_v0, val_main_call0_v0, val_main_call0_cst]
  rfl

variable {dh u w g} in
/-- The reference's gradient at the down product. -/
theorem ref_dff (hd : ∀ i, Finite (dh i)) (hu : ∀ i, Finite (u i)) (hw : ∀ i, Finite (w i)) (hg : ∀ i, Finite (g i)) (i : Fin 8192) (j : Fin 1024) :
    val_main_v43 (F := Ideal) dh u w g (ix2 i j) = dff dh u w g i j := by
  pointwise [val_main_v43, val_main_v42, val_main_v39, val_main_v38, val_main_cst_10, val_main_v37, val_main_v36, val_main_cst_9, val_main_v35, val_main_v18, val_main_v16, val_main_v14, val_main_v13, val_main_cst_4, val_main_v12, val_main_v11, val_main_cst_3, val_main_v10, val_main_v9, val_main_cst_2, val_main_v8, val_main_v15, val_main_v17, val_main_cst_5, val_main_v32, val_main_v31, val_main_cst_8, val_main_v30, val_main_v28, val_main_v27, val_main_v21, val_main_v41, val_main_v40, val_main_v34, val_main_v33]
  simp only [Fintype.sum_unique, ref_ff]
  exact normGrad_eq (fun k => Finite.sum _ fun n => ((relu_finite (hu _)).mul (relu_finite (hu _))).mul (hw _)) (fun k => (hd _).mul (hg _)) j _ rfl

/-- The reference's gradient at the up product. -/
theorem ref_dup (i : Fin 8192) (j : Fin 4096) : val_main_v49 (F := Ideal) dh u w g (ix2 i j) = (∑ k, val_main_v43 (F := Ideal) dh u w g (ix2 i k) * w (ix2 j k)) * (Ideal.ofBits .f32 0x40000000#32 * max (u (ix2 i j)) 0) := by
  pointwise [val_main_v49, val_main_v48, val_main_v47, val_main_cst_11, val_main_v46, val_main_v6, val_main_v0, val_main_call0_v0, val_main_call0_cst, val_main_v5, val_main_cst_1, val_main_v45, val_main_v44,  val_main_v2, val_main_v1, val_main_cst]
  split
  · rfl
  · rename_i h
    rw [max_eq_right (not_lt.1 h), mul_zero, mul_zero]

/-- The reference's gradient of the gain. -/
theorem ref_dg (j : Fin 1024) : val_main_v50 (F := Ideal) dh u w (ix2 0 j) = ∑ i, dh (ix2 i j) * (ff u w i j * Ideal.rsqrt (meanSq (ff u w i))) := by
  pointwise [val_main_v50, val_main_v29, val_main_cst_7, val_main_v26, val_main_v25, val_main_cst_6, val_main_v24, val_main_v20, val_main_v19, val_main_v15, val_main_v14, val_main_v13, val_main_cst_4, val_main_v12, val_main_v11, val_main_cst_3, val_main_v10, val_main_v9, val_main_cst_2, val_main_v8]
  simp only [Fintype.sum_unique, ref_ff]
  exact Finset.sum_congr rfl fun i _ => mul_comm _ _
end

variable (m : (ℓ : Loc nD τ sig) → Buf (Elt Ideal) ℓ)

abbrev adh (c : Dev nD) : FVec Ideal S8192x1024 .f32 := m ((c : Thread nD τ).loc main_arg0)
abbrev au (c : Dev nD) : FVec Ideal S8192x4096 .f32 := m ((c : Thread nD τ).loc main_arg1)
abbrev aw (c : Dev nD) : FVec Ideal S4096x1024 .f32 := m ((c : Thread nD τ).loc main_arg2)
abbrev ag (c : Dev nD) : FVec Ideal S1024 .f32 := m ((c : Thread nD τ).loc main_arg3)

/-- The block of each window at each grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0] ∧ win0_7.index t = ![0, 0] :=
  (by decide +kernel : ∀ t : Fin grid0.N, _)

/-- The feed-forward's output as the host computes it. -/
def hostFf (u : FVec Ideal S8192x4096 .f32) (w : FVec Ideal S4096x1024 .f32) : FVec Ideal S8192x1024 .f32 :=
  Host.dotGeneral dot_S8192x4096_S4096x1024_S8192x1024_1_0_0_1_n_n none
    (extf .f32 (truncf .bf16 (mulf (maximumf u (broadcastInDim S8192x4096 ![] bcast_S_S8192x4096 (constant S_ .f32 0x00000000#32)))
      (maximumf u (broadcastInDim S8192x4096 ![] bcast_S_S8192x4096 (constant S_ .f32 0x00000000#32)))) bitsLt_bf16_f32) bitsLt_bf16_f32)
    (extf .f32 (truncf .bf16 w bitsLt_bf16_f32) bitsLt_bf16_f32)

/-- The down product as the host computes it. -/
theorem hostFf_at (u : FVec Ideal S8192x4096 .f32) (w : FVec Ideal S4096x1024 .f32) (i : Fin 8192) (j : Fin 1024) : hostFf u w (ix2 i j) = ff u w i j := by
  pointwise [hostFf]
  rfl

theorem w_ff (c : Dev nD) (t : Fin cfg0.N) (r : Fin 512) (k : Fin 1024) (ht : t.val < 16) :
    (iblk m c 1 t : FVec Ideal S512x1024 .f32) (ix2 r k) = ff (au m c) (aw m c) ⟨t.val * 512 + r, by omega⟩ k := by
  refine Eq.trans (b := (V m c main_v7 : FVec Ideal S8192x1024 .f32) (ix2 ⟨t.val * 512 + r, by omega⟩ k)) (by blk_point [iblk, idx t]) ?_
  rw [show V m c main_v7 = hostFf (au m c) (aw m c) from by unfold V; simp only [List.flatten, List.append, hostOps0]; after_results; rfl]
  exact hostFf_at _ _ _ _

theorem w_w (c : Dev nD) (t : Fin cfg0.N) (r : Fin 4096) (k : Fin 1024) :
    (iblk m c 3 t : FVec Ideal S4096x1024 .bf16) (ix2 r k) = aw m c (ix2 r k) := by
  refine Eq.trans (b := (V m c main_v8 : FVec Ideal S4096x1024 .bf16) (ix2 r k)) (by blk_point [iblk, idx t]) ?_
  rw [show V m c main_v8 = (truncf .bf16 (aw m c) bitsLt_bf16_f32 : FVec Ideal S4096x1024 .bf16) from by
    unfold V; simp only [List.flatten, List.append, hostOps0]; after_results]
  pointwise []

theorem w_g (c : Dev nD) (t : Fin cfg0.N) (k : Fin 1024) :
    (iblk m c 4 t : FVec Ideal S1x1024 .f32) (ix2 0 k) = ag m c (ix1 k) := by
  refine Eq.trans (b := (V m c main_v9 : FVec Ideal S1x1024 .f32) (ix2 0 k)) (by blk_point [iblk, idx t]) ?_
  rw [show V m c main_v9 = (broadcastInDim S1x1024 ![1] bcast_S1024_S1x1024_1 (ag m c) : FVec Ideal S1x1024 .f32) from by
    unfold V; simp only [List.flatten, List.append, hostOps0]; after_results]
  pointwise []

theorem w_dh (c : Dev nD) (t : Fin cfg0.N) (r : Fin 512) (k : Fin 1024) (ht : t.val < 16) :
    (iblk m c 0 t : FVec Ideal S512x1024 .f32) (ix2 r k) = adh m c (ix2 ⟨t.val * 512 + r, by omega⟩ k) := by blk_point [iblk, V, idx t]

theorem w_u (c : Dev nD) (t : Fin cfg0.N) (r : Fin 512) (k : Fin 4096) (ht : t.val < 16) :
    (iblk m c 2 t : FVec Ideal S512x4096 .f32) (ix2 r k) = au m c (ix2 ⟨t.val * 512 + r, by omega⟩ k) := by blk_point [iblk, V, idx t]

/-- A block's gradient at the down product. -/
theorem dff_at (c : Dev nD) (t : Fin cfg0.N) (r : Fin 512) (j : Fin 1024) (ht : t.val < 16) :
    k0_pay8 (F := Ideal) (iblk m c 0 t) (iblk m c 1 t) (iblk m c 4 t) (ix2 r j) = dff (adh m c) (au m c) (aw m c) (ag m c) ⟨t.val * 512 + r, by omega⟩ j := by
  pointwise [k0_pay8, k0_pay6, k0_pay5, k0_pay4]
  simp only [w_ff m c t r _ ht, w_dh m c t r _ ht, w_g m c t]
  rfl

/-- The gradient at the rectifier's input. -/
def du (dh : FVec Ideal S8192x1024 .f32) (u : FVec Ideal S8192x4096 .f32) (w : FVec Ideal S4096x1024 .f32) (g : FVec Ideal S1024 .f32) (i : Fin 8192) (j : Fin 4096) : EReal :=
  (∑ k, dff dh u w g i k * w (ix2 j k)) * (Ideal.ofBits .f32 0x40000000#32 * max (u (ix2 i j)) 0)

/-- A block's gradient at the up product. -/
theorem du_at (c : Dev nD) (t : Fin cfg0.N) (r : Fin 512) (j : Fin 4096) (ht : t.val < 16) :
    k0_pay1 (F := Ideal) (k0_pay9 (iblk m c 0 t) (iblk m c 1 t) (iblk m c 2 t) (iblk m c 4 t) (iblk m c 3 t)) (ix2 r j)
      = du (adh m c) (au m c) (aw m c) (ag m c) ⟨t.val * 512 + r, by omega⟩ j := by
  pointwise [k0_pay1, k0_pay9]
  simp only [dff_at m c t r _ ht, w_u m c t r _ ht, w_w m c t]
  rfl

/-- What a block adds to the gain's gradient. -/
theorem dg_at (c : Dev nD) (t : Fin cfg0.N) (j : Fin 1024) (ht : t.val < 16) :
    k0_pay7 (F := Ideal) (iblk m c 0 t) (iblk m c 1 t) (ix2 0 j)
      = ∑ r : Fin 512, adh m c (ix2 ⟨t.val * 512 + r, by omega⟩ j) * (ff (au m c) (aw m c) ⟨t.val * 512 + r, by omega⟩ j * Ideal.rsqrt (meanSq (ff (au m c) (aw m c) ⟨t.val * 512 + r, by omega⟩))) := by
  pointwise [k0_pay7, k0_pay6, k0_pay5, k0_pay4]
  refine Finset.sum_congr rfl fun r _ => ?_
  simp only [w_ff m c t r _ ht, w_dh m c t r _ ht]
  rfl

theorem final_dff (c : Dev nD) : (dats m 0 c).arrAt 5 (cfgs 0).N
    = fun i : S8192x1024.Idx => dff (adh m c) (au m c) (aw m c) (ag m c) (i 0) (i 1) := by
  refine (dats m 0 c).arrAt_eq_of_covers 5 _ (by decide +kernel) fun t hf y => ?_
  have ht : t.val < 16 := lt_of_lt_of_eq t.isLt N_0
  blk_simp
  rw [after0_5]
  idx_vars y
  have e : (((cfg0.win 5).blk t).view.emb (ix2 y0 y1) : S8192x1024.Idx) = ix2 ⟨t.val * 512 + y0, by omega⟩ y1 := by blk_ext [idx t]
  refine Eq.trans ?_ (congrArg (fun i : S8192x1024.Idx => dff (adh m c) (au m c) (aw m c) (ag m c) (i 0) (i 1)) e).symm
  refine Eq.trans ?_ (dff_at m c t y0 y1 ht)
  by_cases h : t.val % 16 = 0
  · rw [outsAt0_A m c t h]
    frame_out
  · rw [outsAt0_B m c t h]
    frame_out

theorem final_du (c : Dev nD) : (dats m 0 c).arrAt 6 (cfgs 0).N
    = fun i : S8192x4096.Idx => du (adh m c) (au m c) (aw m c) (ag m c) (i 0) (i 1) := by
  refine (dats m 0 c).arrAt_eq_of_covers 6 _ (by decide +kernel) fun t hf y => ?_
  have ht : t.val < 16 := lt_of_lt_of_eq t.isLt N_0
  blk_simp
  rw [after0_6]
  idx_vars y
  have e : (((cfg0.win 6).blk t).view.emb (ix2 y0 y1) : S8192x4096.Idx) = ix2 ⟨t.val * 512 + y0, by omega⟩ y1 := by blk_ext [idx t]
  refine Eq.trans ?_ (congrArg (fun i : S8192x4096.Idx => du (adh m c) (au m c) (aw m c) (ag m c) (i 0) (i 1)) e).symm
  refine Eq.trans ?_ (du_at m c t y0 y1 ht)
  by_cases h : t.val % 16 = 0
  · rw [outsAt0_A m c t h]
    frame_out
  · rw [outsAt0_B m c t h]
    frame_out

theorem final_dg (c : Dev nD) : (dats m 0 c).arrAt 7 (cfgs 0).N
    = fun i : S1x1024.Idx => ∑ n, adh m c (ix2 n (i 1)) * (ff (au m c) (aw m c) n (i 1) * Ideal.rsqrt (meanSq (ff (au m c) (aw m c) n))) := by
  refine (dats m 0 c).arrAt_eq_of_after_last 7 t0_15 (by decide +kernel) _ fun j => ?_
  blk_simp
  rw [after0_7, Pipeline.eq_sum_fin_of_reset_step_apply_last (fun n h => (outsAt0 m c n h).2.2) 16 (fun _ => 0)
    (fun p j => k0_pay7 (F := Ideal) (iblk m c 0 p) (iblk m c 1 p) j)
    (fun t h j => by
      rw [outsAt0_A m c t h]
      frame_out
      idx_vars j
      pointwise [k0_pay3, k0_pay2])
    (fun t h j => by
      rw [outsAt0_B m c t h]
      frame_out
      idx_vars j
      pointwise [k0_pay3])
    (le_of_eq N_0) t0_15 rfl j, zero_add]
  idx_vars j
  obtain rfl : j0 = 0 := Subsingleton.elim _ _
  refine (Finset.sum_congr rfl fun p _ => dg_at m c p j1 (lt_of_lt_of_eq p.isLt N_0)).trans ?_
  exact (Fin.sum_univ_tiles 16 512 rfl fun n : Fin 8192 => adh m c (ix2 n j1) * (ff (au m c) (aw m c) n j1 * Ideal.rsqrt (meanSq (ff (au m c) (aw m c) n)))).symm

instance factsPre : Cert.Pre_finite_mlpa.Facts := by constructor <;> decide

/-- The gradient at the down product: the kernel leaves what the reference computes. -/
theorem same_dff (hpre : Cert.Pre_MlpAIdeal_finite_mlpa m) (c : Dev nD) (i : Fin 8192) (j : Fin 1024) :
    val_main_v43 (F := Ideal) (adh m c) (au m c) (aw m c) (ag m c) (ix2 i j) = dff (adh m c) (au m c) (aw m c) (ag m c) i j :=
  ref_dff (real_of_mask _ factsPre.bcast_S_S8192x1024 (hpre c).1) (real_of_mask _ factsPre.bcast_S_S8192x4096 (hpre c).2.1)
    (real_of_mask _ factsPre.bcast_S_S4096x1024 (hpre c).2.2.1) (real_of_mask _ factsPre.bcast_S_S1024 (hpre c).2.2.2) i j

theorem same_rounded (hpre : Cert.Pre_MlpAIdeal_finite_mlpa m) (c : Dev nD) :
    val_main_v44 (F := Ideal) (adh m c) (au m c) (aw m c) (ag m c) = (dats m 0 c).arrAt 5 (cfgs 0).N := by
  rw [final_dff]
  funext j
  idx_vars j
  exact same_dff m hpre c j0 j1

/-- The gradient at the up product: the kernel leaves what the reference computes. -/
theorem same_du (hpre : Cert.Pre_MlpAIdeal_finite_mlpa m) (c : Dev nD) :
    val_main_v49 (F := Ideal) (adh m c) (au m c) (aw m c) (ag m c) = (dats m 0 c).arrAt 6 (cfgs 0).N := by
  rw [final_du]
  funext j
  idx_vars j
  refine (ref_dup _ _ _ _ j0 j1).trans ?_
  simp only [same_dff m hpre c]
  rfl

/-- The gain's gradient: the kernel leaves what the reference computes. -/
theorem same_dg (c : Dev nD) : val_main_v50 (F := Ideal) (adh m c) (au m c) (aw m c) = (dats m 0 c).arrAt 7 (cfgs 0).N := by
  rw [final_dg]
  funext j
  idx_vars j
  obtain rfl : j0 = 0 := Subsingleton.elim _ _
  exact ref_dg _ _ _ j1

/-- What a run of the kernel leaves in its results. -/
theorem ran (g : Dev nD → PrngReg) :
    θ_run (defs (F := Ideal)) (onTc (τ := τ) (main (F := Ideal))) ⟨m, fun _ => 0, g⟩ (fun r => ∀ c : Dev nD,
      r.2.mem ((c.tc : Thread nD τ).loc main_v10_0) = (dats m 0 c).arrAt 5 (cfgs 0).N
      ∧ r.2.mem ((c.tc : Thread nD τ).loc main_v10_1) = (dats m 0 c).arrAt 6 (cfgs 0).N
      ∧ r.2.mem ((c.tc : Thread nD τ).loc main_v10_2) = (dats m 0 c).arrAt 7 (cfgs 0).N) :=
  θ_run_mono (run_main m g) fun r h c => ⟨(h c).1 5, (h c).1 6, (h c).1 7⟩

/-- Over the reals, kernel and reference compute the same function. -/
theorem claim : Cert.algebraic_MlpAIdeal_MlpARefIdeal_pre_finite_mlpa := by
  intro m g m' g' hpre hagree
  refine ⟨fun c => (dats m 0 c).arrAt 5 (cfgs 0).N, fun c => (dats m 0 c).arrAt 6 (cfgs 0).N, fun c => (dats m 0 c).arrAt 7 (cfgs 0).N, ?_, ?_⟩
  · exact θ_run_mono (θ_run_and (ran m g) (Gen.frame m g)) fun r h c => ⟨(h.1 c).1, (h.1 c).2.1, (h.1 c).2.2, h.2.1 c⟩
  · refine θ_run_mono (Cert.MlpARefIdeal.Value.run (F := Ideal) m' g') fun r h c => ?_
    obtain ⟨h1, h2, h3, hargs⟩ := h c
    obtain ⟨a0, a1, a2, a3⟩ := hagree c
    refine ⟨(h1.trans (val_main_v44_eq m' c)).trans (Eq.trans ?_ (same_rounded m hpre c)),
      (h2.trans (val_main_v49_eq m' c)).trans (Eq.trans ?_ (same_du m hpre c)),
      (h3.trans (val_main_v50_eq _ _ _)).trans (Eq.trans ?_ (same_dg m c)), hargs⟩
    · exact congr (congr (congr (congrArg _ a0) a1) a2) a3
    · exact congr (congr (congr (congrArg _ a0) a1) a2) a3
    · exact congr (congr (congrArg _ a0) a1) a2

end Cert.MlpAIdeal.Value

end

end
-- ==== Proof.MixOut.lean ====
/- The mixer's exit gradient: the norm's gradient, its gain's, the projection's weights' and the four branches', heads spread over lanes. -/
module

public import proofs.«01_k».proof.Proof.Gen.MixOutIdeal.Frame
public import proofs.«01_k».proof.Defs
public import proofs.«01_k».proof.Proof.Gen.MixOutRefIdeal.Run
public import proofs.«01_k».proof.Proof.Gen.MixOutRefIdeal.Read
public import proofs.«01_k».proof.Proof.Norm
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Common

namespace Cert.MixOutIdeal.Value

open Cert.MixOutIdeal Cert.MixOutIdeal.Gen
open Cert.MixOutRefIdeal.Read

section
variable (dh : FVec Ideal S8192x1024 .f32) (yc ya ys yp : FVec Ideal S8192x256 .f32) (w : FVec Ideal S1024x1024 .f32) (g : FVec Ideal S1024 .f32)

/-- The four branches side by side. -/
abbrev cat (i : Fin 8192) (n : Fin 1024) : EReal := val_main_v0 (F := Ideal) yc ya ys yp (ix2 i n)

/-- A row of the mixer's output. -/
def mix (i : Fin 8192) (k : Fin 1024) : EReal := ∑ n, cat yc ya ys yp i n * w (ix2 n k)

/-- The gradient at the mixer's output. -/
def dmix (i : Fin 8192) (j : Fin 1024) : EReal := normGrad (mix yc ya ys yp w i) (fun k => dh (ix2 i k) * g (ix1 k)) j

/-- The gradient at the four branches side by side. -/
def dcat (i : Fin 8192) (j : Fin 1024) : EReal := ∑ k, dmix dh yc ya ys yp w g i k * w (ix2 j k)

/-- The reference's product of the four groups with the output weights. -/
theorem ref_mix (i : Fin 8192) (j : Fin 1024) : val_main_v1 (F := Ideal) yc ya ys yp w (ix2 i j) = mix yc ya ys yp w i j := by
  pointwise [val_main_v1]
  rfl

variable {dh yc ya ys yp w g} in
/-- The reference's gradient at that product. -/
theorem ref_dmix (hd : ∀ i, Finite (dh i)) (hm : ∀ i k, Finite (mix yc ya ys yp w i k)) (hg : ∀ i, Finite (g i)) (i : Fin 8192) (j : Fin 1024) :
    val_main_v37 (F := Ideal) dh yc ya ys yp w g (ix2 i j) = dmix dh yc ya ys yp w g i j := by
  pointwise [val_main_v37, val_main_v36, val_main_v33, val_main_v32, val_main_cst_7, val_main_v31, val_main_v30, val_main_cst_6, val_main_v29, val_main_v12, val_main_v10, val_main_v8, val_main_v7, val_main_cst_1, val_main_v6, val_main_v5, val_main_cst_0, val_main_v4, val_main_v3, val_main_cst, val_main_v2, val_main_v9, val_main_v11, val_main_cst_2, val_main_v26, val_main_v25, val_main_cst_5, val_main_v24, val_main_v22, val_main_v21, val_main_v15, val_main_v35, val_main_v34, val_main_v28, val_main_v27]
  simp only [Fintype.sum_unique, ref_mix]
  exact normGrad_eq (hm i) (fun k => (hd _).mul (hg _)) j _ rfl

/-- The reference's gradient at the four groups side by side. -/
theorem ref_dcat (i : Fin 8192) (j : Fin 1024) : val_main_v40 (F := Ideal) dh yc ya ys yp w g (ix2 i j) = ∑ k, val_main_v37 (F := Ideal) dh yc ya ys yp w g (ix2 i k) * w (ix2 j k) := by
  pointwise [val_main_v40]

theorem ref_dconf (i : Fin 8192) (j : Fin 256) : val_main_v41 (F := Ideal) dh yc ya ys yp w g (ix2 i j) = val_main_v40 (F := Ideal) dh yc ya ys yp w g (ix2 i ⟨j, by omega⟩) := by
  pointwise [val_main_v41]

theorem ref_dsc (i : Fin 8192) (j : Fin 256) : val_main_v43 (F := Ideal) dh yc ya ys yp w g (ix2 i j) = val_main_v40 (F := Ideal) dh yc ya ys yp w g (ix2 i ⟨512 + j, by omega⟩) := by
  pointwise [val_main_v43]

theorem ref_dpool (i : Fin 8192) (j : Fin 256) : val_main_v44 (F := Ideal) dh yc ya ys yp w g (ix2 i j) = val_main_v40 (F := Ideal) dh yc ya ys yp w g (ix2 i ⟨768 + j, by omega⟩) := by
  pointwise [val_main_v44]

theorem ref_dheads (i : Fin 8192) (h : Fin 4) (l : Fin 128) : val_main_v47 (F := Ideal) dh yc ya ys yp w g (ix2 i ⟨h * 128 + l, by omega⟩)
    = if hl : l.val < 64 then val_main_v40 (F := Ideal) dh yc ya ys yp w g (ix2 i ⟨256 + h * 64 + l, by omega⟩) else 0 := by
  pointwise [val_main_v47, val_main_v46, val_main_call0_v0, val_main_c, val_main_v45, val_main_v42]
  have z : FloatOps.sitofp (F := Ideal) FTy.f32 0#32 = 0 := by simp [FloatOps.sitofp]
  simp only [z, Nat.add_assoc]

/-- The reference's gradient of the output weights. -/
theorem ref_dw (n j : Fin 1024) : val_main_v39 (F := Ideal) dh yc ya ys yp w g (ix2 n j) = ∑ i, cat yc ya ys yp i n * val_main_v37 (F := Ideal) dh yc ya ys yp w g (ix2 i j) := by
  pointwise [val_main_v39, val_main_v38]
  exact Finset.sum_congr rfl fun x _ => mul_comm _ _

/-- The reference's gradient of the gain. -/
theorem ref_dg (j : Fin 1024) : val_main_v48 (F := Ideal) dh yc ya ys yp w (ix2 0 j) = ∑ i, dh (ix2 i j) * (mix yc ya ys yp w i j * Ideal.rsqrt (meanSq (mix yc ya ys yp w i))) := by
  pointwise [val_main_v48, val_main_v23, val_main_cst_4, val_main_v20, val_main_v19, val_main_cst_3, val_main_v18, val_main_v14, val_main_v13, val_main_v9, val_main_v8, val_main_v7, val_main_cst_1, val_main_v6, val_main_v5, val_main_cst_0, val_main_v4, val_main_v3, val_main_cst, val_main_v2]
  simp only [Fintype.sum_unique, ref_mix]
  exact Finset.sum_congr rfl fun i _ => mul_comm _ _
end

variable (m : (ℓ : Loc nD τ sig) → Buf (Elt Ideal) ℓ)

abbrev adh (c : Dev nD) : FVec Ideal S8192x1024 .f32 := m ((c : Thread nD τ).loc main_arg0)
abbrev ac (c : Dev nD) : FVec Ideal S8192x256 .f32 := m ((c : Thread nD τ).loc main_arg1)
abbrev aa (c : Dev nD) : FVec Ideal S8192x256 .f32 := m ((c : Thread nD τ).loc main_arg2)
abbrev asc (c : Dev nD) : FVec Ideal S8192x256 .f32 := m ((c : Thread nD τ).loc main_arg3)
abbrev ap (c : Dev nD) : FVec Ideal S8192x256 .f32 := m ((c : Thread nD τ).loc main_arg4)
abbrev asp (c : Dev nD) : FVec Ideal S8192x4x64 .f32 := m ((c : Thread nD τ).loc main_arg5)
abbrev aw (c : Dev nD) : FVec Ideal S1024x1024 .f32 := m ((c : Thread nD τ).loc main_arg6)
abbrev ag (c : Dev nD) : FVec Ideal S1024 .f32 := m ((c : Thread nD τ).loc main_arg7)

/-- The attention's branch as the host spreads its heads over lanes, the second half of a head's lanes spare. -/
def hostAtt (y : FVec Ideal S8192x256 .f32) (sp : FVec Ideal S8192x4x64 .f32) : FVec Ideal S8192x512 .f32 :=
  shapeCast S8192x512 (concatenate S8192x4x128 2 [⟨S8192x4x64, shapeCast S8192x4x64 y shapeCasts_S8192x256_S8192x4x64⟩, ⟨S8192x4x64, sp⟩] concatenates_S8192x4x64_S8192x4x64_S8192x4x128_d2) shapeCasts_S8192x4x128_S8192x512

/-- The attention's output as the host lays it out. -/
theorem hostAtt_at (y : FVec Ideal S8192x256 .f32) (sp : FVec Ideal S8192x4x64 .f32) (i : Fin 8192) (h : Fin 4) (l : Fin 128) (hl : l.val < 64) :
    hostAtt y sp (ix2 i ⟨h * 128 + l, by omega⟩) = y (ix2 i ⟨h * 64 + l, by omega⟩) := by
  pointwise [hostAtt]
  exact dif_pos hl

theorem V2 (c : Dev nD) : (V m c main_v2 : FVec Ideal S8192x512 .f32) = hostAtt (aa m c) (asp m c) := by
  unfold V; simp only [List.flatten, List.append, hostOps0]; after_results; rfl

theorem V4 (c : Dev nD) : (V m c main_v4 : FVec Ideal S8192x1024 .f32) = val_main_v1 (F := Ideal) (ac m c) (aa m c) (asc m c) (ap m c) (aw m c) := by
  unfold V; simp only [List.flatten, List.append, hostOps0]; after_results; rfl

/-- A column lies in one of the four groups. -/
theorem cat_cases {P : Fin 1024 → Prop} (h0 : ∀ s : Fin 256, P ⟨s, by omega⟩)  (h1 : ∀ (q : Fin 2) (s : Fin 128), P ⟨256 + q * 128 + s, by omega⟩) (h2 : ∀ s : Fin 256, P ⟨512 + s, by omega⟩)
   (h3 : ∀ s : Fin 256, P ⟨768 + s, by omega⟩) (n : Fin 1024) : P n := by
  by_cases a : n.val < 256
  · exact h0 ⟨n, a⟩
  by_cases b : n.val < 512
  · have := h1 ⟨(n - 256) / 128, by omega⟩ ⟨(n - 256) % 128, by omega⟩
    have e : (⟨256 + (n - 256) / 128 * 128 + (n - 256) % 128, by omega⟩ : Fin 1024) = n := Fin.ext (by show 256 + (n.val - 256) / 128 * 128 + (n.val - 256) % 128 = n.val; omega)
    rwa [← e]
  by_cases d : n.val < 768
  · have := h2 ⟨n - 512, by omega⟩
    have e : (⟨512 + (n - 512), by omega⟩ : Fin 1024) = n := Fin.ext (by show 512 + (n.val - 512) = n.val; omega)
    rwa [← e]
  · have := h3 ⟨n - 768, by omega⟩
    have e : (⟨768 + (n - 768), by omega⟩ : Fin 1024) = n := Fin.ext (by show 768 + (n.val - 768) = n.val; omega)
    rwa [← e]

theorem cat0 (yc ya ys yp : FVec Ideal S8192x256 .f32) (i : Fin 8192) (s : Fin 256) : cat yc ya ys yp i ⟨s, by omega⟩ = yc (ix2 i s) := by
  unfold cat
  pointwise [val_main_v0]

theorem cat1 (yc ya ys yp : FVec Ideal S8192x256 .f32) (i : Fin 8192) (q : Fin 2) (s : Fin 128) : cat yc ya ys yp i ⟨256 + q * 128 + s, by omega⟩ = ya (ix2 i ⟨q * 128 + s, by omega⟩) := by
  unfold cat
  pointwise [val_main_v0]
  split_ifs <;> first | omega | exact congrArg (fun k => ya (ix2 i k)) (Fin.ext (by dsimp only; omega))

theorem cat2 (yc ya ys yp : FVec Ideal S8192x256 .f32) (i : Fin 8192) (s : Fin 256) : cat yc ya ys yp i ⟨512 + s, by omega⟩ = ys (ix2 i s) := by
  unfold cat
  pointwise [val_main_v0]
  split_ifs <;> first | omega | exact congrArg (fun k => ys (ix2 i k)) (Fin.ext (by dsimp only; omega))

theorem cat3 (yc ya ys yp : FVec Ideal S8192x256 .f32) (i : Fin 8192) (s : Fin 256) : cat yc ya ys yp i ⟨768 + s, by omega⟩ = yp (ix2 i s) := by
  unfold cat
  pointwise [val_main_v0]
  split_ifs <;> first | omega | exact congrArg (fun k => yp (ix2 i k)) (Fin.ext (by dsimp only; omega))

section
variable (v4 : FVec Ideal S512x256 .bf16) (v6 : FVec Ideal S512x512 .f32) (v8 v10 : FVec Ideal S512x256 .bf16) (v38 : FVec Ideal S512x1024 .bf16)

theorem dw0 (s : Fin 256) (j : Fin 1024) :
    k0_pay15 (F := Ideal) v4 v6 v8 v10 v38 (ix2 ⟨s, by omega⟩ j) = ∑ x, v4 (ix2 x s) * v38 (ix2 x j) := by
  pointwise [k0_pay15]

theorem dw1 (q : Fin 2) (s : Fin 128) (j : Fin 1024) :
    k0_pay15 (F := Ideal) v4 v6 v8 v10 v38 (ix2 ⟨256 + q * 128 + s, by omega⟩ j)
      = ∑ x, (if h : s.val < 64 then v6 (ix2 x ⟨(2 * q) * 128 + s, by omega⟩) else v6 (ix2 x ⟨(2 * q + 1) * 128 + (s - 64), by omega⟩)) * v38 (ix2 x j) := by
  fin_cases q
  · pointwise [k0_pay15]
    refine Finset.sum_congr rfl fun x _ => congrArg (· * v38 (ix2 x j)) ?_
    rw [dif_pos (by omega), low_lane]
    split_ifs with h
    · rfl
    · exact congrArg (fun k => v6 (ix2 x k)) (Fin.ext (by dsimp only; omega))
  · pointwise [k0_pay15]
    refine Finset.sum_congr rfl fun x _ => congrArg (· * v38 (ix2 x j)) ?_
    have e : 384 + s.val - 256 - 128 = s.val := by omega
    rw [dif_neg (by omega), dif_pos (by omega), dif_neg (by omega)]
    simp only [e]
    rw [low_lane]
    by_cases h : s.val < 64
    · rw [if_pos h, dif_pos h]
    · rw [if_neg h, dif_neg h]
      exact congrArg (fun k => v6 (ix2 x k)) (Fin.ext (by dsimp only; omega))

theorem dw2 (s : Fin 256) (j : Fin 1024) :
    k0_pay15 (F := Ideal) v4 v6 v8 v10 v38 (ix2 ⟨512 + s, by omega⟩ j) = ∑ x, v8 (ix2 x s) * v38 (ix2 x j) := by
  pointwise [k0_pay15]
  refine Finset.sum_congr rfl fun x _ => congrArg (· * v38 (ix2 x j)) ?_
  rw [dif_neg (by omega), dif_neg (by omega), dif_pos (by omega)]
  exact congrArg (fun k => v8 (ix2 x k)) (Fin.ext (by dsimp only; omega))

theorem dw3 (s : Fin 256) (j : Fin 1024) :
    k0_pay15 (F := Ideal) v4 v6 v8 v10 v38 (ix2 ⟨768 + s, by omega⟩ j) = ∑ x, v10 (ix2 x s) * v38 (ix2 x j) := by
  pointwise [k0_pay15]
  refine Finset.sum_congr rfl fun x _ => congrArg (· * v38 (ix2 x j)) ?_
  rw [dif_neg (by omega), dif_neg (by omega), dif_neg (by omega)]
  exact congrArg (fun k => v10 (ix2 x k)) (Fin.ext (by dsimp only; omega))
end

theorem heads_at (v38 : FVec Ideal S512x1024 .bf16) (v39 : Vec Ideal S1024x1024 .bf16) (r : Fin 512) (h : Fin 4) (l : Fin 128) :
    k0_pay17 v38 v39 (ix2 r ⟨h * 128 + l, by omega⟩) = if hl : l.val < 64 then k0_pay14 v38 v39 (ix2 r ⟨256 + h * 64 + l, by omega⟩) else 0 := by
  have a2 : ¬256 + l.val < 128 := by omega
  have b2 : ¬256 + l.val - 128 < 128 := by omega
  have a3 : ¬384 + l.val < 128 := by omega
  have b3 : ¬384 + l.val - 128 < 128 := by omega
  have c3 : ¬384 + l.val - 128 - 128 < 128 := by omega
  have e2 : 256 + l.val - 128 - 128 = l.val := by omega
  have e3 : 384 + l.val - 128 - 128 - 128 = l.val := by omega
  fin_cases h
  · pointwise [k0_pay17]
    exact low_lane l _ _
  · pointwise [k0_pay17]
    simp only [low_lane]
    by_cases hl : l.val < 64
    · have e : 256 + (l.val + 128 - 64) % 128 = 320 + l.val := by omega
      simp only [hl, e, if_true, dite_true]
    · simp only [hl, if_false, dite_false]
  · pointwise [k0_pay17]
    simp only [a2, b2, e2, l.isLt, dite_true, dite_false]
    simp only [low_lane]
    by_cases hl : l.val < 64
    · have e : 256 + (128 + l.val) = 384 + l.val := by omega
      simp only [hl, e, if_true, dite_true]
    · simp only [hl, if_false, dite_false]
  · pointwise [k0_pay17]
    simp only [a3, b3, c3, e3, dite_false]
    simp only [low_lane]
    by_cases hl : l.val < 64
    · have e : 256 + (128 + (l.val + 128 - 64) % 128) = 448 + l.val := by omega
      simp only [hl, e, if_true, dite_true]
    · simp only [hl, if_false, dite_false]

/-- The block of each window at each grid point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![0, 0] ∧ win0_7.index t = ![0, 0] ∧ win0_8.index t = ![t.val, 0]
    ∧ win0_9.index t = ![t.val, 0] ∧ win0_10.index t = ![t.val, 0] ∧ win0_11.index t = ![t.val, 0] ∧ win0_12.index t = ![0, 0] ∧ win0_13.index t = ![0, 0] :=
  (by decide +kernel : ∀ t : Fin grid0.N, _)

section
variable (c : Dev nD) (t : Fin cfg0.N) (r : Fin 512) (ht : t.val < 16)

theorem w_dh (k : Fin 1024) : (iblk m c 0 t : FVec Ideal S512x1024 .f32) (ix2 r k) = adh m c (ix2 ⟨t.val * 512 + r, by omega⟩ k) := by blk_point [iblk, V, idx t]

theorem w_mix (k : Fin 1024) : (iblk m c 1 t : FVec Ideal S512x1024 .f32) (ix2 r k) = mix (ac m c) (aa m c) (asc m c) (ap m c) (aw m c) ⟨t.val * 512 + r, by omega⟩ k := by
  refine Eq.trans (b := (V m c main_v4 : FVec Ideal S8192x1024 .f32) (ix2 ⟨t.val * 512 + r, by omega⟩ k)) (by blk_point [iblk, idx t]) ?_
  rw [V4]
  exact ref_mix _ _ _ _ _ _ _

theorem w_c (k : Fin 256) : (iblk m c 2 t : FVec Ideal S512x256 .bf16) (ix2 r k) = ac m c (ix2 ⟨t.val * 512 + r, by omega⟩ k) := by
  refine Eq.trans (b := (V m c main_v5 : FVec Ideal S8192x256 .bf16) (ix2 ⟨t.val * 512 + r, by omega⟩ k)) (by blk_point [iblk, idx t]) ?_
  rw [show V m c main_v5 = (truncf .bf16 (ac m c) bitsLt_bf16_f32 : FVec Ideal S8192x256 .bf16) from by
    unfold V; simp only [List.flatten, List.append, hostOps0]; after_results]
  pointwise []

theorem w_a (k : Fin 512) : (iblk m c 3 t : FVec Ideal S512x512 .f32) (ix2 r k) = hostAtt (aa m c) (asp m c) (ix2 ⟨t.val * 512 + r, by omega⟩ k) := by
  refine Eq.trans (b := (V m c main_v2 : FVec Ideal S8192x512 .f32) (ix2 ⟨t.val * 512 + r, by omega⟩ k)) (by blk_point [iblk, idx t]) ?_
  rw [V2]

theorem w_s (k : Fin 256) : (iblk m c 4 t : FVec Ideal S512x256 .bf16) (ix2 r k) = asc m c (ix2 ⟨t.val * 512 + r, by omega⟩ k) := by
  refine Eq.trans (b := (V m c main_v6 : FVec Ideal S8192x256 .bf16) (ix2 ⟨t.val * 512 + r, by omega⟩ k)) (by blk_point [iblk, idx t]) ?_
  rw [show V m c main_v6 = (truncf .bf16 (asc m c) bitsLt_bf16_f32 : FVec Ideal S8192x256 .bf16) from by
    unfold V; simp only [List.flatten, List.append, hostOps0]; after_results]
  pointwise []

theorem w_p (k : Fin 256) : (iblk m c 5 t : FVec Ideal S512x256 .bf16) (ix2 r k) = ap m c (ix2 ⟨t.val * 512 + r, by omega⟩ k) := by
  refine Eq.trans (b := (V m c main_v7 : FVec Ideal S8192x256 .bf16) (ix2 ⟨t.val * 512 + r, by omega⟩ k)) (by blk_point [iblk, idx t]) ?_
  rw [show V m c main_v7 = (truncf .bf16 (ap m c) bitsLt_bf16_f32 : FVec Ideal S8192x256 .bf16) from by
    unfold V; simp only [List.flatten, List.append, hostOps0]; after_results]
  pointwise []

theorem w_w (n k : Fin 1024) : (iblk m c 6 t : FVec Ideal S1024x1024 .bf16) (ix2 n k) = aw m c (ix2 n k) := by
  refine Eq.trans (b := (V m c main_v8 : FVec Ideal S1024x1024 .bf16) (ix2 n k)) (by blk_point [iblk, idx t]) ?_
  rw [show V m c main_v8 = (truncf .bf16 (aw m c) bitsLt_bf16_f32 : FVec Ideal S1024x1024 .bf16) from by
    unfold V; simp only [List.flatten, List.append, hostOps0]; after_results]
  pointwise []

theorem w_g (k : Fin 1024) : (iblk m c 7 t : FVec Ideal S1x1024 .f32) (ix2 0 k) = ag m c (ix1 k) := by
  refine Eq.trans (b := (V m c main_v9 : FVec Ideal S1x1024 .f32) (ix2 0 k)) (by blk_point [iblk, idx t]) ?_
  rw [show V m c main_v9 = (broadcastInDim S1x1024 ![1] bcast_S1024_S1x1024_1 (ag m c) : FVec Ideal S1x1024 .f32) from by
    unfold V; simp only [List.flatten, List.append, hostOps0]; after_results]
  pointwise []

/-- A block's gradient at the product. -/
theorem dmix_at (j : Fin 1024) : k0_pay13 (F := Ideal) (iblk m c 0 t) (iblk m c 1 t) (iblk m c 7 t) (ix2 r j)
    = dmix (adh m c) (ac m c) (aa m c) (asc m c) (ap m c) (aw m c) (ag m c) ⟨t.val * 512 + r, by omega⟩ j := by
  pointwise [k0_pay13, k0_pay11, k0_pay10, k0_pay5]
  simp only [w_mix m c t r ht, w_dh m c t r ht, w_g m c t]
  rfl

/-- A block's gradient at the four groups. -/
theorem dcat_at (j : Fin 1024) : k0_pay14 (F := Ideal) (k0_pay13 (iblk m c 0 t) (iblk m c 1 t) (iblk m c 7 t)) (iblk m c 6 t) (ix2 r j)
    = dcat (adh m c) (ac m c) (aa m c) (asc m c) (ap m c) (aw m c) (ag m c) ⟨t.val * 512 + r, by omega⟩ j := by
  pointwise [k0_pay14]
  simp only [dmix_at m c t r ht, w_w m c t]
  rfl
end

/-- What a block adds to the gain's gradient. -/
theorem dg_at (c : Dev nD) (t : Fin cfg0.N) (j : Fin 1024) (ht : t.val < 16) :
    k0_pay12 (F := Ideal) (iblk m c 0 t) (iblk m c 1 t) (ix2 0 j)
      = ∑ r : Fin 512, adh m c (ix2 ⟨t.val * 512 + r, by omega⟩ j) * (mix (ac m c) (aa m c) (asc m c) (ap m c) (aw m c) ⟨t.val * 512 + r, by omega⟩ j
        * Ideal.rsqrt (meanSq (mix (ac m c) (aa m c) (asc m c) (ap m c) (aw m c) ⟨t.val * 512 + r, by omega⟩))) := by
  pointwise [k0_pay12, k0_pay11, k0_pay10, k0_pay5]
  refine Finset.sum_congr rfl fun r _ => ?_
  simp only [w_mix m c t r ht, w_dh m c t r ht]
  rfl

/-- A block's part of the weights' gradient. -/
abbrev dwBlock (c : Dev nD) (t : Fin cfg0.N) : FVec Ideal S1024x1024 .f32 :=
  k0_pay15 (k0_pay6 (iblk m c 2 t)) (k0_pay7 (iblk m c 3 t)) (k0_pay8 (iblk m c 4 t)) (k0_pay9 (iblk m c 5 t)) (k0_pay13 (iblk m c 0 t) (iblk m c 1 t) (iblk m c 7 t))

/-- What a block adds to the weights' gradient. -/
theorem dw_at (c : Dev nD) (t : Fin cfg0.N) (n j : Fin 1024) (ht : t.val < 16) : dwBlock m c t (ix2 n j)
    = ∑ r : Fin 512, cat (ac m c) (aa m c) (asc m c) (ap m c) ⟨t.val * 512 + r, by omega⟩ n * dmix (adh m c) (ac m c) (aa m c) (asc m c) (ap m c) (aw m c) (ag m c) ⟨t.val * 512 + r, by omega⟩ j := by
  revert n
  refine cat_cases (fun s => ?_) (fun q s => ?_) (fun s => ?_) fun s => ?_
  · refine (dw0 _ _ _ _ _ s j).trans (Finset.sum_congr rfl fun r _ => ?_)
    rw [cat0, dmix_at m c t r ht]
    pointwise [k0_pay6]
    rw [w_c m c t r ht]
  · refine (dw1 _ _ _ _ _ q s j).trans (Finset.sum_congr rfl fun r _ => ?_)
    rw [cat1, dmix_at m c t r ht]
    pointwise [k0_pay7]
    simp only [w_a m c t r ht]
    congr 1
    by_cases h : s.val < 64
    · rw [dif_pos h]
      refine (hostAtt_at _ _ ⟨t.val * 512 + r, by omega⟩ ⟨2 * q, by omega⟩ s h).trans ?_
      exact congrArg (fun k => aa m c (ix2 _ k)) (Fin.ext (by dsimp only; omega))
    · rw [dif_neg h]
      refine (hostAtt_at _ _ ⟨t.val * 512 + r, by omega⟩ ⟨2 * q + 1, by omega⟩ ⟨s - 64, by omega⟩ (by dsimp only; omega)).trans ?_
      exact congrArg (fun k => aa m c (ix2 _ k)) (Fin.ext (by dsimp only; omega))
  · refine (dw2 _ _ _ _ _ s j).trans (Finset.sum_congr rfl fun r _ => ?_)
    rw [cat2, dmix_at m c t r ht]
    pointwise [k0_pay8]
    rw [w_s m c t r ht]
  · refine (dw3 _ _ _ _ _ s j).trans (Finset.sum_congr rfl fun r _ => ?_)
    rw [cat3, dmix_at m c t r ht]
    pointwise [k0_pay9]
    rw [w_p m c t r ht]

/-- The gain's gradient: the kernel leaves what the reference computes. -/
theorem same_dg (c : Dev nD) : val_main_v48 (F := Ideal) (adh m c) (ac m c) (aa m c) (asc m c) (ap m c) (aw m c) = (dats m 0 c).arrAt 13 (cfgs 0).N := by
  symm
  refine (dats m 0 c).arrAt_eq_of_after_last 13 t0_15 (by decide +kernel) _ fun j => ?_
  blk_simp
  rw [after0_13, Pipeline.eq_sum_fin_of_reset_step_apply_last (fun n h => (outsAt0 m c n h).2.2.2.2.2) 16 (fun _ => 0)
    (fun p j => k0_pay12 (F := Ideal) (iblk m c 0 p) (iblk m c 1 p) j)
    (fun t h j => by
      rw [outsAt0_A m c t h]
      frame_out
      idx_vars j
      pointwise [k0_pay4, k0_pay2])
    (fun t h j => by
      rw [outsAt0_B m c t h]
      frame_out
      idx_vars j
      pointwise [k0_pay4])
    (le_of_eq N_0) t0_15 rfl j, zero_add]
  idx_vars j
  obtain rfl : j0 = 0 := Subsingleton.elim _ _
  refine (Finset.sum_congr rfl fun p _ => dg_at m c p j1 (lt_of_lt_of_eq p.isLt N_0)).trans ?_
  refine Eq.trans ?_ (ref_dg _ _ _ _ _ _ j1).symm
  exact (Fin.sum_univ_tiles 16 512 rfl fun n : Fin 8192 => adh m c (ix2 n j1) * (mix (ac m c) (aa m c) (asc m c) (ap m c) (aw m c) n j1
    * Ideal.rsqrt (meanSq (mix (ac m c) (aa m c) (asc m c) (ap m c) (aw m c) n)))).symm

instance factsPre : Cert.Pre_finite_mixout.Facts := by constructor <;> decide

theorem lanes (j : Fin 512) : ∃ (h : Fin 4) (l : Fin 128), j = ⟨h * 128 + l, by omega⟩ :=
  ⟨⟨j / 128, by omega⟩, ⟨j % 128, by omega⟩, Fin.ext (by dsimp only; omega)⟩

section
variable (hpre : Cert.Pre_MixOutIdeal_finite_mixout m) (c : Dev nD)

include hpre

theorem mix_finite (i : Fin 8192) (k : Fin 1024) : Finite (mix (ac m c) (aa m c) (asc m c) (ap m c) (aw m c) i k) := by
  have h1 := real_of_mask _ factsPre.bcast_S_S8192x256 (hpre c).2.1
  have h2 := real_of_mask _ factsPre.bcast_S_S8192x256 (hpre c).2.2.1
  have h3 := real_of_mask _ factsPre.bcast_S_S8192x256 (hpre c).2.2.2.1
  have h4 := real_of_mask _ factsPre.bcast_S_S8192x256 (hpre c).2.2.2.2.1
  have h5 := real_of_mask _ factsPre.bcast_S_S1024x1024 (hpre c).2.2.2.2.2.1
  refine Finite.sum _ fun n => Finite.mul ?_ (h5 _)
  revert n
  refine cat_cases (fun s => ?_) (fun q s => ?_) (fun s => ?_) fun s => ?_
  · exact (cat0 (ac m c) (aa m c) (asc m c) (ap m c) i s).symm ▸ h1 _
  · exact (cat1 (ac m c) (aa m c) (asc m c) (ap m c) i q s).symm ▸ h2 _
  · exact (cat2 (ac m c) (aa m c) (asc m c) (ap m c) i s).symm ▸ h3 _
  · exact (cat3 (ac m c) (aa m c) (asc m c) (ap m c) i s).symm ▸ h4 _

theorem same_dmix (i : Fin 8192) (j : Fin 1024) : val_main_v37 (F := Ideal) (adh m c) (ac m c) (aa m c) (asc m c) (ap m c) (aw m c) (ag m c) (ix2 i j)
    = dmix (adh m c) (ac m c) (aa m c) (asc m c) (ap m c) (aw m c) (ag m c) i j :=
  ref_dmix (real_of_mask _ factsPre.bcast_S_S8192x1024 (hpre c).1) (mix_finite m hpre c) (real_of_mask _ factsPre.bcast_S_S1024 (hpre c).2.2.2.2.2.2) i j

theorem same_dcat (i : Fin 8192) (j : Fin 1024) : dcat (adh m c) (ac m c) (aa m c) (asc m c) (ap m c) (aw m c) (ag m c) i j
    = val_main_v40 (F := Ideal) (adh m c) (ac m c) (aa m c) (asc m c) (ap m c) (aw m c) (ag m c) (ix2 i j) := by
  refine Eq.trans ?_ (ref_dcat _ _ _ _ _ _ _ i j).symm
  simp only [same_dmix m hpre c]
  rfl

theorem conf_at (t : Fin cfg0.N) (ht : t.val < 16) (r : Fin 512) (j : Fin 256) :
    k0_pay16 (F := Ideal) (k0_pay13 (iblk m c 0 t) (iblk m c 1 t) (iblk m c 7 t)) (iblk m c 6 t) (ix2 r j)
      = val_main_v41 (F := Ideal) (adh m c) (ac m c) (aa m c) (asc m c) (ap m c) (aw m c) (ag m c) (ix2 ⟨t.val * 512 + r, by omega⟩ j) := by
  rw [ref_dconf, ← same_dcat m hpre c]
  pointwise [k0_pay16]
  exact dcat_at m c t r ht _

theorem sc_at (t : Fin cfg0.N) (ht : t.val < 16) (r : Fin 512) (j : Fin 256) :
    k0_pay18 (F := Ideal) (k0_pay13 (iblk m c 0 t) (iblk m c 1 t) (iblk m c 7 t)) (iblk m c 6 t) (ix2 r j)
      = val_main_v43 (F := Ideal) (adh m c) (ac m c) (aa m c) (asc m c) (ap m c) (aw m c) (ag m c) (ix2 ⟨t.val * 512 + r, by omega⟩ j) := by
  rw [ref_dsc, ← same_dcat m hpre c]
  pointwise [k0_pay18]
  exact dcat_at m c t r ht _

theorem pool_at (t : Fin cfg0.N) (ht : t.val < 16) (r : Fin 512) (j : Fin 256) :
    k0_pay19 (F := Ideal) (k0_pay13 (iblk m c 0 t) (iblk m c 1 t) (iblk m c 7 t)) (iblk m c 6 t) (ix2 r j)
      = val_main_v44 (F := Ideal) (adh m c) (ac m c) (aa m c) (asc m c) (ap m c) (aw m c) (ag m c) (ix2 ⟨t.val * 512 + r, by omega⟩ j) := by
  rw [ref_dpool, ← same_dcat m hpre c]
  pointwise [k0_pay19]
  exact dcat_at m c t r ht _

theorem att_at (t : Fin cfg0.N) (ht : t.val < 16) (r j : Fin 512) :
    k0_pay17 (F := Ideal) (k0_pay13 (iblk m c 0 t) (iblk m c 1 t) (iblk m c 7 t)) (iblk m c 6 t) (ix2 r j)
      = val_main_v47 (F := Ideal) (adh m c) (ac m c) (aa m c) (asc m c) (ap m c) (aw m c) (ag m c) (ix2 ⟨t.val * 512 + r, by omega⟩ j) := by
  obtain ⟨h, l, rfl⟩ := lanes j
  rw [ref_dheads, heads_at]
  simp only [dcat_at m c t r ht, same_dcat m hpre c]

/-- The gradient of the convolution's group: the kernel leaves what the reference computes. -/
theorem same_dconf : val_main_v41 (F := Ideal) (adh m c) (ac m c) (aa m c) (asc m c) (ap m c) (aw m c) (ag m c) = (dats m 0 c).arrAt 8 (cfgs 0).N := by
  symm
  refine (dats m 0 c).arrAt_eq_of_covers 8 _ (by decide +kernel) fun t hf y => ?_
  have ht : t.val < 16 := lt_of_lt_of_eq t.isLt N_0
  blk_simp
  rw [after0_8]
  idx_vars y
  have e : (((cfg0.win 8).blk t).view.emb (ix2 y0 y1) : S8192x256.Idx) = ix2 ⟨t.val * 512 + y0, by omega⟩ y1 := by blk_ext [idx t]
  refine Eq.trans ?_ (congrArg (val_main_v41 (F := Ideal) (adh m c) (ac m c) (aa m c) (asc m c) (ap m c) (aw m c) (ag m c)) e).symm
  refine Eq.trans ?_ (conf_at m hpre c t ht y0 y1)
  by_cases h : t.val % 16 = 0
  · rw [outsAt0_A m c t h]
    frame_out
  · rw [outsAt0_B m c t h]
    frame_out

/-- The gradient of the attention's heads: the kernel leaves what the reference computes. -/
theorem same_dheads : val_main_v47 (F := Ideal) (adh m c) (ac m c) (aa m c) (asc m c) (ap m c) (aw m c) (ag m c) = (dats m 0 c).arrAt 9 (cfgs 0).N := by
  symm
  refine (dats m 0 c).arrAt_eq_of_covers 9 _ (by decide +kernel) fun t hf y => ?_
  have ht : t.val < 16 := lt_of_lt_of_eq t.isLt N_0
  blk_simp
  rw [after0_9]
  idx_vars y
  have e : (((cfg0.win 9).blk t).view.emb (ix2 y0 y1) : S8192x512.Idx) = ix2 ⟨t.val * 512 + y0, by omega⟩ y1 := by blk_ext [idx t]
  refine Eq.trans ?_ (congrArg (val_main_v47 (F := Ideal) (adh m c) (ac m c) (aa m c) (asc m c) (ap m c) (aw m c) (ag m c)) e).symm
  refine Eq.trans ?_ (att_at m hpre c t ht y0 y1)
  by_cases h : t.val % 16 = 0
  · rw [outsAt0_A m c t h]
    frame_out
  · rw [outsAt0_B m c t h]
    frame_out

/-- The gradient of the short convolution's group: the kernel leaves what the reference computes. -/
theorem same_dsc : val_main_v43 (F := Ideal) (adh m c) (ac m c) (aa m c) (asc m c) (ap m c) (aw m c) (ag m c) = (dats m 0 c).arrAt 10 (cfgs 0).N := by
  symm
  refine (dats m 0 c).arrAt_eq_of_covers 10 _ (by decide +kernel) fun t hf y => ?_
  have ht : t.val < 16 := lt_of_lt_of_eq t.isLt N_0
  blk_simp
  rw [after0_10]
  idx_vars y
  have e : (((cfg0.win 10).blk t).view.emb (ix2 y0 y1) : S8192x256.Idx) = ix2 ⟨t.val * 512 + y0, by omega⟩ y1 := by blk_ext [idx t]
  refine Eq.trans ?_ (congrArg (val_main_v43 (F := Ideal) (adh m c) (ac m c) (aa m c) (asc m c) (ap m c) (aw m c) (ag m c)) e).symm
  refine Eq.trans ?_ (sc_at m hpre c t ht y0 y1)
  by_cases h : t.val % 16 = 0
  · rw [outsAt0_A m c t h]
    frame_out
  · rw [outsAt0_B m c t h]
    frame_out

/-- The gradient of the pooling's group: the kernel leaves what the reference computes. -/
theorem same_dpool : val_main_v44 (F := Ideal) (adh m c) (ac m c) (aa m c) (asc m c) (ap m c) (aw m c) (ag m c) = (dats m 0 c).arrAt 11 (cfgs 0).N := by
  symm
  refine (dats m 0 c).arrAt_eq_of_covers 11 _ (by decide +kernel) fun t hf y => ?_
  have ht : t.val < 16 := lt_of_lt_of_eq t.isLt N_0
  blk_simp
  rw [after0_11]
  idx_vars y
  have e : (((cfg0.win 11).blk t).view.emb (ix2 y0 y1) : S8192x256.Idx) = ix2 ⟨t.val * 512 + y0, by omega⟩ y1 := by blk_ext [idx t]
  refine Eq.trans ?_ (congrArg (val_main_v44 (F := Ideal) (adh m c) (ac m c) (aa m c) (asc m c) (ap m c) (aw m c) (ag m c)) e).symm
  refine Eq.trans ?_ (pool_at m hpre c t ht y0 y1)
  by_cases h : t.val % 16 = 0
  · rw [outsAt0_A m c t h]
    frame_out
  · rw [outsAt0_B m c t h]
    frame_out

/-- The gradient of the output weights: the kernel leaves what the reference computes. -/
theorem same_dw : val_main_v39 (F := Ideal) (adh m c) (ac m c) (aa m c) (asc m c) (ap m c) (aw m c) (ag m c) = (dats m 0 c).arrAt 12 (cfgs 0).N := by
  symm
  refine (dats m 0 c).arrAt_eq_of_after_last 12 t0_15 (by decide +kernel) _ fun j => ?_
  blk_simp
  rw [after0_12, Pipeline.eq_sum_fin_of_reset_step_apply_last (fun n h => (outsAt0 m c n h).2.2.2.2.1) 16 (fun _ => 0)
    (fun p j => dwBlock m c p j)
    (fun t h j => by
      rw [outsAt0_A m c t h]
      frame_out
      idx_vars j
      pointwise [k0_pay3, k0_pay1])
    (fun t h j => by
      rw [outsAt0_B m c t h]
      frame_out
      idx_vars j
      pointwise [k0_pay3])
    (le_of_eq N_0) t0_15 rfl j, zero_add]
  idx_vars j
  refine (Finset.sum_congr rfl fun p _ => dw_at m c p j0 j1 (lt_of_lt_of_eq p.isLt N_0)).trans ?_
  refine Eq.trans ?_ (ref_dw _ _ _ _ _ _ _ j0 j1).symm
  simp only [same_dmix m hpre c]
  exact (Fin.sum_univ_tiles 16 512 rfl fun n : Fin 8192 => cat (ac m c) (aa m c) (asc m c) (ap m c) n j0 * dmix (adh m c) (ac m c) (aa m c) (asc m c) (ap m c) (aw m c) (ag m c) n j1).symm
end

/-- What a run of the kernel leaves in its results. -/
theorem ran (g : Dev nD → PrngReg) :
    θ_run (defs (F := Ideal)) (onTc (τ := τ) (main (F := Ideal))) ⟨m, fun _ => 0, g⟩ (fun r => ∀ c : Dev nD,
      r.2.mem ((c.tc : Thread nD τ).loc main_v10_0) = (dats m 0 c).arrAt 8 (cfgs 0).N
      ∧ r.2.mem ((c.tc : Thread nD τ).loc main_v10_1) = (dats m 0 c).arrAt 9 (cfgs 0).N
      ∧ r.2.mem ((c.tc : Thread nD τ).loc main_v10_2) = (dats m 0 c).arrAt 10 (cfgs 0).N
      ∧ r.2.mem ((c.tc : Thread nD τ).loc main_v10_3) = (dats m 0 c).arrAt 11 (cfgs 0).N
      ∧ r.2.mem ((c.tc : Thread nD τ).loc main_v10_4) = (dats m 0 c).arrAt 12 (cfgs 0).N
      ∧ r.2.mem ((c.tc : Thread nD τ).loc main_v10_5) = (dats m 0 c).arrAt 13 (cfgs 0).N) :=
  θ_run_mono (run_main m g) fun r h c => ⟨(h c).1 8, (h c).1 9, (h c).1 10, (h c).1 11, (h c).1 12, (h c).1 13⟩

/-- Over the reals, kernel and reference compute the same function. -/
theorem claim : Cert.algebraic_MixOutIdeal_MixOutRefIdeal_pre_finite_mixout := by
  intro m g m' g' hpre hagree
  refine ⟨fun c => (dats m 0 c).arrAt 8 (cfgs 0).N, fun c => (dats m 0 c).arrAt 9 (cfgs 0).N, fun c => (dats m 0 c).arrAt 10 (cfgs 0).N, fun c => (dats m 0 c).arrAt 11 (cfgs 0).N, fun c => (dats m 0 c).arrAt 12 (cfgs 0).N, fun c => (dats m 0 c).arrAt 13 (cfgs 0).N, ?_, ?_⟩
  · exact θ_run_mono (θ_run_and (ran m g) (Gen.frame m g)) fun r h c => ⟨(h.1 c).1, (h.1 c).2.1, (h.1 c).2.2.1, (h.1 c).2.2.2.1, (h.1 c).2.2.2.2.1, (h.1 c).2.2.2.2.2, h.2.1 c⟩
  · refine θ_run_mono (Cert.MixOutRefIdeal.Value.run (F := Ideal) m' g') fun r h c => ?_
    obtain ⟨h1, h2, h3, h4, h5, h6, hargs⟩ := h c
    obtain ⟨a0, a1, a2, a3, a4, a5, a6, a7⟩ := hagree c
    refine ⟨(h1.trans (val_main_v41_eq m' c)).trans (Eq.trans ?_ (same_dconf m hpre c)),
      (h2.trans (val_main_v47_eq m' c)).trans (Eq.trans ?_ (same_dheads m hpre c)),
      (h3.trans (val_main_v43_eq m' c)).trans (Eq.trans ?_ (same_dsc m hpre c)),
      (h4.trans (val_main_v44_eq m' c)).trans (Eq.trans ?_ (same_dpool m hpre c)),
      (h5.trans (val_main_v39_eq m' c)).trans (Eq.trans ?_ (same_dw m hpre c)),
      (h6.trans (val_main_v48_eq _ _ _ _ _ _)).trans (Eq.trans ?_ (same_dg m c)), hargs⟩
    · exact congr (congr (congr (congr (congr (congr (congrArg _ a0) a1) a2) a3) a4) a6) a7
    · exact congr (congr (congr (congr (congr (congr (congrArg _ a0) a1) a2) a3) a4) a6) a7
    · exact congr (congr (congr (congr (congr (congr (congrArg _ a0) a1) a2) a3) a4) a6) a7
    · exact congr (congr (congr (congr (congr (congr (congrArg _ a0) a1) a2) a3) a4) a6) a7
    · exact congr (congr (congr (congr (congr (congr (congrArg _ a0) a1) a2) a3) a4) a6) a7
    · exact congr (congr (congr (congr (congr (congrArg _ a0) a1) a2) a3) a4) a6

end Cert.MixOutIdeal.Value

end

end
-- ==== Proof.MixIn.lean ====
/- The mixer's entry gradient: the branches' gradients gathered, the norm's gradient at its input, its gain and its output. -/
module

public import proofs.«01_k».proof.Proof.Gen.MixInIdeal.Frame
public import proofs.«01_k».proof.Defs
public import proofs.«01_k».proof.Proof.Gen.MixInRefIdeal.Run
public import proofs.«01_k».proof.Proof.Gen.MixInRefIdeal.Read
public import proofs.«01_k».proof.Proof.Norm
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Common

namespace Cert.MixInIdeal.Value

open Cert.MixInIdeal Cert.MixInIdeal.Gen
open Cert.MixInRefIdeal.Read

section
variable (dh x : FVec Ideal S8192x1024 .f32) (zc za zk zv : FVec Ideal S8192x512 .f32) (zs : FVec Ideal S8192x768 .f32) (zp : FVec Ideal S8192x256 .f32) (zf : FVec Ideal S8192x128 .f32)
  (g : FVec Ideal S1024 .f32) (w : FVec Ideal S1024x2308 .f32)

abbrev row (i : Fin 8192) : Fin 1024 → EReal := fun k => x (ix2 i k)

/-- The branches' gradients side by side, as the projection reads them. -/
abbrev cat (i : Fin 8192) (n : Fin 2308) : EReal := val_main_v10 (F := Ideal) zc za zk zv zs zp zf (ix2 i n)

/-- The branches' gradients side by side, as they are kept. -/
abbrev full (i : Fin 8192) (n : Fin 2432) : EReal := val_main_v64 (F := Ideal) zc za zk zv zs zp zf (ix2 i n)

/-- The gradient at the norm's output. -/
def dn (i : Fin 8192) (k : Fin 1024) : EReal := ∑ n, cat zc za zk zv zs zp zf i n * w (ix2 k n)

/-- The reference's gradient at the normed rows: the cotangent times the weights, transposed. -/
theorem ref_dn (i : Fin 8192) (j : Fin 1024) : val_main_v28 (F := Ideal) zc za zk zv zs zp zf w (ix2 i j) = dn zc za zk zv zs zp zf w i j := by
  pointwise [val_main_v28]
  rfl

/-- The reference's gradient of the residual. -/
theorem ref_dx (hx : ∀ i, Finite (x i)) (hd : ∀ i k, Finite (dn zc za zk zv zs zp zf w i k)) (hg : ∀ i, Finite (g i)) (i : Fin 8192) (j : Fin 1024) :
    val_main_v49 (F := Ideal) dh x zc za zk zv zs zp zf g w (ix2 i j) = dh (ix2 i j) + normGrad (row x i) (fun k => dn zc za zk zv zs zp zf w i k * g (ix1 k)) j := by
  pointwise [val_main_v49, val_main_v48, val_main_v45, val_main_v44, val_main_cst_7, val_main_v43, val_main_v42, val_main_cst_6, val_main_v41, val_main_v21, val_main_v19, val_main_v17, val_main_v16, val_main_cst_1, val_main_v15, val_main_v14, val_main_cst_0, val_main_v13, val_main_v12, val_main_cst, val_main_v11, val_main_v18, val_main_v20, val_main_cst_2, val_main_v37, val_main_v36, val_main_cst_5, val_main_v35, val_main_v33, val_main_v32, val_main_v24, val_main_v47, val_main_v46, val_main_v40, val_main_v39, val_main_v38]
  simp only [Fintype.sum_unique, ref_dn]
  rw [← normGrad_eq (x := row x i) (fun k => hx _) (d := fun k => dn zc za zk zv zs zp zf w i k * g (ix1 k)) (fun k => (hd _ _).mul (hg _)) j _ rfl, ← add_assoc, ← add_assoc]
  rfl

/-- The reference's normed rows. -/
theorem ref_xn (i : Fin 8192) (j : Fin 1024) : val_main_v63 (F := Ideal) x g (ix2 i j) = x (ix2 i j) * Ideal.rsqrt (meanSq (row x i)) * g (ix1 j) := by
  pointwise [val_main_v63, val_main_v62, val_main_v61, val_main_v60, val_main_v59, val_main_v58, val_main_v57, val_main_v56, val_main_v55, val_main_cst_10, val_main_v54, val_main_v53, val_main_cst_9, val_main_v52, val_main_v51, val_main_cst_8, val_main_v50]
  rfl

/-- The reference's packed cotangent. -/
theorem ref_dz (i : Fin 8192) (n : Fin 2432) : val_main_v65 (F := Ideal) zc za zk zv zs zp zf (ix2 i n) = full zc za zk zv zs zp zf i n := by
  pointwise [val_main_v65]

/-- The reference's gradient of the gain. -/
theorem ref_dg (j : Fin 1024) : val_main_v66 (F := Ideal) x zc za zk zv zs zp zf w (ix2 0 j) = ∑ i, dn zc za zk zv zs zp zf w i j * (x (ix2 i j) * Ideal.rsqrt (meanSq (row x i))) := by
  pointwise [val_main_v66, val_main_v34, val_main_cst_4, val_main_v31, val_main_v30, val_main_cst_3, val_main_v29, val_main_v23, val_main_v22, val_main_v18, val_main_v17, val_main_v16, val_main_cst_1, val_main_v15, val_main_v14, val_main_cst_0, val_main_v13, val_main_v12, val_main_cst, val_main_v11]
  simp only [Fintype.sum_unique, ref_dn]
  exact Finset.sum_congr rfl fun i _ => mul_comm _ _
end

/-- Two heads' lower halves of lanes, side by side. -/
def pair (x : Fin 512 → EReal) (q : Fin 2) (s : Fin 128) : EReal :=
  if s.val < 64 then x ⟨2 * q * 128 + s, by omega⟩ else x ⟨(2 * q + 1) * 128 + (s - 64), by omega⟩

theorem pack_at (x : FVec Ideal S8192x512 .f32) (i : Fin 8192) (h : Fin 4) (l : Fin 64) : val_main_v2 (F := Ideal) x (ix2 i ⟨h * 64 + l, by omega⟩) = x (ix2 i ⟨h * 128 + l, by omega⟩) := by
  pointwise [val_main_v2, val_main_v1, val_main_v0]

theorem pack_pair (x : FVec Ideal S8192x512 .f32) (i : Fin 8192) (q : Fin 2) (s : Fin 128) :
    val_main_v2 (F := Ideal) x (ix2 i ⟨q * 128 + s, by omega⟩) = pair (fun k => x (ix2 i k)) q s := by
  unfold pair
  split_ifs with h
  · refine Eq.trans (congrArg (fun k => val_main_v2 (F := Ideal) x (ix2 i k)) (Fin.ext ?_)) (pack_at x i ⟨2 * q, by omega⟩ ⟨s, h⟩)
    dsimp only; omega
  · refine Eq.trans (congrArg (fun k => val_main_v2 (F := Ideal) x (ix2 i k)) (Fin.ext ?_)) (pack_at x i ⟨2 * q + 1, by omega⟩ ⟨s - 64, by omega⟩)
    dsimp only; omega

/-- A select by lane number, between a head's lower lanes and the next head's, is the pair. -/
theorem lane_pair (x : Fin 512 → EReal) (q : Fin 2) (s : Fin 128) (n : ℕ) (hn : n = s.val) (a b : EReal)
    (ha : s.val < 64 → a = x ⟨2 * q * 128 + s, by omega⟩) (hb : 64 ≤ s.val → b = x ⟨(2 * q + 1) * 128 + (s - 64), by omega⟩) :
    Scalar.select (IntOp.cmpi .slt (BitVec.ofNat 32 n) 64#32) a b = pair x q s := by
  subst hn
  refine (low_lane s a b).trans ?_
  unfold pair
  split_ifs with h
  · exact ha h
  · exact hb (by omega)

/-- Every column of the kept row lies in one of the parts. -/
theorem full_cases {P : Fin 2432 → Prop} (hc : ∀ s : Fin 512, P ⟨s, by omega⟩) (hq : ∀ (q : Fin 2) (s : Fin 128), P ⟨512 + (q * 128 + s), by omega⟩)
    (hk : ∀ (q : Fin 2) (s : Fin 128), P ⟨768 + (q * 128 + s), by omega⟩) (hv : ∀ (q : Fin 2) (s : Fin 128), P ⟨1024 + (q * 128 + s), by omega⟩)
    (hs : ∀ s : Fin 768, P ⟨1280 + s, by omega⟩) (hp : ∀ s : Fin 256, P ⟨2048 + s, by omega⟩) (hf : ∀ s : Fin 128, P ⟨2304 + s, by omega⟩) (n : Fin 2432) : P n := by
  obtain ⟨n, h⟩ := n
  by_cases h1 : n < 512
  · exact hc ⟨n, h1⟩
  by_cases h2 : n < 768
  · have e : (⟨n, h⟩ : Fin 2432) = ⟨512 + ((n - 512) / 128 * 128 + (n - 512) % 128), by omega⟩ := Fin.ext (by dsimp only; omega)
    rw [e]
    exact hq ⟨(n - 512) / 128, by omega⟩ ⟨(n - 512) % 128, by omega⟩
  by_cases h3 : n < 1024
  · have e : (⟨n, h⟩ : Fin 2432) = ⟨768 + ((n - 768) / 128 * 128 + (n - 768) % 128), by omega⟩ := Fin.ext (by dsimp only; omega)
    rw [e]
    exact hk ⟨(n - 768) / 128, by omega⟩ ⟨(n - 768) % 128, by omega⟩
  by_cases h4 : n < 1280
  · have e : (⟨n, h⟩ : Fin 2432) = ⟨1024 + ((n - 1024) / 128 * 128 + (n - 1024) % 128), by omega⟩ := Fin.ext (by dsimp only; omega)
    rw [e]
    exact hv ⟨(n - 1024) / 128, by omega⟩ ⟨(n - 1024) % 128, by omega⟩
  by_cases h5 : n < 2048
  · obtain ⟨d, rfl⟩ := Nat.exists_eq_add_of_le (not_lt.1 h4)
    exact hs ⟨d, by omega⟩
  by_cases h6 : n < 2304
  · obtain ⟨d, rfl⟩ := Nat.exists_eq_add_of_le (not_lt.1 h5)
    exact hp ⟨d, by omega⟩
  · obtain ⟨d, rfl⟩ := Nat.exists_eq_add_of_le (not_lt.1 h6)
    exact hf ⟨d, by omega⟩

section
variable (zc za zk zv : FVec Ideal S8192x512 .f32) (zs : FVec Ideal S8192x768 .f32) (zp : FVec Ideal S8192x256 .f32) (zf : FVec Ideal S8192x128 .f32) (i : Fin 8192)

theorem full_c (s : Fin 512) : full zc za zk zv zs zp zf i ⟨s, by omega⟩ = zc (ix2 i s) := by
  unfold full
  pointwise [val_main_v64]

theorem full_q (s : Fin 256) : full zc za zk zv zs zp zf i ⟨512 + s, by omega⟩ = val_main_v2 (F := Ideal) za (ix2 i s) := by
  unfold full
  pointwise [val_main_v64]

theorem full_k (s : Fin 256) : full zc za zk zv zs zp zf i ⟨768 + s, by omega⟩ = val_main_v5 (F := Ideal) zk (ix2 i s) := by
  unfold full
  pointwise [val_main_v64]
  split_ifs <;> first | omega | exact congrArg (fun k => val_main_v5 (F := Ideal) zk (ix2 i k)) (Fin.ext (by dsimp only; omega))

theorem full_v (s : Fin 256) : full zc za zk zv zs zp zf i ⟨1024 + s, by omega⟩ = val_main_v8 (F := Ideal) zv (ix2 i s) := by
  unfold full
  pointwise [val_main_v64]
  split_ifs <;> first | omega | exact congrArg (fun k => val_main_v8 (F := Ideal) zv (ix2 i k)) (Fin.ext (by dsimp only; omega))

theorem full_s (s : Fin 768) : full zc za zk zv zs zp zf i ⟨1280 + s, by omega⟩ = zs (ix2 i s) := by
  unfold full
  pointwise [val_main_v64]
  split_ifs <;> first | omega | exact congrArg (fun k => zs (ix2 i k)) (Fin.ext (by dsimp only; omega))

theorem full_p (s : Fin 256) : full zc za zk zv zs zp zf i ⟨2048 + s, by omega⟩ = zp (ix2 i s) := by
  unfold full
  pointwise [val_main_v64]
  split_ifs <;> first | omega | exact congrArg (fun k => zp (ix2 i k)) (Fin.ext (by dsimp only; omega))

theorem full_f (s : Fin 128) : full zc za zk zv zs zp zf i ⟨2304 + s, by omega⟩ = zf (ix2 i s) := by
  unfold full
  pointwise [val_main_v64]
  split_ifs <;> first | omega | exact congrArg (fun k => zf (ix2 i k)) (Fin.ext (by dsimp only; omega))

/-- The column of the kept row that holds a column of the projection's: the forget gates' four stand last in it. -/
def place (n : Fin 2308) : Fin 2432 := ⟨if n.val < 1280 then n else if n.val < 1284 then n + 1024 else n - 4, by split_ifs <;> omega⟩

theorem cat_c (s : Fin 512) : cat zc za zk zv zs zp zf i ⟨s, by omega⟩ = zc (ix2 i s) := by
  unfold cat
  pointwise [val_main_v10]

theorem cat_q (s : Fin 256) : cat zc za zk zv zs zp zf i ⟨512 + s, by omega⟩ = val_main_v2 (F := Ideal) za (ix2 i s) := by
  unfold cat
  pointwise [val_main_v10]

theorem cat_k (s : Fin 256) : cat zc za zk zv zs zp zf i ⟨768 + s, by omega⟩ = val_main_v5 (F := Ideal) zk (ix2 i s) := by
  unfold cat
  pointwise [val_main_v10]
  split_ifs <;> first | omega | exact congrArg (fun k => val_main_v5 (F := Ideal) zk (ix2 i k)) (Fin.ext (by dsimp only; omega))

theorem cat_v (s : Fin 256) : cat zc za zk zv zs zp zf i ⟨1024 + s, by omega⟩ = val_main_v8 (F := Ideal) zv (ix2 i s) := by
  unfold cat
  pointwise [val_main_v10]
  split_ifs <;> first | omega | exact congrArg (fun k => val_main_v8 (F := Ideal) zv (ix2 i k)) (Fin.ext (by dsimp only; omega))

theorem cat_f (s : Fin 4) : cat zc za zk zv zs zp zf i ⟨1280 + s, by omega⟩ = zf (ix2 i ⟨s, by omega⟩) := by
  unfold cat
  pointwise [val_main_v10, val_main_v9]
  split_ifs <;> first | omega | exact congrArg (fun k => zf (ix2 i k)) (Fin.ext (by dsimp only; omega))

theorem cat_s (s : Fin 768) : cat zc za zk zv zs zp zf i ⟨1284 + s, by omega⟩ = zs (ix2 i s) := by
  unfold cat
  pointwise [val_main_v10]
  split_ifs <;> first | omega | exact congrArg (fun k => zs (ix2 i k)) (Fin.ext (by dsimp only; omega))

theorem cat_p (s : Fin 256) : cat zc za zk zv zs zp zf i ⟨2052 + s, by omega⟩ = zp (ix2 i s) := by
  unfold cat
  pointwise [val_main_v10]
  split_ifs <;> first | omega | exact congrArg (fun k => zp (ix2 i k)) (Fin.ext (by dsimp only; omega))

theorem cat_full (n : Fin 2308) : cat zc za zk zv zs zp zf i n = full zc za zk zv zs zp zf i (place n) := by
  obtain ⟨n, hn⟩ := n
  by_cases h1 : n < 512
  · refine (cat_c zc za zk zv zs zp zf i ⟨n, h1⟩).trans ((full_c zc za zk zv zs zp zf i ⟨n, h1⟩).symm.trans (congrArg (full zc za zk zv zs zp zf i) (Fin.ext ?_)))
    dsimp only [place]; split_ifs <;> omega
  by_cases h2 : n < 768
  · obtain ⟨d, rfl⟩ := Nat.exists_eq_add_of_le (not_lt.1 h1)
    refine (cat_q zc za zk zv zs zp zf i ⟨d, by omega⟩).trans ((full_q zc za zk zv zs zp zf i ⟨d, by omega⟩).symm.trans (congrArg (full zc za zk zv zs zp zf i) (Fin.ext ?_)))
    dsimp only [place]; split_ifs <;> omega
  by_cases h3 : n < 1024
  · obtain ⟨d, rfl⟩ := Nat.exists_eq_add_of_le (not_lt.1 h2)
    refine (cat_k zc za zk zv zs zp zf i ⟨d, by omega⟩).trans ((full_k zc za zk zv zs zp zf i ⟨d, by omega⟩).symm.trans (congrArg (full zc za zk zv zs zp zf i) (Fin.ext ?_)))
    dsimp only [place]; split_ifs <;> omega
  by_cases h4 : n < 1280
  · obtain ⟨d, rfl⟩ := Nat.exists_eq_add_of_le (not_lt.1 h3)
    refine (cat_v zc za zk zv zs zp zf i ⟨d, by omega⟩).trans ((full_v zc za zk zv zs zp zf i ⟨d, by omega⟩).symm.trans (congrArg (full zc za zk zv zs zp zf i) (Fin.ext ?_)))
    dsimp only [place]; split_ifs <;> omega
  by_cases h5 : n < 1284
  · obtain ⟨d, rfl⟩ := Nat.exists_eq_add_of_le (not_lt.1 h4)
    refine (cat_f zc za zk zv zs zp zf i ⟨d, by omega⟩).trans ((full_f zc za zk zv zs zp zf i ⟨d, by omega⟩).symm.trans (congrArg (full zc za zk zv zs zp zf i) (Fin.ext ?_)))
    dsimp only [place]; split_ifs <;> omega
  by_cases h6 : n < 2052
  · obtain ⟨d, rfl⟩ := Nat.exists_eq_add_of_le (not_lt.1 h5)
    refine (cat_s zc za zk zv zs zp zf i ⟨d, by omega⟩).trans ((full_s zc za zk zv zs zp zf i ⟨d, by omega⟩).symm.trans (congrArg (full zc za zk zv zs zp zf i) (Fin.ext ?_)))
    dsimp only [place]; split_ifs <;> omega
  · obtain ⟨d, rfl⟩ := Nat.exists_eq_add_of_le (not_lt.1 h6)
    refine (cat_p zc za zk zv zs zp zf i ⟨d, by omega⟩).trans ((full_p zc za zk zv zs zp zf i ⟨d, by omega⟩).symm.trans (congrArg (full zc za zk zv zs zp zf i) (Fin.ext ?_)))
    dsimp only [place]; split_ifs <;> omega
end

section
variable (v3 : FVec Ideal S512x512 .bf16) (v6 : FVec Ideal S512x512 .f32) (v8 : FVec Ideal S512x768 .bf16) (v10 : FVec Ideal S512x256 .bf16) (v12 : FVec Ideal S512x128 .bf16) (v24 : FVec Ideal S512x256 .f32)
  (v27 : IVec S512x128 1) (v31 v32 v34 : FVec Ideal S512x128 .f32) (r : Fin 512)

theorem put_c (s : Fin 512) : k0_pay14 (F := Ideal) v3 v6 v8 v10 v12 v24 v27 v31 v32 v34 (ix2 r ⟨s, by omega⟩) = v3 (ix2 r s) := by
  pointwise [k0_pay14]

theorem put_q (s : Fin 256) : k0_pay14 (F := Ideal) v3 v6 v8 v10 v12 v24 v27 v31 v32 v34 (ix2 r ⟨512 + s, by omega⟩) = v24 (ix2 r s) := by
  pointwise [k0_pay14]
  split_ifs <;> first | omega | rfl

theorem put_s (s : Fin 768) : k0_pay14 (F := Ideal) v3 v6 v8 v10 v12 v24 v27 v31 v32 v34 (ix2 r ⟨1280 + s, by omega⟩) = v8 (ix2 r s) := by
  pointwise [k0_pay14]
  split_ifs <;> first | omega | exact congrArg (fun k => v8 (ix2 r k)) (Fin.ext (by dsimp only; omega))

theorem put_p (s : Fin 256) : k0_pay14 (F := Ideal) v3 v6 v8 v10 v12 v24 v27 v31 v32 v34 (ix2 r ⟨2048 + s, by omega⟩) = v10 (ix2 r s) := by
  pointwise [k0_pay14]
  split_ifs <;> first | omega | exact congrArg (fun k => v10 (ix2 r k)) (Fin.ext (by dsimp only; omega))

theorem put_f (s : Fin 128) : k0_pay14 (F := Ideal) v3 v6 v8 v10 v12 v24 v27 v31 v32 v34 (ix2 r ⟨2304 + s, by omega⟩) = v12 (ix2 r s) := by
  pointwise [k0_pay14]
  split_ifs <;> first | omega | exact congrArg (fun k => v12 (ix2 r k)) (Fin.ext (by dsimp only; omega))

theorem put_k0 (s : Fin 128) : k0_pay14 (F := Ideal) v3 v6 v8 v10 v12 v24 v27 v31 v32 v34 (ix2 r ⟨768 + s, by omega⟩) = v31 (ix2 r s) := by
  pointwise [k0_pay14]
  split_ifs <;> first | omega | exact congrArg (fun k => v31 (ix2 r k)) (Fin.ext (by dsimp only; omega))

theorem put_k1 (s : Fin 128) : k0_pay14 (F := Ideal) v3 v6 v8 v10 v12 v24 v27 v31 v32 v34 (ix2 r ⟨896 + s, by omega⟩) = Scalar.select (v27 (ix2 r s)) (v32 (ix2 r s)) (v34 (ix2 r s)) := by
  pointwise [k0_pay14]
  split_ifs <;> first | omega | exact congrArg (fun k => Scalar.select (v27 (ix2 r k)) (v32 (ix2 r k)) (v34 (ix2 r k))) (Fin.ext (by dsimp only; omega))

theorem put_v0 (s : Fin 128) : k0_pay14 (F := Ideal) v3 v6 v8 v10 v12 v24 v27 v31 v32 v34 (ix2 r ⟨1024 + s, by omega⟩) = pair (fun k => v6 (ix2 r k)) 0 s := by
  pointwise [k0_pay14]
  split_ifs <;> first | omega | exact lane_pair (fun k => v6 (ix2 r k)) 0 s _ (by omega) _ _ (fun h => congrArg (fun k => v6 (ix2 r k)) (Fin.ext (by dsimp only; omega))) (fun h => congrArg (fun k => v6 (ix2 r k)) (Fin.ext (by dsimp only; omega)))

theorem put_v1 (s : Fin 128) : k0_pay14 (F := Ideal) v3 v6 v8 v10 v12 v24 v27 v31 v32 v34 (ix2 r ⟨1152 + s, by omega⟩) = pair (fun k => v6 (ix2 r k)) 1 s := by
  pointwise [k0_pay14]
  split_ifs <;> first | omega | exact lane_pair (fun k => v6 (ix2 r k)) 1 s _ (by omega) _ _ (fun h => congrArg (fun k => v6 (ix2 r k)) (Fin.ext (by dsimp only; omega))) (fun h => congrArg (fun k => v6 (ix2 r k)) (Fin.ext (by dsimp only; omega)))
end

theorem pair9 (x : FVec Ideal S512x512 .f32) (r : Fin 512) (q : Fin 2) (s : Fin 128) : k0_pay9 (F := Ideal) x (ix2 r ⟨q * 128 + s, by omega⟩) = pair (fun k => x (ix2 r k)) q s := by
  pointwise [k0_pay9]
  by_cases h0 : q.val * 128 + s.val < 128
  · rw [dif_pos h0]
    refine lane_pair (fun k => x (ix2 r k)) q s _ (by omega) _ _ (fun h => ?_) (fun h => ?_) <;> exact congrArg (fun k => x (ix2 r k)) (Fin.ext (by dsimp only; omega))
  · rw [dif_neg h0]
    refine lane_pair (fun k => x (ix2 r k)) q s _ (by omega) _ _ (fun h => ?_) (fun h => ?_) <;> exact congrArg (fun k => x (ix2 r k)) (Fin.ext (by dsimp only; omega))

theorem pair11 (x : FVec Ideal S512x512 .f32) (r : Fin 512) (s : Fin 128) : k0_pay11 (F := Ideal) x (ix2 r s) = pair (fun k => x (ix2 r k)) 0 s := by
  pointwise [k0_pay11, k0_pay10]
  refine lane_pair (fun k => x (ix2 r k)) 0 s _ rfl _ _ (fun h => ?_) (fun h => ?_) <;> exact congrArg (fun k => x (ix2 r k)) (Fin.ext (by dsimp only; omega))

theorem pair12 (x : FVec Ideal S512x512 .f32) (r : Fin 512) (s : Fin 128) : Scalar.select (k0_pay10 (ix2 r s)) (k0_pay12 (F := Ideal) x (ix2 r s)) (k0_pay13 (F := Ideal) x (ix2 r s)) = pair (fun k => x (ix2 r k)) 1 s := by
  pointwise [k0_pay10, k0_pay12, k0_pay13]
  refine lane_pair (fun k => x (ix2 r k)) 1 s _ rfl _ _ (fun h => ?_) (fun h => ?_) <;> exact congrArg (fun k => x (ix2 r k)) (Fin.ext (by dsimp only; omega))

/-- The projection's weight as the host lays its columns out. -/
def hostW (w : FVec Ideal S1024x2308 .f32) : FVec Ideal S1024x2432 .bf16 :=
  concatenate S1024x2432 1 [⟨S1024x1280, extractStridedSlice S1024x1280 ![0, 0] (truncf .bf16 w bitsLt_bf16_f32) slices_S1024x2308_S1024x1280_0_0⟩,
    ⟨S1024x1024, extractStridedSlice S1024x1024 ![0, 1284] (truncf .bf16 w bitsLt_bf16_f32) slices_S1024x2308_S1024x1024_0_1284⟩,
    ⟨S1024x4, extractStridedSlice S1024x4 ![0, 1280] (truncf .bf16 w bitsLt_bf16_f32) slices_S1024x2308_S1024x4_0_1280⟩,
    ⟨S1024x124, broadcastInDim S1024x124 ![] bcast_S_S1024x124 (constant S_ .bf16 0x0000#16)⟩] concatenates_S1024x1280_S1024x1024_S1024x4_S1024x124_S1024x2432_d1

theorem hostW_a (w : FVec Ideal S1024x2308 .f32) (k : Fin 1024) (s : Fin 1280) : hostW w (ix2 k ⟨s, by omega⟩) = w (ix2 k ⟨s, by omega⟩) := by
  pointwise [hostW]

theorem hostW_b (w : FVec Ideal S1024x2308 .f32) (k : Fin 1024) (s : Fin 1024) : hostW w (ix2 k ⟨1280 + s, by omega⟩) = w (ix2 k ⟨1284 + s, by omega⟩) := by
  pointwise [hostW]

theorem hostW_f (w : FVec Ideal S1024x2308 .f32) (k : Fin 1024) (s : Fin 4) : hostW w (ix2 k ⟨2304 + s, by omega⟩) = w (ix2 k ⟨1280 + s, by omega⟩) := by
  pointwise [hostW]
  split_ifs <;> first | omega | exact congrArg (fun n => w (ix2 k n)) (Fin.ext (by dsimp only; omega))

theorem hostW_rest (w : FVec Ideal S1024x2308 .f32) (k : Fin 1024) (n : Fin 124) : hostW w (ix2 k ⟨2308 + n, by omega⟩) = 0 := by
  pointwise [hostW]
  split_ifs <;> first | omega | rfl

/-- The packed weights hold a column at its place. -/
theorem hostW_place (w : FVec Ideal S1024x2308 .f32) (k : Fin 1024) (n : Fin 2308) : hostW w (ix2 k (place n)) = w (ix2 k n) := by
  obtain ⟨n, hn⟩ := n
  by_cases h1 : n < 1280
  · refine (congrArg (fun n => hostW w (ix2 k n)) (Fin.ext ?_)).trans (hostW_a w k ⟨n, h1⟩)
    dsimp only [place]; split_ifs <;> omega
  by_cases h2 : n < 1284
  · obtain ⟨d, rfl⟩ := Nat.exists_eq_add_of_le (not_lt.1 h1)
    refine (congrArg (fun n => hostW w (ix2 k n)) (Fin.ext ?_)).trans (hostW_f w k ⟨d, by omega⟩)
    dsimp only [place]; split_ifs <;> omega
  · obtain ⟨d, rfl⟩ := Nat.exists_eq_add_of_le (not_lt.1 h2)
    refine (congrArg (fun n => hostW w (ix2 k n)) (Fin.ext ?_)).trans (hostW_b w k ⟨d, by omega⟩)
    dsimp only [place]; split_ifs <;> omega

/-- No two columns have the same place. -/
theorem place_inj : Function.Injective place := by
  intro a b h
  have e := congrArg Fin.val h
  dsimp only [place] at e
  split_ifs at e <;> exact Fin.ext (by omega)

/-- A column that holds none of the projection's is one of the spare ones. -/
theorem place_rest (n : Fin 2432) (h : n ∉ Set.range place) : ∃ s : Fin 124, n = ⟨2308 + s, by omega⟩ := by
  obtain ⟨n, hn⟩ := n
  by_cases h3 : 2308 ≤ n
  · exact ⟨⟨n - 2308, by omega⟩, Fin.ext (by dsimp only; omega)⟩
  · refine absurd ⟨⟨if n < 1280 then n else if n < 2304 then n + 4 else n - 1024, by split_ifs <;> omega⟩, Fin.ext ?_⟩ h
    dsimp only [place]
    split_ifs <;> omega

/-- The product with the laid-out weight is the product with the projection's. -/
theorem full_dn (zc za zk zv : FVec Ideal S8192x512 .f32) (zs : FVec Ideal S8192x768 .f32) (zp : FVec Ideal S8192x256 .f32) (zf : FVec Ideal S8192x128 .f32)
    (w : FVec Ideal S1024x2308 .f32) (i : Fin 8192) (k : Fin 1024) : ∑ n, full zc za zk zv zs zp zf i n * hostW w (ix2 k n) = dn zc za zk zv zs zp zf w i k := by
  refine (Fintype.sum_of_injective place place_inj _ _ (fun n hn => ?_) fun n => ?_).symm
  · obtain ⟨s, rfl⟩ := place_rest n hn
    rw [hostW_rest, mul_zero]
  · rw [hostW_place, cat_full]

variable (m : (ℓ : Loc nD τ sig) → Buf (Elt Ideal) ℓ)

abbrev adh (c : Dev nD) : FVec Ideal S8192x1024 .f32 := m ((c : Thread nD τ).loc main_arg0)
abbrev ax (c : Dev nD) : FVec Ideal S8192x1024 .f32 := m ((c : Thread nD τ).loc main_arg1)
abbrev ac (c : Dev nD) : FVec Ideal S8192x512 .f32 := m ((c : Thread nD τ).loc main_arg2)
abbrev aq (c : Dev nD) : FVec Ideal S8192x512 .f32 := m ((c : Thread nD τ).loc main_arg3)
abbrev ak (c : Dev nD) : FVec Ideal S8192x512 .f32 := m ((c : Thread nD τ).loc main_arg4)
abbrev av (c : Dev nD) : FVec Ideal S8192x512 .f32 := m ((c : Thread nD τ).loc main_arg5)
abbrev asc (c : Dev nD) : FVec Ideal S8192x768 .f32 := m ((c : Thread nD τ).loc main_arg6)
abbrev ap (c : Dev nD) : FVec Ideal S8192x256 .f32 := m ((c : Thread nD τ).loc main_arg7)
abbrev af (c : Dev nD) : FVec Ideal S8192x128 .f32 := m ((c : Thread nD τ).loc main_arg8)
abbrev ag (c : Dev nD) : FVec Ideal S1024 .f32 := m ((c : Thread nD τ).loc main_arg9)
abbrev aw (c : Dev nD) : FVec Ideal S1024x2308 .f32 := m ((c : Thread nD τ).loc main_arg10)

/-- The block of each window at each grid point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0]
    ∧ win0_9.index t = ![0, 0] ∧ win0_10.index t = ![0, 0] ∧ win0_11.index t = ![t.val, 0] ∧ win0_12.index t = ![t.val, 0] ∧ win0_13.index t = ![t.val, 0] ∧ win0_14.index t = ![0, 0] :=
  (by decide +kernel : ∀ t : Fin grid0.N, _)

theorem w_g (c : Dev nD) (t : Fin cfg0.N) (k : Fin 1024) : (iblk m c 9 t : FVec Ideal S1x1024 .f32) (ix2 0 k) = ag m c (ix1 k) := by
  refine Eq.trans (b := (V m c main_v10 : FVec Ideal S1x1024 .f32) (ix2 0 k)) (by blk_point [iblk, idx t]) ?_
  rw [show V m c main_v10 = (broadcastInDim S1x1024 ![1] bcast_S1024_S1x1024_1 (ag m c) : FVec Ideal S1x1024 .f32) from by
    unfold V; simp only [List.flatten, List.append, hostOps0]; after_results]
  pointwise []

theorem w_w (c : Dev nD) (t : Fin cfg0.N) (k : Fin 1024) (n : Fin 2432) : (iblk m c 10 t : FVec Ideal S1024x2432 .bf16) (ix2 k n) = hostW (aw m c) (ix2 k n) := by
  refine Eq.trans (b := (V m c main_v5 : FVec Ideal S1024x2432 .bf16) (ix2 k n)) (by blk_point [iblk, idx t]) ?_
  rw [show V m c main_v5 = hostW (aw m c) from by
    unfold V; simp only [List.flatten, List.append, hostOps0]; after_results; rfl]

section
variable (c : Dev nD) (t : Fin cfg0.N) (ht : t.val < 16) (r : Fin 512)
include ht

theorem w_dh (k : Fin 1024) : (iblk m c 0 t : FVec Ideal S512x1024 .f32) (ix2 r k) = adh m c (ix2 ⟨t.val * 512 + r, by omega⟩ k) := by blk_point [iblk, V, idx t]

theorem w_x (k : Fin 1024) : (iblk m c 1 t : FVec Ideal S512x1024 .f32) (ix2 r k) = ax m c (ix2 ⟨t.val * 512 + r, by omega⟩ k) := by blk_point [iblk, V, idx t]

theorem w_q (k : Fin 512) : (iblk m c 3 t : FVec Ideal S512x512 .f32) (ix2 r k) = aq m c (ix2 ⟨t.val * 512 + r, by omega⟩ k) := by blk_point [iblk, V, idx t]

theorem w_k (k : Fin 512) : (iblk m c 4 t : FVec Ideal S512x512 .f32) (ix2 r k) = ak m c (ix2 ⟨t.val * 512 + r, by omega⟩ k) := by blk_point [iblk, V, idx t]

theorem w_v (k : Fin 512) : (iblk m c 5 t : FVec Ideal S512x512 .f32) (ix2 r k) = av m c (ix2 ⟨t.val * 512 + r, by omega⟩ k) := by blk_point [iblk, V, idx t]

theorem w_c (k : Fin 512) : (iblk m c 2 t : FVec Ideal S512x512 .bf16) (ix2 r k) = ac m c (ix2 ⟨t.val * 512 + r, by omega⟩ k) := by
  refine Eq.trans (b := (V m c main_v6 : FVec Ideal S8192x512 .bf16) (ix2 ⟨t.val * 512 + r, by omega⟩ k)) (by blk_point [iblk, idx t]) ?_
  rw [show V m c main_v6 = (truncf .bf16 (ac m c) bitsLt_bf16_f32 : FVec Ideal S8192x512 .bf16) from by
    unfold V; simp only [List.flatten, List.append, hostOps0]; after_results]
  pointwise []

theorem w_s (k : Fin 768) : (iblk m c 6 t : FVec Ideal S512x768 .bf16) (ix2 r k) = asc m c (ix2 ⟨t.val * 512 + r, by omega⟩ k) := by
  refine Eq.trans (b := (V m c main_v7 : FVec Ideal S8192x768 .bf16) (ix2 ⟨t.val * 512 + r, by omega⟩ k)) (by blk_point [iblk, idx t]) ?_
  rw [show V m c main_v7 = (truncf .bf16 (asc m c) bitsLt_bf16_f32 : FVec Ideal S8192x768 .bf16) from by
    unfold V; simp only [List.flatten, List.append, hostOps0]; after_results]
  pointwise []

theorem w_p (k : Fin 256) : (iblk m c 7 t : FVec Ideal S512x256 .bf16) (ix2 r k) = ap m c (ix2 ⟨t.val * 512 + r, by omega⟩ k) := by
  refine Eq.trans (b := (V m c main_v8 : FVec Ideal S8192x256 .bf16) (ix2 ⟨t.val * 512 + r, by omega⟩ k)) (by blk_point [iblk, idx t]) ?_
  rw [show V m c main_v8 = (truncf .bf16 (ap m c) bitsLt_bf16_f32 : FVec Ideal S8192x256 .bf16) from by
    unfold V; simp only [List.flatten, List.append, hostOps0]; after_results]
  pointwise []

theorem w_f (k : Fin 128) : (iblk m c 8 t : FVec Ideal S512x128 .bf16) (ix2 r k) = af m c (ix2 ⟨t.val * 512 + r, by omega⟩ k) := by
  refine Eq.trans (b := (V m c main_v9 : FVec Ideal S8192x128 .bf16) (ix2 ⟨t.val * 512 + r, by omega⟩ k)) (by blk_point [iblk, idx t]) ?_
  rw [show V m c main_v9 = (truncf .bf16 (af m c) bitsLt_bf16_f32 : FVec Ideal S8192x128 .bf16) from by
    unfold V; simp only [List.flatten, List.append, hostOps0]; after_results]
  pointwise []

/-- A block of rows of the branches' gradients as the kernel gathers them. -/
def blkDz (c : Dev nD) (t : Fin cfg0.N) : FVec Ideal S512x2432 .bf16 :=
  k0_pay14 (k0_pay5 (iblk m c 2 t)) (iblk m c 5 t) (k0_pay6 (iblk m c 6 t)) (k0_pay7 (iblk m c 7 t)) (k0_pay8 (iblk m c 8 t)) (k0_pay9 (iblk m c 3 t)) k0_pay10 (k0_pay11 (iblk m c 4 t))
    (k0_pay12 (iblk m c 4 t)) (k0_pay13 (iblk m c 4 t))

/-- A block's packed cotangent. -/
theorem dz_at (n : Fin 2432) : blkDz m c t (ix2 r n) = full (ac m c) (aq m c) (ak m c) (av m c) (asc m c) (ap m c) (af m c) ⟨t.val * 512 + r, by omega⟩ n := by
  unfold blkDz
  refine full_cases (P := fun n => blkDz m c t (ix2 r n) = full (ac m c) (aq m c) (ak m c) (av m c) (asc m c) (ap m c) (af m c) ⟨t.val * 512 + r, by omega⟩ n) (fun s => ?_) (fun q s => ?_) (fun q s => ?_) (fun q s => ?_) (fun s => ?_) (fun s => ?_) (fun s => ?_) n
  · refine (put_c _ _ _ _ _ _ _ _ _ _ r s).trans (Eq.trans ?_ (full_c (ac m c) (aq m c) (ak m c) (av m c) (asc m c) (ap m c) (af m c) ⟨t.val * 512 + r, by omega⟩ s).symm)
    pointwise [k0_pay5]
    exact w_c m c t ht r s
  · refine (put_q _ _ _ _ _ _ _ _ _ _ r ⟨q * 128 + s, by omega⟩).trans (Eq.trans ?_ ((full_q (ac m c) (aq m c) (ak m c) (av m c) (asc m c) (ap m c) (af m c) ⟨t.val * 512 + r, by omega⟩ ⟨q * 128 + s, by omega⟩).trans (pack_pair _ _ q s)).symm)
    refine (pair9 _ r q s).trans (congrArg (pair · q s) (funext fun k => w_q m c t ht r k))
  · refine Eq.trans ?_ (((full_k (ac m c) (aq m c) (ak m c) (av m c) (asc m c) (ap m c) (af m c) ⟨t.val * 512 + r, by omega⟩ ⟨q * 128 + s, by omega⟩).trans (pack_pair (ak m c) _ q s)).trans (congrArg (pair · q s) (funext fun k => (w_k m c t ht r k).symm))).symm
    fin_cases q
    · refine Eq.trans (congrArg (fun n => k0_pay14 _ _ _ _ _ _ _ _ _ _ (ix2 r n)) (Fin.ext ?_)) ((put_k0 _ _ _ _ _ _ _ _ _ _ r s).trans (pair11 _ r s))
      dsimp only; omega
    · refine Eq.trans (congrArg (fun n => k0_pay14 _ _ _ _ _ _ _ _ _ _ (ix2 r n)) (Fin.ext ?_)) ((put_k1 _ _ _ _ _ _ _ _ _ _ r s).trans (pair12 _ r s))
      dsimp only; omega
  · refine Eq.trans ?_ (((full_v (ac m c) (aq m c) (ak m c) (av m c) (asc m c) (ap m c) (af m c) ⟨t.val * 512 + r, by omega⟩ ⟨q * 128 + s, by omega⟩).trans (pack_pair (av m c) _ q s)).trans (congrArg (pair · q s) (funext fun k => (w_v m c t ht r k).symm))).symm
    fin_cases q
    · refine Eq.trans (congrArg (fun n => k0_pay14 _ _ _ _ _ _ _ _ _ _ (ix2 r n)) (Fin.ext ?_)) (put_v0 _ _ _ _ _ _ _ _ _ _ r s)
      dsimp only; omega
    · refine Eq.trans (congrArg (fun n => k0_pay14 _ _ _ _ _ _ _ _ _ _ (ix2 r n)) (Fin.ext ?_)) (put_v1 _ _ _ _ _ _ _ _ _ _ r s)
      dsimp only; omega
  · refine (put_s _ _ _ _ _ _ _ _ _ _ r s).trans (Eq.trans ?_ (full_s (ac m c) (aq m c) (ak m c) (av m c) (asc m c) (ap m c) (af m c) ⟨t.val * 512 + r, by omega⟩ s).symm)
    pointwise [k0_pay6]
    exact w_s m c t ht r s
  · refine (put_p _ _ _ _ _ _ _ _ _ _ r s).trans (Eq.trans ?_ (full_p (ac m c) (aq m c) (ak m c) (av m c) (asc m c) (ap m c) (af m c) ⟨t.val * 512 + r, by omega⟩ s).symm)
    pointwise [k0_pay7]
    exact w_p m c t ht r s
  · refine (put_f _ _ _ _ _ _ _ _ _ _ r s).trans (Eq.trans ?_ (full_f (ac m c) (aq m c) (ak m c) (av m c) (asc m c) (ap m c) (af m c) ⟨t.val * 512 + r, by omega⟩ s).symm)
    pointwise [k0_pay8]
    exact w_f m c t ht r s

/-- A block's gradient at the normed rows. -/
theorem dn_at (k : Fin 1024) : k0_pay15 (F := Ideal) (k0_pay5 (iblk m c 2 t)) (iblk m c 5 t) (k0_pay6 (iblk m c 6 t)) (k0_pay7 (iblk m c 7 t)) (k0_pay8 (iblk m c 8 t)) (k0_pay9 (iblk m c 3 t)) k0_pay10 (k0_pay11 (iblk m c 4 t)) (k0_pay12 (iblk m c 4 t)) (k0_pay13 (iblk m c 4 t)) (iblk m c 10 t) (ix2 r k) = dn (ac m c) (aq m c) (ak m c) (av m c) (asc m c) (ap m c) (af m c) (aw m c) ⟨t.val * 512 + r, by omega⟩ k := by
  pointwise [k0_pay15]
  refine (Finset.sum_congr rfl fun n _ => ?_).trans (full_dn (ac m c) (aq m c) (ak m c) (av m c) (asc m c) (ap m c) (af m c) (aw m c) ⟨t.val * 512 + r, by omega⟩ k)
  rw [w_w]
  exact congrArg (· * _) (dz_at m c t ht r n)

/-- A block's gradient of the residual. -/
theorem dx_at (j : Fin 1024) : k0_pay1 (F := Ideal) (iblk m c 0 t) (k0_pay19 (iblk m c 1 t) (k0_pay5 (iblk m c 2 t)) (iblk m c 5 t) (k0_pay6 (iblk m c 6 t)) (k0_pay7 (iblk m c 7 t)) (k0_pay8 (iblk m c 8 t)) (k0_pay9 (iblk m c 3 t)) k0_pay10 (k0_pay11 (iblk m c 4 t)) (k0_pay12 (iblk m c 4 t)) (k0_pay13 (iblk m c 4 t)) (iblk m c 10 t) (iblk m c 9 t)) (k0_pay20 (iblk m c 1 t)) (ix2 r j)
    = adh m c (ix2 ⟨t.val * 512 + r, by omega⟩ j) + normGrad (row (ax m c) ⟨t.val * 512 + r, by omega⟩) (fun k => dn (ac m c) (aq m c) (ak m c) (av m c) (asc m c) (ap m c) (af m c) (aw m c) ⟨t.val * 512 + r, by omega⟩ k * ag m c (ix1 k)) j := by
  pointwise [k0_pay1, k0_pay19, k0_pay20, k0_pay17, k0_pay16]
  simp only [dn_at m c t ht r, w_x m c t ht r, w_dh m c t ht r, w_g m c t]
  rfl

/-- A block's normed rows. -/
theorem xn_at (j : Fin 1024) : k0_pay2 (F := Ideal) (iblk m c 1 t) (iblk m c 9 t) (ix2 r j)
    = ax m c (ix2 ⟨t.val * 512 + r, by omega⟩ j) * Ideal.rsqrt (meanSq (row (ax m c) ⟨t.val * 512 + r, by omega⟩)) * ag m c (ix1 j) := by
  pointwise [k0_pay2, k0_pay17, k0_pay16]
  simp only [w_x m c t ht r, w_g m c t]
  rfl
end

/-- What a block adds to the gain's gradient. -/
theorem dg_at (c : Dev nD) (t : Fin cfg0.N) (j : Fin 1024) (ht : t.val < 16) : k0_pay18 (F := Ideal) (iblk m c 1 t) (k0_pay5 (iblk m c 2 t)) (iblk m c 5 t) (k0_pay6 (iblk m c 6 t)) (k0_pay7 (iblk m c 7 t)) (k0_pay8 (iblk m c 8 t)) (k0_pay9 (iblk m c 3 t)) k0_pay10 (k0_pay11 (iblk m c 4 t)) (k0_pay12 (iblk m c 4 t)) (k0_pay13 (iblk m c 4 t)) (iblk m c 10 t) (ix2 0 j)
    = ∑ r : Fin 512, dn (ac m c) (aq m c) (ak m c) (av m c) (asc m c) (ap m c) (af m c) (aw m c) ⟨t.val * 512 + r, by omega⟩ j * (ax m c (ix2 ⟨t.val * 512 + r, by omega⟩ j) * Ideal.rsqrt (meanSq (row (ax m c) ⟨t.val * 512 + r, by omega⟩))) := by
  pointwise [k0_pay18, k0_pay17, k0_pay16]
  refine Finset.sum_congr rfl fun r _ => ?_
  simp only [dn_at m c t ht r, w_x m c t ht r]
  rfl

instance factsPre : Cert.Pre_finite_mixin.Facts := by constructor <;> decide

theorem pair_finite {x : Fin 512 → EReal} (h : ∀ k, Finite (x k)) (q : Fin 2) (s : Fin 128) : Finite (pair x q s) := by
  unfold pair
  split_ifs <;> exact h _

theorem dn_finite (zc za zk zv : FVec Ideal S8192x512 .f32) (zs : FVec Ideal S8192x768 .f32) (zp : FVec Ideal S8192x256 .f32) (zf : FVec Ideal S8192x128 .f32)
    (w : FVec Ideal S1024x2308 .f32) (hc : ∀ i, Finite (zc i)) (hq : ∀ i, Finite (za i)) (hk : ∀ i, Finite (zk i)) (hv : ∀ i, Finite (zv i))
    (hs : ∀ i, Finite (zs i)) (hp : ∀ i, Finite (zp i)) (hf : ∀ i, Finite (zf i)) (hw : ∀ i, Finite (w i)) (i : Fin 8192) (k : Fin 1024) :
    Finite (dn zc za zk zv zs zp zf w i k) := by
  have h : ∀ n, Finite (full zc za zk zv zs zp zf i n) := fun n => full_cases (P := fun n => Finite (full zc za zk zv zs zp zf i n))
    (fun s => by rw [full_c]; exact hc _)
    (fun q s => by refine ((full_q zc za zk zv zs zp zf i ⟨q * 128 + s, by omega⟩).trans (pack_pair za i q s)) ▸ pair_finite (fun k => hq _) q s)
    (fun q s => by refine ((full_k zc za zk zv zs zp zf i ⟨q * 128 + s, by omega⟩).trans (pack_pair zk i q s)) ▸ pair_finite (fun k => hk _) q s)
    (fun q s => by refine ((full_v zc za zk zv zs zp zf i ⟨q * 128 + s, by omega⟩).trans (pack_pair zv i q s)) ▸ pair_finite (fun k => hv _) q s)
    (fun s => by rw [full_s]; exact hs _) (fun s => by rw [full_p]; exact hp _) (fun s => by rw [full_f]; exact hf _) n
  exact Finite.sum _ fun n => (cat_full zc za zk zv zs zp zf i n ▸ h _).mul (hw _)

/-- The residual's gradient: the kernel leaves what the reference computes. -/
theorem same_dx (hpre : Cert.Pre_MixInIdeal_finite_mixin m) (c : Dev nD) :
    val_main_v49 (F := Ideal) (adh m c) (ax m c) (ac m c) (aq m c) (ak m c) (av m c) (asc m c) (ap m c) (af m c) (ag m c) (aw m c) = (dats m 0 c).arrAt 11 (cfgs 0).N := by
  symm
  refine (dats m 0 c).arrAt_eq_of_covers 11 _ (by decide +kernel) fun t hf y => ?_
  have ht : t.val < 16 := lt_of_lt_of_eq t.isLt N_0
  blk_simp
  rw [after0_11]
  idx_vars y
  have e : (((cfg0.win 11).blk t).view.emb (ix2 y0 y1) : S8192x1024.Idx) = ix2 ⟨t.val * 512 + y0, by omega⟩ y1 := by blk_ext [idx t]
  refine Eq.trans ?_ (congrArg (val_main_v49 (F := Ideal) (adh m c) (ax m c) (ac m c) (aq m c) (ak m c) (av m c) (asc m c) (ap m c) (af m c) (ag m c) (aw m c)) e).symm
  obtain ⟨p1, p2, p3, p4, p5, p6, p7, p8, p9, p10⟩ := hpre c
  refine Eq.trans ?_ (ref_dx (adh m c) (ax m c) (ac m c) (aq m c) (ak m c) (av m c) (asc m c) (ap m c) (af m c) (ag m c) (aw m c) (real_of_mask _ factsPre.bcast_S_S8192x1024 p1)
    (dn_finite (ac m c) (aq m c) (ak m c) (av m c) (asc m c) (ap m c) (af m c) (aw m c) (real_of_mask _ factsPre.bcast_S_S8192x512 p2) (real_of_mask _ factsPre.bcast_S_S8192x512 p3) (real_of_mask _ factsPre.bcast_S_S8192x512 p4)
      (real_of_mask _ factsPre.bcast_S_S8192x512 p5) (real_of_mask _ factsPre.bcast_S_S8192x768 p6) (real_of_mask _ factsPre.bcast_S_S8192x256 p7)
      (real_of_mask _ factsPre.bcast_S_S8192x128 p8) (real_of_mask _ factsPre.bcast_S_S1024x2308 p10)) (real_of_mask _ factsPre.bcast_S_S1024 p9) ⟨t.val * 512 + y0, by omega⟩ y1).symm
  refine Eq.trans ?_ (dx_at m c t ht y0 y1)
  by_cases h : t.val % 16 = 0
  · rw [outsAt0_A m c t h]; frame_out
  · rw [outsAt0_B m c t h]; frame_out

/-- The normed rows: the kernel leaves what the reference computes. -/
theorem same_xn (c : Dev nD) : val_main_v63 (F := Ideal) (ax m c) (ag m c) = (dats m 0 c).arrAt 12 (cfgs 0).N := by
  symm
  refine (dats m 0 c).arrAt_eq_of_covers 12 _ (by decide +kernel) fun t hf y => ?_
  have ht : t.val < 16 := lt_of_lt_of_eq t.isLt N_0
  blk_simp
  rw [after0_12]
  idx_vars y
  have e : (((cfg0.win 12).blk t).view.emb (ix2 y0 y1) : S8192x1024.Idx) = ix2 ⟨t.val * 512 + y0, by omega⟩ y1 := by blk_ext [idx t]
  refine Eq.trans ?_ ((congrArg (val_main_v63 (F := Ideal) (ax m c) (ag m c)) e).trans (ref_xn (ax m c) (ag m c) ⟨t.val * 512 + y0, by omega⟩ y1)).symm
  refine Eq.trans ?_ (xn_at m c t ht y0 y1)
  by_cases h : t.val % 16 = 0
  · rw [outsAt0_A m c t h]; frame_out
  · rw [outsAt0_B m c t h]; frame_out

/-- The packed cotangent: the kernel leaves what the reference computes. -/
theorem same_dz (c : Dev nD) : val_main_v65 (F := Ideal) (ac m c) (aq m c) (ak m c) (av m c) (asc m c) (ap m c) (af m c) = (dats m 0 c).arrAt 13 (cfgs 0).N := by
  symm
  refine (dats m 0 c).arrAt_eq_of_covers 13 _ (by decide +kernel) fun t hf y => ?_
  have ht : t.val < 16 := lt_of_lt_of_eq t.isLt N_0
  blk_simp
  rw [after0_13]
  idx_vars y
  have e : (((cfg0.win 13).blk t).view.emb (ix2 y0 y1) : S8192x2432.Idx) = ix2 ⟨t.val * 512 + y0, by omega⟩ y1 := by blk_ext [idx t]
  refine Eq.trans ?_ ((congrArg (val_main_v65 (F := Ideal) (ac m c) (aq m c) (ak m c) (av m c) (asc m c) (ap m c) (af m c)) e).trans (ref_dz (ac m c) (aq m c) (ak m c) (av m c) (asc m c) (ap m c) (af m c) ⟨t.val * 512 + y0, by omega⟩ y1)).symm
  refine Eq.trans ?_ (dz_at m c t ht y0 y1)
  by_cases h : t.val % 16 = 0
  · rw [outsAt0_A m c t h]; frame_out; rfl
  · rw [outsAt0_B m c t h]; frame_out; rfl

/-- The gain's gradient: the kernel leaves what the reference computes. -/
theorem same_dg (c : Dev nD) : val_main_v66 (F := Ideal) (ax m c) (ac m c) (aq m c) (ak m c) (av m c) (asc m c) (ap m c) (af m c) (aw m c) = (dats m 0 c).arrAt 14 (cfgs 0).N := by
  symm
  refine (dats m 0 c).arrAt_eq_of_after_last 14 t0_15 (by decide +kernel) _ fun j => ?_
  blk_simp
  rw [after0_14, Pipeline.eq_sum_fin_of_reset_step_apply_last (fun n h => (outsAt0 m c n h).2.2.2) 16 (fun _ => 0)
    (fun p j => k0_pay18 (F := Ideal) (iblk m c 1 p) (k0_pay5 (iblk m c 2 p)) (iblk m c 5 p) (k0_pay6 (iblk m c 6 p)) (k0_pay7 (iblk m c 7 p)) (k0_pay8 (iblk m c 8 p)) (k0_pay9 (iblk m c 3 p)) k0_pay10 (k0_pay11 (iblk m c 4 p)) (k0_pay12 (iblk m c 4 p)) (k0_pay13 (iblk m c 4 p)) (iblk m c 10 p) j)
    (fun t h j => by
      rw [outsAt0_A m c t h]
      frame_out
      idx_vars j
      pointwise [k0_pay4, k0_pay3])
    (fun t h j => by
      rw [outsAt0_B m c t h]
      frame_out
      idx_vars j
      pointwise [k0_pay4])
    (le_of_eq N_0) t0_15 rfl j, zero_add]
  idx_vars j
  obtain rfl : j0 = 0 := Subsingleton.elim _ _
  refine (Finset.sum_congr rfl fun p _ => dg_at m c p j1 (lt_of_lt_of_eq p.isLt N_0)).trans (Eq.trans ?_ (ref_dg (ax m c) (ac m c) (aq m c) (ak m c) (av m c) (asc m c) (ap m c) (af m c) (aw m c) j1).symm)
  exact (Fin.sum_univ_tiles 16 512 rfl fun n : Fin 8192 => dn (ac m c) (aq m c) (ak m c) (av m c) (asc m c) (ap m c) (af m c) (aw m c) n j1 * (ax m c (ix2 n j1) * Ideal.rsqrt (meanSq (row (ax m c) n)))).symm

/-- What a run of the kernel leaves in its results. -/
theorem ran (g : Dev nD → PrngReg) :
    θ_run (defs (F := Ideal)) (onTc (τ := τ) (main (F := Ideal))) ⟨m, fun _ => 0, g⟩ (fun r => ∀ c : Dev nD,
      r.2.mem ((c.tc : Thread nD τ).loc main_v11_0) = (dats m 0 c).arrAt 11 (cfgs 0).N
      ∧ r.2.mem ((c.tc : Thread nD τ).loc main_v11_1) = (dats m 0 c).arrAt 12 (cfgs 0).N
      ∧ r.2.mem ((c.tc : Thread nD τ).loc main_v11_2) = (dats m 0 c).arrAt 13 (cfgs 0).N
      ∧ r.2.mem ((c.tc : Thread nD τ).loc main_v11_3) = (dats m 0 c).arrAt 14 (cfgs 0).N) :=
  θ_run_mono (run_main m g) fun r h c => ⟨(h c).1 11, (h c).1 12, (h c).1 13, (h c).1 14⟩

/-- Over the reals, kernel and reference compute the same function. -/
theorem claim : Cert.algebraic_MixInIdeal_MixInRefIdeal_pre_finite_mixin := by
  intro m g m' g' hpre hagree
  refine ⟨fun c => (dats m 0 c).arrAt 11 (cfgs 0).N, fun c => (dats m 0 c).arrAt 12 (cfgs 0).N, fun c => (dats m 0 c).arrAt 13 (cfgs 0).N, fun c => (dats m 0 c).arrAt 14 (cfgs 0).N, ?_, ?_⟩
  · exact θ_run_mono (θ_run_and (ran m g) (Gen.frame m g)) fun r h c => ⟨(h.1 c).1, (h.1 c).2.1, (h.1 c).2.2.1, (h.1 c).2.2.2, h.2.1 c⟩
  · refine θ_run_mono (Cert.MixInRefIdeal.Value.run (F := Ideal) m' g') fun r h c => ?_
    obtain ⟨h1, h2, h3, h4, hargs⟩ := h c
    obtain ⟨a0, a1, a2, a3, a4, a5, a6, a7, a8, a9, a10⟩ := hagree c
    refine ⟨(h1.trans (val_main_v49_eq m' c)).trans (Eq.trans ?_ (same_dx m hpre c)),
      (h2.trans (val_main_v63_eq _ _)).trans (Eq.trans ?_ (same_xn m c)),
      (h3.trans (val_main_v65_eq _ _ _ _ _ _ _)).trans (Eq.trans ?_ (same_dz m c)),
      (h4.trans (val_main_v66_eq _ _ _ _ _ _ _ _ _)).trans (Eq.trans ?_ (same_dg m c)), hargs⟩
    · exact congr (congr (congr (congr (congr (congr (congr (congr (congr (congr (congrArg _ a0) a1) a2) a3) a4) a5) a6) a7) a8) a9) a10
    · exact congr (congrArg _ a1) a9
    · exact congr (congr (congr (congr (congr (congr (congrArg _ a2) a3) a4) a5) a6) a7) a8
    · exact congr (congr (congr (congr (congr (congr (congr (congr (congrArg _ a1) a2) a3) a4) a5) a6) a7) a8) a10

end Cert.MixInIdeal.Value

end

end
-- ==== Proof.Ple.lean ====
/- The per-layer embedding's gradients: the gate's logistic, the two norms, the gate's and the projection's weights and both gains. -/
module

public import proofs.«01_k».proof.Proof.Gen.PleIdeal.Frame
public import proofs.«01_k».proof.Defs
public import proofs.«01_k».proof.Proof.Gen.PleRefIdeal.Run
public import proofs.«01_k».proof.Proof.Gen.PleRefIdeal.Read
public import proofs.«01_k».proof.Proof.Norm
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Common

namespace Cert.PleIdeal.Value

open Cert.PleIdeal Cert.PleIdeal.Gen
open Cert.PleRefIdeal.Read

section
variable (dh x : FVec Ideal S8192x1024 .f32) (p : FVec Ideal S8192x256 .f32) (g : FVec Ideal S1024 .f32) (wg : FVec Ideal S1024x1024 .f32) (wp : FVec Ideal S256x1024 .f32) (gp : FVec Ideal S1024 .f32)

abbrev row (i : Fin 8192) : Fin 1024 → EReal := fun k => x (ix2 i k)

/-- The normed row. -/
def nrm (i : Fin 8192) (k : Fin 1024) : EReal := x (ix2 i k) * Ideal.rsqrt (meanSq (row x i)) * g (ix1 k)

/-- What the gate is the logistic of. -/
def gate (i : Fin 8192) (j : Fin 1024) : EReal := ∑ k, nrm x g i k * wg (ix2 k j)

/-- The gate. -/
def sg (i : Fin 8192) (j : Fin 1024) : EReal := Ideal.logistic (gate x g wg i j)

/-- The projected embedding. -/
def pe (i : Fin 8192) (j : Fin 1024) : EReal := ∑ k, p (ix2 i k) * wp (ix2 k j)

/-- The gated embedding. -/
def pl (i : Fin 8192) (j : Fin 1024) : EReal := pe p wp i j * sg x g wg i j

/-- The gradient at the gated embedding. -/
def dp (i : Fin 8192) (j : Fin 1024) : EReal := normGrad (pl x p g wg wp i) (fun k => dh (ix2 i k) * gp (ix1 k)) j

/-- The gradient at the gate's argument. -/
def du (i : Fin 8192) (j : Fin 1024) : EReal := pe p wp i j * dp dh x p g wg wp gp i j * (sg x g wg i j * (1 - sg x g wg i j))

/-- The gradient at the norm's output. -/
def dn (i : Fin 8192) (k : Fin 1024) : EReal := ∑ j, du dh x p g wg wp gp i j * wg (ix2 k j)

theorem ref_nrm (i : Fin 8192) (k : Fin 1024) : val_main_v15 (F := Ideal) x g (ix2 i k) = nrm x g i k := by
  pointwise [val_main_v15, val_main_v14, val_main_v13, val_main_v12, val_main_v11, val_main_v7, val_main_v6, val_main_v5, val_main_cst_1, val_main_v4, val_main_v3, val_main_cst_0, val_main_v2, val_main_v1, val_main_cst, val_main_v0]
  rfl

/-- The reference's logits of the gate. -/
theorem ref_gate (i : Fin 8192) (j : Fin 1024) : val_main_v16 (F := Ideal) x g wg (ix2 i j) = gate x g wg i j := by
  pointwise [val_main_v16]
  simp only [ref_nrm]
  rfl

theorem ref_sg (i : Fin 8192) (j : Fin 1024) : val_main_v22 (F := Ideal) x g wg (ix2 i j) = sg x g wg i j := by
  pointwise [val_main_v22, val_main_v20, val_main_v18, val_main_v17, val_main_v19, val_main_cst_3, val_main_v21, val_main_cst_4]
  simp only [ref_gate]
  rfl

theorem ref_ds (i : Fin 8192) (j : Fin 1024) : val_main_v25 (F := Ideal) x g wg (ix2 i j) = sg x g wg i j * (1 - sg x g wg i j) := by
  pointwise [val_main_v25, val_main_v24, val_main_v23, val_main_cst_5]
  simp only [ref_sg]

theorem ref_pl (i : Fin 8192) (j : Fin 1024) : val_main_v27 (F := Ideal) x p g wg wp (ix2 i j) = pl x p g wg wp i j := by
  pointwise [val_main_v27, val_main_v26]
  simp only [ref_sg]
  rfl

section
variable (hd : ∀ i, Finite (dh i)) (hx : ∀ i, Finite (x i)) (hp : ∀ i, Finite (p i)) (hg : ∀ i, Finite (g i)) (hwg : ∀ i, Finite (wg i)) (hwp : ∀ i, Finite (wp i)) (hgp : ∀ i, Finite (gp i))
include hx hg hwg

theorem sg_finite (i : Fin 8192) (j : Fin 1024) : Finite (sg x g wg i j) := by
  obtain ⟨r, e⟩ : Finite (gate x g wg i j) := Finite.sum _ fun k => (((hx _).mul (rsqrt_finite fun k => hx _)).mul (hg _)).mul (hwg _)
  exact ⟨_, (congrArg Ideal.logistic e).trans (Ideal.logistic_coe r)⟩

include hp hwp

theorem pl_finite (i : Fin 8192) (j : Fin 1024) : Finite (pl x p g wg wp i j) :=
  (Finite.sum _ fun k => (hp _).mul (hwp _)).mul (sg_finite x g wg hx hg hwg i j)

include hd hgp

/-- The reference's gradient at the gated embedding. -/
theorem ref_dp (i : Fin 8192) (j : Fin 1024) : val_main_v65 (F := Ideal) dh x p g wg wp gp (ix2 i j) = dp dh x p g wg wp gp i j := by
  pointwise [val_main_v65, val_main_v64, val_main_v61, val_main_v60, val_main_cst_14, val_main_v59, val_main_v58, val_main_cst_13, val_main_v57, val_main_v38, val_main_v36, val_main_v34, val_main_v33, val_main_cst_8, val_main_v32, val_main_v31, val_main_cst_7, val_main_v30, val_main_v29, val_main_cst_6, val_main_v28, val_main_v35, val_main_v37, val_main_cst_9, val_main_v54, val_main_v53, val_main_cst_12, val_main_v52, val_main_v50, val_main_v49, val_main_v41, val_main_v45, val_main_v63, val_main_v62, val_main_v56, val_main_v55]
  simp only [Fintype.sum_unique, ref_pl]
  exact normGrad_eq (x := pl x p g wg wp i) (pl_finite x p g wg wp hx hp hg hwg hwp i) (d := fun k => dh (ix2 i k) * gp (ix1 k)) (fun k => (hd _).mul (hgp _)) j _ rfl

/-- The reference's gradient at the gate's logits. -/
theorem ref_du (i : Fin 8192) (j : Fin 1024) : val_main_v70 (F := Ideal) dh x p g wg wp gp (ix2 i j) = du dh x p g wg wp gp i j := by
  pointwise [val_main_v70, val_main_v66, val_main_v26]
  simp only [ref_dp dh x p g wg wp gp hd hx hp hg hwg hwp hgp, ref_ds]
  rfl

theorem dn_finite (i : Fin 8192) (k : Fin 1024) : Finite (dn dh x p g wg wp gp i k) := by
  refine Finite.sum _ fun j => Finite.mul (Finite.mul (Finite.mul (Finite.sum _ fun k => (hp _).mul (hwp _)) ?_) ?_) (hwg _)
  · exact normGrad_finite (pl_finite x p g wg wp hx hp hg hwg hwp i) (fun k => (hd _).mul (hgp _)) j
  · exact (sg_finite x g wg hx hg hwg i j).mul (Finite.sub ⟨1, rfl⟩ (sg_finite x g wg hx hg hwg i j))

/-- The reference's gradient at the normed rows. -/
theorem ref_dn (i : Fin 8192) (k : Fin 1024) : val_main_v73 (F := Ideal) dh x p g wg wp gp (ix2 i k) = dn dh x p g wg wp gp i k := by
  pointwise [val_main_v73]
  simp only [ref_du dh x p g wg wp gp hd hx hp hg hwg hwp hgp]
  rfl

/-- The reference's gradient of the residual. -/
theorem ref_dx (i : Fin 8192) (j : Fin 1024) :
    val_main_v94 (F := Ideal) dh x p g wg wp gp (ix2 i j) = dh (ix2 i j) + normGrad (row x i) (fun k => dn dh x p g wg wp gp i k * g (ix1 k)) j := by
  pointwise [val_main_v94, val_main_v93, val_main_v90, val_main_v89, val_main_cst_19, val_main_v88, val_main_v87, val_main_cst_18, val_main_v86, val_main_v10, val_main_v8, val_main_v6, val_main_v5, val_main_cst_1, val_main_v4, val_main_v3, val_main_cst_0, val_main_v2, val_main_v1, val_main_cst, val_main_v0, val_main_v7, val_main_v9, val_main_cst_2, val_main_v82, val_main_v81, val_main_cst_17, val_main_v80, val_main_v78, val_main_v77, val_main_v13, val_main_v92, val_main_v91, val_main_v85, val_main_v84, val_main_v83]
  simp only [Fintype.sum_unique, ref_dn dh x p g wg wp gp hd hx hp hg hwg hwp hgp]
  rw [← normGrad_eq (x := row x i) (fun k => hx _) (d := fun k => dn dh x p g wg wp gp i k * g (ix1 k)) (fun k => (dn_finite dh x p g wg wp gp hd hx hp hg hwg hwp hgp _ _).mul (hg _)) j _ rfl, ← add_assoc, ← add_assoc]
  rfl

/-- The reference's gradient of the gate weights. -/
theorem ref_dwg (k j : Fin 1024) : val_main_v72 (F := Ideal) dh x p g wg wp gp (ix2 k j) = ∑ i, nrm x g i k * du dh x p g wg wp gp i j := by
  pointwise [val_main_v72, val_main_v71]
  simp only [ref_du dh x p g wg wp gp hd hx hp hg hwg hwp hgp, ref_nrm]
  exact Finset.sum_congr rfl fun i _ => mul_comm _ _

/-- The reference's gradient of the projection. -/
theorem ref_dwp (k : Fin 256) (j : Fin 1024) : val_main_v69 (F := Ideal) dh x p g wg wp gp (ix2 k j) = ∑ i, p (ix2 i k) * (dp dh x p g wg wp gp i j * sg x g wg i j) := by
  pointwise [val_main_v69, val_main_v68, val_main_v67]
  simp only [ref_dp dh x p g wg wp gp hd hx hp hg hwg hwp hgp, ref_sg]
  exact Finset.sum_congr rfl fun i _ => mul_comm _ _

/-- The reference's gradient of the gain before the gate. -/
theorem ref_dg (j : Fin 1024) : val_main_v95 (F := Ideal) dh x p g wg wp gp (ix2 0 j) = ∑ i, dn dh x p g wg wp gp i j * (x (ix2 i j) * Ideal.rsqrt (meanSq (row x i))) := by
  pointwise [val_main_v95, val_main_v79, val_main_cst_16, val_main_v76, val_main_v75, val_main_cst_15, val_main_v74, val_main_v12, val_main_v11, val_main_v7, val_main_v6, val_main_v5, val_main_cst_1, val_main_v4, val_main_v3, val_main_cst_0, val_main_v2, val_main_v1, val_main_cst, val_main_v0]
  simp only [Fintype.sum_unique, ref_dn dh x p g wg wp gp hd hx hp hg hwg hwp hgp]
  exact Finset.sum_congr rfl fun i _ => mul_comm _ _
end

/-- The reference's gradient of the gain after the gate. -/
theorem ref_dgp (j : Fin 1024) : val_main_v96 (F := Ideal) dh x p g wg wp (ix2 0 j) = ∑ i, dh (ix2 i j) * (pl x p g wg wp i j * Ideal.rsqrt (meanSq (pl x p g wg wp i))) := by
  pointwise [val_main_v96, val_main_v51, val_main_cst_11, val_main_v48, val_main_v47, val_main_cst_10, val_main_v46, val_main_v45, val_main_v40, val_main_v39, val_main_v35, val_main_v34, val_main_v33, val_main_cst_8, val_main_v32, val_main_v31, val_main_cst_7, val_main_v30, val_main_v29, val_main_cst_6, val_main_v28]
  simp only [Fintype.sum_unique, ref_pl]
  exact Finset.sum_congr rfl fun i _ => mul_comm _ _
end

/-- What the gate is the logistic of, as the host computes it. -/
def hostGate (x : FVec Ideal S8192x1024 .f32) (g : FVec Ideal S1024 .f32) (wg : FVec Ideal S1024x1024 .f32) : FVec Ideal S8192x1024 .f32 :=
  Host.dotGeneral dot_S8192x1024_S1024x1024_S8192x1024_1_0_0_1_n_n none
    (mulf (mulf x (broadcastInDim S8192x1024 ![0, 1] bcast_S8192x1_S8192x1024_0_1 (Host.rsqrt (addf
      (Host.divf (broadcastInDim S8192x1 ![0] bcast_S8192_S8192x1_0 (Host.reduceAdd (mulf x x) (constant S_ .f32 0x00000000#32) reducesTo_S8192x1024_S8192_d1 h_S_))
        (broadcastInDim S8192x1 ![] bcast_S_S8192x1 (constant S_ .f32 0x44800000#32)))
      (broadcastInDim S8192x1 ![] bcast_S_S8192x1 (constant S_ .f32 0x358637BD#32))))))
      (broadcastInDim S8192x1024 ![0, 1] bcast_S1x1024_S8192x1024_0_1 (broadcastInDim S1x1024 ![1] bcast_S1024_S1x1024_1 g))) wg

theorem hostGate_at (x : FVec Ideal S8192x1024 .f32) (g : FVec Ideal S1024 .f32) (wg : FVec Ideal S1024x1024 .f32) (i : Fin 8192) (j : Fin 1024) :
    hostGate x g wg (ix2 i j) = gate x g wg i j := by
  pointwise [hostGate]
  rfl

variable (m : (ℓ : Loc nD τ sig) → Buf (Elt Ideal) ℓ)

abbrev adh (c : Dev nD) : FVec Ideal S8192x1024 .f32 := m ((c : Thread nD τ).loc main_arg0)
abbrev ax (c : Dev nD) : FVec Ideal S8192x1024 .f32 := m ((c : Thread nD τ).loc main_arg1)
abbrev ap (c : Dev nD) : FVec Ideal S8192x256 .f32 := m ((c : Thread nD τ).loc main_arg2)
abbrev ag (c : Dev nD) : FVec Ideal S1024 .f32 := m ((c : Thread nD τ).loc main_arg3)
abbrev awg (c : Dev nD) : FVec Ideal S1024x1024 .f32 := m ((c : Thread nD τ).loc main_arg4)
abbrev awp (c : Dev nD) : FVec Ideal S256x1024 .f32 := m ((c : Thread nD τ).loc main_arg5)
abbrev agp (c : Dev nD) : FVec Ideal S1024 .f32 := m ((c : Thread nD τ).loc main_arg6)

/-- The block of each window at each grid point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![0, 0] ∧ win0_6.index t = ![0, 0] ∧ win0_7.index t = ![0, 0] ∧ win0_8.index t = ![t.val, 0]
    ∧ win0_9.index t = ![0, 0] ∧ win0_10.index t = ![0, 0] ∧ win0_11.index t = ![0, 0] ∧ win0_12.index t = ![0, 0] :=
  (by decide +kernel : ∀ t : Fin grid0.N, _)

theorem w_g (c : Dev nD) (t : Fin cfg0.N) (k : Fin 1024) : (iblk m c 5 t : FVec Ideal S1x1024 .f32) (ix2 0 k) = ag m c (ix1 k) := by
  refine Eq.trans (b := (V m c main_v15 : FVec Ideal S1x1024 .f32) (ix2 0 k)) (by blk_point [iblk, idx t]) ?_
  rw [show V m c main_v15 = (broadcastInDim S1x1024 ![1] bcast_S1024_S1x1024_1 (ag m c) : FVec Ideal S1x1024 .f32) from by
    unfold V; simp only [List.flatten, List.append, hostOps0]; after_results]
  pointwise []

theorem w_gp (c : Dev nD) (t : Fin cfg0.N) (k : Fin 1024) : (iblk m c 7 t : FVec Ideal S1x1024 .f32) (ix2 0 k) = agp m c (ix1 k) := by
  refine Eq.trans (b := (V m c main_v17 : FVec Ideal S1x1024 .f32) (ix2 0 k)) (by blk_point [iblk, idx t]) ?_
  rw [show V m c main_v17 = (broadcastInDim S1x1024 ![1] bcast_S1024_S1x1024_1 (agp m c) : FVec Ideal S1x1024 .f32) from by
    unfold V; simp only [List.flatten, List.append, hostOps0]; after_results]
  pointwise []

theorem w_wg (c : Dev nD) (t : Fin cfg0.N) (k n : Fin 1024) : (iblk m c 6 t : FVec Ideal S1024x1024 .bf16) (ix2 k n) = awg m c (ix2 k n) := by
  refine Eq.trans (b := (V m c main_v16 : FVec Ideal S1024x1024 .bf16) (ix2 k n)) (by blk_point [iblk, idx t]) ?_
  rw [show V m c main_v16 = (truncf .bf16 (awg m c) bitsLt_bf16_f32 : FVec Ideal S1024x1024 .bf16) from by
    unfold V; simp only [List.flatten, List.append, hostOps0]; after_results]
  pointwise []

section
variable (c : Dev nD) (t : Fin cfg0.N) (ht : t.val < 16) (r : Fin 512)
include ht

theorem w_dh (k : Fin 1024) : (iblk m c 0 t : FVec Ideal S512x1024 .f32) (ix2 r k) = adh m c (ix2 ⟨t.val * 512 + r, by omega⟩ k) := by blk_point [iblk, V, idx t]

theorem w_x (k : Fin 1024) : (iblk m c 1 t : FVec Ideal S512x1024 .f32) (ix2 r k) = ax m c (ix2 ⟨t.val * 512 + r, by omega⟩ k) := by blk_point [iblk, V, idx t]

theorem w_p (k : Fin 256) : (iblk m c 4 t : FVec Ideal S512x256 .f32) (ix2 r k) = ap m c (ix2 ⟨t.val * 512 + r, by omega⟩ k) := by blk_point [iblk, V, idx t]

theorem w_u (k : Fin 1024) : (iblk m c 2 t : FVec Ideal S512x1024 .f32) (ix2 r k) = gate (ax m c) (ag m c) (awg m c) ⟨t.val * 512 + r, by omega⟩ k := by
  refine Eq.trans (b := (V m c main_v13 : FVec Ideal S8192x1024 .f32) (ix2 ⟨t.val * 512 + r, by omega⟩ k)) (by blk_point [iblk, idx t]) ?_
  rw [show V m c main_v13 = hostGate (ax m c) (ag m c) (awg m c) from by
    unfold V; simp only [List.flatten, List.append, hostOps0]; after_results; rfl]
  exact hostGate_at _ _ _ _ _

theorem w_pe (k : Fin 1024) : (iblk m c 3 t : FVec Ideal S512x1024 .f32) (ix2 r k) = pe (ap m c) (awp m c) ⟨t.val * 512 + r, by omega⟩ k := by
  refine Eq.trans (b := (V m c main_v14 : FVec Ideal S8192x1024 .f32) (ix2 ⟨t.val * 512 + r, by omega⟩ k)) (by blk_point [iblk, idx t]) ?_
  rw [show V m c main_v14 = (Host.dotGeneral dot_S8192x256_S256x1024_S8192x1024_1_0_0_1_n_n none (ap m c) (awp m c) : FVec Ideal S8192x1024 .f32) from by
    unfold V; simp only [List.flatten, List.append, hostOps0]; after_results]
  pointwise []
  rfl

theorem pl_at (k : Fin 1024) : k0_pay12 (F := Ideal) (iblk m c 2 t) (iblk m c 3 t) (ix2 r k) = pl (ax m c) (ap m c) (ag m c) (awg m c) (awp m c) ⟨t.val * 512 + r, by omega⟩ k := by
  pointwise [k0_pay12, k0_pay11, k0_pay10]
  simp only [w_u m c t ht r, w_pe m c t ht r]
  rfl

theorem rs_at : k0_pay13 (F := Ideal) (iblk m c 2 t) (iblk m c 3 t) (ix2 r 0) = Ideal.rsqrt (meanSq (pl (ax m c) (ap m c) (ag m c) (awg m c) (awp m c) ⟨t.val * 512 + r, by omega⟩)) := by
  pointwise [k0_pay13]
  simp only [pl_at m c t ht r]
  rfl

/-- A block's gradient at the gated embedding. -/
theorem dp_at (j : Fin 1024) : k0_pay16 (F := Ideal) (iblk m c 0 t) (iblk m c 2 t) (iblk m c 3 t) (iblk m c 7 t) (ix2 r j) = dp (adh m c) (ax m c) (ap m c) (ag m c) (awg m c) (awp m c) (agp m c) ⟨t.val * 512 + r, by omega⟩ j := by
  pointwise [k0_pay16, k0_pay14]
  simp only [pl_at m c t ht r, rs_at m c t ht r, w_dh m c t ht r, w_gp m c t]
  rfl

/-- A block's gradient at the gate's logits. -/
theorem du_at (j : Fin 1024) : k0_pay19 (F := Ideal) (k0_pay11 (iblk m c 2 t)) (k0_pay18 (iblk m c 0 t) (iblk m c 2 t) (iblk m c 3 t) (iblk m c 7 t)) (1 : EReal) (ix2 r j) = du (adh m c) (ax m c) (ap m c) (ag m c) (awg m c) (awp m c) (agp m c) ⟨t.val * 512 + r, by omega⟩ j := by
  pointwise [k0_pay19, k0_pay18, k0_pay11, k0_pay10]
  simp only [dp_at m c t ht r, w_u m c t ht r, w_pe m c t ht r]
  unfold du
  rw [mul_comm (dp (adh m c) (ax m c) (ap m c) (ag m c) (awg m c) (awp m c) (agp m c) ⟨t.val * 512 + r, by omega⟩ j), mul_assoc]
  rfl

theorem dn_at (k : Fin 1024) : k0_pay22 (F := Ideal) (k0_pay11 (iblk m c 2 t)) (k0_pay18 (iblk m c 0 t) (iblk m c 2 t) (iblk m c 3 t) (iblk m c 7 t)) (1 : EReal) (iblk m c 6 t) (ix2 r k) = dn (adh m c) (ax m c) (ap m c) (ag m c) (awg m c) (awp m c) (agp m c) ⟨t.val * 512 + r, by omega⟩ k := by
  pointwise [k0_pay22]
  exact Finset.sum_congr rfl fun n _ => by rw [du_at m c t ht r n, w_wg]

/-- A block's gradient of the residual. -/
theorem dx_at (j : Fin 1024) : k0_pay1 (F := Ideal) (iblk m c 0 t) (k0_pay23 (iblk m c 1 t)) (k0_pay24 (iblk m c 1 t)) (k0_pay26 (k0_pay11 (iblk m c 2 t)) (k0_pay18 (iblk m c 0 t) (iblk m c 2 t) (iblk m c 3 t) (iblk m c 7 t)) (FloatOps.ofBits FTy.f32 1065353216#32) (iblk m c 5 t) (iblk m c 6 t))
      (k0_pay27 (iblk m c 1 t) (k0_pay11 (iblk m c 2 t)) (k0_pay18 (iblk m c 0 t) (iblk m c 2 t) (iblk m c 3 t) (iblk m c 7 t)) (FloatOps.ofBits FTy.f32 1065353216#32) (iblk m c 5 t) (iblk m c 6 t)) (ix2 r j)
    = adh m c (ix2 ⟨t.val * 512 + r, by omega⟩ j) + normGrad (row (ax m c) ⟨t.val * 512 + r, by omega⟩) (fun k => dn (adh m c) (ax m c) (ap m c) (ag m c) (awg m c) (awp m c) (agp m c) ⟨t.val * 512 + r, by omega⟩ k * ag m c (ix1 k)) j := by
  pointwise [k0_pay1, k0_pay23, k0_pay24, k0_pay26, k0_pay27]
  simp only [dn_at m c t ht r, w_x m c t ht r, w_dh m c t ht r, w_g m c t]
  rfl
end

/-- What a block adds to the gate weights' gradient. -/
theorem dwg_at (c : Dev nD) (t : Fin cfg0.N) (k j : Fin 1024) (ht : t.val < 16) : k0_pay21 (F := Ideal) (iblk m c 1 t) (k0_pay11 (iblk m c 2 t)) (k0_pay18 (iblk m c 0 t) (iblk m c 2 t) (iblk m c 3 t) (iblk m c 7 t)) (FloatOps.ofBits FTy.f32 1065353216#32) (iblk m c 5 t) (ix2 k j)
    = ∑ r : Fin 512, nrm (ax m c) (ag m c) ⟨t.val * 512 + r, by omega⟩ k * du (adh m c) (ax m c) (ap m c) (ag m c) (awg m c) (awp m c) (agp m c) ⟨t.val * 512 + r, by omega⟩ j := by
  pointwise [k0_pay21]
  refine Finset.sum_congr rfl fun r _ => ?_
  simp only [du_at m c t ht r, w_x m c t ht r, w_g m c t]
  rfl

/-- What a block adds to the projection's gradient. -/
theorem dwp_at (c : Dev nD) (t : Fin cfg0.N) (k : Fin 256) (j : Fin 1024) (ht : t.val < 16) : k0_pay20 (F := Ideal) (iblk m c 4 t) (k0_pay17 (iblk m c 0 t) (iblk m c 2 t) (iblk m c 3 t) (iblk m c 7 t)) (ix2 k j)
    = ∑ r : Fin 512, ap m c (ix2 ⟨t.val * 512 + r, by omega⟩ k) * (dp (adh m c) (ax m c) (ap m c) (ag m c) (awg m c) (awp m c) (agp m c) ⟨t.val * 512 + r, by omega⟩ j * sg (ax m c) (ag m c) (awg m c) ⟨t.val * 512 + r, by omega⟩ j) := by
  pointwise [k0_pay20, k0_pay17, k0_pay11]
  refine Finset.sum_congr rfl fun r _ => ?_
  simp only [dp_at m c t ht r, w_p m c t ht r, w_u m c t ht r]
  rfl

theorem dg_at (c : Dev nD) (t : Fin cfg0.N) (j : Fin 1024) (ht : t.val < 16) : k0_pay25 (F := Ideal) (iblk m c 1 t) (k0_pay11 (iblk m c 2 t)) (k0_pay18 (iblk m c 0 t) (iblk m c 2 t) (iblk m c 3 t) (iblk m c 7 t)) (FloatOps.ofBits FTy.f32 1065353216#32) (iblk m c 6 t) (ix2 0 j)
    = ∑ r : Fin 512, dn (adh m c) (ax m c) (ap m c) (ag m c) (awg m c) (awp m c) (agp m c) ⟨t.val * 512 + r, by omega⟩ j * (ax m c (ix2 ⟨t.val * 512 + r, by omega⟩ j) * Ideal.rsqrt (meanSq (row (ax m c) ⟨t.val * 512 + r, by omega⟩))) := by
  pointwise [k0_pay25, k0_pay24, k0_pay23]
  refine Finset.sum_congr rfl fun r _ => ?_
  simp only [dn_at m c t ht r, w_x m c t ht r]
  rfl

theorem dgp_at (c : Dev nD) (t : Fin cfg0.N) (j : Fin 1024) (ht : t.val < 16) : k0_pay15 (F := Ideal) (iblk m c 0 t) (iblk m c 2 t) (iblk m c 3 t) (ix2 0 j)
    = ∑ r : Fin 512, adh m c (ix2 ⟨t.val * 512 + r, by omega⟩ j) * (pl (ax m c) (ap m c) (ag m c) (awg m c) (awp m c) ⟨t.val * 512 + r, by omega⟩ j * Ideal.rsqrt (meanSq (pl (ax m c) (ap m c) (ag m c) (awg m c) (awp m c) ⟨t.val * 512 + r, by omega⟩))) := by
  pointwise [k0_pay15, k0_pay14]
  refine Finset.sum_congr rfl fun r _ => ?_
  simp only [pl_at m c t ht r, rs_at m c t ht r, w_dh m c t ht r]

instance factsPre : Cert.Pre_finite_ple.Facts := by constructor <;> decide

section
variable (hpre : Cert.Pre_PleIdeal_finite_ple m) (c : Dev nD)
include hpre

theorem real_dh : ∀ i, Finite (adh m c i) := real_of_mask _ factsPre.bcast_S_S8192x1024 (hpre c).1

theorem real_x : ∀ i, Finite (ax m c i) := real_of_mask _ factsPre.bcast_S_S8192x1024 (hpre c).2.1

theorem real_p : ∀ i, Finite (ap m c i) := real_of_mask _ factsPre.bcast_S_S8192x256 (hpre c).2.2.1

theorem real_g : ∀ i, Finite (ag m c i) := real_of_mask _ factsPre.bcast_S_S1024 (hpre c).2.2.2.1

theorem real_wg : ∀ i, Finite (awg m c i) := real_of_mask _ factsPre.bcast_S_S1024x1024 (hpre c).2.2.2.2.1

theorem real_wp : ∀ i, Finite (awp m c i) := real_of_mask _ factsPre.bcast_S_S256x1024 (hpre c).2.2.2.2.2.1

theorem real_gp : ∀ i, Finite (agp m c i) := real_of_mask _ factsPre.bcast_S_S1024 (hpre c).2.2.2.2.2.2

/-- The residual's gradient: the kernel leaves what the reference computes. -/
theorem same_dx : val_main_v94 (F := Ideal) (adh m c) (ax m c) (ap m c) (ag m c) (awg m c) (awp m c) (agp m c) = (dats m 0 c).arrAt 8 (cfgs 0).N := by
  symm
  refine (dats m 0 c).arrAt_eq_of_covers 8 _ (by decide +kernel) fun t hf y => ?_
  have ht : t.val < 16 := lt_of_lt_of_eq t.isLt N_0
  blk_simp
  rw [after0_8]
  idx_vars y
  have e : (((cfg0.win 8).blk t).view.emb (ix2 y0 y1) : S8192x1024.Idx) = ix2 ⟨t.val * 512 + y0, by omega⟩ y1 := by blk_ext [idx t]
  refine Eq.trans ?_ ((congrArg (val_main_v94 (F := Ideal) (adh m c) (ax m c) (ap m c) (ag m c) (awg m c) (awp m c) (agp m c)) e).trans (ref_dx (adh m c) (ax m c) (ap m c) (ag m c) (awg m c) (awp m c) (agp m c) (real_dh m hpre c) (real_x m hpre c) (real_p m hpre c) (real_g m hpre c) (real_wg m hpre c) (real_wp m hpre c) (real_gp m hpre c) ⟨t.val * 512 + y0, by omega⟩ y1)).symm
  refine Eq.trans ?_ (dx_at m c t ht y0 y1)
  by_cases h : t.val % 16 = 0
  · rw [outsAt0_A m c t h]; frame_out
  · rw [outsAt0_B m c t h]; frame_out

/-- The gate weights' gradient: the kernel leaves what the reference computes. -/
theorem same_dwg : val_main_v72 (F := Ideal) (adh m c) (ax m c) (ap m c) (ag m c) (awg m c) (awp m c) (agp m c) = (dats m 0 c).arrAt 9 (cfgs 0).N := by
  symm
  refine (dats m 0 c).arrAt_eq_of_after_last 9 t0_15 (by decide +kernel) _ fun j => ?_
  blk_simp
  rw [after0_9, Pipeline.eq_sum_fin_of_reset_step_apply_last (fun n h => (outsAt0 m c n h).2.1) 16 (fun _ => 0)
    (fun t j => k0_pay21 (F := Ideal) (iblk m c 1 t) (k0_pay11 (iblk m c 2 t)) (k0_pay18 (iblk m c 0 t) (iblk m c 2 t) (iblk m c 3 t) (iblk m c 7 t)) (FloatOps.ofBits FTy.f32 1065353216#32) (iblk m c 5 t) j)
    (fun t h j => by
      rw [outsAt0_A m c t h]
      frame_out
      idx_vars j
      pointwise [k0_pay6, k0_pay2])
    (fun t h j => by
      rw [outsAt0_B m c t h]
      frame_out
      idx_vars j
      pointwise [k0_pay6])
    (le_of_eq N_0) t0_15 rfl j, zero_add]
  idx_vars j
  refine (Finset.sum_congr rfl fun p _ => dwg_at m c p j0 j1 (lt_of_lt_of_eq p.isLt N_0)).trans (Eq.trans ?_ (ref_dwg (adh m c) (ax m c) (ap m c) (ag m c) (awg m c) (awp m c) (agp m c) (real_dh m hpre c) (real_x m hpre c) (real_p m hpre c) (real_g m hpre c) (real_wg m hpre c) (real_wp m hpre c) (real_gp m hpre c) j0 j1).symm)
  exact (Fin.sum_univ_tiles 16 512 rfl fun n : Fin 8192 => nrm (ax m c) (ag m c) n j0 * du (adh m c) (ax m c) (ap m c) (ag m c) (awg m c) (awp m c) (agp m c) n j1).symm

/-- The projection's gradient: the kernel leaves what the reference computes. -/
theorem same_dwp : val_main_v69 (F := Ideal) (adh m c) (ax m c) (ap m c) (ag m c) (awg m c) (awp m c) (agp m c) = (dats m 0 c).arrAt 10 (cfgs 0).N := by
  symm
  refine (dats m 0 c).arrAt_eq_of_after_last 10 t0_15 (by decide +kernel) _ fun j => ?_
  blk_simp
  rw [after0_10, Pipeline.eq_sum_fin_of_reset_step_apply_last (fun n h => (outsAt0 m c n h).2.2.1) 16 (fun _ => 0)
    (fun t j => k0_pay20 (F := Ideal) (iblk m c 4 t) (k0_pay17 (iblk m c 0 t) (iblk m c 2 t) (iblk m c 3 t) (iblk m c 7 t)) j)
    (fun t h j => by
      rw [outsAt0_A m c t h]
      frame_out
      idx_vars j
      pointwise [k0_pay7, k0_pay3])
    (fun t h j => by
      rw [outsAt0_B m c t h]
      frame_out
      idx_vars j
      pointwise [k0_pay7])
    (le_of_eq N_0) t0_15 rfl j, zero_add]
  idx_vars j
  refine (Finset.sum_congr rfl fun p _ => dwp_at m c p j0 j1 (lt_of_lt_of_eq p.isLt N_0)).trans (Eq.trans ?_ (ref_dwp (adh m c) (ax m c) (ap m c) (ag m c) (awg m c) (awp m c) (agp m c) (real_dh m hpre c) (real_x m hpre c) (real_p m hpre c) (real_g m hpre c) (real_wg m hpre c) (real_wp m hpre c) (real_gp m hpre c) j0 j1).symm)
  exact (Fin.sum_univ_tiles 16 512 rfl fun n : Fin 8192 => ap m c (ix2 n j0) * (dp (adh m c) (ax m c) (ap m c) (ag m c) (awg m c) (awp m c) (agp m c) n j1 * sg (ax m c) (ag m c) (awg m c) n j1)).symm

/-- The gradient of the gain before the gate: the kernel leaves what the reference computes. -/
theorem same_dg : val_main_v95 (F := Ideal) (adh m c) (ax m c) (ap m c) (ag m c) (awg m c) (awp m c) (agp m c) = (dats m 0 c).arrAt 11 (cfgs 0).N := by
  symm
  refine (dats m 0 c).arrAt_eq_of_after_last 11 t0_15 (by decide +kernel) _ fun j => ?_
  blk_simp
  rw [after0_11, Pipeline.eq_sum_fin_of_reset_step_apply_last (fun n h => (outsAt0 m c n h).2.2.2.1) 16 (fun _ => 0)
    (fun t j => k0_pay25 (F := Ideal) (iblk m c 1 t) (k0_pay11 (iblk m c 2 t)) (k0_pay18 (iblk m c 0 t) (iblk m c 2 t) (iblk m c 3 t) (iblk m c 7 t)) (FloatOps.ofBits FTy.f32 1065353216#32) (iblk m c 6 t) j)
    (fun t h j => by
      rw [outsAt0_A m c t h]
      frame_out
      idx_vars j
      pointwise [k0_pay8, k0_pay4])
    (fun t h j => by
      rw [outsAt0_B m c t h]
      frame_out
      idx_vars j
      pointwise [k0_pay8])
    (le_of_eq N_0) t0_15 rfl j, zero_add]
  idx_vars j
  obtain rfl : j0 = 0 := Subsingleton.elim _ _
  refine (Finset.sum_congr rfl fun p _ => dg_at m c p j1 (lt_of_lt_of_eq p.isLt N_0)).trans (Eq.trans ?_ (ref_dg (adh m c) (ax m c) (ap m c) (ag m c) (awg m c) (awp m c) (agp m c) (real_dh m hpre c) (real_x m hpre c) (real_p m hpre c) (real_g m hpre c) (real_wg m hpre c) (real_wp m hpre c) (real_gp m hpre c) j1).symm)
  exact (Fin.sum_univ_tiles 16 512 rfl fun n : Fin 8192 => dn (adh m c) (ax m c) (ap m c) (ag m c) (awg m c) (awp m c) (agp m c) n j1 * (ax m c (ix2 n j1) * Ideal.rsqrt (meanSq (row (ax m c) n)))).symm

end

/-- The gradient of the gain after the gate: the kernel leaves what the reference computes. -/
theorem same_dgp (c : Dev nD) : val_main_v96 (F := Ideal) (adh m c) (ax m c) (ap m c) (ag m c) (awg m c) (awp m c) = (dats m 0 c).arrAt 12 (cfgs 0).N := by
  symm
  refine (dats m 0 c).arrAt_eq_of_after_last 12 t0_15 (by decide +kernel) _ fun j => ?_
  blk_simp
  rw [after0_12, Pipeline.eq_sum_fin_of_reset_step_apply_last (fun n h => (outsAt0 m c n h).2.2.2.2) 16 (fun _ => 0)
    (fun t j => k0_pay15 (F := Ideal) (iblk m c 0 t) (iblk m c 2 t) (iblk m c 3 t) j)
    (fun t h j => by
      rw [outsAt0_A m c t h]
      frame_out
      idx_vars j
      pointwise [k0_pay9, k0_pay5])
    (fun t h j => by
      rw [outsAt0_B m c t h]
      frame_out
      idx_vars j
      pointwise [k0_pay9])
    (le_of_eq N_0) t0_15 rfl j, zero_add]
  idx_vars j
  obtain rfl : j0 = 0 := Subsingleton.elim _ _
  refine (Finset.sum_congr rfl fun p _ => dgp_at m c p j1 (lt_of_lt_of_eq p.isLt N_0)).trans (Eq.trans ?_ (ref_dgp (adh m c) (ax m c) (ap m c) (ag m c) (awg m c) (awp m c) j1).symm)
  exact (Fin.sum_univ_tiles 16 512 rfl fun n : Fin 8192 => adh m c (ix2 n j1) * (pl (ax m c) (ap m c) (ag m c) (awg m c) (awp m c) n j1 * Ideal.rsqrt (meanSq (pl (ax m c) (ap m c) (ag m c) (awg m c) (awp m c) n)))).symm

/-- A function of seven arguments takes equal arguments to equal values. -/
theorem agree7 {A0 A1 A2 A3 A4 A5 A6 B : Type} (f : A0 → A1 → A2 → A3 → A4 → A5 → A6 → B) {x0 y0 : A0} {x1 y1 : A1} {x2 y2 : A2} {x3 y3 : A3} {x4 y4 : A4} {x5 y5 : A5} {x6 y6 : A6}
    (a0 : x0 = y0) (a1 : x1 = y1) (a2 : x2 = y2) (a3 : x3 = y3) (a4 : x4 = y4) (a5 : x5 = y5) (a6 : x6 = y6) : f x0 x1 x2 x3 x4 x5 x6 = f y0 y1 y2 y3 y4 y5 y6 := by
  rw [a0, a1, a2, a3, a4, a5, a6]

/-- What a run of the kernel leaves in its results. -/
theorem ran (g : Dev nD → PrngReg) :
    θ_run (defs (F := Ideal)) (onTc (τ := τ) (main (F := Ideal))) ⟨m, fun _ => 0, g⟩ (fun r => ∀ c : Dev nD,
      r.2.mem ((c.tc : Thread nD τ).loc main_v18_0) = (dats m 0 c).arrAt 8 (cfgs 0).N
      ∧ r.2.mem ((c.tc : Thread nD τ).loc main_v18_1) = (dats m 0 c).arrAt 9 (cfgs 0).N
      ∧ r.2.mem ((c.tc : Thread nD τ).loc main_v18_2) = (dats m 0 c).arrAt 10 (cfgs 0).N
      ∧ r.2.mem ((c.tc : Thread nD τ).loc main_v18_3) = (dats m 0 c).arrAt 11 (cfgs 0).N
      ∧ r.2.mem ((c.tc : Thread nD τ).loc main_v18_4) = (dats m 0 c).arrAt 12 (cfgs 0).N) :=
  θ_run_mono (run_main m g) fun r h c => ⟨(h c).1 8, (h c).1 9, (h c).1 10, (h c).1 11, (h c).1 12⟩

/-- Over the reals, kernel and reference compute the same function. -/
theorem claim : Cert.algebraic_PleIdeal_PleRefIdeal_pre_finite_ple := by
  intro m g m' g' hpre hagree
  refine ⟨fun c => (dats m 0 c).arrAt 8 (cfgs 0).N, fun c => (dats m 0 c).arrAt 9 (cfgs 0).N, fun c => (dats m 0 c).arrAt 10 (cfgs 0).N, fun c => (dats m 0 c).arrAt 11 (cfgs 0).N, fun c => (dats m 0 c).arrAt 12 (cfgs 0).N, ?_, ?_⟩
  · exact θ_run_mono (θ_run_and (ran m g) (Gen.frame m g)) fun r h c => ⟨(h.1 c).1, (h.1 c).2.1, (h.1 c).2.2.1, (h.1 c).2.2.2.1, (h.1 c).2.2.2.2, h.2.1 c⟩
  · refine θ_run_mono (Cert.PleRefIdeal.Value.run (F := Ideal) m' g') fun r h c => ?_
    obtain ⟨h1, h2, h3, h4, h5, hargs⟩ := h c
    obtain ⟨a0, a1, a2, a3, a4, a5, a6⟩ := hagree c
    refine ⟨(h1.trans (val_main_v94_eq m' c)).trans (Eq.trans ?_ (same_dx m hpre c)),
      (h2.trans (val_main_v72_eq m' c)).trans (Eq.trans ?_ (same_dwg m hpre c)),
      (h3.trans (val_main_v69_eq m' c)).trans (Eq.trans ?_ (same_dwp m hpre c)),
      (h4.trans (val_main_v95_eq m' c)).trans (Eq.trans ?_ (same_dg m hpre c)),
      (h5.trans (val_main_v96_eq m' c)).trans (Eq.trans ?_ (same_dgp m c)), hargs⟩
    · exact agree7 (val_main_v94 (F := Ideal)) a0 a1 a2 a3 a4 a5 a6
    · exact agree7 (val_main_v72 (F := Ideal)) a0 a1 a2 a3 a4 a5 a6
    · exact agree7 (val_main_v69 (F := Ideal)) a0 a1 a2 a3 a4 a5 a6
    · exact agree7 (val_main_v95 (F := Ideal)) a0 a1 a2 a3 a4 a5 a6
    · exact agree7 (fun x0 x1 x2 x3 x4 x5 (_ : Unit) => val_main_v96 (F := Ideal) x0 x1 x2 x3 x4 x5) a0 a1 a2 a3 a4 a5 (rfl : () = ())

end Cert.PleIdeal.Value

end

end
-- ==== Proof.Runs.lean ====
/- Sums over a run of neighbouring rows: as differences of running sums, and doubled step by step. -/
module

public import proofs.«01_k».proof.Proof.Norm

@[expose] public section

noncomputable section

open Idealize.ShloMosaic

namespace Cert.Common

/-- The `k` rows that end at row `n`. -/
def run (x : ℕ → EReal) (k n : ℕ) : EReal := ∑ j ∈ Finset.range k, x (n - j)

/-- The `k` rows that start at row `n`. -/
def ahead (x : ℕ → EReal) (k n : ℕ) : EReal := ∑ j ∈ Finset.range k, x (n + j)

theorem run_one (x : ℕ → EReal) (n : ℕ) : run x 1 n = x n := by
  simp [run]

theorem ahead_one (x : ℕ → EReal) (n : ℕ) : ahead x 1 n = x n := by
  simp [ahead]

theorem run_double (x : ℕ → EReal) (k n : ℕ) : run x k n + run x k (n - k) = run x (k + k) n := by
  unfold run
  rw [Finset.sum_range_add]
  exact congrArg _ (Finset.sum_congr rfl fun j _ => congrArg x (by omega))

theorem ahead_double (x : ℕ → EReal) (k n : ℕ) : ahead x k n + ahead x k (n + k) = ahead x (k + k) n := by
  unfold ahead
  rw [Finset.sum_range_add]
  exact congrArg _ (Finset.sum_congr rfl fun j _ => congrArg x (by omega))

variable {M : ℕ}

/-- A column continued by zeros. -/
def ext (f : Fin M → EReal) (q : ℕ) : EReal := if h : q < M then f ⟨q, h⟩ else 0

/-- A column after `a` rows of zeros, continued by zeros. -/
def late (a : ℕ) (f : Fin M → EReal) (q : ℕ) : EReal := if a ≤ q then ext f (q - a) else 0

theorem ext_finite {f : Fin M → EReal} (hf : ∀ y, Finite (f y)) (q : ℕ) : Finite (ext f q) := by
  unfold ext
  split_ifs with h
  · exact hf _
  · exact ⟨0, rfl⟩

theorem late_finite (a : ℕ) {f : Fin M → EReal} (hf : ∀ y, Finite (f y)) (q : ℕ) : Finite (late a f q) := by
  unfold late
  split_ifs with h
  · exact ext_finite hf _
  · exact ⟨0, rfl⟩

theorem sum_upto (f : Fin M → EReal) (i : Fin M) : (∑ y : Fin M, if y ≤ i then f y else 0) = ∑ q ∈ Finset.range (i + 1), ext f q := by
  have e : ∀ y : Fin M, (if y ≤ i then f y else 0) = if y.val ≤ i.val then ext f y.val else 0 := fun y => by
    unfold ext
    rw [dif_pos y.isLt]
    rfl
  rw [Finset.sum_congr rfl fun y _ => e y, Fin.sum_univ_eq_sum_range (fun q => if q ≤ i.val then ext f q else 0) M, ← Finset.sum_filter]
  refine Finset.sum_congr (Finset.ext fun q => ?_) fun _ _ => rfl
  simp only [Finset.mem_filter, Finset.mem_range]
  have := i.isLt
  omega

theorem sum_late (a k : ℕ) (f : Fin M → EReal) : ∑ q ∈ Finset.range (a + k), late a f q = ∑ q ∈ Finset.range k, ext f q := by
  rw [Finset.sum_range_add, Finset.sum_eq_zero (s := Finset.range a) (f := late a f) fun q hq => if_neg (by have := Finset.mem_range.1 hq; omega), zero_add]
  refine Finset.sum_congr rfl fun q _ => ?_
  unfold late
  rw [if_pos (by omega), Nat.add_sub_cancel_left]

theorem sum_early (a k : ℕ) (f : Fin M → EReal) (h : k ≤ a) : ∑ q ∈ Finset.range k, late a f q = 0 :=
  Finset.sum_eq_zero fun q hq => if_neg (by have := Finset.mem_range.1 hq; omega)

theorem Finite.sub_left {x : EReal} (hx : Finite x) (y : EReal) : x + y - x = y := by
  obtain ⟨r, rfl⟩ := hx
  exact EReal.add_sub_cancel_left

/-- The running sum less the one `w` rows earlier is the sum over the last `w` rows. -/
theorem run_of_upto (a w : ℕ) (hw : w ≤ a) {f : Fin M → EReal} (hf : ∀ y, Finite (f y)) (n : Fin M) :
    (∑ y : Fin M, if y ≤ n then f y else 0) - (if h : n.val < w then 0 else ∑ y : Fin M, if y ≤ ⟨n.val - w, by omega⟩ then f y else 0)
      = run (late a f) w (n + a) := by
  have hc := sum_late a (n.val + 1) f
  have hl : (if h : n.val < w then (0 : EReal) else ∑ y : Fin M, if y ≤ ⟨n.val - w, by omega⟩ then f y else 0)
      = ∑ q ∈ Finset.range (a + (n.val + 1) - w), late a f q := by
    split_ifs with h
    · exact (sum_early a _ f (by omega)).symm
    · rw [sum_upto, ← sum_late a, show a + ((⟨n.val - w, by omega⟩ : Fin M).val + 1) = a + (n.val + 1) - w by dsimp only; omega]
  rw [sum_upto, hl, ← hc, show a + (n.val + 1) = (a + (n.val + 1) - w) + w by omega, Finset.sum_range_add, Nat.add_sub_cancel,
    Finite.sub_left (Finite.sum _ fun q => late_finite a hf q), ← Finset.sum_range_reflect]
  refine Finset.sum_congr rfl fun j hj => congrArg (late a f) ?_
  have := Finset.mem_range.1 hj
  omega

theorem sum_from (f : Fin M → EReal) (g : ℕ → EReal) (hg : ∀ y : Fin M, f y = g y) (n : Fin M) :
    (∑ y : Fin M, if n ≤ y then f y else 0) = ∑ j ∈ Finset.range (M - n), g (n + j) := by
  have e : ∀ y : Fin M, (if n ≤ y then f y else 0) = if n.val ≤ y.val then g y.val else 0 := fun y => by
    rw [hg]
    rfl
  rw [Finset.sum_congr rfl fun y _ => e y, Fin.sum_univ_eq_sum_range (fun q => if n.val ≤ q then g q else 0) M, ← Finset.sum_filter, ← Finset.sum_Ico_eq_sum_range]
  refine Finset.sum_congr (Finset.ext fun q => ?_) fun _ _ => rfl
  simp only [Finset.mem_filter, Finset.mem_range, Finset.mem_Ico]
  omega

theorem sum_less {x y : ℕ → EReal} (hx : ∀ j, Finite (x j)) (hy : ∀ j, Finite (y j)) (k : ℕ) :
    ∑ j ∈ Finset.range k, (x j + -(y j)) + ∑ j ∈ Finset.range k, y j = ∑ j ∈ Finset.range k, x j := by
  rw [← Finset.sum_add_distrib]
  refine Finset.sum_congr rfl fun j _ => ?_
  obtain ⟨r, hr⟩ := hx j
  obtain ⟨s, hs⟩ := hy j
  rw [hr, hs, ← EReal.coe_neg, ← EReal.coe_add, ← EReal.coe_add, neg_add_cancel_right]

theorem Finite.right_cancel {x y z : EReal} (hz : Finite z) (h : x + z = y + z) : x = y := by
  obtain ⟨r, rfl⟩ := hz
  have := congrArg (· - (r : EReal)) h
  rwa [EReal.add_sub_cancel_right, EReal.add_sub_cancel_right] at this

/-- The sum from a row on of a column less the column `w` rows later is the sum over the next `w` rows. -/
theorem ahead_of_rest (w : ℕ) {f : Fin M → EReal} (hf : ∀ y, Finite (f y)) (n : Fin M) :
    (∑ y : Fin M, if n ≤ y then f y + (if h : y.val + w < M then -(f ⟨y.val + w, h⟩) else 0) else 0) = ahead (ext f) w n := by
  have he : ∀ y : Fin M, f y + (if h : y.val + w < M then -(f ⟨y.val + w, h⟩) else 0) = ext f y + -(ext f (y + w)) := fun y => by
    unfold ext
    rw [dif_pos y.isLt]
    split_ifs with h
    · rfl
    · rw [neg_zero]
  rw [sum_from _ (fun q => ext f q + -(ext f (q + w))) he]
  have hs := sum_less (fun j => ext_finite hf (n + j)) (fun j => ext_finite hf (n + j + w)) (M - n)
  have h1 : ∑ j ∈ Finset.range (w + (M - n)), ext f (n + j) = ahead (ext f) w n + ∑ j ∈ Finset.range (M - n), ext f (n + j + w) := by
    rw [Finset.sum_range_add]
    exact congrArg _ (Finset.sum_congr rfl fun j _ => congrArg (ext f) (by omega))
  have h2 : ∑ j ∈ Finset.range (w + (M - n)), ext f (n + j) = ∑ j ∈ Finset.range (M - n), ext f (n + j) := by
    rw [Nat.add_comm, Finset.sum_range_add, Finset.sum_eq_zero (s := Finset.range w) (f := fun q => ext f (n.val + (M - n.val + q))) fun q _ => dif_neg (by omega), add_zero]
  exact Finite.right_cancel (Finite.sum _ fun j => ext_finite hf (n + j + w)) (hs.trans (h2.symm.trans h1))

end Cert.Common

end

end
-- ==== Proof.Pool.lean ====
/- The pooled branch's gradient: means over the last few rows, row block by row block. -/
module

public import proofs.«01_k».proof.Proof.Gen.PoolIdeal.Frame
public import proofs.«01_k».proof.Defs
public import proofs.«01_k».proof.Proof.Gen.PoolRefIdeal.Run
public import proofs.«01_k».proof.Proof.Gen.PoolRefIdeal.Read
public import Idealize.ShloMosaic.Lib.WordCmp
public import Idealize.ShloMosaic.Lib.DynamicIndex
public import proofs.«01_k».proof.Proof.Runs
public import proofs.«01_k».proof.Proof.Window
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Common

namespace Cert.PoolIdeal.Value

open Cert.PoolIdeal Cert.PoolIdeal.Gen
open Cert.PoolRefIdeal.Read

/-- One of four values by a column's group of 64. -/
def pick {α : Type} (l : Fin 256) (a b c d : α) : α := if l.val < 64 then a else if l.val < 128 then b else if l.val < 192 then c else d

/-- How many rows a column's mean takes. -/
def span (l : Fin 256) : ℕ := pick l 2 4 8 16

/-- How many rows the mean at row `n` of a column takes, fewer at the start. -/
def share (l : Fin 256) (n : ℕ) : EReal :=
  min (1 + FloatOps.sitofp (F := Ideal) .f32 (BitVec.ofNat 32 n))
    (pick l (Ideal.ofBits .f32 0x40000000#32) (Ideal.ofBits .f32 0x40800000#32) (Ideal.ofBits .f32 0x41000000#32) (Ideal.ofBits .f32 0x41800000#32))

theorem four : Ideal.ofBits .f32 0x40800000#32 = ((4 : ℝ) : EReal) := by
  simp [Ideal.ofBits, Ideal.ieee, ← EReal.coe_mul]; norm_num

theorem eight : Ideal.ofBits .f32 0x41000000#32 = ((8 : ℝ) : EReal) := by
  simp [Ideal.ofBits, Ideal.ieee, ← EReal.coe_mul]; norm_num

theorem sixteen : Ideal.ofBits .f32 0x41800000#32 = ((16 : ℝ) : EReal) := by
  simp [Ideal.ofBits, Ideal.ieee, ← EReal.coe_mul]; norm_num

theorem float_nat (n : ℕ) (h : n < 2 ^ 31) : FloatOps.sitofp (F := Ideal) .f32 (BitVec.ofNat 32 n) = ((n : ℝ) : EReal) := by
  show (((BitVec.ofNat 32 n).toInt : ℝ) : EReal) = _
  rw [toInt_ofNat_of_lt h]
  simp

theorem share_real (l : Fin 256) (n : ℕ) (h : n < 2 ^ 31) : ∃ r : ℝ, r ≠ 0 ∧ share l n = (r : EReal) := by
  have hp : ∃ s : ℝ, 0 < s ∧ pick l (Ideal.ofBits .f32 0x40000000#32) (Ideal.ofBits .f32 0x40800000#32) (Ideal.ofBits .f32 0x41000000#32) (Ideal.ofBits .f32 0x41800000#32) = (s : EReal) := by
    rw [two, four, eight, sixteen]
    unfold pick
    split_ifs
    · exact ⟨2, by norm_num, rfl⟩
    · exact ⟨4, by norm_num, rfl⟩
    · exact ⟨8, by norm_num, rfl⟩
    · exact ⟨16, by norm_num, rfl⟩
  obtain ⟨s, hs, e⟩ := hp
  have hn : (0 : ℝ) ≤ n := Nat.cast_nonneg n
  refine ⟨min (1 + n) s, ne_of_gt (lt_min (by linarith) hs), ?_⟩
  unfold share
  rw [e, float_nat n h, coe_min, EReal.coe_add]
  rfl

theorem div_finite {x : EReal} (hx : Finite x) (l : Fin 256) (n : ℕ) (h : n < 2 ^ 31) : Finite (Ideal.div x (share l n)) := by
  obtain ⟨r, hr, e⟩ := share_real l n h
  rw [e, Ideal.div_coe hr]
  exact hx.mul ⟨_, rfl⟩

theorem div_zero_share (l : Fin 256) (n : ℕ) (h : n < 2 ^ 31) : Ideal.div 0 (share l n) = 0 := by
  obtain ⟨r, hr, e⟩ := share_real l n h
  rw [e, Ideal.div_coe hr, zero_mul]

/-- A sum of rows and the one before it. -/
theorem run_step (x : ℕ → EReal) (k n b : ℕ) (h : b = n - k) : run x k n + run x k b = run x (k + k) n := by
  rw [h, run_double]

/-- A sum of rows and the one after it. -/
theorem ahead_step (x : ℕ → EReal) (k n b : ℕ) (h : b = n + k) : ahead x k n + ahead x k b = ahead x (k + k) n := by
  rw [h, ahead_double]

/-- One column of the input. -/
def col (z : FVec Ideal S8192x256 .f32) (l : Fin 256) (n : Fin 8192) : EReal := z (ix2 n l)

/-- The mean of the last rows less the row itself. -/
def diff (z : FVec Ideal S8192x256 .f32) (n : Fin 8192) (l : Fin 256) : EReal :=
  Ideal.div (run (late 32 (col z l)) (span l) (n + 32)) (share l n) - z (ix2 n l)

theorem ref_sum0 (z : FVec Ideal S8192x256 .f32) (n : Fin 8192) (k : Fin 64) :
    val_main_v8 (F := Ideal) z (ix2 n k) = ∑ y : Fin 8192, if y ≤ n then col z ⟨k, by omega⟩ y else 0 := by
  unfold val_main_v8
  rw [window_upto _ _ _ (by pointwise [val_main_call0_call0_v0, val_main_call0_call0_cst]) _ _ _ _ rfl]
  refine Finset.sum_congr rfl fun y _ => ?_
  rw [show val_main_v4 (F := Ideal) z (ix2 y k) = col z ⟨k, by omega⟩ y from by unfold col; pointwise [val_main_v4]]

theorem ref_sum1 (z : FVec Ideal S8192x256 .f32) (n : Fin 8192) (k : Fin 64) :
    val_main_v19 (F := Ideal) z (ix2 n k) = ∑ y : Fin 8192, if y ≤ n then col z ⟨64 + k, by omega⟩ y else 0 := by
  unfold val_main_v19
  rw [window_upto _ _ _ (by pointwise [val_main_call1_call0_v0, val_main_call1_call0_cst]) _ _ _ _ rfl]
  refine Finset.sum_congr rfl fun y _ => ?_
  rw [show val_main_v5 (F := Ideal) z (ix2 y k) = col z ⟨64 + k, by omega⟩ y from by unfold col; pointwise [val_main_v5]]

theorem ref_sum2 (z : FVec Ideal S8192x256 .f32) (n : Fin 8192) (k : Fin 64) :
    val_main_v30 (F := Ideal) z (ix2 n k) = ∑ y : Fin 8192, if y ≤ n then col z ⟨128 + k, by omega⟩ y else 0 := by
  unfold val_main_v30
  rw [window_upto _ _ _ (by pointwise [val_main_call2_call0_v0, val_main_call2_call0_cst]) _ _ _ _ rfl]
  refine Finset.sum_congr rfl fun y _ => ?_
  rw [show val_main_v6 (F := Ideal) z (ix2 y k) = col z ⟨128 + k, by omega⟩ y from by unfold col; pointwise [val_main_v6]]

theorem ref_sum3 (z : FVec Ideal S8192x256 .f32) (n : Fin 8192) (k : Fin 64) :
    val_main_v41 (F := Ideal) z (ix2 n k) = ∑ y : Fin 8192, if y ≤ n then col z ⟨192 + k, by omega⟩ y else 0 := by
  unfold val_main_v41
  rw [window_upto _ _ _ (by pointwise [val_main_call3_call0_v0, val_main_call3_call0_cst]) _ _ _ _ rfl]
  refine Finset.sum_congr rfl fun y _ => ?_
  rw [show val_main_v7 (F := Ideal) z (ix2 y k) = col z ⟨192 + k, by omega⟩ y from by unfold col; pointwise [val_main_v7]]

theorem diff_of (z : FVec Ideal S8192x256 .f32) (hz : ∀ i, Finite (z i)) (n : Fin 8192) (l : Fin 256) (w : ℕ) (hw : w = span l) (v : EReal) (hv : min (1 + FloatOps.sitofp (F := Ideal) .f32 (BitVec.ofNat 32 n)) v = share l n) :
    Ideal.div ((∑ y : Fin 8192, if y ≤ n then col z l y else 0) - (if h : n.val < w then 0 else ∑ y : Fin 8192, if y ≤ ⟨n.val - w, by omega⟩ then col z l y else 0))
      (min (1 + FloatOps.sitofp (F := Ideal) .f32 (BitVec.ofNat 32 n)) v) - z (ix2 n l) = diff z n l := by
  unfold diff
  rw [hv, ← hw, run_of_upto (f := col z l) 32 w (by subst hw; unfold span pick; split_ifs <;> omega) (fun y => hz _)]

/-- The reference's mean minus the token. -/
theorem ref_d (z : FVec Ideal S8192x256 .f32) (hz : ∀ i, Finite (z i)) (n : Fin 8192) (g : Fin 4) (k : Fin 64) :
    val_main_v56 (F := Ideal) z (ix3 n g k) = diff z n ⟨g * 64 + k, by omega⟩ := by
  pointwise [val_main_v56, val_main_v55, val_main_v51, val_main_v7, val_main_v50, val_main_v49, val_main_v48, val_main_v47, val_main_cst_11, val_main_v3, val_main_v2, val_main_v0, val_main_v1, val_main_cst, val_main_v46, val_main_v44, val_main_v43, val_main_v42, val_main_cst_9, val_main_v54, val_main_v40, val_main_v6, val_main_v39, val_main_v38, val_main_v37, val_main_v36, val_main_cst_8, val_main_v35, val_main_v33, val_main_v32,  val_main_v31, val_main_cst_6, val_main_v53, val_main_v29, val_main_v5, val_main_v28, val_main_v27, val_main_v26, val_main_v25, val_main_cst_5, val_main_v24, val_main_v22, val_main_v21, val_main_v20, val_main_cst_3, val_main_v52, val_main_v18, val_main_v4, val_main_v17, val_main_v16, val_main_v15, val_main_v14, val_main_cst_2, val_main_v13, val_main_v11, val_main_v10,  val_main_v9, val_main_cst_0, ref_sum0, ref_sum1, ref_sum2, ref_sum3]
  fin_vals g with hg
  all_goals simp only [hg, Nat.lt_irrefl, Nat.sub_self, Nat.reduceSub, Nat.reduceLT, dite_true, dite_false]
  · exact (diff_of z hz n ⟨k, by omega⟩ 2 (by unfold span pick; rw [if_pos (by dsimp only; omega)]) _ (by unfold share pick; rw [if_pos (by dsimp only; omega)])).trans (congrArg (diff z n) (Fin.ext (by first | rfl | (dsimp only; omega))))
  · exact (diff_of z hz n ⟨64 + k, by omega⟩ 4 (by unfold span pick; rw [if_neg (by dsimp only; omega), if_pos (by dsimp only; omega)]) _ (by unfold share pick; rw [if_neg (by dsimp only; omega), if_pos (by dsimp only; omega)])).trans (congrArg (diff z n) (Fin.ext (by first | rfl | (dsimp only; omega))))
  · exact (diff_of z hz n ⟨128 + k, by omega⟩ 8 (by unfold span pick; rw [if_neg (by dsimp only; omega), if_neg (by dsimp only; omega), if_pos (by dsimp only; omega)]) _ (by unfold share pick; rw [if_neg (by dsimp only; omega), if_neg (by dsimp only; omega), if_pos (by dsimp only; omega)])).trans (congrArg (diff z n) (Fin.ext (by first | rfl | (dsimp only; omega))))
  · exact (diff_of z hz n ⟨192 + k, by omega⟩ 16 (by unfold span pick; rw [if_neg (by dsimp only; omega), if_neg (by dsimp only; omega), if_neg (by dsimp only; omega)]) _ (by unfold share pick; rw [if_neg (by dsimp only; omega), if_neg (by dsimp only; omega), if_neg (by dsimp only; omega)])).trans (congrArg (diff z n) (Fin.ext (by first | rfl | (dsimp only; omega))))

/-- The gradient at the mean's output. -/
def dd (w : FVec Ideal S4x64x64 .f32) (s : FVec Ideal S256 .f32) (dy : FVec Ideal S8192x256 .f32) (l : Fin 256) (n : Fin 8192) : EReal :=
  ∑ x : Fin 64, dy (ix2 n ⟨l.val / 64 * 64 + x, by omega⟩) * s (ix1 ⟨l.val / 64 * 64 + x, by omega⟩) * w (ix3 ⟨l.val / 64, by omega⟩ ⟨l.val % 64, by omega⟩ x)

theorem dd_finite (w : FVec Ideal S4x64x64 .f32) (s : FVec Ideal S256 .f32) (dy : FVec Ideal S8192x256 .f32) (hw : ∀ i, Finite (w i)) (hs : ∀ i, Finite (s i)) (hd : ∀ i, Finite (dy i)) (l n) : Finite (dd w s dy l n) :=
  Finite.sum _ fun x => ((hd _).mul (hs _)).mul (hw _)

/-- That gradient by the mean's size. -/
def part (w : FVec Ideal S4x64x64 .f32) (s : FVec Ideal S256 .f32) (dy : FVec Ideal S8192x256 .f32) (l : Fin 256) (n : Fin 8192) : EReal :=
  Ideal.div (dd w s dy l n) (share l n)

theorem rest_of (w : FVec Ideal S4x64x64 .f32) (s : FVec Ideal S256 .f32) (dy : FVec Ideal S8192x256 .f32) (hw : ∀ i, Finite (w i)) (hs : ∀ i, Finite (s i)) (hd : ∀ i, Finite (dy i)) (l : Fin 256) (n : Fin 8192) (k : ℕ) (hk : k = span l) (x : FVec Ideal PoolRefIdeal.S8192x64 .f32) (b : Fin 64)
    (hx : ∀ y : Fin 8192, x (ix2 y b) = part w s dy l y + (if h : y.val + k < 8192 then -(part w s dy l ⟨y.val + k, h⟩) else 0)) :
    (∑ y : Fin 8192, if n ≤ y then x (ix2 y b) else 0) = ahead (Common.ext (part w s dy l)) (span l) n := by
  rw [← hk, ← ahead_of_rest (f := part w s dy l) k (fun y => div_finite (dd_finite w s dy hw hs hd l y) l y (by omega)) n]
  exact Finset.sum_congr rfl fun y _ => by rw [hx]

theorem dd_eq (w : FVec Ideal S4x64x64 .f32) (s : FVec Ideal S256 .f32) (dy : FVec Ideal S8192x256 .f32) (n : Fin 8192) (g : Fin 4) (k : Fin 64) (l : Fin 256) (hl : l.val = g.val * 64 + k)
    (f : Fin 64 → Fin 256) (hf : ∀ x, (f x).val = g.val * 64 + x) :
    (∑ x : Fin 64, dy (ix2 n (f x)) * s (ix1 (f x)) * w (ix3 g k x)) = dd w s dy l n := by
  unfold dd
  refine Finset.sum_congr rfl fun x _ => ?_
  rw [show (⟨l.val / 64 * 64 + x, by omega⟩ : Fin 256) = f x from Fin.ext (by rw [hf]; dsimp only; omega),
    show (⟨l.val / 64, by omega⟩ : Fin 4) = g from Fin.ext (by dsimp only; omega), show (⟨l.val % 64, by omega⟩ : Fin 64) = k from Fin.ext (by dsimp only; omega)]

theorem ref_dd0 (w : FVec Ideal S4x64x64 .f32) (s : FVec Ideal S256 .f32) (dy : FVec Ideal S8192x256 .f32) (n : Fin 8192) (k : Fin 64) : val_main_v76 (F := Ideal) w s dy (ix2 n k) = dd w s dy ⟨k, by omega⟩ n := by
  pointwise [val_main_v76, val_main_v75, val_main_v72, val_main_v71, val_main_v70, val_main_v69, val_main_v67, val_main_v66, val_main_v60]
  exact dd_eq w s dy n 0 k ⟨k, by omega⟩ (by simp) (fun x => ⟨x, by omega⟩) (by simp)

theorem ref_dd1 (w : FVec Ideal S4x64x64 .f32) (s : FVec Ideal S256 .f32) (dy : FVec Ideal S8192x256 .f32) (n : Fin 8192) (k : Fin 64) : val_main_v78 (F := Ideal) w s dy (ix2 n k) = dd w s dy ⟨64 + k, by omega⟩ n := by
  pointwise [val_main_v78, val_main_v77, val_main_v72, val_main_v71, val_main_v70, val_main_v69, val_main_v67, val_main_v66, val_main_v60]
  exact dd_eq w s dy n 1 k ⟨64 + k, by omega⟩ (by simp) (fun x => ⟨64 + x, by omega⟩) (by simp)

theorem ref_dd2 (w : FVec Ideal S4x64x64 .f32) (s : FVec Ideal S256 .f32) (dy : FVec Ideal S8192x256 .f32) (n : Fin 8192) (k : Fin 64) : val_main_v80 (F := Ideal) w s dy (ix2 n k) = dd w s dy ⟨128 + k, by omega⟩ n := by
  pointwise [val_main_v80, val_main_v79, val_main_v72, val_main_v71, val_main_v70, val_main_v69, val_main_v67, val_main_v66, val_main_v60]
  exact dd_eq w s dy n 2 k ⟨128 + k, by omega⟩ (by simp) (fun x => ⟨128 + x, by omega⟩) (by simp)

theorem ref_dd3 (w : FVec Ideal S4x64x64 .f32) (s : FVec Ideal S256 .f32) (dy : FVec Ideal S8192x256 .f32) (n : Fin 8192) (k : Fin 64) : val_main_v82 (F := Ideal) w s dy (ix2 n k) = dd w s dy ⟨192 + k, by omega⟩ n := by
  pointwise [val_main_v82, val_main_v81, val_main_v72, val_main_v71, val_main_v70, val_main_v69, val_main_v67, val_main_v66, val_main_v60]
  exact dd_eq w s dy n 3 k ⟨192 + k, by omega⟩ (by simp) (fun x => ⟨192 + x, by omega⟩) (by simp)

theorem ref_rest0 (w : FVec Ideal S4x64x64 .f32) (s : FVec Ideal S256 .f32) (dy : FVec Ideal S8192x256 .f32) (hw : ∀ i, Finite (w i)) (hs : ∀ i, Finite (s i)) (hd : ∀ i, Finite (dy i)) (n : Fin 8192) (k : Fin 64) :
    val_main_v121 (F := Ideal) w s dy (ix2 n k) = ahead (Common.ext (part w s dy ⟨k, by omega⟩)) (span ⟨k, by omega⟩) n := by
  have hv : ∀ a, share ⟨k, by omega⟩ a = min (1 + FloatOps.sitofp (F := Ideal) .f32 (BitVec.ofNat 32 a)) (Ideal.ofBits .f32 0x40000000#32) := fun a => by
    unfold share pick
    rw [if_pos (by dsimp only; omega)]
  unfold val_main_v121
  rw [window_rest _ _ _ (by pointwise [val_main_call7_call0_v0, val_main_call7_call0_cst])]
  refine rest_of w s dy hw hs hd ⟨k, by omega⟩ n 2 (by unfold span pick; rw [if_pos (by dsimp only; omega)]) _ k fun y => ?_
  unfold part
  simp only [hv]
  pointwise [val_main_v120, val_main_v119, val_main_cst_17, val_main_v118, val_main_v116, val_main_v115, val_main_v114, val_main_v15, val_main_v14, val_main_cst_2, val_main_v3, val_main_v2, val_main_v0, val_main_v1, val_main_cst, ref_dd0]
  simp only [Nat.add_comm 2 y.val]
  congr 1
  by_cases h : y.val + 2 < 8192
  · rw [dif_pos h, dif_pos (by omega)]
  · rw [dif_neg h, dif_neg (by omega)]

theorem ref_rest1 (w : FVec Ideal S4x64x64 .f32) (s : FVec Ideal S256 .f32) (dy : FVec Ideal S8192x256 .f32) (hw : ∀ i, Finite (w i)) (hs : ∀ i, Finite (s i)) (hd : ∀ i, Finite (dy i)) (n : Fin 8192) (k : Fin 64) :
    val_main_v111 (F := Ideal) w s dy (ix2 n k) = ahead (Common.ext (part w s dy ⟨64 + k, by omega⟩)) (span ⟨64 + k, by omega⟩) n := by
  have hv : ∀ a, share ⟨64 + k, by omega⟩ a = min (1 + FloatOps.sitofp (F := Ideal) .f32 (BitVec.ofNat 32 a)) (Ideal.ofBits .f32 0x40800000#32) := fun a => by
    unfold share pick
    rw [if_neg (by dsimp only; omega), if_pos (by dsimp only; omega)]
  unfold val_main_v111
  rw [window_rest _ _ _ (by pointwise [val_main_call6_call0_v0, val_main_call6_call0_cst])]
  refine rest_of w s dy hw hs hd ⟨64 + k, by omega⟩ n 4 (by unfold span pick; rw [if_neg (by dsimp only; omega), if_pos (by dsimp only; omega)]) _ k fun y => ?_
  unfold part
  simp only [hv]
  pointwise [val_main_v110, val_main_v109, val_main_cst_16, val_main_v108, val_main_v106, val_main_v105, val_main_v104, val_main_v26, val_main_v25, val_main_cst_5, val_main_v3, val_main_v2, val_main_v0, val_main_v1, val_main_cst, ref_dd1]
  simp only [Nat.add_comm 4 y.val]
  congr 1
  by_cases h : y.val + 4 < 8192
  · rw [dif_pos h, dif_pos (by omega)]
  · rw [dif_neg h, dif_neg (by omega)]

theorem ref_rest2 (w : FVec Ideal S4x64x64 .f32) (s : FVec Ideal S256 .f32) (dy : FVec Ideal S8192x256 .f32) (hw : ∀ i, Finite (w i)) (hs : ∀ i, Finite (s i)) (hd : ∀ i, Finite (dy i)) (n : Fin 8192) (k : Fin 64) :
    val_main_v101 (F := Ideal) w s dy (ix2 n k) = ahead (Common.ext (part w s dy ⟨128 + k, by omega⟩)) (span ⟨128 + k, by omega⟩) n := by
  have hv : ∀ a, share ⟨128 + k, by omega⟩ a = min (1 + FloatOps.sitofp (F := Ideal) .f32 (BitVec.ofNat 32 a)) (Ideal.ofBits .f32 0x41000000#32) := fun a => by
    unfold share pick
    rw [if_neg (by dsimp only; omega), if_neg (by dsimp only; omega), if_pos (by dsimp only; omega)]
  unfold val_main_v101
  rw [window_rest _ _ _ (by pointwise [val_main_call5_call0_v0, val_main_call5_call0_cst])]
  refine rest_of w s dy hw hs hd ⟨128 + k, by omega⟩ n 8 (by unfold span pick; rw [if_neg (by dsimp only; omega), if_neg (by dsimp only; omega), if_pos (by dsimp only; omega)]) _ k fun y => ?_
  unfold part
  simp only [hv]
  pointwise [val_main_v100, val_main_v99, val_main_cst_15, val_main_v98, val_main_v96, val_main_v95, val_main_v94, val_main_v37, val_main_v36, val_main_cst_8, val_main_v3, val_main_v2, val_main_v0, val_main_v1, val_main_cst, ref_dd2]
  simp only [Nat.add_comm 8 y.val]
  congr 1
  by_cases h : y.val + 8 < 8192
  · rw [dif_pos h, dif_pos (by omega)]
  · rw [dif_neg h, dif_neg (by omega)]

theorem ref_rest3 (w : FVec Ideal S4x64x64 .f32) (s : FVec Ideal S256 .f32) (dy : FVec Ideal S8192x256 .f32) (hw : ∀ i, Finite (w i)) (hs : ∀ i, Finite (s i)) (hd : ∀ i, Finite (dy i)) (n : Fin 8192) (k : Fin 64) :
    val_main_v91 (F := Ideal) w s dy (ix2 n k) = ahead (Common.ext (part w s dy ⟨192 + k, by omega⟩)) (span ⟨192 + k, by omega⟩) n := by
  have hv : ∀ a, share ⟨192 + k, by omega⟩ a = min (1 + FloatOps.sitofp (F := Ideal) .f32 (BitVec.ofNat 32 a)) (Ideal.ofBits .f32 0x41800000#32) := fun a => by
    unfold share pick
    rw [if_neg (by dsimp only; omega), if_neg (by dsimp only; omega), if_neg (by dsimp only; omega)]
  unfold val_main_v91
  rw [window_rest _ _ _ (by pointwise [val_main_call4_call0_v0, val_main_call4_call0_cst])]
  refine rest_of w s dy hw hs hd ⟨192 + k, by omega⟩ n 16 (by unfold span pick; rw [if_neg (by dsimp only; omega), if_neg (by dsimp only; omega), if_neg (by dsimp only; omega)]) _ k fun y => ?_
  unfold part
  simp only [hv]
  pointwise [val_main_v90, val_main_v89, val_main_cst_14, val_main_v88, val_main_v86, val_main_v85, val_main_v84, val_main_v48, val_main_v47, val_main_cst_11, val_main_v3, val_main_v2, val_main_v0, val_main_v1, val_main_cst, ref_dd3]
  simp only [Nat.add_comm 16 y.val]
  congr 1
  by_cases h : y.val + 16 < 8192
  · rw [dif_pos h, dif_pos (by omega)]
  · rw [dif_neg h, dif_neg (by omega)]

/-- The reference's gradient of the pooled channels. -/
theorem ref_dz (w : FVec Ideal S4x64x64 .f32) (s : FVec Ideal S256 .f32) (dy : FVec Ideal S8192x256 .f32) (hw : ∀ i, Finite (w i)) (hs : ∀ i, Finite (s i)) (hd : ∀ i, Finite (dy i)) (n : Fin 8192) (l : Fin 256) :
    val_main_v137 (F := Ideal) w s dy (ix2 n l) = ahead (Common.ext (part w s dy l)) (span l) n - dd w s dy l n := by
  pointwise [val_main_v137, val_main_v123, val_main_v92, val_main_v102, val_main_v112, val_main_v122, val_main_v113, val_main_v103, val_main_v93, val_main_v83, ref_dd0, ref_dd1, ref_dd2, ref_dd3]
  refine Eq.trans ?_ ((add_comm _ _).trans (sub_eq_add_neg _ _).symm)
  by_cases h0 : l.val < 64
  · rw [dif_pos h0, ref_rest0 w s dy hw hs hd]
  · rw [dif_neg h0]
    by_cases h1 : l.val - 64 < 64
    · rw [dif_pos h1, ref_rest1 w s dy hw hs hd, show (⟨64 + (l.val - 64), by omega⟩ : Fin 256) = l from Fin.ext (by dsimp only; omega)]
    · rw [dif_neg h1]
      by_cases h2 : l.val - 64 - 64 < 64
      · rw [dif_pos h2, ref_rest2 w s dy hw hs hd, show (⟨128 + (l.val - 64 - 64), by omega⟩ : Fin 256) = l from Fin.ext (by dsimp only; omega)]
      · rw [dif_neg h2, ref_rest3 w s dy hw hs hd, show (⟨192 + (l.val - 64 - 64 - 64), by omega⟩ : Fin 256) = l from Fin.ext (by dsimp only; omega)]

theorem grp_eq : ∀ l : Fin 256, Scalar.select
                (IntOp.andi
                  (IntOp.cmpi CmpIPredicate.ne
                    (IntOp.subi (BitVec.setWidth 32 (IntOp.cmpi CmpIPredicate.sgt (BitVec.ofNat 32 ↑l) 0#32))
                      (BitVec.setWidth 32 (IntOp.cmpi CmpIPredicate.slt (BitVec.ofNat 32 ↑l) 0#32)))
                    (Scalar.subi (Scalar.extui (Scalar.cmpi CmpIPredicate.sgt 64#32 0#32))
                      (Scalar.extui (Scalar.cmpi CmpIPredicate.slt 64#32 0#32))))
                  (IntOp.cmpi CmpIPredicate.ne (IntOp.remsi ArithUnit.vector (BitVec.ofNat 32 ↑l) 64#32) 0#32))
                (IntOp.subi (IntOp.divsi ArithUnit.vector (BitVec.ofNat 32 ↑l) 64#32) 1#32)
                (IntOp.divsi ArithUnit.vector (BitVec.ofNat 32 ↑l) 64#32) = BitVec.ofNat 32 (l.val / 64) := by decide +kernel

theorem grp0 : ∀ l : Fin 256, IntOp.cmpi .eq (BitVec.ofNat 32 (l.val / 64)) 0#32 = if 64 ≤ l.val then 0#1 else 1#1 := by decide +kernel
theorem grp1 : ∀ l : Fin 256, IntOp.cmpi .eq (BitVec.ofNat 32 (l.val / 64)) 1#32 = if l.val / 64 ≠ 1 then 0#1 else 1#1 := by decide +kernel
theorem grp2 : ∀ l : Fin 256, IntOp.cmpi .eq (BitVec.ofNat 32 (l.val / 64)) 2#32 = if l.val / 64 ≠ 2 then 0#1 else 1#1 := by decide +kernel

theorem pick_sel {α : Type} (l : Fin 256) (a b c d : α) :
    Scalar.select (IntOp.cmpi .eq (BitVec.ofNat 32 (l.val / 64)) 0#32) a (Scalar.select (IntOp.cmpi .eq (BitVec.ofNat 32 (l.val / 64)) 1#32) b
      (Scalar.select (IntOp.cmpi .eq (BitVec.ofNat 32 (l.val / 64)) 2#32) c d)) = pick l a b c d := by
  rw [grp0, grp1, grp2, select_ite, select_ite, select_ite]
  unfold pick
  have := l.isLt
  split_ifs <;> first | rfl | omega

theorem pick_span {α : Type} (l : Fin 256) (f : ℕ → α) : pick l (f 2) (f 4) (f 8) (f 16) = f (span l) := by
  unfold span pick
  split_ifs <;> rfl

variable (m : (ℓ : Loc nD τ sig) → Buf (Elt Ideal) ℓ)

/-- The block of each window at each grid point. -/
theorem idx : ∀ t : Fin cfg0.N, win0_0.index t = ![t.val, 0] ∧ win0_1.index t = ![t.val, 0] ∧ win0_2.index t = ![t.val * 32 - 1, 0]
    ∧ win0_3.index t = ![min (t.val * 32 + 32) 255, 0] ∧ win0_4.index t = ![0, 0]
    ∧ win0_5.index t = ![0, 0] ∧ win0_6.index t = ![t.val, 0] ∧ win0_7.index t = ![0, 0] ∧ win0_8.index t = ![0, 0] :=
  (by decide +kernel : ∀ t : Fin grid0.N, _)

theorem coord : ∀ t : Fin cfg0.N, (grid0.coords t 0).val = t.val := (by decide +kernel : ∀ t : Fin grid0.N, _)

theorem first_row : ∀ t : Fin cfg0.N, Scalar.cmpi .sgt (BitVec.ofNat 32 (grid0.coords t 0).val) 0#32 = if t.val = 0 then 0#1 else 1#1 :=
  (by decide +kernel : ∀ t : Fin grid0.N, _)

theorem last_row : ∀ t : Fin cfg0.N, Scalar.cmpi .slt (BitVec.ofNat 32 (grid0.coords t 0).val) 7#32 = if t.val = 7 then 0#1 else 1#1 :=
  (by decide +kernel : ∀ t : Fin grid0.N, _)

theorem below (a : Fin 1056) : IntOp.cmpi .slt (BitVec.ofNat 32 a) 1024#32 = if 1024 ≤ a.val then 0#1 else 1#1 := by
  word_cmp
  by_cases h : (a : ℕ) < 1024 <;> simp [h, Nat.not_le.2, Nat.le_of_not_lt]

theorem above (a : ℕ) (ha : a < 1056) : IntOp.cmpi .sge (BitVec.ofNat 32 a) 32#32 = if a < 32 then 0#1 else 1#1 := by
  word_cmp
  by_cases h : (a : ℕ) < 32 <;> simp [h, Nat.not_le.2, Nat.le_of_not_lt]

theorem place (t : Fin cfg0.N) (q : ℕ) (hq : q < 1056) :
    FloatOps.sitofp (F := Ideal) .f32 (IntOp.addi (IntOp.addi (Scalar.muli (BitVec.ofNat 32 (grid0.coords t 0).val) 1024#32) (BitVec.ofNat 32 q)) 1#32)
      = 1 + FloatOps.sitofp (F := Ideal) .f32 (BitVec.ofNat 32 (t.val * 1024 + q)) := by
  have ht : t.val < 8 := lt_of_lt_of_eq t.isLt N_0
  have e : IntOp.addi (IntOp.addi (Scalar.muli (BitVec.ofNat 32 (grid0.coords t 0).val) 1024#32) (BitVec.ofNat 32 q)) 1#32 = BitVec.ofNat 32 (t.val * 1024 + q + 1) := by
    rw [coord, BitVec.ofNat_add, BitVec.ofNat_add, BitVec.ofNat_mul]
    rfl
  rw [e, float_nat _ (by omega), float_nat _ (by omega), add_comm, ← EReal.coe_one, ← EReal.coe_add]
  norm_num

abbrev az (c : Dev nD) : FVec Ideal S8192x256 .f32 := m ((c : Thread nD τ).loc main_arg0)
abbrev aw (c : Dev nD) : FVec Ideal S4x64x64 .f32 := m ((c : Thread nD τ).loc main_arg1)
abbrev asc (c : Dev nD) : FVec Ideal S256 .f32 := m ((c : Thread nD τ).loc main_arg2)
abbrev ady (c : Dev nD) : FVec Ideal S8192x256 .f32 := m ((c : Thread nD τ).loc main_arg3)

/-- The row block with the last 32 rows before it, zeros before the first. -/
theorem ext_at (c : Dev nD) (t : Fin cfg0.N) (q : ℕ) (hq : q < 1056) (l : Fin 256) :
    Scalar.select
        (IntOp.ori (IntOp.cmpi CmpIPredicate.sge (BitVec.ofNat 32 q) 32#32)
          (Scalar.cmpi CmpIPredicate.sgt (BitVec.ofNat 32 ↑(grid0.coords t 0)) 0#32))
        (if h : q < 32 then ((iblk m c 2 t : FVec Ideal S32x256 .f32) (ix2 ⟨q, h⟩ l) : EReal) else ((iblk m c 0 t : FVec Ideal S1024x256 .f32) (ix2 ⟨q - 32, by omega⟩ l) : EReal)) (0 : EReal)
      = late 32 (col (az m c) l) (t.val * 1024 + q) := by
  have ht : t.val < 8 := lt_of_lt_of_eq t.isLt N_0
  unfold late Common.ext col
  rw [first_row t, above q hq, ori_ite, select_ite]
  by_cases h1 : q < 32
  · by_cases h2 : t.val = 0
    · rw [if_pos ⟨h1, h2⟩, if_neg (by omega)]
    · rw [if_neg (by omega)]
      simp only [dif_pos h1]
      rw [if_pos (by omega), dif_pos (by omega)]
      blk_point [iblk, V, idx t]
  · rw [if_neg (by omega)]
    simp only [dif_neg h1]
    rw [if_pos (by omega), dif_pos (by omega)]
    blk_point [iblk, V, idx t]

/-- The sum over a window of two. -/
theorem s2_at (c : Dev nD) (t : Fin cfg0.N) (q : Fin 1056) (l : Fin 256) (h : 1 ≤ q.val) :
    k0_pay6 (F := Ideal) (grid0.coords t) (iblk m c 0 t) (iblk m c 2 t) (ix2 q l) = run (late 32 (col (az m c) l)) 2 (t.val * 1024 + q) := by
  pointwise [k0_pay6]
  rw [ext_at m c t q q.isLt l, ext_at m c t ((q.val + 1056 - 1) % 1056) (by omega) l]
  have e := run_step (late 32 (col (az m c) l)) 1 (t.val * 1024 + q) (t.val * 1024 + (q.val + 1056 - 1) % 1056) (by omega)
  rw [run_one, run_one] at e
  exact e

/-- The sum over a window of four. -/
theorem s4_at (c : Dev nD) (t : Fin cfg0.N) (q : Fin 1056) (l : Fin 256) (h : 3 ≤ q.val) :
    k0_pay7 (F := Ideal) (grid0.coords t) (iblk m c 0 t) (iblk m c 2 t) (ix2 q l) = run (late 32 (col (az m c) l)) 4 (t.val * 1024 + q) := by
  pointwise [k0_pay7]
  rw [s2_at m c t q l (by omega), s2_at m c t ⟨(q.val + 1056 - 2) % 1056, by omega⟩ l (by show 1 ≤ _ % _; omega)]
  exact run_step _ 2 _ _ (by show t.val * 1024 + (q.val + 1056 - 2) % 1056 = _; omega)

/-- The sum over a window of eight. -/
theorem s8_at (c : Dev nD) (t : Fin cfg0.N) (q : Fin 1056) (l : Fin 256) (h : 7 ≤ q.val) :
    k0_pay8 (F := Ideal) (grid0.coords t) (iblk m c 0 t) (iblk m c 2 t) (ix2 q l) = run (late 32 (col (az m c) l)) 8 (t.val * 1024 + q) := by
  pointwise [k0_pay8]
  rw [s4_at m c t q l (by omega), s4_at m c t ⟨(q.val + 1056 - 4) % 1056, by omega⟩ l (by show 3 ≤ _ % _; omega)]
  exact run_step _ 4 _ _ (by show t.val * 1024 + (q.val + 1056 - 4) % 1056 = _; omega)

/-- The sum over a window of sixteen. -/
theorem s16_at (c : Dev nD) (t : Fin cfg0.N) (q : Fin 1056) (l : Fin 256) (h : 15 ≤ q.val) :
    k0_pay9 (F := Ideal) (grid0.coords t) (iblk m c 0 t) (iblk m c 2 t) (ix2 q l) = run (late 32 (col (az m c) l)) 16 (t.val * 1024 + q) := by
  pointwise [k0_pay9]
  rw [s8_at m c t q l (by omega), s8_at m c t ⟨(q.val + 1056 - 8) % 1056, by omega⟩ l (by show 7 ≤ _ % _; omega)]
  exact run_step _ 8 _ _ (by show t.val * 1024 + (q.val + 1056 - 8) % 1056 = _; omega)

/-- A block's mean minus the token. -/
theorem d_at (c : Dev nD) (t : Fin cfg0.N) (ht : t.val < 8) (q : Fin 1024) (l : Fin 256) :
    k0_pay13 (F := Ideal) (BitVec.ofNat 32 ↑(grid0.coords t 0)) (iblk m c 0 t)
            (k0_pay6 (grid0.coords t) (iblk m c 0 t) (iblk m c 2 t))
            (k0_pay7 (grid0.coords t) (iblk m c 0 t) (iblk m c 2 t))
            (k0_pay8 (grid0.coords t) (iblk m c 0 t) (iblk m c 2 t))
            (k0_pay9 (grid0.coords t) (iblk m c 0 t) (iblk m c 2 t))
            (iota Kind.tc S1024x256 32 [1] iota_S1024x256_d1_w32) k0_pay10 k0_pay11 k0_pay12 (ix2 q l)
      = diff (az m c) ⟨t.val * 1024 + q, by omega⟩ l := by
  pointwise [k0_pay13, k0_pay10, k0_pay11, k0_pay12]
  rw [s2_at m c t ⟨32 + q, by omega⟩ l (by show 1 ≤ 32 + _; omega), s4_at m c t ⟨32 + q, by omega⟩ l (by show 3 ≤ 32 + _; omega), s8_at m c t ⟨32 + q, by omega⟩ l (by show 7 ≤ 32 + _; omega), s16_at m c t ⟨32 + q, by omega⟩ l (by show 15 ≤ 32 + _; omega)]
  simp only [grp_eq, pick_sel]
  rw [pick_span l fun k => run (late 32 (col (az m c) l)) k (t.val * 1024 + (32 + q.val)), place t q (by omega)]
  unfold diff share
  rw [show (iblk m c 0 t : FVec Ideal S1024x256 .f32) (ix2 q l) = az m c (ix2 ⟨t.val * 1024 + q, by omega⟩ l) from by blk_point [iblk, V, idx t],
    show t.val * 1024 + (32 + q.val) = t.val * 1024 + q.val + 32 by omega]

theorem start_at (v : BitVec 32) (n : ℕ) (hv : v = 0#32 ∧ n = 0 ∨ v = 64#32 ∧ n = 64 ∨ v = 128#32 ∧ n = 128 ∨ v = 192#32 ∧ n = 192) (r : S64x64.rank = S256x256.rank) (h : 0 < S_.numel) (k : Fin S256x256.rank) :
    Host.clampedStart S256x256 S64x64 r (fun k => BitVec.toInt ((![constantI S_ 32 v, constantI S_ 32 v] : Fin 2 → IVec S_ 32) k (Shape.Idx.first h))) k = n := by
  refine Host.clampedStart_of_le _ _ _ _ ?_ ?_
  · fin_cases k <;> (rcases hv with ⟨rfl, rfl⟩ | ⟨rfl, rfl⟩ | ⟨rfl, rfl⟩ | ⟨rfl, rfl⟩ <;> rfl)
  · have e : n + 64 ≤ 256 := by omega
    fin_cases k <;> exact e

/-- Four blocks written along the diagonal. -/
theorem ladder (W : Fin 4 → Fin 64 → Fin 64 → EReal) (l x : Fin 256) :
    (if h : 192 ≤ l.val ∧ 192 ≤ x.val then W 3 ⟨l.val - 192, by omega⟩ ⟨x.val - 192, by omega⟩
      else if h : (128 ≤ l.val ∧ l.val < 128 + 64) ∧ 128 ≤ x.val ∧ x.val < 128 + 64 then W 2 ⟨l.val - 128, by omega⟩ ⟨x.val - 128, by omega⟩
      else if h : (64 ≤ l.val ∧ l.val < 64 + 64) ∧ 64 ≤ x.val ∧ x.val < 64 + 64 then W 1 ⟨l.val - 64, by omega⟩ ⟨x.val - 64, by omega⟩
      else if h : (0 ≤ l.val ∧ l.val < 0 + 64) ∧ 0 ≤ x.val ∧ x.val < 0 + 64 then W 0 ⟨l.val - 0, by omega⟩ ⟨x.val - 0, by omega⟩ else 0)
    = if l.val / 64 = x.val / 64 then W ⟨l.val / 64, by omega⟩ ⟨l.val % 64, by omega⟩ ⟨x.val % 64, by omega⟩ else 0 := by
  have e (g : Fin 4) (a b : Fin 64) (h1 : g.val = l.val / 64) (h2 : a.val = l.val % 64) (h3 : b.val = x.val % 64) :
      W g a b = W ⟨l.val / 64, by omega⟩ ⟨l.val % 64, by omega⟩ ⟨x.val % 64, by omega⟩ :=
    congr (congr (congrArg W (Fin.ext h1)) (Fin.ext h2)) (Fin.ext h3)
  by_cases h3 : 192 ≤ l.val ∧ 192 ≤ x.val
  · rw [dif_pos h3, if_pos (by omega)]
    exact e 3 _ _ (by show 3 = _; omega) (by dsimp only; omega) (by dsimp only; omega)
  rw [dif_neg h3]
  by_cases h2 : (128 ≤ l.val ∧ l.val < 128 + 64) ∧ 128 ≤ x.val ∧ x.val < 128 + 64
  · rw [dif_pos h2, if_pos (by omega)]
    exact e 2 _ _ (by show 2 = _; omega) (by dsimp only; omega) (by dsimp only; omega)
  rw [dif_neg h2]
  by_cases h1 : (64 ≤ l.val ∧ l.val < 64 + 64) ∧ 64 ≤ x.val ∧ x.val < 64 + 64
  · rw [dif_pos h1, if_pos (by omega)]
    exact e 1 _ _ (by show 1 = _; omega) (by dsimp only; omega) (by dsimp only; omega)
  rw [dif_neg h1]
  by_cases h0 : (0 ≤ l.val ∧ l.val < 0 + 64) ∧ 0 ≤ x.val ∧ x.val < 0 + 64
  · rw [dif_pos h0, if_pos (by omega)]
    exact e 0 _ _ (by show 0 = _; omega) (by dsimp only; omega) (by dsimp only; omega)
  rw [dif_neg h0, if_neg (by omega)]

/-- One group's weight written at its place. -/
def placed (w : FVec Ideal S4x64x64 .f32) (x : FVec Ideal S256x256 .f32) (v : BitVec 32) (u : FVec Ideal S1x64x64 .f32) : FVec Ideal S256x256 .f32 :=
  Host.dynamicUpdateSlice x (shapeCast S64x64 u shapeCasts_S1x64x64_S64x64) (fun k => BitVec.toInt ((![constantI S_ 32 v, constantI S_ 32 v] : Fin 2 → IVec S_ 32) k (Shape.Idx.first h_S_))) updateFits_S256x256_S64x64

/-- The weights of the four groups along the diagonal. -/
def hostBd (w : FVec Ideal S4x64x64 .f32) : FVec Ideal S256x256 .bf16 :=
  truncf .bf16 (placed w (placed w (placed w (placed w (broadcastInDim S256x256 ![] bcast_S_S256x256 (constant S_ .f32 0x00000000#32))
    0#32 (extractStridedSlice S1x64x64 ![0, 0, 0] w slices_S4x64x64_S1x64x64_0_0_0))
    64#32 (extractStridedSlice S1x64x64 ![1, 0, 0] w slices_S4x64x64_S1x64x64_1_0_0))
    128#32 (extractStridedSlice S1x64x64 ![2, 0, 0] w slices_S4x64x64_S1x64x64_2_0_0))
    192#32 (extractStridedSlice S1x64x64 ![3, 0, 0] w slices_S4x64x64_S1x64x64_3_0_0)) bitsLt_bf16_f32

/-- The block-diagonal weight as the kernel reads it. -/
theorem w_read (c : Dev nD) (t : Fin cfg0.N) (l x : Fin 256) : (iblk m c 4 t : FVec Ideal S256x256 .bf16) (ix2 l x)
    = if l.val / 64 = x.val / 64 then aw m c (ix3 ⟨l.val / 64, by omega⟩ ⟨l.val % 64, by omega⟩ ⟨x.val % 64, by omega⟩) else 0 := by
  refine Eq.trans (b := (V m c main_v13 : FVec Ideal S256x256 .bf16) (ix2 l x)) (by blk_point [iblk, idx t]) ?_
  have e : (V m c main_v13 : FVec Ideal S256x256 .bf16) = hostBd (aw m c) := by
    unfold V
    simp only [List.flatten, List.append, hostOps0]
    after_results_simp_entrywise
    rfl
  rw [e]
  unfold hostBd placed
  pointwise []
  simp only [start_at 0#32 0 (by decide), start_at 64#32 64 (by decide), start_at 128#32 128 (by decide), start_at 192#32 192 (by decide)]
  exact ladder (fun g a b => aw m c (ix3 g a b)) l x

theorem s_read (c : Dev nD) (t : Fin cfg0.N) (x : Fin 256) : (iblk m c 5 t : FVec Ideal S1x256 .f32) (ix2 0 x) = asc m c (ix1 x) := by
  refine Eq.trans (b := (V m c main_v14 : FVec Ideal S1x256 .f32) (ix2 0 x)) (by blk_point [iblk, idx t]) ?_
  rw [show V m c main_v14 = (broadcastInDim S1x256 ![1] bcast_S256_S1x256_1 (asc m c) : FVec Ideal S1x256 .f32) from by
    unfold V; simp only [List.flatten, List.append, hostOps0]; after_results_simp_entrywise]
  pointwise []

/-- A sum over a row of the block-diagonal weights is one over its group. -/
theorem diag_sum (w : FVec Ideal S4x64x64 .f32) (l : Fin 256) (f : Fin 256 → EReal) :
    (∑ x : Fin 256, f x * (if l.val / 64 = x.val / 64 then w (ix3 ⟨l.val / 64, by omega⟩ ⟨l.val % 64, by omega⟩ ⟨x.val % 64, by omega⟩) else 0))
      = ∑ x : Fin 64, f ⟨l.val / 64 * 64 + x, by omega⟩ * w (ix3 ⟨l.val / 64, by omega⟩ ⟨l.val % 64, by omega⟩ x) := by
  rw [Fin.sum_univ_tiles 4 64 rfl fun x : Fin 256 => f x * (if l.val / 64 = x.val / 64 then w (ix3 ⟨l.val / 64, by omega⟩ ⟨l.val % 64, by omega⟩ ⟨x.val % 64, by omega⟩) else 0)]
  rw [Finset.sum_eq_single (⟨l.val / 64, by omega⟩ : Fin 4)]
  · refine Finset.sum_congr rfl fun x _ => ?_
    rw [if_pos (by dsimp only; omega)]
    exact congrArg (fun y => _ * w (ix3 _ _ y)) (Fin.ext (by dsimp only; omega))
  · intro p _ hp
    refine Finset.sum_eq_zero fun x _ => ?_
    rw [if_neg fun e => hp (Fin.ext (by dsimp only at e ⊢; omega)), mul_zero]
  · exact fun h => absurd (Finset.mem_univ _) h

theorem diag_sum' (w : FVec Ideal S4x64x64 .f32) (l : Fin 256) (f : Fin 256 → EReal) :
    (∑ x : Fin 256, f x * (if x.val / 64 = l.val / 64 then w (ix3 ⟨x.val / 64, by omega⟩ ⟨x.val % 64, by omega⟩ ⟨l.val % 64, by omega⟩) else 0))
      = ∑ x : Fin 64, f ⟨l.val / 64 * 64 + x, by omega⟩ * w (ix3 ⟨l.val / 64, by omega⟩ x ⟨l.val % 64, by omega⟩) := by
  rw [Fin.sum_univ_tiles 4 64 rfl fun x : Fin 256 => f x * (if x.val / 64 = l.val / 64 then w (ix3 ⟨x.val / 64, by omega⟩ ⟨x.val % 64, by omega⟩ ⟨l.val % 64, by omega⟩) else 0)]
  rw [Finset.sum_eq_single (⟨l.val / 64, by omega⟩ : Fin 4)]
  · refine Finset.sum_congr rfl fun x _ => ?_
    rw [if_pos (by dsimp only; omega)]
    exact congrArg (fun v : EReal => f _ * v) (congrArg w (congrArg₂ (fun (y : Fin 4) (z : Fin 64) => (ix3 y z ⟨l.val % 64, by omega⟩ : S4x64x64.Idx)) (Fin.ext (by dsimp only; omega)) (Fin.ext (by dsimp only; omega))))
  · intro p _ hp
    refine Finset.sum_eq_zero fun x _ => ?_
    rw [if_neg fun e => hp (Fin.ext (by dsimp only at e ⊢; omega)), mul_zero]
  · exact fun h => absurd (Finset.mem_univ _) h

/-- A block's gradient at that difference. -/
theorem dd_at (c : Dev nD) (t : Fin cfg0.N) (q : Fin 1056) (l : Fin 256) :
    k0_pay18 (F := Ideal) (BitVec.ofNat 32 ↑(grid0.coords t 0)) (iblk m c 1 t) (iblk m c 3 t) (iblk m c 5 t) (iblk m c 4 t) (ix2 q l)
      = Common.ext (dd (aw m c) (asc m c) (ady m c) l) (t.val * 1024 + q) := by
  have ht : t.val < 8 := lt_of_lt_of_eq t.isLt N_0
  pointwise [k0_pay18, k0_pay16]
  simp only [w_read m c t, s_read m c t]
  rw [diag_sum, last_row t, below q, ori_ite, select_ite]
  unfold Common.ext dd
  by_cases h1 : q.val < 1024
  · rw [if_neg (by omega), dif_pos (by omega)]
    refine Finset.sum_congr rfl fun x _ => ?_
    simp only [dif_pos h1]
    congr 2
    blk_point [iblk, V, idx t]
  · by_cases h2 : t.val = 7
    · rw [if_pos (by omega), dif_neg (by omega)]
    · rw [if_neg (by omega), dif_pos (by omega)]
      refine Finset.sum_congr rfl fun x _ => ?_
      simp only [dif_neg h1]
      congr 2
      blk_point [iblk, V, idx t]

theorem p19 (q : Fin 1056) (l : Fin 256) : k0_pay19 (ix2 q l) = IntOp.divsi ArithUnit.vector (BitVec.ofNat 32 ↑l) 64#32 := by
  pointwise [k0_pay19]

theorem p20 (q : Fin 1056) (l : Fin 256) : k0_pay20 (ix2 q l) = IntOp.cmpi CmpIPredicate.ne (IntOp.subi (BitVec.setWidth 32 (IntOp.cmpi CmpIPredicate.sgt (BitVec.ofNat 32 ↑l) 0#32))
      (BitVec.setWidth 32 (IntOp.cmpi CmpIPredicate.slt (BitVec.ofNat 32 ↑l) 0#32))) (Scalar.subi (Scalar.extui (Scalar.cmpi CmpIPredicate.sgt 64#32 0#32)) (Scalar.extui (Scalar.cmpi CmpIPredicate.slt 64#32 0#32))) := by
  pointwise [k0_pay20]

theorem grp (q : Fin 1056) (l : Fin 256) : k0_pay21 (iota Kind.tc S1056x256 32 [1] iota_S1056x256_d1_w32) 64#32 k0_pay19 k0_pay20 (ix2 q l) = BitVec.ofNat 32 (l.val / 64) := by
  pointwise [k0_pay21, p19, p20]
  exact grp_eq l

theorem part_at (c : Dev nD) (t : Fin cfg0.N) (q : Fin 1056) (l : Fin 256) :
    Ideal.div (Common.ext (dd (aw m c) (asc m c) (ady m c) l) (t.val * 1024 + q)) (share l (t.val * 1024 + q)) = Common.ext (part (aw m c) (asc m c) (ady m c) l) (t.val * 1024 + q) := by
  have ht : t.val < 8 := lt_of_lt_of_eq t.isLt N_0
  unfold Common.ext part
  by_cases h : t.val * 1024 + q < 8192
  · rw [dif_pos h, dif_pos h]
  · rw [dif_neg h, dif_neg h, div_zero_share l _ (by omega)]

theorem e2_at (c : Dev nD) (t : Fin cfg0.N) (q : Fin 1056) (l : Fin 256) (h : q.val + 1 < 1056) :
    k0_pay22 (F := Ideal) (BitVec.ofNat 32 ↑(grid0.coords t 0)) (iota Kind.tc S1056x256 32 [0] iota_S1056x256_d0_w32) (k0_pay18 (BitVec.ofNat 32 ↑(grid0.coords t 0)) (iblk m c 1 t) (iblk m c 3 t) (iblk m c 5 t) (iblk m c 4 t))
      (iota Kind.tc S1056x256 32 [1] iota_S1056x256_d1_w32) 64#32 k0_pay19 k0_pay20 (ix2 q l) = ahead (Common.ext (part (aw m c) (asc m c) (ady m c) l)) 2 (t.val * 1024 + q) := by
  pointwise [k0_pay22]
  rw [grp q l, grp ⟨(q.val + 1056 - 1055) % 1056, by omega⟩ l, pick_sel, dd_at m c t q l, dd_at m c t ⟨(q.val + 1056 - 1055) % 1056, by omega⟩ l, place t q (by omega), place t ((q.val + 1056 - 1055) % 1056) (by omega)]
  have e := ahead_step (Common.ext (part (aw m c) (asc m c) (ady m c) l)) 1 (t.val * 1024 + q) (t.val * 1024 + (q.val + 1056 - 1055) % 1056) (by omega)
  rw [ahead_one, ahead_one, ← part_at m c t q l, ← part_at m c t ⟨(q.val + 1056 - 1055) % 1056, by omega⟩ l] at e
  exact e

theorem e4_at (c : Dev nD) (t : Fin cfg0.N) (q : Fin 1056) (l : Fin 256) (h : q.val + 3 < 1056) :
    k0_pay23 (F := Ideal) (BitVec.ofNat 32 ↑(grid0.coords t 0)) (iota Kind.tc S1056x256 32 [0] iota_S1056x256_d0_w32) (k0_pay18 (BitVec.ofNat 32 ↑(grid0.coords t 0)) (iblk m c 1 t) (iblk m c 3 t) (iblk m c 5 t) (iblk m c 4 t))
      (iota Kind.tc S1056x256 32 [1] iota_S1056x256_d1_w32) 64#32 k0_pay19 k0_pay20 (ix2 q l) = ahead (Common.ext (part (aw m c) (asc m c) (ady m c) l)) 4 (t.val * 1024 + q) := by
  pointwise [k0_pay23]
  rw [e2_at m c t q l (by omega), e2_at m c t ⟨(q.val + 1056 - 1054) % 1056, by omega⟩ l (by show _ % _ + _ < _; omega)]
  exact ahead_step _ 2 _ _ (by show t.val * 1024 + (q.val + 1056 - 1054) % 1056 = _; omega)

theorem e8_at (c : Dev nD) (t : Fin cfg0.N) (q : Fin 1056) (l : Fin 256) (h : q.val + 7 < 1056) :
    k0_pay24 (F := Ideal) (BitVec.ofNat 32 ↑(grid0.coords t 0)) (iota Kind.tc S1056x256 32 [0] iota_S1056x256_d0_w32) (k0_pay18 (BitVec.ofNat 32 ↑(grid0.coords t 0)) (iblk m c 1 t) (iblk m c 3 t) (iblk m c 5 t) (iblk m c 4 t))
      (iota Kind.tc S1056x256 32 [1] iota_S1056x256_d1_w32) 64#32 k0_pay19 k0_pay20 (ix2 q l) = ahead (Common.ext (part (aw m c) (asc m c) (ady m c) l)) 8 (t.val * 1024 + q) := by
  pointwise [k0_pay24]
  rw [e4_at m c t q l (by omega), e4_at m c t ⟨(q.val + 1056 - 1052) % 1056, by omega⟩ l (by show _ % _ + _ < _; omega)]
  exact ahead_step _ 4 _ _ (by show t.val * 1024 + (q.val + 1056 - 1052) % 1056 = _; omega)

theorem e16_at (c : Dev nD) (t : Fin cfg0.N) (q : Fin 1056) (l : Fin 256) (h : q.val + 15 < 1056) :
    k0_pay25 (F := Ideal) (BitVec.ofNat 32 ↑(grid0.coords t 0)) (iota Kind.tc S1056x256 32 [0] iota_S1056x256_d0_w32) (k0_pay18 (BitVec.ofNat 32 ↑(grid0.coords t 0)) (iblk m c 1 t) (iblk m c 3 t) (iblk m c 5 t) (iblk m c 4 t))
      (iota Kind.tc S1056x256 32 [1] iota_S1056x256_d1_w32) 64#32 k0_pay19 k0_pay20 (ix2 q l) = ahead (Common.ext (part (aw m c) (asc m c) (ady m c) l)) 16 (t.val * 1024 + q) := by
  pointwise [k0_pay25]
  rw [e8_at m c t q l (by omega), e8_at m c t ⟨(q.val + 1056 - 1048) % 1056, by omega⟩ l (by show _ % _ + _ < _; omega)]
  exact ahead_step _ 8 _ _ (by show t.val * 1024 + (q.val + 1056 - 1048) % 1056 = _; omega)

/-- A block's gradient of the pooled channels. -/
theorem dz_at (c : Dev nD) (t : Fin cfg0.N) (ht : t.val < 8) (q : Fin 1024) (l : Fin 256) :
    k0_pay1 (F := Ideal) (k0_pay18 (BitVec.ofNat 32 ↑(grid0.coords t 0)) (iblk m c 1 t) (iblk m c 3 t) (iblk m c 5 t) (iblk m c 4 t))
      (k0_pay21 (iota Kind.tc S1056x256 32 [1] iota_S1056x256_d1_w32) 64#32 k0_pay19 k0_pay20)
      (k0_pay22 (BitVec.ofNat 32 ↑(grid0.coords t 0)) (iota Kind.tc S1056x256 32 [0] iota_S1056x256_d0_w32) (k0_pay18 (BitVec.ofNat 32 ↑(grid0.coords t 0)) (iblk m c 1 t) (iblk m c 3 t) (iblk m c 5 t) (iblk m c 4 t))
        (iota Kind.tc S1056x256 32 [1] iota_S1056x256_d1_w32) 64#32 k0_pay19 k0_pay20)
      (k0_pay23 (BitVec.ofNat 32 ↑(grid0.coords t 0)) (iota Kind.tc S1056x256 32 [0] iota_S1056x256_d0_w32) (k0_pay18 (BitVec.ofNat 32 ↑(grid0.coords t 0)) (iblk m c 1 t) (iblk m c 3 t) (iblk m c 5 t) (iblk m c 4 t))
        (iota Kind.tc S1056x256 32 [1] iota_S1056x256_d1_w32) 64#32 k0_pay19 k0_pay20)
      (k0_pay24 (BitVec.ofNat 32 ↑(grid0.coords t 0)) (iota Kind.tc S1056x256 32 [0] iota_S1056x256_d0_w32) (k0_pay18 (BitVec.ofNat 32 ↑(grid0.coords t 0)) (iblk m c 1 t) (iblk m c 3 t) (iblk m c 5 t) (iblk m c 4 t))
        (iota Kind.tc S1056x256 32 [1] iota_S1056x256_d1_w32) 64#32 k0_pay19 k0_pay20)
      (k0_pay25 (BitVec.ofNat 32 ↑(grid0.coords t 0)) (iota Kind.tc S1056x256 32 [0] iota_S1056x256_d0_w32) (k0_pay18 (BitVec.ofNat 32 ↑(grid0.coords t 0)) (iblk m c 1 t) (iblk m c 3 t) (iblk m c 5 t) (iblk m c 4 t))
        (iota Kind.tc S1056x256 32 [1] iota_S1056x256_d1_w32) 64#32 k0_pay19 k0_pay20)
      (k0_pay26 (iota Kind.tc S1056x256 32 [1] iota_S1056x256_d1_w32) 64#32 k0_pay19 k0_pay20)
      (k0_pay27 (iota Kind.tc S1056x256 32 [1] iota_S1056x256_d1_w32) 64#32 k0_pay19 k0_pay20) k0_pay28 (ix2 q l)
    = ahead (Common.ext (part (aw m c) (asc m c) (ady m c) l)) (span l) (t.val * 1024 + q) - dd (aw m c) (asc m c) (ady m c) l ⟨t.val * 1024 + q, by omega⟩ := by
  pointwise [k0_pay1, k0_pay26, k0_pay27, k0_pay28]
  rw [grp ⟨q, by omega⟩ l, pick_sel, e2_at m c t ⟨q, by omega⟩ l (by show q.val + _ < _; omega), e4_at m c t ⟨q, by omega⟩ l (by show q.val + _ < _; omega), e8_at m c t ⟨q, by omega⟩ l (by show q.val + _ < _; omega), e16_at m c t ⟨q, by omega⟩ l (by show q.val + _ < _; omega), dd_at]
  refine congr (congrArg _ (pick_span l fun k => ahead (Common.ext (part (aw m c) (asc m c) (ady m c) l)) k (t.val * 1024 + q.val))) ?_
  unfold Common.ext
  exact dif_pos _

theorem words : ∀ a : Fin 256, (Scalar.select
        (IntOp.andi
          (IntOp.cmpi CmpIPredicate.ne
            (if BitVec.ofNat 32 ↑a = 0 then 0 else if (BitVec.ofNat 32 ↑a).msb = true then -1 else 1)
            (if (64#32) = 0 then 0 else if (64#32).msb = true then -1 else (1 : BitVec 32)))
          (IntOp.cmpi CmpIPredicate.ne
            (IntOp.remsi ArithUnit.host (BitVec.ofNat 32 ↑a) 64#32) 0#32))
        (IntOp.subi (IntOp.divsi ArithUnit.host (BitVec.ofNat 32 ↑a) 64#32)
          1#32)
        (IntOp.divsi ArithUnit.host (BitVec.ofNat 32 ↑a) 64#32)) = BitVec.ofNat 32 (a.val / 64) := by decide +kernel

instance factsOn : Cert.On_read_pool.Facts := ⟨by decide, by decide, by decide⟩

theorem mask_at (z : FVec Ideal S8192x256 .f32) (w : FVec Ideal S4x64x64 .f32) (s : FVec Ideal S256 .f32) (dy : FVec Ideal S8192x256 .f32) (a b : Fin 256) (h : (Cert.On_read_pool.fn (F := Ideal) z w s dy).2.1 (ix2 a b) = 1#1) : a.val / 64 = b.val / 64 := by
  revert h
  pointwise [Cert.On_read_pool.fn, Cert.On_read_pool.fn_floor_divide, Cert.On_read_pool.fn_where]
  intro h
  refine Classical.byContradiction fun hn => ?_
  have e : IntOp.cmpi CmpIPredicate.eq (BitVec.ofNat 32 (a.val / 64)) (BitVec.ofNat 32 (b.val / 64)) = 1#1 :=
    (congr (congrArg _ (words a)) (words b)).symm.trans h
  revert e
  word_cmp <;> simp [hn]

/-- A cell of the weight's gradient. -/
def dwCell (z : FVec Ideal S8192x256 .f32) (s : FVec Ideal S256 .f32) (dy : FVec Ideal S8192x256 .f32) (a b : Fin 256) : EReal :=
  ∑ n : Fin 8192, diff z n a * (dy (ix2 n b) * s (ix1 b))

theorem ref_cell (z : FVec Ideal S8192x256 .f32) (hz : ∀ i, Finite (z i)) (s : FVec Ideal S256 .f32) (dy : FVec Ideal S8192x256 .f32) (g : Fin 4) (a b : Fin 64) :
    val_main_v74 (F := Ideal) z s dy (ix3 g a b) = dwCell z s dy ⟨g.val * 64 + a, by omega⟩ ⟨g.val * 64 + b, by omega⟩ := by
  unfold dwCell
  pointwise [val_main_v74, val_main_v73, val_main_v70, val_main_v69, val_main_v67, val_main_v66, val_main_v60]
  refine Finset.sum_congr rfl fun x _ => ?_
  rw [ref_d z hz, mul_comm]

/-- The reference's gradient of the groups' weights. -/
theorem ref_dw (z : FVec Ideal S8192x256 .f32) (hz : ∀ i, Finite (z i)) (s : FVec Ideal S256 .f32) (dy : FVec Ideal S8192x256 .f32) (a b : Fin 256) (h : a.val / 64 = b.val / 64) :
    val_main_v136 (F := Ideal) z s dy (ix2 a b) = dwCell z s dy a b := by
  pointwise [val_main_v136, val_main_c_25, val_main_c_24, val_main_v135, val_main_v134, val_main_v133, val_main_c_23, val_main_c_22, val_main_v132, val_main_v131, val_main_v130, val_main_c_21, val_main_c_20, val_main_v129, val_main_v128, val_main_v127, val_main_c_19, val_main_c, val_main_v126, val_main_v125, val_main_v124, val_main_cst_18]
  simp only [start_at 0#32 0 (by decide), start_at 64#32 64 (by decide), start_at 128#32 128 (by decide), start_at 192#32 192 (by decide)]
  refine (ladder (fun g a b => val_main_v74 (F := Ideal) z s dy (ix3 g a b)) a b).trans ?_
  rw [if_pos h, ref_cell z hz]
  exact congr (congrArg _ (Fin.ext (by dsimp only; omega))) (Fin.ext (by dsimp only; omega))

/-- A cell of the scale's gradient. -/
def dsCell (z : FVec Ideal S8192x256 .f32) (w : FVec Ideal S4x64x64 .f32) (dy : FVec Ideal S8192x256 .f32) (l : Fin 256) : EReal :=
  ∑ n : Fin 8192, dy (ix2 n l) * ∑ x : Fin 64, diff z n ⟨l.val / 64 * 64 + x, by omega⟩ * w (ix3 ⟨l.val / 64, by omega⟩ x ⟨l.val % 64, by omega⟩)

/-- The reference's gradient of the scale. -/
theorem ref_ds (z : FVec Ideal S8192x256 .f32) (hz : ∀ i, Finite (z i)) (w : FVec Ideal S4x64x64 .f32) (dy : FVec Ideal S8192x256 .f32) (l : Fin 256) :
    val_main_v138 (F := Ideal) z w dy (ix2 0 l) = dsCell z w dy l := by
  unfold dsCell
  pointwise [val_main_v138, val_main_v68, val_main_cst_13, val_main_v65, val_main_v64, val_main_cst_12, val_main_v63, val_main_v59, val_main_v58, val_main_v57]
  rw [Fin.sum_univ_one]
  refine Finset.sum_congr rfl fun n _ => ?_
  rw [mul_comm]
  refine congrArg _ (Finset.sum_congr rfl fun x _ => ?_)
  rw [ref_d z hz, mul_comm]

/-- One row block's mean less its rows, as the kernel computes it. -/
def dBlk (c : Dev nD) (t : Fin cfg0.N) : FVec Ideal S1024x256 .f32 :=
  k0_pay13 (F := Ideal) (BitVec.ofNat 32 ↑(grid0.coords t 0)) (iblk m c 0 t)
            (k0_pay6 (grid0.coords t) (iblk m c 0 t) (iblk m c 2 t))
            (k0_pay7 (grid0.coords t) (iblk m c 0 t) (iblk m c 2 t))
            (k0_pay8 (grid0.coords t) (iblk m c 0 t) (iblk m c 2 t))
            (k0_pay9 (grid0.coords t) (iblk m c 0 t) (iblk m c 2 t))
            (iota Kind.tc S1024x256 32 [1] iota_S1024x256_d1_w32) k0_pay10 k0_pay11 k0_pay12

/-- What a block adds to the groups' weights' gradient. -/
theorem dw_at (c : Dev nD) (t : Fin cfg0.N) (a b : Fin 256) :
    k0_pay17 (F := Ideal) (iblk m c 1 t) (iblk m c 3 t) (dBlk m c t) (iblk m c 5 t) (ix2 a b)
      = ∑ r : Fin 1024, diff (az m c) ⟨t.val * 1024 + r, by have := lt_of_lt_of_eq t.isLt N_0; omega⟩ a * (ady m c (ix2 ⟨t.val * 1024 + r, by have := lt_of_lt_of_eq t.isLt N_0; omega⟩ b) * asc m c (ix1 b)) := by
  have ht : t.val < 8 := lt_of_lt_of_eq t.isLt N_0
  pointwise [k0_pay17, k0_pay16]
  refine Finset.sum_congr rfl fun r _ => ?_
  rw [s_read m c t b, show dBlk m c t (ix2 r a) = _ from d_at m c t ht r a]
  rw [show (iblk m c 1 t : FVec Ideal S1024x256 .f32) (ix2 r b) = ady m c (ix2 ⟨t.val * 1024 + r, by omega⟩ b) from by blk_point [iblk, V, idx t]]

/-- What a block adds to the scale's gradient. -/
theorem ds_at (c : Dev nD) (t : Fin cfg0.N) (l : Fin 256) :
    k0_pay15 (F := Ideal) (iblk m c 1 t) (dBlk m c t) (iblk m c 4 t) (ix2 0 l)
      = ∑ r : Fin 1024, ady m c (ix2 ⟨t.val * 1024 + r, by have := lt_of_lt_of_eq t.isLt N_0; omega⟩ l) * ∑ x : Fin 64, diff (az m c) ⟨t.val * 1024 + r, by have := lt_of_lt_of_eq t.isLt N_0; omega⟩ ⟨l.val / 64 * 64 + x, by omega⟩ * aw m c (ix3 ⟨l.val / 64, by omega⟩ x ⟨l.val % 64, by omega⟩) := by
  have ht : t.val < 8 := lt_of_lt_of_eq t.isLt N_0
  pointwise [k0_pay15]
  refine Finset.sum_congr rfl fun r _ => ?_
  simp only [w_read m c t]
  rw [diag_sum']
  refine congr (congrArg _ (by blk_point [iblk, V, idx t])) (Finset.sum_congr rfl fun x _ => ?_)
  rw [show dBlk m c t (ix2 r _) = _ from d_at m c t ht r _]

/-- The gradient of the pooled channels: the kernel leaves what the reference computes. -/
theorem same_dz (c : Dev nD) (hw : ∀ i, Finite (aw m c i)) (hs : ∀ i, Finite (asc m c i)) (hd : ∀ i, Finite (ady m c i)) :
    val_main_v137 (F := Ideal) (aw m c) (asc m c) (ady m c) = (dats m 0 c).arrAt 6 (cfgs 0).N := by
  symm
  refine (dats m 0 c).arrAt_eq_of_covers 6 _ (by decide +kernel) fun t hf y => ?_
  have ht : t.val < 8 := lt_of_lt_of_eq t.isLt N_0
  blk_simp
  rw [after0_6]
  idx_vars y
  have e : (((cfg0.win 6).blk t).view.emb (ix2 y0 y1) : S8192x256.Idx) = ix2 ⟨t.val * 1024 + y0, by omega⟩ y1 := by blk_ext [idx t]
  refine Eq.trans ?_ ((congrArg (val_main_v137 (F := Ideal) (aw m c) (asc m c) (ady m c)) e).trans (ref_dz _ _ _ hw hs hd ⟨t.val * 1024 + y0, by omega⟩ y1)).symm
  refine Eq.trans ?_ (dz_at m c t ht y0 y1)
  by_cases h : t.val % 8 = 0
  · rw [outsAt0_A m c t h]; frame_out
  · rw [outsAt0_B m c t h]; frame_out

theorem arr_dw (c : Dev nD) : (dats m 0 c).arrAt 7 (cfgs 0).N = (fun j => dwCell (az m c) (asc m c) (ady m c) (j 0) (j 1) : FVec Ideal S256x256 .f32) := by
  refine (dats m 0 c).arrAt_eq_of_after_last 7 t0_7 (by decide +kernel) _ fun j => ?_
  blk_simp
  rw [after0_7, Pipeline.eq_sum_fin_of_reset_step_apply_last (fun n h => (outsAt0 m c n h).2.1) 8 (fun _ => 0)
    (fun p j => k0_pay17 (F := Ideal) (iblk m c 1 p) (iblk m c 3 p) (dBlk m c p) (iblk m c 5 p) j)
    (fun t h j => by
      rw [outsAt0_A m c t h]
      frame_out
      idx_vars j
      pointwise [k0_pay4, k0_pay2]
      rfl)
    (fun t h j => by
      rw [outsAt0_B m c t h]
      frame_out
      idx_vars j
      pointwise [k0_pay4]
      rfl)
    (le_of_eq N_0) t0_7 rfl j, zero_add]
  idx_vars j
  refine (Finset.sum_congr rfl fun p _ => dw_at m c p j0 j1).trans ?_
  exact (Fin.sum_univ_tiles 8 1024 rfl fun n : Fin 8192 => diff (az m c) n j0 * (ady m c (ix2 n j1) * asc m c (ix1 j1))).symm

/-- The groups' weights' gradient, in the blocks that are read: the kernel leaves what the reference computes. -/
theorem same_dw (c : Dev nD) (hz : ∀ i, Finite (az m c i)) (i : S256x256.Idx)
    (h : (Cert.On_read_pool.fn (F := Ideal) (az m c) (aw m c) (asc m c) (ady m c)).2.1 i = 1#1) :
    val_main_v136 (F := Ideal) (az m c) (asc m c) (ady m c) i = (dats m 0 c).arrAt 7 (cfgs 0).N i := by
  rw [arr_dw]
  idx_vars i
  exact ref_dw _ hz _ _ i0 i1 (mask_at _ _ _ _ i0 i1 h)

/-- The scale's gradient: the kernel leaves what the reference computes. -/
theorem same_ds (c : Dev nD) (hz : ∀ i, Finite (az m c i)) :
    val_main_v138 (F := Ideal) (az m c) (aw m c) (ady m c) = (dats m 0 c).arrAt 8 (cfgs 0).N := by
  symm
  refine (dats m 0 c).arrAt_eq_of_after_last 8 t0_7 (by decide +kernel) _ fun j => ?_
  blk_simp
  rw [after0_8, Pipeline.eq_sum_fin_of_reset_step_apply_last (fun n h => (outsAt0 m c n h).2.2) 8 (fun _ => 0)
    (fun p j => k0_pay15 (F := Ideal) (iblk m c 1 p) (dBlk m c p) (iblk m c 4 p) j)
    (fun t h j => by
      rw [outsAt0_A m c t h]
      frame_out
      idx_vars j
      pointwise [k0_pay5, k0_pay3]
      rfl)
    (fun t h j => by
      rw [outsAt0_B m c t h]
      frame_out
      idx_vars j
      pointwise [k0_pay5]
      rfl)
    (le_of_eq N_0) t0_7 rfl j, zero_add]
  idx_vars j
  obtain rfl : j0 = 0 := Subsingleton.elim _ _
  refine (Finset.sum_congr rfl fun p _ => ds_at m c p j1).trans (Eq.trans ?_ (ref_ds _ hz _ _ j1).symm)
  exact (Fin.sum_univ_tiles 8 1024 rfl fun n : Fin 8192 => ady m c (ix2 n j1) * ∑ x : Fin 64, diff (az m c) n ⟨j1.val / 64 * 64 + x, by omega⟩ * aw m c (ix3 ⟨j1.val / 64, by omega⟩ x ⟨j1.val % 64, by omega⟩)).symm

instance factsPre : Cert.Pre_finite_pool.Facts := by constructor <;> decide

/-- What a run of the kernel leaves in its results. -/
theorem ran (g : Dev nD → PrngReg) :
    θ_run (defs (F := Ideal)) (onTc (τ := τ) (main (F := Ideal))) ⟨m, fun _ => 0, g⟩ (fun r => ∀ c : Dev nD,
      r.2.mem ((c.tc : Thread nD τ).loc main_v15_0) = (dats m 0 c).arrAt 6 (cfgs 0).N
      ∧ r.2.mem ((c.tc : Thread nD τ).loc main_v15_1) = (dats m 0 c).arrAt 7 (cfgs 0).N
      ∧ r.2.mem ((c.tc : Thread nD τ).loc main_v15_2) = (dats m 0 c).arrAt 8 (cfgs 0).N) :=
  θ_run_mono (run_main m g) fun r h c => ⟨(h c).1 6, (h c).1 7, (h c).1 8⟩

/-- Over the reals, kernel and reference compute the same function. -/
theorem claim : Cert.algebraic_PoolIdeal_PoolRefIdeal_on_read_pool_pre_finite_pool := by
  intro m g m' g' hpre hagree
  refine ⟨fun c => (dats m 0 c).arrAt 6 (cfgs 0).N, fun c => (dats m 0 c).arrAt 7 (cfgs 0).N, fun c => (dats m 0 c).arrAt 8 (cfgs 0).N, ?_, ?_⟩
  · refine θ_run_mono (θ_run_and (ran m g) (Gen.frame m g)) fun r h c => ?_
    obtain ⟨h1, h2, h3⟩ := h.1 c
    exact ⟨fun i _ => congrFun h1 i, fun i _ => congrFun h2 i, fun i _ => congrFun h3 i, h.2.1 c⟩
  · refine θ_run_mono (Cert.PoolRefIdeal.Value.run (F := Ideal) m' g') fun r h c => ?_
    obtain ⟨h1, h2, h3, hargs⟩ := h c
    obtain ⟨a0, a1, a2, a3⟩ := hagree c
    obtain ⟨p0, p1, p2, p3⟩ := hpre c
    have hz := real_of_mask _ factsPre.bcast_S_S8192x256 p0
    have hw := real_of_mask _ factsPre.bcast_S_S4x64x64 p1
    have hs := real_of_mask _ factsPre.bcast_S_S256 p2
    have hd := real_of_mask _ factsPre.bcast_S_S8192x256 p3
    refine ⟨fun i _ => (congrFun (h1.trans (val_main_v137_eq _)) i).trans (Eq.trans ?_ (congrFun (same_dz m c hw hs hd) i)),
      fun i hi => (congrFun (h2.trans (val_main_v136_eq _)) i).trans (Eq.trans ?_ (same_dw m c hz i hi)),
      fun i _ => (congrFun (h3.trans (val_main_v138_eq _)) i).trans (Eq.trans ?_ (congrFun (same_ds m c hz) i)), hargs⟩
    · exact congrFun (congr (congr (congrArg _ a1) a2) a3) i
    · exact congrFun (congr (congr (congrArg _ a0) a2) a3) i
    · exact congrFun (congr (congr (congrArg _ a0) a1) a3) i

end Cert.PoolIdeal.Value

end

end
-- ==== Proof.LayerNorm.lean ====
/- The layer norm's gradient over rows of 256, and the swish's: the kernel's closed forms against the chain rule's. -/
module

public import proofs.«01_k».proof.Proof.Norm

@[expose] public section

noncomputable section

open Idealize.ShloMosaic

namespace Cert.Common

/-- The rows' width as the programs write it. -/
abbrev wide : EReal := Ideal.ofBits .f32 0x43800000#32

theorem wide_eq : wide = ((256 : ℝ) : EReal) := by
  unfold wide
  simp [Ideal.ofBits, Ideal.ieee, ← EReal.coe_mul]
  norm_num

/-- A row less its mean. -/
def centred (x : Fin 256 → EReal) (j : Fin 256) : EReal := x j - Ideal.div (∑ k, x k) wide

/-- A row's variance, the small constant added. -/
def spread (x : Fin 256 → EReal) : EReal :=
  Ideal.div (∑ k, centred x k * centred x k) wide + Ideal.ofBits .f32 0x358637BD#32

/-- One over a row's deviation. -/
def scale (x : Fin 256 → EReal) : EReal := Ideal.rsqrt (spread x)

/-- The norm's gradient at a row's element, in closed form: `x` the row, `d` the gradient times the gain. -/
def layerGrad (x d : Fin 256 → EReal) (j : Fin 256) : EReal :=
  scale x * (d j - Ideal.div (∑ k, d k) wide - centred x j * scale x * Ideal.div (∑ k, d k * (centred x k * scale x)) wide)

/-- The chain rule's gradient at the centred row, `s` the gradient at the mean square's element. -/
def chainGrad (x d : Fin 256 → EReal) (j : Fin 256) : EReal :=
  d j * scale x + centred x j * Ideal.div ((∑ k, centred x k * d k) * (Ideal.ofBits .f32 0xBF000000#32 * Ideal.div (scale x) (spread x))) wide
    + Ideal.div ((∑ k, centred x k * d k) * (Ideal.ofBits .f32 0xBF000000#32 * Ideal.div (scale x) (spread x))) wide * centred x j

theorem over_wide (a : ℝ) : Ideal.div (a : EReal) wide = ((a * (1 / 256) : ℝ) : EReal) := by
  rw [wide_eq, Ideal.div_coe (by norm_num), ← EReal.coe_mul]

theorem centred_real {x : Fin 256 → EReal} {a : Fin 256 → ℝ} (h : ∀ k, x k = (a k : EReal)) (j : Fin 256) :
    centred x j = ((a j - (∑ k, a k) * (1 / 256) : ℝ) : EReal) := by
  unfold centred
  simp only [h, coe_sum]
  rw [over_wide, ← EReal.coe_sub]

theorem centred_sum (a : Fin 256 → ℝ) : ∑ j, (a j - (∑ k, a k) * (1 / 256)) = 0 := by
  rw [Finset.sum_sub_distrib, Finset.sum_const, Finset.card_univ, Fintype.card_fin, nsmul_eq_mul]
  push_cast
  ring

theorem spread_real {x : Fin 256 → EReal} {y : Fin 256 → ℝ} (h : ∀ k, centred x k = (y k : EReal)) : ∃ v : ℝ, 0 < v ∧ spread x = (v : EReal) := by
  obtain ⟨e, he, ee⟩ := eps
  have hs : 0 ≤ ∑ k, y k * y k := Finset.sum_nonneg fun k _ => mul_self_nonneg _
  refine ⟨(∑ k, y k * y k) * (1 / 256) + e, by positivity, ?_⟩
  unfold spread
  rw [ee]
  simp only [h, ← EReal.coe_mul, coe_sum]
  rw [over_wide, ← EReal.coe_add]

theorem layer_reals {x : Fin 256 → EReal} (hx : ∀ k, Finite (x k)) :
    ∃ (y : Fin 256 → ℝ) (q : ℝ), 0 < q ∧ (∀ k, centred x k = (y k : EReal)) ∧ ∑ k, y k = 0 ∧ spread x = ((q * q : ℝ) : EReal) ∧ scale x = ((q⁻¹ : ℝ) : EReal) := by
  choose a ha using hx
  obtain ⟨v, hv, ev⟩ := spread_real (centred_real ha)
  refine ⟨_, Real.sqrt v, Real.sqrt_pos.2 hv, centred_real ha, centred_sum a, ?_, ?_⟩
  · rw [Real.mul_self_sqrt hv.le, ev]
  · unfold scale
    rw [ev, rsqrt_real hv]

theorem normed_finite {x : Fin 256 → EReal} (hx : ∀ k, Finite (x k)) (j : Fin 256) : Finite (centred x j * scale x) := by
  obtain ⟨y, q, hq, hy, -, -, hs⟩ := layer_reals hx
  exact ⟨y j * q⁻¹, by rw [hy, hs, ← EReal.coe_mul]⟩

/-- The chain rule's gradient less its mean is the closed form. -/
theorem layerGrad_eq {x d : Fin 256 → EReal} (hx : ∀ k, Finite (x k)) (hd : ∀ k, Finite (d k)) (j : Fin 256) :
    chainGrad x d j + Ideal.div (∑ k, -chainGrad x d k) wide = layerGrad x d j := by
  obtain ⟨y, q, hq, hy, h0, hv, hs⟩ := layer_reals hx
  choose b hb using hd
  have hc : ∀ k, chainGrad x d k = ((b k * q⁻¹ - (∑ i, y i * b i) * (1 / 256) * (q⁻¹ * q⁻¹ * q⁻¹) * y k : ℝ) : EReal) := fun k => by
    unfold chainGrad
    rw [hv, hs, minus_half]
    simp only [hy, hb, ← EReal.coe_mul, coe_sum, Ideal.div_coe (mul_pos hq hq).ne', over_wide, ← EReal.coe_add]
    congr 1
    field_simp
    ring
  unfold layerGrad
  simp only [hc, hs, hy, hb, ← EReal.coe_mul, ← EReal.coe_neg, coe_sum, over_wide, ← EReal.coe_add, ← EReal.coe_sub]
  congr 1
  have e1 : ∑ k, -(b k * q⁻¹ - (∑ i, y i * b i) * (1 / 256) * (q⁻¹ * q⁻¹ * q⁻¹) * y k) = -((∑ k, b k) * q⁻¹) := by
    rw [Finset.sum_neg_distrib, Finset.sum_sub_distrib, ← Finset.mul_sum, h0, ← Finset.sum_mul]
    ring
  have e2 : ∑ k, b k * (y k * q⁻¹) = (∑ i, y i * b i) * q⁻¹ := by
    rw [Finset.sum_mul]
    exact Finset.sum_congr rfl fun k _ => by ring
  rw [e1, e2]
  ring

theorem logistic_finite {x : EReal} (hx : Finite x) : Finite (Ideal.logistic x) := by
  obtain ⟨r, rfl⟩ := hx
  exact ⟨_, Ideal.logistic_coe r⟩

/-- The swish's gradient: `d` times its slope, against the chain rule's two terms. -/
theorem swish_grad {x d : EReal} (hx : Finite x) (hd : Finite d) :
    d * Ideal.logistic x + x * d * (Ideal.logistic x * (1 - Ideal.logistic x)) = d * (Ideal.logistic x * (1 + x * (1 - Ideal.logistic x))) := by
  obtain ⟨s, hs⟩ := logistic_finite hx
  obtain ⟨r, rfl⟩ := hx
  obtain ⟨b, rfl⟩ := hd
  rw [hs, ← EReal.coe_one]
  simp only [← EReal.coe_mul, ← EReal.coe_sub, ← EReal.coe_add]
  congr 1
  ring

end Cert.Common

end

end
-- ==== Proof.ConfRef.lean ====
/- The long causal convolution's gradient: the reference's stages as sums over taps and rows. -/
module

public import proofs.«01_k».proof.Proof.Gen.ConfIdeal.Frame
public import proofs.«01_k».proof.Defs
public import proofs.«01_k».proof.Proof.Gen.ConfRefIdeal.Run
public import proofs.«01_k».proof.Proof.Gen.ConfRefIdeal.Read
public import proofs.«01_k».proof.Proof.LayerNorm
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Common

namespace Cert.ConfIdeal.Value

open Cert.ConfIdeal Cert.ConfIdeal.Gen
open Cert.ConfRefIdeal.Read

variable (z : FVec Ideal S8192x512 .f32) (w : FVec Ideal S31x256 .f32) (g b : FVec Ideal S256 .f32) (p : FVec Ideal S256x256 .f32) (dy : FVec Ideal S8192x256 .f32)

/-- Row `n - 30` of the gated input, thirty rows of zeros first. -/
def past (n : ℕ) (l : Fin 256) : EReal :=
  if h : 30 ≤ n ∧ n < 8222 then z (ix2 ⟨n - 30, by omega⟩ ⟨l, by omega⟩) * Ideal.logistic (z (ix2 ⟨n - 30, by omega⟩ ⟨256 + l, by omega⟩)) else 0

/-- The convolution's tap `k`. -/
def tap (k : ℕ) (l : Fin 256) : EReal := if h : k < 31 then w (ix2 ⟨k, h⟩ l) else 0

/-- The convolution's row `n`. -/
def conv (n : ℕ) (l : Fin 256) : EReal := ∑ k ∈ Finset.range 31, tap w k l * past z (k + n) l

/-- The norm's output. -/
def lin (n : ℕ) (l : Fin 256) : EReal := centred (conv z w n) l * scale (conv z w n) * g (ix1 l) + b (ix1 l)

/-- The gradient at the swish's output. -/
def dsw (n : Fin 8192) (l : Fin 256) : EReal := ∑ k, dy (ix2 n k) * p (ix2 l k)

/-- The gradient at the norm's output. -/
def dlin (n : Fin 8192) (l : Fin 256) : EReal :=
  dsw p dy n l * (Ideal.logistic (lin z w g b n l) * (1 + lin z w g b n l * (1 - Ideal.logistic (lin z w g b n l))))

/-- The gradient at the convolution's output, zero past the last row. -/
def dconv (n : ℕ) (l : Fin 256) : EReal :=
  if h : n < 8192 then layerGrad (conv z w n) (fun k => dlin z w g b p dy ⟨n, h⟩ k * g (ix1 k)) l else 0

/-- The gradient at the gated input. -/
def dgate (n : ℕ) (l : Fin 256) : EReal := ∑ k ∈ Finset.range 31, tap w k l * dconv z w g b p dy (30 + n - k) l

theorem dconv_end (n : ℕ) (l : Fin 256) (h : 8192 ≤ n) : dconv z w g b p dy n l = 0 := dif_neg (by omega)

/-- A padded term, its guard dropped: past the guard the column is zero. -/
theorem pad_term {f : ℕ → EReal} (hf : ∀ n, 8192 ≤ n → f n = 0) (a : EReal) (n : ℕ) (c : Prop) [Decidable c] (h : ¬c → 8192 ≤ n) :
    (if c then a * f n else 0) = a * f n := by
  by_cases hc : c
  · rw [if_pos hc]
  · rw [if_neg hc, hf n (h hc), mul_zero]

theorem gate_form (a d s : EReal) : a * d * (s * (1 - s)) = d * a * s * (1 - s) := by
  rw [mul_comm a d, ← mul_assoc]

/-- The reference's gated input behind thirty rows of zeros. -/
theorem ref_past (q : Fin 8222) (l : Fin 256) : val_main_v13 (F := Ideal) z (ix2 q l) = past z q l := by
  unfold past
  pointwise [val_main_v13, val_main_v11, val_main_v7, val_main_v5, val_main_v3, val_main_v2, val_main_v1, val_main_v4, val_main_cst, val_main_v6, val_main_cst_0, val_main_v0, val_main_v12, val_main_cst_2]
  by_cases h : (q : ℕ) < 30
  · rw [dif_pos h, dif_neg (by omega)]
  · rw [dif_neg h, dif_pos (by omega)]
    rfl

theorem tap_at (k : Fin 31) (l : Fin 256) : w (ix2 k l) = tap w k l := by
  unfold tap
  rw [dif_pos k.isLt]

/-- The reference's convolution. -/
theorem ref_conv (n : Fin 8192) (l : Fin 256) : val_main_v230 (F := Ideal) z w (ix2 n l) = conv z w n l := by
  unfold conv
  pointwise [val_main_v230, val_main_v229, val_main_v226, val_main_v228, val_main_v227, val_main_v225, val_main_v224, val_main_v223, val_main_v222, val_main_v219, val_main_v221, val_main_v220, val_main_v218, val_main_v217, val_main_v216, val_main_v215, val_main_v212, val_main_v214, val_main_v213, val_main_v211, val_main_v210, val_main_v209, val_main_v208, val_main_v205, val_main_v207, val_main_v206, val_main_v204, val_main_v203, val_main_v202, val_main_v201, val_main_v198, val_main_v200, val_main_v199, val_main_v197, val_main_v196, val_main_v195, val_main_v194, val_main_v191, val_main_v193, val_main_v192, val_main_v190, val_main_v189, val_main_v188, val_main_v187, val_main_v184, val_main_v186, val_main_v185, val_main_v183, val_main_v182, val_main_v181, val_main_v180, val_main_v177, val_main_v179, val_main_v178, val_main_v176, val_main_v175, val_main_v174, val_main_v173, val_main_v170, val_main_v172, val_main_v171, val_main_v169, val_main_v168, val_main_v167, val_main_v166, val_main_v163, val_main_v165, val_main_v164, val_main_v162, val_main_v161, val_main_v160, val_main_v159, val_main_v156, val_main_v158, val_main_v157, val_main_v155, val_main_v154, val_main_v153, val_main_v152, val_main_v149, val_main_v151, val_main_v150, val_main_v148, val_main_v147, val_main_v146, val_main_v145, val_main_v142, val_main_v144, val_main_v143, val_main_v141, val_main_v140, val_main_v139, val_main_v138, val_main_v135, val_main_v137, val_main_v136, val_main_v134, val_main_v133, val_main_v132, val_main_v131, val_main_v128, val_main_v130, val_main_v129, val_main_v127, val_main_v126, val_main_v125, val_main_v124, val_main_v121, val_main_v123, val_main_v122, val_main_v120, val_main_v119, val_main_v118, val_main_v117, val_main_v114, val_main_v116, val_main_v115, val_main_v113, val_main_v112, val_main_v111, val_main_v110, val_main_v107, val_main_v109, val_main_v108, val_main_v106, val_main_v105, val_main_v104, val_main_v103, val_main_v100, val_main_v102, val_main_v101, val_main_v99, val_main_v98, val_main_v97, val_main_v96, val_main_v93, val_main_v95, val_main_v94, val_main_v92, val_main_v91, val_main_v90, val_main_v89, val_main_v86, val_main_v88, val_main_v87, val_main_v85, val_main_v84, val_main_v83, val_main_v82, val_main_v79, val_main_v81, val_main_v80, val_main_v78, val_main_v77, val_main_v76, val_main_v75, val_main_v72, val_main_v74, val_main_v73, val_main_v71, val_main_v70, val_main_v69, val_main_v68, val_main_v65, val_main_v67, val_main_v66, val_main_v64, val_main_v63, val_main_v62, val_main_v61, val_main_v58, val_main_v60, val_main_v59, val_main_v57, val_main_v56, val_main_v55, val_main_v54, val_main_v51, val_main_v53, val_main_v52, val_main_v50, val_main_v49, val_main_v48, val_main_v47, val_main_v44, val_main_v46, val_main_v45, val_main_v43, val_main_v42, val_main_v41, val_main_v40, val_main_v37, val_main_v39, val_main_v38, val_main_v36, val_main_v35, val_main_v34, val_main_v33, val_main_v30, val_main_v32, val_main_v31, val_main_v29, val_main_v28, val_main_v27, val_main_v26, val_main_v23, val_main_v25, val_main_v24, val_main_v22, val_main_v21, val_main_v20, val_main_v17, val_main_v19, val_main_v18, val_main_v16, val_main_v15, ref_past]
  simp only [Finset.sum_range_succ, Finset.sum_range_zero, zero_add]
  rfl

/-- The reference's normed rows. -/
theorem ref_lin (n : Fin 8192) (l : Fin 256) : val_main_v255 (F := Ideal) z w g b (ix2 n l) = lin z w g b n l := by
  unfold lin
  pointwise [val_main_v255, val_main_v254, val_main_v253, val_main_v252, val_main_v251, val_main_v250, val_main_v249, val_main_v248, val_main_v244, val_main_v243, val_main_v242, val_main_cst_8, val_main_v241, val_main_v240, val_main_cst_7, val_main_v239, val_main_v238, val_main_cst_6, val_main_v237, val_main_v236, val_main_v235, val_main_v234, val_main_v233, val_main_cst_5, val_main_v232, val_main_v231, val_main_cst_4, ref_conv]
  rfl

/-- The reference's swish. -/
theorem ref_swish (n : Fin 8192) (l : Fin 256) : val_main_v256_0 (F := Ideal) z w g b (ix2 n l) = lin z w g b n l * Ideal.logistic (lin z w g b n l) := by
  pointwise [val_main_v256_0, val_main_v256_2, val_main_call0_v3, val_main_call0_v1, val_main_call0_v0, val_main_call0_v2, val_main_call0_cst, val_main_call0_v4, val_main_call0_cst_0, ref_lin]
  rfl

/-- The reference's gradient of the projection. -/
theorem ref_dpw (i j : Fin 256) : val_main_v259 (F := Ideal) z w g b dy (ix2 i j) = ∑ n : Fin 8192, lin z w g b n i * Ideal.logistic (lin z w g b n i) * dy (ix2 n j) := by
  pointwise [val_main_v259, val_main_v258]
  simp only [ref_swish]
  exact Finset.sum_congr rfl fun n _ => mul_comm _ _

variable {z w g b p dy}
variable (hz : ∀ i, Finite (z i)) (hw : ∀ i, Finite (w i)) (hg : ∀ i, Finite (g i)) (hb : ∀ i, Finite (b i)) (hp : ∀ i, Finite (p i)) (hd : ∀ i, Finite (dy i))
include hz hw

theorem conv_finite (n : ℕ) (l : Fin 256) : Finite (conv z w n l) := by
  refine Finite.sum _ fun k => Finite.mul ?_ ?_
  · unfold tap
    split_ifs
    · exact hw _
    · exact ⟨0, rfl⟩
  · unfold past
    split_ifs
    · exact (hz _).mul (logistic_finite (hz _))
    · exact ⟨0, rfl⟩

include hg hb

theorem lin_finite (n : ℕ) (l : Fin 256) : Finite (lin z w g b n l) :=
  ((normed_finite (conv_finite hz hw n) l).mul (hg _)).add (hb _)

include hp hd

theorem dlin_finite (n : Fin 8192) (l : Fin 256) : Finite (dlin z w g b p dy n l) := by
  have h1 := lin_finite hz hw hg hb n l
  have one : Finite 1 := ⟨1, EReal.coe_one.symm⟩
  exact (Finite.sum _ fun k => (hd _).mul (hp _)).mul ((logistic_finite h1).mul (one.add (h1.mul (one.sub (logistic_finite h1)))))

/-- The reference's gradient at the norm's output. -/
theorem ref_dlin (n : Fin 8192) (l : Fin 256) : val_main_v261 (F := Ideal) z w g b p dy (ix2 n l) = dlin z w g b p dy n l := by
  unfold dlin
  rw [← swish_grad (d := dsw p dy n l) (lin_finite hz hw hg hb n l) (Finite.sum _ fun k => (hd _).mul (hp _))]
  pointwise [val_main_v261, val_main_call1_v2, val_main_v256_1, val_main_call0_v7, val_main_v256_2, val_main_call0_v3, val_main_call0_v1, val_main_call0_v0, val_main_call0_v2, val_main_call0_cst, val_main_call0_v4, val_main_call0_cst_0, val_main_call0_v6, val_main_call0_cst_1, val_main_call1_v0, val_main_v260, val_main_call1_v1, ref_lin]
  rfl

/-- The reference's gradient of the norm's bias. -/
theorem ref_dlb (l : Fin 256) : val_main_v641 (F := Ideal) z w g b p dy (ix2 0 l) = ∑ n : Fin 8192, dlin z w g b p dy n l := by
  pointwise [val_main_v641, val_main_v264, val_main_cst_11, val_main_v263, val_main_v262, val_main_cst_10]
  simp only [Fintype.sum_unique, ref_dlin hz hw hg hb hp hd]

/-- The reference's gradient of the norm's gain. -/
theorem ref_dlg (l : Fin 256) : val_main_v640 (F := Ideal) z w g b p dy (ix2 0 l) = ∑ n : Fin 8192, dlin z w g b p dy n l * (centred (conv z w n) l * scale (conv z w n)) := by
  pointwise [val_main_v640, val_main_v270, val_main_cst_13, val_main_v267, val_main_v266, val_main_cst_12, val_main_v265, val_main_v249, val_main_v248, val_main_v244, val_main_v243, val_main_v242, val_main_cst_8, val_main_v241, val_main_v240, val_main_cst_7, val_main_v239, val_main_v238, val_main_cst_6, val_main_v237, val_main_v236, val_main_v235, val_main_v234, val_main_v233, val_main_cst_5, val_main_v232, val_main_v231, val_main_cst_4]
  simp only [Fintype.sum_unique, ref_dlin hz hw hg hb hp hd, ref_conv]
  exact Finset.sum_congr rfl fun n _ => mul_comm _ _

theorem ref_chain (n : Fin 8192) (l : Fin 256) : val_main_v284 (F := Ideal) z w g b p dy (ix2 n l)
    = chainGrad (conv z w n) (fun k => dlin z w g b p dy n k * g (ix1 k)) l := by
  pointwise [val_main_v284, val_main_v283, val_main_v236, val_main_v235, val_main_v234, val_main_v233, val_main_cst_5, val_main_v232, val_main_v231, val_main_cst_4, val_main_v280, val_main_v279, val_main_cst_16, val_main_v278, val_main_v277, val_main_cst_15, val_main_v276, val_main_v247, val_main_v245, val_main_v243, val_main_v242, val_main_cst_8, val_main_v241, val_main_v240, val_main_cst_7, val_main_v239, val_main_v238, val_main_cst_6, val_main_v237, val_main_v244, val_main_v246, val_main_cst_9, val_main_v273, val_main_v272, val_main_cst_14, val_main_v271, val_main_v269, val_main_v268, val_main_v250, val_main_v282, val_main_v281, val_main_v275, val_main_v274]
  simp only [Fintype.sum_unique, ref_dlin hz hw hg hb hp hd, ref_conv]
  rfl

/-- The reference's gradient at the convolution. -/
theorem ref_dconv (n : Fin 8192) (l : Fin 256) : val_main_v292 (F := Ideal) z w g b p dy (ix2 n l) = dconv z w g b p dy n l := by
  unfold dconv
  rw [dif_pos n.isLt, ← layerGrad_eq (conv_finite hz hw n) fun k => (dlin_finite hz hw hg hb hp hd n k).mul (hg _)]
  pointwise [val_main_v292, val_main_v291, val_main_v290, val_main_cst_19, val_main_v289, val_main_v288, val_main_cst_18, val_main_v287, val_main_v286, val_main_cst_17, val_main_v285]
  simp only [Fintype.sum_unique, ref_chain hz hw hg hb hp hd]

/-- The reference's gradient at the gated input. -/
theorem ref_dgate (n : Fin 8192) (l : Fin 256) : val_main_v633 (F := Ideal) z w g b p dy (ix2 n l) = dgate z w g b p dy n l := by
  unfold dgate
  pointwise [val_main_v633, val_main_v628, val_main_v627, val_main_cst_142, val_main_v622, val_main_v621, val_main_v18, val_main_v16, val_main_v15, val_main_v617, val_main_v616, val_main_cst_138, val_main_v611, val_main_v610, val_main_v24, val_main_v22, val_main_v21, val_main_v606, val_main_v605, val_main_cst_134, val_main_v600, val_main_v599, val_main_v31, val_main_v29, val_main_v28, val_main_v595, val_main_v594, val_main_cst_130, val_main_v589, val_main_v588, val_main_v38, val_main_v36, val_main_v35, val_main_v584, val_main_v583, val_main_cst_126, val_main_v578, val_main_v577, val_main_v45, val_main_v43, val_main_v42, val_main_v573, val_main_v572, val_main_cst_122, val_main_v567, val_main_v566, val_main_v52, val_main_v50, val_main_v49, val_main_v562, val_main_v561, val_main_cst_118, val_main_v556, val_main_v555, val_main_v59, val_main_v57, val_main_v56, val_main_v551, val_main_v550, val_main_cst_114, val_main_v545, val_main_v544, val_main_v66, val_main_v64, val_main_v63, val_main_v540, val_main_v539, val_main_cst_110, val_main_v534, val_main_v533, val_main_v73, val_main_v71, val_main_v70, val_main_v529, val_main_v528, val_main_cst_106, val_main_v523, val_main_v522, val_main_v80, val_main_v78, val_main_v77, val_main_v518, val_main_v517, val_main_cst_102, val_main_v512, val_main_v511, val_main_v87, val_main_v85, val_main_v84, val_main_v507, val_main_v506, val_main_cst_98, val_main_v501, val_main_v500, val_main_v94, val_main_v92, val_main_v91, val_main_v496, val_main_v495, val_main_cst_94, val_main_v490, val_main_v489, val_main_v101, val_main_v99, val_main_v98, val_main_v485, val_main_v484, val_main_cst_90, val_main_v479, val_main_v478, val_main_v108, val_main_v106, val_main_v105, val_main_v474, val_main_v473, val_main_cst_86, val_main_v468, val_main_v467, val_main_v115, val_main_v113, val_main_v112, val_main_v463, val_main_v462, val_main_cst_82, val_main_v457, val_main_v456, val_main_v122, val_main_v120, val_main_v119, val_main_v452, val_main_v451, val_main_cst_78, val_main_v446, val_main_v445, val_main_v129, val_main_v127, val_main_v126, val_main_v441, val_main_v440, val_main_cst_74, val_main_v435, val_main_v434, val_main_v136, val_main_v134, val_main_v133, val_main_v430, val_main_v429, val_main_cst_70, val_main_v424, val_main_v423, val_main_v143, val_main_v141, val_main_v140, val_main_v419, val_main_v418, val_main_cst_66, val_main_v413, val_main_v412, val_main_v150, val_main_v148, val_main_v147, val_main_v408, val_main_v407, val_main_cst_62, val_main_v402, val_main_v401, val_main_v157, val_main_v155, val_main_v154, val_main_v397, val_main_v396, val_main_cst_58, val_main_v391, val_main_v390, val_main_v164, val_main_v162, val_main_v161, val_main_v386, val_main_v385, val_main_cst_54, val_main_v380, val_main_v379, val_main_v171, val_main_v169, val_main_v168, val_main_v375, val_main_v374, val_main_cst_50, val_main_v369, val_main_v368, val_main_v178, val_main_v176, val_main_v175, val_main_v364, val_main_v363, val_main_cst_46, val_main_v358, val_main_v357, val_main_v185, val_main_v183, val_main_v182, val_main_v353, val_main_v352, val_main_cst_42, val_main_v347, val_main_v346, val_main_v192, val_main_v190, val_main_v189, val_main_v342, val_main_v341, val_main_cst_38, val_main_v336, val_main_v335, val_main_v199, val_main_v197, val_main_v196, val_main_v331, val_main_v330, val_main_cst_34, val_main_v325, val_main_v324, val_main_v206, val_main_v204, val_main_v203, val_main_v320, val_main_v319, val_main_cst_30, val_main_v314, val_main_v313, val_main_v213, val_main_v211, val_main_v210, val_main_v309, val_main_v308, val_main_cst_26, val_main_v303, val_main_v302, val_main_v220, val_main_v218, val_main_v217, val_main_v299, val_main_cst_22, val_main_v294, val_main_v293, val_main_v227, val_main_v225, val_main_v224]
  simp only [ref_dconv hz hw hg hb hp hd, dite_eq_ite]
  simp (disch := omega) only [pad_term (f := fun n => dconv z w g b p dy n l) fun n h => dconv_end z w g b p dy n l h]
  rw [← Finset.sum_range_reflect]
  simp only [Finset.sum_range_succ, Finset.sum_range_zero, zero_add, Nat.reduceSub, Nat.sub_zero, Nat.add_sub_cancel_left]
  rfl

/-- The reference's gradient of the gate's input. -/
theorem ref_dz (n : Fin 8192) (l : Fin 512) : val_main_v638 (F := Ideal) z w g b p dy (ix2 n l)
    = if h : l.val < 256 then dgate z w g b p dy n ⟨l, h⟩ * Ideal.logistic (z (ix2 n ⟨256 + l, by omega⟩))
      else dgate z w g b p dy n ⟨l - 256, by omega⟩ * z (ix2 n ⟨l - 256, by omega⟩) * Ideal.logistic (z (ix2 n ⟨256 + (l - 256), by omega⟩))
        * (1 - Ideal.logistic (z (ix2 n ⟨256 + (l - 256), by omega⟩))) := by
  pointwise [val_main_v638, val_main_v637, val_main_v636, val_main_v10, val_main_v9, val_main_v7, val_main_v5, val_main_v3, val_main_v2, val_main_v1, val_main_v4, val_main_cst, val_main_v6, val_main_cst_0, val_main_v8, val_main_cst_1, val_main_v634, val_main_v0, val_main_v635]
  simp only [ref_dgate hz hw hg hb hp hd]
  by_cases h : l.val < 256
  · rw [dif_pos h, dif_pos h]
    rfl
  · rw [dif_neg h, dif_neg h]
    exact gate_form _ _ _

/-- The reference's gradient of the taps. -/
theorem ref_dw (k : Fin 32) (l : Fin 256) : val_main_v639 (F := Ideal) z w g b p dy (ix2 k l)
    = if k.val < 31 then ∑ n : Fin 8192, dconv z w g b p dy n l * past z (k + n) l else 0 := by
  pointwise [val_main_v639, val_main_call2_v0, val_main_c, val_main_v631, val_main_v630, val_main_cst_143, val_main_v629, val_main_v626, val_main_cst_141, val_main_v625, val_main_v624, val_main_cst_140, val_main_v623, val_main_v17, val_main_v620, val_main_v619, val_main_cst_139, val_main_v618, val_main_v615, val_main_cst_137, val_main_v614, val_main_v613, val_main_cst_136, val_main_v612, val_main_v23, val_main_v609, val_main_v608, val_main_cst_135, val_main_v607, val_main_v604, val_main_cst_133, val_main_v603, val_main_v602, val_main_cst_132, val_main_v601, val_main_v30, val_main_v598, val_main_v597, val_main_cst_131, val_main_v596, val_main_v593, val_main_cst_129, val_main_v592, val_main_v591, val_main_cst_128, val_main_v590, val_main_v37, val_main_v587, val_main_v586, val_main_cst_127, val_main_v585, val_main_v582, val_main_cst_125, val_main_v581, val_main_v580, val_main_cst_124, val_main_v579, val_main_v44, val_main_v576, val_main_v575, val_main_cst_123, val_main_v574, val_main_v571, val_main_cst_121, val_main_v570, val_main_v569, val_main_cst_120, val_main_v568, val_main_v51, val_main_v565, val_main_v564, val_main_cst_119, val_main_v563, val_main_v560, val_main_cst_117, val_main_v559, val_main_v558, val_main_cst_116, val_main_v557, val_main_v58, val_main_v554, val_main_v553, val_main_cst_115, val_main_v552, val_main_v549, val_main_cst_113, val_main_v548, val_main_v547, val_main_cst_112, val_main_v546, val_main_v65, val_main_v543, val_main_v542, val_main_cst_111, val_main_v541, val_main_v538, val_main_cst_109, val_main_v537, val_main_v536, val_main_cst_108, val_main_v535, val_main_v72, val_main_v532, val_main_v531, val_main_cst_107, val_main_v530, val_main_v527, val_main_cst_105, val_main_v526, val_main_v525, val_main_cst_104, val_main_v524, val_main_v79, val_main_v521, val_main_v520, val_main_cst_103, val_main_v519, val_main_v516, val_main_cst_101, val_main_v515, val_main_v514, val_main_cst_100, val_main_v513, val_main_v86, val_main_v510, val_main_v509, val_main_cst_99, val_main_v508, val_main_v505, val_main_cst_97, val_main_v504, val_main_v503, val_main_cst_96, val_main_v502, val_main_v93, val_main_v499, val_main_v498, val_main_cst_95, val_main_v497, val_main_v494, val_main_cst_93, val_main_v493, val_main_v492, val_main_cst_92, val_main_v491, val_main_v100, val_main_v488, val_main_v487, val_main_cst_91, val_main_v486, val_main_v483, val_main_cst_89, val_main_v482, val_main_v481, val_main_cst_88, val_main_v480, val_main_v107, val_main_v477, val_main_v476, val_main_cst_87, val_main_v475, val_main_v472, val_main_cst_85, val_main_v471, val_main_v470, val_main_cst_84, val_main_v469, val_main_v114, val_main_v466, val_main_v465, val_main_cst_83, val_main_v464, val_main_v461, val_main_cst_81, val_main_v460, val_main_v459, val_main_cst_80, val_main_v458, val_main_v121, val_main_v455, val_main_v454, val_main_cst_79, val_main_v453, val_main_v450, val_main_cst_77, val_main_v449, val_main_v448, val_main_cst_76, val_main_v447, val_main_v128, val_main_v444, val_main_v443, val_main_cst_75, val_main_v442, val_main_v439, val_main_cst_73, val_main_v438, val_main_v437, val_main_cst_72, val_main_v436, val_main_v135, val_main_v433, val_main_v432, val_main_cst_71, val_main_v431, val_main_v428, val_main_cst_69, val_main_v427, val_main_v426, val_main_cst_68, val_main_v425, val_main_v142, val_main_v422, val_main_v421, val_main_cst_67, val_main_v420, val_main_v417, val_main_cst_65, val_main_v416, val_main_v415, val_main_cst_64, val_main_v414, val_main_v149, val_main_v411, val_main_v410, val_main_cst_63, val_main_v409, val_main_v406, val_main_cst_61, val_main_v405, val_main_v404, val_main_cst_60, val_main_v403, val_main_v156, val_main_v400, val_main_v399, val_main_cst_59, val_main_v398, val_main_v395, val_main_cst_57, val_main_v394, val_main_v393, val_main_cst_56, val_main_v392, val_main_v163, val_main_v389, val_main_v388, val_main_cst_55, val_main_v387, val_main_v384, val_main_cst_53, val_main_v383, val_main_v382, val_main_cst_52, val_main_v381, val_main_v170, val_main_v378, val_main_v377, val_main_cst_51, val_main_v376, val_main_v373, val_main_cst_49, val_main_v372, val_main_v371, val_main_cst_48, val_main_v370, val_main_v177, val_main_v367, val_main_v366, val_main_cst_47, val_main_v365, val_main_v362, val_main_cst_45, val_main_v361, val_main_v360, val_main_cst_44, val_main_v359, val_main_v184, val_main_v356, val_main_v355, val_main_cst_43, val_main_v354, val_main_v351, val_main_cst_41, val_main_v350, val_main_v349, val_main_cst_40, val_main_v348, val_main_v191, val_main_v345, val_main_v344, val_main_cst_39, val_main_v343, val_main_v340, val_main_cst_37, val_main_v339, val_main_v338, val_main_cst_36, val_main_v337, val_main_v198, val_main_v334, val_main_v333, val_main_cst_35, val_main_v332, val_main_v329, val_main_cst_33, val_main_v328, val_main_v327, val_main_cst_32, val_main_v326, val_main_v205, val_main_v323, val_main_v322, val_main_cst_31, val_main_v321, val_main_v318, val_main_cst_29, val_main_v317, val_main_v316, val_main_cst_28, val_main_v315, val_main_v212, val_main_v312, val_main_v311, val_main_cst_27, val_main_v310, val_main_v307, val_main_cst_25, val_main_v306, val_main_v305, val_main_cst_24, val_main_v304, val_main_v219, val_main_v301, val_main_cst_23, val_main_v300, val_main_v298, val_main_cst_21, val_main_v297, val_main_v296, val_main_cst_20, val_main_v295, val_main_v226]
  simp only [Fintype.sum_unique, ref_dconv hz hw hg hb hp hd, ref_past]
  fin_vals k with hk
  all_goals simp [hk, FloatOps.sitofp]

end Cert.ConfIdeal.Value

end

end
-- ==== Proof.Conf.lean ====
/- The long causal convolution's gradient, row block by row block with 32 rows of each neighbour. -/
module

public import proofs.«01_k».proof.Proof.Gen.ConfIdeal.Frame
public import proofs.«01_k».proof.Defs
public import proofs.«01_k».proof.Proof.Gen.ConfRefIdeal.Run
public import proofs.«01_k».proof.Proof.Gen.ConfRefIdeal.Read
public import proofs.«01_k».proof.Proof.ConfRef
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Common

namespace Cert.ConfIdeal.Value

open Cert.ConfIdeal Cert.ConfIdeal.Gen
open Cert.ConfRefIdeal.Read

variable (m : (ℓ : Loc nD τ sig) → Buf (Elt Ideal) ℓ)

/-- The call's arguments: the gate's input, the taps, the norm's gain and bias, the projection and the gradient. -/
abbrev az (c : Dev nD) : FVec Ideal S8192x512 .f32 := m ((c : Thread nD τ).loc main_arg0)
abbrev aw (c : Dev nD) : FVec Ideal S31x256 .f32 := m ((c : Thread nD τ).loc main_arg1)
abbrev ag (c : Dev nD) : FVec Ideal S256 .f32 := m ((c : Thread nD τ).loc main_arg2)
abbrev ab (c : Dev nD) : FVec Ideal S256 .f32 := m ((c : Thread nD τ).loc main_arg3)
abbrev ap (c : Dev nD) : FVec Ideal S256x256 .f32 := m ((c : Thread nD τ).loc main_arg4)
abbrev ad (c : Dev nD) : FVec Ideal S8192x256 .f32 := m ((c : Thread nD τ).loc main_arg5)

/-- The block of each window at each grid point. -/
theorem idx : ∀ t : Fin cfg0.N, win0_0.index t = ![t.val, 0] ∧ win0_1.index t = ![t.val, 0] ∧ win0_2.index t = ![t.val, 0]
    ∧ win0_3.index t = ![t.val * 16 - 1, 0] ∧ win0_4.index t = ![min (t.val * 16 + 16) 255, 0] ∧ win0_5.index t = ![min (t.val * 16 + 16) 255, 0]
    ∧ win0_6.index t = ![0, 0] ∧ win0_7.index t = ![0, 0] ∧ win0_8.index t = ![0, 0] ∧ win0_9.index t = ![0, 0] ∧ win0_10.index t = ![t.val, 0] :=
  (by decide +kernel : ∀ t : Fin grid0.N, _)

/-- The first grid point. -/
theorem first_row : ∀ t : Fin cfg0.N, Scalar.cmpi .sgt (BitVec.ofNat 32 (grid0.coords t 0).val) 0#32 = if t.val = 0 then 0#1 else 1#1 :=
  (by decide +kernel : ∀ t : Fin grid0.N, _)

/-- The last grid point. -/
theorem last_row : ∀ t : Fin cfg0.N, Scalar.cmpi .slt (BitVec.ofNat 32 (grid0.coords t 0).val) 15#32 = if t.val = 15 then 0#1 else 1#1 :=
  (by decide +kernel : ∀ t : Fin grid0.N, _)

/-- The rows before the block's end. -/
theorem below (a : Fin 544) : IntOp.cmpi .slt (BitVec.ofNat 32 a) 512#32 = if 512 ≤ a.val then 0#1 else 1#1 := by
  word_cmp
  by_cases h : (a : ℕ) < 512 <;> simp [h, Nat.not_le.2, Nat.le_of_not_lt]

/-- The rows after the first 32. -/
theorem above (a : Fin 544) : IntOp.cmpi .sge (BitVec.ofNat 32 a) 32#32 = if a.val < 32 then 0#1 else 1#1 := by
  word_cmp
  by_cases h : (a : ℕ) < 32 <;> simp [h, Nat.not_le.2, Nat.le_of_not_lt]

theorem tap_row (a : Fin 32) (k : ℕ) (h : k < 32) : IntOp.cmpi .eq (BitVec.ofNat 32 a) (BitVec.ofNat 32 k) = if a.val ≠ k then 0#1 else 1#1 := by
  word_cmp
  by_cases h : (a : ℕ) = k <;> simp [h]

/-- The gate under 30 rows of zeros, as the call's host lines pad it. -/
theorem gate_pad (z : FVec Ideal S8192x512 .f32) : pad S8222x256 ![30, 0] ![0, 0] ![0, 0]
    (mulf (extractStridedSlice S8192x256 ![0, 0] z slices_S8192x512_S8192x256_0_0)
      (Host.divf (broadcastInDim S8192x256 ![] bcast_S_S8192x256 (constant S_ FTy.f32 1065353216#32))
        (addf (broadcastInDim S8192x256 ![] bcast_S_S8192x256 (constant S_ FTy.f32 1065353216#32))
          (Host.exp (Host.negf (extractStridedSlice S8192x256 ![0, 256] z slices_S8192x512_S8192x256_0_256))))))
    (sitofp FTy.f32 (constantI S_ 32 0#32)) pads_S8192x256_S8222x256_3000_000 h_S_ = val_main_v13 (F := Ideal) z := by
  funext i
  obtain ⟨q, l, rfl⟩ : ∃ q l, i = ix2 q l := ⟨i 0, i 1, by funext d; fin_cases d <;> rfl⟩
  rw [ref_past]
  unfold past
  pointwise []
  by_cases h : 30 ≤ (q : ℕ)
  · rw [dif_pos (by omega), dif_pos (by omega)]
    rfl
  · rw [dif_neg (by omega), dif_neg (by omega)]
    simp [FloatOps.sitofp]

/-- The saved convolution that the host computes is the reference's. -/
theorem cv_read (c : Dev nD) (n : Fin 8192) (l : Fin 256) : (V m c main_v165 : FVec Ideal S8192x256 .f32) (ix2 n l) = conv (az m c) (aw m c) n l := by
  unfold V
  simp only [List.flatten, List.append, hostOps0, hostOps0_1, hostOps0_2, hostOps0_3, hostOps0_4]
  after_results
  simp -implicitDefEqProofs only [StableHlo.TRef.toBuf, StableHlo.TRef.ofBuf, cast_cast, cast_eq]
  rw [gate_pad]
  unfold conv
  pointwise [ref_past]
  simp only [Finset.sum_range_succ, Finset.sum_range_zero, zero_add]
  rfl

theorem w_read (c : Dev nD) : (V m c main_v166 : FVec Ideal S32x256 .f32) = pad S32x256 ![0, 0] ![1, 0] ![0, 0] (aw m c) (sitofp .f32 (constantI S_ 32 0#32)) pads_S31x256_S32x256_010_000 h_S_ := by
  unfold V
  simp only [List.flatten, List.append, hostOps0, hostOps0_1, hostOps0_2, hostOps0_3, hostOps0_4]
  after_results
  rfl

/-- A block's gated rows behind those of the block before. -/
theorem past_at (c : Dev nD) (t : Fin cfg0.N) (q : Fin 544) (l : Fin 256) (h : 2 ≤ q.val) :
    k0_pay13 (F := Ideal) (BitVec.ofNat 32 (grid0.coords t 0).val) (iblk m c 0 t) (iblk m c 3 t) (ix2 q l) = past (az m c) (t.val * 512 + q - 2) l := by
  have ht : t.val < 16 := lt_of_lt_of_eq t.isLt N_0
  unfold past
  pointwise [k0_pay13]
  rw [first_row t, above q, ori_ite, select_ite]
  by_cases h1 : (q : ℕ) < 32
  · by_cases h2 : t.val = 0
    · rw [if_pos ⟨h1, h2⟩, dif_neg (by omega)]
    · rw [if_neg (by omega)]
      simp only [dif_pos h1]
      rw [dif_pos (by omega)]
      refine congrArg₂ (fun a b : EReal => a * Ideal.logistic b) ?_ ?_
      · blk_point [iblk, V, idx t]
      · blk_point [iblk, V, idx t]
  · rw [if_neg (by omega)]
    simp only [dif_neg h1]
    rw [dif_pos (by omega)]
    refine congrArg₂ (fun a b : EReal => a * Ideal.logistic b) ?_ ?_
    · blk_point [iblk, V, idx t]
    · blk_point [iblk, V, idx t]

/-- A block's rows followed by the next block's first 32. -/
theorem rows_at (c : Dev nD) (t : Fin cfg0.N) (q : Fin 544) (l : Fin 256) (h : t.val * 512 + q.val < 8192) :
    (if h : q.val < 512 then (iblk m c 1 t : FVec Ideal S512x256 .f32) (ix2 ⟨q, h⟩ l) else (iblk m c 4 t : FVec Ideal S32x256 .f32) (ix2 ⟨q - 512, by omega⟩ l))
      = conv (az m c) (aw m c) (t.val * 512 + q) l := by
  refine Eq.trans (b := (V m c main_v165 : FVec Ideal S8192x256 .f32) (ix2 ⟨t.val * 512 + q, h⟩ l)) ?_ (cv_read m c _ l)
  have ht : t.val < 16 := lt_of_lt_of_eq t.isLt N_0
  by_cases h1 : (q : ℕ) < 512
  · rw [dif_pos h1]
    blk_point [iblk, idx t]
  · rw [dif_neg h1]
    blk_point [iblk, idx t]

/-- A block's rows of the saved convolution. -/
theorem conv_at (c : Dev nD) (t : Fin cfg0.N) (q : Fin 544) (l : Fin 256) (h : t.val * 512 + q.val < 8192) :
    k0_pay1 (F := Ideal) (iblk m c 1 t) (iblk m c 4 t) (ix2 q l) = centred (conv (az m c) (aw m c) (t.val * 512 + q)) l := by
  unfold centred
  pointwise [k0_pay1]
  exact congrArg₂ (fun a b : EReal => a - Ideal.div b wide) (rows_at m c t q l h) (Finset.sum_congr rfl fun k _ => rows_at m c t q k h)

/-- A block's reciprocal deviations. -/
theorem scale_at (c : Dev nD) (t : Fin cfg0.N) (q : Fin 544) (h : t.val * 512 + q.val < 8192) :
    k0_pay2 (F := Ideal) (iblk m c 1 t) (iblk m c 4 t) (ix2 q 0) = scale (conv (az m c) (aw m c) (t.val * 512 + q)) := by
  pointwise [k0_pay2]
  simp only [conv_at m c t q _ h]
  rfl

/-- A block's normed rows, before gain and bias. -/
theorem norm_at (c : Dev nD) (t : Fin cfg0.N) (q : Fin 544) (l : Fin 256) (h : t.val * 512 + q.val < 8192) :
    k0_pay3 (F := Ideal) (iblk m c 1 t) (iblk m c 4 t) (ix2 q l)
      = centred (conv (az m c) (aw m c) (t.val * 512 + q)) l * scale (conv (az m c) (aw m c) (t.val * 512 + q)) := by
  pointwise [k0_pay3]
  rw [conv_at m c t q l h]
  exact congrArg _ (scale_at m c t q h)

theorem g_at (c : Dev nD) (t : Fin cfg0.N) (l : Fin 256) : (iblk m c 7 t : FVec Ideal S1x256 .f32) (ix2 0 l) = ag m c (ix1 l) := by
  refine Eq.trans (b := (V m c main_v167 : FVec Ideal S1x256 .f32) (ix2 0 l)) (by blk_point [iblk, idx t]) ?_
  unfold V
  simp only [List.flatten, List.append, hostOps0, hostOps0_1, hostOps0_2, hostOps0_3, hostOps0_4]
  after_results
  pointwise []

theorem b_at (c : Dev nD) (t : Fin cfg0.N) (l : Fin 256) : (iblk m c 8 t : FVec Ideal S1x256 .f32) (ix2 0 l) = ab m c (ix1 l) := by
  refine Eq.trans (b := (V m c main_v168 : FVec Ideal S1x256 .f32) (ix2 0 l)) (by blk_point [iblk, idx t]) ?_
  unfold V
  simp only [List.flatten, List.append, hostOps0, hostOps0_1, hostOps0_2, hostOps0_3, hostOps0_4]
  after_results
  pointwise []

/-- The norm's output in a block. -/
theorem lin_at (c : Dev nD) (t : Fin cfg0.N) (q : Fin 544) (l : Fin 256) (h : t.val * 512 + q.val < 8192) :
    k0_pay4 (F := Ideal) (iblk m c 1 t) (iblk m c 4 t) (iblk m c 7 t) (iblk m c 8 t) (ix2 q l) = lin (az m c) (aw m c) (ag m c) (ab m c) (t.val * 512 + q) l := by
  pointwise [k0_pay4]
  rw [norm_at m c t q l h]
  exact congrArg₂ (fun a b : EReal => _ * a + b) (g_at m c t l) (b_at m c t l)

/-- The sigmoid of the norm's output in a block. -/
theorem sig_at (c : Dev nD) (t : Fin cfg0.N) (q : Fin 544) (l : Fin 256) (h : t.val * 512 + q.val < 8192) :
    k0_pay5 (F := Ideal) (iblk m c 1 t) (iblk m c 4 t) (iblk m c 7 t) (iblk m c 8 t) (ix2 q l) = Ideal.logistic (lin (az m c) (aw m c) (ag m c) (ab m c) (t.val * 512 + q) l) := by
  pointwise [k0_pay5]
  rw [lin_at m c t q l h]

theorem dy_at (c : Dev nD) (t : Fin cfg0.N) (q : Fin 544) (l : Fin 256) (h : t.val * 512 + q.val < 8192) :
    k0_pay7 (F := Ideal) (iblk m c 2 t) (iblk m c 5 t) (ix2 q l) = ad m c (ix2 ⟨t.val * 512 + q, h⟩ l) := by
  have ht : t.val < 16 := lt_of_lt_of_eq t.isLt N_0
  pointwise [k0_pay7]
  by_cases h1 : (q : ℕ) < 512
  · simp only [dif_pos h1]
    blk_point [iblk, V, idx t]
  · simp only [dif_neg h1]
    blk_point [iblk, V, idx t]

theorem p_at (c : Dev nD) (t : Fin cfg0.N) (i j : Fin 256) : (iblk m c 9 t : FVec Ideal S256x256 .bf16) (ix2 i j) = ap m c (ix2 i j) := by
  refine Eq.trans (b := (V m c main_v169 : FVec Ideal S256x256 .bf16) (ix2 i j)) (by blk_point [iblk, idx t]) ?_
  rw [show (V m c main_v169 : FVec Ideal S256x256 .bf16) = truncf .bf16 (ap m c) bitsLt_bf16_f32 from by
    unfold V
    simp only [List.flatten, List.append, hostOps0, hostOps0_1, hostOps0_2, hostOps0_3, hostOps0_4]
    after_results]
  pointwise []

/-- The gradient at the norm's outcome, of a block's rows and the next block's first 32. -/
abbrev linBlk (c : Dev nD) (t : Fin cfg0.N) : FVec Ideal S544x256 .f32 :=
  k0_pay8 (k0_pay4 (iblk m c 1 t) (iblk m c 4 t) (iblk m c 7 t) (iblk m c 8 t)) (k0_pay5 (iblk m c 1 t) (iblk m c 4 t) (iblk m c 7 t) (iblk m c 8 t))
    (k0_pay7 (iblk m c 2 t) (iblk m c 5 t)) (iblk m c 9 t)

/-- The gradient at the convolution, of the same rows; rows past the last are zero. -/
abbrev dBlk (c : Dev nD) (t : Fin cfg0.N) : FVec Ideal S544x256 .f32 :=
  k0_pay9 (BitVec.ofNat 32 (grid0.coords t 0).val) (k0_pay2 (iblk m c 1 t) (iblk m c 4 t)) (k0_pay3 (iblk m c 1 t) (iblk m c 4 t))
    (k0_pay4 (iblk m c 1 t) (iblk m c 4 t) (iblk m c 7 t) (iblk m c 8 t)) (k0_pay5 (iblk m c 1 t) (iblk m c 4 t) (iblk m c 7 t) (iblk m c 8 t))
    (k0_pay7 (iblk m c 2 t) (iblk m c 5 t)) (iblk m c 9 t) (iblk m c 7 t)

abbrev dl (c : Dev nD) (n : Fin 8192) (l : Fin 256) : EReal := dlin (az m c) (aw m c) (ag m c) (ab m c) (ap m c) (ad m c) n l
abbrev dc (c : Dev nD) (n : ℕ) (l : Fin 256) : EReal := dconv (az m c) (aw m c) (ag m c) (ab m c) (ap m c) (ad m c) n l

/-- The gradient at the norm's output in a block. -/
theorem dlin_at (c : Dev nD) (t : Fin cfg0.N) (q : Fin 544) (l : Fin 256) (h : t.val * 512 + q.val < 8192) : linBlk m c t (ix2 q l) = dl m c ⟨t.val * 512 + q, h⟩ l := by
  unfold dl dlin dsw
  pointwise [k0_pay8]
  simp only [lin_at m c t q _ h, sig_at m c t q _ h, dy_at m c t q _ h, p_at m c t]

/-- The gradient at the convolution in a block. -/
theorem dconv_at (c : Dev nD) (t : Fin cfg0.N) (q : Fin 544) (l : Fin 256) : dBlk m c t (ix2 q l) = dc m c (t.val * 512 + q) l := by
  have ht : t.val < 16 := lt_of_lt_of_eq t.isLt N_0
  unfold dc dconv
  pointwise [k0_pay9]
  rw [last_row t, below q, ori_ite, select_ite]
  by_cases h : 512 ≤ (q : ℕ) ∧ t.val = 15
  · rw [if_pos h, dif_neg (by omega)]
  · rw [if_neg h, dif_pos (by omega)]
    have h : t.val * 512 + q.val < 8192 := by omega
    unfold layerGrad
    simp only [fun l => show k0_pay8 _ _ _ _ (ix2 q l) = _ from dlin_at m c t q l h, norm_at m c t q _ h, g_at m c t, show k0_pay2 (iblk m c 1 t) (iblk m c 4 t) (ix2 q 0) = _ from scale_at m c t q h]

/-- The rows of a block by number, zero past its end. -/
def row (D : FVec Ideal S544x256 .f32) (n : ℕ) (l : Fin 256) : EReal := if h : n < 544 then D (ix2 ⟨n, h⟩ l) else 0

theorem row_of (D : FVec Ideal S544x256 .f32) (q : Fin 544) (n : ℕ) (l : Fin 256) (h : q.val = n) : D (ix2 q l) = row D n l := by
  subst h
  unfold row
  rw [dif_pos q.isLt]

/-- The first `n` taps of the backward pass at row `q`. -/
def part (v : ℕ → EReal) (D : FVec Ideal S544x256 .f32) (q : ℕ) (l : Fin 256) (n : ℕ) : EReal :=
  ∑ k ∈ Finset.range n, v k * row D (q + 30 - k) l

/-- One more tap: the block turned by `514 + k` rows. -/
theorem tapped (v : ℕ → EReal) (D : FVec Ideal S544x256 .f32) (q : Fin 512) (l : Fin 256) (k : ℕ) (a : FVec Ideal S512x256 .f32) (w : FVec Ideal S1x256 .f32)
    (ha : part v D q l k = a (ix2 q l)) (hw : w (ix2 0 l) = v k) (hk : k < 30 := by decide) :
    part v D q l (k + 1) = addf a (mulf (broadcastTo S512x256 (shapeCast S1x256 w shapeCasts_S1x256_S1x256) broadcasts_S1x256_S512x256)
      (extractStridedSlice S512x256 ![0, 0] (dynamicRotate 0 (BitVec.ofNat 32 (514 + k)) none D rotates_S544x256_d0) slices_S544x256_o0_0_S512x256)) (ix2 q l) := by
  rw [part, Finset.sum_range_succ, ← part, ha, ← hw]
  clear ha hw
  interval_cases k
  all_goals
    pointwise []
    refine congrArg (fun b : EReal => a (ix2 q l) + w (ix2 0 l) * b) (row_of D _ _ l ?_).symm
    exact (Nat.mod_eq_of_lt (by omega)).trans (by omega)

/-- The taps' outcomes at row `r` of the taps' gradient, for the first `n` taps. -/
def picked (G : FVec Ideal S544x256 .f32) (D : FVec Ideal S512x256 .f32) (r : ℕ) (l : Fin 256) (n : ℕ) : EReal :=
  ∑ k ∈ Finset.range n, if r = k then ∑ x : Fin 512, D (ix2 x l) * row G (2 + x + k) l else 0

/-- One more tap: the gate turned by `30 - k` rows against the gradient, into row `k`. -/
theorem rowed (G : FVec Ideal S544x256 .f32) (D : FVec Ideal S512x256 .f32) (r : Fin 32) (l : Fin 256) (k : ℕ) (a : FVec Ideal S32x256 .f32)
    (ha : picked G D r l k = a (ix2 r l)) (hk : k < 30 := by decide) :
    picked G D r l (k + 1) = addf a (select (cmpi .eq (iota Kind.tc S32x256 32 [0] iota_S32x256_d0_w32) (broadcast S32x256 (BitVec.ofNat 32 k)))
      (broadcastTo S32x256 (shapeCast S1x256 (shapeCast S1x256 (multiReduction .add [0] S256
        (mulf D (extractStridedSlice S512x256 ![32, 0] (dynamicRotate 0 (BitVec.ofNat 32 (30 - k)) none G rotates_S544x256_d0) slices_S544x256_o32_0_S512x256))
        0x00000000#32 reduces_S512x256_S256 (.inl rfl) rfl) shapeCasts_S256_S1x256) shapeCasts_S1x256_S1x256) broadcasts_S1x256_S32x256)
      (broadcast S32x256 (Scalar.ofBits (F := Ideal) .f32 0x00000000#32))) (ix2 r l) := by
  rw [picked, Finset.sum_range_succ, ← picked, ha]
  clear ha
  have e := tap_row r k (by omega)
  interval_cases k
  all_goals
    pointwise []
    rw [e, select_ite, ite_not]
    refine congrArg (fun b : EReal => a (ix2 r l) + b) (if_congr Iff.rfl (Finset.sum_congr rfl fun x _ => congrArg (fun b : EReal => D (ix2 x l) * b) (row_of G _ _ l ?_).symm) rfl)
    show (_ : ℕ) % 544 = _
    omega

theorem rowed_last (G : FVec Ideal S544x256 .f32) (D : FVec Ideal S512x256 .f32) (r : Fin 32) (l : Fin 256) (a : FVec Ideal S32x256 .f32)
    (ha : picked G D r l 30 = a (ix2 r l)) :
    picked G D r l 31 = addf a (select (cmpi .eq (iota Kind.tc S32x256 32 [0] iota_S32x256_d0_w32) (broadcast S32x256 30#32))
      (broadcastTo S32x256 (shapeCast S1x256 (shapeCast S1x256 (multiReduction .add [0] S256
        (mulf D (extractStridedSlice S512x256 ![32, 0] G slices_S544x256_o32_0_S512x256))
        0x00000000#32 reduces_S512x256_S256 (.inl rfl) rfl) shapeCasts_S256_S1x256) shapeCasts_S1x256_S1x256) broadcasts_S1x256_S32x256)
      (broadcast S32x256 (Scalar.ofBits (F := Ideal) .f32 0x00000000#32))) (ix2 r l) := by
  rw [picked, Finset.sum_range_succ, ← picked, ha]
  clear ha
  pointwise []
  rw [show IntOp.cmpi .eq (BitVec.ofNat 32 r) 30#32 = _ from tap_row r 30 (by omega), select_ite, ite_not]
  refine congrArg (fun b : EReal => a (ix2 r l) + b) (if_congr Iff.rfl (Finset.sum_congr rfl fun x _ => congrArg (fun b : EReal => D (ix2 x l) * b) (row_of G _ _ l ?_).symm) rfl)
  show 32 + x.val = 2 + x.val + 30
  omega

theorem w_at (c : Dev nD) (t : Fin cfg0.N) (k : Fin 31) (l : Fin 256) : (iblk m c 6 t : FVec Ideal S32x256 .f32) (ix2 ⟨k, by omega⟩ l) = aw m c (ix2 k l) := by
  refine Eq.trans (b := (V m c main_v166 : FVec Ideal S32x256 .f32) (ix2 ⟨k, by omega⟩ l)) (by blk_point [iblk, idx t]) ?_
  rw [w_read]
  pointwise []

theorem tap_ld (c : Dev nD) (t : Fin cfg0.N) (k : ℕ) (l : Fin 256) (hb : ∀ a, (![k, 0] : Fin 2 → ℕ) a + S1x256.size a ≤ S32x256.size a) (hk : k < 31 := by decide) :
    View.ld (iblk m c 6 t : FVec Ideal S32x256 .f32) (Rect.unit (s := S32x256) ![k, 0] S1x256.size hb) (ix2 0 l) = tap (aw m c) k l := by
  unfold tap
  rw [dif_pos hk]
  refine Eq.trans ?_ (w_at m c t ⟨k, hk⟩ l)
  pointwise []

theorem dconv_row (c : Dev nD) (t : Fin cfg0.N) (n : ℕ) (l : Fin 256) (h : n < 544) : row (dBlk m c t) n l = dc m c (t.val * 512 + n) l := by
  unfold row
  rw [dif_pos h]
  exact dconv_at m c t ⟨n, h⟩ l

theorem past_row (c : Dev nD) (t : Fin cfg0.N) (n : ℕ) (l : Fin 256) (h : n < 544) (h2 : 2 ≤ n) :
    row (k0_pay13 (F := Ideal) (BitVec.ofNat 32 (grid0.coords t 0).val) (iblk m c 0 t) (iblk m c 3 t)) n l = past (az m c) (t.val * 512 + n - 2) l := by
  unfold row
  rw [dif_pos h]
  exact past_at m c t ⟨n, h⟩ l h2

/-- All taps of the backward pass make the gradient at the gated input. -/
theorem part_full (c : Dev nD) (t : Fin cfg0.N) (q : Fin 512) (l : Fin 256) :
    part (fun k => tap (aw m c) k l) (dBlk m c t) q l 31 = dgate (az m c) (aw m c) (ag m c) (ab m c) (ap m c) (ad m c) (t.val * 512 + q) l := by
  unfold part dgate
  refine Finset.sum_congr rfl fun k hk => ?_
  have := Finset.mem_range.1 hk
  rw [dconv_row m c t _ l (by omega)]
  exact congrArg (fun n => tap (aw m c) k l * dc m c n l) (by omega)

/-- All rows of the taps' gradient that a block adds. -/
theorem picked_full (c : Dev nD) (t : Fin cfg0.N) (r : Fin 32) (l : Fin 256) :
    picked (k0_pay13 (F := Ideal) (BitVec.ofNat 32 (grid0.coords t 0).val) (iblk m c 0 t) (iblk m c 3 t)) (k0_pay14 (dBlk m c t)) r l 31
      = if r.val < 31 then ∑ x : Fin 512, dc m c (t.val * 512 + x) l * past (az m c) (r + (t.val * 512 + x)) l else 0 := by
  unfold picked
  have e : ∀ k ∈ Finset.range 31, (if r.val = k then ∑ x : Fin 512, k0_pay14 (dBlk m c t) (ix2 x l)
      * row (k0_pay13 (F := Ideal) (BitVec.ofNat 32 (grid0.coords t 0).val) (iblk m c 0 t) (iblk m c 3 t)) (2 + x + k) l else 0)
      = if r.val = k then ∑ x : Fin 512, dc m c (t.val * 512 + x) l * past (az m c) (r + (t.val * 512 + x)) l else 0 := fun k hk => by
    have := Finset.mem_range.1 hk
    refine if_ctx_congr Iff.rfl (fun hr => Finset.sum_congr rfl fun x _ => congrArg₂ (fun a b : EReal => a * b) ?_ ?_) fun _ => rfl
    · generalize hD : dBlk m c t = D
      pointwise [k0_pay14]
      rw [← hD]
      exact dconv_at m c t ⟨x, by omega⟩ l
    · rw [past_row m c t _ l (by omega) (by omega)]
      exact congrArg (fun n => past (az m c) n l) (by omega)
  rw [Finset.sum_congr rfl e, Finset.sum_ite_eq]
  exact if_congr Finset.mem_range rfl rfl

theorem dz_step (c : Dev nD) (t : Fin cfg0.N) (y0 : Fin 512) (y1 : Fin 512) (X : FVec Ideal S512x256 .f32) (w29 w30 : FVec Ideal S1x256 .f32)
    (hX : ∀ l, X (ix2 y0 l) = part (fun k => tap (aw m c) k l) (dBlk m c t) y0 l 29)
    (h29 : ∀ l, w29 (ix2 0 l) = tap (aw m c) 29 l) (h30 : ∀ l, w30 (ix2 0 l) = tap (aw m c) 30 l) :
    k0_pay59 (k0_pay58 (F := Ideal) (iblk m c 0 t) (dBlk m c t) X w29 w30) (ix2 y0 y1)
      = if h : y1.val < 256 then dgate (az m c) (aw m c) (ag m c) (ab m c) (ap m c) (ad m c) (t.val * 512 + y0) ⟨y1, h⟩ * Ideal.logistic (az m c (ix2 ⟨t.val * 512 + y0, by have := lt_of_lt_of_eq t.isLt N_0; omega⟩ ⟨256 + y1, by omega⟩))
      else dgate (az m c) (aw m c) (ag m c) (ab m c) (ap m c) (ad m c) (t.val * 512 + y0) ⟨y1 - 256, by omega⟩ * az m c (ix2 ⟨t.val * 512 + y0, by have := lt_of_lt_of_eq t.isLt N_0; omega⟩ ⟨y1 - 256, by omega⟩)
          * Ideal.logistic (az m c (ix2 ⟨t.val * 512 + y0, by have := lt_of_lt_of_eq t.isLt N_0; omega⟩ ⟨256 + (y1 - 256), by omega⟩))
        * (1 - Ideal.logistic (az m c (ix2 ⟨t.val * 512 + y0, by have := lt_of_lt_of_eq t.isLt N_0; omega⟩ ⟨256 + (y1 - 256), by omega⟩))) := by
  have ht : t.val < 16 := lt_of_lt_of_eq t.isLt N_0
  have hz : ∀ j : Fin 512, (iblk m c 0 t : FVec Ideal S512x512 .f32) (ix2 y0 j) = az m c (ix2 ⟨t.val * 512 + y0, by omega⟩ j) := fun j => by
    blk_point [iblk, V, idx t]
  have hs : ∀ l, dgate (az m c) (aw m c) (ag m c) (ab m c) (ap m c) (ad m c) (t.val * 512 + y0) l
      = X (ix2 y0 l) + w29 (ix2 0 l) * row (dBlk m c t) (y0 + 1) l + w30 (ix2 0 l) * row (dBlk m c t) y0 l := fun l => by
    rw [← part_full, hX l, h29 l, h30 l, part, Finset.sum_range_succ, Finset.sum_range_succ]
    rfl
  simp only [hs]
  generalize dBlk m c t = D
  generalize (iblk m c 0 t : FVec Ideal S512x512 .f32) = Z at hz ⊢
  pointwise [k0_pay59, k0_pay58]
  simp only [hz, fun h l => row_of D ⟨(y0.val + 544 - 543) % 544, h⟩ (y0 + 1) l (by show (_ : ℕ) % 544 = _; omega), fun h l => row_of D ⟨y0, h⟩ y0 l rfl]

/-- What a grid point leaves of the input's gradient. -/
theorem dz_point (c : Dev nD) (t : Fin cfg0.N) (y0 : Fin 512) (y1 : Fin 512) : (outsAt0 m c t.val t.isLt).1 (ix2 y0 y1)
    = if h : y1.val < 256 then dgate (az m c) (aw m c) (ag m c) (ab m c) (ap m c) (ad m c) (t.val * 512 + y0) ⟨y1, h⟩ * Ideal.logistic (az m c (ix2 ⟨t.val * 512 + y0, by have := lt_of_lt_of_eq t.isLt N_0; omega⟩ ⟨256 + y1, by omega⟩))
      else dgate (az m c) (aw m c) (ag m c) (ab m c) (ap m c) (ad m c) (t.val * 512 + y0) ⟨y1 - 256, by omega⟩ * az m c (ix2 ⟨t.val * 512 + y0, by have := lt_of_lt_of_eq t.isLt N_0; omega⟩ ⟨y1 - 256, by omega⟩)
          * Ideal.logistic (az m c (ix2 ⟨t.val * 512 + y0, by have := lt_of_lt_of_eq t.isLt N_0; omega⟩ ⟨256 + (y1 - 256), by omega⟩))
        * (1 - Ideal.logistic (az m c (ix2 ⟨t.val * 512 + y0, by have := lt_of_lt_of_eq t.isLt N_0; omega⟩ ⟨256 + (y1 - 256), by omega⟩))) := by
  by_cases h : t.val % 16 = 0
  · rw [outsAt0_A m c t h]
    frame_out
    refine dz_step m c t y0 y1 _ _ _ (fun l => Eq.symm ?_) (fun l => tap_ld m c t 29 l _) (fun l => tap_ld m c t 30 l _)
    iterate 29 refine tapped _ _ _ _ _ _ _ ?_ (tap_ld m c t _ l _)
    rw [part, Finset.range_zero, Finset.sum_empty]
    pointwise []
  · rw [outsAt0_B m c t h]
    frame_out
    refine dz_step m c t y0 y1 _ _ _ (fun l => Eq.symm ?_) (fun l => tap_ld m c t 29 l _) (fun l => tap_ld m c t 30 l _)
    iterate 29 refine tapped _ _ _ _ _ _ _ ?_ (tap_ld m c t _ l _)
    rw [part, Finset.range_zero, Finset.sum_empty]
    pointwise []

/-- A row of the taps' gradient after one more block. -/
theorem dw_add (c : Dev nD) (t : Fin cfg0.N) (X a : FVec Ideal S32x256 .f32) (k : Fin 32) (l : Fin 256)
    (hX : picked (k0_pay13 (F := Ideal) (BitVec.ofNat 32 (grid0.coords t 0).val) (iblk m c 0 t) (iblk m c 3 t)) (k0_pay14 (dBlk m c t)) k l 31 = X (ix2 k l)) :
    k0_pay64 X a (ix2 k l) = a (ix2 k l) + if k.val < 31 then ∑ x : Fin 512, dc m c (t.val * 512 + x) l * past (az m c) (k + (t.val * 512 + x)) l else 0 := by
  rw [← picked_full, hX]
  pointwise [k0_pay64]

theorem dw_A (c : Dev nD) (t : Fin cfg0.N) (h : t.val % 16 = 0) (k : Fin 32) (l : Fin 256) : (outsAt0 m c t.val t.isLt).2.1 (ix2 k l)
    = 0 + if k.val < 31 then ∑ x : Fin 512, dc m c (t.val * 512 + x) l * past (az m c) (k + (t.val * 512 + x)) l else 0 := by
  rw [outsAt0_A m c t h]
  frame_out
  refine (dw_add m c t _ _ k l (rowed_last _ _ _ _ _ ?_)).trans (congrArg (fun b : EReal => b + _) ?_)
  · iterate 30 refine rowed _ _ _ _ _ _ ?_
    rw [picked, Finset.range_zero, Finset.sum_empty]
    pointwise []
  · pointwise [k0_pay60]

theorem dw_B (c : Dev nD) (t : Fin cfg0.N) (h : ¬t.val % 16 = 0) (k : Fin 32) (l : Fin 256) : (outsAt0 m c t.val t.isLt).2.1 (ix2 k l)
    = (outsAt0 m c (t.val - 1) (by omega)).2.1 (ix2 k l) + if k.val < 31 then ∑ x : Fin 512, dc m c (t.val * 512 + x) l * past (az m c) (k + (t.val * 512 + x)) l else 0 := by
  rw [outsAt0_B m c t h]
  frame_out
  refine dw_add m c t _ _ k l (rowed_last _ _ _ _ _ ?_)
  iterate 30 refine rowed _ _ _ _ _ _ ?_
  rw [picked, Finset.range_zero, Finset.sum_empty]
  pointwise []

/-- What a block adds to the bias's gradient. -/
theorem db_step (c : Dev nD) (t : Fin cfg0.N) (a : FVec Ideal S1x256 .f32) (l : Fin 256) :
    k0_pay66 (F := Ideal) (k0_pay11 (k0_pay4 (iblk m c 1 t) (iblk m c 4 t) (iblk m c 7 t) (iblk m c 8 t)) (k0_pay5 (iblk m c 1 t) (iblk m c 4 t) (iblk m c 7 t) (iblk m c 8 t))
      (k0_pay7 (iblk m c 2 t) (iblk m c 5 t)) (iblk m c 9 t)) a (ix2 0 l)
      = a (ix2 0 l) + ∑ x : Fin 512, dl m c ⟨t.val * 512 + x, by have := lt_of_lt_of_eq t.isLt N_0; omega⟩ l := by
  have ht : t.val < 16 := lt_of_lt_of_eq t.isLt N_0
  pointwise [k0_pay66, k0_pay11]
  exact congrArg (fun b : EReal => _ + b) (Finset.sum_congr rfl fun x _ => dlin_at m c t ⟨x, by omega⟩ l (by show t.val * 512 + x.val < 8192; omega))

/-- What a block adds to the gain's gradient. -/
theorem dg_step (c : Dev nD) (t : Fin cfg0.N) (a : FVec Ideal S1x256 .f32) (l : Fin 256) :
    k0_pay65 (F := Ideal) (k0_pay10 (k0_pay3 (iblk m c 1 t) (iblk m c 4 t)) (k0_pay4 (iblk m c 1 t) (iblk m c 4 t) (iblk m c 7 t) (iblk m c 8 t)) (k0_pay5 (iblk m c 1 t) (iblk m c 4 t) (iblk m c 7 t) (iblk m c 8 t))
      (k0_pay7 (iblk m c 2 t) (iblk m c 5 t)) (iblk m c 9 t)) a (ix2 0 l)
      = a (ix2 0 l) + ∑ x : Fin 512, dl m c ⟨t.val * 512 + x, by have := lt_of_lt_of_eq t.isLt N_0; omega⟩ l
        * (centred (conv (az m c) (aw m c) (t.val * 512 + x)) l * scale (conv (az m c) (aw m c) (t.val * 512 + x))) := by
  have ht : t.val < 16 := lt_of_lt_of_eq t.isLt N_0
  pointwise [k0_pay65, k0_pay10]
  exact congrArg (fun b : EReal => _ + b) (Finset.sum_congr rfl fun x _ => congrArg₂ (fun a b : EReal => a * b)
    (dlin_at m c t ⟨x, by omega⟩ l (by show t.val * 512 + x.val < 8192; omega)) (norm_at m c t ⟨x, by omega⟩ l (by show t.val * 512 + x.val < 8192; omega)))

/-- What a block adds to the projection's gradient. -/
theorem dp_step (c : Dev nD) (t : Fin cfg0.N) (a : FVec Ideal S256x256 .f32) (i j : Fin 256) :
    k0_pay67 (F := Ideal) (k0_pay12 (iblk m c 2 t) (k0_pay6 (iblk m c 1 t) (iblk m c 4 t) (iblk m c 7 t) (iblk m c 8 t))) a (ix2 i j)
      = a (ix2 i j) + ∑ x : Fin 512, lin (az m c) (aw m c) (ag m c) (ab m c) (t.val * 512 + x) i * Ideal.logistic (lin (az m c) (aw m c) (ag m c) (ab m c) (t.val * 512 + x) i)
        * ad m c (ix2 ⟨t.val * 512 + x, by have := lt_of_lt_of_eq t.isLt N_0; omega⟩ j) := by
  have ht : t.val < 16 := lt_of_lt_of_eq t.isLt N_0
  pointwise [k0_pay67, k0_pay12, k0_pay6]
  refine congrArg (fun b : EReal => _ + b) (Finset.sum_congr rfl fun x _ => congrArg₂ (fun a b : EReal => a * b)
    (congrArg₂ (fun a b : EReal => a * b) (lin_at m c t ⟨x, by omega⟩ i (by show t.val * 512 + x.val < 8192; omega)) (sig_at m c t ⟨x, by omega⟩ i (by show t.val * 512 + x.val < 8192; omega))) ?_)
  blk_point [iblk, V, idx t]

variable {m}

/-- The gradient of the gate's input: the kernel leaves what the reference computes. -/
theorem same_dz (c : Dev nD) (hz : ∀ i, Finite (az m c i)) (hw : ∀ i, Finite (aw m c i)) (hg : ∀ i, Finite (ag m c i)) (hb : ∀ i, Finite (ab m c i))
    (hp : ∀ i, Finite (ap m c i)) (hd : ∀ i, Finite (ad m c i)) :
    val_main_v638 (F := Ideal) (az m c) (aw m c) (ag m c) (ab m c) (ap m c) (ad m c) = (dats m 0 c).arrAt 10 (cfgs 0).N := by
  symm
  refine (dats m 0 c).arrAt_eq_of_covers 10 _ (by decide +kernel) fun t _ y => ?_
  blk_simp
  rw [after0_10]
  idx_vars y
  have ht : t.val < 16 := lt_of_lt_of_eq t.isLt N_0
  have e : (((cfg0.win 10).blk t).view.emb (ix2 y0 y1) : S8192x512.Idx) = ix2 ⟨t.val * 512 + y0, by omega⟩ y1 := by blk_ext [idx t]
  refine (dz_point m c t y0 y1).trans (Eq.trans (ref_dz hz hw hg hb hp hd ⟨t.val * 512 + y0, by omega⟩ y1).symm ?_)
  exact (congrArg (val_main_v638 (F := Ideal) (az m c) (aw m c) (ag m c) (ab m c) (ap m c) (ad m c)) e).symm

/-- The taps' gradient: the kernel leaves what the reference computes. -/
theorem same_dw (c : Dev nD) (hz : ∀ i, Finite (az m c i)) (hw : ∀ i, Finite (aw m c i)) (hg : ∀ i, Finite (ag m c i)) (hb : ∀ i, Finite (ab m c i))
    (hp : ∀ i, Finite (ap m c i)) (hd : ∀ i, Finite (ad m c i)) :
    val_main_v639 (F := Ideal) (az m c) (aw m c) (ag m c) (ab m c) (ap m c) (ad m c) = (dats m 0 c).arrAt 11 (cfgs 0).N := by
  symm
  refine (dats m 0 c).arrAt_eq_of_after_last 11 t0_15 (by decide +kernel) _ fun j => ?_
  blk_simp
  rw [after0_11, Pipeline.eq_sum_fin_of_reset_step_apply_last (fun n h => (outsAt0 m c n h).2.1) 16 (fun _ => 0)
    (fun p i => if (i 0).val < 31 then ∑ x : Fin 512, dc m c (p * 512 + x) (i 1) * past (az m c) ((i 0).val + (p * 512 + x)) (i 1) else 0)
    (fun t h j => by idx_vars j; exact dw_A m c t h j0 j1)
    (fun t h j => by idx_vars j; exact dw_B m c t h j0 j1)
    (le_of_eq N_0) t0_15 rfl j, zero_add]
  idx_vars j
  rw [ref_dw hz hw hg hb hp hd]
  by_cases h3 : j0.val < 31
  · rw [if_pos h3]
    refine (Finset.sum_congr (M := EReal) rfl fun p _ => if_pos h3).trans ?_
    exact (Fin.sum_univ_tiles 16 512 rfl fun n : Fin 8192 => dc m c n j1 * past (az m c) (j0.val + n) j1).symm
  · rw [if_neg h3]
    exact Finset.sum_eq_zero (M := EReal) fun p _ => if_neg h3

/-- The gradient of the norm's gain: the kernel leaves what the reference computes. -/
theorem same_dg (c : Dev nD) (hz : ∀ i, Finite (az m c i)) (hw : ∀ i, Finite (aw m c i)) (hg : ∀ i, Finite (ag m c i)) (hb : ∀ i, Finite (ab m c i))
    (hp : ∀ i, Finite (ap m c i)) (hd : ∀ i, Finite (ad m c i)) :
    val_main_v640 (F := Ideal) (az m c) (aw m c) (ag m c) (ab m c) (ap m c) (ad m c) = (dats m 0 c).arrAt 12 (cfgs 0).N := by
  symm
  refine (dats m 0 c).arrAt_eq_of_after_last 12 t0_15 (by decide +kernel) _ fun j => ?_
  blk_simp
  rw [after0_12, Pipeline.eq_sum_fin_of_reset_step_apply_last (fun n h => (outsAt0 m c n h).2.2.1) 16 (fun _ => 0)
    (fun p i => ∑ x : Fin 512, (if h : p * 512 + x.val < 8192 then dl m c ⟨p * 512 + x, h⟩ (i 1)
      * (centred (conv (az m c) (aw m c) (p * 512 + x)) (i 1) * scale (conv (az m c) (aw m c) (p * 512 + x))) else 0))
    (fun t h j => by
      rw [outsAt0_A m c t h]
      frame_out
      idx_vars j
      obtain rfl : j0 = 0 := Subsingleton.elim _ _
      refine (dg_step m c t _ j1).trans (congrArg₂ (fun a b : EReal => a + b) (by pointwise [k0_pay61]) (Finset.sum_congr rfl fun x _ => by rw [dif_pos (by have := lt_of_lt_of_eq t.isLt N_0; omega)])))
    (fun t h j => by
      rw [outsAt0_B m c t h]
      frame_out
      idx_vars j
      obtain rfl : j0 = 0 := Subsingleton.elim _ _
      refine (dg_step m c t _ j1).trans (congrArg (fun b : EReal => _ + b) (Finset.sum_congr rfl fun x _ => by rw [dif_pos (by have := lt_of_lt_of_eq t.isLt N_0; omega)])))
    (le_of_eq N_0) t0_15 rfl j, zero_add]
  idx_vars j
  obtain rfl : j0 = 0 := Subsingleton.elim _ _
  rw [ref_dlg hz hw hg hb hp hd]
  refine Eq.trans ?_ (Fin.sum_univ_tiles 16 512 rfl fun n : Fin 8192 => dl m c n j1 * (centred (conv (az m c) (aw m c) n) j1 * scale (conv (az m c) (aw m c) n))).symm
  exact Finset.sum_congr (M := EReal) rfl fun p _ => Finset.sum_congr (M := EReal) rfl fun x _ => dif_pos (show p.val * 512 + x.val < 8192 by have := lt_of_lt_of_eq p.isLt N_0; omega)

/-- The gradient of the norm's bias: the kernel leaves what the reference computes. -/
theorem same_db (c : Dev nD) (hz : ∀ i, Finite (az m c i)) (hw : ∀ i, Finite (aw m c i)) (hg : ∀ i, Finite (ag m c i)) (hb : ∀ i, Finite (ab m c i))
    (hp : ∀ i, Finite (ap m c i)) (hd : ∀ i, Finite (ad m c i)) :
    val_main_v641 (F := Ideal) (az m c) (aw m c) (ag m c) (ab m c) (ap m c) (ad m c) = (dats m 0 c).arrAt 13 (cfgs 0).N := by
  symm
  refine (dats m 0 c).arrAt_eq_of_after_last 13 t0_15 (by decide +kernel) _ fun j => ?_
  blk_simp
  rw [after0_13, Pipeline.eq_sum_fin_of_reset_step_apply_last (fun n h => (outsAt0 m c n h).2.2.2.1) 16 (fun _ => 0)
    (fun p i => ∑ x : Fin 512, (if h : p * 512 + x.val < 8192 then dl m c ⟨p * 512 + x, h⟩ (i 1) else 0))
    (fun t h j => by
      rw [outsAt0_A m c t h]
      frame_out
      idx_vars j
      obtain rfl : j0 = 0 := Subsingleton.elim _ _
      refine (db_step m c t _ j1).trans (congrArg₂ (fun a b : EReal => a + b) (by pointwise [k0_pay62]) (Finset.sum_congr rfl fun x _ => by rw [dif_pos (by have := lt_of_lt_of_eq t.isLt N_0; omega)])))
    (fun t h j => by
      rw [outsAt0_B m c t h]
      frame_out
      idx_vars j
      obtain rfl : j0 = 0 := Subsingleton.elim _ _
      refine (db_step m c t _ j1).trans (congrArg (fun b : EReal => _ + b) (Finset.sum_congr rfl fun x _ => by rw [dif_pos (by have := lt_of_lt_of_eq t.isLt N_0; omega)])))
    (le_of_eq N_0) t0_15 rfl j, zero_add]
  idx_vars j
  obtain rfl : j0 = 0 := Subsingleton.elim _ _
  rw [ref_dlb hz hw hg hb hp hd]
  refine Eq.trans ?_ (Fin.sum_univ_tiles 16 512 rfl fun n : Fin 8192 => dl m c n j1).symm
  exact Finset.sum_congr (M := EReal) rfl fun p _ => Finset.sum_congr (M := EReal) rfl fun x _ => dif_pos (show p.val * 512 + x.val < 8192 by have := lt_of_lt_of_eq p.isLt N_0; omega)

/-- The projection's gradient: the kernel leaves what the reference computes. -/
theorem same_dp (c : Dev nD) : val_main_v259 (F := Ideal) (az m c) (aw m c) (ag m c) (ab m c) (ad m c) = (dats m 0 c).arrAt 14 (cfgs 0).N := by
  symm
  refine (dats m 0 c).arrAt_eq_of_after_last 14 t0_15 (by decide +kernel) _ fun j => ?_
  blk_simp
  rw [after0_14, Pipeline.eq_sum_fin_of_reset_step_apply_last (fun n h => (outsAt0 m c n h).2.2.2.2) 16 (fun _ => 0)
    (fun p i => ∑ x : Fin 512, (if h : p * 512 + x.val < 8192 then lin (az m c) (aw m c) (ag m c) (ab m c) (p * 512 + x) (i 0)
      * Ideal.logistic (lin (az m c) (aw m c) (ag m c) (ab m c) (p * 512 + x) (i 0)) * ad m c (ix2 ⟨p * 512 + x, h⟩ (i 1)) else 0))
    (fun t h j => by
      rw [outsAt0_A m c t h]
      frame_out
      idx_vars j
      refine (dp_step m c t _ j0 j1).trans (congrArg₂ (fun a b : EReal => a + b) (by pointwise [k0_pay63]) (Finset.sum_congr rfl fun x _ => by rw [dif_pos (by have := lt_of_lt_of_eq t.isLt N_0; omega)])))
    (fun t h j => by
      rw [outsAt0_B m c t h]
      frame_out
      idx_vars j
      refine (dp_step m c t _ j0 j1).trans (congrArg (fun b : EReal => _ + b) (Finset.sum_congr rfl fun x _ => by rw [dif_pos (by have := lt_of_lt_of_eq t.isLt N_0; omega)])))
    (le_of_eq N_0) t0_15 rfl j, zero_add]
  idx_vars j
  rw [ref_dpw]
  refine Eq.trans ?_ (Fin.sum_univ_tiles 16 512 rfl fun n : Fin 8192 => lin (az m c) (aw m c) (ag m c) (ab m c) n j0
      * Ideal.logistic (lin (az m c) (aw m c) (ag m c) (ab m c) n j0) * ad m c (ix2 n j1)).symm
  exact Finset.sum_congr (M := EReal) rfl fun p _ => Finset.sum_congr (M := EReal) rfl fun x _ => dif_pos (show p.val * 512 + x.val < 8192 by have := lt_of_lt_of_eq p.isLt N_0; omega)

instance factsPre : Cert.Pre_finite_conf.Facts := by constructor <;> decide

variable (m)

/-- What a run of the kernel leaves in its results. -/
theorem ran (g : Dev nD → PrngReg) :
    θ_run (defs (F := Ideal)) (onTc (τ := τ) (main (F := Ideal))) ⟨m, fun _ => 0, g⟩ (fun r => ∀ c : Dev nD,
      r.2.mem ((c.tc : Thread nD τ).loc main_v170_0) = (dats m 0 c).arrAt 10 (cfgs 0).N
      ∧ r.2.mem ((c.tc : Thread nD τ).loc main_v170_1) = (dats m 0 c).arrAt 11 (cfgs 0).N
      ∧ r.2.mem ((c.tc : Thread nD τ).loc main_v170_2) = (dats m 0 c).arrAt 12 (cfgs 0).N
      ∧ r.2.mem ((c.tc : Thread nD τ).loc main_v170_3) = (dats m 0 c).arrAt 13 (cfgs 0).N
      ∧ r.2.mem ((c.tc : Thread nD τ).loc main_v170_4) = (dats m 0 c).arrAt 14 (cfgs 0).N) :=
  θ_run_mono (run_main m g) fun r h c => ⟨(h c).1 10, (h c).1 11, (h c).1 12, (h c).1 13, (h c).1 14⟩

theorem agree6 {α β γ δ ε ζ η : Type*} (f : α → β → γ → δ → ε → ζ → η) {a a' : α} {b b' : β} {c c' : γ} {d d' : δ} {e e' : ε} {x x' : ζ}
    (ha : a = a') (hb : b = b') (hc : c = c') (hd : d = d') (he : e = e') (hx : x = x') : f a b c d e x = f a' b' c' d' e' x' := by
  subst ha hb hc hd he hx
  rfl

/-- Over the reals, kernel and reference compute the same function. -/
theorem claim : Cert.algebraic_ConfIdeal_ConfRefIdeal_pre_finite_conf := by
  intro m g m' g' hpre hagree
  refine ⟨fun c => (dats m 0 c).arrAt 10 (cfgs 0).N, fun c => (dats m 0 c).arrAt 11 (cfgs 0).N, fun c => (dats m 0 c).arrAt 12 (cfgs 0).N,
    fun c => (dats m 0 c).arrAt 13 (cfgs 0).N, fun c => (dats m 0 c).arrAt 14 (cfgs 0).N, ?_, ?_⟩
  · exact θ_run_mono (θ_run_and (ran m g) (Gen.frame m g)) fun r h c => ⟨(h.1 c).1, (h.1 c).2.1, (h.1 c).2.2.1, (h.1 c).2.2.2.1, (h.1 c).2.2.2.2, h.2.1 c⟩
  · refine θ_run_mono (Cert.ConfRefIdeal.Value.run (F := Ideal) m' g') fun r h c => ?_
    obtain ⟨h1, h2, h3, h4, h5, hargs⟩ := h c
    obtain ⟨a0, a1, a2, a3, a4, a5⟩ := hagree c
    obtain ⟨p0, p1, p2, p3, p4, p5⟩ := hpre c
    have hz := real_of_mask _ factsPre.bcast_S_S8192x512 p0
    have hw := real_of_mask _ factsPre.bcast_S_S31x256 p1
    have hg := real_of_mask _ factsPre.bcast_S_S256 p2
    have hb := real_of_mask _ factsPre.bcast_S_S256 p3
    have hp := real_of_mask _ factsPre.bcast_S_S256x256 p4
    have hd := real_of_mask _ factsPre.bcast_S_S8192x256 p5
    refine ⟨(h1.trans (val_main_v638_eq _)).trans (Eq.trans ?_ (same_dz c hz hw hg hb hp hd)),
      (h2.trans (val_main_v639_eq _)).trans (Eq.trans ?_ (same_dw c hz hw hg hb hp hd)),
      (h3.trans (val_main_v640_eq _)).trans (Eq.trans ?_ (same_dg c hz hw hg hb hp hd)),
      (h4.trans (val_main_v641_eq _)).trans (Eq.trans ?_ (same_db c hz hw hg hb hp hd)),
      (h5.trans (val_main_v259_eq _)).trans (Eq.trans ?_ (same_dp c)), hargs⟩
    · exact agree6 (val_main_v638 (F := Ideal)) a0 a1 a2 a3 a4 a5
    · exact agree6 (val_main_v639 (F := Ideal)) a0 a1 a2 a3 a4 a5
    · exact agree6 (val_main_v640 (F := Ideal)) a0 a1 a2 a3 a4 a5
    · exact agree6 (val_main_v641 (F := Ideal)) a0 a1 a2 a3 a4 a5
    · exact agree6 (fun z w g b (_ : Unit) d => val_main_v259 (F := Ideal) z w g b d) a0 a1 a2 a3 (rfl : () = ()) a5

end Cert.ConfIdeal.Value

end

end
-- ==== Proof.MlpDown.lean ====
/- The feed-forward's exit: the down product and the residual with its norm added, row block by row block. -/
module

public import proofs.«01_k».proof.Proof.Gen.MlpDownIdeal.Frame
public import proofs.«01_k».proof.Defs
public import proofs.«01_k».proof.Proof.Gen.MlpDownRefIdeal.Run
public import proofs.«01_k».proof.Proof.Gen.MlpDownRefIdeal.Read
public import proofs.«01_k».proof.Proof.Norm
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Common

namespace Cert.MlpDownIdeal.Value

open Cert.MlpDownIdeal Cert.MlpDownIdeal.Gen
open Cert.MlpDownRefIdeal.Read

section
variable (u : FVec Ideal S8192x4096 .f32) (x : FVec Ideal S8192x1024 .f32) (w : FVec Ideal S4096x1024 .f32) (g : FVec Ideal S1024 .f32)

/-- The feed-forward's output. -/
def ff (i : Fin 8192) (k : Fin 1024) : EReal := ∑ n, max (u (ix2 i n)) 0 * max (u (ix2 i n)) 0 * w (ix2 n k)

/-- The residual after the feed-forward. -/
def res (i : Fin 8192) (j : Fin 1024) : EReal := x (ix2 i j) + ff u w i j * Ideal.rsqrt (meanSq (ff u w i)) * g (ix1 j)

/-- The reference's down product. -/
theorem ref_ff (i : Fin 8192) (j : Fin 1024) : val_main_v2 (F := Ideal) u w (ix2 i j) = ff u w i j := by
  pointwise [val_main_v2, val_main_v1, val_main_v0, val_main_call0_v0, val_main_call0_cst]
  rfl

/-- The reference's residual. -/
theorem ref_res (i : Fin 8192) (j : Fin 1024) : val_main_v16 (F := Ideal) u x w g (ix2 i j) = res u x w g i j := by
  pointwise [val_main_v16, val_main_v15, val_main_v14, val_main_v13, val_main_v12, val_main_v11, val_main_v10, val_main_v9, val_main_v8, val_main_cst_1, val_main_v7, val_main_v6, val_main_cst_0, val_main_v5, val_main_v4, val_main_cst, val_main_v3]
  simp only [Fintype.sum_unique, ref_ff]
  rfl

end

variable (m : (ℓ : Loc nD τ sig) → Buf (Elt Ideal) ℓ)

/-- The call's arguments. -/
abbrev au (c : Dev nD) : FVec Ideal S8192x4096 .f32 := m ((c : Thread nD τ).loc main_arg0)
abbrev ax (c : Dev nD) : FVec Ideal S8192x1024 .f32 := m ((c : Thread nD τ).loc main_arg1)
abbrev aw (c : Dev nD) : FVec Ideal S4096x1024 .f32 := m ((c : Thread nD τ).loc main_arg2)
abbrev ag (c : Dev nD) : FVec Ideal S1024 .f32 := m ((c : Thread nD τ).loc main_arg3)

/-- The block of each window at each grid point. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

theorem w_w (c : Dev nD) (t : Fin cfg0.N) (r : Fin 4096) (k : Fin 1024) :
    (iblk m c 2 t : FVec Ideal S4096x1024 .bf16) (ix2 r k) = aw m c (ix2 r k) := by
  refine Eq.trans (b := (V m c main_v0 : FVec Ideal S4096x1024 .bf16) (ix2 r k)) (by blk_point [iblk, idx t]) ?_
  rw [show V m c main_v0 = (truncf .bf16 (aw m c) bitsLt_bf16_f32 : FVec Ideal S4096x1024 .bf16) from by
    unfold V; simp only [List.flatten, List.append, hostOps0]; after_results]
  pointwise []

theorem w_g (c : Dev nD) (t : Fin cfg0.N) (k : Fin 1024) :
    (iblk m c 3 t : FVec Ideal S1x1024 .f32) (ix2 0 k) = ag m c (ix1 k) := by
  refine Eq.trans (b := (V m c main_v1 : FVec Ideal S1x1024 .f32) (ix2 0 k)) (by blk_point [iblk, idx t]) ?_
  rw [show V m c main_v1 = (broadcastInDim S1x1024 ![1] bcast_S1024_S1x1024_1 (ag m c) : FVec Ideal S1x1024 .f32) from by
    unfold V; simp only [List.flatten, List.append, hostOps0]; after_results]
  pointwise []

theorem w_u (c : Dev nD) (t : Fin cfg0.N) (r : Fin 512) (k : Fin 4096) (ht : t.val < 16) :
    (iblk m c 0 t : FVec Ideal S512x4096 .f32) (ix2 r k) = au m c (ix2 ⟨t.val * 512 + r, by omega⟩ k) := by blk_point [iblk, V, idx t]

theorem w_x (c : Dev nD) (t : Fin cfg0.N) (r : Fin 512) (k : Fin 1024) (ht : t.val < 16) :
    (iblk m c 1 t : FVec Ideal S512x1024 .f32) (ix2 r k) = ax m c (ix2 ⟨t.val * 512 + r, by omega⟩ k) := by blk_point [iblk, V, idx t]

/-- A block's down product. -/
theorem ff_at (c : Dev nD) (t : Fin cfg0.N) (r : Fin 512) (j : Fin 1024) (ht : t.val < 16) :
    k0_pay1 (F := Ideal) (iblk m c 0 t) (iblk m c 2 t) (ix2 r j) = ff (au m c) (aw m c) ⟨t.val * 512 + r, by omega⟩ j := by
  pointwise [k0_pay1]
  simp only [w_u m c t r _ ht, w_w m c t]
  rfl

/-- A block's residual. -/
theorem res_at (c : Dev nD) (t : Fin cfg0.N) (r : Fin 512) (j : Fin 1024) (ht : t.val < 16) :
    k0_pay2 (F := Ideal) (iblk m c 0 t) (iblk m c 1 t) (iblk m c 2 t) (iblk m c 3 t) (ix2 r j) = res (au m c) (ax m c) (aw m c) (ag m c) ⟨t.val * 512 + r, by omega⟩ j := by
  pointwise [k0_pay2]
  simp only [ff_at m c t r _ ht, w_x m c t r _ ht, w_g m c t]
  rfl

/-- The down product: the kernel leaves what the reference computes. -/
theorem same_ff (c : Dev nD) : val_main_v2 (F := Ideal) (au m c) (aw m c) = (dats m 0 c).arrAt 4 (cfgs 0).N := by
  symm
  refine (dats m 0 c).arrAt_eq_of_covers 4 _ (by decide +kernel) fun t hf y => ?_
  have ht : t.val < 16 := lt_of_lt_of_eq t.isLt N_0
  blk_simp
  rw [after0_4]
  idx_vars y
  have e : (((cfg0.win 4).blk t).view.emb (ix2 y0 y1) : S8192x1024.Idx) = ix2 ⟨t.val * 512 + y0, by omega⟩ y1 := by blk_ext [idx t]
  refine Eq.trans ?_ (congrArg (val_main_v2 (F := Ideal) (au m c) (aw m c)) e).symm
  refine Eq.trans ?_ ((ff_at m c t y0 y1 ht).trans (ref_ff _ _ _ _).symm)
  unfold out0_4
  frame_out

/-- The residual: the kernel leaves what the reference computes. -/
theorem same_res (c : Dev nD) : val_main_v16 (F := Ideal) (au m c) (ax m c) (aw m c) (ag m c) = (dats m 0 c).arrAt 5 (cfgs 0).N := by
  symm
  refine (dats m 0 c).arrAt_eq_of_covers 5 _ (by decide +kernel) fun t hf y => ?_
  have ht : t.val < 16 := lt_of_lt_of_eq t.isLt N_0
  blk_simp
  rw [after0_5]
  idx_vars y
  have e : (((cfg0.win 5).blk t).view.emb (ix2 y0 y1) : S8192x1024.Idx) = ix2 ⟨t.val * 512 + y0, by omega⟩ y1 := by blk_ext [idx t]
  refine Eq.trans ?_ (congrArg (val_main_v16 (F := Ideal) (au m c) (ax m c) (aw m c) (ag m c)) e).symm
  refine Eq.trans ?_ ((res_at m c t y0 y1 ht).trans (ref_res _ _ _ _ _ _).symm)
  unfold out0_5
  frame_out

/-- What a run of the kernel leaves in its results. -/
theorem ran (g : Dev nD → PrngReg) :
    θ_run (defs (F := Ideal)) (onTc (τ := τ) (main (F := Ideal))) ⟨m, fun _ => 0, g⟩ (fun r => ∀ c : Dev nD,
      r.2.mem ((c.tc : Thread nD τ).loc main_v2_0) = (dats m 0 c).arrAt 4 (cfgs 0).N
      ∧ r.2.mem ((c.tc : Thread nD τ).loc main_v2_1) = (dats m 0 c).arrAt 5 (cfgs 0).N) :=
  θ_run_mono (run_main m g) fun r h c => ⟨(h c).1 4, (h c).1 5⟩

/-- Over the reals, kernel and reference compute the same function. -/
theorem claim : Cert.algebraic_MlpDownIdeal_MlpDownRefIdeal := by
  intro m g m' g' hpre hagree
  refine ⟨fun c => (dats m 0 c).arrAt 4 (cfgs 0).N, fun c => (dats m 0 c).arrAt 5 (cfgs 0).N, ?_, ?_⟩
  · exact θ_run_mono (θ_run_and (ran m g) (Gen.frame m g)) fun r h c => ⟨(h.1 c).1, (h.1 c).2, h.2.1 c⟩
  · refine θ_run_mono (Cert.MlpDownRefIdeal.Value.run (F := Ideal) m' g') fun r h c => ?_
    obtain ⟨h1, h2, hargs⟩ := h c
    obtain ⟨a0, a1, a2, a3⟩ := hagree c
    refine ⟨(h1.trans (val_main_v2_eq _ _)).trans (Eq.trans ?_ (same_ff m c)), (h2.trans (val_main_v16_eq _ _ _ _)).trans (Eq.trans ?_ (same_res m c)), hargs⟩
    · exact congr (congrArg _ a0) a2
    · exact congr (congr (congr (congrArg _ a0) a1) a2) a3

end Cert.MlpDownIdeal.Value

end

end
-- ==== Proof.MixFwd.lean ====
/- The mixer's exit: the four branches' product with the output weights and the residual with its norm added, row block by row block. -/
module

public import proofs.«01_k».proof.Proof.Gen.MixFwdIdeal.Frame
public import proofs.«01_k».proof.Defs
public import proofs.«01_k».proof.Proof.Gen.MixFwdRefIdeal.Run
public import proofs.«01_k».proof.Proof.Gen.MixFwdRefIdeal.Read
public import proofs.«01_k».proof.Proof.Norm
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Common

namespace Cert.MixFwdIdeal.Value

open Cert.MixFwdIdeal Cert.MixFwdIdeal.Gen
open Cert.MixFwdRefIdeal.Read

section
variable (yc ya ys yp : FVec Ideal S8192x256 .f32) (x : FVec Ideal S8192x1024 .f32) (w : FVec Ideal S1024x1024 .f32) (g : FVec Ideal S1024 .f32)

/-- The four branches side by side. -/
abbrev cat (i : Fin 8192) (n : Fin 1024) : EReal := val_main_v0 (F := Ideal) yc ya ys yp (ix2 i n)

/-- A row of the mixer's output. -/
def mix (i : Fin 8192) (k : Fin 1024) : EReal := ∑ n, cat yc ya ys yp i n * w (ix2 n k)

/-- The residual after the mixer. -/
def res (i : Fin 8192) (j : Fin 1024) : EReal := x (ix2 i j) + mix yc ya ys yp w i j * Ideal.rsqrt (meanSq (mix yc ya ys yp w i)) * g (ix1 j)

/-- The reference's product of the four groups with the output weights. -/
theorem ref_mix (i : Fin 8192) (j : Fin 1024) : val_main_v1 (F := Ideal) yc ya ys yp w (ix2 i j) = mix yc ya ys yp w i j := by
  pointwise [val_main_v1]
  rfl

/-- The reference's residual. -/
theorem ref_res (i : Fin 8192) (j : Fin 1024) : val_main_v15 (F := Ideal) yc ya ys yp x w g (ix2 i j) = res yc ya ys yp x w g i j := by
  pointwise [val_main_v15, val_main_v14, val_main_v13, val_main_v12, val_main_v11, val_main_v10, val_main_v9, val_main_v8, val_main_v7, val_main_cst_1, val_main_v6, val_main_v5, val_main_cst_0, val_main_v4, val_main_v3, val_main_cst, val_main_v2]
  simp only [Fintype.sum_unique, ref_mix]
  rfl

end

variable (m : (ℓ : Loc nD τ sig) → Buf (Elt Ideal) ℓ)

/-- The call's arguments. -/
abbrev ac (c : Dev nD) : FVec Ideal S8192x256 .f32 := m ((c : Thread nD τ).loc main_arg0)
abbrev aa (c : Dev nD) : FVec Ideal S8192x256 .f32 := m ((c : Thread nD τ).loc main_arg1)
abbrev asc (c : Dev nD) : FVec Ideal S8192x256 .f32 := m ((c : Thread nD τ).loc main_arg2)
abbrev ap (c : Dev nD) : FVec Ideal S8192x256 .f32 := m ((c : Thread nD τ).loc main_arg3)
abbrev asp (c : Dev nD) : FVec Ideal S8192x4x64 .f32 := m ((c : Thread nD τ).loc main_arg4)
abbrev ax (c : Dev nD) : FVec Ideal S8192x1024 .f32 := m ((c : Thread nD τ).loc main_arg5)
abbrev aw (c : Dev nD) : FVec Ideal S1024x1024 .f32 := m ((c : Thread nD τ).loc main_arg6)
abbrev ag (c : Dev nD) : FVec Ideal S1024 .f32 := m ((c : Thread nD τ).loc main_arg7)

/-- The attention's branch as the host spreads its heads over lanes, the second half of a head's lanes spare. -/
def hostAtt (y : FVec Ideal S8192x256 .f32) (sp : FVec Ideal S8192x4x64 .f32) : FVec Ideal S8192x512 .f32 :=
  shapeCast S8192x512 (concatenate S8192x4x128 2 [⟨S8192x4x64, shapeCast S8192x4x64 y shapeCasts_S8192x256_S8192x4x64⟩, ⟨S8192x4x64, sp⟩] concatenates_S8192x4x64_S8192x4x64_S8192x4x128_d2) shapeCasts_S8192x4x128_S8192x512

/-- The attention's output as the host lays it out. -/
theorem hostAtt_at (y : FVec Ideal S8192x256 .f32) (sp : FVec Ideal S8192x4x64 .f32) (i : Fin 8192) (h : Fin 4) (l : Fin 128) (hl : l.val < 64) :
    hostAtt y sp (ix2 i ⟨h * 128 + l, by omega⟩) = y (ix2 i ⟨h * 64 + l, by omega⟩) := by
  pointwise [hostAtt]
  exact dif_pos hl

theorem V2 (c : Dev nD) : (V m c main_v2 : FVec Ideal S8192x512 .f32) = hostAtt (aa m c) (asp m c) := by
  unfold V; simp only [List.flatten, List.append, hostOps0]; after_results; rfl

/-- A column lies in one of the four groups. -/
theorem cat_cases {P : Fin 1024 → Prop} (h0 : ∀ s : Fin 256, P ⟨s, by omega⟩)  (h1 : ∀ (q : Fin 2) (s : Fin 128), P ⟨256 + q * 128 + s, by omega⟩) (h2 : ∀ s : Fin 256, P ⟨512 + s, by omega⟩)
   (h3 : ∀ s : Fin 256, P ⟨768 + s, by omega⟩) (n : Fin 1024) : P n := by
  by_cases a : n.val < 256
  · exact h0 ⟨n, a⟩
  by_cases b : n.val < 512
  · have := h1 ⟨(n - 256) / 128, by omega⟩ ⟨(n - 256) % 128, by omega⟩
    have e : (⟨256 + (n - 256) / 128 * 128 + (n - 256) % 128, by omega⟩ : Fin 1024) = n := Fin.ext (by show 256 + (n.val - 256) / 128 * 128 + (n.val - 256) % 128 = n.val; omega)
    rwa [← e]
  by_cases d : n.val < 768
  · have := h2 ⟨n - 512, by omega⟩
    have e : (⟨512 + (n - 512), by omega⟩ : Fin 1024) = n := Fin.ext (by show 512 + (n.val - 512) = n.val; omega)
    rwa [← e]
  · have := h3 ⟨n - 768, by omega⟩
    have e : (⟨768 + (n - 768), by omega⟩ : Fin 1024) = n := Fin.ext (by show 768 + (n.val - 768) = n.val; omega)
    rwa [← e]

theorem cat0 (yc ya ys yp : FVec Ideal S8192x256 .f32) (i : Fin 8192) (s : Fin 256) : cat yc ya ys yp i ⟨s, by omega⟩ = yc (ix2 i s) := by
  unfold cat
  pointwise [val_main_v0]

theorem cat1 (yc ya ys yp : FVec Ideal S8192x256 .f32) (i : Fin 8192) (q : Fin 2) (s : Fin 128) : cat yc ya ys yp i ⟨256 + q * 128 + s, by omega⟩ = ya (ix2 i ⟨q * 128 + s, by omega⟩) := by
  unfold cat
  pointwise [val_main_v0]
  split_ifs <;> first | omega | exact congrArg (fun k => ya (ix2 i k)) (Fin.ext (by dsimp only; omega))

theorem cat2 (yc ya ys yp : FVec Ideal S8192x256 .f32) (i : Fin 8192) (s : Fin 256) : cat yc ya ys yp i ⟨512 + s, by omega⟩ = ys (ix2 i s) := by
  unfold cat
  pointwise [val_main_v0]
  split_ifs <;> first | omega | exact congrArg (fun k => ys (ix2 i k)) (Fin.ext (by dsimp only; omega))

theorem cat3 (yc ya ys yp : FVec Ideal S8192x256 .f32) (i : Fin 8192) (s : Fin 256) : cat yc ya ys yp i ⟨768 + s, by omega⟩ = yp (ix2 i s) := by
  unfold cat
  pointwise [val_main_v0]
  split_ifs <;> first | omega | exact congrArg (fun k => yp (ix2 i k)) (Fin.ext (by dsimp only; omega))

section
variable (v0 : FVec Ideal S512x256 .bf16) (v2 : FVec Ideal S512x512 .f32) (v4 v6 : FVec Ideal S512x256 .bf16) (w : FVec Ideal S1024x1024 .bf16)

/-- Two heads in one tile of lanes: the first head's kept lanes, then the second's moved up beside them. -/
def tile (a b : FVec Ideal S512x128 .f32) : FVec Ideal S512x128 .f32 :=
  select (cmpi .slt (iota .tc S512x128 32 [1] iota_S512x128_d1_w32) (broadcast S512x128 64#32)) a (dynamicRotate 1 64#32 none b rotates_S512x128_d1)

/-- A block of the four branches side by side, as the kernel lays them. -/
def kcat : FVec Ideal S512x1024 .bf16 :=
  concatenate S512x1024 1 [⟨S512x256, v0⟩,
    ⟨S512x256, truncf .bf16 (concatenate S512x256 1 [
      ⟨S512x128, tile (extractStridedSlice S512x128 ![0, 0] v2 slices_S512x512_o0_0_S512x128) (extractStridedSlice S512x128 ![0, 128] v2 slices_S512x512_o0_128_S512x128)⟩,
      ⟨S512x128, tile (extractStridedSlice S512x128 ![0, 256] v2 slices_S512x512_o0_256_S512x128) (extractStridedSlice S512x128 ![0, 384] v2 slices_S512x512_o0_384_S512x128)⟩]
      concatenates_S512x128_S512x128_S512x256_d1) bitsLt_bf16_f32⟩,
    ⟨S512x256, v4⟩, ⟨S512x256, v6⟩] concatenates_S512x256_S512x256_S512x256_S512x256_S512x1024_d1

theorem kcat0 (r : Fin 512) (s : Fin 256) : kcat v0 v2 v4 v6 (ix2 r ⟨s, by omega⟩) = v0 (ix2 r s) := by
  pointwise [kcat, tile]

theorem kcat1 (r : Fin 512) (q : Fin 2) (s : Fin 128) : kcat v0 v2 v4 v6 (ix2 r ⟨256 + q * 128 + s, by omega⟩)
    = if h : s.val < 64 then v2 (ix2 r ⟨(2 * q) * 128 + s, by omega⟩) else v2 (ix2 r ⟨(2 * q + 1) * 128 + (s - 64), by omega⟩) := by
  fin_cases q
  · pointwise [kcat, tile]
    rw [dif_pos (by omega), low_lane]
    split_ifs with h
    · rfl
    · exact congrArg (fun k => v2 (ix2 r k)) (Fin.ext (by dsimp only; omega))
  · pointwise [kcat, tile]
    have e : 384 + s.val - 256 - 128 = s.val := by omega
    rw [dif_neg (by omega), dif_pos (by omega), dif_neg (by omega)]
    simp only [e]
    rw [low_lane]
    by_cases h : s.val < 64
    · rw [if_pos h, dif_pos h]
    · rw [if_neg h, dif_neg h]
      exact congrArg (fun k => v2 (ix2 r k)) (Fin.ext (by dsimp only; omega))

theorem kcat2 (r : Fin 512) (s : Fin 256) : kcat v0 v2 v4 v6 (ix2 r ⟨512 + s, by omega⟩) = v4 (ix2 r s) := by
  pointwise [kcat, tile]
  rw [dif_neg (by omega), dif_neg (by omega), dif_pos (by omega)]
  exact congrArg (fun k => v4 (ix2 r k)) (Fin.ext (by dsimp only; omega))

theorem kcat3 (r : Fin 512) (s : Fin 256) : kcat v0 v2 v4 v6 (ix2 r ⟨768 + s, by omega⟩) = v6 (ix2 r s) := by
  pointwise [kcat, tile]
  rw [dif_neg (by omega), dif_neg (by omega), dif_neg (by omega)]
  exact congrArg (fun k => v6 (ix2 r k)) (Fin.ext (by dsimp only; omega))

/-- A block's product with the output weights. -/
theorem pay2_at (r : Fin 512) (j : Fin 1024) : k0_pay2 (F := Ideal) v0 v2 v4 v6 w (ix2 r j) = ∑ n, kcat v0 v2 v4 v6 (ix2 r n) * w (ix2 n j) := by
  rw [show k0_pay2 (F := Ideal) v0 v2 v4 v6 w = matmul dot_S512x1024_S1024x1024_S512x1024_1_0_0_1_n_n none (kcat (shapeCast S512x256 v0 shapeCasts_S512x256_S512x256)
      (shapeCast S512x512 v2 shapeCasts_S512x512_S512x512) (shapeCast S512x256 v4 shapeCasts_S512x256_S512x256) (shapeCast S512x256 v6 shapeCasts_S512x256_S512x256))
      (shapeCast S1024x1024 w shapeCasts_S1024x1024_S1024x1024) (constant S512x1024 .f32 0x00000000#32) from rfl]
  simp only [shapeCast_self]
  pointwise []
end

/-- The block of each window at each grid point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![0, 0] ∧ win0_6.index t = ![0, 0] ∧ win0_7.index t = ![t.val, 0] ∧ win0_8.index t = ![t.val, 0] :=
  (by decide +kernel : ∀ t : Fin grid0.N, _)

section
variable (c : Dev nD) (t : Fin cfg0.N) (r : Fin 512) (ht : t.val < 16)

theorem w_x (k : Fin 1024) : (iblk m c 4 t : FVec Ideal S512x1024 .f32) (ix2 r k) = ax m c (ix2 ⟨t.val * 512 + r, by omega⟩ k) := by blk_point [iblk, V, idx t]

theorem w_c (k : Fin 256) : (iblk m c 0 t : FVec Ideal S512x256 .bf16) (ix2 r k) = ac m c (ix2 ⟨t.val * 512 + r, by omega⟩ k) := by
  refine Eq.trans (b := (V m c main_v3 : FVec Ideal S8192x256 .bf16) (ix2 ⟨t.val * 512 + r, by omega⟩ k)) (by blk_point [iblk, idx t]) ?_
  rw [show V m c main_v3 = (truncf .bf16 (ac m c) bitsLt_bf16_f32 : FVec Ideal S8192x256 .bf16) from by
    unfold V; simp only [List.flatten, List.append, hostOps0]; after_results]
  pointwise []

theorem w_a (k : Fin 512) : (iblk m c 1 t : FVec Ideal S512x512 .f32) (ix2 r k) = hostAtt (aa m c) (asp m c) (ix2 ⟨t.val * 512 + r, by omega⟩ k) := by
  refine Eq.trans (b := (V m c main_v2 : FVec Ideal S8192x512 .f32) (ix2 ⟨t.val * 512 + r, by omega⟩ k)) (by blk_point [iblk, idx t]) ?_
  rw [V2]

theorem w_s (k : Fin 256) : (iblk m c 2 t : FVec Ideal S512x256 .bf16) (ix2 r k) = asc m c (ix2 ⟨t.val * 512 + r, by omega⟩ k) := by
  refine Eq.trans (b := (V m c main_v4 : FVec Ideal S8192x256 .bf16) (ix2 ⟨t.val * 512 + r, by omega⟩ k)) (by blk_point [iblk, idx t]) ?_
  rw [show V m c main_v4 = (truncf .bf16 (asc m c) bitsLt_bf16_f32 : FVec Ideal S8192x256 .bf16) from by
    unfold V; simp only [List.flatten, List.append, hostOps0]; after_results]
  pointwise []

theorem w_p (k : Fin 256) : (iblk m c 3 t : FVec Ideal S512x256 .bf16) (ix2 r k) = ap m c (ix2 ⟨t.val * 512 + r, by omega⟩ k) := by
  refine Eq.trans (b := (V m c main_v5 : FVec Ideal S8192x256 .bf16) (ix2 ⟨t.val * 512 + r, by omega⟩ k)) (by blk_point [iblk, idx t]) ?_
  rw [show V m c main_v5 = (truncf .bf16 (ap m c) bitsLt_bf16_f32 : FVec Ideal S8192x256 .bf16) from by
    unfold V; simp only [List.flatten, List.append, hostOps0]; after_results]
  pointwise []

theorem w_w (n k : Fin 1024) : (iblk m c 5 t : FVec Ideal S1024x1024 .bf16) (ix2 n k) = aw m c (ix2 n k) := by
  refine Eq.trans (b := (V m c main_v6 : FVec Ideal S1024x1024 .bf16) (ix2 n k)) (by blk_point [iblk, idx t]) ?_
  rw [show V m c main_v6 = (truncf .bf16 (aw m c) bitsLt_bf16_f32 : FVec Ideal S1024x1024 .bf16) from by
    unfold V; simp only [List.flatten, List.append, hostOps0]; after_results]
  pointwise []

theorem w_g (k : Fin 1024) : (iblk m c 6 t : FVec Ideal S1x1024 .f32) (ix2 0 k) = ag m c (ix1 k) := by
  refine Eq.trans (b := (V m c main_v7 : FVec Ideal S1x1024 .f32) (ix2 0 k)) (by blk_point [iblk, idx t]) ?_
  rw [show V m c main_v7 = (broadcastInDim S1x1024 ![1] bcast_S1024_S1x1024_1 (ag m c) : FVec Ideal S1x1024 .f32) from by
    unfold V; simp only [List.flatten, List.append, hostOps0]; after_results]
  pointwise []

/-- A block of the four branches side by side. -/
theorem cat_at (n : Fin 1024) : kcat (iblk m c 0 t) (iblk m c 1 t) (iblk m c 2 t) (iblk m c 3 t) (ix2 r n) = cat (ac m c) (aa m c) (asc m c) (ap m c) ⟨t.val * 512 + r, by omega⟩ n := by
  revert n
  refine cat_cases (fun s => ?_) (fun q s => ?_) (fun s => ?_) fun s => ?_
  · rw [cat0]
    exact (kcat0 _ _ _ _ r s).trans (w_c m c t r ht s)
  · rw [cat1]
    refine (kcat1 _ _ _ _ r q s).trans ?_
    simp only [w_a m c t r ht]
    by_cases h : s.val < 64
    · rw [dif_pos h]
      refine (hostAtt_at _ _ ⟨t.val * 512 + r, by omega⟩ ⟨2 * q, by omega⟩ s h).trans ?_
      exact congrArg (fun k => aa m c (ix2 _ k)) (Fin.ext (by dsimp only; omega))
    · rw [dif_neg h]
      refine (hostAtt_at _ _ ⟨t.val * 512 + r, by omega⟩ ⟨2 * q + 1, by omega⟩ ⟨s - 64, by omega⟩ (by dsimp only; omega)).trans ?_
      exact congrArg (fun k => aa m c (ix2 _ k)) (Fin.ext (by dsimp only; omega))
  · rw [cat2]
    exact (kcat2 _ _ _ _ r s).trans (w_s m c t r ht s)
  · rw [cat3]
    exact (kcat3 _ _ _ _ r s).trans (w_p m c t r ht s)

/-- A block of the mixer's output. -/
theorem mix_at (j : Fin 1024) : k0_pay2 (F := Ideal) (iblk m c 0 t) (iblk m c 1 t) (iblk m c 2 t) (iblk m c 3 t) (iblk m c 5 t) (ix2 r j)
    = mix (ac m c) (aa m c) (asc m c) (ap m c) (aw m c) ⟨t.val * 512 + r, by omega⟩ j := by
  refine (pay2_at _ _ _ _ _ r j).trans ?_
  simp only [cat_at m c t r ht, w_w m c t]
  rfl

/-- A block's residual. -/
theorem res_at (j : Fin 1024) : k0_pay1 (F := Ideal) (iblk m c 4 t) (k0_pay3 (iblk m c 6 t)) (k0_pay4 (iblk m c 0 t) (iblk m c 1 t) (iblk m c 2 t) (iblk m c 3 t) (iblk m c 5 t)) (ix2 r j)
    = res (ac m c) (aa m c) (asc m c) (ap m c) (ax m c) (aw m c) (ag m c) ⟨t.val * 512 + r, by omega⟩ j := by
  pointwise [k0_pay1, k0_pay3, k0_pay4]
  simp only [mix_at m c t r ht, w_x m c t r ht, w_g m c t]
  rfl
end

/-- The mixer's output: the kernel leaves what the reference computes. -/
theorem same_mix (c : Dev nD) : val_main_v1 (F := Ideal) (ac m c) (aa m c) (asc m c) (ap m c) (aw m c) = (dats m 0 c).arrAt 7 (cfgs 0).N := by
  symm
  refine (dats m 0 c).arrAt_eq_of_covers 7 _ (by decide +kernel) fun t hf y => ?_
  have ht : t.val < 16 := lt_of_lt_of_eq t.isLt N_0
  blk_simp
  rw [after0_7]
  idx_vars y
  have e : (((cfg0.win 7).blk t).view.emb (ix2 y0 y1) : S8192x1024.Idx) = ix2 ⟨t.val * 512 + y0, by omega⟩ y1 := by blk_ext [idx t]
  refine Eq.trans ?_ (congrArg (val_main_v1 (F := Ideal) (ac m c) (aa m c) (asc m c) (ap m c) (aw m c)) e).symm
  refine Eq.trans ?_ ((mix_at m c t y0 ht y1).trans (ref_mix _ _ _ _ _ _ _).symm)
  unfold out0_7
  frame_out

/-- The residual: the kernel leaves what the reference computes. -/
theorem same_res (c : Dev nD) : val_main_v15 (F := Ideal) (ac m c) (aa m c) (asc m c) (ap m c) (ax m c) (aw m c) (ag m c) = (dats m 0 c).arrAt 8 (cfgs 0).N := by
  symm
  refine (dats m 0 c).arrAt_eq_of_covers 8 _ (by decide +kernel) fun t hf y => ?_
  have ht : t.val < 16 := lt_of_lt_of_eq t.isLt N_0
  blk_simp
  rw [after0_8]
  idx_vars y
  have e : (((cfg0.win 8).blk t).view.emb (ix2 y0 y1) : S8192x1024.Idx) = ix2 ⟨t.val * 512 + y0, by omega⟩ y1 := by blk_ext [idx t]
  refine Eq.trans ?_ (congrArg (val_main_v15 (F := Ideal) (ac m c) (aa m c) (asc m c) (ap m c) (ax m c) (aw m c) (ag m c)) e).symm
  refine Eq.trans ?_ ((res_at m c t y0 ht y1).trans (ref_res _ _ _ _ _ _ _ _ _).symm)
  unfold out0_8
  frame_out

/-- What a run of the kernel leaves in its results. -/
theorem ran (g : Dev nD → PrngReg) :
    θ_run (defs (F := Ideal)) (onTc (τ := τ) (main (F := Ideal))) ⟨m, fun _ => 0, g⟩ (fun r => ∀ c : Dev nD,
      r.2.mem ((c.tc : Thread nD τ).loc main_v8_0) = (dats m 0 c).arrAt 7 (cfgs 0).N
      ∧ r.2.mem ((c.tc : Thread nD τ).loc main_v8_1) = (dats m 0 c).arrAt 8 (cfgs 0).N) :=
  θ_run_mono (run_main m g) fun r h c => ⟨(h c).1 7, (h c).1 8⟩

/-- Over the reals, kernel and reference compute the same function. -/
theorem claim : Cert.algebraic_MixFwdIdeal_MixFwdRefIdeal := by
  intro m g m' g' hpre hagree
  refine ⟨fun c => (dats m 0 c).arrAt 7 (cfgs 0).N, fun c => (dats m 0 c).arrAt 8 (cfgs 0).N, ?_, ?_⟩
  · exact θ_run_mono (θ_run_and (ran m g) (Gen.frame m g)) fun r h c => ⟨(h.1 c).1, (h.1 c).2, h.2.1 c⟩
  · refine θ_run_mono (Cert.MixFwdRefIdeal.Value.run (F := Ideal) m' g') fun r h c => ?_
    obtain ⟨h1, h2, hargs⟩ := h c
    obtain ⟨a0, a1, a2, a3, a4, a5, a6, a7⟩ := hagree c
    refine ⟨(h1.trans (val_main_v1_eq _ _ _ _ _)).trans (Eq.trans ?_ (same_mix m c)), (h2.trans (val_main_v15_eq _ _ _ _ _ _ _)).trans (Eq.trans ?_ (same_res m c)), hargs⟩
    · exact congr (congr (congr (congr (congrArg _ a0) a1) a2) a3) a6
    · exact congr (congr (congr (congr (congr (congr (congrArg _ a0) a1) a2) a3) a5) a6) a7

end Cert.MixFwdIdeal.Value

end

end
-- ==== Proof.PleFwd.lean ====
/- The gated embedding: the gate's logits, the projected embedding and the residual with their normed product added, row block by row block. -/
module

public import proofs.«01_k».proof.Proof.Gen.PleFwdIdeal.Frame
public import proofs.«01_k».proof.Defs
public import proofs.«01_k».proof.Proof.Gen.PleFwdRefIdeal.Run
public import proofs.«01_k».proof.Proof.Gen.PleFwdRefIdeal.Read
public import proofs.«01_k».proof.Proof.Norm
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Common

namespace Cert.PleFwdIdeal.Value

open Cert.PleFwdIdeal Cert.PleFwdIdeal.Gen
open Cert.PleFwdRefIdeal.Read

section
variable (x : FVec Ideal S8192x1024 .f32) (p : FVec Ideal S8192x256 .f32) (g : FVec Ideal S1024 .f32) (wg : FVec Ideal S1024x1024 .f32) (wp : FVec Ideal S256x1024 .f32) (gp : FVec Ideal S1024 .f32)

/-- What the gate is the logistic of. -/
def gate (i : Fin 8192) (j : Fin 1024) : EReal := ∑ k, x (ix2 i k) * Ideal.rsqrt (meanSq (fun k => x (ix2 i k))) * g (ix1 k) * wg (ix2 k j)

/-- The projected embedding. -/
def pe (i : Fin 8192) (j : Fin 1024) : EReal := ∑ k, p (ix2 i k) * wp (ix2 k j)

/-- The gated embedding. -/
def pl (i : Fin 8192) (j : Fin 1024) : EReal := pe p wp i j * Ideal.logistic (gate x g wg i j)

/-- The residual after the gated embedding. -/
def res (i : Fin 8192) (j : Fin 1024) : EReal := x (ix2 i j) + pl x p g wg wp i j * Ideal.rsqrt (meanSq (pl x p g wg wp i)) * gp (ix1 j)

/-- The reference's logits of the gate. -/
theorem ref_gate (i : Fin 8192) (j : Fin 1024) : val_main_v13 (F := Ideal) x g wg (ix2 i j) = gate x g wg i j := by
  pointwise [val_main_v13, val_main_v12, val_main_v11, val_main_v10, val_main_v9, val_main_v8, val_main_v7, val_main_v6, val_main_v5, val_main_cst_1, val_main_v4, val_main_v3, val_main_cst_0, val_main_v2, val_main_v1, val_main_cst, val_main_v0]
  rfl

/-- The reference's projected embedding. -/
theorem ref_pe (i : Fin 8192) (j : Fin 1024) : val_main_v14 (F := Ideal) p wp (ix2 i j) = pe p wp i j := by
  pointwise [val_main_v14]
  rfl

/-- The reference's gated embedding. -/
theorem ref_pl (i : Fin 8192) (j : Fin 1024) : val_main_v21 (F := Ideal) x p g wg wp (ix2 i j) = pl x p g wg wp i j := by
  pointwise [val_main_v21, val_main_v20, val_main_v19, val_main_cst_3, val_main_v18, val_main_v17, val_main_cst_2, val_main_v16, val_main_v15]
  simp only [ref_gate, ref_pe]
  rfl

/-- The reference's residual. -/
theorem ref_res (i : Fin 8192) (j : Fin 1024) : val_main_v35 (F := Ideal) x p g wg wp gp (ix2 i j) = res x p g wg wp gp i j := by
  pointwise [val_main_v35, val_main_v34, val_main_v33, val_main_v32, val_main_v31, val_main_v30, val_main_v29, val_main_v28, val_main_v27, val_main_cst_6, val_main_v26, val_main_v25, val_main_cst_5, val_main_v24, val_main_v23, val_main_cst_4, val_main_v22]
  simp only [Fintype.sum_unique, ref_pl]
  rfl

end

variable (m : (ℓ : Loc nD τ sig) → Buf (Elt Ideal) ℓ)

/-- The call's arguments. -/
abbrev ax (c : Dev nD) : FVec Ideal S8192x1024 .f32 := m ((c : Thread nD τ).loc main_arg0)
abbrev ap (c : Dev nD) : FVec Ideal S8192x256 .f32 := m ((c : Thread nD τ).loc main_arg1)
abbrev ag (c : Dev nD) : FVec Ideal S1024 .f32 := m ((c : Thread nD τ).loc main_arg2)
abbrev awg (c : Dev nD) : FVec Ideal S1024x1024 .f32 := m ((c : Thread nD τ).loc main_arg3)
abbrev awp (c : Dev nD) : FVec Ideal S256x1024 .f32 := m ((c : Thread nD τ).loc main_arg4)
abbrev agp (c : Dev nD) : FVec Ideal S1024 .f32 := m ((c : Thread nD τ).loc main_arg5)

/-- The block of each window at each grid point. -/
theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![t.val, 0] ∧ win0_7.index t = ![t.val, 0] ∧ win0_8.index t = ![t.val, 0] :=
  (by decide +kernel : ∀ t : Fin grid0.N, _)

theorem w_g (c : Dev nD) (t : Fin cfg0.N) (k : Fin 1024) : (iblk m c 2 t : FVec Ideal S1x1024 .f32) (ix2 0 k) = ag m c (ix1 k) := by
  refine Eq.trans (b := (V m c main_v0 : FVec Ideal S1x1024 .f32) (ix2 0 k)) (by blk_point [iblk, idx t]) ?_
  rw [show V m c main_v0 = (broadcastInDim S1x1024 ![1] bcast_S1024_S1x1024_1 (ag m c) : FVec Ideal S1x1024 .f32) from by
    unfold V; simp only [List.flatten, List.append, hostOps0]; after_results]
  pointwise []

theorem w_gp (c : Dev nD) (t : Fin cfg0.N) (k : Fin 1024) : (iblk m c 5 t : FVec Ideal S1x1024 .f32) (ix2 0 k) = agp m c (ix1 k) := by
  refine Eq.trans (b := (V m c main_v3 : FVec Ideal S1x1024 .f32) (ix2 0 k)) (by blk_point [iblk, idx t]) ?_
  rw [show V m c main_v3 = (broadcastInDim S1x1024 ![1] bcast_S1024_S1x1024_1 (agp m c) : FVec Ideal S1x1024 .f32) from by
    unfold V; simp only [List.flatten, List.append, hostOps0]; after_results]
  pointwise []

theorem w_wg (c : Dev nD) (t : Fin cfg0.N) (k n : Fin 1024) : (iblk m c 3 t : FVec Ideal S1024x1024 .bf16) (ix2 k n) = awg m c (ix2 k n) := by
  refine Eq.trans (b := (V m c main_v1 : FVec Ideal S1024x1024 .bf16) (ix2 k n)) (by blk_point [iblk, idx t]) ?_
  rw [show V m c main_v1 = (truncf .bf16 (awg m c) bitsLt_bf16_f32 : FVec Ideal S1024x1024 .bf16) from by
    unfold V; simp only [List.flatten, List.append, hostOps0]; after_results]
  pointwise []

theorem w_wp (c : Dev nD) (t : Fin cfg0.N) (k : Fin 256) (n : Fin 1024) : (iblk m c 4 t : FVec Ideal S256x1024 .bf16) (ix2 k n) = awp m c (ix2 k n) := by
  refine Eq.trans (b := (V m c main_v2 : FVec Ideal S256x1024 .bf16) (ix2 k n)) (by blk_point [iblk, idx t]) ?_
  rw [show V m c main_v2 = (truncf .bf16 (awp m c) bitsLt_bf16_f32 : FVec Ideal S256x1024 .bf16) from by
    unfold V; simp only [List.flatten, List.append, hostOps0]; after_results]
  pointwise []

section
variable (c : Dev nD) (t : Fin cfg0.N) (ht : t.val < 16) (r : Fin 512)
include ht

theorem w_x (k : Fin 1024) : (iblk m c 0 t : FVec Ideal S512x1024 .f32) (ix2 r k) = ax m c (ix2 ⟨t.val * 512 + r, by omega⟩ k) := by blk_point [iblk, V, idx t]

theorem w_p (k : Fin 256) : (iblk m c 1 t : FVec Ideal S512x256 .f32) (ix2 r k) = ap m c (ix2 ⟨t.val * 512 + r, by omega⟩ k) := by blk_point [iblk, V, idx t]

/-- A block's logits of the gate. -/
theorem gate_at (j : Fin 1024) : k0_pay2 (F := Ideal) (iblk m c 0 t) (iblk m c 2 t) (iblk m c 3 t) (ix2 r j) = gate (ax m c) (ag m c) (awg m c) ⟨t.val * 512 + r, by omega⟩ j := by
  pointwise [k0_pay2]
  simp only [w_x m c t ht r, w_g m c t, w_wg m c t]
  rfl

/-- A block's projected embedding. -/
theorem pe_at (j : Fin 1024) : k0_pay3 (F := Ideal) (iblk m c 1 t) (iblk m c 4 t) (ix2 r j) = pe (ap m c) (awp m c) ⟨t.val * 512 + r, by omega⟩ j := by
  pointwise [k0_pay3]
  simp only [w_p m c t ht r, w_wp m c t]
  rfl

/-- A block's residual. -/
theorem res_at (j : Fin 1024) :
    k0_pay1 (F := Ideal) (iblk m c 0 t) (k0_pay4 (iblk m c 0 t) (iblk m c 1 t) (iblk m c 2 t) (iblk m c 3 t) (iblk m c 4 t)) (k0_pay5 (iblk m c 5 t)) (ix2 r j)
      = res (ax m c) (ap m c) (ag m c) (awg m c) (awp m c) (agp m c) ⟨t.val * 512 + r, by omega⟩ j := by
  pointwise [k0_pay1, k0_pay4, k0_pay5]
  simp only [gate_at m c t ht r, pe_at m c t ht r, w_x m c t ht r, w_gp m c t]
  rfl

end

/-- The gate's logits: the kernel leaves what the reference computes. -/
theorem same_gate (c : Dev nD) : val_main_v13 (F := Ideal) (ax m c) (ag m c) (awg m c) = (dats m 0 c).arrAt 6 (cfgs 0).N := by
  symm
  refine (dats m 0 c).arrAt_eq_of_covers 6 _ (by decide +kernel) fun t hf y => ?_
  have ht : t.val < 16 := lt_of_lt_of_eq t.isLt N_0
  blk_simp
  rw [after0_6]
  idx_vars y
  have e : (((cfg0.win 6).blk t).view.emb (ix2 y0 y1) : S8192x1024.Idx) = ix2 ⟨t.val * 512 + y0, by omega⟩ y1 := by blk_ext [idx t]
  refine Eq.trans ?_ (congrArg (val_main_v13 (F := Ideal) (ax m c) (ag m c) (awg m c)) e).symm
  refine Eq.trans ?_ ((gate_at m c t ht y0 y1).trans (ref_gate _ _ _ _ _).symm)
  unfold out0_6
  frame_out

/-- The projected embedding: the kernel leaves what the reference computes. -/
theorem same_pe (c : Dev nD) : val_main_v14 (F := Ideal) (ap m c) (awp m c) = (dats m 0 c).arrAt 7 (cfgs 0).N := by
  symm
  refine (dats m 0 c).arrAt_eq_of_covers 7 _ (by decide +kernel) fun t hf y => ?_
  have ht : t.val < 16 := lt_of_lt_of_eq t.isLt N_0
  blk_simp
  rw [after0_7]
  idx_vars y
  have e : (((cfg0.win 7).blk t).view.emb (ix2 y0 y1) : S8192x1024.Idx) = ix2 ⟨t.val * 512 + y0, by omega⟩ y1 := by blk_ext [idx t]
  refine Eq.trans ?_ (congrArg (val_main_v14 (F := Ideal) (ap m c) (awp m c)) e).symm
  refine Eq.trans ?_ ((pe_at m c t ht y0 y1).trans (ref_pe _ _ _ _).symm)
  unfold out0_7
  frame_out

/-- The residual: the kernel leaves what the reference computes. -/
theorem same_res (c : Dev nD) : val_main_v35 (F := Ideal) (ax m c) (ap m c) (ag m c) (awg m c) (awp m c) (agp m c) = (dats m 0 c).arrAt 8 (cfgs 0).N := by
  symm
  refine (dats m 0 c).arrAt_eq_of_covers 8 _ (by decide +kernel) fun t hf y => ?_
  have ht : t.val < 16 := lt_of_lt_of_eq t.isLt N_0
  blk_simp
  rw [after0_8]
  idx_vars y
  have e : (((cfg0.win 8).blk t).view.emb (ix2 y0 y1) : S8192x1024.Idx) = ix2 ⟨t.val * 512 + y0, by omega⟩ y1 := by blk_ext [idx t]
  refine Eq.trans ?_ (congrArg (val_main_v35 (F := Ideal) (ax m c) (ap m c) (ag m c) (awg m c) (awp m c) (agp m c)) e).symm
  refine Eq.trans ?_ ((res_at m c t ht y0 y1).trans (ref_res _ _ _ _ _ _ _ _).symm)
  unfold out0_8
  frame_out

/-- What a run of the kernel leaves in its results. -/
theorem ran (g : Dev nD → PrngReg) :
    θ_run (defs (F := Ideal)) (onTc (τ := τ) (main (F := Ideal))) ⟨m, fun _ => 0, g⟩ (fun r => ∀ c : Dev nD,
      r.2.mem ((c.tc : Thread nD τ).loc main_v4_0) = (dats m 0 c).arrAt 6 (cfgs 0).N
      ∧ r.2.mem ((c.tc : Thread nD τ).loc main_v4_1) = (dats m 0 c).arrAt 7 (cfgs 0).N
      ∧ r.2.mem ((c.tc : Thread nD τ).loc main_v4_2) = (dats m 0 c).arrAt 8 (cfgs 0).N) :=
  θ_run_mono (run_main m g) fun r h c => ⟨(h c).1 6, (h c).1 7, (h c).1 8⟩

/-- Over the reals, kernel and reference compute the same function. -/
theorem claim : Cert.algebraic_PleFwdIdeal_PleFwdRefIdeal := by
  intro m g m' g' hpre hagree
  refine ⟨fun c => (dats m 0 c).arrAt 6 (cfgs 0).N, fun c => (dats m 0 c).arrAt 7 (cfgs 0).N, fun c => (dats m 0 c).arrAt 8 (cfgs 0).N, ?_, ?_⟩
  · exact θ_run_mono (θ_run_and (ran m g) (Gen.frame m g)) fun r h c => ⟨(h.1 c).1, (h.1 c).2.1, (h.1 c).2.2, h.2.1 c⟩
  · refine θ_run_mono (Cert.PleFwdRefIdeal.Value.run (F := Ideal) m' g') fun r h c => ?_
    obtain ⟨h1, h2, h3, hargs⟩ := h c
    obtain ⟨a0, a1, a2, a3, a4, a5⟩ := hagree c
    refine ⟨(h1.trans (val_main_v13_eq _ _ _)).trans (Eq.trans ?_ (same_gate m c)), (h2.trans (val_main_v14_eq _ _)).trans (Eq.trans ?_ (same_pe m c)),
      (h3.trans (val_main_v35_eq _ _)).trans (Eq.trans ?_ (same_res m c)), hargs⟩
    · exact congr (congr (congrArg _ a0) a2) a3
    · exact congr (congrArg _ a1) a4
    · exact congr (congr (congr (congr (congr (congrArg _ a0) a1) a2) a3) a4) a5

end Cert.PleFwdIdeal.Value

end

end
-- ==== Proof.lean ====
module

public import proofs.«01_k».proof.Defs
public import proofs.«01_k».proof.Proof.Gen.Loss.Frame
public import proofs.«01_k».proof.Proof.Gen.LossIdeal.Frame
public import proofs.«01_k».proof.Proof.Gen.LossRefIdeal.Run
public import proofs.«01_k».proof.Proof.Gen.LossRefIdeal.Read
public import proofs.«01_k».proof.Proof.Loss
public import proofs.«01_k».proof.Proof.Gen.SConv.Frame
public import proofs.«01_k».proof.Proof.Gen.SConvIdeal.Frame
public import proofs.«01_k».proof.Proof.Gen.SConvRefIdeal.Run
public import proofs.«01_k».proof.Proof.Gen.SConvRefIdeal.Read
public import proofs.«01_k».proof.Proof.SConv
public import proofs.«01_k».proof.Proof.Gen.FoxBwd.Frame
public import proofs.«01_k».proof.Proof.FoxFrame
public import proofs.«01_k».proof.Proof.FoxBits
public import proofs.«01_k».proof.Proof.Fox
public import proofs.«01_k».proof.Proof.Gen.FoxBwdRefIdeal.Run
public import proofs.«01_k».proof.Proof.Gen.FoxBwdRefIdeal.Read
public import proofs.«01_k».proof.Proof.Gen.FoxPost.Frame
public import proofs.«01_k».proof.Proof.Gen.FoxPostIdeal.Frame
public import proofs.«01_k».proof.Proof.Gen.FoxPostRefIdeal.Run
public import proofs.«01_k».proof.Proof.Gen.FoxPostRefIdeal.Read
public import proofs.«01_k».proof.Proof.FoxPost
public import proofs.«01_k».proof.Proof.Gen.MlpB.Frame
public import proofs.«01_k».proof.Proof.Gen.MlpBIdeal.Frame
public import proofs.«01_k».proof.Proof.Gen.MlpBRefIdeal.Run
public import proofs.«01_k».proof.Proof.Gen.MlpBRefIdeal.Read
public import proofs.«01_k».proof.Proof.MlpB
public import proofs.«01_k».proof.Proof.Gen.MlpA.Frame
public import proofs.«01_k».proof.Proof.Gen.MlpAIdeal.Frame
public import proofs.«01_k».proof.Proof.Gen.MlpARefIdeal.Run
public import proofs.«01_k».proof.Proof.Gen.MlpARefIdeal.Read
public import proofs.«01_k».proof.Proof.MlpA
public import proofs.«01_k».proof.Proof.Gen.MixOut.Frame
public import proofs.«01_k».proof.Proof.Gen.MixOutIdeal.Frame
public import proofs.«01_k».proof.Proof.Gen.MixOutRefIdeal.Run
public import proofs.«01_k».proof.Proof.Gen.MixOutRefIdeal.Read
public import proofs.«01_k».proof.Proof.MixOut
public import proofs.«01_k».proof.Proof.Gen.MixIn.Frame
public import proofs.«01_k».proof.Proof.Gen.MixInIdeal.Frame
public import proofs.«01_k».proof.Proof.Gen.MixInRefIdeal.Run
public import proofs.«01_k».proof.Proof.Gen.MixInRefIdeal.Read
public import proofs.«01_k».proof.Proof.MixIn
public import proofs.«01_k».proof.Proof.Gen.Ple.Frame
public import proofs.«01_k».proof.Proof.Gen.PleIdeal.Frame
public import proofs.«01_k».proof.Proof.Gen.PleRefIdeal.Run
public import proofs.«01_k».proof.Proof.Gen.PleRefIdeal.Read
public import proofs.«01_k».proof.Proof.Ple
public import proofs.«01_k».proof.Proof.Gen.Pool.Frame
public import proofs.«01_k».proof.Proof.Gen.PoolIdeal.Frame
public import proofs.«01_k».proof.Proof.Gen.PoolRefIdeal.Run
public import proofs.«01_k».proof.Proof.Gen.PoolRefIdeal.Read
public import proofs.«01_k».proof.Proof.Pool
public import proofs.«01_k».proof.Proof.Gen.Conf.Frame
public import proofs.«01_k».proof.Proof.Gen.ConfIdeal.Frame
public import proofs.«01_k».proof.Proof.Gen.ConfRefIdeal.Run
public import proofs.«01_k».proof.Proof.Gen.ConfRefIdeal.Read
public import proofs.«01_k».proof.Proof.Conf
public import proofs.«01_k».proof.Proof.Gen.MlpDown.Frame
public import proofs.«01_k».proof.Proof.Gen.MlpDownIdeal.Frame
public import proofs.«01_k».proof.Proof.Gen.MlpDownRefIdeal.Run
public import proofs.«01_k».proof.Proof.Gen.MlpDownRefIdeal.Read
public import proofs.«01_k».proof.Proof.MlpDown
public import proofs.«01_k».proof.Proof.Gen.MixFwd.Frame
public import proofs.«01_k».proof.Proof.Gen.MixFwdIdeal.Frame
public import proofs.«01_k».proof.Proof.Gen.MixFwdRefIdeal.Run
public import proofs.«01_k».proof.Proof.Gen.MixFwdRefIdeal.Read
public import proofs.«01_k».proof.Proof.MixFwd
public import proofs.«01_k».proof.Proof.Gen.PleFwd.Frame
public import proofs.«01_k».proof.Proof.Gen.PleFwdIdeal.Frame
public import proofs.«01_k».proof.Proof.Gen.PleFwdRefIdeal.Run
public import proofs.«01_k».proof.Proof.Gen.PleFwdRefIdeal.Read
public import proofs.«01_k».proof.Proof.PleFwd
public import Idealize.ShloMosaic.Lib.Claim

@[expose] public section

set_option maxRecDepth 16384

noncomputable section

namespace Cert.Proof

open Idealize.ShloMosaic Idealize.SL.Sem

theorem loss : Cert.algebraic_LossIdeal_LossRefIdeal := by
  pair_intro
  · run_from Cert.LossIdeal.Gen.run_main m g
  · run_from Cert.LossRefIdeal.Value.run m' g'
    · exact (Cert.LossIdeal.Value.final_grad m c).symm
    · exact (Cert.LossIdeal.Value.final_loss m c).symm

theorem frame_lossRef : Cert.quiescent_LossRefIdeal := fun m ρ _ =>
  (θ_run Cert.LossRefIdeal.defs _ _).mono (fun r h => ⟨fun c => (h c).2.2, sem_eq_zero_of_no_sems (by decide) r.2⟩)
    (Cert.LossRefIdeal.Value.run (F := Ideal) m ρ)

theorem sconv : Cert.algebraic_SConvIdeal_SConvRefIdeal := by
  pair_intro
  · run_from Cert.SConvIdeal.Gen.run_main m g
    exact Cert.SConvIdeal.Gen.V_main_arg1 m c
  · run_from Cert.SConvRefIdeal.Value.run m' g'
    · rw [Cert.SConvRefIdeal.Read.val_main_v66_eq, (hagree c).1, (hagree c).2.1, (hagree c).2.2]
      exact (Cert.SConvIdeal.Value.final_dz m c).symm
    · exact (Cert.SConvIdeal.Value.final_dw m c).symm

theorem frame_sconvRef : Cert.quiescent_SConvRefIdeal := fun m ρ _ =>
  (θ_run Cert.SConvRefIdeal.defs _ _).mono (fun r h => ⟨fun c => (h c).2.2, sem_eq_zero_of_no_sems (by decide) r.2⟩)
    (Cert.SConvRefIdeal.Value.run (F := Ideal) m ρ)

theorem frame_foxBwdRef : Cert.quiescent_FoxBwdRefIdeal := fun m ρ _ =>
  (θ_run Cert.FoxBwdRefIdeal.defs _ _).mono (fun r h => ⟨fun c => (h c).2.2.2, sem_eq_zero_of_no_sems (by decide) r.2⟩)
    (Cert.FoxBwdRefIdeal.Value.run (F := Ideal) m ρ)

open Cert.FoxBwdIdeal Cert.FoxBwdIdeal.Gen in
/-- What the attention backward's run leaves in its three results. -/
theorem fox_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v76_0) = (dats m 0 c).arrAt 5 (cfgs 0).N
      ∧ r.2.mem ((c.tc : Thread nD τ).loc main_v76_1) = (dats m 0 c).arrAt 6 (cfgs 0).N
      ∧ r.2.mem ((c.tc : Thread nD τ).loc main_v76_2) = (dats m 0 c).arrAt 7 (cfgs 0).N) :=
  θ_run_mono (run_main m g) fun r h c => ⟨(h c).1 5, (h c).1 6, (h c).1 7⟩

theorem fox : Cert.algebraic_FoxBwdIdeal_FoxBwdRefIdeal_on_read_fox_pre_finite_fox := by
  intro m g m' g' hpre hagree
  refine ⟨fun c => (Cert.FoxBwdIdeal.Gen.dats m 0 c).arrAt 5 (Cert.FoxBwdIdeal.cfgs 0).N, fun c => (Cert.FoxBwdIdeal.Gen.dats m 0 c).arrAt 6 (Cert.FoxBwdIdeal.cfgs 0).N,
    fun c => (Cert.FoxBwdIdeal.Gen.dats m 0 c).arrAt 7 (Cert.FoxBwdIdeal.cfgs 0).N, ?_, ?_⟩
  · refine θ_run_mono (θ_run_and (fox_run m g) (Cert.FoxBwdIdeal.Gen.frame m g)) fun r h c => ?_
    obtain ⟨h1, h2, h3⟩ := h.1 c
    exact ⟨fun i _ => congrFun h1 i, fun i _ => congrFun h2 i, fun i _ => congrFun h3 i, h.2.1 c⟩
  · refine θ_run_mono (Cert.FoxBwdRefIdeal.Value.run (F := Ideal) m' g') fun r h c => ?_
    obtain ⟨h1, h2, h3, hargs⟩ := h c
    have e1 := h1.trans (Cert.FoxBwdRefIdeal.Read.val_main_v102_eq _)
    have e2 := h2.trans (Cert.FoxBwdRefIdeal.Read.val_main_v108_eq _)
    have e3 := h3.trans (Cert.FoxBwdRefIdeal.Read.val_main_v112_eq _)
    obtain ⟨a0, a1, a2, a3, a4, a5⟩ := hagree c
    refine ⟨fun i hi => (congrFun e1 i).trans ?_, fun i hi => (congrFun e2 i).trans ?_, fun i hi => (congrFun e3 i).trans ?_, hargs⟩
    · refine Eq.trans ?_ (Cert.FoxBwdIdeal.Value.same_dq m hpre c i hi)
      exact congrFun (congr (congr (congr (congr (congr (congrArg _ a0) a1) a2) a3) a4) a5) i
    · refine Eq.trans ?_ (Cert.FoxBwdIdeal.Value.same_dk m hpre c i hi)
      exact congrFun (congr (congr (congr (congr (congr (congrArg _ a0) a1) a2) a3) a4) a5) i
    · refine Eq.trans ?_ (Cert.FoxBwdIdeal.Value.same_dv m hpre c i)
      exact congrFun (congr (congr (congr (congr (congrArg _ a0) a1) a3) a4) a5) i

theorem frame_foxPostRef : Cert.quiescent_FoxPostRefIdeal := fun m ρ _ =>
  (θ_run Cert.FoxPostRefIdeal.defs _ _).mono (fun r h => ⟨fun c => (h c).2.2, sem_eq_zero_of_no_sems (by decide) r.2⟩)
    (Cert.FoxPostRefIdeal.Value.run (F := Ideal) m ρ)

theorem frame_mlpBRef : Cert.quiescent_MlpBRefIdeal := fun m ρ _ =>
  (θ_run Cert.MlpBRefIdeal.defs _ _).mono (fun r h => ⟨fun c => (h c).2.2.2, sem_eq_zero_of_no_sems (by decide) r.2⟩)
    (Cert.MlpBRefIdeal.Value.run (F := Ideal) m ρ)

theorem frame_mlpARef : Cert.quiescent_MlpARefIdeal := fun m ρ _ =>
  (θ_run Cert.MlpARefIdeal.defs _ _).mono (fun r h => ⟨fun c => (h c).2.2.2, sem_eq_zero_of_no_sems (by decide) r.2⟩)
    (Cert.MlpARefIdeal.Value.run (F := Ideal) m ρ)

theorem frame_mixOutRef : Cert.quiescent_MixOutRefIdeal := fun m ρ _ =>
  (θ_run Cert.MixOutRefIdeal.defs _ _).mono (fun r h => ⟨fun c => (h c).2.2.2.2.2.2, sem_eq_zero_of_no_sems (by decide) r.2⟩)
    (Cert.MixOutRefIdeal.Value.run (F := Ideal) m ρ)

theorem frame_mixInRef : Cert.quiescent_MixInRefIdeal := fun m ρ _ =>
  (θ_run Cert.MixInRefIdeal.defs _ _).mono (fun r h => ⟨fun c => (h c).2.2.2.2, sem_eq_zero_of_no_sems (by decide) r.2⟩)
    (Cert.MixInRefIdeal.Value.run (F := Ideal) m ρ)

theorem frame_pleRef : Cert.quiescent_PleRefIdeal := fun m ρ _ =>
  (θ_run Cert.PleRefIdeal.defs _ _).mono (fun r h => ⟨fun c => (h c).2.2.2.2.2, sem_eq_zero_of_no_sems (by decide) r.2⟩)
    (Cert.PleRefIdeal.Value.run (F := Ideal) m ρ)

theorem frame_poolRef : Cert.quiescent_PoolRefIdeal := fun m ρ _ =>
  (θ_run Cert.PoolRefIdeal.defs _ _).mono (fun r h => ⟨fun c => (h c).2.2.2, sem_eq_zero_of_no_sems (by decide) r.2⟩)
    (Cert.PoolRefIdeal.Value.run (F := Ideal) m ρ)

theorem frame_confRef : Cert.quiescent_ConfRefIdeal := fun m ρ _ =>
  (θ_run Cert.ConfRefIdeal.defs _ _).mono (fun r h => ⟨fun c => (h c).2.2.2.2.2, sem_eq_zero_of_no_sems (by decide) r.2⟩)
    (Cert.ConfRefIdeal.Value.run (F := Ideal) m ρ)

theorem frame_mlpDownRef : Cert.quiescent_MlpDownRefIdeal := fun m ρ _ =>
  (θ_run Cert.MlpDownRefIdeal.defs _ _).mono (fun r h => ⟨fun c => (h c).2.2, sem_eq_zero_of_no_sems (by decide) r.2⟩)
    (Cert.MlpDownRefIdeal.Value.run (F := Ideal) m ρ)

theorem frame_mixFwdRef : Cert.quiescent_MixFwdRefIdeal := fun m ρ _ =>
  (θ_run Cert.MixFwdRefIdeal.defs _ _).mono (fun r h => ⟨fun c => (h c).2.2, sem_eq_zero_of_no_sems (by decide) r.2⟩)
    (Cert.MixFwdRefIdeal.Value.run (F := Ideal) m ρ)

theorem frame_pleFwdRef : Cert.quiescent_PleFwdRefIdeal := fun m ρ _ =>
  (θ_run Cert.PleFwdRefIdeal.defs _ _).mono (fun r h => ⟨fun c => (h c).2.2.2, sem_eq_zero_of_no_sems (by decide) r.2⟩)
    (Cert.PleFwdRefIdeal.Value.run (F := Ideal) m ρ)

theorem claim : Cert.Claim :=
  ⟨Cert.Loss.Gen.facts, Cert.LossIdeal.Gen.facts, Cert.LossRefIdeal.Gen.facts,
    Cert.SConv.Gen.facts, Cert.SConvIdeal.Gen.facts, Cert.SConvRefIdeal.Gen.facts,
    Cert.FoxBwd.Gen.facts, Cert.FoxBwdIdeal.Gen.facts, Cert.FoxBwdRefIdeal.Gen.facts,
    Cert.FoxPost.Gen.facts, Cert.FoxPostIdeal.Gen.facts, Cert.FoxPostRefIdeal.Gen.facts,
    Cert.MlpB.Gen.facts, Cert.MlpBIdeal.Gen.facts, Cert.MlpBRefIdeal.Gen.facts,
    Cert.MlpA.Gen.facts, Cert.MlpAIdeal.Gen.facts, Cert.MlpARefIdeal.Gen.facts,
    Cert.MixOut.Gen.facts, Cert.MixOutIdeal.Gen.facts, Cert.MixOutRefIdeal.Gen.facts,
    Cert.MixIn.Gen.facts, Cert.MixInIdeal.Gen.facts, Cert.MixInRefIdeal.Gen.facts,
    Cert.Ple.Gen.facts, Cert.PleIdeal.Gen.facts, Cert.PleRefIdeal.Gen.facts,
    Cert.Pool.Gen.facts, Cert.PoolIdeal.Gen.facts, Cert.PoolRefIdeal.Gen.facts,
    Cert.Conf.Gen.facts, Cert.ConfIdeal.Gen.facts, Cert.ConfRefIdeal.Gen.facts,
    Cert.MlpDown.Gen.facts, Cert.MlpDownIdeal.Gen.facts, Cert.MlpDownRefIdeal.Gen.facts,
    Cert.MixFwd.Gen.facts, Cert.MixFwdIdeal.Gen.facts, Cert.MixFwdRefIdeal.Gen.facts,
    Cert.PleFwd.Gen.facts, Cert.PleFwdIdeal.Gen.facts, Cert.PleFwdRefIdeal.Gen.facts,
    Cert.FoxBwdIdeal.Value.factsPre, Cert.FoxPostIdeal.Value.factsPre, Cert.MlpBIdeal.Value.factsPre, Cert.MlpAIdeal.Value.factsPre, Cert.MixOutIdeal.Value.factsPre, Cert.MixInIdeal.Value.factsPre, Cert.PleIdeal.Value.factsPre, Cert.PoolIdeal.Value.factsPre, Cert.ConfIdeal.Value.factsPre,
    Cert.FoxBwdIdeal.Value.factsOn, Cert.PoolIdeal.Value.factsOn,
    fun m ρ _ => Cert.Loss.Gen.frame m ρ, fun m ρ _ => Cert.LossIdeal.Gen.frame m ρ, frame_lossRef,
    fun m ρ _ => Cert.SConv.Gen.frame m ρ, fun m ρ _ => Cert.SConvIdeal.Gen.frame m ρ, frame_sconvRef,
    frame_foxBwd, fun m ρ _ => Cert.FoxBwdIdeal.Gen.frame m ρ, fun m ρ _ => Cert.FoxBwdIdeal.Gen.frame m ρ,
    frame_foxBwdRef, fun m ρ _ => frame_foxBwdRef m ρ trivial,
    fun m ρ _ => Cert.FoxPost.Gen.frame m ρ, fun m ρ _ => Cert.FoxPostIdeal.Gen.frame m ρ, fun m ρ _ => Cert.FoxPostIdeal.Gen.frame m ρ, frame_foxPostRef, fun m ρ _ => frame_foxPostRef m ρ trivial,
    fun m ρ _ => Cert.MlpB.Gen.frame m ρ, fun m ρ _ => Cert.MlpBIdeal.Gen.frame m ρ, fun m ρ _ => Cert.MlpBIdeal.Gen.frame m ρ, frame_mlpBRef, fun m ρ _ => frame_mlpBRef m ρ trivial,
    fun m ρ _ => Cert.MlpA.Gen.frame m ρ, fun m ρ _ => Cert.MlpAIdeal.Gen.frame m ρ, fun m ρ _ => Cert.MlpAIdeal.Gen.frame m ρ, frame_mlpARef, fun m ρ _ => frame_mlpARef m ρ trivial,
    fun m ρ _ => Cert.MixOut.Gen.frame m ρ, fun m ρ _ => Cert.MixOutIdeal.Gen.frame m ρ, fun m ρ _ => Cert.MixOutIdeal.Gen.frame m ρ, frame_mixOutRef, fun m ρ _ => frame_mixOutRef m ρ trivial,
    fun m ρ _ => Cert.MixIn.Gen.frame m ρ, fun m ρ _ => Cert.MixInIdeal.Gen.frame m ρ, fun m ρ _ => Cert.MixInIdeal.Gen.frame m ρ, frame_mixInRef, fun m ρ _ => frame_mixInRef m ρ trivial,
    fun m ρ _ => Cert.Ple.Gen.frame m ρ, fun m ρ _ => Cert.PleIdeal.Gen.frame m ρ, fun m ρ _ => Cert.PleIdeal.Gen.frame m ρ, frame_pleRef, fun m ρ _ => frame_pleRef m ρ trivial,
    fun m ρ _ => Cert.Pool.Gen.frame m ρ, fun m ρ _ => Cert.PoolIdeal.Gen.frame m ρ, fun m ρ _ => Cert.PoolIdeal.Gen.frame m ρ, frame_poolRef, fun m ρ _ => frame_poolRef m ρ trivial,
    fun m ρ _ => Cert.Conf.Gen.frame m ρ, fun m ρ _ => Cert.ConfIdeal.Gen.frame m ρ, fun m ρ _ => Cert.ConfIdeal.Gen.frame m ρ, frame_confRef, fun m ρ _ => frame_confRef m ρ trivial,
    fun m ρ _ => Cert.MlpDown.Gen.frame m ρ, fun m ρ _ => Cert.MlpDownIdeal.Gen.frame m ρ, frame_mlpDownRef,
    fun m ρ _ => Cert.MixFwd.Gen.frame m ρ, fun m ρ _ => Cert.MixFwdIdeal.Gen.frame m ρ, frame_mixFwdRef,
    fun m ρ _ => Cert.PleFwd.Gen.frame m ρ, fun m ρ _ => Cert.PleFwdIdeal.Gen.frame m ρ, frame_pleFwdRef,
    trivial, loss, trivial, sconv, trivial, fox, trivial, Cert.FoxPostIdeal.Value.claim, trivial, Cert.MlpBIdeal.Value.claim, trivial, Cert.MlpAIdeal.Value.claim, trivial, Cert.MixOutIdeal.Value.claim, trivial, Cert.MixInIdeal.Value.claim, trivial, Cert.PleIdeal.Value.claim, trivial, Cert.PoolIdeal.Value.claim, trivial, Cert.ConfIdeal.Value.claim, trivial, Cert.MlpDownIdeal.Value.claim, trivial, Cert.MixFwdIdeal.Value.claim, trivial, Cert.PleFwdIdeal.Value.claim⟩

end Cert.Proof

end

end
